-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6))).1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6))).2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6))).2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6))).2.2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6))).2.2.2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6))).2.2.2.2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6))).2.2.2.2.2.2 = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6))).1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6))).2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6))).2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6))).2.2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6))).2.2.2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6))).2.2.2.2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6))).2.2.2.2.2.2 = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Kernel24Ideal_finite24 [hPre_finite24 : Cert.Pre_finite24.Facts] (m : (ℓ : Loc Cert.Kernel24Ideal.nD Cert.Kernel24Ideal.τ Cert.Kernel24Ideal.sig) → Buf (Elt Ideal) ℓ) : Prop :=
  ∀ c : Dev Cert.Kernel24Ideal.nD,
    (Cert.Pre_finite24.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3))).1 = (fun _ => 1#1)
    ∧ (Cert.Pre_finite24.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3))).2.1 = (fun _ => 1#1)
    ∧ (Cert.Pre_finite24.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3))).2.2 = (fun _ => 1#1)

def Pre_Reference24Ideal (m : (ℓ : Loc Cert.Reference24Ideal.nD Cert.Reference24Ideal.τ Cert.Reference24Ideal.sig) → Buf (Elt Ideal) ℓ) : Prop :=
  True

def Pre_Reference24Ideal_finite24 [hPre_finite24 : Cert.Pre_finite24.Facts] (m : (ℓ : Loc Cert.Reference24Ideal.nD Cert.Reference24Ideal.τ Cert.Reference24Ideal.sig) → Buf (Elt Ideal) ℓ) : Prop :=
  ∀ c : Dev Cert.Reference24Ideal.nD,
    (Cert.Pre_finite24.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1)) (m ((c.tc : Thread Cert.Reference24Ideal.nD Cert.Reference24Ideal.τ).loc Cert.Reference24Ideal.main_arg2)) (m ((c.tc : Thread Cert.Reference24Ideal.nD Cert.Reference24Ideal.τ).loc Cert.Reference24Ideal.main_arg3))).1 = (fun _ => 1#1)
    ∧ (Cert.Pre_finite24.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1)) (m ((c.tc : Thread Cert.Reference24Ideal.nD Cert.Reference24Ideal.τ).loc Cert.Reference24Ideal.main_arg2)) (m ((c.tc : Thread Cert.Reference24Ideal.nD Cert.Reference24Ideal.τ).loc Cert.Reference24Ideal.main_arg3))).2.1 = (fun _ => 1#1)
    ∧ (Cert.Pre_finite24.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1)) (m ((c.tc : Thread Cert.Reference24Ideal.nD Cert.Reference24Ideal.τ).loc Cert.Reference24Ideal.main_arg2)) (m ((c.tc : Thread Cert.Reference24Ideal.nD Cert.Reference24Ideal.τ).loc Cert.Reference24Ideal.main_arg3))).2.2 = (fun _ => 1#1)

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Kernel28Ideal_finite28 [hPre_finite28 : Cert.Pre_finite28.Facts] (m : (ℓ : Loc Cert.Kernel28Ideal.nD Cert.Kernel28Ideal.τ Cert.Kernel28Ideal.sig) → Buf (Elt Ideal) ℓ) : Prop :=
  ∀ c : Dev Cert.Kernel28Ideal.nD,
    (Cert.Pre_finite28.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2))).1 = (fun _ => 1#1)
    ∧ (Cert.Pre_finite28.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2))).2.1 = (fun _ => 1#1)
    ∧ (Cert.Pre_finite28.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2))).2.2 = (fun _ => 1#1)

def Pre_Reference28Ideal (m : (ℓ : Loc Cert.Reference28Ideal.nD Cert.Reference28Ideal.τ Cert.Reference28Ideal.sig) → Buf (Elt Ideal) ℓ) : Prop :=
  True

def Pre_Reference28Ideal_finite28 [hPre_finite28 : Cert.Pre_finite28.Facts] (m : (ℓ : Loc Cert.Reference28Ideal.nD Cert.Reference28Ideal.τ Cert.Reference28Ideal.sig) → Buf (Elt Ideal) ℓ) : Prop :=
  ∀ c : Dev Cert.Reference28Ideal.nD,
    (Cert.Pre_finite28.fn (F := Ideal) (m ((c.tc : Thread Cert.Reference28Ideal.nD Cert.Reference28Ideal.τ).loc Cert.Reference28Ideal.main_arg0)) (m ((c.tc : Thread Cert.Reference28Ideal.nD Cert.Reference28Ideal.τ).loc Cert.Reference28Ideal.main_arg1)) (m ((c.tc : Thread Cert.Reference28Ideal.nD Cert.Reference28Ideal.τ).loc Cert.Reference28Ideal.main_arg2))).1 = (fun _ => 1#1)
    ∧ (Cert.Pre_finite28.fn (F := Ideal) (m ((c.tc : Thread Cert.Reference28Ideal.nD Cert.Reference28Ideal.τ).loc Cert.Reference28Ideal.main_arg0)) (m ((c.tc : Thread Cert.Reference28Ideal.nD Cert.Reference28Ideal.τ).loc Cert.Reference28Ideal.main_arg1)) (m ((c.tc : Thread Cert.Reference28Ideal.nD Cert.Reference28Ideal.τ).loc Cert.Reference28Ideal.main_arg2))).2.1 = (fun _ => 1#1)
    ∧ (Cert.Pre_finite28.fn (F := Ideal) (m ((c.tc : Thread Cert.Reference28Ideal.nD Cert.Reference28Ideal.τ).loc Cert.Reference28Ideal.main_arg0)) (m ((c.tc : Thread Cert.Reference28Ideal.nD Cert.Reference28Ideal.τ).loc Cert.Reference28Ideal.main_arg1)) (m ((c.tc : Thread Cert.Reference28Ideal.nD Cert.Reference28Ideal.τ).loc Cert.Reference28Ideal.main_arg2))).2.2 = (fun _ => 1#1)

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Kernel30Ideal_finite30 [hPre_finite30 : Cert.Pre_finite30.Facts] (m : (ℓ : Loc Cert.Kernel30Ideal.nD Cert.Kernel30Ideal.τ Cert.Kernel30Ideal.sig) → Buf (Elt Ideal) ℓ) : Prop :=
  ∀ c : Dev Cert.Kernel30Ideal.nD,
    (Cert.Pre_finite30.fn (F := Ideal) (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1))).1 = (fun _ => 1#1)
    ∧ (Cert.Pre_finite30.fn (F := Ideal) (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1))).2 = (fun _ => 1#1)

def Pre_Reference30Ideal (m : (ℓ : Loc Cert.Reference30Ideal.nD Cert.Reference30Ideal.τ Cert.Reference30Ideal.sig) → Buf (Elt Ideal) ℓ) : Prop :=
  True

def Pre_Reference30Ideal_finite30 [hPre_finite30 : Cert.Pre_finite30.Facts] (m : (ℓ : Loc Cert.Reference30Ideal.nD Cert.Reference30Ideal.τ Cert.Reference30Ideal.sig) → Buf (Elt Ideal) ℓ) : Prop :=
  ∀ c : Dev Cert.Reference30Ideal.nD,
    (Cert.Pre_finite30.fn (F := Ideal) (m ((c.tc : Thread Cert.Reference30Ideal.nD Cert.Reference30Ideal.τ).loc Cert.Reference30Ideal.main_arg0)) (m ((c.tc : Thread Cert.Reference30Ideal.nD Cert.Reference30Ideal.τ).loc Cert.Reference30Ideal.main_arg1))).1 = (fun _ => 1#1)
    ∧ (Cert.Pre_finite30.fn (F := Ideal) (m ((c.tc : Thread Cert.Reference30Ideal.nD Cert.Reference30Ideal.τ).loc Cert.Reference30Ideal.main_arg0)) (m ((c.tc : Thread Cert.Reference30Ideal.nD Cert.Reference30Ideal.τ).loc Cert.Reference30Ideal.main_arg1))).2 = (fun _ => 1#1)

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Kernel32Ideal_finite32 [hPre_finite32 : Cert.Pre_finite32.Facts] (m : (ℓ : Loc Cert.Kernel32Ideal.nD Cert.Kernel32Ideal.τ Cert.Kernel32Ideal.sig) → Buf (Elt Ideal) ℓ) : Prop :=
  ∀ c : Dev Cert.Kernel32Ideal.nD,
    (Cert.Pre_finite32.fn (F := Ideal) (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2)) (m ((c.tc : Thread Cert.Kernel32Ideal.nD Cert.Kernel32Ideal.τ).loc Cert.Kernel32Ideal.main_arg3))).1 = (fun _ => 1#1)
    ∧ (Cert.Pre_finite32.fn (F := Ideal) (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2)) (m ((c.tc : Thread Cert.Kernel32Ideal.nD Cert.Kernel32Ideal.τ).loc Cert.Kernel32Ideal.main_arg3))).2.1 = (fun _ => 1#1)
    ∧ (Cert.Pre_finite32.fn (F := Ideal) (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2)) (m ((c.tc : Thread Cert.Kernel32Ideal.nD Cert.Kernel32Ideal.τ).loc Cert.Kernel32Ideal.main_arg3))).2.2.1 = (fun _ => 1#1)
    ∧ (Cert.Pre_finite32.fn (F := Ideal) (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2)) (m ((c.tc : Thread Cert.Kernel32Ideal.nD Cert.Kernel32Ideal.τ).loc Cert.Kernel32Ideal.main_arg3))).2.2.2 = (fun _ => 1#1)

def Pre_Reference32Ideal (m : (ℓ : Loc Cert.Reference32Ideal.nD Cert.Reference32Ideal.τ Cert.Reference32Ideal.sig) → Buf (Elt Ideal) ℓ) : Prop :=
  True

def Pre_Reference32Ideal_finite32 [hPre_finite32 : Cert.Pre_finite32.Facts] (m : (ℓ : Loc Cert.Reference32Ideal.nD Cert.Reference32Ideal.τ Cert.Reference32Ideal.sig) → Buf (Elt Ideal) ℓ) : Prop :=
  ∀ c : Dev Cert.Reference32Ideal.nD,
    (Cert.Pre_finite32.fn (F := Ideal) (m ((c.tc : Thread Cert.Reference32Ideal.nD Cert.Reference32Ideal.τ).loc Cert.Reference32Ideal.main_arg0)) (m ((c.tc : Thread Cert.Reference32Ideal.nD Cert.Reference32Ideal.τ).loc Cert.Reference32Ideal.main_arg1)) (m ((c.tc : Thread Cert.Reference32Ideal.nD Cert.Reference32Ideal.τ).loc Cert.Reference32Ideal.main_arg2)) (m ((c.tc : Thread Cert.Reference32Ideal.nD Cert.Reference32Ideal.τ).loc Cert.Reference32Ideal.main_arg3))).1 = (fun _ => 1#1)
    ∧ (Cert.Pre_finite32.fn (F := Ideal) (m ((c.tc : Thread Cert.Reference32Ideal.nD Cert.Reference32Ideal.τ).loc Cert.Reference32Ideal.main_arg0)) (m ((c.tc : Thread Cert.Reference32Ideal.nD Cert.Reference32Ideal.τ).loc Cert.Reference32Ideal.main_arg1)) (m ((c.tc : Thread Cert.Reference32Ideal.nD Cert.Reference32Ideal.τ).loc Cert.Reference32Ideal.main_arg2)) (m ((c.tc : Thread Cert.Reference32Ideal.nD Cert.Reference32Ideal.τ).loc Cert.Reference32Ideal.main_arg3))).2.1 = (fun _ => 1#1)
    ∧ (Cert.Pre_finite32.fn (F := Ideal) (m ((c.tc : Thread Cert.Reference32Ideal.nD Cert.Reference32Ideal.τ).loc Cert.Reference32Ideal.main_arg0)) (m ((c.tc : Thread Cert.Reference32Ideal.nD Cert.Reference32Ideal.τ).loc Cert.Reference32Ideal.main_arg1)) (m ((c.tc : Thread Cert.Reference32Ideal.nD Cert.Reference32Ideal.τ).loc Cert.Reference32Ideal.main_arg2)) (m ((c.tc : Thread Cert.Reference32Ideal.nD Cert.Reference32Ideal.τ).loc Cert.Reference32Ideal.main_arg3))).2.2.1 = (fun _ => 1#1)
    ∧ (Cert.Pre_finite32.fn (F := Ideal) (m ((c.tc : Thread Cert.Reference32Ideal.nD Cert.Reference32Ideal.τ).loc Cert.Reference32Ideal.main_arg0)) (m ((c.tc : Thread Cert.Reference32Ideal.nD Cert.Reference32Ideal.τ).loc Cert.Reference32Ideal.main_arg1)) (m ((c.tc : Thread Cert.Reference32Ideal.nD Cert.Reference32Ideal.τ).loc Cert.Reference32Ideal.main_arg2)) (m ((c.tc : Thread Cert.Reference32Ideal.nD Cert.Reference32Ideal.τ).loc Cert.Reference32Ideal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Kernel24Ideal_pre_finite24 [hKernel24Ideal : Cert.Kernel24Ideal.Facts] [hPre_finite24 : Cert.Pre_finite24.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal_finite24 m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Reference24Ideal_pre_finite24 [hReference24Ideal : Cert.Reference24Ideal.Facts] [hPre_finite24 : Cert.Pre_finite24.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal_finite24 m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Kernel28Ideal_pre_finite28 [hKernel28Ideal : Cert.Kernel28Ideal.Facts] [hPre_finite28 : Cert.Pre_finite28.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal_finite28 m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Reference28Ideal_pre_finite28 [hReference28Ideal : Cert.Reference28Ideal.Facts] [hPre_finite28 : Cert.Pre_finite28.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal_finite28 m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Kernel30Ideal_pre_finite30 [hKernel30Ideal : Cert.Kernel30Ideal.Facts] [hPre_finite30 : Cert.Pre_finite30.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal_finite30 m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Reference30Ideal_pre_finite30 [hReference30Ideal : Cert.Reference30Ideal.Facts] [hPre_finite30 : Cert.Pre_finite30.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal_finite30 m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Kernel32Ideal_pre_finite32 [hKernel32Ideal : Cert.Kernel32Ideal.Facts] [hPre_finite32 : Cert.Pre_finite32.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal_finite32 m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Reference32Ideal_pre_finite32 [hReference32Ideal : Cert.Reference32Ideal.Facts] [hPre_finite32 : Cert.Pre_finite32.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal_finite32 m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def preserves_Kernel_KernelIdeal : Prop :=
  IdealRules.named_const.Statement Cert.KernelIdeal.κ "root_half" .f32 0x3F3504F3#32 (((Real.sqrt 2)⁻¹ : ℝ) : EReal)
  ∧ IdealRules.named_const.Statement Cert.KernelIdeal.κ "gauss" .f32 0x3ECC422A#32 (((Real.sqrt (2 * Real.pi))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)) (v5 : (c : Dev Cert.KernelIdeal.nD) → Buf (Elt Ideal) ((c.tc : Thread Cert.KernelIdeal.nD Cert.KernelIdeal.τ).loc Cert.KernelIdeal.main_v6_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_v6_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v117) = v1 c
          ∧ r.2.mem ((c.tc : Thread Cert.ReferenceIdeal.nD Cert.ReferenceIdeal.τ).loc Cert.ReferenceIdeal.main_v118) = v2 c
          ∧ r.2.mem ((c.tc : Thread Cert.ReferenceIdeal.nD Cert.ReferenceIdeal.τ).loc Cert.ReferenceIdeal.main_v119) = v3 c
          ∧ r.2.mem ((c.tc : Thread Cert.ReferenceIdeal.nD Cert.ReferenceIdeal.τ).loc Cert.ReferenceIdeal.main_v69) = v4 c
          ∧ r.2.mem ((c.tc : Thread Cert.ReferenceIdeal.nD Cert.ReferenceIdeal.τ).loc Cert.ReferenceIdeal.main_v120) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v30_0)) (v1 : (c : Dev Cert.Kernel2Ideal.nD) → Buf (Elt Ideal) ((c.tc : Thread Cert.Kernel2Ideal.nD Cert.Kernel2Ideal.τ).loc Cert.Kernel2Ideal.main_v30_1)) (v2 : (c : Dev Cert.Kernel2Ideal.nD) → Buf (Elt Ideal) ((c.tc : Thread Cert.Kernel2Ideal.nD Cert.Kernel2Ideal.τ).loc Cert.Kernel2Ideal.main_v30_2)) (v3 : (c : Dev Cert.Kernel2Ideal.nD) → Buf (Elt Ideal) ((c.tc : Thread Cert.Kernel2Ideal.nD Cert.Kernel2Ideal.τ).loc Cert.Kernel2Ideal.main_v30_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v30_0) = v0 c
          ∧ r.2.mem ((c.tc : Thread Cert.Kernel2Ideal.nD Cert.Kernel2Ideal.τ).loc Cert.Kernel2Ideal.main_v30_1) = v1 c
          ∧ r.2.mem ((c.tc : Thread Cert.Kernel2Ideal.nD Cert.Kernel2Ideal.τ).loc Cert.Kernel2Ideal.main_v30_2) = v2 c
          ∧ r.2.mem ((c.tc : Thread Cert.Kernel2Ideal.nD Cert.Kernel2Ideal.τ).loc Cert.Kernel2Ideal.main_v30_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v50) = v0 c
          ∧ r.2.mem ((c.tc : Thread Cert.Reference2Ideal.nD Cert.Reference2Ideal.τ).loc Cert.Reference2Ideal.main_v53) = v1 c
          ∧ r.2.mem ((c.tc : Thread Cert.Reference2Ideal.nD Cert.Reference2Ideal.τ).loc Cert.Reference2Ideal.main_v54) = v2 c
          ∧ r.2.mem ((c.tc : Thread Cert.Reference2Ideal.nD Cert.Reference2Ideal.τ).loc Cert.Reference2Ideal.main_v55) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v17)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)) →
    ∃ (v0 : (c : Dev Cert.Kernel11Ideal.nD) → Buf (Elt Ideal) ((c.tc : Thread Cert.Kernel11Ideal.nD Cert.Kernel11Ideal.τ).loc Cert.Kernel11Ideal.main_v26_0)) (v1 : (c : Dev Cert.Kernel11Ideal.nD) → Buf (Elt Ideal) ((c.tc : Thread Cert.Kernel11Ideal.nD Cert.Kernel11Ideal.τ).loc Cert.Kernel11Ideal.main_v26_1)) (v2 : (c : Dev Cert.Kernel11Ideal.nD) → Buf (Elt Ideal) ((c.tc : Thread Cert.Kernel11Ideal.nD Cert.Kernel11Ideal.τ).loc Cert.Kernel11Ideal.main_v26_2)) (v3 : (c : Dev Cert.Kernel11Ideal.nD) → Buf (Elt Ideal) ((c.tc : Thread Cert.Kernel11Ideal.nD Cert.Kernel11Ideal.τ).loc Cert.Kernel11Ideal.main_v26_3)) (v4 : (c : Dev Cert.Kernel11Ideal.nD) → Buf (Elt Ideal) ((c.tc : Thread Cert.Kernel11Ideal.nD Cert.Kernel11Ideal.τ).loc Cert.Kernel11Ideal.main_v26_4)) (v5 : (c : Dev Cert.Kernel11Ideal.nD) → Buf (Elt Ideal) ((c.tc : Thread Cert.Kernel11Ideal.nD Cert.Kernel11Ideal.τ).loc Cert.Kernel11Ideal.main_v26_5)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v26_0) = v0 c
          ∧ r.2.mem ((c.tc : Thread Cert.Kernel11Ideal.nD Cert.Kernel11Ideal.τ).loc Cert.Kernel11Ideal.main_v26_1) = v1 c
          ∧ r.2.mem ((c.tc : Thread Cert.Kernel11Ideal.nD Cert.Kernel11Ideal.τ).loc Cert.Kernel11Ideal.main_v26_2) = v2 c
          ∧ r.2.mem ((c.tc : Thread Cert.Kernel11Ideal.nD Cert.Kernel11Ideal.τ).loc Cert.Kernel11Ideal.main_v26_3) = v3 c
          ∧ r.2.mem ((c.tc : Thread Cert.Kernel11Ideal.nD Cert.Kernel11Ideal.τ).loc Cert.Kernel11Ideal.main_v26_4) = v4 c
          ∧ r.2.mem ((c.tc : Thread Cert.Kernel11Ideal.nD Cert.Kernel11Ideal.τ).loc Cert.Kernel11Ideal.main_v26_5) = v5 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v90) = v0 c
          ∧ r.2.mem ((c.tc : Thread Cert.Reference11Ideal.nD Cert.Reference11Ideal.τ).loc Cert.Reference11Ideal.main_v91) = v1 c
          ∧ r.2.mem ((c.tc : Thread Cert.Reference11Ideal.nD Cert.Reference11Ideal.τ).loc Cert.Reference11Ideal.main_v92) = v2 c
          ∧ r.2.mem ((c.tc : Thread Cert.Reference11Ideal.nD Cert.Reference11Ideal.τ).loc Cert.Reference11Ideal.main_v106) = v3 c
          ∧ r.2.mem ((c.tc : Thread Cert.Reference11Ideal.nD Cert.Reference11Ideal.τ).loc Cert.Reference11Ideal.main_v107) = v4 c
          ∧ r.2.mem ((c.tc : Thread Cert.Reference11Ideal.nD Cert.Reference11Ideal.τ).loc Cert.Reference11Ideal.main_v108) = v5 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v3) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v3) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)) →
    ∃ (v0 : (c : Dev Cert.Kernel20Ideal.nD) → Buf (Elt Ideal) ((c.tc : Thread Cert.Kernel20Ideal.nD Cert.Kernel20Ideal.τ).loc Cert.Kernel20Ideal.main_v4_0)) (v1 : (c : Dev Cert.Kernel20Ideal.nD) → Buf (Elt Ideal) ((c.tc : Thread Cert.Kernel20Ideal.nD Cert.Kernel20Ideal.τ).loc Cert.Kernel20Ideal.main_v4_1)) (v2 : (c : Dev Cert.Kernel20Ideal.nD) → Buf (Elt Ideal) ((c.tc : Thread Cert.Kernel20Ideal.nD Cert.Kernel20Ideal.τ).loc Cert.Kernel20Ideal.main_v4_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v4_0) = v0 c
          ∧ r.2.mem ((c.tc : Thread Cert.Kernel20Ideal.nD Cert.Kernel20Ideal.τ).loc Cert.Kernel20Ideal.main_v4_1) = v1 c
          ∧ r.2.mem ((c.tc : Thread Cert.Kernel20Ideal.nD Cert.Kernel20Ideal.τ).loc Cert.Kernel20Ideal.main_v4_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v35) = v0 c
          ∧ r.2.mem ((c.tc : Thread Cert.Reference20Ideal.nD Cert.Reference20Ideal.τ).loc Cert.Reference20Ideal.main_v36) = v1 c
          ∧ r.2.mem ((c.tc : Thread Cert.Reference20Ideal.nD Cert.Reference20Ideal.τ).loc Cert.Reference20Ideal.main_v37) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v9_0)) (v1 : (c : Dev Cert.Kernel21Ideal.nD) → Buf (Elt Ideal) ((c.tc : Thread Cert.Kernel21Ideal.nD Cert.Kernel21Ideal.τ).loc Cert.Kernel21Ideal.main_v9_1)) (v2 : (c : Dev Cert.Kernel21Ideal.nD) → Buf (Elt Ideal) ((c.tc : Thread Cert.Kernel21Ideal.nD Cert.Kernel21Ideal.τ).loc Cert.Kernel21Ideal.main_v9_2)) (v3 : (c : Dev Cert.Kernel21Ideal.nD) → Buf (Elt Ideal) ((c.tc : Thread Cert.Kernel21Ideal.nD Cert.Kernel21Ideal.τ).loc Cert.Kernel21Ideal.main_v9_3)) (v4 : (c : Dev Cert.Kernel21Ideal.nD) → Buf (Elt Ideal) ((c.tc : Thread Cert.Kernel21Ideal.nD Cert.Kernel21Ideal.τ).loc Cert.Kernel21Ideal.main_v9_4)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v9_0) = v0 c
          ∧ r.2.mem ((c.tc : Thread Cert.Kernel21Ideal.nD Cert.Kernel21Ideal.τ).loc Cert.Kernel21Ideal.main_v9_1) = v1 c
          ∧ r.2.mem ((c.tc : Thread Cert.Kernel21Ideal.nD Cert.Kernel21Ideal.τ).loc Cert.Kernel21Ideal.main_v9_2) = v2 c
          ∧ r.2.mem ((c.tc : Thread Cert.Kernel21Ideal.nD Cert.Kernel21Ideal.τ).loc Cert.Kernel21Ideal.main_v9_3) = v3 c
          ∧ r.2.mem ((c.tc : Thread Cert.Kernel21Ideal.nD Cert.Kernel21Ideal.τ).loc Cert.Kernel21Ideal.main_v9_4) = v4 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v18) = v0 c
          ∧ r.2.mem ((c.tc : Thread Cert.Reference21Ideal.nD Cert.Reference21Ideal.τ).loc Cert.Reference21Ideal.main_v19) = v1 c
          ∧ r.2.mem ((c.tc : Thread Cert.Reference21Ideal.nD Cert.Reference21Ideal.τ).loc Cert.Reference21Ideal.main_v22) = v2 c
          ∧ r.2.mem ((c.tc : Thread Cert.Reference21Ideal.nD Cert.Reference21Ideal.τ).loc Cert.Reference21Ideal.main_v25) = v3 c
          ∧ r.2.mem ((c.tc : Thread Cert.Reference21Ideal.nD Cert.Reference21Ideal.τ).loc Cert.Reference21Ideal.main_v28) = v4 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  IdealRules.named_const.Statement Cert.Kernel22Ideal.κ "root_half" .f32 0x3F3504F3#32 (((Real.sqrt 2)⁻¹ : ℝ) : EReal)

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)) →
    ∃ (v0 : (c : Dev Cert.Kernel22Ideal.nD) → Buf (Elt Ideal) ((c.tc : Thread Cert.Kernel22Ideal.nD Cert.Kernel22Ideal.τ).loc Cert.Kernel22Ideal.main_v6)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v6) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v48) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v13) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal_pre_finite24 [hKernel24Ideal : Cert.Kernel24Ideal.Facts] [hReference24Ideal : Cert.Reference24Ideal.Facts] [hPre_finite24 : Cert.Pre_finite24.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal_finite24 m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v1_0)) (v1 : (c : Dev Cert.Kernel24Ideal.nD) → Buf (Elt Ideal) ((c.tc : Thread Cert.Kernel24Ideal.nD Cert.Kernel24Ideal.τ).loc Cert.Kernel24Ideal.main_v1_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v1_0) = v0 c
          ∧ r.2.mem ((c.tc : Thread Cert.Kernel24Ideal.nD Cert.Kernel24Ideal.τ).loc Cert.Kernel24Ideal.main_v1_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v36) = v0 c
          ∧ r.2.mem ((c.tc : Thread Cert.Reference24Ideal.nD Cert.Reference24Ideal.τ).loc Cert.Reference24Ideal.main_v37) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v1) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v5) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v2) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v5) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v3) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v1) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal_pre_finite28 [hKernel28Ideal : Cert.Kernel28Ideal.Facts] [hReference28Ideal : Cert.Reference28Ideal.Facts] [hPre_finite28 : Cert.Pre_finite28.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal_finite28 m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v1_0)) (v1 : (c : Dev Cert.Kernel28Ideal.nD) → Buf (Elt Ideal) ((c.tc : Thread Cert.Kernel28Ideal.nD Cert.Kernel28Ideal.τ).loc Cert.Kernel28Ideal.main_v1_1)) (v2 : (c : Dev Cert.Kernel28Ideal.nD) → Buf (Elt Ideal) ((c.tc : Thread Cert.Kernel28Ideal.nD Cert.Kernel28Ideal.τ).loc Cert.Kernel28Ideal.main_v1_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v1_0) = v0 c
          ∧ r.2.mem ((c.tc : Thread Cert.Kernel28Ideal.nD Cert.Kernel28Ideal.τ).loc Cert.Kernel28Ideal.main_v1_1) = v1 c
          ∧ r.2.mem ((c.tc : Thread Cert.Kernel28Ideal.nD Cert.Kernel28Ideal.τ).loc Cert.Kernel28Ideal.main_v1_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v50) = v0 c
          ∧ r.2.mem ((c.tc : Thread Cert.Reference28Ideal.nD Cert.Reference28Ideal.τ).loc Cert.Reference28Ideal.main_v51) = v1 c
          ∧ r.2.mem ((c.tc : Thread Cert.Reference28Ideal.nD Cert.Reference28Ideal.τ).loc Cert.Reference28Ideal.main_v52) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)) →
    ∃ (v0 : (c : Dev Cert.Kernel29Ideal.nD) → Buf (Elt Ideal) ((c.tc : Thread Cert.Kernel29Ideal.nD Cert.Kernel29Ideal.τ).loc Cert.Kernel29Ideal.main_v1_0)) (v1 : (c : Dev Cert.Kernel29Ideal.nD) → Buf (Elt Ideal) ((c.tc : Thread Cert.Kernel29Ideal.nD Cert.Kernel29Ideal.τ).loc Cert.Kernel29Ideal.main_v1_1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v1_0) = v0 c
          ∧ r.2.mem ((c.tc : Thread Cert.Kernel29Ideal.nD Cert.Kernel29Ideal.τ).loc Cert.Kernel29Ideal.main_v1_1) = v1 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v4) = v0 c
          ∧ r.2.mem ((c.tc : Thread Cert.Reference29Ideal.nD Cert.Reference29Ideal.τ).loc Cert.Reference29Ideal.main_v8) = v1 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2))

def preserves_Kernel30_Kernel30Ideal : Prop :=
  True

def algebraic_Kernel30Ideal_Reference30Ideal_pre_finite30 [hKernel30Ideal : Cert.Kernel30Ideal.Facts] [hReference30Ideal : Cert.Reference30Ideal.Facts] [hPre_finite30 : Cert.Pre_finite30.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal_finite30 m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v6_0)) (v1 : (c : Dev Cert.Kernel30Ideal.nD) → Buf (Elt Ideal) ((c.tc : Thread Cert.Kernel30Ideal.nD Cert.Kernel30Ideal.τ).loc Cert.Kernel30Ideal.main_v6_1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v6_0) = v0 c
          ∧ r.2.mem ((c.tc : Thread Cert.Kernel30Ideal.nD Cert.Kernel30Ideal.τ).loc Cert.Kernel30Ideal.main_v6_1) = v1 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v3) = v0 c
          ∧ r.2.mem ((c.tc : Thread Cert.Reference30Ideal.nD Cert.Reference30Ideal.τ).loc Cert.Reference30Ideal.main_v6) = v1 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v1)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v1) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v17) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def preserves_Kernel32_Kernel32Ideal : Prop :=
  True

def algebraic_Kernel32Ideal_Reference32Ideal_pre_finite32 [hKernel32Ideal : Cert.Kernel32Ideal.Facts] [hReference32Ideal : Cert.Reference32Ideal.Facts] [hPre_finite32 : Cert.Pre_finite32.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal_finite32 m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v1_0)) (v1 : (c : Dev Cert.Kernel32Ideal.nD) → Buf (Elt Ideal) ((c.tc : Thread Cert.Kernel32Ideal.nD Cert.Kernel32Ideal.τ).loc Cert.Kernel32Ideal.main_v1_1)) (v2 : (c : Dev Cert.Kernel32Ideal.nD) → Buf (Elt Ideal) ((c.tc : Thread Cert.Kernel32Ideal.nD Cert.Kernel32Ideal.τ).loc Cert.Kernel32Ideal.main_v1_2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v1_0) = v0 c
          ∧ r.2.mem ((c.tc : Thread Cert.Kernel32Ideal.nD Cert.Kernel32Ideal.τ).loc Cert.Kernel32Ideal.main_v1_1) = v1 c
          ∧ r.2.mem ((c.tc : Thread Cert.Kernel32Ideal.nD Cert.Kernel32Ideal.τ).loc Cert.Kernel32Ideal.main_v1_2) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v43) = v0 c
          ∧ r.2.mem ((c.tc : Thread Cert.Reference32Ideal.nD Cert.Reference32Ideal.τ).loc Cert.Reference32Ideal.main_v44) = v1 c
          ∧ r.2.mem ((c.tc : Thread Cert.Reference32Ideal.nD Cert.Reference32Ideal.τ).loc Cert.Reference32Ideal.main_v45) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hPre_finite : Cert.Pre_finite.Facts) (hPre_finite2 : Cert.Pre_finite2.Facts) (hPre_finite11 : Cert.Pre_finite11.Facts) (hPre_finite24 : Cert.Pre_finite24.Facts) (hPre_finite28 : Cert.Pre_finite28.Facts) (hPre_finite30 : Cert.Pre_finite30.Facts) (hPre_finite32 : Cert.Pre_finite32.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Kernel24Ideal_pre_finite24 (hKernel24Ideal := hKernel24Ideal) (hPre_finite24 := hPre_finite24)
    ∧ quiescent_Reference24Ideal (hReference24Ideal := hReference24Ideal)
    ∧ quiescent_Reference24Ideal_pre_finite24 (hReference24Ideal := hReference24Ideal) (hPre_finite24 := hPre_finite24)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Kernel28Ideal_pre_finite28 (hKernel28Ideal := hKernel28Ideal) (hPre_finite28 := hPre_finite28)
    ∧ quiescent_Reference28Ideal (hReference28Ideal := hReference28Ideal)
    ∧ quiescent_Reference28Ideal_pre_finite28 (hReference28Ideal := hReference28Ideal) (hPre_finite28 := hPre_finite28)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Kernel30Ideal_pre_finite30 (hKernel30Ideal := hKernel30Ideal) (hPre_finite30 := hPre_finite30)
    ∧ quiescent_Reference30Ideal (hReference30Ideal := hReference30Ideal)
    ∧ quiescent_Reference30Ideal_pre_finite30 (hReference30Ideal := hReference30Ideal) (hPre_finite30 := hPre_finite30)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Kernel32Ideal_pre_finite32 (hKernel32Ideal := hKernel32Ideal) (hPre_finite32 := hPre_finite32)
    ∧ quiescent_Reference32Ideal (hReference32Ideal := hReference32Ideal)
    ∧ quiescent_Reference32Ideal_pre_finite32 (hReference32Ideal := hReference32Ideal) (hPre_finite32 := hPre_finite32)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal_pre_finite24 (hKernel24Ideal := hKernel24Ideal) (hReference24Ideal := hReference24Ideal) (hPre_finite24 := hPre_finite24)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal_pre_finite28 (hKernel28Ideal := hKernel28Ideal) (hReference28Ideal := hReference28Ideal) (hPre_finite28 := hPre_finite28)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal_pre_finite30 (hKernel30Ideal := hKernel30Ideal) (hReference30Ideal := hReference30Ideal) (hPre_finite30 := hPre_finite30)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal_pre_finite32 (hKernel32Ideal := hKernel32Ideal) (hReference32Ideal := hReference32Ideal) (hPre_finite32 := hPre_finite32)
-- ==== Pre_finite.lean ====
abbrev S4096x2048 : Shape := ⟨2, ![4096, 2048]⟩
abbrev S4096x4096 : Shape := ⟨2, ![4096, 4096]⟩
abbrev S4096 : Shape := ⟨1, ![4096]⟩
abbrev S2048 : Shape := ⟨1, ![2048]⟩
abbrev S16x128x128 : Shape := ⟨3, ![16, 128, 128]⟩
abbrev S16x128 : Shape := ⟨2, ![16, 128]⟩
abbrev S_ : Shape := ⟨0, ![]⟩

class Facts : Prop where
  bcast_S_S4096x2048 : S_.BroadcastsInDim S4096x2048 (![] : Fin 0 → Fin S4096x2048.rank)
  bcast_S_S4096x4096 : S_.BroadcastsInDim S4096x4096 (![] : Fin 0 → Fin S4096x4096.rank)
  bcast_S_S4096 : S_.BroadcastsInDim S4096 (![] : Fin 0 → Fin S4096.rank)
  bcast_S_S2048 : S_.BroadcastsInDim S2048 (![] : Fin 0 → Fin S2048.rank)
  bcast_S_S16x128x128 : S_.BroadcastsInDim S16x128x128 (![] : Fin 0 → Fin S16x128x128.rank)
  bcast_S_S16x128 : S_.BroadcastsInDim S16x128 (![] : Fin 0 → Fin S16x128.rank)

variable [Facts]

def fn_part1 {F : FTy → Type} [FloatOps F] (main_arg6 : FVec F S16x128 .f32) (main_v2 : IVec S4096x2048 1) (main_v5 : IVec S4096x4096 1) (main_v8 : IVec S4096 1) (main_v11 : IVec S2048 1) (main_v14 : IVec S2048 1) (main_v17 : IVec S16x128x128 1) : IVec S4096x2048 1 × IVec S4096x4096 1 × IVec S4096 1 × IVec S2048 1 × IVec S2048 1 × IVec S16x128x128 1 × IVec S16x128 1 :=
  let main_v18 : FVec F S16x128 .f32 := Host.absf main_arg6
  let main_cst_5 : FVec F S_ .f32 := constant S_ .f32 0x7F800000#32
  let main_v19 : FVec F S16x128 .f32 := broadcastInDim S16x128 ![] bcast_S_S16x128 main_cst_5
  let main_v20 : IVec S16x128 1 := cmpf .olt main_v18 main_v19
  (main_v2, main_v5, main_v8, main_v11, main_v14, main_v17, main_v20)

def fn {F : FTy → Type} [FloatOps F] (main_arg0 : FVec F S4096x2048 .f32) (main_arg1 : FVec F S4096x4096 .f32) (main_arg2 : FVec F S4096 .f32) (main_arg3 : FVec F S2048 .f32) (main_arg4 : FVec F S2048 .f32) (main_arg5 : FVec F S16x128x128 .f32) (main_arg6 : FVec F S16x128 .f32) : IVec S4096x2048 1 × IVec S4096x4096 1 × IVec S4096 1 × IVec S2048 1 × IVec S2048 1 × IVec S16x128x128 1 × IVec S16x128 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S4096x4096 .f32 := Host.absf main_arg1
  let main_cst_0 : FVec F S_ .f32 := constant S_ .f32 0x7F800000#32
  let main_v4 : FVec F S4096x4096 .f32 := broadcastInDim S4096x4096 ![] bcast_S_S4096x4096 main_cst_0
  let main_v5 : IVec S4096x4096 1 := cmpf .olt main_v3 main_v4
  let main_v6 : FVec F S4096 .f32 := Host.absf main_arg2
  let main_cst_1 : FVec F S_ .f32 := constant S_ .f32 0x7F800000#32
  let main_v7 : FVec F S4096 .f32 := broadcastInDim S4096 ![] bcast_S_S4096 main_cst_1
  let main_v8 : IVec S4096 1 := cmpf .olt main_v6 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_v12 : FVec F S2048 .f32 := Host.absf main_arg4
  let main_cst_3 : FVec F S_ .f32 := constant S_ .f32 0x7F800000#32
  let main_v13 : FVec F S2048 .f32 := broadcastInDim S2048 ![] bcast_S_S2048 main_cst_3
  let main_v14 : IVec S2048 1 := cmpf .olt main_v12 main_v13
  let main_v15 : FVec F S16x128x128 .f32 := Host.absf main_arg5
  let main_cst_4 : FVec F S_ .f32 := constant S_ .f32 0x7F800000#32
  let main_v16 : FVec F S16x128x128 .f32 := broadcastInDim S16x128x128 ![] bcast_S_S16x128x128 main_cst_4
  let main_v17 : IVec S16x128x128 1 := cmpf .olt main_v15 main_v16
  fn_part1 (F := F) main_arg6 main_v2 main_v5 main_v8 main_v11 main_v14 main_v17
-- ==== Pre_finite11.lean ====
abbrev S4096x1024 : Shape := ⟨2, ![4096, 1024]⟩
abbrev S4096x256 : Shape := ⟨2, ![4096, 256]⟩
abbrev S256x1024 : Shape := ⟨2, ![256, 1024]⟩
abbrev S1024 : Shape := ⟨1, ![1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  bcast_S_S4096x256 : S_.BroadcastsInDim S4096x256 (![] : Fin 0 → Fin S4096x256.rank)
  bcast_S_S256x1024 : S_.BroadcastsInDim S256x1024 (![] : Fin 0 → Fin S256x1024.rank)
  bcast_S_S1024 : S_.BroadcastsInDim S1024 (![] : Fin 0 → Fin S1024.rank)
  bcast_S_S1024x1024 : S_.BroadcastsInDim S1024x1024 (![] : Fin 0 → Fin S1024x1024.rank)

variable [Facts]

def fn_part1 {F : FTy → Type} [FloatOps F] (main_arg6 : FVec F S1024x1024 .f32) (main_v2 : IVec S4096x1024 1) (main_v5 : IVec S4096x1024 1) (main_v8 : IVec S4096x256 1) (main_v11 : IVec S256x1024 1) (main_v14 : IVec S1024 1) (main_v17 : IVec S1024 1) : IVec S4096x1024 1 × IVec S4096x1024 1 × IVec S4096x256 1 × IVec S256x1024 1 × IVec S1024 1 × IVec S1024 1 × IVec S1024x1024 1 :=
  let main_v18 : FVec F S1024x1024 .f32 := Host.absf main_arg6
  let main_cst_5 : FVec F S_ .f32 := constant S_ .f32 0x7F800000#32
  let main_v19 : FVec F S1024x1024 .f32 := broadcastInDim S1024x1024 ![] bcast_S_S1024x1024 main_cst_5
  let main_v20 : IVec S1024x1024 1 := cmpf .olt main_v18 main_v19
  (main_v2, main_v5, main_v8, main_v11, main_v14, main_v17, main_v20)

def fn {F : FTy → Type} [FloatOps F] (main_arg0 : FVec F S4096x1024 .f32) (main_arg1 : FVec F S4096x1024 .f32) (main_arg2 : FVec F S4096x256 .f32) (main_arg3 : FVec F S256x1024 .f32) (main_arg4 : FVec F S1024 .f32) (main_arg5 : FVec F S1024 .f32) (main_arg6 : FVec F S1024x1024 .f32) : IVec S4096x1024 1 × IVec S4096x1024 1 × IVec S4096x256 1 × IVec S256x1024 1 × IVec S1024 1 × IVec S1024 1 × IVec S1024x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x256 .f32 := Host.absf main_arg2
  let main_cst_1 : FVec F S_ .f32 := constant S_ .f32 0x7F800000#32
  let main_v7 : FVec F S4096x256 .f32 := broadcastInDim S4096x256 ![] bcast_S_S4096x256 main_cst_1
  let main_v8 : IVec S4096x256 1 := cmpf .olt main_v6 main_v7
  let main_v9 : FVec F S256x1024 .f32 := Host.absf main_arg3
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_v2 main_v5 main_v8 main_v11 main_v14 main_v17
-- ==== Pre_finite2.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S4096x1024 .f32) (main_arg2 : FVec F S1024 .f32) (main_arg3 : FVec F S1024x2816 .f32) (main_arg4 : FVec F S1024x2816 .f32) (main_arg5 : FVec F S2816x1024 .f32) : IVec S4096x1024 1 × IVec S4096x1024 1 × IVec S1024 1 × IVec S1024x2816 1 × IVec S1024x2816 1 × IVec S2816x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S1024x2816 .f32 := Host.absf main_arg4
  let main_cst_3 : FVec F S_ .f32 := constant S_ .f32 0x7F800000#32
  let main_v13 : FVec F S1024x2816 .f32 := broadcastInDim S1024x2816 ![] bcast_S_S1024x2816 main_cst_3
  let main_v14 : IVec S1024x2816 1 := cmpf .olt main_v12 main_v13
  let main_v15 : FVec F S2816x1024 .f32 := Host.absf main_arg5
  let main_cst_4 : FVec F S_ .f32 := constant S_ .f32 0x7F800000#32
  let main_v16 : FVec F S2816x1024 .f32 := broadcastInDim S2816x1024 ![] bcast_S_S2816x1024 main_cst_4
  let main_v17 : IVec S2816x1024 1 := cmpf .olt main_v15 main_v16
  (main_v2, main_v5, main_v8, main_v11, main_v14, main_v17)
-- ==== Pre_finite24.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x1024 .f32) (main_arg1 : FVec F S4096x1024 .f32) (main_arg2 : FVec F S4096x1024 .f32) (main_arg3 : FVec F S1024 .f32) : IVec S4096x1024 1 × IVec S4096x1024 1 × IVec S1024 1 :=
  let main_v0 : FVec F S4096x1024 .f32 := Host.absf main_arg1
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg2
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024 .f32 := Host.absf main_arg3
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  (main_v2, main_v5, main_v8)
-- ==== Pre_finite28.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x1024 .f32) (main_arg1 : FVec F S4096x1024 .f32) (main_arg2 : FVec F S1024 .f32) : IVec S4096x1024 1 × IVec S4096x1024 1 × IVec S1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  (main_v2, main_v5, main_v8)
-- ==== Pre_finite30.lean ====
abbrev S4096x32 : Shape := ⟨2, ![4096, 32]⟩
abbrev S32 : Shape := ⟨1, ![32]⟩
abbrev S_ : Shape := ⟨0, ![]⟩

class Facts : Prop where
  bcast_S_S4096x32 : S_.BroadcastsInDim S4096x32 (![] : Fin 0 → Fin S4096x32.rank)
  bcast_S_S32 : S_.BroadcastsInDim S32 (![] : Fin 0 → Fin S32.rank)

variable [Facts]

def fn {F : FTy → Type} [FloatOps F] (main_arg0 : FVec F S4096x32 .f32) (main_arg1 : FVec F S32 .f32) : IVec S4096x32 1 × IVec S32 1 :=
  let main_v0 : FVec F S4096x32 .f32 := Host.absf main_arg0
  let main_cst : FVec F S_ .f32 := constant S_ .f32 0x7F800000#32
  let main_v1 : FVec F S4096x32 .f32 := broadcastInDim S4096x32 ![] bcast_S_S4096x32 main_cst
  let main_v2 : IVec S4096x32 1 := cmpf .olt main_v0 main_v1
  let main_v3 : FVec F S32 .f32 := Host.absf main_arg1
  let main_cst_0 : FVec F S_ .f32 := constant S_ .f32 0x7F800000#32
  let main_v4 : FVec F S32 .f32 := broadcastInDim S32 ![] bcast_S_S32 main_cst_0
  let main_v5 : IVec S32 1 := cmpf .olt main_v3 main_v4
  (main_v2, main_v5)
-- ==== Pre_finite32.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  bcast_S_S2048 : S_.BroadcastsInDim S2048 (![] : Fin 0 → Fin S2048.rank)

variable [Facts]

def fn {F : FTy → Type} [FloatOps F] (main_arg0 : FVec F S4096x2048 .f32) (main_arg1 : FVec F S4096x2048 .f32) (main_arg2 : FVec F S4096x2048 .f32) (main_arg3 : FVec F S2048 .f32) : IVec S4096x2048 1 × IVec S4096x2048 1 × IVec S4096x2048 1 × IVec S2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S4096x2048 .f32 := Host.absf main_arg1
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  let main_v6 : FVec F S4096x2048 .f32 := Host.absf main_arg2
  let main_cst_1 : FVec F S_ .f32 := constant S_ .f32 0x7F800000#32
  let main_v7 : FVec F S4096x2048 .f32 := broadcastInDim S4096x2048 ![] bcast_S_S4096x2048 main_cst_1
  let main_v8 : IVec S4096x2048 1 := cmpf .olt main_v6 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  (main_v2, main_v5, main_v8, main_v11)
-- ==== Kernel.lean ====
abbrev S4096x2048 : Shape := ⟨2, ![4096, 2048]⟩
abbrev S4096x4096 : Shape := ⟨2, ![4096, 4096]⟩
abbrev S4096 : Shape := ⟨1, ![4096]⟩
abbrev S2048 : Shape := ⟨1, ![2048]⟩
abbrev S16x128x128 : Shape := ⟨3, ![16, 128, 128]⟩
abbrev S16x128 : Shape := ⟨2, ![16, 128]⟩
abbrev S128x16 : Shape := ⟨2, ![128, 16]⟩
abbrev S128x16x128 : Shape := ⟨3, ![128, 16, 128]⟩
abbrev S128x2048 : Shape := ⟨2, ![128, 2048]⟩
abbrev S1x4096 : Shape := ⟨2, ![1, 4096]⟩
abbrev S1x2048 : Shape := ⟨2, ![1, 2048]⟩
abbrev S128x4096 : Shape := ⟨2, ![128, 4096]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩

abbrev nBuf : Space → Nat
  | .hbm => 19
  | .vmem => 17
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .hbm, ⟨2, _⟩ => ⟨S4096, .f32⟩
  | .hbm, ⟨3, _⟩ => ⟨S2048, .f32⟩
  | .hbm, ⟨4, _⟩ => ⟨S2048, .f32⟩
  | .hbm, ⟨5, _⟩ => ⟨S16x128x128, .f32⟩
  | .hbm, ⟨6, _⟩ => ⟨S16x128, .f32⟩
  | .hbm, ⟨7, _⟩ => ⟨S128x16, .f32⟩
  | .hbm, ⟨8, _⟩ => ⟨S128x16x128, .f32⟩
  | .hbm, ⟨9, _⟩ => ⟨S128x2048, .f32⟩
  | .hbm, ⟨10, _⟩ => ⟨S1x4096, .f32⟩
  | .hbm, ⟨11, _⟩ => ⟨S1x2048, .f32⟩
  | .hbm, ⟨12, _⟩ => ⟨S1x2048, .f32⟩
  | .hbm, ⟨13, _⟩ => ⟨S4096x4096, .bf16⟩
  | .hbm, ⟨14, _⟩ => ⟨S1x4096, .f32⟩
  | .hbm, ⟨15, _⟩ => ⟨S1x2048, .f32⟩
  | .hbm, ⟨16, _⟩ => ⟨S1x2048, .f32⟩
  | .hbm, ⟨17, _⟩ => ⟨S16x128x128, .f32⟩
  | .hbm, ⟨18, _⟩ => ⟨S128x2048, .f32⟩
  | .local _ .vmem, ⟨0, _⟩ => ⟨S128x2048, .f32⟩
  | .local _ .vmem, ⟨1, _⟩ => ⟨S128x2048, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S1x2048, .f32⟩
  | .local _ .vmem, ⟨6, _⟩ => ⟨S1x2048, .f32⟩
  | .local _ .vmem, ⟨7, _⟩ => ⟨S16x128x128, .f32⟩
  | .local _ .vmem, ⟨8, _⟩ => ⟨S128x2048, .f32⟩
  | .local _ .vmem, ⟨9, _⟩ => ⟨S128x4096, .bf16⟩
  | .local _ .vmem, ⟨10, _⟩ => ⟨S128x4096, .bf16⟩
  | .local _ .vmem, ⟨11, _⟩ => ⟨S1x4096, .f32⟩
  | .local _ .vmem, ⟨12, _⟩ => ⟨S1x2048, .f32⟩
  | .local _ .vmem, ⟨13, _⟩ => ⟨S1x2048, .f32⟩
  | .local _ .vmem, ⟨14, _⟩ => ⟨S16x128x128, .f32⟩
  | .local _ .vmem, ⟨15, _⟩ => ⟨S128x2048, .f32⟩
  | .local _ .vmem, ⟨16, _⟩ => ⟨S128x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev main_v6_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== KernelIdeal.lean ====
variable {F : FTy → Type} [FloatOps F] [Named F]
def κ : String → Option EReal := fun
  | "gauss" => some (((Real.sqrt (2 * Real.pi))⁻¹ : ℝ) : EReal)
  | "root_half" => some (((Real.sqrt 2)⁻¹ : ℝ) : EReal)
  | _ => none
-- ==== ReferenceIdeal.lean ====
abbrev S4096x2048 : Shape := ⟨2, ![4096, 2048]⟩
abbrev S4096x4096 : Shape := ⟨2, ![4096, 4096]⟩
abbrev S4096 : Shape := ⟨1, ![4096]⟩
abbrev S2048 : Shape := ⟨1, ![2048]⟩
abbrev S16x128x128 : Shape := ⟨3, ![16, 128, 128]⟩
abbrev S16x128 : Shape := ⟨2, ![16, 128]⟩
abbrev S128x16 : Shape := ⟨2, ![128, 16]⟩
abbrev S128x16x1 : Shape := ⟨3, ![128, 16, 1]⟩
abbrev S128x16x128 : Shape := ⟨3, ![128, 16, 128]⟩
abbrev S1x4096 : Shape := ⟨2, ![1, 4096]⟩
abbrev S_ : Shape := ⟨0, ![]⟩
abbrev S4096x1 : Shape := ⟨2, ![4096, 1]⟩
abbrev S1x2048 : Shape := ⟨2, ![1, 2048]⟩
abbrev S32x128x16x128 : Shape := ⟨4, ![32, 128, 16, 128]⟩
abbrev S128x128 : Shape := ⟨2, ![128, 128]⟩
abbrev S16x32x128x128 : Shape := ⟨4, ![16, 32, 128, 128]⟩
abbrev S1x128x16x128 : Shape := ⟨4, ![1, 128, 16, 128]⟩
abbrev S128x2048 : Shape := ⟨2, ![128, 2048]⟩

abbrev nBuf : Space → Nat
  | .hbm => 169
  | .vmem => 0
  | .smem => 0
  | _ => 0

abbrev hbmTy0_0 (i : Nat) : BufTy := match i % 128 with
  | 0 => ⟨S4096x2048, .f32⟩
  | 1 => ⟨S4096x4096, .f32⟩
  | 2 => ⟨S4096, .f32⟩
  | 3 => ⟨S2048, .f32⟩
  | 4 => ⟨S2048, .f32⟩
  | 5 => ⟨S16x128x128, .f32⟩
  | 6 => ⟨S16x128, .f32⟩
  | 7 => ⟨S128x16, .f32⟩
  | 8 => ⟨S128x16x1, .f32⟩
  | 9 => ⟨S128x16x128, .f32⟩
  | 10 => ⟨S1x4096, .f32⟩
  | 11 => ⟨S4096x4096, .f32⟩
  | 12 => ⟨S4096x4096, .f32⟩
  | 13 => ⟨S_, .f32⟩
  | 14 => ⟨S4096x4096, .f32⟩
  | 15 => ⟨S4096x4096, .f32⟩
  | 16 => ⟨S_, .f32⟩
  | 17 => ⟨S_, .f32⟩
  | 18 => ⟨S4096x4096, .f32⟩
  | 19 => ⟨S4096x4096, .f32⟩
  | 20 => ⟨S_, .f32⟩
  | 21 => ⟨S_, .f32⟩
  | 22 => ⟨S4096x4096, .f32⟩
  | 23 => ⟨S_, .f32⟩
  | 24 => ⟨S_, .f32⟩
  | 25 => ⟨S_, .f32⟩
  | 26 => ⟨S4096x4096, .f32⟩
  | 27 => ⟨S4096x4096, .f32⟩
  | 28 => ⟨S4096x4096, .f32⟩
  | 29 => ⟨S4096x4096, .f32⟩
  | 30 => ⟨S4096x4096, .f32⟩
  | 31 => ⟨S_, .f32⟩
  | 32 => ⟨S4096x4096, .f32⟩
  | 33 => ⟨S4096x4096, .f32⟩
  | 34 => ⟨S4096x4096, .f32⟩
  | 35 => ⟨S4096x2048, .f32⟩
  | 36 => ⟨S4096x2048, .f32⟩
  | 37 => ⟨S_, .f32⟩
  | 38 => ⟨S4096, .f32⟩
  | 39 => ⟨S4096x1, .f32⟩
  | 40 => ⟨S_, .f32⟩
  | 41 => ⟨S4096x1, .f32⟩
  | 42 => ⟨S4096x1, .f32⟩
  | 43 => ⟨S4096x2048, .f32⟩
  | 44 => ⟨S4096x2048, .f32⟩
  | 45 => ⟨S4096x2048, .f32⟩
  | 46 => ⟨S_, .f32⟩
  | 47 => ⟨S4096, .f32⟩
  | 48 => ⟨S4096x1, .f32⟩
  | 49 => ⟨S_, .f32⟩
  | 50 => ⟨S4096x1, .f32⟩
  | 51 => ⟨S4096x1, .f32⟩
  | 52 => ⟨S_, .f32⟩
  | 53 => ⟨S4096x1, .f32⟩
  | 54 => ⟨S4096x1, .f32⟩
  | 55 => ⟨S4096x1, .f32⟩
  | 56 => ⟨S4096x1, .f32⟩
  | 57 => ⟨S_, .f32⟩
  | 58 => ⟨S4096x1, .f32⟩
  | 59 => ⟨S4096x1, .f32⟩
  | 60 => ⟨S4096x2048, .f32⟩
  | 61 => ⟨S4096x2048, .f32⟩
  | 62 => ⟨S1x2048, .f32⟩
  | 63 => ⟨S4096x2048, .f32⟩
  | 64 => ⟨S4096x2048, .f32⟩
  | 65 => ⟨S1x2048, .f32⟩
  | 66 => ⟨S4096x2048, .f32⟩
  | 67 => ⟨S4096x2048, .f32⟩
  | 68 => ⟨S32x128x16x128, .f32⟩
  | 69 => ⟨S128x128, .i32⟩
  | 70 => ⟨S_, .i32⟩
  | 71 => ⟨S128x128, .i32⟩
  | 72 => ⟨S128x128, .i32⟩
  | 73 => ⟨S128x128, .i32⟩
  | 74 => ⟨S128x128, .i1⟩
  | 75 => ⟨S16x128x128, .i1⟩
  | 76 => ⟨S_, .f32⟩
  | 77 => ⟨S16x128x128, .f32⟩
  | 78 => ⟨S16x128x128, .f32⟩
  | 79 => ⟨S_, .f32⟩
  | 80 => ⟨S16x128x128, .f32⟩
  | 81 => ⟨S16x32x128x128, .f32⟩
  | 82 => ⟨S32x128x16x128, .f32⟩
  | 83 => ⟨S1x128x16x128, .f32⟩
  | 84 => ⟨S32x128x16x128, .f32⟩
  | 85 => ⟨S32x128x16x128, .f32⟩
  | 86 => ⟨S4096x2048, .f32⟩
  | 87 => ⟨S4096x2048, .f32⟩
  | 88 => ⟨S4096x2048, .f32⟩
  | 89 => ⟨S4096x2048, .f32⟩
  | 90 => ⟨S32x128x16x128, .f32⟩
  | 91 => ⟨S_, .f32⟩
  | 92 => ⟨S128x16x128, .f32⟩
  | 93 => ⟨S1x128x16x128, .f32⟩
  | 94 => ⟨S_, .f32⟩
  | 95 => ⟨S128x16x128, .f32⟩
  | 96 => ⟨S16x32x128x128, .f32⟩
  | 97 => ⟨S16x128x128, .f32⟩
  | 98 => ⟨S16x32x128x128, .f32⟩
  | 99 => ⟨S32x128x16x128, .f32⟩
  | 100 => ⟨S_, .f32⟩
  | 101 => ⟨S16x128x128, .f32⟩
  | 102 => ⟨S16x128x128, .f32⟩
  | 103 => ⟨S4096x2048, .f32⟩
  | 104 => ⟨S_, .f32⟩
  | 105 => ⟨S2048, .f32⟩
  | 106 => ⟨S1x2048, .f32⟩
  | 107 => ⟨S_, .f32⟩
  | 108 => ⟨S2048, .f32⟩
  | 109 => ⟨S4096x2048, .f32⟩
  | 110 => ⟨S_, .f32⟩
  | 111 => ⟨S2048, .f32⟩
  | 112 => ⟨S1x2048, .f32⟩
  | 113 => ⟨S4096x2048, .f32⟩
  | 114 => ⟨S4096x2048, .f32⟩
  | 115 => ⟨S_, .f32⟩
  | 116 => ⟨S2048, .f32⟩
  | 117 => ⟨S4096x2048, .f32⟩
  | 118 => ⟨S_, .f32⟩
  | 119 => ⟨S4096, .f32⟩
  | 120 => ⟨S4096x1, .f32⟩
  | 121 => ⟨S4096x2048, .f32⟩
  | 122 => ⟨S4096x2048, .f32⟩
  | 123 => ⟨S4096x1, .f32⟩
  | 124 => ⟨S_, .f32⟩
  | 125 => ⟨S4096x1, .f32⟩
  | 126 => ⟨S4096x1, .f32⟩
  | 127 => ⟨S_, .f32⟩
  | _ => ⟨S4096x2048, .f32⟩

abbrev hbmTy0_1 (i : Nat) : BufTy := match i % 128 with
  | 0 => ⟨S4096, .f32⟩
  | 1 => ⟨S4096x2048, .f32⟩
  | 2 => ⟨S4096x2048, .f32⟩
  | 3 => ⟨S4096x2048, .f32⟩
  | 4 => ⟨S4096x2048, .f32⟩
  | 5 => ⟨S4096x2048, .f32⟩
  | 6 => ⟨S4096x2048, .f32⟩
  | 7 => ⟨S_, .f32⟩
  | 8 => ⟨S4096, .f32⟩
  | 9 => ⟨S4096x1, .f32⟩
  | 10 => ⟨S_, .f32⟩
  | 11 => ⟨S4096x1, .f32⟩
  | 12 => ⟨S4096x1, .f32⟩
  | 13 => ⟨S_, .f32⟩
  | 14 => ⟨S4096, .f32⟩
  | 15 => ⟨S4096x2048, .f32⟩
  | 16 => ⟨S4096x2048, .f32⟩
  | 17 => ⟨S_, .f32⟩
  | 18 => ⟨S4096x4096, .f32⟩
  | 19 => ⟨S_, .f32⟩
  | 20 => ⟨S4096x4096, .f32⟩
  | 21 => ⟨S4096x4096, .f32⟩
  | 22 => ⟨S4096x4096, .f32⟩
  | 23 => ⟨S4096x4096, .f32⟩
  | 24 => ⟨S4096x4096, .f32⟩
  | 25 => ⟨S4096x4096, .f32⟩
  | 26 => ⟨S4096x4096, .f32⟩
  | 27 => ⟨S_, .f32⟩
  | 28 => ⟨S4096x4096, .f32⟩
  | 29 => ⟨S4096x4096, .f32⟩
  | 30 => ⟨S4096x4096, .f32⟩
  | 31 => ⟨S_, .f32⟩
  | 32 => ⟨S4096, .f32⟩
  | 33 => ⟨S1x4096, .f32⟩
  | 34 => ⟨S_, .f32⟩
  | 35 => ⟨S4096, .f32⟩
  | 36 => ⟨S4096x4096, .bf16⟩
  | 37 => ⟨S1x4096, .f32⟩
  | 38 => ⟨S1x2048, .f32⟩
  | 39 => ⟨S1x2048, .f32⟩
  | 40 => ⟨S128x2048, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_call0_v0 : Ref sig .tc := ⟨.hbm, 69, rfl⟩
abbrev main_call0_c : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_v51_1 : Ref sig .tc := ⟨.hbm, 75, rfl⟩
abbrev main_call0_cst : Ref sig .tc := ⟨.hbm, 76, rfl⟩
abbrev main_call0_v6 : Ref sig .tc := ⟨.hbm, 77, rfl⟩
abbrev main_v51_0 : Ref sig .tc := ⟨.hbm, 78, rfl⟩
abbrev main_call0_cst_0 : Ref sig .tc := ⟨.hbm, 79, rfl⟩
abbrev main_v51_2 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_10 : Ref sig .tc := ⟨.hbm, 91, rfl⟩
abbrev main_v62 : Ref sig .tc := ⟨.hbm, 92, rfl⟩
abbrev main_v63 : Ref sig .tc := ⟨.hbm, 93, rfl⟩
abbrev main_cst_11 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_call1_cst : Ref sig .tc := ⟨.hbm, 100, rfl⟩
abbrev main_call1_v0 : Ref sig .tc := ⟨.hbm, 101, rfl⟩
abbrev main_v69 : Ref sig .tc := ⟨.hbm, 102, rfl⟩
abbrev main_v70 : Ref sig .tc := ⟨.hbm, 103, rfl⟩
abbrev main_cst_12 : Ref sig .tc := ⟨.hbm, 104, rfl⟩
abbrev main_v71 : Ref sig .tc := ⟨.hbm, 105, rfl⟩
abbrev main_v72 : Ref sig .tc := ⟨.hbm, 106, rfl⟩
abbrev main_cst_13 : Ref sig .tc := ⟨.hbm, 107, rfl⟩
abbrev main_v73 : Ref sig .tc := ⟨.hbm, 108, rfl⟩
abbrev main_v74 : Ref sig .tc := ⟨.hbm, 109, rfl⟩
abbrev main_cst_14 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_15 : Ref sig .tc := ⟨.hbm, 115, rfl⟩
abbrev main_v79 : Ref sig .tc := ⟨.hbm, 116, rfl⟩
abbrev main_v80 : Ref sig .tc := ⟨.hbm, 117, rfl⟩
abbrev main_cst_16 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_17 : Ref sig .tc := ⟨.hbm, 124, rfl⟩
abbrev main_v86 : Ref sig .tc := ⟨.hbm, 125, rfl⟩
abbrev main_v87 : Ref sig .tc := ⟨.hbm, 126, rfl⟩
abbrev main_cst_18 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_19 : Ref sig .tc := ⟨.hbm, 135, rfl⟩
abbrev main_v95 : Ref sig .tc := ⟨.hbm, 136, rfl⟩
abbrev main_v96 : Ref sig .tc := ⟨.hbm, 137, rfl⟩
abbrev main_cst_20 : Ref sig .tc := ⟨.hbm, 138, rfl⟩
abbrev main_v97 : Ref sig .tc := ⟨.hbm, 139, rfl⟩
abbrev main_v98 : Ref sig .tc := ⟨.hbm, 140, rfl⟩
abbrev main_cst_21 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_cst_22 : Ref sig .tc := ⟨.hbm, 145, rfl⟩
abbrev main_v102 : Ref sig .tc := ⟨.hbm, 146, rfl⟩
abbrev main_cst_23 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_cst_24 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_cst_25 : Ref sig .tc := ⟨.hbm, 159, rfl⟩
abbrev main_v113 : Ref sig .tc := ⟨.hbm, 160, rfl⟩
abbrev main_v114 : Ref sig .tc := ⟨.hbm, 161, rfl⟩
abbrev main_cst_26 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩

abbrev nD : Nat := 1
abbrev τ : Topo := Topo.v7x

variable {F : FTy → Type} [FloatOps F]
-- ==== Kernel2.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S4x704x1024 : Shape := ⟨3, ![4, 704, 1024]⟩
abbrev S4096x4x704 : Shape := ⟨3, ![4096, 4, 704]⟩
abbrev S4x4096x704 : Shape := ⟨3, ![4, 4096, 704]⟩
abbrev S512x1024 : Shape := ⟨2, ![512, 1024]⟩
abbrev S1x704x1024 : Shape := ⟨3, ![1, 704, 1024]⟩
abbrev S1x512x704 : Shape := ⟨3, ![1, 512, 704]⟩
abbrev S256x1024 : Shape := ⟨2, ![256, 1024]⟩
abbrev S704x1024 : Shape := ⟨2, ![704, 1024]⟩
abbrev S256x704 : Shape := ⟨2, ![256, 704]⟩
abbrev S1x256x704 : Shape := ⟨3, ![1, 256, 704]⟩
abbrev S512 : Shape := ⟨1, ![512]⟩
abbrev S512x1 : Shape := ⟨2, ![512, 1]⟩

abbrev nBuf : Space → Nat
  | .hbm => 43
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S2816x1024, .bf16⟩
  | .hbm, ⟨25, _⟩ => ⟨S4x704x1024, .bf16⟩
  | .hbm, ⟨26, _⟩ => ⟨S2816x1024, .f32⟩
  | .hbm, ⟨27, _⟩ => ⟨S2816x1024, .bf16⟩
  | .hbm, ⟨28, _⟩ => ⟨S4x704x1024, .bf16⟩
  | .hbm, ⟨29, _⟩ => ⟨S2816x1024, .f32⟩
  | .hbm, ⟨30, _⟩ => ⟨S2816x1024, .bf16⟩
  | .hbm, ⟨31, _⟩ => ⟨S4x704x1024, .bf16⟩
  | .hbm, ⟨32, _⟩ => ⟨S4096x4x704, .f32⟩
  | .hbm, ⟨33, _⟩ => ⟨S4x4096x704, .f32⟩
  | .hbm, ⟨34, _⟩ => ⟨S4x4096x704, .bf16⟩
  | .hbm, ⟨35, _⟩ => ⟨S4096x4x704, .f32⟩
  | .hbm, ⟨36, _⟩ => ⟨S4x4096x704, .f32⟩
  | .hbm, ⟨37, _⟩ => ⟨S4x4096x704, .bf16⟩
  | .hbm, ⟨38, _⟩ => ⟨S1x1024, .f32⟩
  | .hbm, ⟨39, _⟩ => ⟨S4x4096x704, .bf16⟩
  | .hbm, ⟨40, _⟩ => ⟨S4x4096x704, .bf16⟩
  | .hbm, ⟨41, _⟩ => ⟨S4096x1024, .f32⟩
  | .hbm, ⟨42, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S1x704x1024, .bf16⟩
  | .local _ .vmem, ⟨10, _⟩ => ⟨S1x704x1024, .bf16⟩
  | .local _ .vmem, ⟨11, _⟩ => ⟨S1x512x704, .bf16⟩
  | .local _ .vmem, ⟨12, _⟩ => ⟨S1x512x704, .bf16⟩
  | .local _ .vmem, ⟨13, _⟩ => ⟨S1x512x704, .bf16⟩
  | .local _ .vmem, ⟨14, _⟩ => ⟨S1x512x704, .bf16⟩
  | .local _ .vmem, ⟨15, _⟩ => ⟨S1x512x704, .bf16⟩
  | .local _ .vmem, ⟨16, _⟩ => ⟨S1x512x704, .bf16⟩
  | .local _ .vmem, ⟨17, _⟩ => ⟨S1x512x704, .bf16⟩
  | .local _ .vmem, ⟨18, _⟩ => ⟨S1x512x704, .bf16⟩
  | .local _ .vmem, ⟨19, _⟩ => ⟨S512x1024, .f32⟩
  | .local _ .vmem, ⟨20, _⟩ => ⟨S512x1024, .f32⟩
  | .local _ .vmem, ⟨21, _⟩ => ⟨S1x1024, .f32⟩
  | .local _ .vmem, ⟨22, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30_0 : Ref sig .tc := ⟨.hbm, 39, rfl⟩
abbrev main_v30_1 : Ref sig .tc := ⟨.hbm, 40, rfl⟩
abbrev main_v30_2 : Ref sig .tc := ⟨.hbm, 41, rfl⟩
abbrev main_v30_3 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v113 : BitVec 1 := Scalar.cmpi .eq arg1 c3_i32
  let v114 : BitVec 32 := Scalar.extui v113
  let c0_i32_74 : BitVec 32 := 0#32
  let v115 : BitVec 1 := Scalar.cmpi .ne v114 c0_i32_74
  v115

def k0_cond3 (i : grid0.Coords) : BitVec 1 :=
  let arg0 : BitVec 32 := BitVec.ofNat 32 (i 0).val
  let c0_i32_91 : BitVec 32 := 0#32
  let v148 : BitVec 1 := Scalar.cmpi .eq arg0 c0_i32_91
  let v149 : BitVec 32 := Scalar.extui v148
  let c0_i32_92 : BitVec 32 := 0#32
  let v150 : BitVec 1 := Scalar.cmpi .ne v149 c0_i32_92
  v150

def k0_cond4 (i : grid0.Coords) : BitVec 1 :=
  let arg0 : BitVec 32 := BitVec.ofNat 32 (i 0).val
  let c0_i32_93 : BitVec 32 := 0#32
  let v151 : BitVec 1 := Scalar.cmpi .sgt arg0 c0_i32_93
  let v152 : BitVec 32 := Scalar.extui v151
  let c0_i32_94 : BitVec 32 := 0#32
  let v153 : BitVec 1 := Scalar.cmpi .ne v152 c0_i32_94
  v153

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== Reference2Ideal.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S4096x4x704 : Shape := ⟨3, ![4096, 4, 704]⟩
abbrev S4x4096x704 : Shape := ⟨3, ![4, 4096, 704]⟩

abbrev nBuf : Space → Nat
  | .hbm => 86
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x1024, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x4x704, .f32⟩
  | .hbm, ⟨79, _⟩ => ⟨S4x4096x704, .f32⟩
  | .hbm, ⟨80, _⟩ => ⟨S4x4096x704, .bf16⟩
  | .hbm, ⟨81, _⟩ => ⟨S4096x4x704, .f32⟩
  | .hbm, ⟨82, _⟩ => ⟨S4x4096x704, .f32⟩
  | .hbm, ⟨83, _⟩ => ⟨S4x4096x704, .bf16⟩
  | .hbm, ⟨84, _⟩ => ⟨S4096x1024, .f32⟩
  | .hbm, ⟨85, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v18_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v18_1 : Ref sig .tc := ⟨.hbm, 39, rfl⟩
abbrev main_v18_0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_3 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_4 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_6 : Ref sig .tc := ⟨.hbm, 68, rfl⟩
abbrev main_v40 : Ref sig .tc := ⟨.hbm, 69, rfl⟩
abbrev main_v41 : Ref sig .tc := ⟨.hbm, 70, rfl⟩
abbrev main_cst_7 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩

abbrev nD : Nat := 1
abbrev τ : Topo := Topo.v7x

variable {F : FTy → Type} [FloatOps F]
-- ==== Kernel3.lean ====
abbrev S4096x2816 : Shape := ⟨2, ![4096, 2816]⟩
abbrev S4096x1024 : Shape := ⟨2, ![4096, 1024]⟩
abbrev S1024 : Shape := ⟨1, ![1024]⟩
abbrev S4096x4x704 : Shape := ⟨3, ![4096, 4, 704]⟩
abbrev S4x4096x704 : Shape := ⟨3, ![4, 4096, 704]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4x704x1024 : Shape := ⟨3, ![4, 704, 1024]⟩
abbrev S1x1024x704 : Shape := ⟨3, ![1, 1024, 704]⟩
abbrev S1024x1024 : Shape := ⟨2, ![1024, 1024]⟩
abbrev S1x704x1024 : Shape := ⟨3, ![1, 704, 1024]⟩
abbrev S704x1024 : Shape := ⟨2, ![704, 1024]⟩
abbrev S1024x704 : Shape := ⟨2, ![1024, 704]⟩

abbrev nBuf : Space → Nat
  | .hbm => 24
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S1024, .f32⟩
  | .hbm, ⟨3, _⟩ => ⟨S4096x4x704, .f32⟩
  | .hbm, ⟨4, _⟩ => ⟨S4x4096x704, .f32⟩
  | .hbm, ⟨5, _⟩ => ⟨S4x4096x704, .bf16⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | .hbm, ⟨23, _⟩ => ⟨S4x704x1024, .bf16⟩
  | .local _ .vmem, ⟨0, _⟩ => ⟨S1x1024x704, .bf16⟩
  | .local _ .vmem, ⟨1, _⟩ => ⟨S1x1024x704, .bf16⟩
  | .local _ .vmem, ⟨2, _⟩ => ⟨S1024x1024, .bf16⟩
  | .local _ .vmem, ⟨3, _⟩ => ⟨S1024x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 1, 1, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference3Ideal.lean ====
abbrev S4096x2816 : Shape := ⟨2, ![4096, 2816]⟩
abbrev S4096x1024 : Shape := ⟨2, ![4096, 1024]⟩
abbrev S1024 : Shape := ⟨1, ![1024]⟩
abbrev S_ : Shape := ⟨0, ![]⟩
abbrev S1024x2816 : Shape := ⟨2, ![1024, 2816]⟩
abbrev S4096 : Shape := ⟨1, ![4096]⟩
abbrev S4096x1 : Shape := ⟨2, ![4096, 1]⟩
abbrev S1x1024 : Shape := ⟨2, ![1, 1024]⟩
abbrev S2816x1024 : Shape := ⟨2, ![2816, 1024]⟩
abbrev S4x704x1024 : Shape := ⟨3, ![4, 704, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S1024, .f32⟩
  | .hbm, ⟨3, _⟩ => ⟨S_, .f32⟩
  | .hbm, ⟨4, _⟩ => ⟨S1024x2816, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x2816, .f32⟩
  | .hbm, ⟨22, _⟩ => ⟨S2816x1024, .f32⟩
  | .hbm, ⟨23, _⟩ => ⟨S1024x2816, .f32⟩
  | .hbm, ⟨24, _⟩ => ⟨S2816x1024, .f32⟩
  | .hbm, ⟨25, _⟩ => ⟨S4x704x1024, .f32⟩
  | .hbm, ⟨26, _⟩ => ⟨S4x704x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel4.lean ====
abbrev S4096x1024 : Shape := ⟨2, ![4096, 1024]⟩
abbrev S4096x2816 : Shape := ⟨2, ![4096, 2816]⟩
abbrev S_ : Shape := ⟨0, ![]⟩
abbrev S4096x4x704 : Shape := ⟨3, ![4096, 4, 704]⟩
abbrev S4x4096x704 : Shape := ⟨3, ![4, 4096, 704]⟩
abbrev S4x704x1024 : Shape := ⟨3, ![4, 704, 1024]⟩
abbrev S1x1024x704 : Shape := ⟨3, ![1, 1024, 704]⟩
abbrev S1024x1024 : Shape := ⟨2, ![1024, 1024]⟩
abbrev S1x704x1024 : Shape := ⟨3, ![1, 704, 1024]⟩
abbrev S704x1024 : Shape := ⟨2, ![704, 1024]⟩
abbrev S1024x704 : Shape := ⟨2, ![1024, 704]⟩

abbrev nBuf : Space → Nat
  | .hbm => 17
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S_, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S4096x4x704, .f32⟩
  | .hbm, ⟨14, _⟩ => ⟨S4x4096x704, .f32⟩
  | .hbm, ⟨15, _⟩ => ⟨S4x4096x704, .bf16⟩
  | .hbm, ⟨16, _⟩ => ⟨S4x704x1024, .bf16⟩
  | .local _ .vmem, ⟨0, _⟩ => ⟨S1x1024x704, .bf16⟩
  | .local _ .vmem, ⟨1, _⟩ => ⟨S1x1024x704, .bf16⟩
  | .local _ .vmem, ⟨2, _⟩ => ⟨S1024x1024, .f32⟩
  | .local _ .vmem, ⟨3, _⟩ => ⟨S1024x1024, .f32⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 1, 1, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference4Ideal.lean ====
abbrev S4096x1024 : Shape := ⟨2, ![4096, 1024]⟩
abbrev S4096x2816 : Shape := ⟨2, ![4096, 2816]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x2816, .f32⟩
  | .hbm, ⟨3, _⟩ => ⟨S_, .f32⟩
  | .hbm, ⟨4, _⟩ => ⟨S2816x1024, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x1024, .f32⟩
  | .hbm, ⟨16, _⟩ => ⟨S1024x2816, .f32⟩
  | .hbm, ⟨17, _⟩ => ⟨S2816x1024, .f32⟩
  | .hbm, ⟨18, _⟩ => ⟨S4x704x1024, .f32⟩
  | .hbm, ⟨19, _⟩ => ⟨S4x704x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]
-- ==== Kernel5.lean ====
abbrev S4096x1024 : Shape := ⟨2, ![4096, 1024]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2048, .bf16⟩
  | .hbm, ⟨3, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 1, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference5Ideal.lean ====
abbrev S4096x1024 : Shape := ⟨2, ![4096, 1024]⟩
abbrev S4096x2048 : Shape := ⟨2, ![4096, 2048]⟩
abbrev S_ : Shape := ⟨0, ![]⟩
abbrev S2048x1024 : Shape := ⟨2, ![2048, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S_, .f32⟩
  | .hbm, ⟨3, _⟩ => ⟨S2048x1024, .f32⟩
  | .hbm, ⟨4, _⟩ => ⟨S4096x1024, .f32⟩
  | .hbm, ⟨5, _⟩ => ⟨S1024x2048, .f32⟩
  | .hbm, ⟨6, _⟩ => ⟨S2048x1024, .f32⟩
  | .hbm, ⟨7, _⟩ => ⟨S2048x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S2048x1024, .f32⟩
  | .hbm, ⟨2, _⟩ => ⟨S2048x1024, .bf16⟩
  | .hbm, ⟨3, _⟩ => ⟨S4096x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 2, 1], ![false, false, false, false]⟩

def k0_cond2 (i : grid0.Coords) : BitVec 1 :=
  let arg3 : BitVec 32 := BitVec.ofNat 32 (i 3).val
  let c0_i32_8 : BitVec 32 := 0#32
  let v13 : BitVec 1 := Scalar.cmpi .eq arg3 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg2 c0_i32
  let c0_i32_0 : BitVec 32 := 0#32
  ![v0.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference6Ideal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2048x1024, .f32⟩
  | .hbm, ⟨2, _⟩ => ⟨S_, .f32⟩
  | .hbm, ⟨3, _⟩ => ⟨S4096x2048, .f32⟩
  | .hbm, ⟨4, _⟩ => ⟨S4096x1024, .f32⟩
  | .hbm, ⟨5, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S4096x4096 : Shape := ⟨2, ![4096, 4096]⟩
abbrev S4096x1024 : Shape := ⟨2, ![4096, 1024]⟩
abbrev S1024x4096 : Shape := ⟨2, ![1024, 4096]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .bf16⟩
  | .hbm, ⟨3, _⟩ => ⟨S4096x4096, .bf16⟩
  | .hbm, ⟨4, _⟩ => ⟨S1024x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 1, 4, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference7Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S1024x4096, .f32⟩
  | .hbm, ⟨4, _⟩ => ⟨S4096x4096, .f32⟩
  | .hbm, ⟨5, _⟩ => ⟨S4096x1024, .f32⟩
  | .hbm, ⟨6, _⟩ => ⟨S1024x4096, .f32⟩
  | .hbm, ⟨7, _⟩ => ⟨S1024x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S1024x4096, .f32⟩
  | .hbm, ⟨2, _⟩ => ⟨S4096x4096, .bf16⟩
  | .hbm, ⟨3, _⟩ => ⟨S1024x4096, .bf16⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 1, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg2 c0_i32
  let c0_i32_0 : BitVec 32 := 0#32
  ![v0.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference8Ideal.lean ====
abbrev S4096x4096 : Shape := ⟨2, ![4096, 4096]⟩
abbrev S1024x4096 : Shape := ⟨2, ![1024, 4096]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1024x4096, .f32⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .bf16⟩
  | .hbm, ⟨3, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 1, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference9Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S1024x4096, .f32⟩
  | .hbm, ⟨4, _⟩ => ⟨S4096x4096, .f32⟩
  | .hbm, ⟨5, _⟩ => ⟨S4096x1024, .f32⟩
  | .hbm, ⟨6, _⟩ => ⟨S1024x4096, .f32⟩
  | .hbm, ⟨7, _⟩ => ⟨S4096x1024, .f32⟩
  | .hbm, ⟨8, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S4096x4096 : Shape := ⟨2, ![4096, 4096]⟩
abbrev S4096x1024 : Shape := ⟨2, ![4096, 1024]⟩
abbrev S1024x6176 : Shape := ⟨2, ![1024, 6176]⟩
abbrev S6176x1024 : Shape := ⟨2, ![6176, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S1024x6176, .f32⟩
  | .hbm, ⟨3, _⟩ => ⟨S6176x1024, .f32⟩
  | .hbm, ⟨4, _⟩ => ⟨S6176x1024, .bf16⟩
  | .hbm, ⟨5, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![1, 4, 1, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.addi arg3 c2_i32
  let c0_i32 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true, false]
-- ==== Reference10Ideal.lean ====
abbrev S4096x4096 : Shape := ⟨2, ![4096, 4096]⟩
abbrev S4096x1024 : Shape := ⟨2, ![4096, 1024]⟩
abbrev S1024x6176 : Shape := ⟨2, ![1024, 6176]⟩
abbrev S_ : Shape := ⟨0, ![]⟩
abbrev S4096x6176 : Shape := ⟨2, ![4096, 6176]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S1024x6176, .f32⟩
  | .hbm, ⟨3, _⟩ => ⟨S_, .f32⟩
  | .hbm, ⟨4, _⟩ => ⟨S4096x1024, .f32⟩
  | .hbm, ⟨5, _⟩ => ⟨S4096x6176, .f32⟩
  | .hbm, ⟨6, _⟩ => ⟨S4096x4096, .f32⟩
  | .hbm, ⟨7, _⟩ => ⟨S_, .f32⟩
  | .hbm, ⟨8, _⟩ => ⟨S4096x6176, .f32⟩
  | .hbm, ⟨9, _⟩ => ⟨S4096x1024, .f32⟩
  | .hbm, ⟨10, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel11.lean ====
abbrev S4096x1024 : Shape := ⟨2, ![4096, 1024]⟩
abbrev S4096x256 : Shape := ⟨2, ![4096, 256]⟩
abbrev S256x1024 : Shape := ⟨2, ![256, 1024]⟩
abbrev S1024 : Shape := ⟨1, ![1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S256 : Shape := ⟨1, ![256]⟩
abbrev S256x1 : Shape := ⟨2, ![256, 1]⟩

abbrev nBuf : Space → Nat
  | .hbm => 44
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x256, .f32⟩
  | .hbm, ⟨3, _⟩ => ⟨S256x1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .bf16⟩
  | .hbm, ⟨34, _⟩ => ⟨S4096x1024, .bf16⟩
  | .hbm, ⟨35, _⟩ => ⟨S1024x1024, .bf16⟩
  | .hbm, ⟨36, _⟩ => ⟨S1x1024, .f32⟩
  | .hbm, ⟨37, _⟩ => ⟨S1x1024, .f32⟩
  | .hbm, ⟨38, _⟩ => ⟨S4096x1024, .f32⟩
  | .hbm, ⟨39, _⟩ => ⟨S4096x1024, .bf16⟩
  | .hbm, ⟨40, _⟩ => ⟨S4096x1024, .bf16⟩
  | .hbm, ⟨41, _⟩ => ⟨S4096x1024, .bf16⟩
  | .hbm, ⟨42, _⟩ => ⟨S1x1024, .f32⟩
  | .hbm, ⟨43, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S1x1024, .f32⟩
  | .local _ .vmem, ⟨20, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26_0 : Ref sig .tc := ⟨.hbm, 38, rfl⟩
abbrev main_v26_1 : Ref sig .tc := ⟨.hbm, 39, rfl⟩
abbrev main_v26_2 : Ref sig .tc := ⟨.hbm, 40, rfl⟩
abbrev main_v26_3 : Ref sig .tc := ⟨.hbm, 41, rfl⟩
abbrev main_v26_4 : Ref sig .tc := ⟨.hbm, 42, rfl⟩
abbrev main_v26_5 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v104 : BitVec 1 := Scalar.cmpi .eq arg0 c0_i32
  let v105 : BitVec 32 := Scalar.extui v104
  let c0_i32_40 : BitVec 32 := 0#32
  let v106 : BitVec 1 := Scalar.cmpi .ne v105 c0_i32_40
  v106

def k0_cond2 (i : grid0.Coords) : BitVec 1 :=
  let arg0 : BitVec 32 := BitVec.ofNat 32 (i 0).val
  let c0_i32 : BitVec 32 := 0#32
  let v104 : BitVec 1 := Scalar.cmpi .eq arg0 c0_i32
  let v_true : BitVec 1 := 1#1
  let v107 : BitVec 1 := Scalar.xori v104 v_true
  let v108 : BitVec 32 := Scalar.extui v107
  let c0_i32_41 : BitVec 32 := 0#32
  let v109 : BitVec 1 := Scalar.cmpi .ne v108 c0_i32_41
  v109

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference11Ideal.lean ====
abbrev S4096x1024 : Shape := ⟨2, ![4096, 1024]⟩
abbrev S4096x256 : Shape := ⟨2, ![4096, 256]⟩
abbrev S256x1024 : Shape := ⟨2, ![256, 1024]⟩
abbrev S1024 : Shape := ⟨1, ![1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 140
  | .vmem => 0
  | .smem => 0
  | _ => 0

abbrev hbmTy0_0 (i : Nat) : BufTy := match i % 128 with
  | 0 => ⟨S4096x1024, .f32⟩
  | 1 => ⟨S4096x1024, .f32⟩
  | 2 => ⟨S4096x256, .f32⟩
  | 3 => ⟨S256x1024, .f32⟩
  | 4 => ⟨S1024, .f32⟩
  | 5 => ⟨S1024, .f32⟩
  | 6 => ⟨S1024x1024, .f32⟩
  | 7 => ⟨S4096x1024, .f32⟩
  | 8 => ⟨S_, .f32⟩
  | 9 => ⟨S4096, .f32⟩
  | 10 => ⟨S4096x1, .f32⟩
  | 11 => ⟨S_, .f32⟩
  | 12 => ⟨S4096x1, .f32⟩
  | 13 => ⟨S4096x1, .f32⟩
  | 14 => ⟨S_, .f32⟩
  | 15 => ⟨S4096x1, .f32⟩
  | 16 => ⟨S4096x1, .f32⟩
  | 17 => ⟨S4096x1, .f32⟩
  | 18 => ⟨S4096x1, .f32⟩
  | 19 => ⟨S_, .f32⟩
  | 20 => ⟨S4096x1, .f32⟩
  | 21 => ⟨S4096x1, .f32⟩
  | 22 => ⟨S4096x1024, .f32⟩
  | 23 => ⟨S4096x1024, .f32⟩
  | 24 => ⟨S1x1024, .f32⟩
  | 25 => ⟨S4096x1024, .f32⟩
  | 26 => ⟨S4096x1024, .f32⟩
  | 27 => ⟨S4096x1024, .f32⟩
  | 28 => ⟨S4096x1024, .f32⟩
  | 29 => ⟨S4096x1024, .f32⟩
  | 30 => ⟨S_, .f32⟩
  | 31 => ⟨S4096, .f32⟩
  | 32 => ⟨S4096x1, .f32⟩
  | 33 => ⟨S_, .f32⟩
  | 34 => ⟨S4096x1, .f32⟩
  | 35 => ⟨S4096x1, .f32⟩
  | 36 => ⟨S_, .f32⟩
  | 37 => ⟨S4096x1, .f32⟩
  | 38 => ⟨S4096x1, .f32⟩
  | 39 => ⟨S4096x1, .f32⟩
  | 40 => ⟨S4096x1, .f32⟩
  | 41 => ⟨S_, .f32⟩
  | 42 => ⟨S4096x1, .f32⟩
  | 43 => ⟨S4096x1, .f32⟩
  | 44 => ⟨S4096x1024, .f32⟩
  | 45 => ⟨S4096x1024, .f32⟩
  | 46 => ⟨S1x1024, .f32⟩
  | 47 => ⟨S4096x1024, .f32⟩
  | 48 => ⟨S4096x1024, .f32⟩
  | 49 => ⟨S4096x1024, .f32⟩
  | 50 => ⟨S4096x1024, .f32⟩
  | 51 => ⟨S_, .f32⟩
  | 52 => ⟨S4096x1024, .f32⟩
  | 53 => ⟨S4096x1024, .f32⟩
  | 54 => ⟨S_, .f32⟩
  | 55 => ⟨S4096x1024, .f32⟩
  | 56 => ⟨S4096x1024, .f32⟩
  | 57 => ⟨S_, .f32⟩
  | 58 => ⟨S4096x1024, .f32⟩
  | 59 => ⟨S4096x1024, .f32⟩
  | 60 => ⟨S4096x1024, .f32⟩
  | 61 => ⟨S4096x1024, .f32⟩
  | 62 => ⟨S4096x1024, .f32⟩
  | 63 => ⟨S4096x1024, .f32⟩
  | 64 => ⟨S4096x1024, .f32⟩
  | 65 => ⟨S4096x1024, .f32⟩
  | 66 => ⟨S4096x1024, .f32⟩
  | 67 => ⟨S4096x1024, .f32⟩
  | 68 => ⟨S_, .f32⟩
  | 69 => ⟨S1024, .f32⟩
  | 70 => ⟨S1x1024, .f32⟩
  | 71 => ⟨S4096x1024, .f32⟩
  | 72 => ⟨S4096x1024, .f32⟩
  | 73 => ⟨S_, .f32⟩
  | 74 => ⟨S1024, .f32⟩
  | 75 => ⟨S4096x1024, .f32⟩
  | 76 => ⟨S_, .f32⟩
  | 77 => ⟨S4096, .f32⟩
  | 78 => ⟨S4096x1, .f32⟩
  | 79 => ⟨S4096x1024, .f32⟩
  | 80 => ⟨S4096x1024, .f32⟩
  | 81 => ⟨S4096x1, .f32⟩
  | 82 => ⟨S_, .f32⟩
  | 83 => ⟨S4096x1, .f32⟩
  | 84 => ⟨S4096x1, .f32⟩
  | 85 => ⟨S_, .f32⟩
  | 86 => ⟨S4096, .f32⟩
  | 87 => ⟨S4096x1024, .f32⟩
  | 88 => ⟨S4096x1024, .f32⟩
  | 89 => ⟨S4096x1024, .f32⟩
  | 90 => ⟨S4096x1024, .f32⟩
  | 91 => ⟨S4096x1024, .f32⟩
  | 92 => ⟨S4096x1024, .f32⟩
  | 93 => ⟨S4096x1024, .f32⟩
  | 94 => ⟨S_, .f32⟩
  | 95 => ⟨S1024, .f32⟩
  | 96 => ⟨S1x1024, .f32⟩
  | 97 => ⟨S4096x1024, .f32⟩
  | 98 => ⟨S4096x1024, .f32⟩
  | 99 => ⟨S_, .f32⟩
  | 100 => ⟨S1024, .f32⟩
  | 101 => ⟨S4096x1024, .f32⟩
  | 102 => ⟨S_, .f32⟩
  | 103 => ⟨S4096, .f32⟩
  | 104 => ⟨S4096x1, .f32⟩
  | 105 => ⟨S4096x1024, .f32⟩
  | 106 => ⟨S4096x1024, .f32⟩
  | 107 => ⟨S4096x1, .f32⟩
  | 108 => ⟨S_, .f32⟩
  | 109 => ⟨S4096x1, .f32⟩
  | 110 => ⟨S4096x1, .f32⟩
  | 111 => ⟨S_, .f32⟩
  | 112 => ⟨S4096, .f32⟩
  | 113 => ⟨S4096x1024, .f32⟩
  | 114 => ⟨S4096x1024, .f32⟩
  | 115 => ⟨S4096x1024, .f32⟩
  | 116 => ⟨S4096x1024, .f32⟩
  | 117 => ⟨S4096x1024, .f32⟩
  | 118 => ⟨S4096x1024, .f32⟩
  | 119 => ⟨S4096x1024, .bf16⟩
  | 120 => ⟨S4096x1024, .bf16⟩
  | 121 => ⟨S4096x1024, .f32⟩
  | 122 => ⟨S_, .f32⟩
  | 123 => ⟨S4096, .f32⟩
  | 124 => ⟨S4096x1, .f32⟩
  | 125 => ⟨S_, .f32⟩
  | 126 => ⟨S4096x1, .f32⟩
  | 127 => ⟨S4096x1, .f32⟩
  | _ => ⟨S4096x1024, .f32⟩

abbrev hbmTy0_1 (i : Nat) : BufTy := match i % 128 with
  | 0 => ⟨S_, .f32⟩
  | 1 => ⟨S4096x1, .f32⟩
  | 2 => ⟨S4096x1, .f32⟩
  | 3 => ⟨S4096x1, .f32⟩
  | 4 => ⟨S4096x1024, .f32⟩
  | 5 => ⟨S4096x1024, .f32⟩
  | 6 => ⟨S1x1024, .f32⟩
  | 7 => ⟨S4096x1024, .f32⟩
  | 8 => ⟨S4096x1024, .f32⟩
  | 9 => ⟨S4096x1024, .bf16⟩
  | 10 => ⟨S1x1024, .f32⟩
  | 11 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_11 : Ref sig .tc := ⟨.hbm, 73, rfl⟩
abbrev main_v54 : Ref sig .tc := ⟨.hbm, 74, rfl⟩
abbrev main_v55 : Ref sig .tc := ⟨.hbm, 75, rfl⟩
abbrev main_cst_12 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_13 : Ref sig .tc := ⟨.hbm, 82, rfl⟩
abbrev main_v61 : Ref sig .tc := ⟨.hbm, 83, rfl⟩
abbrev main_v62 : Ref sig .tc := ⟨.hbm, 84, rfl⟩
abbrev main_cst_14 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_15 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_16 : Ref sig .tc := ⟨.hbm, 99, rfl⟩
abbrev main_v75 : Ref sig .tc := ⟨.hbm, 100, rfl⟩
abbrev main_v76 : Ref sig .tc := ⟨.hbm, 101, rfl⟩
abbrev main_cst_17 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_18 : Ref sig .tc := ⟨.hbm, 108, rfl⟩
abbrev main_v82 : Ref sig .tc := ⟨.hbm, 109, rfl⟩
abbrev main_v83 : Ref sig .tc := ⟨.hbm, 110, rfl⟩
abbrev main_cst_19 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_20 : Ref sig .tc := ⟨.hbm, 122, rfl⟩
abbrev main_v94 : Ref sig .tc := ⟨.hbm, 123, rfl⟩
abbrev main_v95 : Ref sig .tc := ⟨.hbm, 124, rfl⟩
abbrev main_cst_21 : Ref sig .tc := ⟨.hbm, 125, rfl⟩
abbrev main_v96 : Ref sig .tc := ⟨.hbm, 126, rfl⟩
abbrev main_v97 : Ref sig .tc := ⟨.hbm, 127, rfl⟩
abbrev main_cst_22 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true, false]
-- ==== Reference12Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S4096x1024 : Shape := ⟨2, ![4096, 1024]⟩
abbrev S4096x256 : Shape := ⟨2, ![4096, 256]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x1024, .bf16⟩
  | .hbm, ⟨3, _⟩ => ⟨S256x1024, .bf16⟩
  | .local _ .vmem, ⟨0, _⟩ => ⟨S1024x256, .f32⟩
  | .local _ .vmem, ⟨1, _⟩ => ⟨S1024x256, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true, false]
-- ==== Reference13Ideal.lean ====
abbrev S4096x1024 : Shape := ⟨2, ![4096, 1024]⟩
abbrev S4096x256 : Shape := ⟨2, ![4096, 256]⟩
abbrev S_ : Shape := ⟨0, ![]⟩
abbrev S256x1024 : Shape := ⟨2, ![256, 1024]⟩
abbrev S1024x256 : Shape := ⟨2, ![1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S_, .f32⟩
  | .hbm, ⟨3, _⟩ => ⟨S256x1024, .f32⟩
  | .hbm, ⟨4, _⟩ => ⟨S4096x1024, .f32⟩
  | .hbm, ⟨5, _⟩ => ⟨S1024x256, .f32⟩
  | .hbm, ⟨6, _⟩ => ⟨S256x1024, .f32⟩
  | .hbm, ⟨7, _⟩ => ⟨S256x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .bf16⟩
  | .hbm, ⟨3, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 1, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference14Ideal.lean ====
abbrev S4096x2048 : Shape := ⟨2, ![4096, 2048]⟩
abbrev S4096x1024 : Shape := ⟨2, ![4096, 1024]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S2048x1024, .f32⟩
  | .hbm, ⟨6, _⟩ => ⟨S1024x2048, .f32⟩
  | .hbm, ⟨7, _⟩ => ⟨S2048x1024, .f32⟩
  | .hbm, ⟨8, _⟩ => ⟨S2048x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S4096x2048 : Shape := ⟨2, ![4096, 2048]⟩
abbrev S1024x6176 : Shape := ⟨2, ![1024, 6176]⟩
abbrev S6176x1024 : Shape := ⟨2, ![6176, 1024]⟩
abbrev S4096x1024 : Shape := ⟨2, ![4096, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1024x6176, .f32⟩
  | .hbm, ⟨2, _⟩ => ⟨S6176x1024, .f32⟩
  | .hbm, ⟨3, _⟩ => ⟨S6176x1024, .bf16⟩
  | .hbm, ⟨4, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 1, 2], ![false, false, false, false]⟩

def k0_cond2 (i : grid0.Coords) : BitVec 1 :=
  let arg3 : BitVec 32 := BitVec.ofNat 32 (i 3).val
  let c1_i32 : BitVec 32 := 1#32
  let v13 : BitVec 1 := Scalar.cmpi .eq arg3 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg3 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference15Ideal.lean ====
abbrev S4096x2048 : Shape := ⟨2, ![4096, 2048]⟩
abbrev S1024x6176 : Shape := ⟨2, ![1024, 6176]⟩
abbrev S_ : Shape := ⟨0, ![]⟩
abbrev S4096x1024 : Shape := ⟨2, ![4096, 1024]⟩
abbrev S4096x6176 : Shape := ⟨2, ![4096, 6176]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1024x6176, .f32⟩
  | .hbm, ⟨2, _⟩ => ⟨S_, .f32⟩
  | .hbm, ⟨3, _⟩ => ⟨S4096x1024, .f32⟩
  | .hbm, ⟨4, _⟩ => ⟨S4096x6176, .f32⟩
  | .hbm, ⟨5, _⟩ => ⟨S4096x2048, .f32⟩
  | .hbm, ⟨6, _⟩ => ⟨S_, .f32⟩
  | .hbm, ⟨7, _⟩ => ⟨S4096x6176, .f32⟩
  | .hbm, ⟨8, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel16.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .bf16⟩
  | .hbm, ⟨3, _⟩ => ⟨S1024x4096, .bf16⟩
  | .hbm, ⟨4, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 4, 1], ![false, false, false, false]⟩

def k0_cond2 (i : grid0.Coords) : BitVec 1 :=
  let arg3 : BitVec 32 := BitVec.ofNat 32 (i 3).val
  let c0_i32_8 : BitVec 32 := 0#32
  let v13 : BitVec 1 := Scalar.cmpi .eq arg3 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg3 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference16Ideal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel17.lean ====
abbrev S4096x1024 : Shape := ⟨2, ![4096, 1024]⟩
abbrev S1024x6176 : Shape := ⟨2, ![1024, 6176]⟩
abbrev S6176x1024 : Shape := ⟨2, ![6176, 1024]⟩
abbrev S4096x4096 : Shape := ⟨2, ![4096, 4096]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x6176, .f32⟩
  | .hbm, ⟨2, _⟩ => ⟨S4096x1024, .bf16⟩
  | .hbm, ⟨3, _⟩ => ⟨S6176x1024, .f32⟩
  | .hbm, ⟨4, _⟩ => ⟨S6176x1024, .bf16⟩
  | .hbm, ⟨5, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 4, 1], ![false, false, false, false]⟩

def k0_cond2 (i : grid0.Coords) : BitVec 1 :=
  let arg3 : BitVec 32 := BitVec.ofNat 32 (i 3).val
  let c0_i32_8 : BitVec 32 := 0#32
  let v13 : BitVec 1 := Scalar.cmpi .eq arg3 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.addi arg2 c2_i32
  let c0_i32 : BitVec 32 := 0#32
  ![v0.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference17Ideal.lean ====
abbrev S4096x1024 : Shape := ⟨2, ![4096, 1024]⟩
abbrev S1024x6176 : Shape := ⟨2, ![1024, 6176]⟩
abbrev S4096x6176 : Shape := ⟨2, ![4096, 6176]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x6176, .f32⟩
  | .hbm, ⟨2, _⟩ => ⟨S4096x6176, .f32⟩
  | .hbm, ⟨3, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel18.lean ====
abbrev S4096x1024 : Shape := ⟨2, ![4096, 1024]⟩
abbrev S1024x6176 : Shape := ⟨2, ![1024, 6176]⟩
abbrev S6176x1024 : Shape := ⟨2, ![6176, 1024]⟩
abbrev S4096x2048 : Shape := ⟨2, ![4096, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x6176, .f32⟩
  | .hbm, ⟨2, _⟩ => ⟨S4096x1024, .bf16⟩
  | .hbm, ⟨3, _⟩ => ⟨S6176x1024, .f32⟩
  | .hbm, ⟨4, _⟩ => ⟨S6176x1024, .bf16⟩
  | .hbm, ⟨5, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 2, 1], ![false, false, false, false]⟩

def k0_cond2 (i : grid0.Coords) : BitVec 1 :=
  let arg3 : BitVec 32 := BitVec.ofNat 32 (i 3).val
  let c0_i32_8 : BitVec 32 := 0#32
  let v13 : BitVec 1 := Scalar.cmpi .eq arg3 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg2 c0_i32
  let c0_i32_0 : BitVec 32 := 0#32
  ![v0.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference18Ideal.lean ====
abbrev S4096x1024 : Shape := ⟨2, ![4096, 1024]⟩
abbrev S1024x6176 : Shape := ⟨2, ![1024, 6176]⟩
abbrev S4096x6176 : Shape := ⟨2, ![4096, 6176]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x6176, .f32⟩
  | .hbm, ⟨2, _⟩ => ⟨S4096x6176, .f32⟩
  | .hbm, ⟨3, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel19.lean ====
abbrev S4096x1024 : Shape := ⟨2, ![4096, 1024]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S2048x1024, .f32⟩
  | .hbm, ⟨3, _⟩ => ⟨S4096x2048, .bf16⟩
  | .hbm, ⟨4, _⟩ => ⟨S2048x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![1, 4, 1, 2], ![false, false, false, false]⟩

def k0_cond2 (i : grid0.Coords) : BitVec 1 :=
  let arg3 : BitVec 32 := BitVec.ofNat 32 (i 3).val
  let c1_i32 : BitVec 32 := 1#32
  let v13 : BitVec 1 := Scalar.cmpi .eq arg3 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg3 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true, false]
-- ==== Reference19Ideal.lean ====
abbrev S4096x1024 : Shape := ⟨2, ![4096, 1024]⟩
abbrev S4096x2048 : Shape := ⟨2, ![4096, 2048]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S2048x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel20.lean ====
abbrev S4096x1024 : Shape := ⟨2, ![4096, 1024]⟩
abbrev S4096x256 : Shape := ⟨2, ![4096, 256]⟩
abbrev S256x1024 : Shape := ⟨2, ![256, 1024]⟩
abbrev S1024 : Shape := ⟨1, ![1024]⟩
abbrev S1024x1024 : Shape := ⟨2, ![1024, 1024]⟩
abbrev S1x1024 : Shape := ⟨2, ![1, 1024]⟩
abbrev S256x256 : Shape := ⟨2, ![256, 256]⟩
abbrev S256 : Shape := ⟨1, ![256]⟩
abbrev S256x1 : Shape := ⟨2, ![256, 1]⟩

abbrev nBuf : Space → Nat
  | .hbm => 13
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S256x1024, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S256x1024, .bf16⟩
  | .hbm, ⟨7, _⟩ => ⟨S1024x1024, .bf16⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S4096x1024, .bf16⟩
  | .hbm, ⟨12, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x1024, .bf16⟩
  | .local _ .vmem, ⟨5, _⟩ => ⟨S1x1024, .f32⟩
  | .local _ .vmem, ⟨6, _⟩ => ⟨S1x1024, .f32⟩
  | .local _ .vmem, ⟨7, _⟩ => ⟨S1024x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference20Ideal.lean ====
abbrev S4096x1024 : Shape := ⟨2, ![4096, 1024]⟩
abbrev S4096x256 : Shape := ⟨2, ![4096, 256]⟩
abbrev S256x1024 : Shape := ⟨2, ![256, 1024]⟩
abbrev S1024 : Shape := ⟨1, ![1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S256x1024, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .bf16⟩
  | .hbm, ⟨51, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== Kernel21.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S4x704x1024 : Shape := ⟨3, ![4, 704, 1024]⟩
abbrev S1x1024 : Shape := ⟨2, ![1, 1024]⟩
abbrev S4x4096x704 : Shape := ⟨3, ![4, 4096, 704]⟩
abbrev S512x1024 : Shape := ⟨2, ![512, 1024]⟩
abbrev S1x704x1024 : Shape := ⟨3, ![1, 704, 1024]⟩
abbrev S1x512x704 : Shape := ⟨3, ![1, 512, 704]⟩
abbrev S512 : Shape := ⟨1, ![512]⟩
abbrev S512x1 : Shape := ⟨2, ![512, 1]⟩
abbrev S256x1024 : Shape := ⟨2, ![256, 1024]⟩
abbrev S704x1024 : Shape := ⟨2, ![704, 1024]⟩
abbrev S256x704 : Shape := ⟨2, ![256, 704]⟩
abbrev S1x256x704 : Shape := ⟨3, ![1, 256, 704]⟩

abbrev nBuf : Space → Nat
  | .hbm => 19
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .f32⟩
  | .hbm, ⟨6, _⟩ => ⟨S2816x1024, .bf16⟩
  | .hbm, ⟨7, _⟩ => ⟨S4x704x1024, .bf16⟩
  | .hbm, ⟨8, _⟩ => ⟨S2816x1024, .f32⟩
  | .hbm, ⟨9, _⟩ => ⟨S2816x1024, .bf16⟩
  | .hbm, ⟨10, _⟩ => ⟨S4x704x1024, .bf16⟩
  | .hbm, ⟨11, _⟩ => ⟨S2816x1024, .bf16⟩
  | .hbm, ⟨12, _⟩ => ⟨S4x704x1024, .bf16⟩
  | .hbm, ⟨13, _⟩ => ⟨S1x1024, .f32⟩
  | .hbm, ⟨14, _⟩ => ⟨S4096x1024, .f32⟩
  | .hbm, ⟨15, _⟩ => ⟨S4096x1024, .bf16⟩
  | .hbm, ⟨16, _⟩ => ⟨S4x4096x704, .bf16⟩
  | .hbm, ⟨17, _⟩ => ⟨S4x4096x704, .bf16⟩
  | .hbm, ⟨18, _⟩ => ⟨S4x4096x704, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x512x704, .bf16⟩
  | .local _ .vmem, ⟨14, _⟩ => ⟨S1x512x704, .bf16⟩
  | .local _ .vmem, ⟨15, _⟩ => ⟨S1x512x704, .bf16⟩
  | .local _ .vmem, ⟨16, _⟩ => ⟨S1x512x704, .bf16⟩
  | .local _ .vmem, ⟨17, _⟩ => ⟨S1x512x704, .bf16⟩
  | .local _ .vmem, ⟨18, _⟩ => ⟨S1x512x704, .bf16⟩
  | .local _ .vmem, ⟨19, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev main_v9_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v77 : BitVec 1 := Scalar.cmpi .eq arg1 c3_i32
  let v78 : BitVec 32 := Scalar.extui v77
  let c0_i32_58 : BitVec 32 := 0#32
  let v79 : BitVec 1 := Scalar.cmpi .ne v78 c0_i32_58
  v79

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference21Ideal.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S4096x4x704 : Shape := ⟨3, ![4096, 4, 704]⟩
abbrev S4x4096x704 : Shape := ⟨3, ![4, 4096, 704]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x1024, .f32⟩
  | .hbm, ⟨34, _⟩ => ⟨S4096x1024, .f32⟩
  | .hbm, ⟨35, _⟩ => ⟨S4096x1024, .bf16⟩
  | .hbm, ⟨36, _⟩ => ⟨S4096x4x704, .f32⟩
  | .hbm, ⟨37, _⟩ => ⟨S4x4096x704, .f32⟩
  | .hbm, ⟨38, _⟩ => ⟨S4x4096x704, .bf16⟩
  | .hbm, ⟨39, _⟩ => ⟨S4096x4x704, .f32⟩
  | .hbm, ⟨40, _⟩ => ⟨S4x4096x704, .f32⟩
  | .hbm, ⟨41, _⟩ => ⟨S4x4096x704, .bf16⟩
  | .hbm, ⟨42, _⟩ => ⟨S4096x4x704, .f32⟩
  | .hbm, ⟨43, _⟩ => ⟨S4x4096x704, .f32⟩
  | .hbm, ⟨44, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel22.lean ====
abbrev S4096x4096 : Shape := ⟨2, ![4096, 4096]⟩
abbrev S4096 : Shape := ⟨1, ![4096]⟩
abbrev S2048 : Shape := ⟨1, ![2048]⟩
abbrev S16x128x128 : Shape := ⟨3, ![16, 128, 128]⟩
abbrev S16x128 : Shape := ⟨2, ![16, 128]⟩
abbrev S128x16 : Shape := ⟨2, ![128, 16]⟩
abbrev S128x16x128 : Shape := ⟨3, ![128, 16, 128]⟩
abbrev S128x2048 : Shape := ⟨2, ![128, 2048]⟩
abbrev S1x4096 : Shape := ⟨2, ![1, 4096]⟩
abbrev S1x2048 : Shape := ⟨2, ![1, 2048]⟩
abbrev S4096x2048 : Shape := ⟨2, ![4096, 2048]⟩
abbrev S128x4096 : Shape := ⟨2, ![128, 4096]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩

abbrev nBuf : Space → Nat
  | .hbm => 13
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S2048, .f32⟩
  | .hbm, ⟨3, _⟩ => ⟨S2048, .f32⟩
  | .hbm, ⟨4, _⟩ => ⟨S16x128x128, .f32⟩
  | .hbm, ⟨5, _⟩ => ⟨S16x128, .f32⟩
  | .hbm, ⟨6, _⟩ => ⟨S128x16, .f32⟩
  | .hbm, ⟨7, _⟩ => ⟨S128x16x128, .f32⟩
  | .hbm, ⟨8, _⟩ => ⟨S128x2048, .f32⟩
  | .hbm, ⟨9, _⟩ => ⟨S1x4096, .f32⟩
  | .hbm, ⟨10, _⟩ => ⟨S1x2048, .f32⟩
  | .hbm, ⟨11, _⟩ => ⟨S1x2048, .f32⟩
  | .hbm, ⟨12, _⟩ => ⟨S4096x2048, .bf16⟩
  | .local _ .vmem, ⟨0, _⟩ => ⟨S128x4096, .f32⟩
  | .local _ .vmem, ⟨1, _⟩ => ⟨S128x4096, .f32⟩
  | .local _ .vmem, ⟨2, _⟩ => ⟨S1x4096, .f32⟩
  | .local _ .vmem, ⟨3, _⟩ => ⟨S1x2048, .f32⟩
  | .local _ .vmem, ⟨4, _⟩ => ⟨S1x2048, .f32⟩
  | .local _ .vmem, ⟨5, _⟩ => ⟨S16x128x128, .f32⟩
  | .local _ .vmem, ⟨6, _⟩ => ⟨S128x2048, .f32⟩
  | .local _ .vmem, ⟨7, _⟩ => ⟨S128x2048, .bf16⟩
  | .local _ .vmem, ⟨8, _⟩ => ⟨S128x2048, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel22Ideal.lean ====
variable {F : FTy → Type} [FloatOps F] [Named F]
def κ : String → Option EReal := fun
  | "root_half" => some (((Real.sqrt 2)⁻¹ : ℝ) : EReal)
  | _ => none
-- ==== Reference22Ideal.lean ====
abbrev S4096x4096 : Shape := ⟨2, ![4096, 4096]⟩
abbrev S4096 : Shape := ⟨1, ![4096]⟩
abbrev S2048 : Shape := ⟨1, ![2048]⟩
abbrev S16x128x128 : Shape := ⟨3, ![16, 128, 128]⟩
abbrev S16x128 : Shape := ⟨2, ![16, 128]⟩
abbrev S128x16 : Shape := ⟨2, ![128, 16]⟩
abbrev S128x16x1 : Shape := ⟨3, ![128, 16, 1]⟩
abbrev S128x16x128 : Shape := ⟨3, ![128, 16, 128]⟩
abbrev S1x4096 : Shape := ⟨2, ![1, 4096]⟩
abbrev S_ : Shape := ⟨0, ![]⟩
abbrev S4096x2048 : Shape := ⟨2, ![4096, 2048]⟩
abbrev S4096x1 : Shape := ⟨2, ![4096, 1]⟩
abbrev S1x2048 : Shape := ⟨2, ![1, 2048]⟩
abbrev S32x128x16x128 : Shape := ⟨4, ![32, 128, 16, 128]⟩
abbrev S128x128 : Shape := ⟨2, ![128, 128]⟩
abbrev S16x32x128x128 : Shape := ⟨4, ![16, 32, 128, 128]⟩
abbrev S1x128x16x128 : Shape := ⟨4, ![1, 128, 16, 128]⟩

abbrev nBuf : Space → Nat
  | .hbm => 72
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S2048, .f32⟩
  | .hbm, ⟨3, _⟩ => ⟨S2048, .f32⟩
  | .hbm, ⟨4, _⟩ => ⟨S16x128x128, .f32⟩
  | .hbm, ⟨5, _⟩ => ⟨S16x128, .f32⟩
  | .hbm, ⟨6, _⟩ => ⟨S128x16, .f32⟩
  | .hbm, ⟨7, _⟩ => ⟨S128x16x1, .f32⟩
  | .hbm, ⟨8, _⟩ => ⟨S128x16x128, .f32⟩
  | .hbm, ⟨9, _⟩ => ⟨S1x4096, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1, .f32⟩
  | .hbm, ⟨45, _⟩ => ⟨S4096x2048, .f32⟩
  | .hbm, ⟨46, _⟩ => ⟨S4096x2048, .f32⟩
  | .hbm, ⟨47, _⟩ => ⟨S1x2048, .f32⟩
  | .hbm, ⟨48, _⟩ => ⟨S4096x2048, .f32⟩
  | .hbm, ⟨49, _⟩ => ⟨S4096x2048, .f32⟩
  | .hbm, ⟨50, _⟩ => ⟨S1x2048, .f32⟩
  | .hbm, ⟨51, _⟩ => ⟨S4096x2048, .f32⟩
  | .hbm, ⟨52, _⟩ => ⟨S4096x2048, .f32⟩
  | .hbm, ⟨53, _⟩ => ⟨S32x128x16x128, .f32⟩
  | .hbm, ⟨54, _⟩ => ⟨S128x128, .i32⟩
  | .hbm, ⟨55, _⟩ => ⟨S_, .i32⟩
  | .hbm, ⟨56, _⟩ => ⟨S128x128, .i32⟩
  | .hbm, ⟨57, _⟩ => ⟨S128x128, .i32⟩
  | .hbm, ⟨58, _⟩ => ⟨S128x128, .i32⟩
  | .hbm, ⟨59, _⟩ => ⟨S128x128, .i1⟩
  | .hbm, ⟨60, _⟩ => ⟨S16x128x128, .i1⟩
  | .hbm, ⟨61, _⟩ => ⟨S_, .f32⟩
  | .hbm, ⟨62, _⟩ => ⟨S16x128x128, .f32⟩
  | .hbm, ⟨63, _⟩ => ⟨S16x128x128, .f32⟩
  | .hbm, ⟨64, _⟩ => ⟨S16x32x128x128, .f32⟩
  | .hbm, ⟨65, _⟩ => ⟨S32x128x16x128, .f32⟩
  | .hbm, ⟨66, _⟩ => ⟨S1x128x16x128, .f32⟩
  | .hbm, ⟨67, _⟩ => ⟨S32x128x16x128, .f32⟩
  | .hbm, ⟨68, _⟩ => ⟨S32x128x16x128, .f32⟩
  | .hbm, ⟨69, _⟩ => ⟨S4096x2048, .f32⟩
  | .hbm, ⟨70, _⟩ => ⟨S4096x2048, .f32⟩
  | .hbm, ⟨71, _⟩ => ⟨S4096x2048, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_call0_v0 : Ref sig .tc := ⟨.hbm, 54, rfl⟩
abbrev main_call0_c : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_cst : Ref sig .tc := ⟨.hbm, 61, rfl⟩
abbrev main_call0_v6 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩

abbrev nD : Nat := 1
abbrev τ : Topo := Topo.v7x

variable {F : FTy → Type} [FloatOps F]
-- ==== Kernel23.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference23Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel24.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S4096x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_14 : BitVec 32 := 0#32
  let v34 : BitVec 1 := Scalar.cmpi .ne v33 c0_i32_14
  v34

def k0_cond2 (i : grid0.Coords) : BitVec 1 :=
  let arg0 : BitVec 32 := BitVec.ofNat 32 (i 0).val
  let c0_i32 : BitVec 32 := 0#32
  let v32 : BitVec 1 := Scalar.cmpi .eq arg0 c0_i32
  let v_true : BitVec 1 := 1#1
  let v35 : BitVec 1 := Scalar.xori v32 v_true
  let v36 : BitVec 32 := Scalar.extui v35
  let c0_i32_15 : BitVec 32 := 0#32
  let v37 : BitVec 1 := Scalar.cmpi .ne v36 c0_i32_15
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference24Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel25.lean ====
abbrev S4096x32 : Shape := ⟨2, ![4096, 32]⟩
abbrev S4096x1024 : Shape := ⟨2, ![4096, 1024]⟩
abbrev S32x1024 : Shape := ⟨2, ![32, 1024]⟩
abbrev S1024x32 : Shape := ⟨2, ![1024, 32]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x32, .f32⟩
  | .hbm, ⟨1, _⟩ => ⟨S4096x1024, .f32⟩
  | .hbm, ⟨2, _⟩ => ⟨S4096x1024, .bf16⟩
  | .hbm, ⟨3, _⟩ => ⟨S32x1024, .bf16⟩
  | .local _ .vmem, ⟨0, _⟩ => ⟨S1024x32, .f32⟩
  | .local _ .vmem, ⟨1, _⟩ => ⟨S1024x32, .f32⟩
  | .local _ .vmem, ⟨2, _⟩ => ⟨S1024x1024, .bf16⟩
  | .local _ .vmem, ⟨3, _⟩ => ⟨S1024x1024, .bf16⟩
  | .local _ .vmem, ⟨4, _⟩ => ⟨S32x1024, .bf16⟩
  | .local _ .vmem, ⟨5, _⟩ => ⟨S32x1024, .f32⟩
  | _, _ => ⟨S4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 1 → Memref sig .tc .vmem S32x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true, false]
-- ==== Reference25Ideal.lean ====
abbrev S4096x32 : Shape := ⟨2, ![4096, 32]⟩
abbrev S4096x1024 : Shape := ⟨2, ![4096, 1024]⟩
abbrev S_ : Shape := ⟨0, ![]⟩
abbrev S1024x32 : Shape := ⟨2, ![1024, 32]⟩
abbrev S32x1024 : Shape := ⟨2, ![32, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x32, .f32⟩
  | .hbm, ⟨1, _⟩ => ⟨S4096x1024, .f32⟩
  | .hbm, ⟨2, _⟩ => ⟨S_, .f32⟩
  | .hbm, ⟨3, _⟩ => ⟨S1024x32, .f32⟩
  | .hbm, ⟨4, _⟩ => ⟨S4096x32, .f32⟩
  | .hbm, ⟨5, _⟩ => ⟨S32x1024, .f32⟩
  | .hbm, ⟨6, _⟩ => ⟨S1024x32, .f32⟩
  | .hbm, ⟨7, _⟩ => ⟨S32x1024, .f32⟩
  | .hbm, ⟨8, _⟩ => ⟨S32x1024, .bf16⟩
  | _, _ => ⟨S4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel26.lean ====
abbrev S4096x32 : Shape := ⟨2, ![4096, 32]⟩
abbrev S4096x1024 : Shape := ⟨2, ![4096, 1024]⟩
abbrev S1024x6176 : Shape := ⟨2, ![1024, 6176]⟩
abbrev S6176x1024 : Shape := ⟨2, ![6176, 1024]⟩
abbrev S1024x32 : Shape := ⟨2, ![1024, 32]⟩
abbrev S32x1024 : Shape := ⟨2, ![32, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x32, .f32⟩
  | .hbm, ⟨1, _⟩ => ⟨S4096x1024, .f32⟩
  | .hbm, ⟨2, _⟩ => ⟨S1024x6176, .f32⟩
  | .hbm, ⟨3, _⟩ => ⟨S6176x1024, .f32⟩
  | .hbm, ⟨4, _⟩ => ⟨S6176x1024, .bf16⟩
  | .hbm, ⟨5, _⟩ => ⟨S4096x1024, .f32⟩
  | .local _ .vmem, ⟨0, _⟩ => ⟨S1024x32, .f32⟩
  | .local _ .vmem, ⟨1, _⟩ => ⟨S1024x32, .f32⟩
  | .local _ .vmem, ⟨2, _⟩ => ⟨S32x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨4, ![1, 4, 1, 1], ![false, false, false, false]⟩

def k0_cond2 (i : grid0.Coords) : BitVec 1 :=
  let arg3 : BitVec 32 := BitVec.ofNat 32 (i 3).val
  let c0_i32_8 : BitVec 32 := 0#32
  let v13 : BitVec 1 := Scalar.cmpi .eq arg3 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c192_i32 : BitVec 32 := 192#32
  let v0 : BitVec 32 := Scalar.addi arg3 c192_i32
  let c0_i32 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 1 → Memref sig .tc .vmem S32x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true, false]
-- ==== Reference26Ideal.lean ====
abbrev S4096x32 : Shape := ⟨2, ![4096, 32]⟩
abbrev S4096x1024 : Shape := ⟨2, ![4096, 1024]⟩
abbrev S1024x6176 : Shape := ⟨2, ![1024, 6176]⟩
abbrev S_ : Shape := ⟨0, ![]⟩
abbrev S4096x6176 : Shape := ⟨2, ![4096, 6176]⟩

abbrev nBuf : Space → Nat
  | .hbm => 11
  | .vmem => 0
  | .smem => 0
  | _ => 0

abbrev bufTy : (tb : Table) → Fin (tcTables nBuf tb) → BufTy
  | .hbm, ⟨0, _⟩ => ⟨S4096x32, .f32⟩
  | .hbm, ⟨1, _⟩ => ⟨S4096x1024, .f32⟩
  | .hbm, ⟨2, _⟩ => ⟨S1024x6176, .f32⟩
  | .hbm, ⟨3, _⟩ => ⟨S_, .f32⟩
  | .hbm, ⟨4, _⟩ => ⟨S4096x1024, .f32⟩
  | .hbm, ⟨5, _⟩ => ⟨S4096x6176, .f32⟩
  | .hbm, ⟨6, _⟩ => ⟨S4096x32, .f32⟩
  | .hbm, ⟨7, _⟩ => ⟨S_, .f32⟩
  | .hbm, ⟨8, _⟩ => ⟨S4096x6176, .f32⟩
  | .hbm, ⟨9, _⟩ => ⟨S4096x1024, .f32⟩
  | .hbm, ⟨10, _⟩ => ⟨S4096x1024, .f32⟩
  | _, _ => ⟨S4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel27.lean ====
abbrev S4096x1024 : Shape := ⟨2, ![4096, 1024]⟩
abbrev S1024x6176 : Shape := ⟨2, ![1024, 6176]⟩
abbrev S6176x1024 : Shape := ⟨2, ![6176, 1024]⟩
abbrev S4096x32 : Shape := ⟨2, ![4096, 32]⟩
abbrev S1024x1024 : Shape := ⟨2, ![1024, 1024]⟩
abbrev S32x1024 : Shape := ⟨2, ![32, 1024]⟩
abbrev S1024x32 : Shape := ⟨2, ![1024, 32]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x6176, .f32⟩
  | .hbm, ⟨2, _⟩ => ⟨S4096x1024, .bf16⟩
  | .hbm, ⟨3, _⟩ => ⟨S6176x1024, .f32⟩
  | .hbm, ⟨4, _⟩ => ⟨S6176x1024, .bf16⟩
  | .hbm, ⟨5, _⟩ => ⟨S4096x32, .f32⟩
  | .local _ .vmem, ⟨0, _⟩ => ⟨S1024x1024, .bf16⟩
  | .local _ .vmem, ⟨1, _⟩ => ⟨S1024x1024, .bf16⟩
  | .local _ .vmem, ⟨2, _⟩ => ⟨S32x1024, .bf16⟩
  | .local _ .vmem, ⟨3, _⟩ => ⟨S1024x32, .f32⟩
  | .local _ .vmem, ⟨4, _⟩ => ⟨S1024x32, .f32⟩
  | .local _ .vmem, ⟨5, _⟩ => ⟨S1024x32, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 4, 1, 1], ![false, false, false, false]⟩

def k0_cond2 (i : grid0.Coords) : BitVec 1 :=
  let arg3 : BitVec 32 := BitVec.ofNat 32 (i 3).val
  let c0_i32_8 : BitVec 32 := 0#32
  let v13 : BitVec 1 := Scalar.cmpi .eq arg3 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c192_i32 : BitVec 32 := 192#32
  let v0 : BitVec 32 := Scalar.addi arg2 c192_i32
  let c0_i32 : BitVec 32 := 0#32
  ![v0.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 1 → Memref sig .tc .vmem S32x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference27Ideal.lean ====
abbrev S4096x1024 : Shape := ⟨2, ![4096, 1024]⟩
abbrev S1024x6176 : Shape := ⟨2, ![1024, 6176]⟩
abbrev S4096x6176 : Shape := ⟨2, ![4096, 6176]⟩
abbrev S4096x32 : Shape := ⟨2, ![4096, 32]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x6176, .f32⟩
  | .hbm, ⟨2, _⟩ => ⟨S4096x6176, .f32⟩
  | .hbm, ⟨3, _⟩ => ⟨S4096x32, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel28.lean ====
abbrev S4096x1024 : Shape := ⟨2, ![4096, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1x1024, .f32⟩
  | .hbm, ⟨4, _⟩ => ⟨S4096x1024, .f32⟩
  | .hbm, ⟨5, _⟩ => ⟨S1x128, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S1x128, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v56 : BitVec 1 := Scalar.cmpi .eq arg0 c0_i32
  let v57 : BitVec 32 := Scalar.extui v56
  let c0_i32_20 : BitVec 32 := 0#32
  let v58 : BitVec 1 := Scalar.cmpi .ne v57 c0_i32_20
  v58

def k0_cond2 (i : grid0.Coords) : BitVec 1 :=
  let arg0 : BitVec 32 := BitVec.ofNat 32 (i 0).val
  let c0_i32 : BitVec 32 := 0#32
  let v56 : BitVec 1 := Scalar.cmpi .eq arg0 c0_i32
  let v_true : BitVec 1 := 1#1
  let v59 : BitVec 1 := Scalar.xori v56 v_true
  let v60 : BitVec 32 := Scalar.extui v59
  let c0_i32_21 : BitVec 32 := 0#32
  let v61 : BitVec 1 := Scalar.cmpi .ne v60 c0_i32_21
  v61

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference28Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S1x128, .f32⟩
  | .hbm, ⟨72, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel29.lean ====
abbrev S4096x32 : Shape := ⟨2, ![4096, 32]⟩
abbrev S32 : Shape := ⟨1, ![32]⟩
abbrev S1x32 : Shape := ⟨2, ![1, 32]⟩
abbrev S512x32 : Shape := ⟨2, ![512, 32]⟩

abbrev nBuf : Space → Nat
  | .hbm => 6
  | .vmem => 8
  | .smem => 0
  | _ => 0

abbrev bufTy : (tb : Table) → Fin (tcTables nBuf tb) → BufTy
  | .hbm, ⟨0, _⟩ => ⟨S4096x32, .f32⟩
  | .hbm, ⟨1, _⟩ => ⟨S4096x32, .f32⟩
  | .hbm, ⟨2, _⟩ => ⟨S32, .f32⟩
  | .hbm, ⟨3, _⟩ => ⟨S1x32, .f32⟩
  | .hbm, ⟨4, _⟩ => ⟨S4096x32, .f32⟩
  | .hbm, ⟨5, _⟩ => ⟨S1x32, .f32⟩
  | .local _ .vmem, ⟨0, _⟩ => ⟨S512x32, .f32⟩
  | .local _ .vmem, ⟨1, _⟩ => ⟨S512x32, .f32⟩
  | .local _ .vmem, ⟨2, _⟩ => ⟨S512x32, .f32⟩
  | .local _ .vmem, ⟨3, _⟩ => ⟨S512x32, .f32⟩
  | .local _ .vmem, ⟨4, _⟩ => ⟨S1x32, .f32⟩
  | .local _ .vmem, ⟨5, _⟩ => ⟨S512x32, .f32⟩
  | .local _ .vmem, ⟨6, _⟩ => ⟨S512x32, .f32⟩
  | .local _ .vmem, ⟨7, _⟩ => ⟨S1x32, .f32⟩
  | _, _ => ⟨S4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v17 : BitVec 1 := Scalar.cmpi .eq arg0 c0_i32
  let v18 : BitVec 32 := Scalar.extui v17
  let c0_i32_10 : BitVec 32 := 0#32
  let v19 : BitVec 1 := Scalar.cmpi .ne v18 c0_i32_10
  v19

def k0_cond2 (i : grid0.Coords) : BitVec 1 :=
  let arg0 : BitVec 32 := BitVec.ofNat 32 (i 0).val
  let c0_i32 : BitVec 32 := 0#32
  let v17 : BitVec 1 := Scalar.cmpi .eq arg0 c0_i32
  let v_true : BitVec 1 := 1#1
  let v20 : BitVec 1 := Scalar.xori v17 v_true
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference29Ideal.lean ====
abbrev S4096x32 : Shape := ⟨2, ![4096, 32]⟩
abbrev S32 : Shape := ⟨1, ![32]⟩
abbrev S1x32 : Shape := ⟨2, ![1, 32]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S4096x32, .f32⟩
  | .hbm, ⟨1, _⟩ => ⟨S4096x32, .f32⟩
  | .hbm, ⟨2, _⟩ => ⟨S32, .f32⟩
  | .hbm, ⟨3, _⟩ => ⟨S1x32, .f32⟩
  | .hbm, ⟨4, _⟩ => ⟨S4096x32, .f32⟩
  | .hbm, ⟨5, _⟩ => ⟨S4096x32, .f32⟩
  | .hbm, ⟨6, _⟩ => ⟨S_, .f32⟩
  | .hbm, ⟨7, _⟩ => ⟨S4096x32, .f32⟩
  | .hbm, ⟨8, _⟩ => ⟨S4096x32, .f32⟩
  | .hbm, ⟨9, _⟩ => ⟨S4096x32, .f32⟩
  | .hbm, ⟨10, _⟩ => ⟨S4096x32, .f32⟩
  | .hbm, ⟨11, _⟩ => ⟨S4096x32, .i1⟩
  | .hbm, ⟨12, _⟩ => ⟨S4096x32, .f32⟩
  | .hbm, ⟨13, _⟩ => ⟨S4096x32, .f32⟩
  | .hbm, ⟨14, _⟩ => ⟨S4096x32, .f32⟩
  | .hbm, ⟨15, _⟩ => ⟨S4096x32, .f32⟩
  | .hbm, ⟨16, _⟩ => ⟨S4096x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S_, .f32⟩
  | .hbm, ⟨21, _⟩ => ⟨S4096x32, .f32⟩
  | .hbm, ⟨22, _⟩ => ⟨S4096x32, .i1⟩
  | .hbm, ⟨23, _⟩ => ⟨S_, .f32⟩
  | .hbm, ⟨24, _⟩ => ⟨S4096x32, .f32⟩
  | .hbm, ⟨25, _⟩ => ⟨S4096x32, .f32⟩
  | .hbm, ⟨26, _⟩ => ⟨S_, .f32⟩
  | .hbm, ⟨27, _⟩ => ⟨S4096x32, .f32⟩
  | .hbm, ⟨28, _⟩ => ⟨S4096x32, .i1⟩
  | .hbm, ⟨29, _⟩ => ⟨S_, .f32⟩
  | .hbm, ⟨30, _⟩ => ⟨S4096x32, .f32⟩
  | .hbm, ⟨31, _⟩ => ⟨S4096x32, .f32⟩
  | .hbm, ⟨32, _⟩ => ⟨S4096x32, .f32⟩
  | .hbm, ⟨33, _⟩ => ⟨S4096x32, .f32⟩
  | .hbm, ⟨34, _⟩ => ⟨S_, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096x32, .f32⟩
  | .hbm, ⟨42, _⟩ => ⟨S4096x32, .i1⟩
  | .hbm, ⟨43, _⟩ => ⟨S_, .f32⟩
  | .hbm, ⟨44, _⟩ => ⟨S4096x32, .f32⟩
  | .hbm, ⟨45, _⟩ => ⟨S4096x32, .f32⟩
  | .hbm, ⟨46, _⟩ => ⟨S4096x32, .f32⟩
  | .hbm, ⟨47, _⟩ => ⟨S4096x32, .f32⟩
  | .hbm, ⟨48, _⟩ => ⟨S4096x32, .f32⟩
  | .hbm, ⟨49, _⟩ => ⟨S_, .f32⟩
  | .hbm, ⟨50, _⟩ => ⟨S4096x32, .f32⟩
  | .hbm, ⟨51, _⟩ => ⟨S4096x32, .f32⟩
  | .hbm, ⟨52, _⟩ => ⟨S4096x32, .f32⟩
  | .hbm, ⟨53, _⟩ => ⟨S4096x32, .f32⟩
  | .hbm, ⟨54, _⟩ => ⟨S4096x32, .f32⟩
  | .hbm, ⟨55, _⟩ => ⟨S_, .f32⟩
  | .hbm, ⟨56, _⟩ => ⟨S32, .f32⟩
  | .hbm, ⟨57, _⟩ => ⟨S1x32, .f32⟩
  | .hbm, ⟨58, _⟩ => ⟨S_, .f32⟩
  | .hbm, ⟨59, _⟩ => ⟨S32, .f32⟩
  | .hbm, ⟨60, _⟩ => ⟨S1x32, .f32⟩
  | _, _ => ⟨S4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_v3_0 : Ref sig .tc := ⟨.hbm, 19, rfl⟩
abbrev main_call0_cst_0 : Ref sig .tc := ⟨.hbm, 20, rfl⟩
abbrev main_call0_v13 : Ref sig .tc := ⟨.hbm, 21, rfl⟩
abbrev main_call0_v14 : Ref sig .tc := ⟨.hbm, 22, rfl⟩
abbrev main_call0_cst_1 : Ref sig .tc := ⟨.hbm, 23, rfl⟩
abbrev main_call0_v15 : Ref sig .tc := ⟨.hbm, 24, rfl⟩
abbrev main_call0_v16 : Ref sig .tc := ⟨.hbm, 25, rfl⟩
abbrev main_call0_cst_2 : Ref sig .tc := ⟨.hbm, 26, rfl⟩
abbrev main_call0_v17 : Ref sig .tc := ⟨.hbm, 27, rfl⟩
abbrev main_call0_v18 : Ref sig .tc := ⟨.hbm, 28, rfl⟩
abbrev main_call0_cst_3 : Ref sig .tc := ⟨.hbm, 29, rfl⟩
abbrev main_call0_v19 : Ref sig .tc := ⟨.hbm, 30, rfl⟩
abbrev main_call0_v20 : Ref sig .tc := ⟨.hbm, 31, rfl⟩
abbrev main_call0_v21 : Ref sig .tc := ⟨.hbm, 32, rfl⟩
abbrev main_v3_1 : Ref sig .tc := ⟨.hbm, 33, rfl⟩
abbrev main_call0_cst_4 : Ref sig .tc := ⟨.hbm, 34, rfl⟩
abbrev main_call0_cst_5 : Ref sig .tc := ⟨.hbm, 35, rfl⟩
abbrev main_call0_v23 : Ref sig .tc := ⟨.hbm, 36, rfl⟩
abbrev main_call0_cst_6 : Ref sig .tc := ⟨.hbm, 37, rfl⟩
abbrev main_call0_cst_7 : Ref sig .tc := ⟨.hbm, 38, rfl⟩
abbrev main_call0_v24 : Ref sig .tc := ⟨.hbm, 39, rfl⟩
abbrev main_call0_cst_8 : Ref sig .tc := ⟨.hbm, 40, rfl⟩
abbrev main_call0_v25 : Ref sig .tc := ⟨.hbm, 41, rfl⟩
abbrev main_call0_v26 : Ref sig .tc := ⟨.hbm, 42, rfl⟩
abbrev main_call0_cst_9 : Ref sig .tc := ⟨.hbm, 43, rfl⟩
abbrev main_call0_v27 : Ref sig .tc := ⟨.hbm, 44, rfl⟩
abbrev main_call0_v28 : Ref sig .tc := ⟨.hbm, 45, rfl⟩
abbrev main_call0_v29 : Ref sig .tc := ⟨.hbm, 46, rfl⟩
abbrev main_call0_v30 : Ref sig .tc := ⟨.hbm, 47, rfl⟩
abbrev main_call0_v31 : Ref sig .tc := ⟨.hbm, 48, rfl⟩
abbrev main_call0_cst_10 : Ref sig .tc := ⟨.hbm, 49, rfl⟩
abbrev main_call0_v32 : Ref sig .tc := ⟨.hbm, 50, rfl⟩
abbrev main_v3_2 : Ref sig .tc := ⟨.hbm, 51, rfl⟩
abbrev main_call1_v0 : Ref sig .tc := ⟨.hbm, 52, rfl⟩
abbrev main_call1_v1 : Ref sig .tc := ⟨.hbm, 53, rfl⟩
abbrev main_v4 : Ref sig .tc := ⟨.hbm, 54, rfl⟩
abbrev main_cst : Ref sig .tc := ⟨.hbm, 55, rfl⟩
abbrev main_v5 : Ref sig .tc := ⟨.hbm, 56, rfl⟩
abbrev main_v6 : Ref sig .tc := ⟨.hbm, 57, rfl⟩
abbrev main_cst_0 : Ref sig .tc := ⟨.hbm, 58, rfl⟩
abbrev main_v7 : Ref sig .tc := ⟨.hbm, 59, rfl⟩
abbrev main_v8 : Ref sig .tc := ⟨.hbm, 60, rfl⟩

abbrev nD : Nat := 1
abbrev τ : Topo := Topo.v7x

variable {F : FTy → Type} [FloatOps F]
-- ==== Kernel30.lean ====
abbrev S4096x32 : Shape := ⟨2, ![4096, 32]⟩
abbrev S32 : Shape := ⟨1, ![32]⟩
abbrev S32x2048 : Shape := ⟨2, ![32, 2048]⟩
abbrev S_ : Shape := ⟨0, ![]⟩
abbrev S1x32 : Shape := ⟨2, ![1, 32]⟩
abbrev S4096x2048 : Shape := ⟨2, ![4096, 2048]⟩
abbrev S512x32 : Shape := ⟨2, ![512, 32]⟩
abbrev S512x2048 : Shape := ⟨2, ![512, 2048]⟩

abbrev nBuf : Space → Nat
  | .hbm => 27
  | .vmem => 8
  | .smem => 0
  | _ => 0

abbrev bufTy : (tb : Table) → Fin (tcTables nBuf tb) → BufTy
  | .hbm, ⟨0, _⟩ => ⟨S4096x32, .f32⟩
  | .hbm, ⟨1, _⟩ => ⟨S32, .f32⟩
  | .hbm, ⟨2, _⟩ => ⟨S32x2048, .i32⟩
  | .hbm, ⟨3, _⟩ => ⟨S32x2048, .i32⟩
  | .hbm, ⟨4, _⟩ => ⟨S_, .i32⟩
  | .hbm, ⟨5, _⟩ => ⟨S_, .i32⟩
  | .hbm, ⟨6, _⟩ => ⟨S32x2048, .i32⟩
  | .hbm, ⟨7, _⟩ => ⟨S32x2048, .i32⟩
  | .hbm, ⟨8, _⟩ => ⟨S32x2048, .i32⟩
  | .hbm, ⟨9, _⟩ => ⟨S_, .i32⟩
  | .hbm, ⟨10, _⟩ => ⟨S32x2048, .i32⟩
  | .hbm, ⟨11, _⟩ => ⟨S32x2048, .i1⟩
  | .hbm, ⟨12, _⟩ => ⟨S32x2048, .i32⟩
  | .hbm, ⟨13, _⟩ => ⟨S32x2048, .i32⟩
  | .hbm, ⟨14, _⟩ => ⟨S_, .i32⟩
  | .hbm, ⟨15, _⟩ => ⟨S32x2048, .i32⟩
  | .hbm, ⟨16, _⟩ => ⟨S32x2048, .i1⟩
  | .hbm, ⟨17, _⟩ => ⟨S32x2048, .i1⟩
  | .hbm, ⟨18, _⟩ => ⟨S_, .i32⟩
  | .hbm, ⟨19, _⟩ => ⟨S32x2048, .i32⟩
  | .hbm, ⟨20, _⟩ => ⟨S32x2048, .i32⟩
  | .hbm, ⟨21, _⟩ => ⟨S32x2048, .i32⟩
  | .hbm, ⟨22, _⟩ => ⟨S32x2048, .i1⟩
  | .hbm, ⟨23, _⟩ => ⟨S32x2048, .f32⟩
  | .hbm, ⟨24, _⟩ => ⟨S1x32, .f32⟩
  | .hbm, ⟨25, _⟩ => ⟨S4096x32, .f32⟩
  | .hbm, ⟨26, _⟩ => ⟨S4096x2048, .f32⟩
  | .local _ .vmem, ⟨0, _⟩ => ⟨S512x32, .f32⟩
  | .local _ .vmem, ⟨1, _⟩ => ⟨S512x32, .f32⟩
  | .local _ .vmem, ⟨2, _⟩ => ⟨S1x32, .f32⟩
  | .local _ .vmem, ⟨3, _⟩ => ⟨S32x2048, .f32⟩
  | .local _ .vmem, ⟨4, _⟩ => ⟨S512x32, .f32⟩
  | .local _ .vmem, ⟨5, _⟩ => ⟨S512x32, .f32⟩
  | .local _ .vmem, ⟨6, _⟩ => ⟨S512x2048, .f32⟩
  | .local _ .vmem, ⟨7, _⟩ => ⟨S512x2048, .f32⟩
  | _, _ => ⟨S4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6_0 : Ref sig .tc := ⟨.hbm, 25, rfl⟩
abbrev main_v6_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference30Ideal.lean ====
abbrev S4096x32 : Shape := ⟨2, ![4096, 32]⟩
abbrev S32 : Shape := ⟨1, ![32]⟩
abbrev S1x32 : Shape := ⟨2, ![1, 32]⟩
abbrev S_ : Shape := ⟨0, ![]⟩
abbrev S4096x32x1 : Shape := ⟨3, ![4096, 32, 1]⟩
abbrev S4096x32x64 : Shape := ⟨3, ![4096, 32, 64]⟩
abbrev S4096x2048 : Shape := ⟨2, ![4096, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4096x32, .f32⟩
  | .hbm, ⟨1, _⟩ => ⟨S32, .f32⟩
  | .hbm, ⟨2, _⟩ => ⟨S1x32, .f32⟩
  | .hbm, ⟨3, _⟩ => ⟨S4096x32, .f32⟩
  | .hbm, ⟨4, _⟩ => ⟨S4096x32, .f32⟩
  | .hbm, ⟨5, _⟩ => ⟨S_, .f32⟩
  | .hbm, ⟨6, _⟩ => ⟨S4096x32, .f32⟩
  | .hbm, ⟨7, _⟩ => ⟨S4096x32, .f32⟩
  | .hbm, ⟨8, _⟩ => ⟨S4096x32, .f32⟩
  | .hbm, ⟨9, _⟩ => ⟨S4096x32, .f32⟩
  | .hbm, ⟨10, _⟩ => ⟨S4096x32, .i1⟩
  | .hbm, ⟨11, _⟩ => ⟨S4096x32, .f32⟩
  | .hbm, ⟨12, _⟩ => ⟨S4096x32, .f32⟩
  | .hbm, ⟨13, _⟩ => ⟨S4096x32, .f32⟩
  | .hbm, ⟨14, _⟩ => ⟨S4096x32, .f32⟩
  | .hbm, ⟨15, _⟩ => ⟨S4096x32, .f32⟩
  | .hbm, ⟨16, _⟩ => ⟨S4096x32, .f32⟩
  | .hbm, ⟨17, _⟩ => ⟨S4096x32, .f32⟩
  | .hbm, ⟨18, _⟩ => ⟨S4096x32, .f32⟩
  | .hbm, ⟨19, _⟩ => ⟨S4096x32x1, .f32⟩
  | .hbm, ⟨20, _⟩ => ⟨S4096x32x64, .f32⟩
  | .hbm, ⟨21, _⟩ => ⟨S4096x2048, .f32⟩
  | _, _ => ⟨S4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩

abbrev nD : Nat := 1
abbrev τ : Topo := Topo.v7x

variable {F : FTy → Type} [FloatOps F]
-- ==== Kernel31.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256x256 : Shape := ⟨2, ![256, 256]⟩
abbrev S1x256 : Shape := ⟨2, ![1, 256]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S1x2048, .f32⟩
  | .hbm, ⟨4, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference31Ideal.lean ====
abbrev S4096x2048 : Shape := ⟨2, ![4096, 2048]⟩
abbrev S2048 : Shape := ⟨1, ![2048]⟩
abbrev S_ : Shape := ⟨0, ![]⟩
abbrev S4096x8x256 : Shape := ⟨3, ![4096, 8, 256]⟩
abbrev S4096x8 : Shape := ⟨2, ![4096, 8]⟩
abbrev S4096x8x1 : Shape := ⟨3, ![4096, 8, 1]⟩
abbrev S1x2048 : Shape := ⟨2, ![1, 2048]⟩

abbrev nBuf : Space → Nat
  | .hbm => 32
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x8x256, .f32⟩
  | .hbm, ⟨14, _⟩ => ⟨S4096x8x256, .f32⟩
  | .hbm, ⟨15, _⟩ => ⟨S_, .f32⟩
  | .hbm, ⟨16, _⟩ => ⟨S4096x8, .f32⟩
  | .hbm, ⟨17, _⟩ => ⟨S4096x8x1, .f32⟩
  | .hbm, ⟨18, _⟩ => ⟨S_, .f32⟩
  | .hbm, ⟨19, _⟩ => ⟨S4096x8x1, .f32⟩
  | .hbm, ⟨20, _⟩ => ⟨S4096x8x1, .f32⟩
  | .hbm, ⟨21, _⟩ => ⟨S_, .f32⟩
  | .hbm, ⟨22, _⟩ => ⟨S4096x8x1, .f32⟩
  | .hbm, ⟨23, _⟩ => ⟨S4096x8x1, .f32⟩
  | .hbm, ⟨24, _⟩ => ⟨S4096x8x1, .f32⟩
  | .hbm, ⟨25, _⟩ => ⟨S4096x8x256, .f32⟩
  | .hbm, ⟨26, _⟩ => ⟨S4096x8x256, .f32⟩
  | .hbm, ⟨27, _⟩ => ⟨S4096x2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩

abbrev nD : Nat := 1
abbrev τ : Topo := Topo.v7x

variable {F : FTy → Type} [FloatOps F]
-- ==== Kernel32.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256x256 : Shape := ⟨2, ![256, 256]⟩
abbrev S1x256 : Shape := ⟨2, ![1, 256]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048, .f32⟩
  | .hbm, ⟨4, _⟩ => ⟨S1x2048, .f32⟩
  | .hbm, ⟨5, _⟩ => ⟨S4096x2048, .f32⟩
  | .hbm, ⟨6, _⟩ => ⟨S4096x2048, .f32⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v258 : BitVec 1 := Scalar.cmpi .eq arg0 c0_i32
  let v259 : BitVec 32 := Scalar.extui v258
  let c0_i32_66 : BitVec 32 := 0#32
  let v260 : BitVec 1 := Scalar.cmpi .ne v259 c0_i32_66
  v260

def k0_cond2 (i : grid0.Coords) : BitVec 1 :=
  let arg0 : BitVec 32 := BitVec.ofNat 32 (i 0).val
  let c0_i32 : BitVec 32 := 0#32
  let v258 : BitVec 1 := Scalar.cmpi .eq arg0 c0_i32
  let v_true : BitVec 1 := 1#1
  let v261 : BitVec 1 := Scalar.xori v258 v_true
  let v262 : BitVec 32 := Scalar.extui v261
  let c0_i32_67 : BitVec 32 := 0#32
  let v263 : BitVec 1 := Scalar.cmpi .ne v262 c0_i32_67
  v263

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference32Ideal.lean ====
abbrev S4096x2048 : Shape := ⟨2, ![4096, 2048]⟩
abbrev S2048 : Shape := ⟨1, ![2048]⟩
abbrev S_ : Shape := ⟨0, ![]⟩
abbrev S4096x8x256 : Shape := ⟨3, ![4096, 8, 256]⟩
abbrev S4096x8 : Shape := ⟨2, ![4096, 8]⟩
abbrev S4096x8x1 : Shape := ⟨3, ![4096, 8, 1]⟩
abbrev S1x2048 : Shape := ⟨2, ![1, 2048]⟩

abbrev nBuf : Space → Nat
  | .hbm => 74
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x8x256, .f32⟩
  | .hbm, ⟨19, _⟩ => ⟨S4096x8x256, .f32⟩
  | .hbm, ⟨20, _⟩ => ⟨S_, .f32⟩
  | .hbm, ⟨21, _⟩ => ⟨S4096x8, .f32⟩
  | .hbm, ⟨22, _⟩ => ⟨S4096x8x1, .f32⟩
  | .hbm, ⟨23, _⟩ => ⟨S_, .f32⟩
  | .hbm, ⟨24, _⟩ => ⟨S4096x8x1, .f32⟩
  | .hbm, ⟨25, _⟩ => ⟨S4096x8x1, .f32⟩
  | .hbm, ⟨26, _⟩ => ⟨S_, .f32⟩
  | .hbm, ⟨27, _⟩ => ⟨S4096x8x1, .f32⟩
  | .hbm, ⟨28, _⟩ => ⟨S4096x8x1, .f32⟩
  | .hbm, ⟨29, _⟩ => ⟨S4096x8x1, .f32⟩
  | .hbm, ⟨30, _⟩ => ⟨S4096x8x1, .f32⟩
  | .hbm, ⟨31, _⟩ => ⟨S_, .f32⟩
  | .hbm, ⟨32, _⟩ => ⟨S4096x8x1, .f32⟩
  | .hbm, ⟨33, _⟩ => ⟨S4096x8x1, .f32⟩
  | .hbm, ⟨34, _⟩ => ⟨S4096x8x256, .f32⟩
  | .hbm, ⟨35, _⟩ => ⟨S4096x8x256, .f32⟩
  | .hbm, ⟨36, _⟩ => ⟨S4096x2048, .f32⟩
  | .hbm, ⟨37, _⟩ => ⟨S1x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S2048, .f32⟩
  | .hbm, ⟨43, _⟩ => ⟨S1x2048, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S2048, .f32⟩
  | .hbm, ⟨48, _⟩ => ⟨S4096x8x256, .f32⟩
  | .hbm, ⟨49, _⟩ => ⟨S4096x8x256, .f32⟩
  | .hbm, ⟨50, _⟩ => ⟨S_, .f32⟩
  | .hbm, ⟨51, _⟩ => ⟨S4096x8, .f32⟩
  | .hbm, ⟨52, _⟩ => ⟨S4096x8x1, .f32⟩
  | .hbm, ⟨53, _⟩ => ⟨S4096x8x256, .f32⟩
  | .hbm, ⟨54, _⟩ => ⟨S4096x8x256, .f32⟩
  | .hbm, ⟨55, _⟩ => ⟨S4096x8x1, .f32⟩
  | .hbm, ⟨56, _⟩ => ⟨S_, .f32⟩
  | .hbm, ⟨57, _⟩ => ⟨S4096x8x1, .f32⟩
  | .hbm, ⟨58, _⟩ => ⟨S4096x8x1, .f32⟩
  | .hbm, ⟨59, _⟩ => ⟨S_, .f32⟩
  | .hbm, ⟨60, _⟩ => ⟨S4096x8, .f32⟩
  | .hbm, ⟨61, _⟩ => ⟨S4096x8x256, .f32⟩
  | .hbm, ⟨62, _⟩ => ⟨S4096x8x256, .f32⟩
  | .hbm, ⟨63, _⟩ => ⟨S4096x8x256, .f32⟩
  | .hbm, ⟨64, _⟩ => ⟨S4096x8x256, .f32⟩
  | .hbm, ⟨65, _⟩ => ⟨S4096x8x256, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_4 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_5 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_6 : Ref sig .tc := ⟨.hbm, 56, rfl⟩
abbrev main_v33 : Ref sig .tc := ⟨.hbm, 57, rfl⟩
abbrev main_v34 : Ref sig .tc := ⟨.hbm, 58, rfl⟩
abbrev main_cst_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v44 : Ref sig .tc := ⟨.hbm, 72, rfl⟩
abbrev main_v45 : Ref sig .tc := ⟨.hbm, 73, rfl⟩

abbrev nD : Nat := 1
abbrev τ : Topo := Topo.v7x

variable {F : FTy → Type} [FloatOps F]
-- ==== Proof.Spec.lean ====
module

public import Idealize.ShloMosaic.Lib.Pointwise
public import Idealize.ShloMosaic.PureOps.Ideal.Laws

/-! The mathematics of the gradient of one chunked gMLP mixer, over the extended reals, one chunk of 128 rows at a
    time. A chunk is given by the rows `x` of the gelu's argument (the projection plus its bias), the rows `D` of the
    incoming gradient, the layer norm's weight and bias, the spatial weights `W` (one 128×128 matrix per group) and the
    spatial bias `bs` (laid out over the 2048 columns). -/

@[expose] public section
noncomputable section
open Idealize.ShloMosaic
namespace Cert.Gmlp

/-- One half. -/
abbrev cHalf : EReal := ((1 / 2 : ℝ) : EReal)
/-- Minus one half. -/
abbrev cNegHalf : EReal := ((-(1 / 2) : ℝ) : EReal)
/-- The number of columns that the layer norm averages over. -/
abbrev cN : EReal := ((2048 : ℝ) : EReal)
/-- The layer norm's epsilon: the rational that the float word of `1e-5` is. -/
abbrev rEps : ℝ := 10995116 / 2 ^ 40
abbrev cEps : EReal := (rEps : EReal)
/-- `1/√2`. -/
abbrev cRoot : EReal := (((Real.sqrt 2)⁻¹ : ℝ) : EReal)
/-- `1/√(2π)`. -/
abbrev cGauss : EReal := (((Real.sqrt (2 * Real.pi))⁻¹ : ℝ) : EReal)

theorem ofBits_half : Ideal.ofBits .f32 0x3F000000#32 = cHalf := by
  simp [Ideal.ofBits, Ideal.ieee]; norm_num; rw [← EReal.coe_mul]; congr 1; norm_num
theorem ofBits_negHalf : Ideal.ofBits .f32 0xBF000000#32 = cNegHalf := by
  simp [Ideal.ofBits, Ideal.ieee, -EReal.coe_neg]; norm_num
theorem ofBits_n : Ideal.ofBits .f32 0x45000000#32 = cN := by
  simp [Ideal.ofBits, Ideal.ieee]; norm_num; rw [← EReal.coe_mul]; congr 1; norm_num
theorem ofBits_eps : Ideal.ofBits .f32 0x3727C5AC#32 = cEps := by
  simp [Ideal.ofBits, Ideal.ieee]; norm_num; rw [← EReal.coe_mul]; congr 1; norm_num [rEps]

/-- The group of a column, and the column of a group's lane. -/
def grp (j : Fin 2048) : Fin 16 := ⟨j.val / 128, by omega⟩
def col (g : Fin 16) (d : Fin 128) : Fin 2048 := ⟨128 * g.val + d.val, by omega⟩
/-- The columns of the gated half and of the normalised half among the 4096. -/
def lo (j : Fin 2048) : Fin 4096 := ⟨j.val, by omega⟩
def hi (j : Fin 2048) : Fin 4096 := ⟨2048 + j.val, by omega⟩

/-- The exact gelu, and its derivative. -/
def gelu (x : EReal) : EReal := cHalf * x * (1 + Ideal.erf (x * cRoot))
def dgelu (x : EReal) : EReal := cHalf * (1 + Ideal.erf (x * cRoot)) + x * Ideal.exp (cNegHalf * x * x) * cGauss

/-- The mean of 2048 entries. -/
def mean (f : Fin 2048 → EReal) : EReal := Ideal.div (∑ j, f j) cN

/-- One row: the gated half, the normalised half before and after centring, the reciprocal deviation, the normalised
    row, and the layer norm's result. -/
def uu (x : Fin 4096 → EReal) (j : Fin 2048) : EReal := gelu (x (lo j))
def vp (x : Fin 4096 → EReal) (j : Fin 2048) : EReal := gelu (x (hi j))
def xc (x : Fin 4096 → EReal) (j : Fin 2048) : EReal := vp x j - mean (vp x)
def rstd (x : Fin 4096 → EReal) : EReal := Ideal.rsqrt (mean (fun j => xc x j * xc x j) + cEps)
def vhat (x : Fin 4096 → EReal) (j : Fin 2048) : EReal := xc x j * rstd x
def vv (x : Fin 4096 → EReal) (lw lb : Fin 2048 → EReal) (j : Fin 2048) : EReal := vhat x j * lw j + lb j

/-- The causal spatial weights: zero above the diagonal. -/
def wt (W : Fin 16 → Fin 128 → Fin 128 → EReal) (g : Fin 16) (t s : Fin 128) : EReal := if s ≤ t then W g t s else 0

/-- The mixed rows of a chunk: row `t` takes the rows up to `t`. -/
def mixed (W : Fin 16 → Fin 128 → Fin 128 → EReal) (bs V : Fin 128 → Fin 2048 → EReal) (t : Fin 128) (j : Fin 2048) : EReal :=
  (∑ s, wt W (grp j) t s * V s j) + bs t j

/-- The gradient of the layer norm's result: the spatial weights transposed, applied to the mixed rows' gradient. -/
def dvv (W : Fin 16 → Fin 128 → Fin 128 → EReal) (M : Fin 128 → Fin 2048 → EReal) (s : Fin 128) (j : Fin 2048) : EReal :=
  ∑ t, wt W (grp j) t s * M t j

/-- The chunk's part of the gradient of the spatial weights. -/
def dws (M V : Fin 128 → Fin 2048 → EReal) (g : Fin 16) (t s : Fin 128) : EReal :=
  if s ≤ t then ∑ d, M t (col g d) * V s (col g d) else 0

/-- The gradient through the layer norm of one row: `r` the reciprocal deviation, `vh` the normalised row, `Y` the
    gradient of the layer norm's result. -/
def dvp (r : EReal) (vh lw Y : Fin 2048 → EReal) (j : Fin 2048) : EReal :=
  r * (Y j * lw j - mean (fun k => Y k * lw k) - vh j * mean (fun k => Y k * lw k * vh k))

/-- The two halves of a row put side by side. -/
def side (a b : Fin 2048 → EReal) (k : Fin 4096) : EReal :=
  if h : k.val < 2048 then a ⟨k.val, h⟩ else b ⟨k.val - 2048, by omega⟩

/-- A chunk's argument data. -/
structure Chunk where
  x : Fin 128 → Fin 4096 → EReal
  D : Fin 128 → Fin 2048 → EReal
  lw : Fin 2048 → EReal
  lb : Fin 2048 → EReal
  W : Fin 16 → Fin 128 → Fin 128 → EReal
  bs : Fin 128 → Fin 2048 → EReal

namespace Chunk
variable (C : Chunk)
/-- The layer norm's result. -/
def V (s : Fin 128) : Fin 2048 → EReal := vv (C.x s) C.lw C.lb
/-- The gradient of the mixed rows. -/
def M (t : Fin 128) (j : Fin 2048) : EReal := C.D t j * uu (C.x t) j
/-- The gradient of the layer norm's result. -/
def Y (s : Fin 128) : Fin 2048 → EReal := dvv C.W C.M s
/-- The gradient of the gated half. -/
def dU (t : Fin 128) (j : Fin 2048) : EReal := C.D t j * mixed C.W C.bs C.V t j
/-- The gradient of the gelu's argument. -/
def dX (t : Fin 128) (k : Fin 4096) : EReal :=
  side (C.dU t) (dvp (rstd (C.x t)) (vhat (C.x t)) C.lw (C.Y t)) k * dgelu (C.x t k)
end Chunk

end Cert.Gmlp
-- ==== Proof.KPay.lean ====
module

public import proofs.«01_k».proof.Proof.Gen.KernelIdeal.Frame
public import proofs.«01_k».proof.Proof.Spec
public import Idealize.ShloMosaic.Lib.Pipeline.ValueKit
public import Idealize.ShloMosaic.Lib.Pipeline.ReadBack
public import Idealize.ShloMosaic.Lib.Pointwise

/-! What one grid point's body computes, term by term: each vector that the body builds from its blocks, read at an
    index. -/

@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Gmlp

/-- The kernel's two named constants over the extended reals. -/
theorem root_eq : (Named.named κ "root_half" 0x3F3504F3#32 : Ideal .f32) = cRoot := rfl
theorem gauss_eq : (Named.named κ "gauss" 0x3ECC422A#32 : Ideal .f32) = cGauss := rfl

section
variable (D : Vec Ideal S128x2048 .f32) (X : Vec Ideal S128x4096 .f32) (B : Vec Ideal S1x4096 .f32)
  (Lw Lb : Vec Ideal S1x2048 .f32) (W : Vec Ideal S16x128x128 .f32) (S : Vec Ideal S128x2048 .f32)

/-- The chunk that a point's blocks hold. -/
def chunk : Chunk where
  x t k := X (ix2 t k) + B (ix2 0 k)
  D t j := D (ix2 t j)
  lw j := Lw (ix2 0 j)
  lb j := Lb (ix2 0 j)
  W g t s := W (ix3 g t s)
  bs t j := S (ix2 t j)

/-- The gelu of the biased block. -/
theorem pay12_at (t : Fin 128) (k : Fin 4096) : k0_pay12 X B (ix2 t k) = gelu (X (ix2 t k) + B (ix2 0 k)) := by
  pointwise [k0_pay12, k0_pay9]
  simp only [root_eq, ofBits_half, gelu]; rfl

theorem pay13_at (t : Fin 128) (j : Fin 2048) : k0_pay13 X B (ix2 t j) = uu ((chunk D X B Lw Lb W S).x t) j := by
  pointwise [k0_pay13]
  rw [pay12_at]; rfl

theorem pay14_at (t : Fin 128) (j : Fin 2048) : k0_pay14 X B (ix2 t j) = xc ((chunk D X B Lw Lb W S).x t) j := by
  pointwise [k0_pay14]
  simp only [pay12_at, ofBits_n]; rfl

theorem pay15_at (t : Fin 128) (z : Fin 1) : k0_pay15 X B (ix2 t z) = rstd ((chunk D X B Lw Lb W S).x t) := by
  pointwise [k0_pay15]
  simp only [pay14_at D X B Lw Lb W S, ofBits_n, ofBits_eps]; rfl

theorem pay16_at (t : Fin 128) (j : Fin 2048) : k0_pay16 X B (ix2 t j) = vhat ((chunk D X B Lw Lb W S).x t) j := by
  pointwise [k0_pay16]
  simp only [pay14_at D X B Lw Lb W S, pay15_at D X B Lw Lb W S]; rfl

theorem pay18_at (t : Fin 128) (j : Fin 2048) :
    k0_pay18 (k0_pay11 Lb) (k0_pay17 X B Lw) (ix2 t j) = (chunk D X B Lw Lb W S).V t j := by
  pointwise [k0_pay18, k0_pay17, k0_pay10, k0_pay11]
  simp only [pay16_at D X B Lw Lb W S]; rfl

/-- The comparison of two row numbers as words is the comparison of the numbers. -/
theorem mask_at (a b : ℕ) (ha : a < 128) (hb : b < 128) (u v : EReal) :
    Scalar.select (IntOp.cmpi CmpIPredicate.sle (BitVec.ofNat 32 a) (BitVec.ofNat 32 b)) u v = if a ≤ b then u else v := by
  rw [WordCmp.cmpi_sle_ofNat (by omega) (by omega), WordCmp.select_ofBool]
  simp only [decide_eq_true_eq]

end
end Cert.KernelIdeal.Value
-- ==== Proof.KPoint.lean ====
module

public import proofs.«01_k».proof.Proof.Gen.KernelIdeal.Frame
public import proofs.«01_k».proof.Proof.KPay
public import Idealize.ShloMosaic.Lib.Pipeline.ValueKit
public import Idealize.ShloMosaic.Lib.Pipeline.ReadBack
public import Idealize.ShloMosaic.Lib.Pointwise

/-! What one grid point's body computes, term by term: each vector that the body builds from its blocks, read at an
    index. -/

@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Gmlp
variable (m : (ℓ : Loc nD τ sig) → Buf (Elt Ideal) ℓ) (c : Dev nD) (t : Fin cfg0.N)
abbrev bD : Vec Ideal S128x2048 .f32 := iblk m c 0 t
abbrev bX : Vec Ideal S128x4096 .f32 := iblk m c 1 t
abbrev bB : Vec Ideal S1x4096 .f32 := iblk m c 2 t
abbrev bLw : Vec Ideal S1x2048 .f32 := iblk m c 3 t
abbrev bLb : Vec Ideal S1x2048 .f32 := iblk m c 4 t
abbrev bW : Vec Ideal S16x128x128 .f32 := iblk m c 5 t
abbrev bS : Vec Ideal S128x2048 .f32 := iblk m c 6 t
/-- The chunk that point `t` works on. -/
abbrev chk : Chunk := chunk (bD m c t) (bX m c t) (bB m c t) (bLw m c t) (bLb m c t) (bW m c t) (bS m c t)
/-- What the point before `t` left. -/
abbrev before := outsAt0 m c (t.val - 1) (Nat.lt_of_le_of_lt (Nat.sub_le _ _) t.isLt)

/-- An index that one of the first `n` pieces covers reads the first `n` alone: a fill under them is not seen. -/
theorem canon_take {Val : EltTy → Type} [∀ e, Nonempty (Val e)] {s : Shape} {e : EltTy} : ∀ (n : ℕ) (L : List (View.Piece Val s e)) (y : s.Idx),
    (∃ p ∈ L.take n, y ∈ p.1.set) → View.canon L y = View.canon (L.take n) y
  | 0, _, _, h => absurd h (by simp)
  | _ + 1, [], _, h => absurd h (by simp)
  | n + 1, ⟨r, w⟩ :: L, y, h => by
    by_cases hy : y ∈ r.set
    · obtain ⟨x, rfl⟩ : ∃ x, r.emb x = y := r.exists_idx_of_mem hy
      rw [List.take_succ_cons, View.canon_cons_emb, View.canon_cons_emb]
    · rw [List.take_succ_cons, View.canon_cons_of_not_mem _ _ hy, View.canon_cons_of_not_mem _ _ hy]
      refine canon_take n L y ?_
      obtain ⟨p, hp, hm⟩ := h
      rcases List.mem_cons.mp hp with rfl | hp
      · exact absurd hm hy
      · exact ⟨p, hp, hm⟩

theorem M_vec (j : S128x2048.Idx) : (chk m c t).M (j 0) (j 1) = bD m c t j * k0_pay13 (bX m c t) (bB m c t) j := by
  idx_vars j
  rw [pay13_at (bD m c t) _ _ (bLw m c t) (bLb m c t) (bW m c t) (bS m c t)]; rfl

/-- Window 12 (the spatial bias's gradient): each point adds the gradient of its mixed rows. -/
theorem out12 (j : S128x2048.Idx) : (outsAt0 m c t.val t.isLt).2.2.2.2.2 j
    = (if t.val % 32 = 0 then (0 : EReal) else (before m c t).2.2.2.2.2 j) + (chk m c t).M (j 0) (j 1) := by
  rw [M_vec]
  by_cases h0 : t.val % 32 = 0
  · rw [if_pos h0, outsAt0_A m c t h0]
    frame_open
    simp (disch := decide) only [↓ View.readCov_skip, ↓ View.readCov_cons_toLoadRect, ↓ View.readCov_fill]
    frame_out
    dsimp only [bD, bX, bB]
    generalize k0_pay13 (iblk m c 1 t) (iblk m c 2 t) = U
    generalize iblk m c 0 t = D
    rw [canon_take 16 _ _ (View.cover_of_tiledL _ ![128, 128] (by sl_kernel_rfl) j)]
    simp only [List.take_succ_cons, List.take_zero]
    canon_tiles j h
    all_goals (open_payloads; pointwise [k0_pay8]; refine congrArg₂ (· * ·) ?_ ?_ <;> blk_ext)
  · rw [if_neg h0, outsAt0_B m c t h0]
    frame_open
    simp (disch := decide) only [↓ View.readCov_skip, ↓ View.readCov_cons_toLoadRect, ↓ View.readCov_fill]
    frame_out
    dsimp only [bD, bX, bB, before]
    generalize (outsAt0 m c (t.val - 1) (Nat.lt_of_le_of_lt (Nat.sub_le _ _) t.isLt)).2.2.2.2.2 = P
    generalize k0_pay13 (iblk m c 1 t) (iblk m c 2 t) = U
    generalize iblk m c 0 t = D
    canon_tiles j h
    all_goals (open_payloads; pointwise; refine congrArg₂ (· + ·) ?_ (congrArg₂ (· * ·) ?_ ?_) <;> blk_ext)

end Cert.KernelIdeal.Value
-- ==== Proof.KPointY.lean ====
module

public import proofs.«01_k».proof.Proof.Gen.KernelIdeal.Frame
public import proofs.«01_k».proof.Proof.KPoint
public import Idealize.ShloMosaic.Lib.Pipeline.ValueKit
public import Idealize.ShloMosaic.Lib.Pipeline.ReadBack
public import Idealize.ShloMosaic.Lib.Pointwise

/-! What one grid point's body computes, term by term: each vector that the body builds from its blocks, read at an
    index. -/

@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Gmlp
section
variable (m : (ℓ : Loc nD τ sig) → Buf (Elt Ideal) ℓ) (c : Dev nD) (t : Fin cfg0.N)

theorem canon_at {Val : EltTy → Type} [∀ e, Nonempty (Val e)] {s : Shape} {e : EltTy} (L : List (View.Piece Val s e)) (y y' : s.Idx)
    (h : y = y') : View.canon L y = View.canon L y' := h ▸ rfl

theorem Y_vec (s : Fin 128) (k : Fin 2048) : (chk m c t).Y s k
    = ∑ x : Fin 128, (if s.val ≤ x.val then bW m c t (ix3 (grp k) x s) * (bD m c t (ix2 x k) * k0_pay13 (bX m c t) (bB m c t) (ix2 x k)) else 0) := by
  unfold Chunk.Y dvv
  refine Finset.sum_congr rfl fun x _ => ?_
  rw [pay13_at (bD m c t) _ _ (bLw m c t) (bLb m c t) (bW m c t) (bS m c t)]
  exact (ite_mul _ _ _ _).trans (ite_congr rfl (fun _ => rfl) fun _ => zero_mul _)

theorem dU_vec (a : Fin 128) (k : Fin 2048) : (chk m c t).dU a k
    = bD m c t (ix2 a k) * ((∑ x : Fin 128, (if x.val ≤ a.val then bW m c t (ix3 (grp k) a x)
        * k0_pay18 (k0_pay11 (bLb m c t)) (k0_pay17 (bX m c t) (bB m c t) (bLw m c t)) (ix2 x k) else 0)) + bS m c t (ix2 a k)) := by
  refine congrArg₂ (· * ·) rfl (congrArg₂ (· + ·) (Finset.sum_congr rfl fun x _ => ?_) rfl)
  rw [pay18_at (bD m c t) _ _ (bLw m c t) (bLb m c t) (bW m c t) (bS m c t)]
  exact (ite_mul _ _ _ _).trans (ite_congr rfl (fun _ => rfl) fun _ => zero_mul _)

/-- Sixteen pieces of 128 columns, each of which is its columns of `G`, put side by side are `G`. -/
theorem concat16 {α : Type} (G : S128x2048.Idx → α) (p0 p1 p2 p3 p4 p5 p6 p7 p8 p9 p10 p11 p12 p13 p14 p15 : S128x128.Idx → α)
    (h : Shape.Concatenates (([⟨S128x128, p0⟩, ⟨S128x128, p1⟩, ⟨S128x128, p2⟩, ⟨S128x128, p3⟩, ⟨S128x128, p4⟩, ⟨S128x128, p5⟩, ⟨S128x128, p6⟩, ⟨S128x128, p7⟩, ⟨S128x128, p8⟩, ⟨S128x128, p9⟩, ⟨S128x128, p10⟩, ⟨S128x128, p11⟩, ⟨S128x128, p12⟩, ⟨S128x128, p13⟩, ⟨S128x128, p14⟩, ⟨S128x128, p15⟩] : List ((s : Shape) × (s.Idx → α))).map (·.1)) S128x2048 1)
    (h0 : ∀ (i : S128x128.Idx) (j : S128x2048.Idx), (j 0).val = (i 0).val → (j 1).val = 0 + (i 1).val → p0 i = G j)
    (h1 : ∀ (i : S128x128.Idx) (j : S128x2048.Idx), (j 0).val = (i 0).val → (j 1).val = 128 + (i 1).val → p1 i = G j)
    (h2 : ∀ (i : S128x128.Idx) (j : S128x2048.Idx), (j 0).val = (i 0).val → (j 1).val = 256 + (i 1).val → p2 i = G j)
    (h3 : ∀ (i : S128x128.Idx) (j : S128x2048.Idx), (j 0).val = (i 0).val → (j 1).val = 384 + (i 1).val → p3 i = G j)
    (h4 : ∀ (i : S128x128.Idx) (j : S128x2048.Idx), (j 0).val = (i 0).val → (j 1).val = 512 + (i 1).val → p4 i = G j)
    (h5 : ∀ (i : S128x128.Idx) (j : S128x2048.Idx), (j 0).val = (i 0).val → (j 1).val = 640 + (i 1).val → p5 i = G j)
    (h6 : ∀ (i : S128x128.Idx) (j : S128x2048.Idx), (j 0).val = (i 0).val → (j 1).val = 768 + (i 1).val → p6 i = G j)
    (h7 : ∀ (i : S128x128.Idx) (j : S128x2048.Idx), (j 0).val = (i 0).val → (j 1).val = 896 + (i 1).val → p7 i = G j)
    (h8 : ∀ (i : S128x128.Idx) (j : S128x2048.Idx), (j 0).val = (i 0).val → (j 1).val = 1024 + (i 1).val → p8 i = G j)
    (h9 : ∀ (i : S128x128.Idx) (j : S128x2048.Idx), (j 0).val = (i 0).val → (j 1).val = 1152 + (i 1).val → p9 i = G j)
    (h10 : ∀ (i : S128x128.Idx) (j : S128x2048.Idx), (j 0).val = (i 0).val → (j 1).val = 1280 + (i 1).val → p10 i = G j)
    (h11 : ∀ (i : S128x128.Idx) (j : S128x2048.Idx), (j 0).val = (i 0).val → (j 1).val = 1408 + (i 1).val → p11 i = G j)
    (h12 : ∀ (i : S128x128.Idx) (j : S128x2048.Idx), (j 0).val = (i 0).val → (j 1).val = 1536 + (i 1).val → p12 i = G j)
    (h13 : ∀ (i : S128x128.Idx) (j : S128x2048.Idx), (j 0).val = (i 0).val → (j 1).val = 1664 + (i 1).val → p13 i = G j)
    (h14 : ∀ (i : S128x128.Idx) (j : S128x2048.Idx), (j 0).val = (i 0).val → (j 1).val = 1792 + (i 1).val → p14 i = G j)
    (h15 : ∀ (i : S128x128.Idx) (j : S128x2048.Idx), (j 0).val = (i 0).val → (j 1).val = 1920 + (i 1).val → p15 i = G j)
    (j : S128x2048.Idx) : concatenate S128x2048 1 [⟨S128x128, p0⟩, ⟨S128x128, p1⟩, ⟨S128x128, p2⟩, ⟨S128x128, p3⟩, ⟨S128x128, p4⟩, ⟨S128x128, p5⟩, ⟨S128x128, p6⟩, ⟨S128x128, p7⟩, ⟨S128x128, p8⟩, ⟨S128x128, p9⟩, ⟨S128x128, p10⟩, ⟨S128x128, p11⟩, ⟨S128x128, p12⟩, ⟨S128x128, p13⟩, ⟨S128x128, p14⟩, ⟨S128x128, p15⟩] h j = G j := by
  have key : ∀ (g : Fin 16) (i : S128x128.Idx), (j 0).val = (i 0).val → (j 1).val = 128 * g.val + (i 1).val →
      (![p0, p1, p2, p3, p4, p5, p6, p7, p8, p9, p10, p11, p12, p13, p14, p15] : Fin 16 → S128x128.Idx → α) g i = G j := by
    intro g i e0 e1
    fin_cases g
    all_goals first | exact h0 i j e0 e1 | exact h1 i j e0 e1 | exact h2 i j e0 e1 | exact h3 i j e0 e1 | exact h4 i j e0 e1 | exact h5 i j e0 e1 | exact h6 i j e0 e1 | exact h7 i j e0 e1 | exact h8 i j e0 e1 | exact h9 i j e0 e1 | exact h10 i j e0 e1 | exact h11 i j e0 e1 | exact h12 i j e0 e1 | exact h13 i j e0 e1 | exact h14 i j e0 e1 | exact h15 i j e0 e1
  have hj : (j 1).val < 2048 := (j 1).isLt
  have hj0 : (j 0).val < 128 := (j 0).isLt
  let g : Fin 16 := ⟨(j 1).val / 128, by omega⟩
  let i : S128x128.Idx := ix2 ⟨(j 0).val, hj0⟩ ⟨(j 1).val % 128, by omega⟩
  refine Eq.trans ?_ (key g i rfl (Nat.div_add_mod _ 128).symm)
  have e : ([⟨S128x128, p0⟩, ⟨S128x128, p1⟩, ⟨S128x128, p2⟩, ⟨S128x128, p3⟩, ⟨S128x128, p4⟩, ⟨S128x128, p5⟩, ⟨S128x128, p6⟩, ⟨S128x128, p7⟩, ⟨S128x128, p8⟩, ⟨S128x128, p9⟩, ⟨S128x128, p10⟩, ⟨S128x128, p11⟩, ⟨S128x128, p12⟩, ⟨S128x128, p13⟩, ⟨S128x128, p14⟩, ⟨S128x128, p15⟩] : List ((s : Shape) × (s.Idx → α))) = List.ofFn fun n : Fin 16 => (⟨S128x128, (![p0, p1, p2, p3, p4, p5, p6, p7, p8, p9, p10, p11, p12, p13, p14, p15] : Fin 16 → S128x128.Idx → α) n⟩ : (s : Shape) × (s.Idx → α)) := by
    simp only [List.ofFn_succ, List.ofFn_zero]
    rfl
  generalize ([⟨S128x128, p0⟩, ⟨S128x128, p1⟩, ⟨S128x128, p2⟩, ⟨S128x128, p3⟩, ⟨S128x128, p4⟩, ⟨S128x128, p5⟩, ⟨S128x128, p6⟩, ⟨S128x128, p7⟩, ⟨S128x128, p8⟩, ⟨S128x128, p9⟩, ⟨S128x128, p10⟩, ⟨S128x128, p11⟩, ⟨S128x128, p12⟩, ⟨S128x128, p13⟩, ⟨S128x128, p14⟩, ⟨S128x128, p15⟩] : List ((s : Shape) × (s.Idx → α))) = xs at h e
  subst e
  refine concatenate_ofFn_apply (t := S128x2048) (s₁ := S128x128) (1 : Fin 2) _ h rfl 128 rfl j g rfl i rfl ?_
  intro b hb
  fin_cases b
  · rfl
  · exact absurd rfl hb

/-- The gradient of the gated half over the blocks, at an index. -/
def gateG (D : Vec Ideal S128x2048 .f32) (W : Vec Ideal S16x128x128 .f32) (S V : Vec Ideal S128x2048 .f32) (j : S128x2048.Idx) : EReal :=
  D (ix2 (j 0) (j 1)) * ((∑ x : Fin 128, (if x.val ≤ (j 0).val then W (ix3 (grp (j 1)) (j 0) x) * V (ix2 x (j 1)) else 0)) + S (ix2 (j 0) (j 1)))

set_option maxHeartbeats 1000000 in
/-- The four remaining windows at a point, over the gradient `Y` of the layer norm's result and the gradient `Q` of the
    gated half. -/
theorem form : ∃ Y Q : Vec Ideal S128x2048 .f32,
    (∀ s k, Y (ix2 s k) = (chk m c t).Y s k) ∧ (∀ a k, Q (ix2 a k) = (chk m c t).dU a k)
    ∧ (t.val % 32 = 0 → (outsAt0 m c t.val t.isLt).1 = k0_pay3 (k0_pay161 (k0_pay10 (bLw m c t)) (k0_pay15 (bX m c t) (bB m c t)) (k0_pay16 (bX m c t) (bB m c t)) Q Y) (k0_pay162 (k0_pay9 (bX m c t) (bB m c t))) (k0_pay163 (k0_pay9 (bX m c t) (bB m c t)))
      ∧ (outsAt0 m c t.val t.isLt).2.1 = k0_pay2 (k0_pay161 (k0_pay10 (bLw m c t)) (k0_pay15 (bX m c t) (bB m c t)) (k0_pay16 (bX m c t) (bB m c t)) Q Y) (k0_pay162 (k0_pay9 (bX m c t) (bB m c t))) (k0_pay163 (k0_pay9 (bX m c t) (bB m c t))) (k0_pay4 (F := Ideal))
      ∧ (outsAt0 m c t.val t.isLt).2.2.1 = k0_pay159 (k0_pay16 (bX m c t) (bB m c t)) Y (k0_pay158 (k0_pay5 (F := Ideal)))
      ∧ (outsAt0 m c t.val t.isLt).2.2.2.1 = k0_pay160 Y (k0_pay6 (F := Ideal)))
    ∧ (¬ t.val % 32 = 0 → (outsAt0 m c t.val t.isLt).1 = k0_pay3 (k0_pay161 (k0_pay10 (bLw m c t)) (k0_pay15 (bX m c t) (bB m c t)) (k0_pay16 (bX m c t) (bB m c t)) Q Y) (k0_pay162 (k0_pay9 (bX m c t) (bB m c t))) (k0_pay163 (k0_pay9 (bX m c t) (bB m c t)))
      ∧ (outsAt0 m c t.val t.isLt).2.1 = k0_pay2 (k0_pay161 (k0_pay10 (bLw m c t)) (k0_pay15 (bX m c t) (bB m c t)) (k0_pay16 (bX m c t) (bB m c t)) Q Y) (k0_pay162 (k0_pay9 (bX m c t) (bB m c t))) (k0_pay163 (k0_pay9 (bX m c t) (bB m c t))) (before m c t).2.1
      ∧ (outsAt0 m c t.val t.isLt).2.2.1 = k0_pay159 (k0_pay16 (bX m c t) (bB m c t)) Y (k0_pay158 (before m c t).2.2.1)
      ∧ (outsAt0 m c t.val t.isLt).2.2.2.1 = k0_pay160 Y (before m c t).2.2.2.1) := by
  apply Exists.intro
  apply Exists.intro
  refine ⟨?y, ?q, fun h0 => ?A, fun h0 => ?B⟩
  case A =>
    rw [outsAt0_A m c t h0]
    frame_open
    simp (disch := decide) only [↓ View.readCov_skip, ↓ View.readCov_cons_toLoadRect, ↓ View.readCov_fill]
    frame_out
    refine ⟨?_, ?_, ?_, ?_⟩ <;> first | rfl | trivial
  case B =>
    rw [outsAt0_B m c t h0]
    frame_open
    simp (disch := decide) only [↓ View.readCov_skip, ↓ View.readCov_cons_toLoadRect, ↓ View.readCov_fill]
    frame_out
    refine ⟨?_, ?_, ?_, ?_⟩ <;> first | rfl | trivial
  case y =>
    intro s k
    rw [Y_vec, View.readCov_eq_canon']
    dsimp only [bD, bX, bB, bW]
    generalize k0_pay13 (iblk m c 1 t) (iblk m c 2 t) = U
    generalize iblk m c 0 t = D
    generalize iblk m c 5 t = W
    obtain ⟨j, hj⟩ : ∃ j : S128x2048.Idx, j = ix2 s k := ⟨_, rfl⟩
    have ha : s.val = (j 0).val := by rw [hj]; rfl
    have hb : k.val = (j 1).val := by rw [hj]; rfl
    refine (canon_at _ _ j ?_).trans ?_
    · rw [hj]
      refine funext fun b => Fin.ext ?_
      refine (Rect.idx_unit_val _ _ _ _ b).trans ?_
      revert b
      refine Fin.forall_fin_two.mpr ⟨Nat.zero_add _, Nat.zero_add _⟩
    clear hj
    canon_tiles j h
    all_goals
      open_payloads
      rw [h0] at ha
      rw [h1] at hb
      pointwise [k0_pay19]
      refine Finset.sum_congr rfl fun x _ => ?_
      rw [mask_at _ _ j0_lt x.isLt]
      refine ite_congr (by rw [ha]) (fun _ => congrArg₂ (· * ·) ?_ (congrArg₂ (· * ·) ?_ ?_)) fun _ => rfl <;> blk_ext [grp]
  case q =>
    intro a k
    rw [dU_vec]
    dsimp only [bD, bX, bB, bW, bLw, bLb, bS, k0_pay157, k0_pay22, k0_pay21, k0_pay20]
    generalize k0_pay18 (k0_pay11 (iblk m c 4 t)) (k0_pay17 (iblk m c 1 t) (iblk m c 2 t) (iblk m c 3 t)) = V
    generalize iblk m c 0 t = D
    generalize iblk m c 5 t = W
    generalize iblk m c 6 t = S
    refine concat16 (α := EReal) (gateG D W S V) _ _ _ _ _ _ _ _ _ _ _ _ _ _ _ _ _ ?_ ?_ ?_ ?_ ?_ ?_ ?_ ?_ ?_ ?_ ?_ ?_ ?_ ?_ ?_ ?_ _
    all_goals
      intro i j e0 e1
      unfold gateG
      idx_vars i
      idx_vars j
      pointwise [k0_pay19, k0_pay20, k0_pay29, k0_pay30, k0_pay31, k0_pay38, k0_pay39, k0_pay40, k0_pay47,
        k0_pay48, k0_pay49, k0_pay56, k0_pay57, k0_pay58, k0_pay65, k0_pay66, k0_pay67, k0_pay74, k0_pay75,
        k0_pay76, k0_pay82, k0_pay83, k0_pay84, k0_pay90, k0_pay91, k0_pay92, k0_pay98, k0_pay99, k0_pay100,
        k0_pay106, k0_pay107, k0_pay108, k0_pay114, k0_pay115, k0_pay116, k0_pay122, k0_pay123, k0_pay124,
        k0_pay130, k0_pay131, k0_pay132, k0_pay133, k0_pay139, k0_pay140, k0_pay141, k0_pay142, k0_pay148,
        k0_pay149, k0_pay150, k0_pay151]
      refine congrArg₂ (· * ·) ?_ (congrArg₂ (· + ·) (Finset.sum_congr rfl fun x _ => ?_) ?_)
      · blk_ext
      · rw [mask_at _ _ x.isLt i0.isLt]
        refine ite_congr (by rw [e0]) (fun _ => congrArg₂ (· * ·) ?_ ?_) fun _ => rfl <;> blk_ext [grp]
      · blk_ext
end
end Cert.KernelIdeal.Value
-- ==== Proof.KTail.lean ====
module

public import proofs.«01_k».proof.Proof.Gen.KernelIdeal.Frame
public import proofs.«01_k».proof.Proof.KPointY
public import Idealize.ShloMosaic.Lib.Pipeline.ValueKit
public import Idealize.ShloMosaic.Lib.Pipeline.ReadBack
public import Idealize.ShloMosaic.Lib.Pointwise

/-! What one grid point's body computes, term by term: each vector that the body builds from its blocks, read at an
    index. -/

@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Gmlp
section
variable (m : (ℓ : Loc nD τ sig) → Buf (Elt Ideal) ℓ) (c : Dev nD) (t : Fin cfg0.N)

/-- The gradient of the gelu's argument from the two vectors that the groups build. -/
theorem pre_gen (D : Vec Ideal S128x2048 .f32) (X : Vec Ideal S128x4096 .f32) (B : Vec Ideal S1x4096 .f32)
    (Lw Lb : Vec Ideal S1x2048 .f32) (W : Vec Ideal S16x128x128 .f32) (S : Vec Ideal S128x2048 .f32) (Y Q : Vec Ideal S128x2048 .f32)
    (hY : ∀ s k, Y (ix2 s k) = (chunk D X B Lw Lb W S).Y s k) (hQ : ∀ a k, Q (ix2 a k) = (chunk D X B Lw Lb W S).dU a k)
    (r : Fin 128) (k : Fin 4096) :
    k0_pay1 (k0_pay161 (k0_pay10 Lw) (k0_pay15 X B) (k0_pay16 X B) Q Y)
      (k0_pay162 (k0_pay9 X B)) (k0_pay163 (k0_pay9 X B)) (ix2 r k) = (chunk D X B Lw Lb W S).dX r k := by
  have e15 := pay15_at D X B Lw Lb W S
  have e16 := pay16_at D X B Lw Lb W S
  have eX : X (ix2 r k) + B (ix2 0 k) = (chunk D X B Lw Lb W S).x r k := rfl
  have eW : ∀ j, Lw (ix2 0 j) = (chunk D X B Lw Lb W S).lw j := fun _ => rfl
  generalize chunk D X B Lw Lb W S = C at *
  pointwise [k0_pay1, k0_pay161, k0_pay162, k0_pay163, k0_pay9, k0_pay10]
  simp only [e15, e16, hY, hQ, eX, eW, root_eq, gauss_eq, ofBits_half, ofBits_negHalf, ofBits_n]
  rfl

theorem pre_at (Y Q : Vec Ideal S128x2048 .f32) (hY : ∀ s k, Y (ix2 s k) = (chk m c t).Y s k) (hQ : ∀ a k, Q (ix2 a k) = (chk m c t).dU a k)
    (r : Fin 128) (k : Fin 4096) :
    k0_pay1 (k0_pay161 (k0_pay10 (bLw m c t)) (k0_pay15 (bX m c t) (bB m c t)) (k0_pay16 (bX m c t) (bB m c t)) Q Y)
      (k0_pay162 (k0_pay9 (bX m c t) (bB m c t))) (k0_pay163 (k0_pay9 (bX m c t) (bB m c t))) (ix2 r k) = (chk m c t).dX r k :=
  pre_gen (bD m c t) (bX m c t) (bB m c t) (bLw m c t) (bLb m c t) (bW m c t) (bS m c t) Y Q hY hQ r k

/-- Window 7 (the gradient of the gelu's argument) holds the chunk's. -/
theorem out7 (r : Fin 128) (k : Fin 4096) : (outsAt0 m c t.val t.isLt).1 (ix2 r k) = (chk m c t).dX r k := by
  obtain ⟨Y, Q, hY, hQ, hA, hB⟩ := form m c t
  by_cases h0 : t.val % 32 = 0
  · rw [(hA h0).1]; exact pre_at m c t Y Q hY hQ r k
  · rw [(hB h0).1]; exact pre_at m c t Y Q hY hQ r k

/-- Window 8 (the projection bias's gradient): each point adds its rows' sum. -/
theorem out8 (z : Fin 1) (k : Fin 4096) : (outsAt0 m c t.val t.isLt).2.1 (ix2 z k)
    = (if t.val % 32 = 0 then (0 : EReal) else (before m c t).2.1 (ix2 z k)) + ∑ r, (chk m c t).dX r k := by
  obtain ⟨Y, Q, hY, hQ, hA, hB⟩ := form m c t
  have e := pre_at m c t Y Q hY hQ
  by_cases h0 : t.val % 32 = 0
  · rw [(hA h0).2.1, if_pos h0]; generalize chk m c t = C at e; pointwise [k0_pay2, k0_pay4]; simp only [e]
  · rw [(hB h0).2.1, if_neg h0]; generalize before m c t = P; pointwise [k0_pay2]; simp only [e]

/-- Window 9 (the layer norm's weight's gradient). -/
theorem out9 (z : Fin 1) (k : Fin 2048) : (outsAt0 m c t.val t.isLt).2.2.1 (ix2 z k)
    = (if t.val % 32 = 0 then (0 : EReal) else (before m c t).2.2.1 (ix2 z k))
      + ∑ r, (chk m c t).Y r k * vhat ((chk m c t).x r) k := by
  obtain ⟨Y, Q, hY, hQ, hA, hB⟩ := form m c t
  have e16 := pay16_at (bD m c t) (bX m c t) (bB m c t) (bLw m c t) (bLb m c t) (bW m c t) (bS m c t)
  by_cases h0 : t.val % 32 = 0
  · rw [(hA h0).2.2.1, if_pos h0]; pointwise [k0_pay159, k0_pay158, k0_pay5]; simp only [e16, hY]
  · rw [(hB h0).2.2.1, if_neg h0]; generalize before m c t = P; pointwise [k0_pay159, k0_pay158]; simp only [e16, hY]

/-- Window 10 (the layer norm's bias's gradient). -/
theorem out10 (z : Fin 1) (k : Fin 2048) : (outsAt0 m c t.val t.isLt).2.2.2.1 (ix2 z k)
    = (if t.val % 32 = 0 then (0 : EReal) else (before m c t).2.2.2.1 (ix2 z k)) + ∑ r, (chk m c t).Y r k := by
  obtain ⟨Y, Q, hY, hQ, hA, hB⟩ := form m c t
  by_cases h0 : t.val % 32 = 0
  · rw [(hA h0).2.2.2, if_pos h0]; pointwise [k0_pay160, k0_pay6]; simp only [hY]
  · rw [(hB h0).2.2.2, if_neg h0]; generalize before m c t = P; pointwise [k0_pay160]; simp only [hY]
end
end Cert.KernelIdeal.Value
-- ==== Proof.KPointW.lean ====
module

public import proofs.«01_k».proof.Proof.Gen.KernelIdeal.Frame
public import proofs.«01_k».proof.Proof.KPoint
public import Idealize.ShloMosaic.Lib.Pipeline.ValueKit
public import Idealize.ShloMosaic.Lib.Pipeline.ReadBack
public import Idealize.ShloMosaic.Lib.Pointwise

/-! What one grid point's body computes, term by term: each vector that the body builds from its blocks, read at an
    index. -/

@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Gmlp
section
variable (m : (ℓ : Loc nD τ sig) → Buf (Elt Ideal) ℓ) (c : Dev nD) (t : Fin cfg0.N)

theorem dws_vec (g : Fin 16) (a b : Fin 128) : Cert.Gmlp.dws (chk m c t).M (chk m c t).V g a b
    = if b.val ≤ a.val then
        ∑ d : Fin 128, bD m c t (ix2 a (col g d)) * k0_pay13 (bX m c t) (bB m c t) (ix2 a (col g d))
          * k0_pay18 (k0_pay11 (bLb m c t)) (k0_pay17 (bX m c t) (bB m c t) (bLw m c t)) (ix2 b (col g d)) else 0 := by
  refine ite_congr rfl (fun _ => Finset.sum_congr rfl fun d _ => ?_) fun _ => rfl
  rw [pay13_at (bD m c t) _ _ (bLw m c t) (bLb m c t) (bW m c t) (bS m c t),
    pay18_at (bD m c t) _ _ (bLw m c t) (bLb m c t) (bW m c t) (bS m c t)]
  rfl

/-- Window 11 (the spatial weights' gradient) at the first point: the chunk's part alone. -/
theorem out11_A (h0 : t.val % 32 = 0) (g : Fin 16) (a b : Fin 128) : (outsAt0 m c t.val t.isLt).2.2.2.2.1 (ix3 g a b)
    = (0 : EReal) + Cert.Gmlp.dws (chk m c t).M (chk m c t).V g a b := by
  rw [dws_vec]
  obtain ⟨j, hj⟩ : ∃ j : S16x128x128.Idx, j = ix3 g a b := ⟨_, rfl⟩
  have hg : g.val = (j 0).val := by rw [hj]; rfl
  have ha : a.val = (j 1).val := by rw [hj]; rfl
  have hb : b.val = (j 2).val := by rw [hj]; rfl
  rw [← hj]
  clear hj
  rw [outsAt0_A m c t h0]
  frame_open
  simp (disch := decide) only [↓ View.readCov_skip, ↓ View.readCov_cons_toLoadRect, ↓ View.readCov_fill]
  frame_out
  dsimp only [bD, bX, bB, bLw, bLb, k0_pay27, k0_pay21]
  generalize k0_pay13 (iblk m c 1 t) (iblk m c 2 t) = U
  generalize k0_pay18 (k0_pay11 (iblk m c 4 t)) (k0_pay17 (iblk m c 1 t) (iblk m c 2 t) (iblk m c 3 t)) = V
  generalize iblk m c 0 t = D
  rw [canon_take 16 _ _ (View.cover_of_tiledL _ ![1, 128, 128] (by sl_kernel_rfl) j)]
  simp only [List.take_succ_cons, List.take_zero]
  canon_tiles j h
  all_goals
    open_payloads
    rw [h0] at hg
    rw [h1] at ha
    rw [h2] at hb
    pointwise [k0_pay7, k0_pay19]
    rw [mask_at _ _ j2_lt j1_lt]
    refine ite_congr (by rw [ha, hb]) (fun _ => Finset.sum_congr rfl fun d _ =>
      congrArg₂ (· * ·) (congrArg₂ (· * ·) ?_ ?_) ?_) fun _ => rfl <;> blk_ext [col]
/-- Window 11 at a later point: what the point before left, and the chunk's part. -/
theorem out11_B (h0 : ¬t.val % 32 = 0) (g : Fin 16) (a b : Fin 128) : (outsAt0 m c t.val t.isLt).2.2.2.2.1 (ix3 g a b)
    = (before m c t).2.2.2.2.1 (ix3 g a b) + Cert.Gmlp.dws (chk m c t).M (chk m c t).V g a b := by
  rw [dws_vec]
  obtain ⟨j, hj⟩ : ∃ j : S16x128x128.Idx, j = ix3 g a b := ⟨_, rfl⟩
  have hg : g.val = (j 0).val := by rw [hj]; rfl
  have ha : a.val = (j 1).val := by rw [hj]; rfl
  have hb : b.val = (j 2).val := by rw [hj]; rfl
  rw [← hj]
  clear hj
  rw [outsAt0_B m c t h0]
  frame_open
  simp (disch := decide) only [↓ View.readCov_skip, ↓ View.readCov_cons_toLoadRect, ↓ View.readCov_fill]
  frame_out
  dsimp only [bD, bX, bB, bLw, bLb, before, k0_pay27, k0_pay21]
  generalize k0_pay13 (iblk m c 1 t) (iblk m c 2 t) = U
  generalize k0_pay18 (k0_pay11 (iblk m c 4 t)) (k0_pay17 (iblk m c 1 t) (iblk m c 2 t) (iblk m c 3 t)) = V
  generalize iblk m c 0 t = D
  generalize (outsAt0 m c (t.val - 1) (Nat.lt_of_le_of_lt (Nat.sub_le _ _) t.isLt)).2.2.2.2.1 = P
  canon_tiles j h
  all_goals
    open_payloads
    rw [h0] at hg
    rw [h1] at ha
    rw [h2] at hb
    pointwise [k0_pay19]
    rw [mask_at _ _ j2_lt j1_lt]
    refine congrArg₂ (· + ·) ?_ (ite_congr (by rw [ha, hb]) (fun _ => Finset.sum_congr rfl fun d _ =>
      congrArg₂ (· * ·) (congrArg₂ (· * ·) ?_ ?_) ?_) fun _ => rfl) <;> blk_ext [col]
end
end Cert.KernelIdeal.Value
-- ==== Proof.Whole.lean ====
module

public import proofs.«01_k».proof.Proof.Spec

/-! The whole mixer: 32 chunks of 128 rows, and the six gradients as sums over the chunks. -/

@[expose] public section
noncomputable section
open Idealize.ShloMosaic
namespace Cert.Gmlp

/-- Row `t` of chunk `p` among the 4096 rows, and the chunk and the place of a row. -/
def row (p : Fin 32) (t : Fin 128) : Fin 4096 := ⟨128 * p.val + t.val, by omega⟩
def chunkNo (r : Fin 4096) : Fin 32 := ⟨r.val / 128, by omega⟩
def place (r : Fin 4096) : Fin 128 := ⟨r.val % 128, by omega⟩
theorem row_place (r : Fin 4096) : row (chunkNo r) (place r) = r := Fin.ext (Nat.div_add_mod _ _)
theorem chunkNo_row (p : Fin 32) (t : Fin 128) : chunkNo (row p t) = p := Fin.ext (by simp only [chunkNo, row]; omega)
theorem place_row (p : Fin 32) (t : Fin 128) : place (row p t) = t := Fin.ext (by simp only [place, row]; omega)

/-- A sum over the rows is the sum over the chunks of the sums over a chunk's rows. -/
theorem sum_rows (f : Fin 4096 → EReal) : ∑ r, f r = ∑ p, ∑ t, f (row p t) := by
  rw [← Fintype.sum_prod_type' fun p t => f (row p t)]
  let e : Fin 32 × Fin 128 ≃ Fin 4096 :=
    { toFun := fun x => row x.1 x.2
      invFun := fun r => (chunkNo r, place r)
      left_inv := fun x => Prod.ext (chunkNo_row x.1 x.2) (place_row x.1 x.2)
      right_inv := fun r => row_place r }
  exact (Equiv.sum_comp e f).symm

/-- The arguments: the incoming gradient, the projection, its bias, the layer norm's weight and bias, the spatial
    weights and the spatial bias. -/
structure Args where
  dO : Fin 4096 → Fin 2048 → EReal
  pre : Fin 4096 → Fin 4096 → EReal
  b : Fin 4096 → EReal
  lw : Fin 2048 → EReal
  lb : Fin 2048 → EReal
  W : Fin 16 → Fin 128 → Fin 128 → EReal
  bs : Fin 16 → Fin 128 → EReal

namespace Args
variable (A : Args)
/-- Chunk `p` of the arguments. -/
def chunk (p : Fin 32) : Chunk where
  x t k := A.pre (row p t) k + A.b k
  D t j := A.dO (row p t) j
  lw := A.lw
  lb := A.lb
  W := A.W
  bs t j := A.bs (grp j) t
/-- The gradients of the projection, its bias, the layer norm's weight and bias, the spatial weights and bias. -/
def gPre (r : Fin 4096) (k : Fin 4096) : EReal := (A.chunk (chunkNo r)).dX (place r) k
def gB (k : Fin 4096) : EReal := ∑ p, ∑ r, (A.chunk p).dX r k
def gLw (k : Fin 2048) : EReal := ∑ p, ∑ r, (A.chunk p).Y r k * vhat ((A.chunk p).x r) k
def gLb (k : Fin 2048) : EReal := ∑ p, ∑ r, (A.chunk p).Y r k
def gW (g : Fin 16) (t s : Fin 128) : EReal := ∑ p, dws (A.chunk p).M (A.chunk p).V g t s
def gS (t : Fin 128) (j : Fin 2048) : EReal := ∑ p, (A.chunk p).M t j
end Args
end Cert.Gmlp
-- ==== Proof.KArr.lean ====
module

public import proofs.«01_k».proof.Proof.Gen.KernelIdeal.Frame
public import proofs.«01_k».proof.Proof.KTail
public import proofs.«01_k».proof.Proof.KPointW
public import proofs.«01_k».proof.Proof.Whole
public import proofs.«01_k».proof.Proof.Gen.KernelIdeal.Value
public import Idealize.ShloMosaic.Lib.Pipeline.ValueKit
public import Idealize.ShloMosaic.Lib.Pipeline.ReadBack
public import Idealize.ShloMosaic.Lib.Pointwise

/-! What the six result arrays hold after the run, over the arguments. -/

@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Gmlp
section
variable (m : (ℓ : Loc nD τ sig) → Buf (Elt Ideal) ℓ) (c : Dev nD)

/-- The arguments that a memory holds. -/
def args : Args where
  dO r j := m ((c : Thread nD τ).loc main_arg0) (ix2 r j)
  pre r k := m ((c : Thread nD τ).loc main_arg1) (ix2 r k)
  b k := m ((c : Thread nD τ).loc main_arg2) (ix1 k)
  lw j := m ((c : Thread nD τ).loc main_arg3) (ix1 j)
  lb j := m ((c : Thread nD τ).loc main_arg4) (ix1 j)
  W g t s := m ((c : Thread nD τ).loc main_arg5) (ix3 g t s)
  bs g t := m ((c : Thread nD τ).loc main_arg6) (ix2 g t)

/-- The chunk number of a grid point. -/
def pt (t : Fin cfg0.N) : Fin 32 := ⟨t.val, lt_of_lt_of_eq t.isLt N_0⟩

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0, 0] ∧ win0_6.index t = ![0, 0]
    ∧ win0_7.index t = ![t.val, 0] ∧ win0_8.index t = ![0, 0] ∧ win0_9.index t = ![0, 0] ∧ win0_10.index t = ![0, 0]
    ∧ win0_11.index t = ![0, 0, 0] ∧ win0_12.index t = ![0, 0] :=
  (by decide +kernel : ∀ t : Fin grid0.N, _)

/-- The blocks of a point are its chunk of the arguments. -/
theorem chk_eq (t : Fin cfg0.N) : chk m c t = (args m c).chunk (pt t) := by
  unfold chk chunk Args.chunk args row pt
  congr 1
  · funext r k
    refine congrArg₂ (· + ·) ?_ ?_
    · blk_point [iblk, V, idx t]
    · blk_point [iblk, V, idx t]
  · funext r j; blk_point [iblk, V, idx t]
  · funext j; blk_point [iblk, V, idx t]
  · funext j; blk_point [iblk, V, idx t]
  · funext g r s; blk_point [iblk, V, idx t]
  · funext r j; blk_point [iblk, V, idx t]; rfl

/-- The gradient of the projection. -/
theorem arr7 : (dats m 0 c).arrAt 7 cfg0.N = fun j : S4096x4096.Idx => (args m c).gPre (j 0) (j 1) := by
  refine (dats m 0 c).arrAt_eq_of_covers 7 _ (by decide +kernel) fun t hf y => ?_
  blk_simp
  rw [after0_7]
  obtain ⟨r, k, hy⟩ : ∃ (r : Fin 128) (k : Fin 4096), y = ix2 r k := ⟨y 0, y 1, by blk_ext⟩
  have e0 : ((win0_7.blk t).view.emb y 0 : Fin 4096) = row (pt t) r := by
    rw [hy]; refine Fin.ext ?_; blk_simp [idx t]; simp only [row, pt]; omega
  have e1 : ((win0_7.blk t).view.emb y 1 : Fin 4096) = k := by
    rw [hy]; refine Fin.ext ?_; blk_simp [idx t]
  refine Eq.trans ?_ (congrArg₂ (args m c).gPre e0 e1).symm
  unfold Args.gPre
  rw [chunkNo_row, place_row, ← chk_eq, hy]
  exact out7 m c t r k

/-- A family that starts at zero plus a term and adds a term at each later point ends at the sum of the terms. -/
theorem acc {ι : Type} (f : (n : ℕ) → n < cfg0.N → ι → EReal) (term : Fin 32 → ι → EReal)
    (h : ∀ (t : Fin cfg0.N) (i : ι), f t.val t.isLt i
      = (if t.val % 32 = 0 then (0 : EReal) else f (t.val - 1) (Nat.lt_of_le_of_lt (Nat.sub_le _ _) t.isLt) i) + term (pt t) i)
    (t : Fin cfg0.N) (ht : t.val % 32 = 31) (i : ι) : f t.val t.isLt i = ∑ p, term p i := by
  rw [Pipeline.eq_sum_fin_of_reset_step_apply_of_flush f 32 (fun _ => (0 : EReal)) (fun t i => term (pt t) i)
    (fun t h0 i => by rw [h t i, if_pos h0]) (fun t h0 i => by rw [h t i, if_neg h0]) t ht i, zero_add]
  refine Finset.sum_congr rfl fun s _ => congrArg (fun p => term p i) (Fin.ext ?_)
  have := t.isLt
  have hN : cfg0.N = 32 := N_0
  have hz : t.val / 32 = 0 := by omega
  simp only [pt, hz]
  omega

/-- The gradient of the projection's bias. -/
theorem arr8 : (dats m 0 c).arrAt 8 cfg0.N = fun j : S1x4096.Idx => (args m c).gB (j 1) := by
  refine (dats m 0 c).arrAt_eq_of_covers 8 _ (by decide +kernel) fun t hf y => ?_
  blk_simp
  rw [after0_8]
  obtain ⟨r, k, hy⟩ : ∃ (r : Fin 1) (k : Fin 4096), y = ix2 r k := ⟨y 0, y 1, by blk_ext⟩
  have e1 : ((win0_8.blk t).view.emb y 1 : Fin 4096) = k := by
    rw [hy]; refine Fin.ext ?_; blk_simp [idx t]
  refine Eq.trans ?_ (congrArg (args m c).gB e1).symm
  rw [hy]
  exact acc (fun n h i => (outsAt0 m c n h).2.1 i) (fun p i => ∑ r, ((args m c).chunk p).dX r (i 1))
    (fun t i => by idx_vars i; rw [← chk_eq]; exact out8 m c t i0 i1) t ((flush0_8 t).mp hf) (ix2 r k)

/-- The gradient of the layer norm's weight. -/
theorem arr9 : (dats m 0 c).arrAt 9 cfg0.N = fun j : S1x2048.Idx => (args m c).gLw (j 1) := by
  refine (dats m 0 c).arrAt_eq_of_covers 9 _ (by decide +kernel) fun t hf y => ?_
  blk_simp
  rw [after0_9]
  obtain ⟨r, k, hy⟩ : ∃ (r : Fin 1) (k : Fin 2048), y = ix2 r k := ⟨y 0, y 1, by blk_ext⟩
  have e1 : ((win0_9.blk t).view.emb y 1 : Fin 2048) = k := by
    rw [hy]; refine Fin.ext ?_; blk_simp [idx t]
  refine Eq.trans ?_ (congrArg (args m c).gLw e1).symm
  rw [hy]
  exact acc (fun n h i => (outsAt0 m c n h).2.2.1 i) (fun p i => ∑ r, ((args m c).chunk p).Y r (i 1) * vhat (((args m c).chunk p).x r) (i 1))
    (fun t i => by idx_vars i; rw [← chk_eq]; exact out9 m c t i0 i1) t ((flush0_9 t).mp hf) (ix2 r k)

/-- The gradient of the layer norm's bias. -/
theorem arr10 : (dats m 0 c).arrAt 10 cfg0.N = fun j : S1x2048.Idx => (args m c).gLb (j 1) := by
  refine (dats m 0 c).arrAt_eq_of_covers 10 _ (by decide +kernel) fun t hf y => ?_
  blk_simp
  rw [after0_10]
  obtain ⟨r, k, hy⟩ : ∃ (r : Fin 1) (k : Fin 2048), y = ix2 r k := ⟨y 0, y 1, by blk_ext⟩
  have e1 : ((win0_10.blk t).view.emb y 1 : Fin 2048) = k := by
    rw [hy]; refine Fin.ext ?_; blk_simp [idx t]
  refine Eq.trans ?_ (congrArg (args m c).gLb e1).symm
  rw [hy]
  exact acc (fun n h i => (outsAt0 m c n h).2.2.2.1 i) (fun p i => ∑ r, ((args m c).chunk p).Y r (i 1))
    (fun t i => by idx_vars i; rw [← chk_eq]; exact out10 m c t i0 i1) t ((flush0_10 t).mp hf) (ix2 r k)

/-- The gradient of the spatial weights. -/
theorem arr11 : (dats m 0 c).arrAt 11 cfg0.N = fun j : S16x128x128.Idx => (args m c).gW (j 0) (j 1) (j 2) := by
  refine (dats m 0 c).arrAt_eq_of_covers 11 _ (by decide +kernel) fun t hf y => ?_
  blk_simp
  rw [after0_11]
  obtain ⟨g, a, b, hy⟩ : ∃ (g : Fin 16) (a b : Fin 128), y = ix3 g a b := ⟨y 0, y 1, y 2, by blk_ext⟩
  have e0 : ((win0_11.blk t).view.emb y 0 : Fin 16) = g := by
    rw [hy]; refine Fin.ext ?_; blk_simp [idx t]
  have e1 : ((win0_11.blk t).view.emb y 1 : Fin 128) = a := by
    rw [hy]; refine Fin.ext ?_; blk_simp [idx t]
  have e2 : ((win0_11.blk t).view.emb y 2 : Fin 128) = b := by
    rw [hy]; refine Fin.ext ?_; blk_simp [idx t]
  refine Eq.trans ?_ (congr (congrArg₂ (args m c).gW e0 e1) e2).symm
  rw [hy]
  refine acc (fun n h i => (outsAt0 m c n h).2.2.2.2.1 i)
    (fun p i => Cert.Gmlp.dws ((args m c).chunk p).M ((args m c).chunk p).V (i 0) (i 1) (i 2)) (fun t i => ?_) t ((flush0_11 t).mp hf) (ix3 g a b)
  idx_vars i
  rw [← chk_eq]
  by_cases h0 : t.val % 32 = 0
  · rw [if_pos h0]; exact out11_A m c t h0 i0 i1 i2
  · rw [if_neg h0]; exact out11_B m c t h0 i0 i1 i2

/-- The gradient of the spatial bias. -/
theorem arr12 : (dats m 0 c).arrAt 12 cfg0.N = fun j : S128x2048.Idx => (args m c).gS (j 0) (j 1) := by
  refine (dats m 0 c).arrAt_eq_of_covers 12 _ (by decide +kernel) fun t hf y => ?_
  blk_simp
  rw [after0_12]
  obtain ⟨r, k, hy⟩ : ∃ (r : Fin 128) (k : Fin 2048), y = ix2 r k := ⟨y 0, y 1, by blk_ext⟩
  have e0 : ((win0_12.blk t).view.emb y 0 : Fin 128) = r := by
    rw [hy]; refine Fin.ext ?_; blk_simp [idx t]
  have e1 : ((win0_12.blk t).view.emb y 1 : Fin 2048) = k := by
    rw [hy]; refine Fin.ext ?_; blk_simp [idx t]
  refine Eq.trans ?_ (congrArg₂ (args m c).gS e0 e1).symm
  rw [hy]
  exact acc (fun n h i => (outsAt0 m c n h).2.2.2.2.2 i) (fun p i => ((args m c).chunk p).M (i 0) (i 1))
    (fun t i => by rw [← chk_eq]; exact out12 m c t i) t ((flush0_12 t).mp hf) (ix2 r k)
end
end Cert.KernelIdeal.Value
-- ==== Proof.RefConst.lean ====
module

public import proofs.«01_k».proof.Proof.Whole

/-! The reference's constants, computed at run time: `√2` and `2/√π`. -/

@[expose] public section
noncomputable section
open Idealize.ShloMosaic
namespace Cert.Gmlp

/-- `√2` and `2/√π`. -/
abbrev cTwoRoot : EReal := ((Real.sqrt 2 : ℝ) : EReal)
abbrev cErf : EReal := ((2 * (Real.sqrt Real.pi)⁻¹ : ℝ) : EReal)

theorem ofBits_two : Ideal.ofBits .f32 0x40000000#32 = ((2 : ℝ) : EReal) := by
  simp [Ideal.ofBits, Ideal.ieee]; norm_num; rw [← EReal.coe_mul]; congr 1; norm_num
theorem ofBits_one : Ideal.ofBits .f32 0x3F800000#32 = 1 := by
  simp [Ideal.ofBits, Ideal.ieee]; norm_num; rw [← EReal.coe_mul, ← EReal.coe_one]; congr 1; norm_num
theorem ofBits_negOne : Ideal.ofBits .f32 0xBF800000#32 = ((-1 : ℝ) : EReal) := by
  simp [Ideal.ofBits, Ideal.ieee, -EReal.coe_neg]; norm_num

theorem div_root (x : EReal) : Ideal.div x cTwoRoot = x * cRoot := by
  rw [Ideal.div_coe (by positivity), one_div]

theorem sqrt_two : Ideal.sqrt ((2 : ℝ) : EReal) = cTwoRoot := by
  rw [Ideal.sqrt_coe, if_neg (by norm_num)]

theorem erf_const : Ideal.div ((2 : ℝ) : EReal) (Ideal.sqrt (Ideal.acos ((-1 : ℝ) : EReal))) = cErf := by
  rw [Ideal.acos_coe, if_pos (by norm_num), Real.arccos_neg_one, Ideal.sqrt_coe, if_neg (not_lt.2 Real.pi_pos.le),
    Ideal.div_coe (Real.sqrt_pos.2 Real.pi_pos).ne', one_div, ← EReal.coe_mul]

end Cert.Gmlp
-- ==== Proof.RefVal.lean ====
module

public import proofs.«01_k».proof.Proof.RefConst
public import proofs.«01_k».proof.Proof.Gen.ReferenceIdeal.Read
public import Idealize.ShloMosaic.Lib.Pipeline.ValueKit
public import Idealize.ShloMosaic.Lib.Pointwise
public import Idealize.ShloMosaic.Lib.WordCmp

/-! The reference's row-wise values, read at an index: the gelu, the layer norm, and the products over the causal
    spatial weights, each in the terms of the chunks. -/

@[expose] public section
set_option maxRecDepth 16384
noncomputable section
open Idealize.ShloMosaic Idealize.ShloMosaic.TcCoe Idealize.SL.Sem
namespace Cert.ReferenceIdeal.Value
open Cert.ReferenceIdeal Cert.ReferenceIdeal.Gen Cert.ReferenceIdeal.Read Cert.Gmlp
section
variable (x0 : Vec Ideal S4096x2048 .f32) (x1 : Vec Ideal S4096x4096 .f32) (x2 : Vec Ideal S4096 .f32)
  (x3 x4 : Vec Ideal S2048 .f32) (x5 : Vec Ideal S16x128x128 .f32) (x6 : Vec Ideal S16x128 .f32)

/-- The arguments that the arrays hold. -/
def rargs : Args where
  dO r j := x0 (ix2 r j)
  pre r k := x1 (ix2 r k)
  b k := x2 (ix1 k)
  lw j := x3 (ix1 j)
  lb j := x4 (ix1 j)
  W g t s := x5 (ix3 g t s)
  bs g t := x6 (ix2 g t)

/-- A row of the gelu's argument. -/
def xr (r : Fin 4096) (k : Fin 4096) : EReal := x1 (ix2 r k) + x2 (ix1 k)

theorem chunk_x (p : Fin 32) (t : Fin 128) : ((rargs x0 x1 x2 x3 x4 x5 x6).chunk p).x t = xr x1 x2 (row p t) := rfl

/-- The variance plus epsilon of a row. -/
def var (x : Fin 4096 → EReal) : EReal := mean (fun j => xc x j * xc x j) + cEps

theorem v5_at (r k : Fin 4096) : val_main_v5 x1 x2 (ix2 r k) = xr x1 x2 r k := by
  pointwise [val_main_v5, val_main_v4, val_main_v3]; rfl

theorem v9_at (r k : Fin 4096) : val_main_v9 (F := Ideal) (ix2 r k) = cTwoRoot := by
  pointwise [val_main_v9, val_main_v8, val_main_cst_0]
  simp only [ofBits_two]
  exact sqrt_two

theorem v10_at (r k : Fin 4096) : val_main_v10 x1 x2 (ix2 r k) = xr x1 x2 r k * cRoot := by
  pointwise [val_main_v10]
  rw [v5_at, v9_at, div_root]

theorem v14_at : val_main_v14 (F := Ideal) ix0 = cErf := by
  pointwise [val_main_v14, val_main_v13, val_main_v11, val_main_cst_1, val_main_cst_2]
  rw [ofBits_two, ofBits_negOne, erf_const]

theorem v19_at (r k : Fin 4096) : val_main_v19 x1 x2 (ix2 r k) = cErf * Ideal.exp (-(xr x1 x2 r k * cRoot) * (xr x1 x2 r k * cRoot)) := by
  pointwise [val_main_v19, val_main_v18, val_main_v17, val_main_v16, val_main_v15]
  rw [v10_at, ← v14_at]

theorem v21_at (r k : Fin 4096) : val_main_v21 x1 x2 (ix2 r k) = 1 + Ideal.erf (xr x1 x2 r k * cRoot) := by
  pointwise [val_main_v21, val_main_v20, val_main_v12, val_main_cst_3]
  rw [v10_at]

theorem v7_at (r k : Fin 4096) : val_main_v7 x1 x2 (ix2 r k) = cHalf * xr x1 x2 r k := by
  pointwise [val_main_v7, val_main_v6, val_main_cst]
  simp only [v5_at, ofBits_half]

theorem v22_at (r k : Fin 4096) : val_main_v22 x1 x2 (ix2 r k) = gelu (xr x1 x2 r k) := by
  pointwise [val_main_v22]
  simp only [v7_at, v21_at]; rfl

theorem v23_at (r : Fin 4096) (j : Fin 2048) : val_main_v23 x1 x2 (ix2 r j) = uu (xr x1 x2 r) j := by
  pointwise [val_main_v23]
  rw [v22_at]; rfl

theorem v24_at (r : Fin 4096) (j : Fin 2048) : val_main_v24 x1 x2 (ix2 r j) = vp (xr x1 x2 r) j := by
  pointwise [val_main_v24]
  rw [v22_at]; rfl

theorem v30_at (r : Fin 4096) (j : Fin 2048) : val_main_v30 x1 x2 (ix2 r j) = xc (xr x1 x2 r) j := by
  pointwise [val_main_v30, val_main_v29, val_main_v28, val_main_v27, val_main_v26, val_main_v25, val_main_cst_4, val_main_cst_5]
  simp only [v24_at, ofBits_n]
  first | rfl | (simp only [zero_add]; rfl)

theorem v37_at (r : Fin 4096) (z : Fin 1) : val_main_v37 x1 x2 (ix2 r z) = var (xr x1 x2 r) := by
  pointwise [val_main_v37, val_main_v36, val_main_v35, val_main_v34, val_main_v33, val_main_v32, val_main_v31, val_main_cst_6, val_main_cst_7, val_main_cst_8]
  simp only [v30_at, ofBits_n, ofBits_eps]
  first | rfl | (simp only [zero_add]; rfl)

theorem v38_at (r : Fin 4096) (z : Fin 1) : val_main_v38 x1 x2 (ix2 r z) = rstd (xr x1 x2 r) := by
  pointwise [val_main_v38]
  rw [v37_at]; rfl

theorem v41_at (r : Fin 4096) (z : Fin 1) : val_main_v41 x1 x2 (ix2 r z) = cNegHalf * Ideal.div (rstd (xr x1 x2 r)) (var (xr x1 x2 r)) := by
  pointwise [val_main_v41, val_main_v40, val_main_v39, val_main_cst_9]
  simp only [v37_at, v38_at, ofBits_negHalf]

theorem v43_at (r : Fin 4096) (j : Fin 2048) : val_main_v43 x1 x2 (ix2 r j) = vhat (xr x1 x2 r) j := by
  pointwise [val_main_v43, val_main_v42]
  rw [v30_at, v38_at]; rfl

theorem v49_at (r : Fin 4096) (j : Fin 2048) : val_main_v49 x1 x2 x3 x4 (ix2 r j) = vv (xr x1 x2 r) (fun j => x3 (ix1 j)) (fun j => x4 (ix1 j)) j := by
  pointwise [val_main_v49, val_main_v48, val_main_v47, val_main_v46, val_main_v45, val_main_v44]
  rw [v43_at]; rfl

/-- Where the four-dimensional view of the rows reads. -/
theorem idx50 (p : Fin 32) (t : Fin 128) (g : Fin 16) (d : Fin 128) : idx_main_v50 (ix4 p t g d) = ix2 (row p t) (col g d) := by
  funext a
  match a with
  | ⟨0, _⟩ => exact Fin.ext (show (((p.val * 128 + t.val) * 16 + g.val) * 128 + d.val) / 2048 = 128 * p.val + t.val by omega)
  | ⟨1, _⟩ => exact Fin.ext (show (((p.val * 128 + t.val) * 16 + g.val) * 128 + d.val) % 2048 = 128 * g.val + d.val by omega)

theorem v50_at (p : Fin 32) (t : Fin 128) (g : Fin 16) (d : Fin 128) :
    val_main_v50 x1 x2 x3 x4 (ix4 p t g d) = ((rargs x0 x1 x2 x3 x4 x5 x6).chunk p).V t (col g d) := by
  rw [val_main_v50_apply, idx50]
  exact v49_at x1 x2 x3 x4 (row p t) (col g d)

/-- The comparison of two row numbers as words is the comparison of the numbers. -/
theorem mask_at (t s : Fin 128) (u v : EReal) :
    Scalar.select (IntOp.cmpi CmpIPredicate.sge (IntOp.addi (BitVec.ofNat 32 t.val) 0#32) (BitVec.ofNat 32 s.val)) u v = if s ≤ t then u else v := by
  have h : IntOp.addi (BitVec.ofNat 32 t.val) 0#32 = BitVec.ofNat 32 t.val := BitVec.add_zero _
  rw [h, WordCmp.cmpi_sge_ofNat (by omega) (by omega), WordCmp.select_ofBool]
  simp only [decide_eq_true_eq, Fin.le_def]

theorem v51_at (g : Fin 16) (t s : Fin 128) : val_main_v51_0 x5 (ix3 g t s) = wt (fun g t s => x5 (ix3 g t s)) g t s := by
  pointwise [val_main_v51_0, val_main_v51_1, val_main_call0_v0, val_main_call0_v1, val_main_call0_v2, val_main_call0_v3, val_main_call0_v4, val_main_call0_v6,
    val_main_call0_c, val_main_call0_cst]
  exact mask_at t s _ _

end
end Cert.ReferenceIdeal.Value
-- ==== Proof.RefDot.lean ====
module

public import proofs.«01_k».proof.Proof.RefVal

/-! The reference's products over the causal spatial weights, read at an index in the terms of the chunks. -/

@[expose] public section
set_option maxRecDepth 16384
noncomputable section
open Idealize.ShloMosaic Idealize.ShloMosaic.TcCoe Idealize.SL.Sem
namespace Cert.ReferenceIdeal.Value
open Cert.ReferenceIdeal Cert.ReferenceIdeal.Gen Cert.ReferenceIdeal.Read Cert.Gmlp
section
variable (x0 : Vec Ideal S4096x2048 .f32) (x1 : Vec Ideal S4096x4096 .f32) (x2 : Vec Ideal S4096 .f32)
  (x3 x4 : Vec Ideal S2048 .f32) (x5 : Vec Ideal S16x128x128 .f32) (x6 : Vec Ideal S16x128 .f32)

theorem col_grp (j : Fin 2048) : col (grp j) ⟨j.val % 128, by omega⟩ = j := Fin.ext (by simp only [col, grp]; omega)
theorem grp_col (g : Fin 16) (d : Fin 128) : grp (col g d) = g := Fin.ext (by simp only [col, grp]; omega)

theorem v53_at (p : Fin 32) (t : Fin 128) (g : Fin 16) (d : Fin 128) : val_main_v53 x1 x2 x3 x4 x5 (ix4 p t g d)
    = ∑ s, wt (rargs x0 x1 x2 x3 x4 x5 x6).W g t s * ((rargs x0 x1 x2 x3 x4 x5 x6).chunk p).V s (col g d) := by
  pointwise [val_main_v53, val_main_v52]
  simp only [v51_at, v50_at x0 x1 x2 x3 x4 x5 x6]
  exact Finset.sum_congr rfl fun s _ => mul_comm _ _

theorem v56_at (p : Fin 32) (t : Fin 128) (g : Fin 16) (d : Fin 128) : val_main_v56 x1 x2 x3 x4 x5 x6 (ix4 p t g d)
    = mixed (rargs x0 x1 x2 x3 x4 x5 x6).W ((rargs x0 x1 x2 x3 x4 x5 x6).chunk p).bs ((rargs x0 x1 x2 x3 x4 x5 x6).chunk p).V t (col g d) := by
  pointwise [val_main_v56, val_main_v55, val_main_v54, val_main_v2, val_main_v1, val_main_v0]
  rw [v53_at x0 x1 x2 x3 x4 x5 x6]
  simp only [mixed, Args.chunk, grp_col]
  rfl

/-- Where the rows' view of a four-dimensional array reads. -/
theorem idx57 (p : Fin 32) (t : Fin 128) (j : Fin 2048) : idx_main_v57 (ix2 (row p t) j) = ix4 p t (grp j) ⟨j.val % 128, by omega⟩ := by
  funext a
  match a with
  | ⟨0, _⟩ => exact Fin.ext (show ((128 * p.val + t.val) * 2048 + j.val) / 262144 = p.val by omega)
  | ⟨1, _⟩ => exact Fin.ext (show ((128 * p.val + t.val) * 2048 + j.val) / 2048 % 128 = t.val by omega)
  | ⟨2, _⟩ => exact Fin.ext (show ((128 * p.val + t.val) * 2048 + j.val) / 128 % 16 = j.val / 128 by omega)
  | ⟨3, _⟩ => exact Fin.ext (show ((128 * p.val + t.val) * 2048 + j.val) % 128 = j.val % 128 by omega)

theorem v60_at (p : Fin 32) (t : Fin 128) (j : Fin 2048) : val_main_v60 x0 x1 x2 x3 x4 x5 x6 (ix2 (row p t) j) = ((rargs x0 x1 x2 x3 x4 x5 x6).chunk p).dU t j := by
  pointwise [val_main_v60]
  rw [val_main_v57_apply, idx57, v56_at x0, col_grp]
  rfl

theorem v59_at (p : Fin 32) (t : Fin 128) (j : Fin 2048) : val_main_v59 x0 x1 x2 (ix2 (row p t) j) = ((rargs x0 x1 x2 x3 x4 x5 x6).chunk p).M t j := by
  pointwise [val_main_v59]
  rw [v23_at, mul_comm]
  rfl

theorem v61_at (p : Fin 32) (t : Fin 128) (g : Fin 16) (d : Fin 128) : val_main_v61 x0 x1 x2 (ix4 p t g d) = ((rargs x0 x1 x2 x3 x4 x5 x6).chunk p).M t (col g d) := by
  rw [val_main_v61_apply]
  exact (congrArg _ (idx50 p t g d)).trans (v59_at x0 x1 x2 x3 x4 x5 x6 p t (col g d))

theorem v69_at (g : Fin 16) (t s : Fin 128) : val_main_v69 x0 x1 x2 x3 x4 (ix3 g t s) = (rargs x0 x1 x2 x3 x4 x5 x6).gW g t s := by
  pointwise [val_main_v69, val_main_v51_1, val_main_call0_v0, val_main_call0_v1, val_main_call0_v2, val_main_call0_v3, val_main_call0_v4,
    val_main_call0_c, val_main_v66, val_main_v65, val_main_call1_v0, val_main_call1_cst]
  simp only [v61_at x0 x1 x2 x3 x4 x5 x6, v50_at x0 x1 x2 x3 x4 x5 x6]
  rw [mask_at t s]
  simp only [Args.gW, dws]
  split
  · rfl
  · exact Finset.sum_const_zero.symm

theorem v68_at (p : Fin 32) (s : Fin 128) (g : Fin 16) (d : Fin 128) : val_main_v68 x0 x1 x2 x5 (ix4 p s g d)
    = ∑ t, wt (rargs x0 x1 x2 x3 x4 x5 x6).W g t s * ((rargs x0 x1 x2 x3 x4 x5 x6).chunk p).M t (col g d) := by
  pointwise [val_main_v68, val_main_v67, val_main_v65]
  simp only [v51_at, v61_at x0 x1 x2 x3 x4 x5 x6]
  exact Finset.sum_congr rfl fun s _ => mul_comm _ _

theorem v70_at (p : Fin 32) (s : Fin 128) (j : Fin 2048) : val_main_v70 x0 x1 x2 x5 (ix2 (row p s) j) = ((rargs x0 x1 x2 x3 x4 x5 x6).chunk p).Y s j := by
  rw [val_main_v70_apply]
  refine (congrArg _ (idx57 p s j)).trans ((v68_at x0 x1 x2 x3 x4 x5 x6 p s (grp j) _).trans ?_)
  rw [col_grp]
  rfl

theorem v64_at (t : Fin 128) (g : Fin 16) (d : Fin 128) : val_main_v64 x0 x1 x2 (ix3 t g d) = (rargs x0 x1 x2 x3 x4 x5 x6).gS t (col g d) := by
  pointwise [val_main_v64, val_main_v63, val_main_v62, val_main_cst_10, val_main_cst_11]
  simp only [v61_at x0 x1 x2 x3 x4 x5 x6, Fin.sum_univ_one]
  rfl

theorem v119_at (z : Fin 1) (j : Fin 2048) : val_main_v119 x0 x1 x2 x5 (ix2 z j) = (rargs x0 x1 x2 x3 x4 x5 x6).gLb j := by
  pointwise [val_main_v119, val_main_v73, val_main_v72, val_main_v71, val_main_cst_12, val_main_cst_13]
  rw [sum_rows]
  simp only [v70_at x0 x1 x2 x3 x4 x5 x6, Fin.sum_univ_one]
  rfl

theorem v118_at (z : Fin 1) (j : Fin 2048) : val_main_v118 x0 x1 x2 x5 (ix2 z j) = (rargs x0 x1 x2 x3 x4 x5 x6).gLw j := by
  pointwise [val_main_v118, val_main_v79, val_main_v76, val_main_v75, val_main_v74, val_main_cst_14, val_main_cst_15]
  rw [sum_rows]
  simp only [v70_at x0 x1 x2 x3 x4 x5 x6, v43_at, Fin.sum_univ_one]
  exact Finset.sum_congr rfl fun p _ => Finset.sum_congr rfl fun t _ => mul_comm _ _

theorem v120_at (t : Fin 128) (j : Fin 2048) : val_main_v120 x0 x1 x2 (ix2 t j) = (rargs x0 x1 x2 x3 x4 x5 x6).gS t j := by
  rw [val_main_v120_apply]
  refine (congrArg _ ?_).trans ((v64_at x0 x1 x2 x3 x4 x5 x6 t (grp j) ⟨j.val % 128, by omega⟩).trans (by rw [col_grp]))
  funext a
  match a with
  | ⟨0, _⟩ => exact Fin.ext (show (t.val * 2048 + j.val) / 2048 = t.val by omega)
  | ⟨1, _⟩ => exact Fin.ext (show (t.val * 2048 + j.val) / 128 % 16 = j.val / 128 by omega)
  | ⟨2, _⟩ => exact Fin.ext (show (t.val * 2048 + j.val) % 128 = j.val % 128 by omega)

end
end Cert.ReferenceIdeal.Value
-- ==== Proof.RefTail.lean ====
module

public import proofs.«01_k».proof.Proof.RefDot

/-! The reference's gradient through the layer norm and the gelu, read at an index: the same operations in the same
    order as the reference has them, still over the extended reals. -/

@[expose] public section
set_option maxRecDepth 16384
noncomputable section
open Idealize.ShloMosaic Idealize.ShloMosaic.TcCoe Idealize.SL.Sem
namespace Cert.ReferenceIdeal.Value
open Cert.ReferenceIdeal Cert.ReferenceIdeal.Gen Cert.ReferenceIdeal.Read Cert.Gmlp
/-- The gradient through the layer norm as the reference computes it: the factor of the centred row, the row's gradient
    before the mean is taken off, and after. -/
def rq (x : Fin 4096 → EReal) (d : Fin 2048 → EReal) : EReal := Ideal.div ((∑ j, xc x j * d j) * (cNegHalf * Ideal.div (rstd x) (var x))) cN
def rv (x : Fin 4096 → EReal) (d : Fin 2048 → EReal) (j : Fin 2048) : EReal := d j * rstd x + xc x j * rq x d + rq x d * xc x j
def rvp (x : Fin 4096 → EReal) (d : Fin 2048 → EReal) (j : Fin 2048) : EReal := rv x d j + mean fun k => -rv x d k
/-- The gradient through the gelu at `x` of the gradient `G`, as the reference computes it. -/
def rgelu (x G : EReal) : EReal :=
  Ideal.div (cErf * Ideal.exp (-(x * cRoot) * (x * cRoot)) * (cHalf * x * G)) cTwoRoot + cHalf * (G * (1 + Ideal.erf (x * cRoot)))

section
variable (x0 : Vec Ideal S4096x2048 .f32) (x1 : Vec Ideal S4096x4096 .f32) (x2 : Vec Ideal S4096 .f32)
  (x3 x4 : Vec Ideal S2048 .f32) (x5 : Vec Ideal S16x128x128 .f32) (x6 : Vec Ideal S16x128 .f32)

theorem v78_at (p : Fin 32) (s : Fin 128) (j : Fin 2048) : val_main_v78 x0 x1 x2 x3 x5 (ix2 (row p s) j)
    = ((rargs x0 x1 x2 x3 x4 x5 x6).chunk p).Y s j * x3 (ix1 j) := by
  pointwise [val_main_v78, val_main_v77, val_main_v44]
  rw [v70_at x0 x1 x2 x3 x4 x5 x6]

/-- A row of the gradient of the normalised row. -/
def dr (p : Fin 32) (s : Fin 128) (j : Fin 2048) : EReal := ((rargs x0 x1 x2 x3 x4 x5 x6).chunk p).Y s j * x3 (ix1 j)

theorem v87_at (p : Fin 32) (s : Fin 128) (z : Fin 1) : val_main_v87 x0 x1 x2 x3 x5 (ix2 (row p s) z)
    = rq (xr x1 x2 (row p s)) (dr x0 x1 x2 x3 x4 x5 x6 p s) := by
  pointwise [val_main_v87, val_main_v86, val_main_v85, val_main_v82, val_main_v81, val_main_v80, val_main_cst_16, val_main_cst_17]
  simp only [v78_at x0 x1 x2 x3 x4 x5 x6, v30_at, v41_at, ofBits_n]
  rfl

theorem v93_at (p : Fin 32) (s : Fin 128) (j : Fin 2048) : val_main_v93 x0 x1 x2 x3 x5 (ix2 (row p s) j)
    = rv (xr x1 x2 (row p s)) (dr x0 x1 x2 x3 x4 x5 x6 p s) j := by
  pointwise [val_main_v93, val_main_v92, val_main_v91, val_main_v90, val_main_v89, val_main_v88, val_main_v84, val_main_v83, val_main_cst_18]
  simp only [v78_at x0 x1 x2 x3 x4 x5 x6, v87_at x0 x1 x2 x3 x4 x5 x6, v30_at, v38_at, Fin.sum_univ_one]
  rfl

theorem v101_at (p : Fin 32) (s : Fin 128) (j : Fin 2048) : val_main_v101 x0 x1 x2 x3 x5 (ix2 (row p s) j)
    = rvp (xr x1 x2 (row p s)) (dr x0 x1 x2 x3 x4 x5 x6 p s) j := by
  pointwise [val_main_v101, val_main_v100, val_main_v99, val_main_v98, val_main_v97, val_main_v96, val_main_v95, val_main_v94,
    val_main_cst_19, val_main_cst_20, val_main_cst_21]
  simp only [v93_at x0 x1 x2 x3 x4 x5 x6, ofBits_n, Fin.sum_univ_one]
  rfl

theorem v104_at (p : Fin 32) (s : Fin 128) (k : Fin 4096) : val_main_v104 x0 x1 x2 x3 x4 x5 x6 (ix2 (row p s) k)
    = side (((rargs x0 x1 x2 x3 x4 x5 x6).chunk p).dU s) (rvp (xr x1 x2 (row p s)) (dr x0 x1 x2 x3 x4 x5 x6 p s)) k := by
  pointwise [val_main_v104, val_main_v103, val_main_v102, val_main_cst_22, val_main_cst_23]
  unfold side
  by_cases h : k.val < 2048
  · rw [dif_neg (by omega), dif_pos h, dif_pos h, zero_add]
    exact v60_at x0 x1 x2 x3 x4 x5 x6 p s ⟨k.val, h⟩
  · rw [dif_pos (by omega), dif_neg h, dif_neg h, add_zero]
    exact v101_at x0 x1 x2 x3 x4 x5 x6 p s ⟨k.val - 2048, by omega⟩

theorem v112_at (p : Fin 32) (s : Fin 128) (k : Fin 4096) : val_main_v112 x0 x1 x2 x3 x4 x5 x6 (ix2 (row p s) k)
    = rgelu (xr x1 x2 (row p s) k)
        (side (((rargs x0 x1 x2 x3 x4 x5 x6).chunk p).dU s) (rvp (xr x1 x2 (row p s)) (dr x0 x1 x2 x3 x4 x5 x6 p s)) k) := by
  pointwise [val_main_v112, val_main_v111, val_main_v110, val_main_v109, val_main_v108, val_main_v107, val_main_v106, val_main_v105, val_main_cst_24, val_main_v8, val_main_cst_0]
  simp only [v104_at x0 x1 x2 x3 x4 x5 x6, v19_at, v7_at, v21_at, ofBits_half, ofBits_two]
  rw [sqrt_two]
  rfl

theorem v117_at (z : Fin 1) (k : Fin 4096) : val_main_v117 x0 x1 x2 x3 x4 x5 x6 (ix2 z k)
    = ∑ p, ∑ s, val_main_v112 x0 x1 x2 x3 x4 x5 x6 (ix2 (row p s) k) := by
  pointwise [val_main_v117, val_main_v115, val_main_v114, val_main_v113, val_main_cst_25, val_main_cst_26]
  rw [sum_rows]
  simp only [Fin.sum_univ_one]

end
end Cert.ReferenceIdeal.Value
-- ==== Proof.Finite.lean ====
module

public import proofs.«01_k».proof.Proof.Whole

/-! Where the arguments are finite, every value of the mixer is the image of a real number. -/

@[expose] public section
noncomputable section
open Idealize.ShloMosaic
namespace Cert.Gmlp

/-- The extended real is a real number. -/
def IsReal (e : EReal) : Prop := ∃ r : ℝ, e = r

namespace IsReal
theorem coe (r : ℝ) : IsReal (r : EReal) := ⟨r, rfl⟩
theorem zero : IsReal 0 := ⟨0, rfl⟩
theorem add {a b : EReal} : IsReal a → IsReal b → IsReal (a + b)
  | ⟨x, hx⟩, ⟨y, hy⟩ => ⟨x + y, by rw [hx, hy, EReal.coe_add]⟩
theorem mul {a b : EReal} : IsReal a → IsReal b → IsReal (a * b)
  | ⟨x, hx⟩, ⟨y, hy⟩ => ⟨x * y, by rw [hx, hy, EReal.coe_mul]⟩
theorem sum {ι : Type} (s : Finset ι) (f : ι → EReal) (h : ∀ i, IsReal (f i)) : IsReal (∑ i ∈ s, f i) := by
  classical
  induction s using Finset.induction_on with
  | empty => exact zero
  | insert a s ha ih => rw [Finset.sum_insert ha]; exact (h a).add ih
/-- An extended real whose magnitude is below the infinite one is a real number. -/
theorem of_ne {e : EReal} (ht : e ≠ ⊤) (hb : e ≠ ⊥) : IsReal e := ⟨e.toReal, (EReal.coe_toReal ht hb).symm⟩
end IsReal

/-- A sum of real numbers, and their mean. -/
theorem sum_coe {ι : Type} (s : Finset ι) (f : ι → ℝ) : (∑ i ∈ s, (f i : EReal)) = ((∑ i ∈ s, f i : ℝ) : EReal) := by
  classical
  induction s using Finset.induction_on with
  | empty => rfl
  | insert a s ha ih => rw [Finset.sum_insert ha, Finset.sum_insert ha, ih, EReal.coe_add]
theorem div_cN (r : ℝ) : Ideal.div (r : EReal) cN = ((r / 2048 : ℝ) : EReal) := by
  rw [Ideal.div_coe (by norm_num), ← EReal.coe_mul]; congr 1; ring
theorem mean_coe (f : Fin 2048 → ℝ) : mean (fun j => (f j : EReal)) = (((∑ j, f j) / 2048 : ℝ) : EReal) := by
  rw [mean, sum_coe, div_cN]

/-- The error function on a real number. -/
def rErf (r : ℝ) : ℝ := 2 / Real.sqrt Real.pi * ∫ t in (0 : ℝ)..r, Real.exp (-(t ^ 2))

theorem erf_coe (r : ℝ) : Ideal.erf (r : EReal) = (rErf r : EReal) := rfl

theorem gelu_coe (r : ℝ) : gelu (r : EReal) = ((1 / 2 * r * (1 + rErf (r * (Real.sqrt 2)⁻¹)) : ℝ) : EReal) := by
  unfold gelu
  simp only [← EReal.coe_mul, erf_coe, ← EReal.coe_one, ← EReal.coe_add]

theorem finite_gelu {e : EReal} : IsReal e → IsReal (gelu e)
  | ⟨r, h⟩ => ⟨_, by rw [h, gelu_coe]⟩

/-- A row's centred half and its reciprocal deviation, over the real numbers. -/
def rXc (v : Fin 2048 → ℝ) (j : Fin 2048) : ℝ := v j - (∑ k, v k) / 2048
def rVar (v : Fin 2048 → ℝ) : ℝ := (∑ j, rXc v j * rXc v j) / 2048 + rEps
def rR (v : Fin 2048 → ℝ) : ℝ := (Real.sqrt (rVar v))⁻¹

theorem rVar_pos (v : Fin 2048 → ℝ) : 0 < rVar v :=
  add_pos_of_nonneg_of_pos (div_nonneg (Finset.sum_nonneg fun j _ => mul_self_nonneg _) (by norm_num)) (by norm_num [rEps])

section
variable {x : Fin 4096 → EReal} {v : Fin 2048 → ℝ} (h : ∀ j, vp x j = (v j : EReal))
include h
theorem xc_coe (j : Fin 2048) : xc x j = (rXc v j : EReal) := by
  rw [xc, h, funext h, mean_coe, ← EReal.coe_sub]; rfl
theorem var_coe : mean (fun j => xc x j * xc x j) + cEps = (rVar v : EReal) := by
  simp only [xc_coe h, ← EReal.coe_mul]
  rw [mean_coe, ← EReal.coe_add]; rfl
theorem rstd_coe : rstd x = (rR v : EReal) := by
  rw [rstd, var_coe h, Ideal.rsqrt_coe, if_neg (not_lt.2 (rVar_pos v).le), if_neg (rVar_pos v).ne']; rfl
theorem vhat_coe (j : Fin 2048) : vhat x j = ((rXc v j * rR v : ℝ) : EReal) := by
  rw [vhat, xc_coe h, rstd_coe h, ← EReal.coe_mul]
end

/-- The chunk's data are finite. -/
structure Chunk.Fin (C : Chunk) : Prop where
  x : ∀ t k, IsReal (C.x t k)
  D : ∀ t j, IsReal (C.D t j)
  lw : ∀ j, IsReal (C.lw j)
  lb : ∀ j, IsReal (C.lb j)
  W : ∀ g t s, IsReal (C.W g t s)
  bs : ∀ t j, IsReal (C.bs t j)

namespace Chunk
variable {C : Chunk} (h : C.Fin)
include h
theorem real_vp (t : _root_.Fin 128) : ∃ v : _root_.Fin 2048 → ℝ, ∀ j, vp (C.x t) j = (v j : EReal) :=
  ⟨fun j => (finite_gelu (h.x t (hi j))).choose, fun j => (finite_gelu (h.x t (hi j))).choose_spec⟩
theorem fin_M (t : _root_.Fin 128) (j : _root_.Fin 2048) : IsReal (C.M t j) := (h.D t j).mul (finite_gelu (h.x t (lo j)))
theorem fin_V (t : _root_.Fin 128) (j : _root_.Fin 2048) : IsReal (C.V t j) := by
  obtain ⟨v, hv⟩ := real_vp h t
  exact (IsReal.mul ⟨_, vhat_coe hv j⟩ (h.lw j)).add (h.lb j)
theorem fin_wt (g : _root_.Fin 16) (t s : _root_.Fin 128) : IsReal (wt C.W g t s) := by
  unfold wt
  split
  · exact h.W g t s
  · exact IsReal.zero
theorem fin_Y (t : _root_.Fin 128) (j : _root_.Fin 2048) : IsReal (C.Y t j) := by
  show IsReal (∑ s, wt C.W (grp j) s t * C.M s j)
  exact IsReal.sum _ _ fun s => (fin_wt h (grp j) s t).mul (fin_M h s j)
theorem fin_dU (t : _root_.Fin 128) (j : _root_.Fin 2048) : IsReal (C.dU t j) := by
  show IsReal (C.D t j * ((∑ s, wt C.W (grp j) t s * C.V s j) + C.bs t j))
  exact (h.D t j).mul ((IsReal.sum _ _ fun s => (fin_wt h (grp j) t s).mul (fin_V h s j)).add (h.bs t j))
end Chunk
end Cert.Gmlp
-- ==== Proof.Equal.lean ====
module

public import proofs.«01_k».proof.Proof.Finite
public import proofs.«01_k».proof.Proof.RefTail

/-! The two programs' gradients through the layer norm and through the gelu are equal on finite rows. The layer norm:
    the centred row sums to zero, so the mean that the reference subtracts is the mean of the incoming row alone; and
    the square of the reciprocal deviation is the reciprocal of the variance plus epsilon. The gelu:
    `(2/√π)·e^(−(x/√2)²)·½x/√2` is `x·e^(−x²/2)/√(2π)`. -/

@[expose] public section
noncomputable section
open Idealize.ShloMosaic
namespace Cert.Gmlp
open Cert.ReferenceIdeal.Value

theorem sum_rXc (v : Fin 2048 → ℝ) : ∑ j, rXc v j = 0 := by
  simp only [rXc, Finset.sum_sub_distrib, Finset.sum_const, Finset.card_univ, Fintype.card_fin, nsmul_eq_mul]
  push_cast
  ring

theorem rR_cube (v : Fin 2048 → ℝ) : rR v * rR v * rR v = rR v / rVar v := by
  have hs : rR v * rR v = (rVar v)⁻¹ := by
    rw [rR, ← mul_inv, Real.mul_self_sqrt (rVar_pos v).le]
  rw [hs, div_eq_mul_inv, mul_comm]

/-- The gradient through the layer norm over the real numbers, both ways. -/
theorem real_norm (v d : Fin 2048 → ℝ) (q : ℝ) (hq : q = ((∑ j, rXc v j * d j) * (-(1 / 2) * (rR v / rVar v))) / 2048) (j : Fin 2048) :
    d j * rR v + rXc v j * q + q * rXc v j + (∑ k, -(d k * rR v + rXc v k * q + q * rXc v k)) / 2048
      = rR v * (d j - (∑ k, d k) / 2048 - rXc v j * rR v * ((∑ k, d k * (rXc v k * rR v)) / 2048)) := by
  have h1 : ∑ k, -(d k * rR v + rXc v k * q + q * rXc v k) = -((∑ k, d k) * rR v) := by
    rw [Finset.sum_neg_distrib, Finset.sum_add_distrib, Finset.sum_add_distrib, ← Finset.sum_mul, ← Finset.sum_mul, ← Finset.mul_sum, sum_rXc]
    ring
  have h2 : ∑ k, d k * (rXc v k * rR v) = (∑ k, rXc v k * d k) * rR v := by
    rw [Finset.sum_mul]
    exact Finset.sum_congr rfl fun k _ => by ring
  rw [h1, h2, hq, ← rR_cube]
  ring

theorem norm_eq {x : Fin 4096 → EReal} {v d : Fin 2048 → ℝ} (h : ∀ j, vp x j = (v j : EReal)) {Y lw : Fin 2048 → EReal}
    (hd : ∀ j, Y j * lw j = (d j : EReal)) (j : Fin 2048) :
    rvp x (fun k => Y k * lw k) j = dvp (rstd x) (vhat x) lw Y j := by
  have hq : rq x (fun k => Y k * lw k) = ((((∑ j, rXc v j * d j) * (-(1 / 2) * (rR v / rVar v))) / 2048 : ℝ) : EReal) := by
    unfold rq
    simp only [xc_coe h, hd, rstd_coe h, ← EReal.coe_mul]
    rw [sum_coe, var, var_coe h, Ideal.div_coe (rVar_pos v).ne', ← EReal.coe_mul, ← EReal.coe_mul, ← EReal.coe_mul, div_cN, ← div_eq_mul_one_div]
  have e : (fun k => Y k * lw k) = fun k => (d k : EReal) := funext hd
  rw [e] at hq ⊢
  generalize hQ : (((∑ j, rXc v j * d j) * (-(1 / 2) * (rR v / rVar v))) / 2048 : ℝ) = q at hq
  unfold rvp rv dvp
  simp only [hq, xc_coe h, hd, rstd_coe h, vhat_coe h, ← EReal.coe_mul, ← EReal.coe_add, ← EReal.coe_neg]
  rw [mean_coe, mean_coe, mean_coe]
  simp only [← EReal.coe_mul, ← EReal.coe_add, ← EReal.coe_sub]
  exact congrArg _ (real_norm v d q hQ.symm j)

theorem gelu_eq {x G : EReal} (hx : IsReal x) (hG : IsReal G) : rgelu x G = G * dgelu x := by
  obtain ⟨a, rfl⟩ := hx
  obtain ⟨g, rfl⟩ := hG
  unfold rgelu dgelu
  simp only [← EReal.coe_mul, ← EReal.coe_neg, erf_coe, ← EReal.coe_one, ← EReal.coe_add, Ideal.exp_coe]
  rw [Ideal.div_coe (by positivity)]
  simp only [← EReal.coe_mul, ← EReal.coe_add]
  refine congrArg _ ?_
  have h2 : (Real.sqrt 2)⁻¹ * (Real.sqrt 2)⁻¹ = 1 / 2 := by
    rw [← mul_inv, Real.mul_self_sqrt (by norm_num)]; norm_num
  have he : -(a * (Real.sqrt 2)⁻¹) * (a * (Real.sqrt 2)⁻¹) = -(1 / 2) * a * a := by linear_combination (-(a * a)) * h2
  rw [he, Real.sqrt_mul (by norm_num), mul_inv, one_div (Real.sqrt 2)]
  ring

/-- The reference's gradient of the gelu's argument is the kernel's. -/
theorem dX_eq {C : Chunk} (h : C.Fin) (t : Fin 128) (k : Fin 4096) :
    rgelu (C.x t k) (side (C.dU t) (rvp (C.x t) fun j => C.Y t j * C.lw j) k) = C.dX t k := by
  obtain ⟨v, hv⟩ := Chunk.real_vp h t
  choose d hd using fun j => (Chunk.fin_Y h t j).mul (h.lw j)
  have e : (rvp (C.x t) fun j => C.Y t j * C.lw j) = dvp (rstd (C.x t)) (vhat (C.x t)) C.lw (C.Y t) := funext (norm_eq hv hd)
  have hf : ∀ j, IsReal (dvp (rstd (C.x t)) (vhat (C.x t)) C.lw (C.Y t) j) := fun j => by
    unfold dvp
    simp only [hd, rstd_coe hv, vhat_coe hv, ← EReal.coe_mul]
    rw [mean_coe, mean_coe]
    simp only [← EReal.coe_mul, ← EReal.coe_sub]
    exact IsReal.coe _
  rw [e, gelu_eq (h.x t k)]
  · rfl
  · unfold side
    split
    · exact Chunk.fin_dU h t _
    · exact hf _

end Cert.Gmlp
-- ==== Proof.RefOut.lean ====
module

public import proofs.«01_k».proof.Proof.RefTail
public import proofs.«01_k».proof.Proof.Equal

/-! The reference's six results as the gradients of the whole mixer. -/

@[expose] public section
set_option maxRecDepth 16384
noncomputable section
open Idealize.ShloMosaic Idealize.ShloMosaic.TcCoe Idealize.SL.Sem
namespace Cert.ReferenceIdeal.Value
open Cert.ReferenceIdeal Cert.ReferenceIdeal.Gen Cert.ReferenceIdeal.Read Cert.Gmlp
section
variable (x0 : Vec Ideal S4096x2048 .f32) (x1 : Vec Ideal S4096x4096 .f32) (x2 : Vec Ideal S4096 .f32)
  (x3 x4 : Vec Ideal S2048 .f32) (x5 : Vec Ideal S16x128x128 .f32) (x6 : Vec Ideal S16x128 .f32)

theorem out69 : val_main_v69 x0 x1 x2 x3 x4 = fun j : S16x128x128.Idx => (rargs x0 x1 x2 x3 x4 x5 x6).gW (j 0) (j 1) (j 2) := by
  funext j
  idx_vars j
  exact v69_at x0 x1 x2 x3 x4 x5 x6 _ _ _

theorem out118 : val_main_v118 x0 x1 x2 x5 = fun j : S1x2048.Idx => (rargs x0 x1 x2 x3 x4 x5 x6).gLw (j 1) := by
  funext j
  idx_vars j
  exact v118_at x0 x1 x2 x3 x4 x5 x6 _ _

theorem out119 : val_main_v119 x0 x1 x2 x5 = fun j : S1x2048.Idx => (rargs x0 x1 x2 x3 x4 x5 x6).gLb (j 1) := by
  funext j
  idx_vars j
  exact v119_at x0 x1 x2 x3 x4 x5 x6 _ _

theorem out120 : val_main_v120 x0 x1 x2 = fun j : S128x2048.Idx => (rargs x0 x1 x2 x3 x4 x5 x6).gS (j 0) (j 1) := by
  funext j
  idx_vars j
  exact v120_at x0 x1 x2 x3 x4 x5 x6 _ _

section
variable (h : ∀ p, ((rargs x0 x1 x2 x3 x4 x5 x6).chunk p).Fin)
include h

theorem grad_at (p : Fin 32) (s : Fin 128) (k : Fin 4096) : val_main_v112 x0 x1 x2 x3 x4 x5 x6 (ix2 (row p s) k)
    = ((rargs x0 x1 x2 x3 x4 x5 x6).chunk p).dX s k :=
  (v112_at x0 x1 x2 x3 x4 x5 x6 p s k).trans (dX_eq (h p) s k)

theorem out116 : val_main_v116 x0 x1 x2 x3 x4 x5 x6 = fun j : S4096x4096.Idx => (rargs x0 x1 x2 x3 x4 x5 x6).gPre (j 0) (j 1) := by
  funext j
  obtain ⟨r, k, rfl⟩ : ∃ (r k : Fin 4096), j = ix2 r k := ⟨j 0, j 1, eq_ix2 j⟩
  have e := grad_at x0 x1 x2 x3 x4 x5 x6 h (chunkNo r) (place r) k
  rw [row_place] at e
  exact e

theorem out117 : val_main_v117 x0 x1 x2 x3 x4 x5 x6 = fun j : S1x4096.Idx => (rargs x0 x1 x2 x3 x4 x5 x6).gB (j 1) := by
  funext j
  obtain ⟨z, k, rfl⟩ : ∃ (z : Fin 1) (k : Fin 4096), j = ix2 z k := ⟨j 0, j 1, eq_ix2 j⟩
  rw [v117_at]
  simp only [grad_at x0 x1 x2 x3 x4 x5 x6 h]
  rfl
end

end
end Cert.ReferenceIdeal.Value
-- ==== Proof.Pre.lean ====
module

public import proofs.«01_k».proof.Defs
public import proofs.«01_k».proof.Proof.Finite
public import proofs.«01_k».proof.Proof.RefVal
public import Idealize.ShloMosaic.Lib.Pointwise

/-! The precondition read at an index: every entry of every argument is a real number. -/

@[expose] public section
set_option maxRecDepth 16384
noncomputable section
open Idealize.ShloMosaic Idealize.ShloMosaic.TcCoe Idealize.SL.Sem
namespace Cert.Gmlp
open Cert.Pre_finite

/-- The precondition's shapes broadcast. -/
theorem pre_facts : Cert.Pre_finite.Facts where
  bcast_S_S4096x2048 := by decide
  bcast_S_S4096x4096 := by decide
  bcast_S_S4096 := by decide
  bcast_S_S2048 := by decide
  bcast_S_S16x128x128 := by decide
  bcast_S_S16x128 := by decide

theorem ofBits_inf : Ideal.ofBits .f32 0x7F800000#32 = ⊤ := by simp [Ideal.ofBits, Ideal.ieee]

/-- A number whose magnitude compares below infinity is real. -/
theorem isReal_of_lt {a : EReal} (h : Ideal.cmp .olt (max a (-a)) ⊤ = 1#1) : IsReal a := by
  have hlt : max a (-a) < ⊤ := by
    by_contra hn
    simp [Ideal.cmp, hn] at h
  refine IsReal.of_ne (fun e => ?_) (fun e => ?_)
  · rw [e] at hlt; exact absurd hlt (by simp)
  · rw [e] at hlt; exact absurd hlt (by simp)

variable [Cert.Pre_finite.Facts]
variable {x0 : FVec Ideal S4096x2048 .f32} {x1 : FVec Ideal S4096x4096 .f32} {x2 : FVec Ideal S4096 .f32} {x3 x4 : FVec Ideal S2048 .f32}
  {x5 : FVec Ideal S16x128x128 .f32} {x6 : FVec Ideal S16x128 .f32}

/-- A whole array's comparison, read at an entry. -/
theorem isReal_at {s : Shape} (x : FVec Ideal s .f32) (hb : S_.BroadcastsInDim s (![] : Fin 0 → Fin s.rank))
    (h : cmpf .olt (Host.absf x) (broadcastInDim s ![] hb (constant (F := Ideal) S_ .f32 0x7F800000#32)) = fun _ => 1#1) (i : s.Idx) : IsReal (x i) := by
  refine isReal_of_lt ?_
  have e := congrFun h i
  rw [← ofBits_inf]
  exact e

/-- Under the precondition each chunk's data are finite. -/
theorem chunk_fin (h0 : (fn (F := Ideal) x0 x1 x2 x3 x4 x5 x6).1 = fun _ => 1#1)
    (h1 : (fn (F := Ideal) x0 x1 x2 x3 x4 x5 x6).2.1 = fun _ => 1#1) (h2 : (fn (F := Ideal) x0 x1 x2 x3 x4 x5 x6).2.2.1 = fun _ => 1#1)
    (h3 : (fn (F := Ideal) x0 x1 x2 x3 x4 x5 x6).2.2.2.1 = fun _ => 1#1) (h4 : (fn (F := Ideal) x0 x1 x2 x3 x4 x5 x6).2.2.2.2.1 = fun _ => 1#1)
    (h5 : (fn (F := Ideal) x0 x1 x2 x3 x4 x5 x6).2.2.2.2.2.1 = fun _ => 1#1) (h6 : (fn (F := Ideal) x0 x1 x2 x3 x4 x5 x6).2.2.2.2.2.2 = fun _ => 1#1)
    (p : Fin 32) : ((Cert.ReferenceIdeal.Value.rargs x0 x1 x2 x3 x4 x5 x6).chunk p).Fin where
  x t k := (isReal_at x1 _ h1 _).add (isReal_at x2 _ h2 _)
  D t j := isReal_at x0 _ h0 _
  lw j := isReal_at x3 _ h3 _
  lb j := isReal_at x4 _ h4 _
  W g t s := isReal_at x5 _ h5 _
  bs t j := isReal_at x6 _ h6 _

end Cert.Gmlp
-- ==== Proof.Mixer.lean ====
module

public import proofs.«01_k».proof.Defs
public import proofs.«01_k».proof.Proof.Gen.Kernel.Frame
public import proofs.«01_k».proof.Proof.Gen.ReferenceIdeal.Run
public import proofs.«01_k».proof.Proof.KArr
public import proofs.«01_k».proof.Proof.RefOut
public import proofs.«01_k».proof.Proof.Pre
public import Idealize.ShloMosaic.Lib.Quiescent

/-! The claims about the mixer's gradient: the programs run, the kernel's idealization is sanctioned, and at finite
    arguments the kernel's six results are the reference's. -/

@[expose] public section
set_option maxRecDepth 16384
noncomputable section
open Idealize.ShloMosaic Idealize.ShloMosaic.TcCoe Idealize.SL.Sem
namespace Cert.Proof.Mixer
open Cert.Gmlp

theorem frame_kernel : Cert.quiescent_Kernel (hKernel := Cert.Kernel.Gen.facts) := fun m ρ _ => Cert.Kernel.Gen.frame m ρ
theorem frame_ideal : Cert.quiescent_KernelIdeal (hKernelIdeal := Cert.KernelIdeal.Gen.facts) := fun m ρ _ => Cert.KernelIdeal.Gen.frame m ρ
theorem frame_ideal_pre : Cert.quiescent_KernelIdeal_pre_finite (hKernelIdeal := Cert.KernelIdeal.Gen.facts) (hPre_finite := pre_facts) :=
  fun m ρ _ => Cert.KernelIdeal.Gen.frame m ρ
theorem frame_reference : Cert.quiescent_ReferenceIdeal (hReferenceIdeal := Cert.ReferenceIdeal.Gen.facts) := fun m ρ _ =>
  (θ_run Cert.ReferenceIdeal.defs _ _).mono (fun r h => ⟨fun c => (h c).2.2.2.2.2.2, sem_eq_zero_of_no_sems (by decide) r.2⟩)
    (Cert.ReferenceIdeal.Value.run (F := Ideal) m ρ)
theorem frame_reference_pre : Cert.quiescent_ReferenceIdeal_pre_finite (hReferenceIdeal := Cert.ReferenceIdeal.Gen.facts) (hPre_finite := pre_facts) :=
  fun m ρ _ => frame_reference m ρ trivial

theorem preserves : Cert.preserves_Kernel_KernelIdeal :=
  ⟨IdealRules.named_const.statement Cert.KernelIdeal.κ "root_half" .f32 0x3F3504F3#32 (((Real.sqrt 2)⁻¹ : ℝ) : EReal) rfl,
    IdealRules.named_const.statement Cert.KernelIdeal.κ "gauss" .f32 0x3ECC422A#32 (((Real.sqrt (2 * Real.pi))⁻¹ : ℝ) : EReal) rfl⟩

/-- The arguments at the kernel's memory, chunk by chunk, are finite under the precondition. -/
theorem fin_args (m : (ℓ : Loc Cert.KernelIdeal.nD Cert.KernelIdeal.τ Cert.KernelIdeal.sig) → Buf (Elt Ideal) ℓ)
    (h : Cert.Pre_KernelIdeal_finite (hPre_finite := pre_facts) m) (c : Dev Cert.KernelIdeal.nD) (p : Fin 32) :
    ((Cert.KernelIdeal.Value.args m c).chunk p).Fin := by
  obtain ⟨h0, h1, h2, h3, h4, h5, h6⟩ := h c
  exact @chunk_fin pre_facts _ _ _ _ _ _ _ h0 h1 h2 h3 h4 h5 h6 p

theorem algebraic : Cert.algebraic_KernelIdeal_ReferenceIdeal_pre_finite (hKernelIdeal := Cert.KernelIdeal.Gen.facts)
    (hReferenceIdeal := Cert.ReferenceIdeal.Gen.facts) (hPre_finite := pre_facts) := by
  intro m ρ m' ρ' hpre hagree
  refine ⟨fun c => fun j : Cert.KernelIdeal.S4096x4096.Idx => (Cert.KernelIdeal.Value.args m c).gPre (j 0) (j 1),
    fun c => fun j : Cert.KernelIdeal.S1x4096.Idx => (Cert.KernelIdeal.Value.args m c).gB (j 1),
    fun c => fun j : Cert.KernelIdeal.S1x2048.Idx => (Cert.KernelIdeal.Value.args m c).gLw (j 1),
    fun c => fun j : Cert.KernelIdeal.S1x2048.Idx => (Cert.KernelIdeal.Value.args m c).gLb (j 1),
    fun c => fun j : Cert.KernelIdeal.S16x128x128.Idx => (Cert.KernelIdeal.Value.args m c).gW (j 0) (j 1) (j 2),
    fun c => fun j : Cert.KernelIdeal.S128x2048.Idx => (Cert.KernelIdeal.Value.args m c).gS (j 0) (j 1), ?_, ?_⟩
  · refine (θ_run Cert.KernelIdeal.defs _ _).mono (fun r h c => ?_) (Cert.KernelIdeal.Value.run_blocks (F := Ideal) m ρ)
    obtain ⟨e0, e1, e2, e3, e4, e5, hargs⟩ := h c
    exact ⟨e0.trans (Cert.KernelIdeal.Value.arr7 m c), e1.trans (Cert.KernelIdeal.Value.arr8 m c), e2.trans (Cert.KernelIdeal.Value.arr9 m c),
      e3.trans (Cert.KernelIdeal.Value.arr10 m c), e4.trans (Cert.KernelIdeal.Value.arr11 m c), e5.trans (Cert.KernelIdeal.Value.arr12 m c), hargs⟩
  · refine (θ_run Cert.ReferenceIdeal.defs _ _).mono (fun r h c => ?_) (Cert.ReferenceIdeal.Value.run (F := Ideal) m' ρ')
    obtain ⟨e0, e1, e2, e3, e4, e5, hargs⟩ := h c
    obtain ⟨a0, a1, a2, a3, a4, a5, a6⟩ := hagree c
    have hA : Cert.ReferenceIdeal.Value.rargs (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6)) = Cert.KernelIdeal.Value.args m c := by
      rw [a0, a1, a2, a3, a4, a5, a6]; rfl
    have hf := fin_args m hpre c
    generalize hB : Cert.KernelIdeal.Value.args m c = B at hA hf
    subst hA
    simp only [hB]
    exact ⟨e0.trans ((Cert.ReferenceIdeal.Read.val_main_v116_eq _).trans (Cert.ReferenceIdeal.Value.out116 _ _ _ _ _ _ _ hf)),
      e1.trans ((Cert.ReferenceIdeal.Read.val_main_v117_eq _).trans (Cert.ReferenceIdeal.Value.out117 _ _ _ _ _ _ _ hf)),
      e2.trans ((Cert.ReferenceIdeal.Read.val_main_v118_eq _).trans (Cert.ReferenceIdeal.Value.out118 _ _ _ _ _ _ _)),
      e3.trans ((Cert.ReferenceIdeal.Read.val_main_v119_eq _).trans (Cert.ReferenceIdeal.Value.out119 _ _ _ _ _ _ _)),
      e4.trans ((Cert.ReferenceIdeal.Read.val_main_v69_eq _).trans (Cert.ReferenceIdeal.Value.out69 _ _ _ _ _ _ _)),
      e5.trans ((Cert.ReferenceIdeal.Read.val_main_v120_eq _).trans (Cert.ReferenceIdeal.Value.out120 _ _ _ _ _ _ _)), hargs⟩

end Cert.Proof.Mixer
-- ==== Proof.FSpec.lean ====
module

public import Idealize.ShloMosaic.Lib.Pointwise
public import Idealize.ShloMosaic.PureOps.Ideal.Laws

/-! The mathematics of the gradient of a gated feed-forward layer behind a root-mean-square norm, over the extended
    reals: `h ↦ (silu(u·Wg) * (u·Wu))·Wd` with `u = h/rms(h) * w`. First a tile (512 rows against the 704 hidden columns
    of one chip), then the whole layer: 8 tiles of rows, 4 chips. -/

@[expose] public section
noncomputable section
open Idealize.ShloMosaic
namespace Cert.Ffn

/-- The number of columns that the norm averages over, and the norm's epsilon: the rational that the float word of
    `1e-6` is. -/
abbrev cN : EReal := ((1024 : ℝ) : EReal)
abbrev rEps : ℝ := 8796093 / 2 ^ 43
abbrev cEps : EReal := (rEps : EReal)

theorem ofBits_n : Ideal.ofBits .f32 0x44800000#32 = cN := by
  simp [Ideal.ofBits, Ideal.ieee]; norm_num; rw [← EReal.coe_mul]; congr 1; norm_num
theorem ofBits_eps : Ideal.ofBits .f32 0x358637BD#32 = cEps := by
  simp [Ideal.ofBits, Ideal.ieee]; norm_num; rw [← EReal.coe_mul]; congr 1; norm_num [rEps]

/-- The sigmoid, the silu and its derivative. -/
def sigmoid (x : EReal) : EReal := Ideal.div 1 (1 + Ideal.exp (-x))
def silu (x : EReal) : EReal := x * sigmoid x
def dsilu (x : EReal) : EReal := sigmoid x * (1 + x * (1 - sigmoid x))

/-- The mean of a row, the reciprocal root mean square, the row over it, and the norm. -/
def mean (x : Fin 1024 → EReal) : EReal := Ideal.div (∑ j, x j) cN
def rs (x : Fin 1024 → EReal) : EReal := Ideal.rsqrt (mean (fun j => x j * x j) + cEps)
def xh (x : Fin 1024 → EReal) (j : Fin 1024) : EReal := x j * rs x
def nrm (x w : Fin 1024 → EReal) (j : Fin 1024) : EReal := xh x j * w j
/-- The gradient of the norm's argument `x`, weight `w`, for the gradient `y` of its result. -/
def dnrm (x w y : Fin 1024 → EReal) (j : Fin 1024) : EReal :=
  rs x * (y j * w j - xh x j * mean fun k => y k * w k * xh x k)

/-- A tile: 512 rows of the incoming gradient and of the two hidden products, and one chip's 704 rows of the three
    weights (each laid out with the hidden column first). -/
structure Tile where
  D : Fin 512 → Fin 1024 → EReal
  wd : Fin 704 → Fin 1024 → EReal
  wg : Fin 704 → Fin 1024 → EReal
  wu : Fin 704 → Fin 1024 → EReal
  G : Fin 512 → Fin 704 → EReal
  U : Fin 512 → Fin 704 → EReal

namespace Tile
variable (T : Tile)
/-- The gradient of the gated product, of the gate, and of the other factor; and the tile's part of the gradient of the
    norm's result. -/
def dA (r : Fin 512) (f : Fin 704) : EReal := ∑ d, T.D r d * T.wd f d
def dG (r : Fin 512) (f : Fin 704) : EReal := T.dA r f * T.U r f * dsilu (T.G r f)
def dU (r : Fin 512) (f : Fin 704) : EReal := T.dA r f * silu (T.G r f)
def part (r : Fin 512) (d : Fin 1024) : EReal := (∑ f, T.dG r f * T.wg f d) + ∑ f, T.dU r f * T.wu f d
end Tile

/-- Row `r` of tile `i` among the 4096 rows, and the tile and the place of a row. -/
def row (i : Fin 8) (r : Fin 512) : Fin 4096 := ⟨512 * i.val + r.val, by omega⟩
def tileNo (r : Fin 4096) : Fin 8 := ⟨r.val / 512, by omega⟩
def place (r : Fin 4096) : Fin 512 := ⟨r.val % 512, by omega⟩
theorem row_place (r : Fin 4096) : row (tileNo r) (place r) = r := Fin.ext (Nat.div_add_mod _ _)
theorem tileNo_row (i : Fin 8) (r : Fin 512) : tileNo (row i r) = i := Fin.ext (by simp only [tileNo, row]; omega)
theorem place_row (i : Fin 8) (r : Fin 512) : place (row i r) = r := Fin.ext (by simp only [place, row]; omega)
/-- A sum over the rows is the sum over the tiles of the sums over a tile's rows. -/
theorem sum_rows (f : Fin 4096 → EReal) : ∑ r, f r = ∑ i, ∑ r, f (row i r) := by
  rw [← Fintype.sum_prod_type' fun i r => f (row i r)]
  let e : Fin 8 × Fin 512 ≃ Fin 4096 :=
    { toFun := fun x => row x.1 x.2
      invFun := fun r => (tileNo r, place r)
      left_inv := fun x => Prod.ext (tileNo_row x.1 x.2) (place_row x.1 x.2)
      right_inv := fun r => row_place r }
  exact (Equiv.sum_comp e f).symm

/-- Hidden column `f` of chip `k` among the 2816, and the chip and the lane of a hidden column. -/
def col (k : Fin 4) (f : Fin 704) : Fin 2816 := ⟨704 * k.val + f.val, by omega⟩
def chipNo (f : Fin 2816) : Fin 4 := ⟨f.val / 704, by omega⟩
def lane (f : Fin 2816) : Fin 704 := ⟨f.val % 704, by omega⟩
theorem col_lane (f : Fin 2816) : col (chipNo f) (lane f) = f := Fin.ext (Nat.div_add_mod _ _)
theorem chipNo_col (k : Fin 4) (f : Fin 704) : chipNo (col k f) = k := Fin.ext (by simp only [chipNo, col]; omega)
theorem lane_col (k : Fin 4) (f : Fin 704) : lane (col k f) = f := Fin.ext (by simp only [lane, col]; omega)
/-- A sum over the hidden columns is the sum over the chips of the sums over a chip's columns. -/
theorem sum_cols (g : Fin 2816 → EReal) : ∑ f, g f = ∑ k, ∑ f, g (col k f) := by
  rw [← Fintype.sum_prod_type' fun k f => g (col k f)]
  let e : Fin 4 × Fin 704 ≃ Fin 2816 :=
    { toFun := fun x => col x.1 x.2
      invFun := fun f => (chipNo f, lane f)
      left_inv := fun x => Prod.ext (chipNo_col x.1 x.2) (lane_col x.1 x.2)
      right_inv := fun f => col_lane f }
  exact (Equiv.sum_comp e g).symm

/-- The arguments: the incoming gradient, the layer's input, the norm's weight, the gate's, the other factor's and the
    result's weights. -/
structure Args where
  dh : Fin 4096 → Fin 1024 → EReal
  h : Fin 4096 → Fin 1024 → EReal
  nw : Fin 1024 → EReal
  wg : Fin 1024 → Fin 2816 → EReal
  wu : Fin 1024 → Fin 2816 → EReal
  wd : Fin 2816 → Fin 1024 → EReal

namespace Args
variable (A : Args)
/-- The two hidden products that the forward pass computed. -/
def G (r : Fin 4096) (f : Fin 2816) : EReal := ∑ d, nrm (A.h r) A.nw d * A.wg d f
def U (r : Fin 4096) (f : Fin 2816) : EReal := ∑ d, nrm (A.h r) A.nw d * A.wu d f
/-- Tile `i` at chip `k`. -/
def tile (i : Fin 8) (k : Fin 4) : Tile where
  D r d := A.dh (row i r) d
  wd f d := A.wd (col k f) d
  wg f d := A.wg d (col k f)
  wu f d := A.wu d (col k f)
  G r f := A.G (row i r) (col k f)
  U r f := A.U (row i r) (col k f)
/-- The gradients of the two hidden products. -/
def dG (r : Fin 4096) (k : Fin 4) (f : Fin 704) : EReal := (A.tile (tileNo r) k).dG (place r) f
def dU (r : Fin 4096) (k : Fin 4) (f : Fin 704) : EReal := (A.tile (tileNo r) k).dU (place r) f
/-- The gradient of the norm's result, of the layer's input, and of the norm's weight. -/
def Y (r : Fin 4096) (d : Fin 1024) : EReal := ∑ k, (A.tile (tileNo r) k).part (place r) d
def dX (r : Fin 4096) (d : Fin 1024) : EReal := A.dh r d + dnrm (A.h r) A.nw (A.Y r) d
def dN (d : Fin 1024) : EReal := ∑ i, ∑ r, A.Y (row i r) d * xh (A.h (row i r)) d
end Args
end Cert.Ffn
-- ==== Proof.FPay.lean ====
module

public import proofs.«01_k».proof.Proof.Gen.Kernel2Ideal.Frame
public import proofs.«01_k».proof.Proof.FSpec
public import Idealize.ShloMosaic.Lib.Pipeline.ValueKit
public import Idealize.ShloMosaic.Lib.Pipeline.ReadBack
public import Idealize.ShloMosaic.Lib.Pointwise

/-! What one grid point of the feed-forward backward kernel computes, term by term: each vector that the body builds
    from its blocks, read at an index. -/

@[expose] public section
set_option maxRecDepth 16384
noncomputable section
open Idealize.ShloMosaic Idealize.ShloMosaic.TcCoe Idealize.SL.Sem
open Idealize.ShloMosaic.Pipeline (Dat)
namespace Cert.Kernel2Ideal.Value
open Cert.Kernel2Ideal Cert.Kernel2Ideal.Gen Cert.Ffn
section
variable (D : Vec Ideal S256x1024 .f32) (W W' : Vec Ideal S1x704x1024 .bf16) (G U : Vec Ideal S1x256x704 .bf16)
  (X Y : FVec Ideal S256x704 .bf16) (P : Vec Ideal S256x1024 .f32) (a : Fin 256) (f : Fin 704) (d : Fin 1024)

/-- The first half of the rows: the gradient of the gated product, of the gate, of the other factor, and what is added
    to the accumulator. -/
theorem pay8_at : k0_pay8 D W (ix2 a f) = ∑ d, D (ix2 a d) * W (ix3 0 f d) := by
  pointwise [k0_pay8]

theorem pay10_at : k0_pay10 D W G U (ix2 a f) = (∑ d, D (ix2 a d) * W (ix3 0 f d)) * U (ix3 0 a f) * dsilu (G (ix3 0 a f)) := by
  pointwise [k0_pay10, k0_pay9]
  simp only [pay8_at, dsilu, sigmoid, zero_sub]

theorem pay12_at : k0_pay12 (k0_pay8 D W) (k0_pay9 G) (k0_pay11 G) (FloatOps.ofBits FTy.f32 0x3F800000#32) (ix2 a f)
    = (∑ d, D (ix2 a d) * W (ix3 0 f d)) * silu (G (ix3 0 a f)) := by
  pointwise [k0_pay12, k0_pay9, k0_pay11]
  simp only [pay8_at, silu, sigmoid, zero_sub]

theorem pay15_at : k0_pay15 (k0_pay8 D W) (k0_pay9 G) X (k0_pay11 G) (FloatOps.ofBits FTy.f32 0x3F800000#32) P W W' (ix2 a d)
    = P (ix2 a d) + ((∑ f, X (ix2 a f) * W (ix3 0 f d))
      + ∑ f, k0_pay12 (k0_pay8 D W) (k0_pay9 G) (k0_pay11 G) (FloatOps.ofBits FTy.f32 0x3F800000#32) (ix2 a f) * W' (ix3 0 f d)) := by
  pointwise [k0_pay15]

/-- The second half of the rows. -/
theorem pay16_at : k0_pay16 D W (ix2 a f) = ∑ d, D (ix2 a d) * W (ix3 0 f d) := by
  pointwise [k0_pay16]

theorem pay19_at : k0_pay19 (k0_pay16 D W) (k0_pay17 G) U (ix2 a f)
    = (∑ d, D (ix2 a d) * W (ix3 0 f d)) * U (ix3 0 a f) * dsilu (G (ix3 0 a f)) := by
  pointwise [k0_pay19, k0_pay18, k0_pay17]
  simp only [pay16_at, dsilu, sigmoid, zero_sub]

theorem pay20_at : k0_pay20 (k0_pay16 D W) (k0_pay17 G) (ix2 a f)
    = (∑ d, D (ix2 a d) * W (ix3 0 f d)) * silu (G (ix3 0 a f)) := by
  pointwise [k0_pay20, k0_pay18, k0_pay17]
  simp only [pay16_at, silu, sigmoid, zero_sub]

theorem pay1_at : k0_pay1 X Y P W W' (ix2 a d)
    = P (ix2 a d) + ((∑ f, X (ix2 a f) * W (ix3 0 f d)) + ∑ f, Y (ix2 a f) * W' (ix3 0 f d)) := by
  pointwise [k0_pay1]
end

section
variable (y h dh : Vec Ideal S512x1024 .f32) (w P : Vec Ideal S1x1024 .f32) (r : Fin 512) (j : Fin 1024) (z : Fin 1)

/-- The gradient of the norm at a tile's last point. -/
theorem pay3_at : k0_pay3 h (ix2 r z) = rs fun j => h (ix2 r j) := by
  pointwise [k0_pay3]
  simp only [ofBits_n, ofBits_eps]; rfl

theorem pay4_at : k0_pay4 h (ix2 r j) = xh (fun j => h (ix2 r j)) j := by
  pointwise [k0_pay4]
  rw [pay3_at]; rfl

theorem pay5_at : k0_pay5 y h (ix2 z j) = ∑ r, y (ix2 r j) * xh (fun j => h (ix2 r j)) j := by
  pointwise [k0_pay5]
  simp only [pay4_at]

theorem pay6_at : k0_pay6 y h w dh (ix2 r j)
    = dh (ix2 r j) + dnrm (fun j => h (ix2 r j)) (fun j => w (ix2 0 j)) (fun j => y (ix2 r j)) j := by
  pointwise [k0_pay6]
  simp only [pay3_at, pay4_at, ofBits_n]; rfl

theorem pay2_at : k0_pay2 (k0_pay5 y h) P (ix2 z j) = P (ix2 z j) + ∑ r, y (ix2 r j) * xh (fun j => h (ix2 r j)) j := by
  pointwise [k0_pay2]
  rw [pay5_at]
end
end Cert.Kernel2Ideal.Value
-- ==== Proof.FPoint.lean ====
module

public import proofs.«01_k».proof.Proof.FPay
public import proofs.«01_k».proof.Proof.KPoint
public import Idealize.ShloMosaic.Lib.Pipeline.ValueKit
public import Idealize.ShloMosaic.Lib.Pipeline.ReadBack
public import Idealize.ShloMosaic.Lib.Pointwise

/-! What each grid point of the feed-forward backward kernel leaves in its outputs and in the accumulator, over the
    blocks that it reads. Point `t` works on rows `512·(t/4) …` against chip `t % 4`. -/

@[expose] public section
set_option maxRecDepth 16384
noncomputable section
open Idealize.ShloMosaic Idealize.ShloMosaic.TcCoe Idealize.SL.Sem
open Idealize.ShloMosaic.Pipeline (Dat)
namespace Cert.Kernel2Ideal.Value
open Cert.Kernel2Ideal Cert.Kernel2Ideal.Gen Cert.Ffn
section
variable (D : Vec Ideal S512x1024 .f32) (Wd Wg Wu : Vec Ideal S1x704x1024 .bf16) (G U : Vec Ideal S1x512x704 .bf16)

/-- The tile that a point's blocks hold. -/
def tile : Tile where
  D r d := D (ix2 r d)
  wd f d := Wd (ix3 0 f d)
  wg f d := Wg (ix3 0 f d)
  wu f d := Wu (ix3 0 f d)
  G r f := G (ix3 0 r f)
  U r f := U (ix3 0 r f)
end
section
variable (m : (ℓ : Loc nD τ sig) → Buf (Elt Ideal) ℓ) (c : Dev nD) (t : Fin cfg0.N)
abbrev bD : Vec Ideal S512x1024 .f32 := iblk m c 0 t
abbrev bH : Vec Ideal S512x1024 .f32 := iblk m c 1 t
abbrev bN : Vec Ideal S1x1024 .f32 := iblk m c 2 t
abbrev bWd : Vec Ideal S1x704x1024 .bf16 := iblk m c 3 t
abbrev bWg : Vec Ideal S1x704x1024 .bf16 := iblk m c 4 t
abbrev bWu : Vec Ideal S1x704x1024 .bf16 := iblk m c 5 t
abbrev bG : Vec Ideal S1x512x704 .bf16 := iblk m c 6 t
abbrev bU : Vec Ideal S1x512x704 .bf16 := iblk m c 7 t
/-- The tile that point `t` works on. -/
abbrev til : Tile := tile (bD m c t) (bWd m c t) (bWg m c t) (bWu m c t) (bG m c t) (bU m c t)
/-- What the point before `t` left. -/
abbrev before := outsAt0 m c (t.val - 1) (Nat.lt_of_le_of_lt (Nat.sub_le _ _) t.isLt)

/-- A point is a first one of its rows, a middle one, the last one of the first rows, or the last one of later rows. -/
theorem cases : t.val % 4 = 0 ∨ (¬t.val % 4 = 0 ∧ ¬t.val % 4 = 3) ∨ (t.val % 4 = 3 ∧ t.val < 4) ∨ (t.val % 4 = 3 ∧ 4 ≤ t.val) := by omega

/-- The gate's gradient. -/
theorem out8 (z : Fin 1) (r : Fin 512) (f : Fin 704) : (outsAt0 m c t.val t.isLt).1 (ix3 z r f) = (til m c t).dG r f := by
  unfold til tile Tile.dG Tile.dA
  dsimp only [bD, bWd, bWg, bWu, bG, bU]
  obtain ⟨j, hj⟩ : ∃ j : S1x512x704.Idx, j = ix3 z r f := ⟨_, rfl⟩
  have hr : r.val = (j 1).val := by rw [hj]; rfl
  have hf : f.val = (j 2).val := by rw [hj]; rfl
  rw [← hj]
  clear hj
  rcases cases t with ca | ⟨ca, cb⟩ | ⟨ca, cb⟩ | ⟨ca, cb⟩
  on_goal 1 => rw [outsAt0_A m c t ca (by omega)]
  on_goal 2 => rw [outsAt0_B m c t ca cb]
  on_goal 3 => rw [outsAt0_C m c t (by omega) ca cb (by omega)]
  on_goal 4 => rw [outsAt0_D m c t (by omega) ca (by omega) cb]
  all_goals
    frame_open
    frame_out
    generalize iblk m c 0 t = D
    generalize iblk m c 3 t = Wd
    generalize iblk m c 6 t = G
    generalize iblk m c 7 t = U
    canon_tiles j h
    all_goals
      open_payloads
      rw [h1] at hr
      rw [h2] at hf
      pointwise [k0_pay21, k0_pay13]
      simp only [← hr, Fin.eta, dsilu, sigmoid, zero_sub, show j 2 = f from Fin.ext hf.symm]

/-- The other factor's gradient. -/
theorem out9 (z : Fin 1) (r : Fin 512) (f : Fin 704) : (outsAt0 m c t.val t.isLt).2.1 (ix3 z r f) = (til m c t).dU r f := by
  unfold til tile Tile.dU Tile.dA
  dsimp only [bD, bWd, bWg, bWu, bG, bU]
  obtain ⟨j, hj⟩ : ∃ j : S1x512x704.Idx, j = ix3 z r f := ⟨_, rfl⟩
  have hr : r.val = (j 1).val := by rw [hj]; rfl
  have hf : f.val = (j 2).val := by rw [hj]; rfl
  rw [← hj]
  clear hj
  rcases cases t with ca | ⟨ca, cb⟩ | ⟨ca, cb⟩ | ⟨ca, cb⟩
  on_goal 1 => rw [outsAt0_A m c t ca (by omega)]
  on_goal 2 => rw [outsAt0_B m c t ca cb]
  on_goal 3 => rw [outsAt0_C m c t (by omega) ca cb (by omega)]
  on_goal 4 => rw [outsAt0_D m c t (by omega) ca (by omega) cb]
  all_goals
    frame_open
    frame_out
    generalize iblk m c 0 t = D
    generalize iblk m c 3 t = Wd
    generalize iblk m c 6 t = G
    generalize iblk m c 7 t = U
    canon_tiles j h
    all_goals
      open_payloads
      rw [h1] at hr
      rw [h2] at hf
      pointwise [k0_pay22, k0_pay14]
      simp only [← hr, Fin.eta, silu, sigmoid, zero_sub, show j 2 = f from Fin.ext hf.symm]

/-- The accumulator at a first point. -/
theorem acc_A (ca : t.val % 4 = 0) (r : Fin 512) (d : Fin 1024) : (outsAt0 m c t.val t.isLt).2.2.2.2 (ix2 r d)
    = (0 : EReal) + (til m c t).part r d := by
  unfold til tile Tile.part Tile.dG Tile.dU Tile.dA
  dsimp only [bD, bWd, bWg, bWu, bG, bU]
  obtain ⟨j, hj⟩ : ∃ j : S512x1024.Idx, j = ix2 r d := ⟨_, rfl⟩
  have hr : r.val = (j 0).val := by rw [hj]; rfl
  have hd : d.val = (j 1).val := by rw [hj]; rfl
  rw [← hj]
  clear hj
  rw [outsAt0_A m c t ca (by omega)]
  frame_open
  simp (disch := decide) only [↓ View.readCov_skip, ↓ View.readCov_cons_toLoadRect, ↓ View.readCov_fill]
  frame_out
  generalize iblk m c 0 t = D
  generalize iblk m c 3 t = Wd
  generalize iblk m c 4 t = Wg
  generalize iblk m c 5 t = Wu
  generalize iblk m c 6 t = G
  generalize iblk m c 7 t = U
  rw [Cert.KernelIdeal.Value.canon_take 2 _ _ (View.cover_of_tiledL _ ![256, 1024] (by sl_kernel_rfl) j)]
  simp only [List.take_succ_cons, List.take_zero]
  canon_tiles j h
  all_goals
    open_payloads
    rw [h0] at hr
    rw [h1] at hd
    pointwise [k0_pay7]
    simp only [← hr, Fin.eta, dsilu, silu, sigmoid, zero_sub, show j 1 = d from Fin.ext hd.symm]

/-- The accumulator at a later point. -/
theorem acc_B (ca : ¬t.val % 4 = 0) (r : Fin 512) (d : Fin 1024) : (outsAt0 m c t.val t.isLt).2.2.2.2 (ix2 r d)
    = (before m c t).2.2.2.2 (ix2 r d) + (til m c t).part r d := by
  unfold til tile Tile.part Tile.dG Tile.dU Tile.dA
  dsimp only [bD, bWd, bWg, bWu, bG, bU, before]
  obtain ⟨j, hj⟩ : ∃ j : S512x1024.Idx, j = ix2 r d := ⟨_, rfl⟩
  have hr : r.val = (j 0).val := by rw [hj]; rfl
  have hd : d.val = (j 1).val := by rw [hj]; rfl
  rw [← hj]
  clear hj
  rcases cases t with cb | ⟨_, cb⟩ | ⟨cb, cc⟩ | ⟨cb, cc⟩
  · exact absurd cb ca
  on_goal 1 => rw [outsAt0_B m c t ca cb]
  on_goal 2 => rw [outsAt0_C m c t ca cb cc (by omega)]
  on_goal 3 => rw [outsAt0_D m c t ca cb (by omega) cc]
  all_goals
    frame_open
    try simp (disch := decide) only [↓ View.readCov_skip, ↓ View.readCov_cons_toLoadRect, ↓ View.readCov_fill]
    frame_out
    generalize (outsAt0 m c (t.val - 1) (Nat.lt_of_le_of_lt (Nat.sub_le _ _) t.isLt)).2.2.2.2 = P
    generalize iblk m c 0 t = D
    generalize iblk m c 3 t = Wd
    generalize iblk m c 4 t = Wg
    generalize iblk m c 5 t = Wu
    generalize iblk m c 6 t = G
    generalize iblk m c 7 t = U
    canon_tiles j h
    all_goals
      open_payloads
      rw [h0] at hr
      rw [h1] at hd
      pointwise
      simp only [← hr, Fin.eta, dsilu, silu, sigmoid, zero_sub, show j 1 = d from Fin.ext hd.symm]
      exact congrArg (· + _) ((congrFun ((Memref.isWhole_whole cc0_scratch0).read_unread (Val := Elt Ideal) P) _).trans (congrArg P (by blk_ext)))

/-- A load of the whole accumulator reads what the stores left. -/
theorem readCov_whole (L : List (View.Piece (Elt Ideal) S512x1024 .f32)) :
    (View.whole cc0_scratch0).readCov L (Rect.unit ![0, 0] ![512, 1024] inb_S512x1024_S512x1024_0_0).toLoadRect = View.canon L := by
  rw [View.readCov_eq_canon']
  exact funext fun j => congrArg (View.canon L) (funext fun a => Fin.ext (by
    match a with
    | ⟨0, _⟩ => exact (show 0 + 1 * (j 0).val = (j 0).val by omega)
    | ⟨1, _⟩ => exact (show 0 + 1 * (j 1).val = (j 1).val by omega)))

/-- At a last point the layer input's gradient comes from the accumulator as that point leaves it. -/
theorem last10 (ca : t.val % 4 = 3) : (outsAt0 m c t.val t.isLt).2.2.1
    = k0_pay6 (outsAt0 m c t.val t.isLt).2.2.2.2 (bH m c t) (bN m c t) (bD m c t) := by
  dsimp only [bD, bH, bN]
  rcases cases t with cb | ⟨_, cb⟩ | ⟨cb, cc⟩ | ⟨cb, cc⟩
  · omega
  · omega
  · rw [outsAt0_C m c t (by omega) cb cc (by omega)]
    frame_open
    simp (disch := decide) only [↓ View.readCov_skip, ↓ View.readCov_cons_toLoadRect, ↓ View.readCov_fill]
    frame_out
    rw [readCov_whole]
  · rw [outsAt0_D m c t (by omega) cb (by omega) cc]
    frame_open
    simp (disch := decide) only [↓ View.readCov_skip, ↓ View.readCov_cons_toLoadRect, ↓ View.readCov_fill]
    frame_out
    rw [readCov_whole]

theorem out10 (ca : t.val % 4 = 3) (r : Fin 512) (j : Fin 1024) : (outsAt0 m c t.val t.isLt).2.2.1 (ix2 r j)
    = bD m c t (ix2 r j) + dnrm (fun j => bH m c t (ix2 r j)) (fun j => bN m c t (ix2 0 j))
        (fun j => (outsAt0 m c t.val t.isLt).2.2.2.2 (ix2 r j)) j := by
  rw [last10 m c t ca]
  exact pay6_at _ _ _ _ r j

/-- The norm's weight's gradient: each last point adds the sum over its rows; the other points leave it. -/
theorem out11_C (ca : t.val % 4 = 3) (cb : t.val < 4) (z : Fin 1) (j : Fin 1024) : (outsAt0 m c t.val t.isLt).2.2.2.1 (ix2 z j)
    = ∑ r, (outsAt0 m c t.val t.isLt).2.2.2.2 (ix2 r j) * xh (fun j => bH m c t (ix2 r j)) j := by
  refine Eq.trans (congrFun ?_ (ix2 z j)) (pay5_at (outsAt0 m c t.val t.isLt).2.2.2.2 (bH m c t) j z)
  dsimp only [bH]
  rw [outsAt0_C m c t (by omega) ca cb (by omega)]
  frame_open
  simp (disch := decide) only [↓ View.readCov_skip, ↓ View.readCov_cons_toLoadRect, ↓ View.readCov_fill]
  frame_out
  rw [readCov_whole]

theorem out11_D (ca : t.val % 4 = 3) (cb : 4 ≤ t.val) (z : Fin 1) (j : Fin 1024) : (outsAt0 m c t.val t.isLt).2.2.2.1 (ix2 z j)
    = (before m c t).2.2.2.1 (ix2 z j) + ∑ r, (outsAt0 m c t.val t.isLt).2.2.2.2 (ix2 r j) * xh (fun j => bH m c t (ix2 r j)) j := by
  refine Eq.trans (congrFun ?_ (ix2 z j)) (pay2_at (outsAt0 m c t.val t.isLt).2.2.2.2 (bH m c t) (before m c t).2.2.2.1 j z)
  dsimp only [bH, before]
  rw [outsAt0_D m c t (by omega) ca (by omega) cb]
  frame_open
  simp (disch := decide) only [↓ View.readCov_skip, ↓ View.readCov_cons_toLoadRect, ↓ View.readCov_fill]
  frame_out
  rw [readCov_whole]

theorem out11_kept (ca : ¬t.val % 4 = 3) (cb : 0 < t.val) (i : S1x1024.Idx) : (outsAt0 m c t.val t.isLt).2.2.2.1 i = (before m c t).2.2.2.1 i := by
  by_cases cc : t.val % 4 = 0
  · rw [outsAt0_A m c t cc ca]; rfl
  · rw [outsAt0_B m c t cc ca]; rfl

end
end Cert.Kernel2Ideal.Value
-- ==== Proof.FHost.lean ====
module

public import proofs.«01_k».proof.Proof.Gen.Kernel2Ideal.Frame
public import proofs.«01_k».proof.Proof.FSpec
public import Idealize.ShloMosaic.Lib.Pipeline.ValueKit
public import Idealize.ShloMosaic.Lib.Pipeline.ReadBack
public import Idealize.ShloMosaic.Lib.Pointwise
public import Idealize.ShloMosaic.Lib.StableHlo.ReadAt

/-! What the host code before the feed-forward backward kernel prepares: the weights by chips, and the two hidden
    products of the forward pass by chips. -/

@[expose] public section
set_option maxRecDepth 16384
noncomputable section
open Idealize.ShloMosaic Idealize.ShloMosaic.TcCoe Idealize.SL.Sem
namespace Cert.Kernel2Ideal.Value
open Cert.Kernel2Ideal Cert.Kernel2Ideal.Gen Cert.Ffn
section
variable (m : (ℓ : Loc nD τ sig) → Buf (Elt Ideal) ℓ) (c : Dev nD)

/-- The arguments that a memory holds. -/
def args : Args where
  dh r j := m ((c : Thread nD τ).loc main_arg0) (ix2 r j)
  h r j := m ((c : Thread nD τ).loc main_arg1) (ix2 r j)
  nw j := m ((c : Thread nD τ).loc main_arg2) (ix1 j)
  wg d f := m ((c : Thread nD τ).loc main_arg3) (ix2 d f)
  wu d f := m ((c : Thread nD τ).loc main_arg4) (ix2 d f)
  wd f d := m ((c : Thread nD τ).loc main_arg5) (ix2 f d)

theorem col_eq (k : Fin 4) (f : Fin 704) (h : k.val * 704 + f.val < 2816) : (⟨k.val * 704 + f.val, h⟩ : Fin 2816) = col k f :=
  Fin.ext (show k.val * 704 + f.val = 704 * k.val + f.val by omega)

theorem V_nf (z : Fin 1) (j : Fin 1024) : V m c main_v29 (ix2 z j) = (args m c).nw j := by
  unfold V
  after_reads_at
  rfl

theorem V_wd (k : Fin 4) (f : Fin 704) (d : Fin 1024) : V m c main_v16 (ix3 k f d) = (args m c).wd (col k f) d := by
  unfold V
  after_reads_at
  rw [col_eq]
  rfl

theorem V_wg (k : Fin 4) (f : Fin 704) (d : Fin 1024) : V m c main_v19 (ix3 k f d) = (args m c).wg d (col k f) := by
  unfold V
  after_reads_at
  rw [col_eq]
  rfl

theorem V_wu (k : Fin 4) (f : Fin 704) (d : Fin 1024) : V m c main_v22 (ix3 k f d) = (args m c).wu d (col k f) := by
  unfold V
  after_reads_at
  rw [col_eq]
  rfl

theorem V_G (k : Fin 4) (r : Fin 4096) (f : Fin 704) : V m c main_v25 (ix3 k r f) = (args m c).G r (col k f) := by
  unfold V
  after_reads_at
  simp only [col_eq, ofBits_n, ofBits_eps]
  rfl

theorem V_U (k : Fin 4) (r : Fin 4096) (f : Fin 704) : V m c main_v28 (ix3 k r f) = (args m c).U r (col k f) := by
  unfold V
  after_reads_at
  simp only [col_eq, ofBits_n, ofBits_eps]
  rfl
end
end Cert.Kernel2Ideal.Value
-- ==== Proof.FArr.lean ====
module

public import proofs.«01_k».proof.Proof.Gen.Kernel2Ideal.Value
public import proofs.«01_k».proof.Proof.FPoint
public import proofs.«01_k».proof.Proof.FHost
public import Idealize.ShloMosaic.Lib.Pipeline.ValueKit
public import Idealize.ShloMosaic.Lib.Pipeline.ReadBack
public import Idealize.ShloMosaic.Lib.Pointwise

/-! What the four result arrays of the feed-forward backward kernel hold after the run, over the arguments. -/

@[expose] public section
set_option maxRecDepth 16384
noncomputable section
open Idealize.ShloMosaic Idealize.ShloMosaic.TcCoe Idealize.SL.Sem
namespace Cert.Kernel2Ideal.Value
open Cert.Kernel2Ideal Cert.Kernel2Ideal.Gen Cert.Ffn
section
variable (m : (ℓ : Loc nD τ sig) → Buf (Elt Ideal) ℓ) (c : Dev nD)

/-- The tile number and the chip of a grid point. -/
def ti (t : Fin cfg0.N) : Fin 8 := ⟨t.val / 4, by have := t.isLt; have : cfg0.N = 32 := N_0; omega⟩
def tk (t : Fin cfg0.N) : Fin 4 := ⟨t.val % 4, by omega⟩

theorem idx : ∀ t : Fin cfg0.N, win0_0.index t = ![t.val / 4, 0] ∧ win0_1.index t = ![t.val / 4, 0] ∧ win0_2.index t = ![0, 0]
    ∧ win0_3.index t = ![t.val % 4, 0, 0] ∧ win0_4.index t = ![t.val % 4, 0, 0] ∧ win0_5.index t = ![t.val % 4, 0, 0]
    ∧ win0_6.index t = ![t.val % 4, t.val / 4, 0] ∧ win0_7.index t = ![t.val % 4, t.val / 4, 0]
    ∧ win0_8.index t = ![t.val % 4, t.val / 4, 0] ∧ win0_9.index t = ![t.val % 4, t.val / 4, 0]
    ∧ win0_10.index t = ![t.val / 4, 0] ∧ win0_11.index t = ![0, 0] :=
  (by decide +kernel : ∀ t : Fin grid0.N, _)

/-- The blocks of a point. -/
theorem bD_at (t : Fin cfg0.N) (r : Fin 512) (d : Fin 1024) : bD m c t (ix2 r d) = (args m c).dh (row (ti t) r) d := by
  unfold row ti
  blk_point [iblk, V, idx t]
theorem bH_at (t : Fin cfg0.N) (r : Fin 512) (d : Fin 1024) : bH m c t (ix2 r d) = (args m c).h (row (ti t) r) d := by
  unfold row ti
  blk_point [iblk, V, idx t]
theorem bN_at (t : Fin cfg0.N) (z : Fin 1) (d : Fin 1024) : bN m c t (ix2 z d) = (args m c).nw d := by
  refine Eq.trans ?_ (V_nf m c z d)
  blk_point [iblk, idx t]
theorem bWd_at (t : Fin cfg0.N) (f : Fin 704) (d : Fin 1024) : bWd m c t (ix3 0 f d) = (args m c).wd (col (tk t) f) d := by
  refine Eq.trans ?_ (V_wd m c (tk t) f d)
  unfold tk
  blk_point [iblk, idx t]
theorem bG_at (t : Fin cfg0.N) (r : Fin 512) (f : Fin 704) : bG m c t (ix3 0 r f) = (args m c).G (row (ti t) r) (col (tk t) f) := by
  refine Eq.trans ?_ (V_G m c (tk t) (row (ti t) r) f)
  unfold tk row ti
  blk_point [iblk, idx t]
theorem bWg_at (t : Fin cfg0.N) (f : Fin 704) (d : Fin 1024) : bWg m c t (ix3 0 f d) = (args m c).wg d (col (tk t) f) := by
  refine Eq.trans ?_ (V_wg m c (tk t) f d)
  unfold tk
  blk_point [iblk, idx t]
theorem bWu_at (t : Fin cfg0.N) (f : Fin 704) (d : Fin 1024) : bWu m c t (ix3 0 f d) = (args m c).wu d (col (tk t) f) := by
  refine Eq.trans ?_ (V_wu m c (tk t) f d)
  unfold tk
  blk_point [iblk, idx t]
theorem bU_at (t : Fin cfg0.N) (r : Fin 512) (f : Fin 704) : bU m c t (ix3 0 r f) = (args m c).U (row (ti t) r) (col (tk t) f) := by
  refine Eq.trans ?_ (V_U m c (tk t) (row (ti t) r) f)
  unfold tk row ti
  blk_point [iblk, idx t]

/-- A point works on its tile of the arguments. -/
theorem til_eq (t : Fin cfg0.N) : til m c t = (args m c).tile (ti t) (tk t) := by
  unfold til tile Args.tile
  congr 1
  · exact funext fun r => funext fun d => bD_at m c t r d
  · exact funext fun f => funext fun d => bWd_at m c t f d
  · exact funext fun f => funext fun d => bWg_at m c t f d
  · exact funext fun f => funext fun d => bWu_at m c t f d
  · exact funext fun r => funext fun f => bG_at m c t r f
  · exact funext fun r => funext fun f => bU_at m c t r f

/-- The gradient of the gate's product. -/
theorem arr8 : (dats m 0 c).arrAt 8 cfg0.N = fun j : S4x4096x704.Idx => (args m c).dG (j 1) (j 0) (j 2) := by
  refine (dats m 0 c).arrAt_eq_of_covers 8 _ (by decide +kernel) fun t hf y => ?_
  blk_simp
  rw [after0_8]
  obtain ⟨z, r, f, hy⟩ : ∃ (z : Fin 1) (r : Fin 512) (f : Fin 704), y = ix3 z r f := ⟨y 0, y 1, y 2, by blk_ext⟩
  have e0 : ((win0_8.blk t).view.emb y 0 : Fin 4) = tk t := by
    rw [hy]; refine Fin.ext ?_; blk_simp [idx t]; simp only [tk]
  have e1 : ((win0_8.blk t).view.emb y 1 : Fin 4096) = row (ti t) r := by
    rw [hy]; refine Fin.ext ?_; blk_simp [idx t]; simp only [row, ti]; omega
  have e2 : ((win0_8.blk t).view.emb y 2 : Fin 704) = f := by
    rw [hy]; refine Fin.ext ?_; blk_simp [idx t]
  refine Eq.trans ?_ (congr (congrArg₂ (args m c).dG e1 e0) e2).symm
  unfold Args.dG
  rw [tileNo_row, place_row, ← til_eq, hy]
  exact out8 m c t z r f

/-- The gradient of the other factor's product. -/
theorem arr9 : (dats m 0 c).arrAt 9 cfg0.N = fun j : S4x4096x704.Idx => (args m c).dU (j 1) (j 0) (j 2) := by
  refine (dats m 0 c).arrAt_eq_of_covers 9 _ (by decide +kernel) fun t hf y => ?_
  blk_simp
  rw [after0_9]
  obtain ⟨z, r, f, hy⟩ : ∃ (z : Fin 1) (r : Fin 512) (f : Fin 704), y = ix3 z r f := ⟨y 0, y 1, y 2, by blk_ext⟩
  have e0 : ((win0_9.blk t).view.emb y 0 : Fin 4) = tk t := by
    rw [hy]; refine Fin.ext ?_; blk_simp [idx t]; simp only [tk]
  have e1 : ((win0_9.blk t).view.emb y 1 : Fin 4096) = row (ti t) r := by
    rw [hy]; refine Fin.ext ?_; blk_simp [idx t]; simp only [row, ti]; omega
  have e2 : ((win0_9.blk t).view.emb y 2 : Fin 704) = f := by
    rw [hy]; refine Fin.ext ?_; blk_simp [idx t]
  refine Eq.trans ?_ (congr (congrArg₂ (args m c).dU e1 e0) e2).symm
  unfold Args.dU
  rw [tileNo_row, place_row, ← til_eq, hy]
  exact out9 m c t z r f

/-- At the last point of a tile's rows the accumulator holds the gradient of the norm's result. -/
theorem acc_last (t : Fin cfg0.N) (ht : t.val % 4 = 3) (r : Fin 512) (d : Fin 1024) :
    (outsAt0 m c t.val t.isLt).2.2.2.2 (ix2 r d) = (args m c).Y (row (ti t) r) d := by
  unfold Args.Y
  rw [tileNo_row, place_row, Pipeline.eq_sum_fin_of_reset_step_apply_of_flush (fun n h i => (outsAt0 m c n h).2.2.2.2 i) 4
    (fun _ => (0 : EReal)) (fun t i => (til m c t).part (i 0) (i 1))
    (fun t h0 i => by idx_vars i; exact acc_A m c t h0 i0 i1) (fun t h0 i => by idx_vars i; exact acc_B m c t h0 i0 i1) t ht (ix2 r d), zero_add]
  refine Finset.sum_congr rfl fun s _ => ?_
  rw [til_eq]
  have e : ∀ (i i' : Fin 8) (k k' : Fin 4), i = i' → k = k' → ((args m c).tile i k).part r d = ((args m c).tile i' k').part r d :=
    fun i i' k k' h h' => by rw [h, h']
  refine e _ _ _ _ (Fin.ext ?_) (Fin.ext ?_)
  · simp only [ti]; omega
  · simp only [tk]; omega

/-- The gradient of the layer's input. -/
theorem arr10 : (dats m 0 c).arrAt 10 cfg0.N = fun j : S4096x1024.Idx => (args m c).dX (j 0) (j 1) := by
  refine (dats m 0 c).arrAt_eq_of_covers 10 _ (by decide +kernel) fun t hf y => ?_
  blk_simp
  rw [after0_10]
  obtain ⟨r, d, hy⟩ : ∃ (r : Fin 512) (d : Fin 1024), y = ix2 r d := ⟨y 0, y 1, by blk_ext⟩
  have e0 : ((win0_10.blk t).view.emb y 0 : Fin 4096) = row (ti t) r := by
    rw [hy]; refine Fin.ext ?_; blk_simp [idx t]; simp only [row, ti]; omega
  have e1 : ((win0_10.blk t).view.emb y 1 : Fin 1024) = d := by
    rw [hy]; refine Fin.ext ?_; blk_simp [idx t]
  refine Eq.trans ?_ (congrArg₂ (args m c).dX e0 e1).symm
  have ht : t.val % 4 = 3 := (flush0_10 t).mp hf
  rw [hy]
  refine (out10 m c t ht r d).trans ?_
  unfold Args.dX
  simp only [bD_at, bH_at, bN_at, acc_last m c t ht]

/-- What a tile adds to the norm's weight's gradient. -/
def dn (i : Fin 8) (d : Fin 1024) : EReal := ∑ r, (args m c).Y (row i r) d * xh ((args m c).h (row i r)) d

theorem dn_at (t : Fin cfg0.N) (ht : t.val % 4 = 3) (d : Fin 1024) :
    ∑ r, (outsAt0 m c t.val t.isLt).2.2.2.2 (ix2 r d) * xh (fun j => bH m c t (ix2 r j)) d = dn m c (ti t) d := by
  unfold dn
  simp only [bH_at, acc_last m c t ht]

/-- A point that is not a last one leaves what the point before left. -/
theorem kept (n : ℕ) (h : n + 1 < cfg0.N) (hn : ¬(n + 1) % 4 = 3) (i : S1x1024.Idx) :
    (outsAt0 m c (n + 1) h).2.2.2.1 i = (outsAt0 m c n (Nat.lt_of_succ_lt h)).2.2.2.1 i :=
  out11_kept m c ⟨n + 1, h⟩ hn (Nat.succ_pos n) i

/-- After the first `n + 1` tiles, the sum over them. -/
theorem dn_sum (z : Fin 1) (d : Fin 1024) : ∀ (n : ℕ) (hn : n < 8) (h : 4 * n + 3 < cfg0.N),
    (outsAt0 m c (4 * n + 3) h).2.2.2.1 (ix2 z d) = ∑ i : Fin (n + 1), dn m c ⟨i.val, by omega⟩ d
  | 0, hn, h => by
    rw [Fin.sum_univ_one]
    exact (out11_C m c ⟨3, h⟩ rfl (by show (3 : ℕ) < 4; decide) z d).trans ((dn_at m c ⟨3, h⟩ rfl d).trans (congrArg (fun i => dn m c i d) (Fin.ext (show 3 / 4 = 0 from rfl))))
  | n + 1, hn, h => by
    have ht : (4 * (n + 1) + 3) % 4 = 3 := by omega
    refine (out11_D m c ⟨4 * (n + 1) + 3, h⟩ ht (by show 4 ≤ 4 * (n + 1) + 3; omega) z d).trans ?_
    refine Eq.trans ?_ (Fin.sum_univ_castSucc _).symm
    rw [dn_at m c ⟨4 * (n + 1) + 3, h⟩ ht d]
    refine congrArg₂ (· + ·) ?_ ?_
    · refine Eq.trans ?_ (dn_sum z d n (by omega) (by omega))
      exact ((kept m c (4 * n + 5) (by omega) (by omega) _).trans (kept m c (4 * n + 4) (by omega) (by omega) _)).trans
        (kept m c (4 * n + 3) (by omega) (by omega) _)
    · exact congrArg (fun i => dn m c i d) (Fin.ext (show (4 * (n + 1) + 3) / 4 = n + 1 by omega))

/-- The gradient of the norm's weight. -/
theorem arr11 : (dats m 0 c).arrAt 11 cfg0.N = fun j : S1x1024.Idx => (args m c).dN (j 1) := by
  refine (dats m 0 c).arrAt_eq_of_covers 11 _ (by decide +kernel) fun t hf y => ?_
  blk_simp
  rw [after0_11]
  obtain ⟨z, d, hy⟩ : ∃ (z : Fin 1) (d : Fin 1024), y = ix2 z d := ⟨y 0, y 1, by blk_ext⟩
  have e1 : ((win0_11.blk t).view.emb y 1 : Fin 1024) = d := by
    rw [hy]; refine Fin.ext ?_; blk_simp [idx t]
  refine Eq.trans ?_ (congrArg (args m c).dN e1).symm
  rw [hy]
  have hN : cfg0.N = 32 := N_0
  have ht : t = ⟨4 * 7 + 3, lt_of_lt_of_eq (by decide) N_0.symm⟩ := Fin.ext (by have := (flush0_11 t).mp hf; have := t.isLt; show t.val = 31; omega)
  subst ht
  exact dn_sum m c z d 7 (by decide) _
end
end Cert.Kernel2Ideal.Value
-- ==== Proof.FRef.lean ====
module

public import proofs.«01_k».proof.Proof.FSpec
public import proofs.«01_k».proof.Proof.Gen.Reference2Ideal.Read
public import Idealize.ShloMosaic.Lib.Pipeline.ValueKit
public import Idealize.ShloMosaic.Lib.Pointwise

/-! The feed-forward reference's values, read at an index, over the arguments. -/

@[expose] public section
set_option maxRecDepth 16384
noncomputable section
open Idealize.ShloMosaic Idealize.ShloMosaic.TcCoe Idealize.SL.Sem

namespace Cert.Ffn
/-- Minus a half. -/
abbrev cNegHalf : EReal := ((-(1 / 2) : ℝ) : EReal)
theorem ofBits_negHalf : Ideal.ofBits .f32 0xBF000000#32 = cNegHalf := by
  simp [Ideal.ofBits, Ideal.ieee, -EReal.coe_neg]; norm_num

/-- The mean square plus epsilon of a row. -/
def var (x : Fin 1024 → EReal) : EReal := mean (fun j => x j * x j) + cEps

namespace Args
variable (A : Args)
/-- The reference's gradients: of the gated product, of the two factors, of the norm's result, of the reciprocal root
    mean square's row sum, and of the norm's argument. -/
def rA (r : Fin 4096) (f : Fin 2816) : EReal := ∑ d, A.dh r d * A.wd f d
def rU (r : Fin 4096) (f : Fin 2816) : EReal := silu (A.G r f) * A.rA r f
def rG (r : Fin 4096) (f : Fin 2816) : EReal :=
  A.rA r f * A.U r f * sigmoid (A.G r f) + A.G r f * (A.rA r f * A.U r f) * (sigmoid (A.G r f) * (1 - sigmoid (A.G r f)))
def rY (r : Fin 4096) (d : Fin 1024) : EReal := (∑ f, A.rU r f * A.wu d f) + ∑ f, A.rG r f * A.wg d f
end Args
def rq (x y : Fin 1024 → EReal) : EReal := Ideal.div ((∑ j, x j * y j) * (cNegHalf * Ideal.div (rs x) (var x))) cN
def rx (x y : Fin 1024 → EReal) (j : Fin 1024) : EReal := y j * rs x + x j * rq x y + rq x y * x j
end Cert.Ffn

namespace Cert.Reference2Ideal.Value
open Cert.Reference2Ideal Cert.Reference2Ideal.Gen Cert.Reference2Ideal.Read Cert.Ffn
section
variable (x0 x1 : Vec Ideal S4096x1024 .f32) (x2 : Vec Ideal S1024 .f32) (x3 x4 : Vec Ideal S1024x2816 .f32) (x5 : Vec Ideal S2816x1024 .f32)

/-- The arguments that the arrays hold. -/
def rargs : Args where
  dh r j := x0 (ix2 r j)
  h r j := x1 (ix2 r j)
  nw j := x2 (ix1 j)
  wg d f := x3 (ix2 d f)
  wu d f := x4 (ix2 d f)
  wd f d := x5 (ix2 f d)

/-- A row of the layer's input. -/
abbrev xr (r : Fin 4096) (j : Fin 1024) : EReal := x1 (ix2 r j)

theorem v6_at (r : Fin 4096) (z : Fin 1) : val_main_v6 x1 (ix2 r z) = var (xr x1 r) := by
  pointwise [val_main_v6, val_main_v5, val_main_v4, val_main_v3, val_main_v2, val_main_v1, val_main_v0, val_main_cst, val_main_cst_0, val_main_cst_1]
  simp only [ofBits_n, ofBits_eps]
  first | rfl | (simp only [zero_add]; rfl)

theorem v7_at (r : Fin 4096) (z : Fin 1) : val_main_v7 x1 (ix2 r z) = rs (xr x1 r) := by
  pointwise [val_main_v7]
  rw [v6_at]; rfl

theorem v10_at (r : Fin 4096) (z : Fin 1) : val_main_v10 x1 (ix2 r z) = cNegHalf * Ideal.div (rs (xr x1 r)) (var (xr x1 r)) := by
  pointwise [val_main_v10, val_main_v9, val_main_v8, val_main_cst_2]
  rw [v6_at, v7_at, ofBits_negHalf]

theorem v12_at (r : Fin 4096) (j : Fin 1024) : val_main_v12 x1 (ix2 r j) = xh (xr x1 r) j := by
  pointwise [val_main_v12, val_main_v11]
  rw [v7_at]; rfl

theorem v15_at (r : Fin 4096) (j : Fin 1024) : val_main_v15 x1 x2 (ix2 r j) = nrm (xr x1 r) (fun j => x2 (ix1 j)) j := by
  pointwise [val_main_v15, val_main_v14, val_main_v13]
  rw [v12_at]; rfl

theorem v16_at (r : Fin 4096) (f : Fin 2816) : val_main_v16 x1 x2 x3 (ix2 r f) = (rargs x0 x1 x2 x3 x4 x5).G r f := by
  pointwise [val_main_v16]
  simp only [v15_at]; rfl

theorem v17_at (r : Fin 4096) (f : Fin 2816) : val_main_v17 x1 x2 x4 (ix2 r f) = (rargs x0 x1 x2 x3 x4 x5).U r f := by
  pointwise [val_main_v17]
  simp only [v15_at]; rfl

theorem s_at (r : Fin 4096) (f : Fin 2816) : val_main_v18_2 x1 x2 x3 (ix2 r f) = sigmoid ((rargs x0 x1 x2 x3 x4 x5).G r f) := by
  pointwise [val_main_v18_2, val_main_call0_v4, val_main_call0_cst_0, val_main_call0_v3, val_main_call0_v2, val_main_call0_cst, val_main_call0_v1, val_main_call0_v0]
  rw [v16_at x0 x1 x2 x3 x4 x5]; rfl

theorem ds_at (r : Fin 4096) (f : Fin 2816) : val_main_v18_1 x1 x2 x3 (ix2 r f)
    = sigmoid ((rargs x0 x1 x2 x3 x4 x5).G r f) * (1 - sigmoid ((rargs x0 x1 x2 x3 x4 x5).G r f)) := by
  pointwise [val_main_v18_1, val_main_call0_v7, val_main_call0_v6, val_main_call0_cst_1]
  rw [s_at x0 x1 x2 x3 x4 x5]

theorem silu_at (r : Fin 4096) (f : Fin 2816) : val_main_v18_0 x1 x2 x3 (ix2 r f) = silu ((rargs x0 x1 x2 x3 x4 x5).G r f) := by
  pointwise [val_main_v18_0]
  rw [s_at x0 x1 x2 x3 x4 x5, v16_at x0 x1 x2 x3 x4 x5]; rfl

theorem v21_at (r : Fin 4096) (f : Fin 2816) : val_main_v21 x0 x5 (ix2 r f) = (rargs x0 x1 x2 x3 x4 x5).rA r f := by
  pointwise [val_main_v21]
  rfl

theorem v22_at (r : Fin 4096) (f : Fin 2816) : val_main_v22 x0 x1 x2 x3 x5 (ix2 r f) = (rargs x0 x1 x2 x3 x4 x5).rU r f := by
  pointwise [val_main_v22]
  rw [silu_at x0 x1 x2 x3 x4 x5, v21_at x0 x1 x2 x3 x4 x5]; rfl

theorem v23_at (r : Fin 4096) (f : Fin 2816) : val_main_v23 x0 x1 x2 x4 x5 (ix2 r f)
    = (rargs x0 x1 x2 x3 x4 x5).rA r f * (rargs x0 x1 x2 x3 x4 x5).U r f := by
  pointwise [val_main_v23]
  rw [v21_at x0 x1 x2 x3 x4 x5, v17_at x0 x1 x2 x3 x4 x5]

theorem v24_at (r : Fin 4096) (f : Fin 2816) : val_main_v24 x0 x1 x2 x3 x4 x5 (ix2 r f) = (rargs x0 x1 x2 x3 x4 x5).rG r f := by
  pointwise [val_main_v24, val_main_call1_v2, val_main_call1_v1, val_main_call1_v0]
  rw [v23_at x0 x1 x2 x3 x4 x5, v16_at x0 x1 x2 x3 x4 x5, s_at x0 x1 x2 x3 x4 x5, ds_at x0 x1 x2 x3 x4 x5]; rfl

theorem v27_at (r : Fin 4096) (d : Fin 1024) : val_main_v27 x0 x1 x2 x3 x4 x5 (ix2 r d) = (rargs x0 x1 x2 x3 x4 x5).rY r d := by
  pointwise [val_main_v27, val_main_v26, val_main_v25]
  simp only [v22_at x0 x1 x2 x3 x4 x5, v24_at x0 x1 x2 x3 x4 x5]; rfl

/-- The norm's weight's gradient. -/
theorem v55_at (z : Fin 1) (j : Fin 1024) : val_main_v55 x0 x1 x2 x3 x4 x5 (ix2 z j)
    = ∑ r, xh (xr x1 r) j * (rargs x0 x1 x2 x3 x4 x5).rY r j := by
  pointwise [val_main_v55, val_main_v33, val_main_v30, val_main_v29, val_main_v28, val_main_cst_3, val_main_cst_4]
  simp only [Fin.sum_univ_one, v12_at, v27_at x0 x1 x2 x3 x4 x5]

/-- A row of the gradient of the normalised row. -/
def dr (r : Fin 4096) (j : Fin 1024) : EReal := (rargs x0 x1 x2 x3 x4 x5).rY r j * x2 (ix1 j)

theorem v32_at (r : Fin 4096) (j : Fin 1024) : val_main_v32 x0 x1 x2 x3 x4 x5 (ix2 r j) = dr x0 x1 x2 x3 x4 x5 r j := by
  pointwise [val_main_v32, val_main_v31, val_main_v13]
  rw [v27_at x0 x1 x2 x3 x4 x5]; rfl

theorem v41_at (r : Fin 4096) (z : Fin 1) : val_main_v41 x0 x1 x2 x3 x4 x5 (ix2 r z) = rq (xr x1 r) (dr x0 x1 x2 x3 x4 x5 r) := by
  pointwise [val_main_v41, val_main_v40, val_main_v39, val_main_v36, val_main_v35, val_main_v34, val_main_cst_5, val_main_cst_6]
  simp only [v32_at, v10_at, ofBits_n]
  rfl

theorem v54_at (r : Fin 4096) (j : Fin 1024) : val_main_v54 x0 x1 x2 x3 x4 x5 (ix2 r j)
    = x0 (ix2 r j) + rx (xr x1 r) (dr x0 x1 x2 x3 x4 x5 r) j := by
  pointwise [val_main_v54, val_main_v47, val_main_v46, val_main_v45, val_main_v44, val_main_v43, val_main_v42, val_main_v38, val_main_v37, val_main_cst_7]
  simp only [v32_at, v41_at, v7_at, Fin.sum_univ_one]
  rfl

theorem col_eq (k : Fin 4) (f : Fin 704) (h : k.val * 704 + f.val < 2816) : (⟨k.val * 704 + f.val, h⟩ : Fin 2816) = col k f :=
  Fin.ext (show k.val * 704 + f.val = 704 * k.val + f.val by omega)

/-- The gradients of the two factors, by chips. -/
theorem v50_at (k : Fin 4) (r : Fin 4096) (f : Fin 704) : val_main_v50 x0 x1 x2 x3 x4 x5 (ix3 k r f) = (rargs x0 x1 x2 x3 x4 x5).rG r (col k f) := by
  pointwise [val_main_v50, val_main_v49, val_main_v48]
  rw [col_eq]
  exact v24_at x0 x1 x2 x3 x4 x5 r (col k f)

theorem v53_at (k : Fin 4) (r : Fin 4096) (f : Fin 704) : val_main_v53 x0 x1 x2 x3 x5 (ix3 k r f) = (rargs x0 x1 x2 x3 x4 x5).rU r (col k f) := by
  pointwise [val_main_v53, val_main_v52, val_main_v51]
  rw [col_eq]
  exact v22_at x0 x1 x2 x3 x4 x5 r (col k f)
end
end Cert.Reference2Ideal.Value
-- ==== Proof.FEqual.lean ====
module

public import proofs.«01_k».proof.Proof.FRef
public import proofs.«01_k».proof.Proof.Finite

/-! The two programs' gradients of the feed-forward layer are equal at finite arguments. The gate:
    `a·s + g·a·s·(1−s)` is `a·s·(1 + g·(1−s))`. The norm: the cube of the reciprocal root mean square is that reciprocal
    over the mean square. The sums over the hidden columns go chip by chip, and those over the rows tile by tile. -/

@[expose] public section
noncomputable section
open Idealize.ShloMosaic
open Cert.Gmlp (IsReal sum_coe)
namespace Cert.Ffn

theorem div_cN (r : ℝ) : Ideal.div (r : EReal) cN = ((r / 1024 : ℝ) : EReal) := by
  rw [Ideal.div_coe (by norm_num), ← EReal.coe_mul]; congr 1; ring
theorem mean_coe (f : Fin 1024 → ℝ) : mean (fun j => (f j : EReal)) = (((∑ j, f j) / 1024 : ℝ) : EReal) := by
  rw [mean, sum_coe, div_cN]

/-- A row's mean square plus epsilon, and its reciprocal root, over the real numbers. -/
def rVar (v : Fin 1024 → ℝ) : ℝ := (∑ j, v j * v j) / 1024 + rEps
def rR (v : Fin 1024 → ℝ) : ℝ := (Real.sqrt (rVar v))⁻¹

theorem rVar_pos (v : Fin 1024 → ℝ) : 0 < rVar v :=
  add_pos_of_nonneg_of_pos (div_nonneg (Finset.sum_nonneg fun j _ => mul_self_nonneg _) (by norm_num)) (by norm_num [rEps])
theorem rR_cube (v : Fin 1024 → ℝ) : rR v * rR v * rR v = rR v / rVar v := by
  have hs : rR v * rR v = (rVar v)⁻¹ := by
    rw [rR, ← mul_inv, Real.mul_self_sqrt (rVar_pos v).le]
  rw [hs, div_eq_mul_inv, mul_comm]

theorem var_coe (v : Fin 1024 → ℝ) : var (fun j => (v j : EReal)) = (rVar v : EReal) := by
  unfold var
  simp only [← EReal.coe_mul]
  rw [mean_coe, ← EReal.coe_add]; rfl
theorem rs_coe (v : Fin 1024 → ℝ) : rs (fun j => (v j : EReal)) = (rR v : EReal) := by
  have e := var_coe v
  unfold var at e
  rw [rs, e, Ideal.rsqrt_coe, if_neg (not_lt.2 (rVar_pos v).le), if_neg (rVar_pos v).ne']; rfl
theorem xh_coe (v : Fin 1024 → ℝ) (j : Fin 1024) : xh (fun j => (v j : EReal)) j = ((v j * rR v : ℝ) : EReal) := by
  rw [xh, rs_coe, ← EReal.coe_mul]

/-- The sigmoid of a real number. -/
theorem finite_sigmoid {e : EReal} : IsReal e → IsReal (sigmoid e)
  | ⟨r, h⟩ => by
    subst h
    unfold sigmoid
    rw [← EReal.coe_neg, Ideal.exp_coe, ← EReal.coe_one, ← EReal.coe_add, Ideal.div_coe (by positivity), ← EReal.coe_mul]
    exact IsReal.coe _

/-- The gradient through the norm over the real numbers, both ways. -/
theorem real_norm (v d : Fin 1024 → ℝ) (q : ℝ) (hq : q = ((∑ j, v j * d j) * (-(1 / 2) * (rR v / rVar v))) / 1024) (j : Fin 1024) :
    d j * rR v + v j * q + q * v j = rR v * (d j - v j * rR v * ((∑ k, d k * (v k * rR v)) / 1024)) := by
  have h2 : ∑ k, d k * (v k * rR v) = (∑ k, v k * d k) * rR v := by
    rw [Finset.sum_mul]
    exact Finset.sum_congr rfl fun k _ => by ring
  rw [h2, hq, ← rR_cube]
  ring

theorem norm_eq {x Y w : Fin 1024 → EReal} {v d : Fin 1024 → ℝ} (h : ∀ j, x j = (v j : EReal)) (hd : ∀ j, Y j * w j = (d j : EReal)) (j : Fin 1024) :
    rx x (fun k => Y k * w k) j = dnrm x w Y j := by
  obtain rfl : x = fun j => (v j : EReal) := funext h
  have hq : rq (fun j => (v j : EReal)) (fun k => Y k * w k) = ((((∑ j, v j * d j) * (-(1 / 2) * (rR v / rVar v))) / 1024 : ℝ) : EReal) := by
    unfold rq
    simp only [hd, rs_coe, var_coe, ← EReal.coe_mul]
    rw [sum_coe, Ideal.div_coe (rVar_pos v).ne', ← EReal.coe_mul, ← EReal.coe_mul, ← EReal.coe_mul, div_cN, ← div_eq_mul_one_div]
  have e : (fun k => Y k * w k) = fun k => (d k : EReal) := funext hd
  rw [e] at hq ⊢
  generalize hQ : (((∑ j, v j * d j) * (-(1 / 2) * (rR v / rVar v))) / 1024 : ℝ) = q at hq
  unfold rx dnrm
  simp only [hq, hd, rs_coe, xh_coe, ← EReal.coe_mul]
  rw [mean_coe]
  simp only [← EReal.coe_mul, ← EReal.coe_add, ← EReal.coe_sub]
  exact congrArg _ (real_norm v d q hQ.symm j)

theorem gate_eq {a u g s : EReal} (ha : IsReal a) (hu : IsReal u) (hg : IsReal g) (hs : IsReal s) :
    a * u * (s * (1 + g * (1 - s))) = a * u * s + g * (a * u) * (s * (1 - s)) := by
  obtain ⟨a, rfl⟩ := ha
  obtain ⟨u, rfl⟩ := hu
  obtain ⟨g, rfl⟩ := hg
  obtain ⟨s, rfl⟩ := hs
  simp only [← EReal.coe_one, ← EReal.coe_sub, ← EReal.coe_mul, ← EReal.coe_add]
  exact congrArg _ (by ring)

theorem one_sub {s : EReal} : IsReal s → IsReal (1 - s)
  | ⟨r, h⟩ => ⟨1 - r, by rw [h, EReal.coe_sub, EReal.coe_one]⟩

namespace Args
/-- The arguments are finite. -/
structure Fin (A : Args) : Prop where
  dh : ∀ r j, IsReal (A.dh r j)
  h : ∀ r j, IsReal (A.h r j)
  nw : ∀ j, IsReal (A.nw j)
  wg : ∀ d f, IsReal (A.wg d f)
  wu : ∀ d f, IsReal (A.wu d f)
  wd : ∀ f d, IsReal (A.wd f d)

variable {A : Args}
section
variable (F : A.Fin)
include F
theorem Fin.real_h (r : _root_.Fin 4096) : ∃ v : _root_.Fin 1024 → ℝ, ∀ j, A.h r j = (v j : EReal) :=
  ⟨fun j => (F.h r j).choose, fun j => (F.h r j).choose_spec⟩
theorem Fin.nrm (r : _root_.Fin 4096) (d : _root_.Fin 1024) : IsReal (nrm (A.h r) A.nw d) := by
  obtain ⟨v, hv⟩ := F.real_h r
  rw [show A.h r = fun j => (v j : EReal) from funext hv]
  exact IsReal.mul ⟨_, xh_coe v d⟩ (F.nw d)
theorem Fin.G (r : _root_.Fin 4096) (f : _root_.Fin 2816) : IsReal (A.G r f) := IsReal.sum _ _ fun d => (F.nrm r d).mul (F.wg d f)
theorem Fin.U (r : _root_.Fin 4096) (f : _root_.Fin 2816) : IsReal (A.U r f) := IsReal.sum _ _ fun d => (F.nrm r d).mul (F.wu d f)
theorem Fin.rA (r : _root_.Fin 4096) (f : _root_.Fin 2816) : IsReal (A.rA r f) := IsReal.sum _ _ fun d => (F.dh r d).mul (F.wd f d)
theorem Fin.s (r : _root_.Fin 4096) (f : _root_.Fin 2816) : IsReal (sigmoid (A.G r f)) := finite_sigmoid (F.G r f)
theorem Fin.rU (r : _root_.Fin 4096) (f : _root_.Fin 2816) : IsReal (A.rU r f) := ((F.G r f).mul (F.s r f)).mul (F.rA r f)
theorem Fin.rG (r : _root_.Fin 4096) (f : _root_.Fin 2816) : IsReal (A.rG r f) :=
  (((F.rA r f).mul (F.U r f)).mul (F.s r f)).add (((F.G r f).mul ((F.rA r f).mul (F.U r f))).mul ((F.s r f).mul (one_sub (F.s r f))))
theorem Fin.rY (r : _root_.Fin 4096) (d : _root_.Fin 1024) : IsReal (A.rY r d) :=
  (IsReal.sum _ _ fun f => (F.rU r f).mul (F.wu d f)).add (IsReal.sum _ _ fun f => (F.rG r f).mul (F.wg d f))
end

theorem tile_dU (i : _root_.Fin 8) (k : _root_.Fin 4) (r : _root_.Fin 512) (f : _root_.Fin 704) :
    (A.tile i k).dU r f = A.rU (row i r) (col k f) := mul_comm _ _
theorem tile_dG (F : A.Fin) (i : _root_.Fin 8) (k : _root_.Fin 4) (r : _root_.Fin 512) (f : _root_.Fin 704) :
    (A.tile i k).dG r f = A.rG (row i r) (col k f) :=
  gate_eq (F.rA _ _) (F.U _ _) (F.G _ _) (F.s _ _)

theorem dU_eq (r : _root_.Fin 4096) (k : _root_.Fin 4) (f : _root_.Fin 704) : A.rU r (col k f) = A.dU r k f := by
  rw [Args.dU, tile_dU, row_place]

variable (F : A.Fin)
include F
theorem dG_eq (r : _root_.Fin 4096) (k : _root_.Fin 4) (f : _root_.Fin 704) : A.rG r (col k f) = A.dG r k f := by
  rw [Args.dG, tile_dG F, row_place]

theorem Y_eq (r : _root_.Fin 4096) (d : _root_.Fin 1024) : A.rY r d = A.Y r d := by
  unfold Args.rY Args.Y
  rw [add_comm, sum_cols, sum_cols, ← Finset.sum_add_distrib]
  refine Finset.sum_congr rfl fun k _ => ?_
  show _ = (∑ f, (A.tile (tileNo r) k).dG (place r) f * A.wg d (col k f)) + ∑ f, (A.tile (tileNo r) k).dU (place r) f * A.wu d (col k f)
  simp only [tile_dG F, tile_dU, row_place]

theorem dX_eq (r : _root_.Fin 4096) (d : _root_.Fin 1024) : A.dh r d + rx (A.h r) (fun j => A.rY r j * A.nw j) d = A.dX r d := by
  obtain ⟨v, hv⟩ := F.real_h r
  choose y hy using fun j => (F.rY r j).mul (F.nw j)
  rw [Args.dX, norm_eq hv hy, show A.rY r = A.Y r from funext (Y_eq F r)]

theorem dN_eq (d : _root_.Fin 1024) : ∑ r, xh (A.h r) d * A.rY r d = A.dN d := by
  unfold Args.dN
  rw [sum_rows]
  exact Finset.sum_congr rfl fun i _ => Finset.sum_congr rfl fun r _ => by rw [Y_eq F, mul_comm]
end Args
end Cert.Ffn
-- ==== Proof.FOut.lean ====
module

public import proofs.«01_k».proof.Proof.FEqual

/-! The feed-forward reference's four results as the gradients that the kernel computes, at finite arguments. -/

@[expose] public section
set_option maxRecDepth 16384
noncomputable section
open Idealize.ShloMosaic Idealize.ShloMosaic.TcCoe Idealize.SL.Sem
namespace Cert.Reference2Ideal.Value
open Cert.Reference2Ideal Cert.Reference2Ideal.Gen Cert.Reference2Ideal.Read Cert.Ffn
section
variable (x0 x1 : Vec Ideal S4096x1024 .f32) (x2 : Vec Ideal S1024 .f32) (x3 x4 : Vec Ideal S1024x2816 .f32) (x5 : Vec Ideal S2816x1024 .f32)

theorem out53 : val_main_v53 x0 x1 x2 x3 x5 = fun j : S4x4096x704.Idx => (rargs x0 x1 x2 x3 x4 x5).dU (j 1) (j 0) (j 2) := by
  funext j
  obtain ⟨k, r, f, rfl⟩ : ∃ (k : Fin 4) (r : Fin 4096) (f : Fin 704), j = ix3 k r f := ⟨j 0, j 1, j 2, eq_ix3 j⟩
  exact (v53_at x0 x1 x2 x3 x4 x5 k r f).trans (Args.dU_eq r k f)

variable (h : (rargs x0 x1 x2 x3 x4 x5).Fin)
include h

theorem out50 : val_main_v50 x0 x1 x2 x3 x4 x5 = fun j : S4x4096x704.Idx => (rargs x0 x1 x2 x3 x4 x5).dG (j 1) (j 0) (j 2) := by
  funext j
  obtain ⟨k, r, f, rfl⟩ : ∃ (k : Fin 4) (r : Fin 4096) (f : Fin 704), j = ix3 k r f := ⟨j 0, j 1, j 2, eq_ix3 j⟩
  exact (v50_at x0 x1 x2 x3 x4 x5 k r f).trans (Args.dG_eq h r k f)

theorem out54 : val_main_v54 x0 x1 x2 x3 x4 x5 = fun j : S4096x1024.Idx => (rargs x0 x1 x2 x3 x4 x5).dX (j 0) (j 1) := by
  funext j
  obtain ⟨r, d, rfl⟩ : ∃ (r : Fin 4096) (d : Fin 1024), j = ix2 r d := ⟨j 0, j 1, eq_ix2 j⟩
  exact (v54_at x0 x1 x2 x3 x4 x5 r d).trans (Args.dX_eq h r d)

theorem out55 : val_main_v55 x0 x1 x2 x3 x4 x5 = fun j : S1x1024.Idx => (rargs x0 x1 x2 x3 x4 x5).dN (j 1) := by
  funext j
  obtain ⟨z, d, rfl⟩ : ∃ (z : Fin 1) (d : Fin 1024), j = ix2 z d := ⟨j 0, j 1, eq_ix2 j⟩
  exact (v55_at x0 x1 x2 x3 x4 x5 z d).trans (Args.dN_eq h d)
end
end Cert.Reference2Ideal.Value
-- ==== Proof.FPre.lean ====
module

public import proofs.«01_k».proof.Defs
public import proofs.«01_k».proof.Proof.FEqual
public import proofs.«01_k».proof.Proof.Pre

/-! The feed-forward layer's precondition read at an index: every entry of every argument is a real number. -/

@[expose] public section
set_option maxRecDepth 16384
noncomputable section
open Idealize.ShloMosaic Idealize.ShloMosaic.TcCoe Idealize.SL.Sem
namespace Cert.Ffn
open Cert.Pre_finite2
open Cert.Gmlp (IsReal isReal_of_lt ofBits_inf)

/-- The precondition's shapes broadcast. -/
theorem pre_facts : Cert.Pre_finite2.Facts where
  bcast_S_S4096x1024 := by decide
  bcast_S_S1024 := by decide
  bcast_S_S1024x2816 := by decide
  bcast_S_S2816x1024 := by decide

variable [Cert.Pre_finite2.Facts]
variable {x0 x1 : FVec Ideal S4096x1024 .f32} {x2 : FVec Ideal S1024 .f32} {x3 x4 : FVec Ideal S1024x2816 .f32} {x5 : FVec Ideal S2816x1024 .f32}

omit [Cert.Pre_finite2.Facts] in
/-- A whole array's comparison, read at an entry. -/
theorem isReal_at {s : Shape} (x : FVec Ideal s .f32) (hb : S_.BroadcastsInDim s (![] : Fin 0 → Fin s.rank))
    (h : cmpf .olt (Host.absf x) (broadcastInDim s ![] hb (constant (F := Ideal) S_ .f32 0x7F800000#32)) = fun _ => 1#1) (i : s.Idx) : IsReal (x i) := by
  refine isReal_of_lt ?_
  have e := congrFun h i
  rw [← ofBits_inf]
  exact e

/-- Under the precondition the arguments are finite. -/
theorem args_fin (h0 : (fn (F := Ideal) x0 x1 x2 x3 x4 x5).1 = fun _ => 1#1)
    (h1 : (fn (F := Ideal) x0 x1 x2 x3 x4 x5).2.1 = fun _ => 1#1) (h2 : (fn (F := Ideal) x0 x1 x2 x3 x4 x5).2.2.1 = fun _ => 1#1)
    (h3 : (fn (F := Ideal) x0 x1 x2 x3 x4 x5).2.2.2.1 = fun _ => 1#1) (h4 : (fn (F := Ideal) x0 x1 x2 x3 x4 x5).2.2.2.2.1 = fun _ => 1#1)
    (h5 : (fn (F := Ideal) x0 x1 x2 x3 x4 x5).2.2.2.2.2 = fun _ => 1#1) : (Cert.Reference2Ideal.Value.rargs x0 x1 x2 x3 x4 x5).Fin where
  dh r j := isReal_at x0 _ h0 _
  h r j := isReal_at x1 _ h1 _
  nw j := isReal_at x2 _ h2 _
  wg d f := isReal_at x3 _ h3 _
  wu d f := isReal_at x4 _ h4 _
  wd f d := isReal_at x5 _ h5 _

end Cert.Ffn
-- ==== Proof.Ffn.lean ====
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.FArr
public import proofs.«01_k».proof.Proof.FOut
public import proofs.«01_k».proof.Proof.FPre
public import Idealize.ShloMosaic.Lib.Quiescent

/-! The claims about the feed-forward layer's gradient: the programs run, and at finite arguments the kernel's four
    results are the reference's. -/

@[expose] public section
set_option maxRecDepth 16384
noncomputable section
open Idealize.ShloMosaic Idealize.ShloMosaic.TcCoe Idealize.SL.Sem
namespace Cert.Proof.Ffn
open Cert.Ffn

theorem frame_kernel : Cert.quiescent_Kernel2 (hKernel2 := Cert.Kernel2.Gen.facts) := fun m ρ _ => Cert.Kernel2.Gen.frame m ρ
theorem frame_ideal : Cert.quiescent_Kernel2Ideal (hKernel2Ideal := Cert.Kernel2Ideal.Gen.facts) := fun m ρ _ => Cert.Kernel2Ideal.Gen.frame m ρ
theorem frame_ideal_pre : Cert.quiescent_Kernel2Ideal_pre_finite2 (hKernel2Ideal := Cert.Kernel2Ideal.Gen.facts) (hPre_finite2 := pre_facts) :=
  fun m ρ _ => Cert.Kernel2Ideal.Gen.frame m ρ
theorem frame_reference : Cert.quiescent_Reference2Ideal (hReference2Ideal := Cert.Reference2Ideal.Gen.facts) := fun m ρ _ =>
  (θ_run Cert.Reference2Ideal.defs _ _).mono (fun r h => ⟨fun c => (h c).2.2.2.2, sem_eq_zero_of_no_sems (by decide) r.2⟩)
    (Cert.Reference2Ideal.Value.run (F := Ideal) m ρ)
theorem frame_reference_pre : Cert.quiescent_Reference2Ideal_pre_finite2 (hReference2Ideal := Cert.Reference2Ideal.Gen.facts) (hPre_finite2 := pre_facts) :=
  fun m ρ _ => frame_reference m ρ trivial

theorem preserves : Cert.preserves_Kernel2_Kernel2Ideal := trivial

/-- The arguments at the kernel's memory are finite under the precondition. -/
theorem fin_args (m : (ℓ : Loc Cert.Kernel2Ideal.nD Cert.Kernel2Ideal.τ Cert.Kernel2Ideal.sig) → Buf (Elt Ideal) ℓ)
    (h : Cert.Pre_Kernel2Ideal_finite2 (hPre_finite2 := pre_facts) m) (c : Dev Cert.Kernel2Ideal.nD) : (Cert.Kernel2Ideal.Value.args m c).Fin := by
  obtain ⟨h0, h1, h2, h3, h4, h5⟩ := h c
  exact @args_fin pre_facts _ _ _ _ _ _ h0 h1 h2 h3 h4 h5

theorem algebraic : Cert.algebraic_Kernel2Ideal_Reference2Ideal_pre_finite2 (hKernel2Ideal := Cert.Kernel2Ideal.Gen.facts)
    (hReference2Ideal := Cert.Reference2Ideal.Gen.facts) (hPre_finite2 := pre_facts) := by
  intro m ρ m' ρ' hpre hagree
  refine ⟨fun c => fun j : Cert.Kernel2Ideal.S4x4096x704.Idx => (Cert.Kernel2Ideal.Value.args m c).dG (j 1) (j 0) (j 2),
    fun c => fun j : Cert.Kernel2Ideal.S4x4096x704.Idx => (Cert.Kernel2Ideal.Value.args m c).dU (j 1) (j 0) (j 2),
    fun c => fun j : Cert.Kernel2Ideal.S4096x1024.Idx => (Cert.Kernel2Ideal.Value.args m c).dX (j 0) (j 1),
    fun c => fun j : Cert.Kernel2Ideal.S1x1024.Idx => (Cert.Kernel2Ideal.Value.args m c).dN (j 1), ?_, ?_⟩
  · refine (θ_run Cert.Kernel2Ideal.defs _ _).mono (fun r h c => ?_) (Cert.Kernel2Ideal.Value.run_blocks (F := Ideal) m ρ)
    obtain ⟨e0, e1, e2, e3, hargs⟩ := h c
    exact ⟨e0.trans (Cert.Kernel2Ideal.Value.arr8 m c), e1.trans (Cert.Kernel2Ideal.Value.arr9 m c), e2.trans (Cert.Kernel2Ideal.Value.arr10 m c),
      e3.trans (Cert.Kernel2Ideal.Value.arr11 m c), hargs⟩
  · refine (θ_run Cert.Reference2Ideal.defs _ _).mono (fun r h c => ?_) (Cert.Reference2Ideal.Value.run (F := Ideal) m' ρ')
    obtain ⟨e0, e1, e2, e3, hargs⟩ := h c
    obtain ⟨a0, a1, a2, a3, a4, a5⟩ := hagree c
    have hA : Cert.Reference2Ideal.Value.rargs (m' ((c.tc : Thread Cert.Reference2Ideal.nD Cert.Reference2Ideal.τ).loc Cert.Reference2Ideal.main_arg0))
        (m' ((c.tc : Thread Cert.Reference2Ideal.nD Cert.Reference2Ideal.τ).loc Cert.Reference2Ideal.main_arg1))
        (m' ((c.tc : Thread Cert.Reference2Ideal.nD Cert.Reference2Ideal.τ).loc Cert.Reference2Ideal.main_arg2))
        (m' ((c.tc : Thread Cert.Reference2Ideal.nD Cert.Reference2Ideal.τ).loc Cert.Reference2Ideal.main_arg3))
        (m' ((c.tc : Thread Cert.Reference2Ideal.nD Cert.Reference2Ideal.τ).loc Cert.Reference2Ideal.main_arg4))
        (m' ((c.tc : Thread Cert.Reference2Ideal.nD Cert.Reference2Ideal.τ).loc Cert.Reference2Ideal.main_arg5)) = Cert.Kernel2Ideal.Value.args m c := by
      rw [a0, a1, a2, a3, a4, a5]; rfl
    have hf := fin_args m hpre c
    generalize hB : Cert.Kernel2Ideal.Value.args m c = B at hA hf
    subst hA
    simp only [hB]
    exact ⟨e0.trans ((Cert.Reference2Ideal.Read.val_main_v50_eq _ _).trans (Cert.Reference2Ideal.Value.out50 _ _ _ _ _ _ hf)),
      e1.trans ((Cert.Reference2Ideal.Read.val_main_v53_eq _ _ _ _ _).trans (Cert.Reference2Ideal.Value.out53 _ _ _ _ _ _)),
      e2.trans ((Cert.Reference2Ideal.Read.val_main_v54_eq _ _).trans (Cert.Reference2Ideal.Value.out54 _ _ _ _ _ _ hf)),
      e3.trans ((Cert.Reference2Ideal.Read.val_main_v55_eq _ _).trans (Cert.Reference2Ideal.Value.out55 _ _ _ _ _ _ hf)), hargs⟩

end Cert.Proof.Ffn
-- ==== Proof.Tiles.lean ====
module

public import proofs.«01_k».proof.Proof.FSpec

/-! The 4096 rows in four blocks of 1024: a sum over the rows is the sum over the blocks of the sums over a block. -/

@[expose] public section
noncomputable section
open Idealize.ShloMosaic
namespace Cert.Tiles

/-- Row `r` of block `k`. -/
def blk (k : Fin 4) (r : Fin 1024) : Fin 4096 := ⟨1024 * k.val + r.val, by omega⟩

theorem sum_blks (f : Fin 4096 → EReal) : ∑ r, f r = ∑ k, ∑ r, f (blk k r) := by
  rw [← Fintype.sum_prod_type' fun k r => f (blk k r)]
  let e : Fin 4 × Fin 1024 ≃ Fin 4096 :=
    { toFun := fun x => blk x.1 x.2
      invFun := fun r => (⟨r.val / 1024, by omega⟩, ⟨r.val % 1024, by omega⟩)
      left_inv := fun x => Prod.ext (Fin.ext (by simp only [blk]; omega)) (Fin.ext (by simp only [blk]; omega))
      right_inv := fun r => Fin.ext (Nat.div_add_mod _ _) }
  exact (Equiv.sum_comp e f).symm

/-- Row `r` of block `k` of 2048 rows. -/
def blk2 (k : Fin 2) (r : Fin 1024) : Fin 2048 := ⟨1024 * k.val + r.val, by omega⟩

/-- The product of a transposed matrix of 4096 rows and another, and what one block of 1024 rows gives of it. -/
def prod {p q : ℕ} (a : Fin 4096 → Fin p → EReal) (b : Fin 4096 → Fin q → EReal) (i : Fin p) (j : Fin q) : EReal := ∑ r, a r i * b r j
def part {p q : ℕ} (a : Fin 4096 → Fin p → EReal) (b : Fin 4096 → Fin q → EReal) (k : Fin 4) (i : Fin p) (j : Fin q) : EReal :=
  ∑ r, a (blk k r) i * b (blk k r) j

theorem prod_eq {p q : ℕ} (a : Fin 4096 → Fin p → EReal) (b : Fin 4096 → Fin q → EReal) (i : Fin p) (j : Fin q) :
    prod a b i j = ∑ k, part a b k i j := sum_blks fun r => a r i * b r j

/-- The same for matrices of 2048 rows, in two blocks. -/
def prod2 {p q : ℕ} (a : Fin 2048 → Fin p → EReal) (b : Fin 2048 → Fin q → EReal) (i : Fin p) (j : Fin q) : EReal := ∑ r, a r i * b r j
def part2 {p q : ℕ} (a : Fin 2048 → Fin p → EReal) (b : Fin 2048 → Fin q → EReal) (k : Fin 2) (i : Fin p) (j : Fin q) : EReal :=
  ∑ r, a (blk2 k r) i * b (blk2 k r) j

theorem prod2_eq {p q : ℕ} (a : Fin 2048 → Fin p → EReal) (b : Fin 2048 → Fin q → EReal) (i : Fin p) (j : Fin q) :
    prod2 a b i j = ∑ k, part2 a b k i j := by
  unfold prod2 part2
  rw [← Fintype.sum_prod_type' fun k r => a (blk2 k r) i * b (blk2 k r) j]
  let e : Fin 2 × Fin 1024 ≃ Fin 2048 :=
    { toFun := fun x => blk2 x.1 x.2
      invFun := fun r => (⟨r.val / 1024, by omega⟩, ⟨r.val % 1024, by omega⟩)
      left_inv := fun x => Prod.ext (Fin.ext (by simp only [blk2]; omega)) (Fin.ext (by simp only [blk2]; omega))
      right_inv := fun r => Fin.ext (Nat.div_add_mod _ _) }
  exact (Equiv.sum_comp e fun r => a r i * b r j).symm

/-- Among the 6176 columns of the state-space layer's input weights: the columns of the gate, and after them those that the
    convolution reads. -/
def zcol (k : Fin 2048) : Fin 6176 := ⟨k.val, by omega⟩
def xcol (k : Fin 4096) : Fin 6176 := ⟨2048 + k.val, by omega⟩

/-- A sum whose terms are zero at the indices that a part of them leaves out is the sum over that part. -/
theorem sum_part {n p : ℕ} (e : Fin n → Fin p) (he : Function.Injective e) (f : Fin p → EReal) (h : ∀ k, (∀ j, e j ≠ k) → f k = 0) :
    ∑ k, f k = ∑ j, f (e j) := by
  refine Eq.trans ?_ (Finset.sum_map Finset.univ ⟨e, he⟩ f)
  refine (Finset.sum_subset (Finset.subset_univ _) fun k _ hk => h k fun j hj => ?_).symm
  exact hk (Finset.mem_map.mpr ⟨j, Finset.mem_univ _, hj⟩)

end Cert.Tiles
-- ==== Proof.DGate.lean ====
module

public import proofs.«01_k».proof.Proof.Gen.Kernel3Ideal.Value
public import proofs.«01_k».proof.Proof.Gen.Reference3Ideal.Read
public import proofs.«01_k».proof.Proof.Tiles
public import Idealize.ShloMosaic.Lib.Pipeline.ValueKit
public import Idealize.ShloMosaic.Lib.Pipeline.ReadBack
public import Idealize.ShloMosaic.Lib.Pointwise
public import Idealize.ShloMosaic.Lib.StableHlo.ReadAt

/-! The gradient of the gate's weights (and of the other factor's): the gradient of the product's result, transposed,
    times the normalised rows. The kernel adds the product of four blocks of 1024 rows for each chip's 704 columns; the
    reference is one product. -/

@[expose] public section
set_option maxRecDepth 16384
noncomputable section
open Idealize.ShloMosaic Idealize.ShloMosaic.TcCoe Idealize.SL.Sem

namespace Cert.DGate
open Cert.Ffn Cert.Tiles

/-- The arguments: the gradient of the product's result, the layer's input and the norm's weight. -/
structure Args where
  dg : Fin 4096 → Fin 2816 → EReal
  h : Fin 4096 → Fin 1024 → EReal
  nw : Fin 1024 → EReal

namespace Args
variable (A : Args)
/-- A normalised row; what a block of rows adds; the gradient. -/
def u (r : Fin 4096) (d : Fin 1024) : EReal := nrm (A.h r) A.nw d
def part (k b : Fin 4) (f : Fin 704) (d : Fin 1024) : EReal := ∑ r, A.dg (blk b r) (col k f) * A.u (blk b r) d
def dW (k : Fin 4) (f : Fin 704) (d : Fin 1024) : EReal := ∑ r, A.dg r (col k f) * A.u r d
end Args
end Cert.DGate

namespace Cert.Kernel3Ideal.Value
open Cert.Kernel3Ideal Cert.Kernel3Ideal.Gen Cert.Ffn Cert.Tiles Cert.DGate
section
variable (P : Vec Ideal S704x1024 .f32) (X : Vec Ideal S1x1024x704 .bf16) (Y : Vec Ideal S1024x1024 .bf16) (f : Fin 704) (d : Fin 1024) (z : Fin 1)

/-- What the body stores: zero, the accumulator with a block's product added, and the accumulator. -/
theorem pay1_at : k0_pay1 (F := Ideal) (ix2 f d) = 0 := by
  pointwise [k0_pay1]
theorem pay2_at : k0_pay2 P X Y (ix2 f d) = P (ix2 f d) + ∑ r, X (ix3 0 r f) * Y (ix2 r d) := by
  pointwise [k0_pay2]
theorem pay3_at : k0_pay3 P (ix3 z f d) = P (ix2 f d) := by
  pointwise [k0_pay3]
end
section
variable (m : (ℓ : Loc nD τ sig) → Buf (Elt Ideal) ℓ) (c : Dev nD)

/-- The arguments that a memory holds. -/
def args : DGate.Args where
  dg r f := m ((c : Thread nD τ).loc main_arg0) (ix2 r f)
  h r j := m ((c : Thread nD τ).loc main_arg1) (ix2 r j)
  nw j := m ((c : Thread nD τ).loc main_arg2) (ix1 j)

theorem col_eq (k : Fin 4) (f : Fin 704) (h : k.val * 704 + f.val < 2816) : (⟨k.val * 704 + f.val, h⟩ : Fin 2816) = col k f :=
  Fin.ext (show k.val * 704 + f.val = 704 * k.val + f.val by omega)

/-- What the host code prepares. -/
theorem V_dg (k : Fin 4) (r : Fin 4096) (f : Fin 704) : V m c main_v2 (ix3 k r f) = (args m c).dg r (col k f) := by
  unfold V
  after_reads_at
  rw [col_eq]
  rfl
theorem V_u (r : Fin 4096) (d : Fin 1024) : V m c main_v16 (ix2 r d) = (args m c).u r d := by
  unfold V
  after_reads_at
  simp only [ofBits_n, ofBits_eps]
  rfl

variable (t : Fin cfg0.N)
abbrev bX : Vec Ideal S1x1024x704 .bf16 := iblk m c 0 t
abbrev bY : Vec Ideal S1024x1024 .bf16 := iblk m c 1 t
/-- The chip and the block of rows of a grid point. -/
def tk : Fin 4 := ⟨t.val / 4, by have := t.isLt; have : cfg0.N = 16 := N_0; omega⟩
def tb : Fin 4 := ⟨t.val % 4, by omega⟩

theorem idx : ∀ t : Fin cfg0.N, win0_0.index t = ![t.val / 4, t.val % 4, 0] ∧ win0_1.index t = ![t.val % 4, 0] ∧ win0_2.index t = ![t.val / 4, 0, 0] :=
  (by decide +kernel : ∀ t : Fin grid0.N, _)

theorem bX_at (r : Fin 1024) (f : Fin 704) : bX m c t (ix3 0 r f) = (args m c).dg (blk (tb t) r) (col (tk t) f) := by
  refine Eq.trans ?_ (V_dg m c (tk t) (blk (tb t) r) f)
  unfold tk blk tb
  blk_point [iblk, idx t]
theorem bY_at (r d : Fin 1024) : bY m c t (ix2 r d) = (args m c).u (blk (tb t) r) d := by
  refine Eq.trans ?_ (V_u m c (blk (tb t) r) d)
  unfold blk tb
  blk_point [iblk, idx t]

/-- The accumulator after a point: the first block of rows starts it, a later one adds to it. -/
theorem acc_first (h : t.val % 4 = 0) (f : Fin 704) (d : Fin 1024) :
    (outsAt0 m c t.val t.isLt).2 (ix2 f d) = (0 : EReal) + (args m c).part (tk t) (tb t) f d := by
  rw [outsAt0_A m c t h (by omega)]
  frame_open
  simp (disch := decide) only [↓ View.readCov_skip, ↓ View.readCov_cons_toLoadRect, ↓ View.readCov_fill]
  frame_out
  refine (pay2_at _ (bX m c t) (bY m c t) f d).trans ?_
  unfold DGate.Args.part
  simp only [bX_at, bY_at, pay1_at]
theorem acc_later (h : ¬t.val % 4 = 0) (f : Fin 704) (d : Fin 1024) : (outsAt0 m c t.val t.isLt).2 (ix2 f d)
    = (outsAt0 m c (t.val - 1) (Nat.lt_of_le_of_lt (Nat.sub_le _ _) t.isLt)).2 (ix2 f d) + (args m c).part (tk t) (tb t) f d := by
  unfold DGate.Args.part
  simp only [← bX_at, ← bY_at]
  by_cases h1 : t.val % 4 = 3
  on_goal 1 => rw [outsAt0_C m c t h h1]
  on_goal 2 => rw [outsAt0_B m c t h h1]
  all_goals
    frame_open
    try simp (disch := decide) only [↓ View.readCov_skip, ↓ View.readCov_cons_toLoadRect, ↓ View.readCov_fill]
    frame_out
    refine (pay2_at _ (bX m c t) (bY m c t) f d).trans (congrArg (· + _) ?_)
    exact congrFun ((Memref.isWhole_whole cc0_scratch0).read_unread (Val := Elt Ideal) _) _

/-- A chip's last point stores the accumulator as that point leaves it. -/
theorem out_last (h : t.val % 4 = 3) (z : Fin 1) (f : Fin 704) (d : Fin 1024) :
    (outsAt0 m c t.val t.isLt).1 (ix3 z f d) = (outsAt0 m c t.val t.isLt).2 (ix2 f d) := by
  rw [outsAt0_C m c t (by omega) h]
  frame_open
  simp (disch := decide) only [↓ View.readCov_skip, ↓ View.readCov_cons_toLoadRect, ↓ View.readCov_fill]
  frame_out
  exact pay3_at _ f d z

/-- There the accumulator holds the gradient of the chip's columns. -/
theorem acc_last (h : t.val % 4 = 3) (f : Fin 704) (d : Fin 1024) :
    (outsAt0 m c t.val t.isLt).2 (ix2 f d) = (args m c).dW (tk t) f d := by
  rw [Pipeline.eq_sum_fin_of_reset_step_apply_of_flush (fun n h i => (outsAt0 m c n h).2 i) 4
    (fun _ => (0 : EReal)) (fun t i => (args m c).part (tk t) (tb t) (i 0) (i 1))
    (fun t h0 i => by idx_vars i; exact acc_first m c t h0 i0 i1) (fun t h0 i => by idx_vars i; exact acc_later m c t h0 i0 i1) t h (ix2 f d), zero_add]
  unfold DGate.Args.dW
  rw [sum_blks]
  refine Finset.sum_congr rfl fun s _ => ?_
  refine congrArg₂ (fun k b => (args m c).part k b f d) (Fin.ext ?_) (Fin.ext ?_)
  · simp only [tk]; omega
  · simp only [tb]; omega

/-- The result array. -/
theorem arr2 : (dats m 0 c).arrAt 2 cfg0.N = fun j : S4x704x1024.Idx => (args m c).dW (j 0) (j 1) (j 2) := by
  refine (dats m 0 c).arrAt_eq_of_covers 2 _ (by decide +kernel) fun t hf y => ?_
  blk_simp
  rw [after0_2]
  obtain ⟨z, f, d, hy⟩ : ∃ (z : Fin 1) (f : Fin 704) (d : Fin 1024), y = ix3 z f d := ⟨y 0, y 1, y 2, by blk_ext⟩
  have e0 : ((win0_2.blk t).view.emb y 0 : Fin 4) = tk t := by
    rw [hy]; refine Fin.ext ?_; blk_simp [idx t]; simp only [tk]
  have e1 : ((win0_2.blk t).view.emb y 1 : Fin 704) = f := by
    rw [hy]; refine Fin.ext ?_; blk_simp [idx t]
  have e2 : ((win0_2.blk t).view.emb y 2 : Fin 1024) = d := by
    rw [hy]; refine Fin.ext ?_; blk_simp [idx t]
  refine Eq.trans ?_ (congr (congrArg₂ (args m c).dW e0 e1) e2).symm
  have ht : t.val % 4 = 3 := (flush0_2 t).mp hf
  rw [hy]
  exact (out_last m c t ht z f d).trans (acc_last m c t ht f d)
end
end Cert.Kernel3Ideal.Value

namespace Cert.Reference3Ideal.Value
open Cert.Reference3Ideal Cert.Reference3Ideal.Gen Cert.Reference3Ideal.Read Cert.Ffn
section
variable (x0 : Vec Ideal S4096x2816 .f32) (x1 : Vec Ideal S4096x1024 .f32) (x2 : Vec Ideal S1024 .f32)

/-- The arguments that the arrays hold. -/
def rargs : DGate.Args where
  dg r f := x0 (ix2 r f)
  h r j := x1 (ix2 r j)
  nw j := x2 (ix1 j)

theorem v13_at (r : Fin 4096) (d : Fin 1024) : val_main_v13 x1 x2 (ix2 r d) = (rargs x0 x1 x2).u r d := by
  pointwise [val_main_v13, val_main_v12, val_main_v11, val_main_v10, val_main_v9, val_main_v8, val_main_v7, val_main_v6, val_main_v5, val_main_v4,
    val_main_v3, val_main_v2, val_main_v1, val_main_cst_0, val_main_cst_1, val_main_cst_2]
  simp only [ofBits_n, ofBits_eps]
  rfl

/-- The result. -/
theorem out19 : val_main_v19 x0 x1 x2 = fun j : S4x704x1024.Idx => (rargs x0 x1 x2).dW (j 0) (j 1) (j 2) := by
  funext j
  obtain ⟨k, f, d, rfl⟩ : ∃ (k : Fin 4) (f : Fin 704) (d : Fin 1024), j = ix3 k f d := ⟨j 0, j 1, j 2, eq_ix3 j⟩
  pointwise [val_main_v19, val_main_v18, val_main_v17, val_main_v16, val_main_v15]
  rw [Cert.Kernel3Ideal.Value.col_eq]
  simp only [v13_at x0 x1 x2]
  rfl
end
end Cert.Reference3Ideal.Value
-- ==== Proof.DDown.lean ====
module

public import proofs.«01_k».proof.Proof.Gen.Kernel4Ideal.Value
public import proofs.«01_k».proof.Proof.Gen.Reference4Ideal.Read
public import proofs.«01_k».proof.Proof.DGate
public import proofs.«01_k».proof.Proof.RefConst
public import Idealize.ShloMosaic.Lib.Pipeline.ValueKit
public import Idealize.ShloMosaic.Lib.Pipeline.ReadBack
public import Idealize.ShloMosaic.Lib.Pointwise
public import Idealize.ShloMosaic.Lib.StableHlo.ReadAt

/-! The gradient of the weights that lead back from the hidden columns: the hidden product `silu(g) * up`, transposed,
    times the gradient of the residual stream. The kernel adds the product of four blocks of 1024 rows for each chip's
    704 columns; the reference is one product. -/

@[expose] public section
set_option maxRecDepth 16384
noncomputable section
open Idealize.ShloMosaic Idealize.ShloMosaic.TcCoe Idealize.SL.Sem

namespace Cert.Kernel4Ideal.Value
open Cert.Kernel4Ideal Cert.Kernel4Ideal.Gen Cert.Ffn Cert.Tiles
section
variable (P : Vec Ideal S704x1024 .f32) (X : Vec Ideal S1x1024x704 .bf16) (Y : Vec Ideal S1024x1024 .f32) (f : Fin 704) (d : Fin 1024) (z : Fin 1)

/-- What the body stores: zero, the accumulator with a block's product added, and the accumulator. -/
theorem pay1_at : k0_pay1 (F := Ideal) (ix2 f d) = 0 := by
  pointwise [k0_pay1]
theorem pay2_at : k0_pay2 P X Y (ix2 f d) = P (ix2 f d) + ∑ r, X (ix3 0 r f) * Y (ix2 r d) := by
  pointwise [k0_pay2]
theorem pay3_at : k0_pay3 P (ix3 z f d) = P (ix2 f d) := by
  pointwise [k0_pay3]
end
section
variable (m : (ℓ : Loc nD τ sig) → Buf (Elt Ideal) ℓ) (c : Dev nD)

/-- The hidden product and the gradient of the residual stream, of what a memory holds. -/
def hid (r : Fin 4096) (f : Fin 2816) : EReal :=
  silu (m ((c : Thread nD τ).loc main_arg1) (ix2 r f)) * m ((c : Thread nD τ).loc main_arg2) (ix2 r f)
def dh (r : Fin 4096) (d : Fin 1024) : EReal := m ((c : Thread nD τ).loc main_arg0) (ix2 r d)

/-- What the host code prepares. -/
theorem V_hid (k : Fin 4) (r : Fin 4096) (f : Fin 704) : V m c main_v4 (ix3 k r f) = hid m c r (col k f) := by
  unfold V
  after_reads_at
  rw [Cert.Kernel3Ideal.Value.col_eq]
  rfl
theorem V_dh (r : Fin 4096) (d : Fin 1024) : V m c main_arg0 (ix2 r d) = dh m c r d := by
  rw [V_main_arg0]; rfl

variable (t : Fin cfg0.N)
abbrev bX : Vec Ideal S1x1024x704 .bf16 := iblk m c 0 t
abbrev bY : Vec Ideal S1024x1024 .f32 := iblk m c 1 t
/-- The chip and the block of rows of a grid point. -/
def tk : Fin 4 := ⟨t.val / 4, by have := t.isLt; have : cfg0.N = 16 := N_0; omega⟩
def tb : Fin 4 := ⟨t.val % 4, by omega⟩

theorem idx : ∀ t : Fin cfg0.N, win0_0.index t = ![t.val / 4, t.val % 4, 0] ∧ win0_1.index t = ![t.val % 4, 0] ∧ win0_2.index t = ![t.val / 4, 0, 0] :=
  (by decide +kernel : ∀ t : Fin grid0.N, _)

theorem bX_at (r : Fin 1024) (f : Fin 704) : bX m c t (ix3 0 r f) = hid m c (blk (tb t) r) (col (tk t) f) := by
  refine Eq.trans ?_ (V_hid m c (tk t) (blk (tb t) r) f)
  unfold tk blk tb
  blk_point [iblk, idx t]
theorem bY_at (r d : Fin 1024) : bY m c t (ix2 r d) = dh m c (blk (tb t) r) d := by
  refine Eq.trans ?_ (V_dh m c (blk (tb t) r) d)
  unfold blk tb
  blk_point [iblk, idx t]

/-- The accumulator after a point: the first block of rows starts it, a later one adds to it. -/
theorem acc_first (h : t.val % 4 = 0) (f : Fin 704) (d : Fin 1024) :
    (outsAt0 m c t.val t.isLt).2 (ix2 f d) = (0 : EReal) + part (hid m c) (dh m c) (tb t) (col (tk t) f) d := by
  rw [outsAt0_A m c t h (by omega)]
  frame_open
  simp (disch := decide) only [↓ View.readCov_skip, ↓ View.readCov_cons_toLoadRect, ↓ View.readCov_fill]
  frame_out
  refine (pay2_at _ (bX m c t) (bY m c t) f d).trans ?_
  unfold part
  simp only [bX_at, bY_at, pay1_at]
theorem acc_later (h : ¬t.val % 4 = 0) (f : Fin 704) (d : Fin 1024) : (outsAt0 m c t.val t.isLt).2 (ix2 f d)
    = (outsAt0 m c (t.val - 1) (Nat.lt_of_le_of_lt (Nat.sub_le _ _) t.isLt)).2 (ix2 f d) + part (hid m c) (dh m c) (tb t) (col (tk t) f) d := by
  unfold part
  simp only [← bX_at, ← bY_at]
  by_cases h1 : t.val % 4 = 3
  on_goal 1 => rw [outsAt0_C m c t h h1]
  on_goal 2 => rw [outsAt0_B m c t h h1]
  all_goals
    frame_open
    try simp (disch := decide) only [↓ View.readCov_skip, ↓ View.readCov_cons_toLoadRect, ↓ View.readCov_fill]
    frame_out
    refine (pay2_at _ (bX m c t) (bY m c t) f d).trans (congrArg (· + _) ?_)
    exact congrFun ((Memref.isWhole_whole cc0_scratch0).read_unread (Val := Elt Ideal) _) _

/-- A chip's last point stores the accumulator as that point leaves it. -/
theorem out_last (h : t.val % 4 = 3) (z : Fin 1) (f : Fin 704) (d : Fin 1024) :
    (outsAt0 m c t.val t.isLt).1 (ix3 z f d) = (outsAt0 m c t.val t.isLt).2 (ix2 f d) := by
  rw [outsAt0_C m c t (by omega) h]
  frame_open
  simp (disch := decide) only [↓ View.readCov_skip, ↓ View.readCov_cons_toLoadRect, ↓ View.readCov_fill]
  frame_out
  exact pay3_at _ f d z

/-- There the accumulator holds the gradient of the chip's columns. -/
theorem acc_last (h : t.val % 4 = 3) (f : Fin 704) (d : Fin 1024) :
    (outsAt0 m c t.val t.isLt).2 (ix2 f d) = prod (hid m c) (dh m c) (col (tk t) f) d := by
  rw [Pipeline.eq_sum_fin_of_reset_step_apply_of_flush (fun n h i => (outsAt0 m c n h).2 i) 4
    (fun _ => (0 : EReal)) (fun t i => part (hid m c) (dh m c) (tb t) (col (tk t) (i 0)) (i 1))
    (fun t h0 i => by idx_vars i; exact acc_first m c t h0 i0 i1) (fun t h0 i => by idx_vars i; exact acc_later m c t h0 i0 i1) t h (ix2 f d), zero_add]
  rw [prod_eq]
  refine Finset.sum_congr rfl fun s _ => ?_
  refine congrArg₂ (fun k b => part (hid m c) (dh m c) b (col k f) d) (Fin.ext ?_) (Fin.ext ?_)
  · simp only [tk]; omega
  · simp only [tb]; omega

/-- The result array. -/
theorem arr2 : (dats m 0 c).arrAt 2 cfg0.N = fun j : S4x704x1024.Idx => prod (hid m c) (dh m c) (col (j 0) (j 1)) (j 2) := by
  refine (dats m 0 c).arrAt_eq_of_covers 2 _ (by decide +kernel) fun t hf y => ?_
  blk_simp
  rw [after0_2]
  obtain ⟨z, f, d, hy⟩ : ∃ (z : Fin 1) (f : Fin 704) (d : Fin 1024), y = ix3 z f d := ⟨y 0, y 1, y 2, by blk_ext⟩
  have e0 : ((win0_2.blk t).view.emb y 0 : Fin 4) = tk t := by
    rw [hy]; refine Fin.ext ?_; blk_simp [idx t]; simp only [tk]
  have e1 : ((win0_2.blk t).view.emb y 1 : Fin 704) = f := by
    rw [hy]; refine Fin.ext ?_; blk_simp [idx t]
  have e2 : ((win0_2.blk t).view.emb y 2 : Fin 1024) = d := by
    rw [hy]; refine Fin.ext ?_; blk_simp [idx t]
  refine Eq.trans ?_ (congr (congrArg₂ (fun k f => prod (hid m c) (dh m c) (col k f)) e0 e1) e2).symm
  have ht : t.val % 4 = 3 := (flush0_2 t).mp hf
  rw [hy]
  exact (out_last m c t ht z f d).trans (acc_last m c t ht f d)
end
end Cert.Kernel4Ideal.Value

namespace Cert.Reference4Ideal.Value
open Cert.Reference4Ideal Cert.Reference4Ideal.Gen Cert.Reference4Ideal.Read Cert.Ffn Cert.Tiles
section
variable (x0 : Vec Ideal S4096x1024 .f32) (x1 x2 : Vec Ideal S4096x2816 .f32)

theorem v2_at (r : Fin 4096) (f : Fin 2816) : val_main_v2 x1 x2 (ix2 r f) = silu (x1 (ix2 r f)) * x2 (ix2 r f) := by
  pointwise [val_main_v2, val_main_v1, val_main_call0_v5, val_main_call0_v4, val_main_call0_v3, val_main_call0_v2, val_main_call0_v1, val_main_call0_v0,
    val_main_call0_cst, val_main_call0_cst_0]
  rfl

/-- The result. -/
theorem out7 : val_main_v7 x0 x1 x2 = fun j : S4x704x1024.Idx =>
    prod (fun r f => silu (x1 (ix2 r f)) * x2 (ix2 r f)) (fun r d => x0 (ix2 r d)) (col (j 0) (j 1)) (j 2) := by
  funext j
  obtain ⟨k, f, d, rfl⟩ : ∃ (k : Fin 4) (f : Fin 704) (d : Fin 1024), j = ix3 k f d := ⟨j 0, j 1, j 2, eq_ix3 j⟩
  pointwise [val_main_v7, val_main_v6, val_main_v5, val_main_v4]
  rw [Cert.Kernel3Ideal.Value.col_eq]
  simp only [v2_at x1 x2]
  exact Finset.sum_congr rfl fun r _ => mul_comm _ _
end
end Cert.Reference4Ideal.Value
-- ==== Proof.FfnWeights.lean ====
module

public import proofs.«01_k».proof.Defs
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.DGate
public import proofs.«01_k».proof.Proof.DDown
public import Idealize.ShloMosaic.Lib.Quiescent

/-! The claims about the gradients of the feed-forward layer's weights: the programs run, and the kernel's result is the
    reference's at any arguments. -/

@[expose] public section
set_option maxRecDepth 16384
noncomputable section
open Idealize.ShloMosaic Idealize.ShloMosaic.TcCoe Idealize.SL.Sem
namespace Cert.Proof.FfnWeights
open Cert.Tiles

/-! The gate (the other factor is the same program). -/
theorem frame_kernel3 : Cert.quiescent_Kernel3 (hKernel3 := Cert.Kernel3.Gen.facts) := fun m ρ _ => Cert.Kernel3.Gen.frame m ρ
theorem frame_ideal3 : Cert.quiescent_Kernel3Ideal (hKernel3Ideal := Cert.Kernel3Ideal.Gen.facts) := fun m ρ _ => Cert.Kernel3Ideal.Gen.frame m ρ
theorem frame_reference3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩) (Cert.Reference3Ideal.Value.run (F := Ideal) m ρ)
theorem preserves3 : Cert.preserves_Kernel3_Kernel3Ideal := trivial
theorem algebraic3 : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => fun j : Cert.Kernel3Ideal.S4x704x1024.Idx => (Cert.Kernel3Ideal.Value.args m c).dW (j 0) (j 1) (j 2), ?_, ?_⟩
  · exact (θ_run Cert.Kernel3Ideal.defs _ _).mono (fun r h c => ⟨(h c).1.trans (Cert.Kernel3Ideal.Value.arr2 m c), (h c).2⟩) (Cert.Kernel3Ideal.Value.run_blocks (F := Ideal) m ρ)
  · refine (θ_run Cert.Reference3Ideal.defs _ _).mono (fun r h c => ?_) (Cert.Reference3Ideal.Value.run (F := Ideal) m' ρ')
    obtain ⟨e, hargs⟩ := h c
    obtain ⟨a0, a1, a2⟩ := hagree c
    refine ⟨e.trans ((Cert.Reference3Ideal.Read.val_main_v19_eq _ _ _ ).trans ((Cert.Reference3Ideal.Value.out19 _ _ _ ).trans ?_)), hargs⟩
    rw [a0, a1, a2]
    rfl

/-! The weights that lead back. -/
theorem frame_kernel4 : Cert.quiescent_Kernel4 (hKernel4 := Cert.Kernel4.Gen.facts) := fun m ρ _ => Cert.Kernel4.Gen.frame m ρ
theorem frame_ideal4 : Cert.quiescent_Kernel4Ideal (hKernel4Ideal := Cert.Kernel4Ideal.Gen.facts) := fun m ρ _ => Cert.Kernel4Ideal.Gen.frame m ρ
theorem frame_reference4 : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩) (Cert.Reference4Ideal.Value.run (F := Ideal) m ρ)
theorem preserves4 : Cert.preserves_Kernel4_Kernel4Ideal := trivial
theorem algebraic4 : Cert.algebraic_Kernel4Ideal_Reference4Ideal (hKernel4Ideal := Cert.Kernel4Ideal.Gen.facts)
    (hReference4Ideal := Cert.Reference4Ideal.Gen.facts) := by
  intro m ρ m' ρ' _ hagree
  refine ⟨fun c => fun j : Cert.Kernel4Ideal.S4x704x1024.Idx => prod (Cert.Kernel4Ideal.Value.hid m c) (Cert.Kernel4Ideal.Value.dh m c) (Cert.Ffn.col (j 0) (j 1)) (j 2), ?_, ?_⟩
  · exact (θ_run Cert.Kernel4Ideal.defs _ _).mono (fun r h c => ⟨(h c).1.trans (Cert.Kernel4Ideal.Value.arr2 m c), (h c).2⟩) (Cert.Kernel4Ideal.Value.run_blocks (F := Ideal) m ρ)
  · refine (θ_run Cert.Reference4Ideal.defs _ _).mono (fun r h c => ?_) (Cert.Reference4Ideal.Value.run (F := Ideal) m' ρ')
    obtain ⟨e, hargs⟩ := h c
    obtain ⟨a0, a1, a2⟩ := hagree c
    refine ⟨e.trans ((Cert.Reference4Ideal.Read.val_main_v7_eq _ _ _ ).trans ((Cert.Reference4Ideal.Value.out7 _ _ _ ).trans ?_)), hargs⟩
    rw [a0, a1, a2]
    rfl

end Cert.Proof.FfnWeights
-- ==== Proof.OutDw.lean ====
module

public import proofs.«01_k».proof.Proof.Gen.Kernel5Ideal.Value
public import proofs.«01_k».proof.Proof.Gen.Reference5Ideal.Read
public import proofs.«01_k».proof.Proof.Tiles
public import Idealize.ShloMosaic.Lib.Pipeline.ValueKit
public import Idealize.ShloMosaic.Lib.Pipeline.ReadBack
public import Idealize.ShloMosaic.Lib.Pointwise
public import Idealize.ShloMosaic.Lib.StableHlo.ReadAt

/-! The gradient of a mixer's output weights: the mixer's output, transposed, times the gradient of the residual stream. -/

@[expose] public section
set_option maxRecDepth 16384
noncomputable section
open Idealize.ShloMosaic Idealize.ShloMosaic.TcCoe Idealize.SL.Sem

namespace Cert.Kernel5Ideal.Value
open Cert.Kernel5Ideal Cert.Kernel5Ideal.Gen Cert.Tiles
section
variable (P : Vec Ideal S1024x1024 .f32) (X : Vec Ideal S1024x1024 .bf16) (Y : Vec Ideal S1024x1024 .f32) (f d : Fin 1024)

/-- What the body stores: zero, the accumulator with a block's product added, and the accumulator. -/
theorem pay1_at : k0_pay1 (F := Ideal) (ix2 f d) = 0 := by
  pointwise [k0_pay1]
theorem pay2_at : k0_pay2 P X Y (ix2 f d) = P (ix2 f d) + ∑ r, X (ix2 r f) * Y (ix2 r d) := by
  pointwise [k0_pay2]
theorem pay3_at : k0_pay3 P (ix2 f d) = P (ix2 f d) := by
  pointwise [k0_pay3]
end
section
variable (m : (ℓ : Loc nD τ sig) → Buf (Elt Ideal) ℓ) (c : Dev nD)

/-- The mixer's output and the gradient of the residual stream, as a memory holds them. -/
def o (r : Fin 4096) (f : Fin 2048) : EReal := m ((c : Thread nD τ).loc main_arg1) (ix2 r f)
def dh (r : Fin 4096) (d : Fin 1024) : EReal := m ((c : Thread nD τ).loc main_arg0) (ix2 r d)

theorem V_o (r : Fin 4096) (f : Fin 2048) : V m c main_v0 (ix2 r f) = o m c r f := by
  unfold V
  after_reads_at
  rfl
theorem V_dh (r : Fin 4096) (d : Fin 1024) : V m c main_arg0 (ix2 r d) = dh m c r d := by
  rw [V_main_arg0]; rfl

variable (t : Fin cfg0.N)
abbrev bX : Vec Ideal S1024x1024 .bf16 := iblk m c 0 t
abbrev bY : Vec Ideal S1024x1024 .f32 := iblk m c 1 t
/-- The block of columns and the block of rows of a grid point. -/
def ti : Fin 2 := ⟨t.val / 4, by have := t.isLt; have : cfg0.N = 8 := N_0; omega⟩
def tb : Fin 4 := ⟨t.val % 4, by omega⟩

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

theorem bX_at (r f : Fin 1024) : bX m c t (ix2 r f) = o m c (blk (tb t) r) (blk2 (ti t) f) := by
  refine Eq.trans ?_ (V_o m c (blk (tb t) r) (blk2 (ti t) f))
  unfold blk blk2 ti tb
  blk_point [iblk, idx t]
theorem bY_at (r d : Fin 1024) : bY m c t (ix2 r d) = dh m c (blk (tb t) r) d := by
  refine Eq.trans ?_ (V_dh m c (blk (tb t) r) d)
  unfold blk tb
  blk_point [iblk, idx t]

/-- The accumulator after a point: the first block of rows starts it, a later one adds to it. -/
theorem acc_first (h : t.val % 4 = 0) (f d : Fin 1024) :
    (outsAt0 m c t.val t.isLt).2 (ix2 f d) = (0 : EReal) + part (o m c) (dh m c) (tb t) (blk2 (ti t) f) d := by
  rw [outsAt0_A m c t h (by omega)]
  frame_open
  simp (disch := decide) only [↓ View.readCov_skip, ↓ View.readCov_cons_toLoadRect, ↓ View.readCov_fill]
  frame_out
  refine (pay2_at _ (bX m c t) (bY m c t) f d).trans ?_
  unfold part
  simp only [bX_at, bY_at, pay1_at]
theorem acc_later (h : ¬t.val % 4 = 0) (f d : Fin 1024) : (outsAt0 m c t.val t.isLt).2 (ix2 f d)
    = (outsAt0 m c (t.val - 1) (Nat.lt_of_le_of_lt (Nat.sub_le _ _) t.isLt)).2 (ix2 f d) + part (o m c) (dh m c) (tb t) (blk2 (ti t) f) d := by
  unfold part
  simp only [← bX_at, ← bY_at]
  by_cases h1 : t.val % 4 = 3
  on_goal 1 => rw [outsAt0_C m c t h h1]
  on_goal 2 => rw [outsAt0_B m c t h h1]
  all_goals
    frame_open
    try simp (disch := decide) only [↓ View.readCov_skip, ↓ View.readCov_cons_toLoadRect, ↓ View.readCov_fill]
    frame_out
    refine (pay2_at _ (bX m c t) (bY m c t) f d).trans (congrArg (· + _) ?_)
    exact congrFun ((Memref.isWhole_whole cc0_scratch0).read_unread (Val := Elt Ideal) _) _

/-- The last block of rows: the point stores the accumulator, which then holds the whole product. -/
theorem out_last (h : t.val % 4 = 3) (f d : Fin 1024) :
    (outsAt0 m c t.val t.isLt).1 (ix2 f d) = (outsAt0 m c t.val t.isLt).2 (ix2 f d) := by
  rw [outsAt0_C m c t (by omega) h]
  frame_open
  simp (disch := decide) only [↓ View.readCov_skip, ↓ View.readCov_cons_toLoadRect, ↓ View.readCov_fill]
  frame_out
  exact pay3_at _ f d
theorem acc_last (h : t.val % 4 = 3) (f d : Fin 1024) :
    (outsAt0 m c t.val t.isLt).2 (ix2 f d) = prod (o m c) (dh m c) (blk2 (ti t) f) d := by
  rw [Pipeline.eq_sum_fin_of_reset_step_apply_of_flush (fun n h i => (outsAt0 m c n h).2 i) 4
    (fun _ => (0 : EReal)) (fun t i => part (o m c) (dh m c) (tb t) (blk2 (ti t) (i 0)) (i 1))
    (fun t h0 i => by idx_vars i; exact acc_first m c t h0 i0 i1) (fun t h0 i => by idx_vars i; exact acc_later m c t h0 i0 i1) t h (ix2 f d), zero_add, prod_eq]
  refine Finset.sum_congr rfl fun s _ => ?_
  refine congrArg₂ (fun k i => part (o m c) (dh m c) k (blk2 i f) d) (Fin.ext ?_) (Fin.ext ?_)
  · simp only [tb]; omega
  · simp only [ti]; omega

/-- The result array. -/
theorem arr2 : (dats m 0 c).arrAt 2 cfg0.N = fun j : S2048x1024.Idx => prod (o m c) (dh m c) (j 0) (j 1) := by
  refine (dats m 0 c).arrAt_eq_of_covers 2 _ (by decide +kernel) fun t hf y => ?_
  blk_simp
  rw [after0_2]
  obtain ⟨f, d, hy⟩ : ∃ (f d : Fin 1024), y = ix2 f d := ⟨y 0, y 1, by blk_ext⟩
  have e0 : ((win0_2.blk t).view.emb y 0 : Fin 2048) = blk2 (ti t) f := by
    rw [hy]; refine Fin.ext ?_; blk_simp [idx t]; simp only [blk2, ti]; omega
  have e1 : ((win0_2.blk t).view.emb y 1 : Fin 1024) = d := by
    rw [hy]; refine Fin.ext ?_; blk_simp [idx t]
  refine Eq.trans ?_ (congrArg₂ (prod (o m c) (dh m c)) e0 e1).symm
  have ht : t.val % 4 = 3 := (flush0_2 t).mp hf
  rw [hy]
  exact (out_last m c t ht f d).trans (acc_last m c t ht f d)
end
end Cert.Kernel5Ideal.Value

namespace Cert.Reference5Ideal.Value
open Cert.Reference5Ideal Cert.Reference5Ideal.Gen Cert.Reference5Ideal.Read Cert.Tiles

/-- The reference's result. -/
theorem out4 (x0 : Vec Ideal S4096x1024 .f32) (x1 : Vec Ideal S4096x2048 .f32) :
    val_main_v4 x0 x1 = fun j : S2048x1024.Idx => prod (fun r f => x1 (ix2 r f)) (fun r d => x0 (ix2 r d)) (j 0) (j 1) := by
  funext j
  obtain ⟨f, d, rfl⟩ : ∃ (f : Fin 2048) (d : Fin 1024), j = ix2 f d := ⟨j 0, j 1, eq_ix2 j⟩
  pointwise [val_main_v4, val_main_v3, val_main_v2]
  exact Finset.sum_congr rfl fun r _ => mul_comm _ _
end Cert.Reference5Ideal.Value
-- ==== Proof.OutDx.lean ====
module

public import proofs.«01_k».proof.Proof.Gen.Kernel6Ideal.Value
public import proofs.«01_k».proof.Proof.Gen.Reference6Ideal.Read
public import proofs.«01_k».proof.Proof.Tiles
public import Idealize.ShloMosaic.Lib.Pipeline.ValueKit
public import Idealize.ShloMosaic.Lib.Pipeline.ReadBack
public import Idealize.ShloMosaic.Lib.Pointwise
public import Idealize.ShloMosaic.Lib.StableHlo.ReadAt

/-! The gradient of a mixer's output: the gradient of the residual stream times the transposed output weights. One point
    of the kernel's grid does a whole block of the product. -/

@[expose] public section
set_option maxRecDepth 16384
noncomputable section
open Idealize.ShloMosaic Idealize.ShloMosaic.TcCoe Idealize.SL.Sem

namespace Cert.Kernel6Ideal.Value
open Cert.Kernel6Ideal Cert.Kernel6Ideal.Gen Cert.Tiles
section
variable (P X : Vec Ideal S1024x1024 .f32) (Y : Vec Ideal S1024x1024 .bf16) (f d : Fin 1024)

/-- What the body stores: zero, and the accumulator with the block's product added. -/
theorem pay1_at : k0_pay1 (F := Ideal) (ix2 f d) = 0 := by
  pointwise [k0_pay1]
theorem pay2_at : k0_pay2 P X Y (ix2 f d) = P (ix2 f d) + ∑ k, X (ix2 f k) * Y (ix2 d k) := by
  pointwise [k0_pay2]
end
section
variable (m : (ℓ : Loc nD τ sig) → Buf (Elt Ideal) ℓ) (c : Dev nD)

/-- The gradient of the residual stream and the weights, as a memory holds them. -/
def dh (r : Fin 4096) (k : Fin 1024) : EReal := m ((c : Thread nD τ).loc main_arg0) (ix2 r k)
def w (d : Fin 2048) (k : Fin 1024) : EReal := m ((c : Thread nD τ).loc main_arg1) (ix2 d k)

theorem V_dh (r : Fin 4096) (k : Fin 1024) : V m c main_arg0 (ix2 r k) = dh m c r k := by
  rw [V_main_arg0]; rfl
theorem V_w (d : Fin 2048) (k : Fin 1024) : V m c main_v0 (ix2 d k) = w m c d k := by
  unfold V
  after_reads_at
  rfl

variable (t : Fin cfg0.N)
abbrev bX : Vec Ideal S1024x1024 .f32 := iblk m c 0 t
abbrev bY : Vec Ideal S1024x1024 .bf16 := iblk m c 1 t
/-- The block of rows and the block of columns of a grid point. -/
def ti : Fin 4 := ⟨t.val / 2, by have := t.isLt; have : cfg0.N = 8 := N_0; omega⟩
def tj : Fin 2 := ⟨t.val % 2, by omega⟩

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

theorem bX_at (f k : Fin 1024) : bX m c t (ix2 f k) = dh m c (blk (ti t) f) k := by
  refine Eq.trans ?_ (V_dh m c (blk (ti t) f) k)
  unfold blk ti
  blk_point [iblk, idx t]
theorem bY_at (d k : Fin 1024) : bY m c t (ix2 d k) = w m c (blk2 (tj t) d) k := by
  refine Eq.trans ?_ (V_w m c (blk2 (tj t) d) k)
  unfold blk2 tj
  blk_point [iblk, idx t]

/-- What a point stores, and the result array. -/
theorem out_at (f d : Fin 1024) : outsAt0 m c t (ix2 f d) = ∑ k, dh m c (blk (ti t) f) k * w m c (blk2 (tj t) d) k := by
  unfold outsAt0
  frame_open
  simp (disch := decide) only [↓ View.readCov_skip, ↓ View.readCov_cons_toLoadRect, ↓ View.readCov_fill]
  frame_out
  refine (pay2_at _ (bX m c t) (bY m c t) f d).trans ?_
  simp only [bX_at, bY_at, pay1_at, zero_add]
theorem arr2 : (dats m 0 c).arrAt 2 cfg0.N = fun j : S4096x2048.Idx => ∑ k, dh m c (j 0) k * w m c (j 1) k := by
  refine (dats m 0 c).arrAt_eq_of_covers 2 _ (by decide +kernel) fun t hf y => ?_
  blk_simp
  rw [after0_2]
  obtain ⟨f, d, hy⟩ : ∃ (f d : Fin 1024), y = ix2 f d := ⟨y 0, y 1, by blk_ext⟩
  have e0 : ((win0_2.blk t).view.emb y 0 : Fin 4096) = blk (ti t) f := by
    rw [hy]; refine Fin.ext ?_; blk_simp [idx t]; simp only [blk, ti]; omega
  have e1 : ((win0_2.blk t).view.emb y 1 : Fin 2048) = blk2 (tj t) d := by
    rw [hy]; refine Fin.ext ?_; blk_simp [idx t]; simp only [blk2, tj]; omega
  refine Eq.trans ?_ (congrArg₂ (fun r d => ∑ k, dh m c r k * w m c d k) e0 e1).symm
  rw [hy]
  exact out_at m c t f d
end
end Cert.Kernel6Ideal.Value

namespace Cert.Reference6Ideal.Value
open Cert.Reference6Ideal Cert.Reference6Ideal.Gen Cert.Reference6Ideal.Read

/-- The reference's result. -/
theorem out2 (x0 : Vec Ideal S4096x1024 .f32) (x1 : Vec Ideal S2048x1024 .f32) :
    val_main_v2 x0 x1 = fun j : S4096x2048.Idx => ∑ k : Fin 1024, x0 (ix2 (j 0) k) * x1 (ix2 (j 1) k) := by
  funext j
  obtain ⟨r, d, rfl⟩ : ∃ (r : Fin 4096) (d : Fin 2048), j = ix2 r d := ⟨j 0, j 1, eq_ix2 j⟩
  pointwise [val_main_v2]
end Cert.Reference6Ideal.Value
-- ==== Proof.InDw.lean ====
module

public import proofs.«01_k».proof.Proof.Gen.Kernel7Ideal.Value
public import proofs.«01_k».proof.Proof.Gen.Reference7Ideal.Read
public import proofs.«01_k».proof.Proof.Tiles
public import Idealize.ShloMosaic.Lib.Pipeline.ValueKit
public import Idealize.ShloMosaic.Lib.Pipeline.ReadBack
public import Idealize.ShloMosaic.Lib.Pointwise
public import Idealize.ShloMosaic.Lib.StableHlo.ReadAt

/-! The gradient of the gated mixer's input weights: the normalised rows, transposed, times the gradient of the product's
    result. -/

@[expose] public section
set_option maxRecDepth 16384
noncomputable section
open Idealize.ShloMosaic Idealize.ShloMosaic.TcCoe Idealize.SL.Sem

namespace Cert.Kernel7Ideal.Value
open Cert.Kernel7Ideal Cert.Kernel7Ideal.Gen Cert.Tiles
section
variable (P : Vec Ideal S1024x1024 .f32) (X : Vec Ideal S1024x1024 .bf16) (Y : Vec Ideal S1024x1024 .bf16) (f d : Fin 1024)

/-- What the body stores: zero, the accumulator with a block's product added, and the accumulator. -/
theorem pay1_at : k0_pay1 (F := Ideal) (ix2 f d) = 0 := by
  pointwise [k0_pay1]
theorem pay2_at : k0_pay2 P X Y (ix2 f d) = P (ix2 f d) + ∑ r, X (ix2 r f) * Y (ix2 r d) := by
  pointwise [k0_pay2]
theorem pay3_at : k0_pay3 P (ix2 f d) = P (ix2 f d) := by
  pointwise [k0_pay3]
end
section
variable (m : (ℓ : Loc nD τ sig) → Buf (Elt Ideal) ℓ) (c : Dev nD)

/-- The normalised rows and the gradient of the product's result, as a memory holds them. -/
def u (r : Fin 4096) (f : Fin 1024) : EReal := m ((c : Thread nD τ).loc main_arg1) (ix2 r f)
def dp (r : Fin 4096) (d : Fin 4096) : EReal := m ((c : Thread nD τ).loc main_arg0) (ix2 r d)

theorem V_u (r : Fin 4096) (f : Fin 1024) : V m c main_v0 (ix2 r f) = u m c r f := by
  unfold V
  after_reads_at
  rfl
theorem V_dp (r d : Fin 4096) : V m c main_v1 (ix2 r d) = dp m c r d := by
  unfold V
  after_reads_at
  rfl

variable (t : Fin cfg0.N)
abbrev bX : Vec Ideal S1024x1024 .bf16 := iblk m c 0 t
abbrev bY : Vec Ideal S1024x1024 .bf16 := iblk m c 1 t
/-- The block of columns and the block of rows of a grid point. -/
def ti : Fin 4 := ⟨t.val / 4, by have := t.isLt; have : cfg0.N = 16 := N_0; omega⟩
def tb : Fin 4 := ⟨t.val % 4, by omega⟩

theorem idx : ∀ t : Fin cfg0.N, win0_0.index t = ![t.val % 4, 0] ∧ win0_1.index t = ![t.val % 4, t.val / 4] ∧ win0_2.index t = ![0, t.val / 4] :=
  (by decide +kernel : ∀ t : Fin grid0.N, _)

theorem bX_at (r f : Fin 1024) : bX m c t (ix2 r f) = u m c (blk (tb t) r) f := by
  refine Eq.trans ?_ (V_u m c (blk (tb t) r) f)
  unfold blk tb
  blk_point [iblk, idx t]
theorem bY_at (r d : Fin 1024) : bY m c t (ix2 r d) = dp m c (blk (tb t) r) (blk (ti t) d) := by
  refine Eq.trans ?_ (V_dp m c (blk (tb t) r) (blk (ti t) d))
  unfold blk ti tb
  blk_point [iblk, idx t]

/-- The accumulator after a point: the first block of rows starts it, a later one adds to it. -/
theorem acc_first (h : t.val % 4 = 0) (f d : Fin 1024) :
    (outsAt0 m c t.val t.isLt).2 (ix2 f d) = (0 : EReal) + part (u m c) (dp m c) (tb t) f (blk (ti t) d) := by
  rw [outsAt0_A m c t h (by omega)]
  frame_open
  simp (disch := decide) only [↓ View.readCov_skip, ↓ View.readCov_cons_toLoadRect, ↓ View.readCov_fill]
  frame_out
  refine (pay2_at _ (bX m c t) (bY m c t) f d).trans ?_
  unfold part
  simp only [bX_at, bY_at, pay1_at]
theorem acc_later (h : ¬t.val % 4 = 0) (f d : Fin 1024) : (outsAt0 m c t.val t.isLt).2 (ix2 f d)
    = (outsAt0 m c (t.val - 1) (Nat.lt_of_le_of_lt (Nat.sub_le _ _) t.isLt)).2 (ix2 f d) + part (u m c) (dp m c) (tb t) f (blk (ti t) d) := by
  unfold part
  simp only [← bX_at, ← bY_at]
  by_cases h1 : t.val % 4 = 3
  on_goal 1 => rw [outsAt0_C m c t h h1]
  on_goal 2 => rw [outsAt0_B m c t h h1]
  all_goals
    frame_open
    try simp (disch := decide) only [↓ View.readCov_skip, ↓ View.readCov_cons_toLoadRect, ↓ View.readCov_fill]
    frame_out
    refine (pay2_at _ (bX m c t) (bY m c t) f d).trans (congrArg (· + _) ?_)
    exact congrFun ((Memref.isWhole_whole cc0_scratch0).read_unread (Val := Elt Ideal) _) _

/-- The last block of rows: the point stores the accumulator, which then holds the whole product. -/
theorem out_last (h : t.val % 4 = 3) (f d : Fin 1024) :
    (outsAt0 m c t.val t.isLt).1 (ix2 f d) = (outsAt0 m c t.val t.isLt).2 (ix2 f d) := by
  rw [outsAt0_C m c t (by omega) h]
  frame_open
  simp (disch := decide) only [↓ View.readCov_skip, ↓ View.readCov_cons_toLoadRect, ↓ View.readCov_fill]
  frame_out
  exact pay3_at _ f d
theorem acc_last (h : t.val % 4 = 3) (f d : Fin 1024) :
    (outsAt0 m c t.val t.isLt).2 (ix2 f d) = prod (u m c) (dp m c) f (blk (ti t) d) := by
  rw [Pipeline.eq_sum_fin_of_reset_step_apply_of_flush (fun n h i => (outsAt0 m c n h).2 i) 4
    (fun _ => (0 : EReal)) (fun t i => part (u m c) (dp m c) (tb t) (i 0) (blk (ti t) (i 1)))
    (fun t h0 i => by idx_vars i; exact acc_first m c t h0 i0 i1) (fun t h0 i => by idx_vars i; exact acc_later m c t h0 i0 i1) t h (ix2 f d), zero_add, prod_eq]
  refine Finset.sum_congr rfl fun s _ => ?_
  refine congrArg₂ (fun k i => part (u m c) (dp m c) k f (blk i d)) (Fin.ext ?_) (Fin.ext ?_)
  · simp only [tb]; omega
  · simp only [ti]; omega

/-- The result array. -/
theorem arr2 : (dats m 0 c).arrAt 2 cfg0.N = fun j : S1024x4096.Idx => prod (u m c) (dp m c) (j 0) (j 1) := by
  refine (dats m 0 c).arrAt_eq_of_covers 2 _ (by decide +kernel) fun t hf y => ?_
  blk_simp
  rw [after0_2]
  obtain ⟨f, d, hy⟩ : ∃ (f d : Fin 1024), y = ix2 f d := ⟨y 0, y 1, by blk_ext⟩
  have e0 : ((win0_2.blk t).view.emb y 0 : Fin 1024) = f := by
    rw [hy]; refine Fin.ext ?_; blk_simp [idx t]
  have e1 : ((win0_2.blk t).view.emb y 1 : Fin 4096) = blk (ti t) d := by
    rw [hy]; refine Fin.ext ?_; blk_simp [idx t]; simp only [blk, ti]; omega
  refine Eq.trans ?_ (congrArg₂ (prod (u m c) (dp m c)) e0 e1).symm
  have ht : t.val % 4 = 3 := (flush0_2 t).mp hf
  rw [hy]
  exact (out_last m c t ht f d).trans (acc_last m c t ht f d)
end
end Cert.Kernel7Ideal.Value

namespace Cert.Reference7Ideal.Value
open Cert.Reference7Ideal Cert.Reference7Ideal.Gen Cert.Reference7Ideal.Read Cert.Tiles

/-- The reference's result. -/
theorem out4 (x0 : Vec Ideal S4096x4096 .f32) (x1 : Vec Ideal S4096x1024 .f32) :
    val_main_v4 x0 x1 = fun j : S1024x4096.Idx => prod (fun r f => x1 (ix2 r f)) (fun r d => x0 (ix2 r d)) (j 0) (j 1) := by
  funext j
  obtain ⟨f, d, rfl⟩ : ∃ (f : Fin 1024) (d : Fin 4096), j = ix2 f d := ⟨j 0, j 1, eq_ix2 j⟩
  pointwise [val_main_v4, val_main_v3, val_main_v2]
  exact Finset.sum_congr rfl fun r _ => mul_comm _ _
end Cert.Reference7Ideal.Value
-- ==== Proof.InDx.lean ====
module

public import proofs.«01_k».proof.Proof.Gen.Kernel8Ideal.Value
public import proofs.«01_k».proof.Proof.Gen.Reference8Ideal.Read
public import proofs.«01_k».proof.Proof.Tiles
public import Idealize.ShloMosaic.Lib.Pipeline.ValueKit
public import Idealize.ShloMosaic.Lib.Pipeline.ReadBack
public import Idealize.ShloMosaic.Lib.Pointwise
public import Idealize.ShloMosaic.Lib.StableHlo.ReadAt

/-! The gradient of the gated mixer's normalised rows: the gradient of the product's result times the transposed input
    weights. The kernel adds the products of four blocks of 1024 hidden columns. -/

@[expose] public section
set_option maxRecDepth 16384
noncomputable section
open Idealize.ShloMosaic Idealize.ShloMosaic.TcCoe Idealize.SL.Sem

namespace Cert.Kernel8Ideal.Value
open Cert.Kernel8Ideal Cert.Kernel8Ideal.Gen Cert.Tiles
section
variable (P : Vec Ideal S1024x1024 .f32) (X : Vec Ideal S1024x1024 .bf16) (Y : Vec Ideal S1024x1024 .bf16) (f d : Fin 1024)

/-- What the body stores: zero, and the accumulator with a block's product added. -/
theorem pay1_at : k0_pay1 (F := Ideal) (ix2 f d) = 0 := by
  pointwise [k0_pay1]
theorem pay2_at : k0_pay2 P X Y (ix2 f d) = P (ix2 f d) + ∑ r, X (ix2 f r) * Y (ix2 d r) := by
  pointwise [k0_pay2]
end
section
variable (m : (ℓ : Loc nD τ sig) → Buf (Elt Ideal) ℓ) (c : Dev nD)

/-- The gradient of the product's result and the weights, as a memory holds them, the hidden column first. -/
def dp (k : Fin 4096) (r : Fin 4096) : EReal := m ((c : Thread nD τ).loc main_arg0) (ix2 r k)
def w (k : Fin 4096) (d : Fin 1024) : EReal := m ((c : Thread nD τ).loc main_arg1) (ix2 d k)

theorem V_dp (k r : Fin 4096) : V m c main_v0 (ix2 r k) = dp m c k r := by
  unfold V
  after_reads_at
  rfl
theorem V_w (k : Fin 4096) (d : Fin 1024) : V m c main_v1 (ix2 d k) = w m c k d := by
  unfold V
  after_reads_at
  rfl

variable (t : Fin cfg0.N)
abbrev bX : Vec Ideal S1024x1024 .bf16 := iblk m c 0 t
abbrev bY : Vec Ideal S1024x1024 .bf16 := iblk m c 1 t
/-- The block of rows and the block of hidden columns of a grid point. -/
def ti : Fin 4 := ⟨t.val / 4, by have := t.isLt; have : cfg0.N = 16 := N_0; omega⟩
def tb : Fin 4 := ⟨t.val % 4, by omega⟩

theorem idx : ∀ t : Fin cfg0.N, win0_0.index t = ![t.val / 4, t.val % 4] ∧ win0_1.index t = ![0, t.val % 4] ∧ win0_2.index t = ![t.val / 4, 0] :=
  (by decide +kernel : ∀ t : Fin grid0.N, _)

theorem bX_at (r f : Fin 1024) : bX m c t (ix2 f r) = dp m c (blk (tb t) r) (blk (ti t) f) := by
  refine Eq.trans ?_ (V_dp m c (blk (tb t) r) (blk (ti t) f))
  unfold blk ti tb
  blk_point [iblk, idx t]
theorem bY_at (r d : Fin 1024) : bY m c t (ix2 d r) = w m c (blk (tb t) r) d := by
  refine Eq.trans ?_ (V_w m c (blk (tb t) r) d)
  unfold blk tb
  blk_point [iblk, idx t]

/-- The accumulator after a point: the first block starts it, a later one adds to it. -/
theorem acc_first (h : t.val % 4 = 0) (f d : Fin 1024) :
    (outsAt0 m c t.val t.isLt).2 (ix2 f d) = (0 : EReal) + part (dp m c) (w m c) (tb t) (blk (ti t) f) d := by
  rw [outsAt0_A m c t h (by omega)]
  frame_open
  simp (disch := decide) only [↓ View.readCov_skip, ↓ View.readCov_cons_toLoadRect, ↓ View.readCov_fill]
  frame_out
  refine (pay2_at _ (bX m c t) (bY m c t) f d).trans ?_
  unfold part
  simp only [bX_at, bY_at, pay1_at]
theorem acc_later (h : ¬t.val % 4 = 0) (f d : Fin 1024) : (outsAt0 m c t.val t.isLt).2 (ix2 f d)
    = (outsAt0 m c (t.val - 1) (Nat.lt_of_le_of_lt (Nat.sub_le _ _) t.isLt)).2 (ix2 f d) + part (dp m c) (w m c) (tb t) (blk (ti t) f) d := by
  unfold part
  simp only [← bX_at, ← bY_at]
  by_cases h1 : t.val % 4 = 3
  on_goal 1 => rw [outsAt0_C m c t h h1]
  on_goal 2 => rw [outsAt0_B m c t h h1]
  all_goals
    frame_open
    try simp (disch := decide) only [↓ View.readCov_skip, ↓ View.readCov_cons_toLoadRect, ↓ View.readCov_fill]
    frame_out
    refine (pay2_at _ (bX m c t) (bY m c t) f d).trans (congrArg (· + _) ?_)
    exact congrFun ((Memref.isWhole_whole cc0_scratch0).read_unread (Val := Elt Ideal) _) _

/-- The last block: the point stores the accumulator, which then holds the whole product. -/
theorem out_last (h : t.val % 4 = 3) (f d : Fin 1024) :
    (outsAt0 m c t.val t.isLt).1 (ix2 f d) = (outsAt0 m c t.val t.isLt).2 (ix2 f d) := by
  rw [outsAt0_C m c t (by omega) h]
  frame_open
  simp (disch := decide) only [↓ View.readCov_skip, ↓ View.readCov_cons_toLoadRect, ↓ View.readCov_fill]
  frame_out
theorem acc_last (h : t.val % 4 = 3) (f d : Fin 1024) :
    (outsAt0 m c t.val t.isLt).2 (ix2 f d) = prod (dp m c) (w m c) (blk (ti t) f) d := by
  rw [Pipeline.eq_sum_fin_of_reset_step_apply_of_flush (fun n h i => (outsAt0 m c n h).2 i) 4
    (fun _ => (0 : EReal)) (fun t i => part (dp m c) (w m c) (tb t) (blk (ti t) (i 0)) (i 1))
    (fun t h0 i => by idx_vars i; exact acc_first m c t h0 i0 i1) (fun t h0 i => by idx_vars i; exact acc_later m c t h0 i0 i1) t h (ix2 f d), zero_add, prod_eq]
  refine Finset.sum_congr rfl fun s _ => ?_
  refine congrArg₂ (fun k i => part (dp m c) (w m c) k (blk i f) d) (Fin.ext ?_) (Fin.ext ?_)
  · simp only [tb]; omega
  · simp only [ti]; omega

/-- The result array. -/
theorem arr2 : (dats m 0 c).arrAt 2 cfg0.N = fun j : S4096x1024.Idx => prod (dp m c) (w m c) (j 0) (j 1) := by
  refine (dats m 0 c).arrAt_eq_of_covers 2 _ (by decide +kernel) fun t hf y => ?_
  blk_simp
  rw [after0_2]
  obtain ⟨f, d, hy⟩ : ∃ (f d : Fin 1024), y = ix2 f d := ⟨y 0, y 1, by blk_ext⟩
  have e0 : ((win0_2.blk t).view.emb y 0 : Fin 4096) = blk (ti t) f := by
    rw [hy]; refine Fin.ext ?_; blk_simp [idx t]; simp only [blk, ti]; omega
  have e1 : ((win0_2.blk t).view.emb y 1 : Fin 1024) = d := by
    rw [hy]; refine Fin.ext ?_; blk_simp [idx t]
  refine Eq.trans ?_ (congrArg₂ (prod (dp m c) (w m c)) e0 e1).symm
  have ht : t.val % 4 = 3 := (flush0_2 t).mp hf
  rw [hy]
  exact (out_last m c t ht f d).trans (acc_last m c t ht f d)
end
end Cert.Kernel8Ideal.Value

namespace Cert.Reference8Ideal.Value
open Cert.Reference8Ideal Cert.Reference8Ideal.Gen Cert.Reference8Ideal.Read Cert.Tiles

/-- The reference's result. -/
theorem out2 (x0 : Vec Ideal S4096x4096 .f32) (x1 : Vec Ideal S1024x4096 .f32) :
    val_main_v2 x0 x1 = fun j : S4096x1024.Idx => prod (fun k r => x0 (ix2 r k)) (fun k d => x1 (ix2 d k)) (j 0) (j 1) := by
  funext j
  obtain ⟨f, d, rfl⟩ : ∃ (f : Fin 4096) (d : Fin 1024), j = ix2 f d := ⟨j 0, j 1, eq_ix2 j⟩
  pointwise [val_main_v2]
  rfl
end Cert.Reference8Ideal.Value
-- ==== Proof.XbcDw.lean ====
module

public import proofs.«01_k».proof.Proof.Gen.Kernel9Ideal.Value
public import proofs.«01_k».proof.Proof.Gen.Reference9Ideal.Read
public import proofs.«01_k».proof.Proof.Tiles
public import Idealize.ShloMosaic.Lib.Pipeline.ValueKit
public import Idealize.ShloMosaic.Lib.Pipeline.ReadBack
public import Idealize.ShloMosaic.Lib.Pointwise
public import Idealize.ShloMosaic.Lib.StableHlo.ReadAt

/-! The gradient of the state-space layer's input weights, the columns that the convolution reads: the gradient of the
    product's result, transposed, times the normalised rows. -/

@[expose] public section
set_option maxRecDepth 16384
noncomputable section
open Idealize.ShloMosaic Idealize.ShloMosaic.TcCoe Idealize.SL.Sem

namespace Cert.Kernel9Ideal.Value
open Cert.Kernel9Ideal Cert.Kernel9Ideal.Gen Cert.Tiles
section
variable (P : Vec Ideal S1024x1024 .f32) (X : Vec Ideal S1024x1024 .f32) (Y : Vec Ideal S1024x1024 .bf16) (f d : Fin 1024)

/-- What the body stores: zero, the accumulator with a block's product added, and the accumulator. -/
theorem pay1_at : k0_pay1 (F := Ideal) (ix2 f d) = 0 := by
  pointwise [k0_pay1]
theorem pay2_at : k0_pay2 P X Y (ix2 f d) = P (ix2 f d) + ∑ r, X (ix2 r f) * Y (ix2 r d) := by
  pointwise [k0_pay2]
theorem pay3_at : k0_pay3 P (ix2 f d) = P (ix2 f d) := by
  pointwise [k0_pay3]
end
section
variable (m : (ℓ : Loc nD τ sig) → Buf (Elt Ideal) ℓ) (c : Dev nD)

/-- The gradient of the product's result and the normalised rows, as a memory holds them. -/
def dx (r : Fin 4096) (f : Fin 4096) : EReal := m ((c : Thread nD τ).loc main_arg0) (ix2 r f)
def u (r : Fin 4096) (d : Fin 1024) : EReal := m ((c : Thread nD τ).loc main_arg1) (ix2 r d)

theorem V_dx (r f : Fin 4096) : V m c main_arg0 (ix2 r f) = dx m c r f := by
  rw [V_main_arg0]; rfl
theorem V_u (r : Fin 4096) (d : Fin 1024) : V m c main_v0 (ix2 r d) = u m c r d := by
  unfold V
  after_reads_at
  rfl

variable (t : Fin cfg0.N)
abbrev bX : Vec Ideal S1024x1024 .f32 := iblk m c 0 t
abbrev bY : Vec Ideal S1024x1024 .bf16 := iblk m c 1 t
/-- The block of columns and the block of rows of a grid point. -/
def ti : Fin 4 := ⟨t.val / 4, by have := t.isLt; have : cfg0.N = 16 := N_0; omega⟩
def tb : Fin 4 := ⟨t.val % 4, by omega⟩

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

theorem bX_at (r f : Fin 1024) : bX m c t (ix2 r f) = dx m c (blk (tb t) r) (blk (ti t) f) := by
  refine Eq.trans ?_ (V_dx m c (blk (tb t) r) (blk (ti t) f))
  unfold blk ti tb
  blk_point [iblk, idx t]
theorem bY_at (r d : Fin 1024) : bY m c t (ix2 r d) = u m c (blk (tb t) r) d := by
  refine Eq.trans ?_ (V_u m c (blk (tb t) r) d)
  unfold blk tb
  blk_point [iblk, idx t]

/-- The accumulator after a point: the first block of rows starts it, a later one adds to it. -/
theorem acc_first (h : t.val % 4 = 0) (f d : Fin 1024) :
    (outsAt0 m c t.val t.isLt).2 (ix2 f d) = (0 : EReal) + part (dx m c) (u m c) (tb t) (blk (ti t) f) d := by
  rw [outsAt0_A m c t h (by omega)]
  frame_open
  simp (disch := decide) only [↓ View.readCov_skip, ↓ View.readCov_cons_toLoadRect, ↓ View.readCov_fill]
  frame_out
  refine (pay2_at _ (bX m c t) (bY m c t) f d).trans ?_
  unfold part
  simp only [bX_at, bY_at, pay1_at]
theorem acc_later (h : ¬t.val % 4 = 0) (f d : Fin 1024) : (outsAt0 m c t.val t.isLt).2 (ix2 f d)
    = (outsAt0 m c (t.val - 1) (Nat.lt_of_le_of_lt (Nat.sub_le _ _) t.isLt)).2 (ix2 f d) + part (dx m c) (u m c) (tb t) (blk (ti t) f) d := by
  unfold part
  simp only [← bX_at, ← bY_at]
  by_cases h1 : t.val % 4 = 3
  on_goal 1 => rw [outsAt0_C m c t h h1]
  on_goal 2 => rw [outsAt0_B m c t h h1]
  all_goals
    frame_open
    try simp (disch := decide) only [↓ View.readCov_skip, ↓ View.readCov_cons_toLoadRect, ↓ View.readCov_fill]
    frame_out
    refine (pay2_at _ (bX m c t) (bY m c t) f d).trans (congrArg (· + _) ?_)
    exact congrFun ((Memref.isWhole_whole cc0_scratch0).read_unread (Val := Elt Ideal) _) _

/-- The last block of rows: the point stores the accumulator, which then holds the whole product. -/
theorem out_last (h : t.val % 4 = 3) (f d : Fin 1024) :
    (outsAt0 m c t.val t.isLt).1 (ix2 f d) = (outsAt0 m c t.val t.isLt).2 (ix2 f d) := by
  rw [outsAt0_C m c t (by omega) h]
  frame_open
  simp (disch := decide) only [↓ View.readCov_skip, ↓ View.readCov_cons_toLoadRect, ↓ View.readCov_fill]
  frame_out
  exact pay3_at _ f d
theorem acc_last (h : t.val % 4 = 3) (f d : Fin 1024) :
    (outsAt0 m c t.val t.isLt).2 (ix2 f d) = prod (dx m c) (u m c) (blk (ti t) f) d := by
  rw [Pipeline.eq_sum_fin_of_reset_step_apply_of_flush (fun n h i => (outsAt0 m c n h).2 i) 4
    (fun _ => (0 : EReal)) (fun t i => part (dx m c) (u m c) (tb t) (blk (ti t) (i 0)) (i 1))
    (fun t h0 i => by idx_vars i; exact acc_first m c t h0 i0 i1) (fun t h0 i => by idx_vars i; exact acc_later m c t h0 i0 i1) t h (ix2 f d), zero_add, prod_eq]
  refine Finset.sum_congr rfl fun s _ => ?_
  refine congrArg₂ (fun k i => part (dx m c) (u m c) k (blk i f) d) (Fin.ext ?_) (Fin.ext ?_)
  · simp only [tb]; omega
  · simp only [ti]; omega

/-- The result array. -/
theorem arr2 : (dats m 0 c).arrAt 2 cfg0.N = fun j : S4096x1024.Idx => prod (dx m c) (u m c) (j 0) (j 1) := by
  refine (dats m 0 c).arrAt_eq_of_covers 2 _ (by decide +kernel) fun t hf y => ?_
  blk_simp
  rw [after0_2]
  obtain ⟨f, d, hy⟩ : ∃ (f d : Fin 1024), y = ix2 f d := ⟨y 0, y 1, by blk_ext⟩
  have e0 : ((win0_2.blk t).view.emb y 0 : Fin 4096) = blk (ti t) f := by
    rw [hy]; refine Fin.ext ?_; blk_simp [idx t]; simp only [blk, ti]; omega
  have e1 : ((win0_2.blk t).view.emb y 1 : Fin 1024) = d := by
    rw [hy]; refine Fin.ext ?_; blk_simp [idx t]
  refine Eq.trans ?_ (congrArg₂ (prod (dx m c) (u m c)) e0 e1).symm
  have ht : t.val % 4 = 3 := (flush0_2 t).mp hf
  rw [hy]
  exact (out_last m c t ht f d).trans (acc_last m c t ht f d)
end
end Cert.Kernel9Ideal.Value

namespace Cert.Reference9Ideal.Value
open Cert.Reference9Ideal Cert.Reference9Ideal.Gen Cert.Reference9Ideal.Read Cert.Tiles

/-- The reference's result. -/
theorem out5 (x0 : Vec Ideal S4096x4096 .f32) (x1 : Vec Ideal S4096x1024 .f32) :
    val_main_v5 x0 x1 = fun j : S4096x1024.Idx => prod (fun r f => x0 (ix2 r f)) (fun r d => x1 (ix2 r d)) (j 0) (j 1) := by
  funext j
  obtain ⟨f, d, rfl⟩ : ∃ (f : Fin 4096) (d : Fin 1024), j = ix2 f d := ⟨j 0, j 1, eq_ix2 j⟩
  pointwise [val_main_v5, val_main_v4, val_main_v3, val_main_v2]
  rfl
end Cert.Reference9Ideal.Value
-- ==== Proof.XbcDx.lean ====
module

public import proofs.«01_k».proof.Proof.Gen.Kernel10Ideal.Value
public import proofs.«01_k».proof.Proof.Gen.Reference10Ideal.Read
public import proofs.«01_k».proof.Proof.Tiles
public import Idealize.ShloMosaic.Lib.Pipeline.ValueKit
public import Idealize.ShloMosaic.Lib.Pipeline.ReadBack
public import Idealize.ShloMosaic.Lib.KernelVsHost
public import Idealize.ShloMosaic.Lib.Pointwise
public import Idealize.ShloMosaic.Lib.StableHlo.ReadAt

/-! The gradient of the state-space layer's normalised rows, the part that comes through the columns that the convolution
    reads: the gradient of the product's result times those columns of the transposed input weights, added to what the
    other columns gave. The kernel adds the products of four blocks of 1024 columns and then the other part. -/

@[expose] public section
set_option maxRecDepth 16384
noncomputable section
open Idealize.ShloMosaic Idealize.ShloMosaic.TcCoe Idealize.SL.Sem

namespace Cert.Kernel10Ideal.Value
open Cert.Kernel10Ideal Cert.Kernel10Ideal.Gen Cert.Tiles
section
variable (P : Vec Ideal S1024x1024 .f32) (X : Vec Ideal S1024x1024 .f32) (Y : Vec Ideal S1024x1024 .bf16) (f d : Fin 1024)

/-- What the body stores: zero, the accumulator with a block's product added, and the accumulator plus the other part. -/
theorem pay1_at : k0_pay1 (F := Ideal) (ix2 f d) = 0 := by
  pointwise [k0_pay1]
theorem pay2_at : k0_pay2 P X Y (ix2 f d) = P (ix2 f d) + ∑ r, X (ix2 f r) * Y (ix2 r d) := by
  pointwise [k0_pay2]
theorem pay3_at (R : Vec Ideal S1024x1024 .f32) : k0_pay3 P R (ix2 f d) = P (ix2 f d) + R (ix2 f d) := by
  pointwise [k0_pay3]
end
section
variable (m : (ℓ : Loc nD τ sig) → Buf (Elt Ideal) ℓ) (c : Dev nD)

/-- The gradient of the product's result, the weights and the other part, as a memory holds them; the column first. -/
def dx (k r : Fin 4096) : EReal := m ((c : Thread nD τ).loc main_arg0) (ix2 r k)
def w (k : Fin 4096) (d : Fin 1024) : EReal := m ((c : Thread nD τ).loc main_arg2) (ix2 d (xcol k))
def du (r : Fin 4096) (d : Fin 1024) : EReal := m ((c : Thread nD τ).loc main_arg1) (ix2 r d)

theorem V_dx (k r : Fin 4096) : V m c main_arg0 (ix2 r k) = dx m c k r := by
  rw [V_main_arg0]; rfl
theorem V_w (k : Fin 4096) (d : Fin 1024) : V m c main_v1 (ix2 (xcol k) d) = w m c k d := by
  unfold V
  after_reads_at
  rfl
theorem V_du (r : Fin 4096) (d : Fin 1024) : V m c main_arg1 (ix2 r d) = du m c r d := by
  rw [V_main_arg1]; rfl

variable (t : Fin cfg0.N)
abbrev bX : Vec Ideal S1024x1024 .f32 := iblk m c 0 t
abbrev bY : Vec Ideal S1024x1024 .bf16 := X0_1 m c t
abbrev bZ : Vec Ideal S1024x1024 .f32 := iblk m c 2 t
/-- The block of rows and the block of columns of a grid point. -/
def ti : Fin 4 := ⟨t.val / 4, by have := t.isLt; have : cfg0.N = 16 := N_0; omega⟩
def tb : Fin 4 := ⟨t.val % 4, by omega⟩

theorem idx : ∀ t : Fin cfg0.N, win0_0.index t = ![t.val / 4, t.val % 4] ∧ win0_1.index t = ![t.val % 4 + 2, 0] ∧ win0_2.index t = ![t.val / 4, 0]
    ∧ win0_3.index t = ![t.val / 4, 0] :=
  (by decide +kernel : ∀ t : Fin grid0.N, _)

theorem bX_at (r f : Fin 1024) : bX m c t (ix2 f r) = dx m c (blk (tb t) r) (blk (ti t) f) := by
  refine Eq.trans ?_ (V_dx m c (blk (tb t) r) (blk (ti t) f))
  unfold blk ti tb
  blk_point [iblk, idx t]
theorem bY_at (r d : Fin 1024) : bY m c t (ix2 r d) = w m c (blk (tb t) r) d := by
  refine Eq.trans ?_ (V_w m c (blk (tb t) r) d)
  unfold bY X0_1 Pipeline.Window.fill
  rw [dif_pos (moved0_1 t _)]
  unfold xcol blk tb
  blk_point [iblk, idx t]
theorem bZ_at (f d : Fin 1024) : bZ m c t (ix2 f d) = du m c (blk (ti t) f) d := by
  refine Eq.trans ?_ (V_du m c (blk (ti t) f) d)
  unfold blk ti
  blk_point [iblk, idx t]

/-- The accumulator after a point: the first block starts it, a later one adds to it. -/
theorem acc_first (h : t.val % 4 = 0) (f d : Fin 1024) :
    (outsAt0 m c t.val t.isLt).2 (ix2 f d) = (0 : EReal) + part (dx m c) (w m c) (tb t) (blk (ti t) f) d := by
  rw [outsAt0_A m c t h (by omega)]
  frame_open
  simp (disch := decide) only [↓ View.readCov_skip, ↓ View.readCov_cons_toLoadRect, ↓ View.readCov_fill]
  frame_out
  refine (pay2_at _ (bX m c t) (bY m c t) f d).trans ?_
  unfold part
  simp only [bX_at, bY_at, pay1_at]
theorem acc_later (h : ¬t.val % 4 = 0) (f d : Fin 1024) : (outsAt0 m c t.val t.isLt).2 (ix2 f d)
    = (outsAt0 m c (t.val - 1) (Nat.lt_of_le_of_lt (Nat.sub_le _ _) t.isLt)).2 (ix2 f d) + part (dx m c) (w m c) (tb t) (blk (ti t) f) d := by
  unfold part
  simp only [← bX_at, ← bY_at]
  by_cases h1 : t.val % 4 = 3
  on_goal 1 => rw [outsAt0_C m c t h h1]
  on_goal 2 => rw [outsAt0_B m c t h h1]
  all_goals
    frame_open
    try simp (disch := decide) only [↓ View.readCov_skip, ↓ View.readCov_cons_toLoadRect, ↓ View.readCov_fill]
    frame_out
    refine (pay2_at _ (bX m c t) (bY m c t) f d).trans (congrArg (· + _) ?_)
    exact congrFun ((Memref.isWhole_whole cc0_scratch0).read_unread (Val := Elt Ideal) _) _

/-- The last block: the point stores the accumulator and the other part; the accumulator then holds the whole product. -/
theorem out_last (h : t.val % 4 = 3) (f d : Fin 1024) :
    (outsAt0 m c t.val t.isLt).1 (ix2 f d) = (outsAt0 m c t.val t.isLt).2 (ix2 f d) + du m c (blk (ti t) f) d := by
  rw [outsAt0_C m c t (by omega) h]
  frame_open
  simp (disch := decide) only [↓ View.readCov_skip, ↓ View.readCov_cons_toLoadRect, ↓ View.readCov_fill]
  frame_out
  refine (pay3_at _ f d (bZ m c t)).trans ?_
  rw [bZ_at]
theorem acc_last (h : t.val % 4 = 3) (f d : Fin 1024) :
    (outsAt0 m c t.val t.isLt).2 (ix2 f d) = prod (dx m c) (w m c) (blk (ti t) f) d := by
  rw [Pipeline.eq_sum_fin_of_reset_step_apply_of_flush (fun n h i => (outsAt0 m c n h).2 i) 4
    (fun _ => (0 : EReal)) (fun t i => part (dx m c) (w m c) (tb t) (blk (ti t) (i 0)) (i 1))
    (fun t h0 i => by idx_vars i; exact acc_first m c t h0 i0 i1) (fun t h0 i => by idx_vars i; exact acc_later m c t h0 i0 i1) t h (ix2 f d), zero_add, prod_eq]
  refine Finset.sum_congr rfl fun s _ => ?_
  refine congrArg₂ (fun k i => part (dx m c) (w m c) k (blk i f) d) (Fin.ext ?_) (Fin.ext ?_)
  · simp only [tb]; omega
  · simp only [ti]; omega

/-- The result array. -/
theorem arr3 : (dats m 0 c).arrAt 3 cfg0.N = fun j : S4096x1024.Idx => prod (dx m c) (w m c) (j 0) (j 1) + du m c (j 0) (j 1) := by
  refine (dats m 0 c).arrAt_eq_of_covers 3 _ (by decide +kernel) fun t hf y => ?_
  blk_simp
  rw [after0_3]
  obtain ⟨f, d, hy⟩ : ∃ (f d : Fin 1024), y = ix2 f d := ⟨y 0, y 1, by blk_ext⟩
  have e0 : ((win0_3.blk t).view.emb y 0 : Fin 4096) = blk (ti t) f := by
    rw [hy]; refine Fin.ext ?_; blk_simp [idx t]; simp only [blk, ti]; omega
  have e1 : ((win0_3.blk t).view.emb y 1 : Fin 1024) = d := by
    rw [hy]; refine Fin.ext ?_; blk_simp [idx t]
  refine Eq.trans ?_ (congrArg₂ (fun r d => prod (dx m c) (w m c) r d + du m c r d) e0 e1).symm
  have ht : t.val % 4 = 3 := (flush0_3 t).mp hf
  rw [hy]
  exact (out_last m c t ht f d).trans (congrArg (· + _) (acc_last m c t ht f d))
end
end Cert.Kernel10Ideal.Value

namespace Cert.Reference10Ideal.Value
open Cert.Reference10Ideal Cert.Reference10Ideal.Gen Cert.Reference10Ideal.Read Cert.Tiles
section
variable (x0 : Vec Ideal S4096x4096 .f32) (x1 : Vec Ideal S4096x1024 .f32) (x2 : Vec Ideal S1024x6176 .f32)

/-- The gradient of all the columns: that of the columns that the convolution reads, and zero at the others. -/
theorem v3_in (r k : Fin 4096) : val_main_v3 x0 (ix2 r (xcol k)) = x0 (ix2 r k) := by
  unfold val_main_v3
  refine pad_apply_of_inside _ _ _ _ _ _ _ _ (ix2 r k) fun a => ?_
  fin_cases a
  · show r.val = 0 + r.val * 1
    omega
  · show 2048 + k.val = 2048 + k.val * 1
    omega
theorem v3_out (r : Fin 4096) (k : Fin 6176) (h : k.val < 2048 ∨ 6144 ≤ k.val) : val_main_v3 x0 (ix2 r k) = 0 := by
  unfold val_main_v3
  refine (pad_apply_of_not_inside _ _ _ _ _ _ _ _ 1 fun hc => ?_).trans (by pointwise [val_main_cst_0])
  obtain ⟨h1, _, h2⟩ := hc
  have h1 : 2048 ≤ k.val := h1
  have h2 : (k.val - 2048) / 1 < 4096 := h2
  omega

/-- A sum over all the columns whose terms are zero at the others. -/
theorem sum_cols (f : Fin 6176 → EReal) (h : ∀ k : Fin 6176, k.val < 2048 ∨ 6144 ≤ k.val → f k = 0) : ∑ k, f k = ∑ k, f (xcol k) := by
  refine sum_part xcol (fun a b e => Fin.ext (by have := congrArg Fin.val e; simp only [xcol] at this; omega)) f fun k hk => h k ?_
  by_contra hc
  refine hk ⟨k.val - 2048, by omega⟩ (Fin.ext ?_)
  simp only [xcol]; omega

/-- The reference's result. -/
theorem out5 : val_main_v5 x0 x1 x2 = fun j : S4096x1024.Idx =>
    prod (fun k r => x0 (ix2 r k)) (fun k d => x2 (ix2 d (xcol k))) (j 0) (j 1) + x1 (ix2 (j 0) (j 1)) := by
  funext j
  obtain ⟨r, d, rfl⟩ : ∃ (r : Fin 4096) (d : Fin 1024), j = ix2 r d := ⟨j 0, j 1, eq_ix2 j⟩
  pointwise [val_main_v5, val_main_v4]
  rw [sum_cols _ fun k h => by rw [v3_out x0 r k h, zero_mul]]
  simp only [v3_in]
  rfl
end
end Cert.Reference10Ideal.Value
-- ==== Proof.Products.lean ====
module

public import proofs.«01_k».proof.Defs
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.OutDw
public import proofs.«01_k».proof.Proof.OutDx
public import proofs.«01_k».proof.Proof.InDw
public import proofs.«01_k».proof.Proof.InDx
public import proofs.«01_k».proof.Proof.XbcDw
public import proofs.«01_k».proof.Proof.XbcDx
public import Idealize.ShloMosaic.Lib.Quiescent

/-! The claims about the gradients of the mixers' products: the programs run, and the kernel's result is the reference's at
    any arguments. -/

@[expose] public section
set_option maxRecDepth 16384
noncomputable section
open Idealize.ShloMosaic Idealize.ShloMosaic.TcCoe Idealize.SL.Sem
namespace Cert.Proof.Products
open Cert.Tiles

/-! A mixer's output weights. -/
theorem frame_kernel5 : Cert.quiescent_Kernel5 (hKernel5 := Cert.Kernel5.Gen.facts) := fun m ρ _ => Cert.Kernel5.Gen.frame m ρ
theorem frame_ideal5 : Cert.quiescent_Kernel5Ideal (hKernel5Ideal := Cert.Kernel5Ideal.Gen.facts) := fun m ρ _ => Cert.Kernel5Ideal.Gen.frame m ρ
theorem frame_reference5 : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩) (Cert.Reference5Ideal.Value.run (F := Ideal) m ρ)
theorem preserves5 : Cert.preserves_Kernel5_Kernel5Ideal := trivial
theorem algebraic5 : Cert.algebraic_Kernel5Ideal_Reference5Ideal (hKernel5Ideal := Cert.Kernel5Ideal.Gen.facts)
    (hReference5Ideal := Cert.Reference5Ideal.Gen.facts) := by
  intro m ρ m' ρ' _ hagree
  refine ⟨fun c => fun j : Cert.Kernel5Ideal.S2048x1024.Idx => prod (Cert.Kernel5Ideal.Value.o m c) (Cert.Kernel5Ideal.Value.dh m c) (j 0) (j 1), ?_, ?_⟩
  · exact (θ_run Cert.Kernel5Ideal.defs _ _).mono (fun r h c => ⟨(h c).1.trans (Cert.Kernel5Ideal.Value.arr2 m c), (h c).2⟩) (Cert.Kernel5Ideal.Value.run_blocks (F := Ideal) m ρ)
  · refine (θ_run Cert.Reference5Ideal.defs _ _).mono (fun r h c => ?_) (Cert.Reference5Ideal.Value.run (F := Ideal) m' ρ')
    obtain ⟨e, hargs⟩ := h c
    obtain ⟨a0, a1⟩ := hagree c
    refine ⟨e.trans ((Cert.Reference5Ideal.Read.val_main_v4_eq _ _ ).trans ((Cert.Reference5Ideal.Value.out4 _ _ ).trans ?_)), hargs⟩
    rw [a0, a1]
    rfl

/-! A mixer's output. -/
theorem frame_kernel6 : Cert.quiescent_Kernel6 (hKernel6 := Cert.Kernel6.Gen.facts) := fun m ρ _ => Cert.Kernel6.Gen.frame m ρ
theorem frame_ideal6 : Cert.quiescent_Kernel6Ideal (hKernel6Ideal := Cert.Kernel6Ideal.Gen.facts) := fun m ρ _ => Cert.Kernel6Ideal.Gen.frame m ρ
theorem frame_reference6 : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩) (Cert.Reference6Ideal.Value.run (F := Ideal) m ρ)
theorem preserves6 : Cert.preserves_Kernel6_Kernel6Ideal := trivial
theorem algebraic6 : Cert.algebraic_Kernel6Ideal_Reference6Ideal (hKernel6Ideal := Cert.Kernel6Ideal.Gen.facts)
    (hReference6Ideal := Cert.Reference6Ideal.Gen.facts) := by
  intro m ρ m' ρ' _ hagree
  refine ⟨fun c => fun j : Cert.Kernel6Ideal.S4096x2048.Idx => (∑ k, Cert.Kernel6Ideal.Value.dh m c (j 0) k * Cert.Kernel6Ideal.Value.w m c (j 1) k : EReal), ?_, ?_⟩
  · exact (θ_run Cert.Kernel6Ideal.defs _ _).mono (fun r h c => ⟨(h c).1.trans (Cert.Kernel6Ideal.Value.arr2 m c), (h c).2⟩) (Cert.Kernel6Ideal.Value.run_blocks (F := Ideal) m ρ)
  · refine (θ_run Cert.Reference6Ideal.defs _ _).mono (fun r h c => ?_) (Cert.Reference6Ideal.Value.run (F := Ideal) m' ρ')
    obtain ⟨e, hargs⟩ := h c
    obtain ⟨a0, a1⟩ := hagree c
    refine ⟨e.trans ((Cert.Reference6Ideal.Read.val_main_v2_eq _ _ ).trans ((Cert.Reference6Ideal.Value.out2 _ _ ).trans ?_)), hargs⟩
    rw [a0, a1]
    rfl

/-! The gated mixer's input weights. -/
theorem frame_kernel7 : Cert.quiescent_Kernel7 (hKernel7 := Cert.Kernel7.Gen.facts) := fun m ρ _ => Cert.Kernel7.Gen.frame m ρ
theorem frame_ideal7 : Cert.quiescent_Kernel7Ideal (hKernel7Ideal := Cert.Kernel7Ideal.Gen.facts) := fun m ρ _ => Cert.Kernel7Ideal.Gen.frame m ρ
theorem frame_reference7 : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩) (Cert.Reference7Ideal.Value.run (F := Ideal) m ρ)
theorem preserves7 : Cert.preserves_Kernel7_Kernel7Ideal := trivial
theorem algebraic7 : Cert.algebraic_Kernel7Ideal_Reference7Ideal (hKernel7Ideal := Cert.Kernel7Ideal.Gen.facts)
    (hReference7Ideal := Cert.Reference7Ideal.Gen.facts) := by
  intro m ρ m' ρ' _ hagree
  refine ⟨fun c => fun j : Cert.Kernel7Ideal.S1024x4096.Idx => prod (Cert.Kernel7Ideal.Value.u m c) (Cert.Kernel7Ideal.Value.dp m c) (j 0) (j 1), ?_, ?_⟩
  · exact (θ_run Cert.Kernel7Ideal.defs _ _).mono (fun r h c => ⟨(h c).1.trans (Cert.Kernel7Ideal.Value.arr2 m c), (h c).2⟩) (Cert.Kernel7Ideal.Value.run_blocks (F := Ideal) m ρ)
  · refine (θ_run Cert.Reference7Ideal.defs _ _).mono (fun r h c => ?_) (Cert.Reference7Ideal.Value.run (F := Ideal) m' ρ')
    obtain ⟨e, hargs⟩ := h c
    obtain ⟨a0, a1⟩ := hagree c
    refine ⟨e.trans ((Cert.Reference7Ideal.Read.val_main_v4_eq _ _ ).trans ((Cert.Reference7Ideal.Value.out4 _ _ ).trans ?_)), hargs⟩
    rw [a0, a1]
    rfl

/-! The gated mixer's normalised rows. -/
theorem frame_kernel8 : Cert.quiescent_Kernel8 (hKernel8 := Cert.Kernel8.Gen.facts) := fun m ρ _ => Cert.Kernel8.Gen.frame m ρ
theorem frame_ideal8 : Cert.quiescent_Kernel8Ideal (hKernel8Ideal := Cert.Kernel8Ideal.Gen.facts) := fun m ρ _ => Cert.Kernel8Ideal.Gen.frame m ρ
theorem frame_reference8 : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩) (Cert.Reference8Ideal.Value.run (F := Ideal) m ρ)
theorem preserves8 : Cert.preserves_Kernel8_Kernel8Ideal := trivial
theorem algebraic8 : Cert.algebraic_Kernel8Ideal_Reference8Ideal (hKernel8Ideal := Cert.Kernel8Ideal.Gen.facts)
    (hReference8Ideal := Cert.Reference8Ideal.Gen.facts) := by
  intro m ρ m' ρ' _ hagree
  refine ⟨fun c => fun j : Cert.Kernel8Ideal.S4096x1024.Idx => prod (Cert.Kernel8Ideal.Value.dp m c) (Cert.Kernel8Ideal.Value.w m c) (j 0) (j 1), ?_, ?_⟩
  · exact (θ_run Cert.Kernel8Ideal.defs _ _).mono (fun r h c => ⟨(h c).1.trans (Cert.Kernel8Ideal.Value.arr2 m c), (h c).2⟩) (Cert.Kernel8Ideal.Value.run_blocks (F := Ideal) m ρ)
  · refine (θ_run Cert.Reference8Ideal.defs _ _).mono (fun r h c => ?_) (Cert.Reference8Ideal.Value.run (F := Ideal) m' ρ')
    obtain ⟨e, hargs⟩ := h c
    obtain ⟨a0, a1⟩ := hagree c
    refine ⟨e.trans ((Cert.Reference8Ideal.Read.val_main_v2_eq _ _ ).trans ((Cert.Reference8Ideal.Value.out2 _ _ ).trans ?_)), hargs⟩
    rw [a0, a1]
    rfl

/-! The state-space layer's input weights. -/
theorem frame_kernel9 : Cert.quiescent_Kernel9 (hKernel9 := Cert.Kernel9.Gen.facts) := fun m ρ _ => Cert.Kernel9.Gen.frame m ρ
theorem frame_ideal9 : Cert.quiescent_Kernel9Ideal (hKernel9Ideal := Cert.Kernel9Ideal.Gen.facts) := fun m ρ _ => Cert.Kernel9Ideal.Gen.frame m ρ
theorem frame_reference9 : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩) (Cert.Reference9Ideal.Value.run (F := Ideal) m ρ)
theorem preserves9 : Cert.preserves_Kernel9_Kernel9Ideal := trivial
theorem algebraic9 : Cert.algebraic_Kernel9Ideal_Reference9Ideal (hKernel9Ideal := Cert.Kernel9Ideal.Gen.facts)
    (hReference9Ideal := Cert.Reference9Ideal.Gen.facts) := by
  intro m ρ m' ρ' _ hagree
  refine ⟨fun c => fun j : Cert.Kernel9Ideal.S4096x1024.Idx => prod (Cert.Kernel9Ideal.Value.dx m c) (Cert.Kernel9Ideal.Value.u m c) (j 0) (j 1), ?_, ?_⟩
  · exact (θ_run Cert.Kernel9Ideal.defs _ _).mono (fun r h c => ⟨(h c).1.trans (Cert.Kernel9Ideal.Value.arr2 m c), (h c).2⟩) (Cert.Kernel9Ideal.Value.run_blocks (F := Ideal) m ρ)
  · refine (θ_run Cert.Reference9Ideal.defs _ _).mono (fun r h c => ?_) (Cert.Reference9Ideal.Value.run (F := Ideal) m' ρ')
    obtain ⟨e, hargs⟩ := h c
    obtain ⟨a0, a1⟩ := hagree c
    refine ⟨e.trans ((Cert.Reference9Ideal.Read.val_main_v5_eq _ _ ).trans ((Cert.Reference9Ideal.Value.out5 _ _ ).trans ?_)), hargs⟩
    rw [a0, a1]
    rfl

/-! The state-space layer's normalised rows. -/
theorem frame_kernel10 : Cert.quiescent_Kernel10 (hKernel10 := Cert.Kernel10.Gen.facts) := fun m ρ _ => Cert.Kernel10.Gen.frame m ρ
theorem frame_ideal10 : Cert.quiescent_Kernel10Ideal (hKernel10Ideal := Cert.Kernel10Ideal.Gen.facts) := fun m ρ _ => Cert.Kernel10Ideal.Gen.frame m ρ
theorem frame_reference10 : Cert.quiescent_Reference10Ideal (hReference10Ideal := Cert.Reference10Ideal.Gen.facts) := fun m ρ _ =>
  (θ_run Cert.Reference10Ideal.defs _ _).mono (fun r h => ⟨fun c => (h c).2, sem_eq_zero_of_no_sems (by decide) r.2⟩) (Cert.Reference10Ideal.Value.run (F := Ideal) m ρ)
theorem preserves10 : Cert.preserves_Kernel10_Kernel10Ideal := trivial
theorem algebraic10 : Cert.algebraic_Kernel10Ideal_Reference10Ideal (hKernel10Ideal := Cert.Kernel10Ideal.Gen.facts)
    (hReference10Ideal := Cert.Reference10Ideal.Gen.facts) := by
  intro m ρ m' ρ' _ hagree
  refine ⟨fun c => fun j : Cert.Kernel10Ideal.S4096x1024.Idx => prod (Cert.Kernel10Ideal.Value.dx m c) (Cert.Kernel10Ideal.Value.w m c) (j 0) (j 1) + Cert.Kernel10Ideal.Value.du m c (j 0) (j 1), ?_, ?_⟩
  · exact (θ_run Cert.Kernel10Ideal.defs _ _).mono (fun r h c => ⟨(h c).1.trans (Cert.Kernel10Ideal.Value.arr3 m c), (h c).2⟩) (Cert.Kernel10Ideal.Value.run_blocks (F := Ideal) m ρ)
  · refine (θ_run Cert.Reference10Ideal.defs _ _).mono (fun r h c => ?_) (Cert.Reference10Ideal.Value.run (F := Ideal) m' ρ')
    obtain ⟨e, hargs⟩ := h c
    obtain ⟨a0, a1, a2⟩ := hagree c
    refine ⟨e.trans ((Cert.Reference10Ideal.Read.val_main_v5_eq _ _ _ ).trans ((Cert.Reference10Ideal.Value.out5 _ _ _ ).trans ?_)), hargs⟩
    rw [a0, a1, a2]
    rfl

end Cert.Proof.Products
-- ==== Proof.EmbGateDw.lean ====
module

public import proofs.«01_k».proof.Proof.Gen.Kernel12Ideal.Value
public import proofs.«01_k».proof.Proof.Gen.Reference12Ideal.Read
public import proofs.«01_k».proof.Proof.Tiles
public import Idealize.ShloMosaic.Lib.Pipeline.ValueKit
public import Idealize.ShloMosaic.Lib.Pipeline.ReadBack
public import Idealize.ShloMosaic.Lib.Pointwise
public import Idealize.ShloMosaic.Lib.StableHlo.ReadAt

/-! The gradient of the layer embedding's gate weights: the normalised rows, transposed, times the gradient of the gate's
    argument. -/

@[expose] public section
set_option maxRecDepth 16384
noncomputable section
open Idealize.ShloMosaic Idealize.ShloMosaic.TcCoe Idealize.SL.Sem

namespace Cert.Kernel12Ideal.Value
open Cert.Kernel12Ideal Cert.Kernel12Ideal.Gen Cert.Tiles
section
variable (P : Vec Ideal S1024x1024 .f32) (X : Vec Ideal S1024x1024 .bf16) (Y : Vec Ideal S1024x1024 .bf16) (f d : Fin 1024)

/-- What the body stores: zero, the accumulator with a block's product added, and the accumulator. -/
theorem pay1_at : k0_pay1 (F := Ideal) (ix2 f d) = 0 := by
  pointwise [k0_pay1]
theorem pay2_at : k0_pay2 P X Y (ix2 f d) = P (ix2 f d) + ∑ r, X (ix2 r f) * Y (ix2 r d) := by
  pointwise [k0_pay2]
theorem pay3_at : k0_pay3 P (ix2 f d) = P (ix2 f d) := by
  pointwise [k0_pay3]
end
section
variable (m : (ℓ : Loc nD τ sig) → Buf (Elt Ideal) ℓ) (c : Dev nD)

/-- The normalised rows and the gradient of the gate's argument, as a memory holds them. -/
def q (r : Fin 4096) (f : Fin 1024) : EReal := m ((c : Thread nD τ).loc main_arg1) (ix2 r f)
def dz (r : Fin 4096) (d : Fin 1024) : EReal := m ((c : Thread nD τ).loc main_arg0) (ix2 r d)

theorem V_q (r : Fin 4096) (f : Fin 1024) : V m c main_v0 (ix2 r f) = q m c r f := by
  unfold V
  after_reads_at
  rfl
theorem V_dz (r : Fin 4096) (d : Fin 1024) : V m c main_v1 (ix2 r d) = dz m c r d := by
  unfold V
  after_reads_at
  rfl

variable (t : Fin cfg0.N)
abbrev bX : Vec Ideal S1024x1024 .bf16 := iblk m c 0 t
abbrev bY : Vec Ideal S1024x1024 .bf16 := iblk m c 1 t
/-- The block of rows of a grid point. -/
def tb : Fin 4 := ⟨t.val % 4, by omega⟩

theorem idx : ∀ t : Fin cfg0.N, win0_0.index t = ![t.val % 4, 0] ∧ win0_1.index t = ![t.val % 4, 0] ∧ win0_2.index t = ![0, 0] :=
  (by decide +kernel : ∀ t : Fin grid0.N, _)

theorem bX_at (r f : Fin 1024) : bX m c t (ix2 r f) = q m c (blk (tb t) r) f := by
  refine Eq.trans ?_ (V_q m c (blk (tb t) r) f)
  unfold blk tb
  blk_point [iblk, idx t]
theorem bY_at (r d : Fin 1024) : bY m c t (ix2 r d) = dz m c (blk (tb t) r) d := by
  refine Eq.trans ?_ (V_dz m c (blk (tb t) r) d)
  unfold blk tb
  blk_point [iblk, idx t]

/-- The accumulator after a point: the first block of rows starts it, a later one adds to it. -/
theorem acc_first (h : t.val % 4 = 0) (f d : Fin 1024) :
    (outsAt0 m c t.val t.isLt).2 (ix2 f d) = (0 : EReal) + part (q m c) (dz m c) (tb t) f d := by
  rw [outsAt0_A m c t h (by omega)]
  frame_open
  simp (disch := decide) only [↓ View.readCov_skip, ↓ View.readCov_cons_toLoadRect, ↓ View.readCov_fill]
  frame_out
  refine (pay2_at _ (bX m c t) (bY m c t) f d).trans ?_
  unfold part
  simp only [bX_at, bY_at, pay1_at]
theorem acc_later (h : ¬t.val % 4 = 0) (f d : Fin 1024) : (outsAt0 m c t.val t.isLt).2 (ix2 f d)
    = (outsAt0 m c (t.val - 1) (Nat.lt_of_le_of_lt (Nat.sub_le _ _) t.isLt)).2 (ix2 f d) + part (q m c) (dz m c) (tb t) f d := by
  unfold part
  simp only [← bX_at, ← bY_at]
  by_cases h1 : t.val % 4 = 3
  on_goal 1 => rw [outsAt0_C m c t h h1]
  on_goal 2 => rw [outsAt0_B m c t h h1]
  all_goals
    frame_open
    try simp (disch := decide) only [↓ View.readCov_skip, ↓ View.readCov_cons_toLoadRect, ↓ View.readCov_fill]
    frame_out
    refine (pay2_at _ (bX m c t) (bY m c t) f d).trans (congrArg (· + _) ?_)
    exact congrFun ((Memref.isWhole_whole cc0_scratch0).read_unread (Val := Elt Ideal) _) _

/-- The last block of rows: the point stores the accumulator, which then holds the whole product. -/
theorem out_last (h : t.val % 4 = 3) (f d : Fin 1024) :
    (outsAt0 m c t.val t.isLt).1 (ix2 f d) = (outsAt0 m c t.val t.isLt).2 (ix2 f d) := by
  rw [outsAt0_C m c t (by omega) h]
  frame_open
  simp (disch := decide) only [↓ View.readCov_skip, ↓ View.readCov_cons_toLoadRect, ↓ View.readCov_fill]
  frame_out
  exact pay3_at _ f d
theorem acc_last (h : t.val % 4 = 3) (f d : Fin 1024) :
    (outsAt0 m c t.val t.isLt).2 (ix2 f d) = prod (q m c) (dz m c) f d := by
  rw [Pipeline.eq_sum_fin_of_reset_step_apply_of_flush (fun n h i => (outsAt0 m c n h).2 i) 4
    (fun _ => (0 : EReal)) (fun t i => part (q m c) (dz m c) (tb t) (i 0) (i 1))
    (fun t h0 i => by idx_vars i; exact acc_first m c t h0 i0 i1) (fun t h0 i => by idx_vars i; exact acc_later m c t h0 i0 i1) t h (ix2 f d), zero_add, prod_eq]
  refine Finset.sum_congr rfl fun s _ => ?_
  refine congrArg (fun k => part (q m c) (dz m c) k f d) (Fin.ext ?_)
  simp only [tb]; omega

/-- The result array. -/
theorem arr2 : (dats m 0 c).arrAt 2 cfg0.N = fun j : S1024x1024.Idx => prod (q m c) (dz m c) (j 0) (j 1) := by
  refine (dats m 0 c).arrAt_eq_of_covers 2 _ (by decide +kernel) fun t hf y => ?_
  blk_simp
  rw [after0_2]
  obtain ⟨f, d, hy⟩ : ∃ (f d : Fin 1024), y = ix2 f d := ⟨y 0, y 1, by blk_ext⟩
  have e0 : ((win0_2.blk t).view.emb y 0 : Fin 1024) = f := by
    rw [hy]; refine Fin.ext ?_; blk_simp [idx t]
  have e1 : ((win0_2.blk t).view.emb y 1 : Fin 1024) = d := by
    rw [hy]; refine Fin.ext ?_; blk_simp [idx t]
  refine Eq.trans ?_ (congrArg₂ (prod (q m c) (dz m c)) e0 e1).symm
  have ht : t.val % 4 = 3 := (flush0_2 t).mp hf
  rw [hy]
  exact (out_last m c t ht f d).trans (acc_last m c t ht f d)
end
end Cert.Kernel12Ideal.Value

namespace Cert.Reference12Ideal.Value
open Cert.Reference12Ideal Cert.Reference12Ideal.Gen Cert.Reference12Ideal.Read Cert.Tiles

/-- The reference's result. -/
theorem out4 (x0 : Vec Ideal S4096x1024 .f32) (x1 : Vec Ideal S4096x1024 .f32) :
    val_main_v4 x0 x1 = fun j : S1024x1024.Idx => prod (fun r f => x1 (ix2 r f)) (fun r d => x0 (ix2 r d)) (j 0) (j 1) := by
  funext j
  obtain ⟨f, d, rfl⟩ : ∃ (f : Fin 1024) (d : Fin 1024), j = ix2 f d := ⟨j 0, j 1, eq_ix2 j⟩
  pointwise [val_main_v4, val_main_v3, val_main_v2]
  exact Finset.sum_congr rfl fun r _ => mul_comm _ _
end Cert.Reference12Ideal.Value
-- ==== Proof.EmbDw.lean ====
module

public import proofs.«01_k».proof.Proof.Gen.Kernel13Ideal.Value
public import proofs.«01_k».proof.Proof.Gen.Reference13Ideal.Read
public import proofs.«01_k».proof.Proof.Tiles
public import Idealize.ShloMosaic.Lib.Pipeline.ValueKit
public import Idealize.ShloMosaic.Lib.Pipeline.ReadBack
public import Idealize.ShloMosaic.Lib.Pointwise
public import Idealize.ShloMosaic.Lib.StableHlo.ReadAt

/-! The gradient of the layer embedding's weights: the embeddings, transposed, times the gradient of their product. -/

@[expose] public section
set_option maxRecDepth 16384
noncomputable section
open Idealize.ShloMosaic Idealize.ShloMosaic.TcCoe Idealize.SL.Sem

namespace Cert.Kernel13Ideal.Value
open Cert.Kernel13Ideal Cert.Kernel13Ideal.Gen Cert.Tiles
section
variable (P : Vec Ideal S256x1024 .f32) (X : Vec Ideal S1024x256 .f32) (Y : Vec Ideal S1024x1024 .bf16) (f : Fin 256) (d : Fin 1024)

/-- What the body stores: zero, the accumulator with a block's product added, and the accumulator. -/
theorem pay1_at : k0_pay1 (F := Ideal) (ix2 f d) = 0 := by
  pointwise [k0_pay1]
theorem pay2_at : k0_pay2 P X Y (ix2 f d) = P (ix2 f d) + ∑ r, X (ix2 r f) * Y (ix2 r d) := by
  pointwise [k0_pay2]
theorem pay3_at : k0_pay3 P (ix2 f d) = P (ix2 f d) := by
  pointwise [k0_pay3]
end
section
variable (m : (ℓ : Loc nD τ sig) → Buf (Elt Ideal) ℓ) (c : Dev nD)

/-- The embeddings and the gradient of their product, as a memory holds them. -/
def p (r : Fin 4096) (f : Fin 256) : EReal := m ((c : Thread nD τ).loc main_arg1) (ix2 r f)
def de (r : Fin 4096) (d : Fin 1024) : EReal := m ((c : Thread nD τ).loc main_arg0) (ix2 r d)

theorem V_p (r : Fin 4096) (f : Fin 256) : V m c main_arg1 (ix2 r f) = p m c r f := by
  rw [V_main_arg1]; rfl
theorem V_de (r : Fin 4096) (d : Fin 1024) : V m c main_v0 (ix2 r d) = de m c r d := by
  unfold V
  after_reads_at
  rfl

variable (t : Fin cfg0.N)
abbrev bX : Vec Ideal S1024x256 .f32 := iblk m c 0 t
abbrev bY : Vec Ideal S1024x1024 .bf16 := iblk m c 1 t
/-- The block of rows of a grid point. -/
def tb : Fin 4 := ⟨t.val % 4, by omega⟩

theorem idx : ∀ t : Fin cfg0.N, win0_0.index t = ![t.val % 4, 0] ∧ win0_1.index t = ![t.val % 4, 0] ∧ win0_2.index t = ![0, 0] :=
  (by decide +kernel : ∀ t : Fin grid0.N, _)

theorem bX_at (r : Fin 1024) (f : Fin 256) : bX m c t (ix2 r f) = p m c (blk (tb t) r) f := by
  refine Eq.trans ?_ (V_p m c (blk (tb t) r) f)
  unfold blk tb
  blk_point [iblk, idx t]
theorem bY_at (r d : Fin 1024) : bY m c t (ix2 r d) = de m c (blk (tb t) r) d := by
  refine Eq.trans ?_ (V_de m c (blk (tb t) r) d)
  unfold blk tb
  blk_point [iblk, idx t]

/-- The accumulator after a point: the first block of rows starts it, a later one adds to it. -/
theorem acc_first (h : t.val % 4 = 0) (f : Fin 256) (d : Fin 1024) :
    (outsAt0 m c t.val t.isLt).2 (ix2 f d) = (0 : EReal) + part (p m c) (de m c) (tb t) f d := by
  rw [outsAt0_A m c t h (by omega)]
  frame_open
  simp (disch := decide) only [↓ View.readCov_skip, ↓ View.readCov_cons_toLoadRect, ↓ View.readCov_fill]
  frame_out
  refine (pay2_at _ (bX m c t) (bY m c t) f d).trans ?_
  unfold part
  simp only [bX_at, bY_at, pay1_at]
theorem acc_later (h : ¬t.val % 4 = 0) (f : Fin 256) (d : Fin 1024) : (outsAt0 m c t.val t.isLt).2 (ix2 f d)
    = (outsAt0 m c (t.val - 1) (Nat.lt_of_le_of_lt (Nat.sub_le _ _) t.isLt)).2 (ix2 f d) + part (p m c) (de m c) (tb t) f d := by
  unfold part
  simp only [← bX_at, ← bY_at]
  by_cases h1 : t.val % 4 = 3
  on_goal 1 => rw [outsAt0_C m c t h h1]
  on_goal 2 => rw [outsAt0_B m c t h h1]
  all_goals
    frame_open
    try simp (disch := decide) only [↓ View.readCov_skip, ↓ View.readCov_cons_toLoadRect, ↓ View.readCov_fill]
    frame_out
    refine (pay2_at _ (bX m c t) (bY m c t) f d).trans (congrArg (· + _) ?_)
    exact congrFun ((Memref.isWhole_whole cc0_scratch0).read_unread (Val := Elt Ideal) _) _

/-- The last block of rows: the point stores the accumulator, which then holds the whole product. -/
theorem out_last (h : t.val % 4 = 3) (f : Fin 256) (d : Fin 1024) :
    (outsAt0 m c t.val t.isLt).1 (ix2 f d) = (outsAt0 m c t.val t.isLt).2 (ix2 f d) := by
  rw [outsAt0_C m c t (by omega) h]
  frame_open
  simp (disch := decide) only [↓ View.readCov_skip, ↓ View.readCov_cons_toLoadRect, ↓ View.readCov_fill]
  frame_out
  exact pay3_at _ f d
theorem acc_last (h : t.val % 4 = 3) (f : Fin 256) (d : Fin 1024) :
    (outsAt0 m c t.val t.isLt).2 (ix2 f d) = prod (p m c) (de m c) f d := by
  rw [Pipeline.eq_sum_fin_of_reset_step_apply_of_flush (fun n h i => (outsAt0 m c n h).2 i) 4
    (fun _ => (0 : EReal)) (fun t i => part (p m c) (de m c) (tb t) (i 0) (i 1))
    (fun t h0 i => by idx_vars i; exact acc_first m c t h0 i0 i1) (fun t h0 i => by idx_vars i; exact acc_later m c t h0 i0 i1) t h (ix2 f d), zero_add, prod_eq]
  refine Finset.sum_congr rfl fun s _ => ?_
  refine congrArg (fun k => part (p m c) (de m c) k f d) (Fin.ext ?_)
  simp only [tb]; omega

/-- The result array. -/
theorem arr2 : (dats m 0 c).arrAt 2 cfg0.N = fun j : S256x1024.Idx => prod (p m c) (de m c) (j 0) (j 1) := by
  refine (dats m 0 c).arrAt_eq_of_covers 2 _ (by decide +kernel) fun t hf y => ?_
  blk_simp
  rw [after0_2]
  obtain ⟨f, d, hy⟩ : ∃ (f : Fin 256) (d : Fin 1024), y = ix2 f d := ⟨y 0, y 1, by blk_ext⟩
  have e0 : ((win0_2.blk t).view.emb y 0 : Fin 256) = f := by
    rw [hy]; refine Fin.ext ?_; blk_simp [idx t]
  have e1 : ((win0_2.blk t).view.emb y 1 : Fin 1024) = d := by
    rw [hy]; refine Fin.ext ?_; blk_simp [idx t]
  refine Eq.trans ?_ (congrArg₂ (prod (p m c) (de m c)) e0 e1).symm
  have ht : t.val % 4 = 3 := (flush0_2 t).mp hf
  rw [hy]
  exact (out_last m c t ht f d).trans (acc_last m c t ht f d)
end
end Cert.Kernel13Ideal.Value

namespace Cert.Reference13Ideal.Value
open Cert.Reference13Ideal Cert.Reference13Ideal.Gen Cert.Reference13Ideal.Read Cert.Tiles

/-- The reference's result. -/
theorem out4 (x0 : Vec Ideal S4096x1024 .f32) (x1 : Vec Ideal S4096x256 .f32) :
    val_main_v4 x0 x1 = fun j : S256x1024.Idx => prod (fun r f => x1 (ix2 r f)) (fun r d => x0 (ix2 r d)) (j 0) (j 1) := by
  funext j
  obtain ⟨f, d, rfl⟩ : ∃ (f : Fin 256) (d : Fin 1024), j = ix2 f d := ⟨j 0, j 1, eq_ix2 j⟩
  pointwise [val_main_v4, val_main_v3, val_main_v2]
  exact Finset.sum_congr rfl fun r _ => mul_comm _ _
end Cert.Reference13Ideal.Value
-- ==== Proof.ZDw.lean ====
module

public import proofs.«01_k».proof.Proof.Gen.Kernel14Ideal.Value
public import proofs.«01_k».proof.Proof.Gen.Reference14Ideal.Read
public import proofs.«01_k».proof.Proof.Tiles
public import Idealize.ShloMosaic.Lib.Pipeline.ValueKit
public import Idealize.ShloMosaic.Lib.Pipeline.ReadBack
public import Idealize.ShloMosaic.Lib.Pointwise
public import Idealize.ShloMosaic.Lib.StableHlo.ReadAt

/-! The gradient of the state-space layer's input weights, the columns of the gate: the gradient of the
    product's result, transposed, times the normalised rows. -/

@[expose] public section
set_option maxRecDepth 16384
noncomputable section
open Idealize.ShloMosaic Idealize.ShloMosaic.TcCoe Idealize.SL.Sem

namespace Cert.Kernel14Ideal.Value
open Cert.Kernel14Ideal Cert.Kernel14Ideal.Gen Cert.Tiles
section
variable (P : Vec Ideal S1024x1024 .f32) (X : Vec Ideal S1024x1024 .f32) (Y : Vec Ideal S1024x1024 .bf16) (f d : Fin 1024)

/-- What the body stores: zero, the accumulator with a block's product added, and the accumulator. -/
theorem pay1_at : k0_pay1 (F := Ideal) (ix2 f d) = 0 := by
  pointwise [k0_pay1]
theorem pay2_at : k0_pay2 P X Y (ix2 f d) = P (ix2 f d) + ∑ r, X (ix2 r f) * Y (ix2 r d) := by
  pointwise [k0_pay2]
theorem pay3_at : k0_pay3 P (ix2 f d) = P (ix2 f d) := by
  pointwise [k0_pay3]
end
section
variable (m : (ℓ : Loc nD τ sig) → Buf (Elt Ideal) ℓ) (c : Dev nD)

/-- The gradient of the product's result and the normalised rows, as a memory holds them. -/
def dz (r : Fin 4096) (f : Fin 2048) : EReal := m ((c : Thread nD τ).loc main_arg0) (ix2 r f)
def u (r : Fin 4096) (d : Fin 1024) : EReal := m ((c : Thread nD τ).loc main_arg1) (ix2 r d)

theorem V_dz (r : Fin 4096) (f : Fin 2048) : V m c main_arg0 (ix2 r f) = dz m c r f := by
  rw [V_main_arg0]; rfl
theorem V_u (r : Fin 4096) (d : Fin 1024) : V m c main_v0 (ix2 r d) = u m c r d := by
  unfold V
  after_reads_at
  rfl

variable (t : Fin cfg0.N)
abbrev bX : Vec Ideal S1024x1024 .f32 := iblk m c 0 t
abbrev bY : Vec Ideal S1024x1024 .bf16 := iblk m c 1 t
/-- The block of columns and the block of rows of a grid point. -/
def ti : Fin 2 := ⟨t.val / 4, by have := t.isLt; have : cfg0.N = 8 := N_0; omega⟩
def tb : Fin 4 := ⟨t.val % 4, by omega⟩

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

theorem bX_at (r f : Fin 1024) : bX m c t (ix2 r f) = dz m c (blk (tb t) r) (blk2 (ti t) f) := by
  refine Eq.trans ?_ (V_dz m c (blk (tb t) r) (blk2 (ti t) f))
  unfold blk blk2 ti tb
  blk_point [iblk, idx t]
theorem bY_at (r d : Fin 1024) : bY m c t (ix2 r d) = u m c (blk (tb t) r) d := by
  refine Eq.trans ?_ (V_u m c (blk (tb t) r) d)
  unfold blk tb
  blk_point [iblk, idx t]

/-- The accumulator after a point: the first block of rows starts it, a later one adds to it. -/
theorem acc_first (h : t.val % 4 = 0) (f d : Fin 1024) :
    (outsAt0 m c t.val t.isLt).2 (ix2 f d) = (0 : EReal) + part (dz m c) (u m c) (tb t) (blk2 (ti t) f) d := by
  rw [outsAt0_A m c t h (by omega)]
  frame_open
  simp (disch := decide) only [↓ View.readCov_skip, ↓ View.readCov_cons_toLoadRect, ↓ View.readCov_fill]
  frame_out
  refine (pay2_at _ (bX m c t) (bY m c t) f d).trans ?_
  unfold part
  simp only [bX_at, bY_at, pay1_at]
theorem acc_later (h : ¬t.val % 4 = 0) (f d : Fin 1024) : (outsAt0 m c t.val t.isLt).2 (ix2 f d)
    = (outsAt0 m c (t.val - 1) (Nat.lt_of_le_of_lt (Nat.sub_le _ _) t.isLt)).2 (ix2 f d) + part (dz m c) (u m c) (tb t) (blk2 (ti t) f) d := by
  unfold part
  simp only [← bX_at, ← bY_at]
  by_cases h1 : t.val % 4 = 3
  on_goal 1 => rw [outsAt0_C m c t h h1]
  on_goal 2 => rw [outsAt0_B m c t h h1]
  all_goals
    frame_open
    try simp (disch := decide) only [↓ View.readCov_skip, ↓ View.readCov_cons_toLoadRect, ↓ View.readCov_fill]
    frame_out
    refine (pay2_at _ (bX m c t) (bY m c t) f d).trans (congrArg (· + _) ?_)
    exact congrFun ((Memref.isWhole_whole cc0_scratch0).read_unread (Val := Elt Ideal) _) _

/-- The last block of rows: the point stores the accumulator, which then holds the whole product. -/
theorem out_last (h : t.val % 4 = 3) (f d : Fin 1024) :
    (outsAt0 m c t.val t.isLt).1 (ix2 f d) = (outsAt0 m c t.val t.isLt).2 (ix2 f d) := by
  rw [outsAt0_C m c t (by omega) h]
  frame_open
  simp (disch := decide) only [↓ View.readCov_skip, ↓ View.readCov_cons_toLoadRect, ↓ View.readCov_fill]
  frame_out
  exact pay3_at _ f d
theorem acc_last (h : t.val % 4 = 3) (f d : Fin 1024) :
    (outsAt0 m c t.val t.isLt).2 (ix2 f d) = prod (dz m c) (u m c) (blk2 (ti t) f) d := by
  rw [Pipeline.eq_sum_fin_of_reset_step_apply_of_flush (fun n h i => (outsAt0 m c n h).2 i) 4
    (fun _ => (0 : EReal)) (fun t i => part (dz m c) (u m c) (tb t) (blk2 (ti t) (i 0)) (i 1))
    (fun t h0 i => by idx_vars i; exact acc_first m c t h0 i0 i1) (fun t h0 i => by idx_vars i; exact acc_later m c t h0 i0 i1) t h (ix2 f d), zero_add, prod_eq]
  refine Finset.sum_congr rfl fun s _ => ?_
  refine congrArg₂ (fun k i => part (dz m c) (u m c) k (blk2 i f) d) (Fin.ext ?_) (Fin.ext ?_)
  · simp only [tb]; omega
  · simp only [ti]; omega

/-- The result array. -/
theorem arr2 : (dats m 0 c).arrAt 2 cfg0.N = fun j : S2048x1024.Idx => prod (dz m c) (u m c) (j 0) (j 1) := by
  refine (dats m 0 c).arrAt_eq_of_covers 2 _ (by decide +kernel) fun t hf y => ?_
  blk_simp
  rw [after0_2]
  obtain ⟨f, d, hy⟩ : ∃ (f d : Fin 1024), y = ix2 f d := ⟨y 0, y 1, by blk_ext⟩
  have e0 : ((win0_2.blk t).view.emb y 0 : Fin 2048) = blk2 (ti t) f := by
    rw [hy]; refine Fin.ext ?_; blk_simp [idx t]; simp only [blk2, ti]; omega
  have e1 : ((win0_2.blk t).view.emb y 1 : Fin 1024) = d := by
    rw [hy]; refine Fin.ext ?_; blk_simp [idx t]
  refine Eq.trans ?_ (congrArg₂ (prod (dz m c) (u m c)) e0 e1).symm
  have ht : t.val % 4 = 3 := (flush0_2 t).mp hf
  rw [hy]
  exact (out_last m c t ht f d).trans (acc_last m c t ht f d)
end
end Cert.Kernel14Ideal.Value

namespace Cert.Reference14Ideal.Value
open Cert.Reference14Ideal Cert.Reference14Ideal.Gen Cert.Reference14Ideal.Read Cert.Tiles

/-- The reference's result. -/
theorem out5 (x0 : Vec Ideal S4096x2048 .f32) (x1 : Vec Ideal S4096x1024 .f32) :
    val_main_v5 x0 x1 = fun j : S2048x1024.Idx => prod (fun r f => x0 (ix2 r f)) (fun r d => x1 (ix2 r d)) (j 0) (j 1) := by
  funext j
  obtain ⟨f, d, rfl⟩ : ∃ (f : Fin 2048) (d : Fin 1024), j = ix2 f d := ⟨j 0, j 1, eq_ix2 j⟩
  pointwise [val_main_v5, val_main_v4, val_main_v3, val_main_v2]
  rfl
end Cert.Reference14Ideal.Value
-- ==== Proof.ZDx.lean ====
module

public import proofs.«01_k».proof.Proof.Gen.Kernel15Ideal.Value
public import proofs.«01_k».proof.Proof.Gen.Reference15Ideal.Read
public import proofs.«01_k».proof.Proof.Tiles
public import Idealize.ShloMosaic.Lib.Pipeline.ValueKit
public import Idealize.ShloMosaic.Lib.Pipeline.ReadBack
public import Idealize.ShloMosaic.Lib.KernelVsHost
public import Idealize.ShloMosaic.Lib.Pointwise
public import Idealize.ShloMosaic.Lib.StableHlo.ReadAt

/-! The gradient of the state-space layer's normalised rows, the part that comes through the columns of the gate: the
    gradient of the product's result times those columns of the transposed input weights. The kernel adds the products of
    two blocks of 1024 columns. -/

@[expose] public section
set_option maxRecDepth 16384
noncomputable section
open Idealize.ShloMosaic Idealize.ShloMosaic.TcCoe Idealize.SL.Sem

namespace Cert.Kernel15Ideal.Value
open Cert.Kernel15Ideal Cert.Kernel15Ideal.Gen Cert.Tiles
section
variable (P : Vec Ideal S1024x1024 .f32) (X : Vec Ideal S1024x1024 .f32) (Y : Vec Ideal S1024x1024 .bf16) (f d : Fin 1024)

/-- What the body stores: zero, and the accumulator with a block's product added. -/
theorem pay1_at : k0_pay1 (F := Ideal) (ix2 f d) = 0 := by
  pointwise [k0_pay1]
theorem pay2_at : k0_pay2 P X Y (ix2 f d) = P (ix2 f d) + ∑ r, X (ix2 f r) * Y (ix2 r d) := by
  pointwise [k0_pay2]
end
section
variable (m : (ℓ : Loc nD τ sig) → Buf (Elt Ideal) ℓ) (c : Dev nD)

/-- The gradient of the product's result and the weights, as a memory holds them; the column first. -/
def dx (k : Fin 2048) (r : Fin 4096) : EReal := m ((c : Thread nD τ).loc main_arg0) (ix2 r k)
def w (k : Fin 2048) (d : Fin 1024) : EReal := m ((c : Thread nD τ).loc main_arg1) (ix2 d (zcol k))

theorem V_dx (k : Fin 2048) (r : Fin 4096) : V m c main_arg0 (ix2 r k) = dx m c k r := by
  rw [V_main_arg0]; rfl
theorem V_w (k : Fin 2048) (d : Fin 1024) : V m c main_v1 (ix2 (zcol k) d) = w m c k d := by
  unfold V
  after_reads_at
  rfl

variable (t : Fin cfg0.N)
abbrev bX : Vec Ideal S1024x1024 .f32 := iblk m c 0 t
abbrev bY : Vec Ideal S1024x1024 .bf16 := X0_1 m c t
/-- The block of rows and the block of columns of a grid point. -/
def ti : Fin 4 := ⟨t.val / 2, by have := t.isLt; have : cfg0.N = 8 := N_0; omega⟩
def tb : Fin 2 := ⟨t.val % 2, by omega⟩

theorem idx : ∀ t : Fin cfg0.N, win0_0.index t = ![t.val / 2, t.val % 2] ∧ win0_1.index t = ![t.val % 2, 0] ∧ win0_2.index t = ![t.val / 2, 0] :=
  (by decide +kernel : ∀ t : Fin grid0.N, _)

theorem bX_at (r f : Fin 1024) : bX m c t (ix2 f r) = dx m c (blk2 (tb t) r) (blk (ti t) f) := by
  refine Eq.trans ?_ (V_dx m c (blk2 (tb t) r) (blk (ti t) f))
  unfold blk blk2 ti tb
  blk_point [iblk, idx t]
theorem bY_at (r d : Fin 1024) : bY m c t (ix2 r d) = w m c (blk2 (tb t) r) d := by
  refine Eq.trans ?_ (V_w m c (blk2 (tb t) r) d)
  unfold bY X0_1 Pipeline.Window.fill
  rw [dif_pos (moved0_1 t _)]
  unfold zcol blk2 tb
  blk_point [iblk, idx t]

/-- The accumulator after a point: the first block starts it, a later one adds to it. -/
theorem acc_first (h : t.val % 2 = 0) (f d : Fin 1024) :
    (outsAt0 m c t.val t.isLt).2 (ix2 f d) = (0 : EReal) + part2 (dx m c) (w m c) (tb t) (blk (ti t) f) d := by
  rw [outsAt0_A m c t h (by omega)]
  frame_open
  simp (disch := decide) only [↓ View.readCov_skip, ↓ View.readCov_cons_toLoadRect, ↓ View.readCov_fill]
  frame_out
  refine (pay2_at _ (bX m c t) (bY m c t) f d).trans ?_
  unfold part2
  simp only [bX_at, bY_at, pay1_at]
theorem acc_later (h : ¬t.val % 2 = 0) (f d : Fin 1024) : (outsAt0 m c t.val t.isLt).2 (ix2 f d)
    = (outsAt0 m c (t.val - 1) (Nat.lt_of_le_of_lt (Nat.sub_le _ _) t.isLt)).2 (ix2 f d) + part2 (dx m c) (w m c) (tb t) (blk (ti t) f) d := by
  unfold part2
  simp only [← bX_at, ← bY_at]
  rw [outsAt0_B m c t h (by omega)]
  frame_open
  try simp (disch := decide) only [↓ View.readCov_skip, ↓ View.readCov_cons_toLoadRect, ↓ View.readCov_fill]
  frame_out
  refine (pay2_at _ (bX m c t) (bY m c t) f d).trans (congrArg (· + _) ?_)
  exact congrFun ((Memref.isWhole_whole cc0_scratch0).read_unread (Val := Elt Ideal) _) _

/-- The last block: the point stores the accumulator, which then holds the whole product. -/
theorem out_last (h : t.val % 2 = 1) (f d : Fin 1024) :
    (outsAt0 m c t.val t.isLt).1 (ix2 f d) = (outsAt0 m c t.val t.isLt).2 (ix2 f d) := by
  rw [outsAt0_B m c t (by omega) h]
  frame_open
  simp (disch := decide) only [↓ View.readCov_skip, ↓ View.readCov_cons_toLoadRect, ↓ View.readCov_fill]
  frame_out
theorem acc_last (h : t.val % 2 = 1) (f d : Fin 1024) :
    (outsAt0 m c t.val t.isLt).2 (ix2 f d) = prod2 (dx m c) (w m c) (blk (ti t) f) d := by
  rw [Pipeline.eq_sum_fin_of_reset_step_apply_of_flush (fun n h i => (outsAt0 m c n h).2 i) 2
    (fun _ => (0 : EReal)) (fun t i => part2 (dx m c) (w m c) (tb t) (blk (ti t) (i 0)) (i 1))
    (fun t h0 i => by idx_vars i; exact acc_first m c t h0 i0 i1) (fun t h0 i => by idx_vars i; exact acc_later m c t h0 i0 i1) t h (ix2 f d), zero_add, prod2_eq]
  refine Finset.sum_congr rfl fun s _ => ?_
  refine congrArg₂ (fun k i => part2 (dx m c) (w m c) k (blk i f) d) (Fin.ext ?_) (Fin.ext ?_)
  · simp only [tb]; omega
  · simp only [ti]; omega

/-- The result array. -/
theorem arr2 : (dats m 0 c).arrAt 2 cfg0.N = fun j : S4096x1024.Idx => prod2 (dx m c) (w m c) (j 0) (j 1) := by
  refine (dats m 0 c).arrAt_eq_of_covers 2 _ (by decide +kernel) fun t hf y => ?_
  blk_simp
  rw [after0_2]
  obtain ⟨f, d, hy⟩ : ∃ (f d : Fin 1024), y = ix2 f d := ⟨y 0, y 1, by blk_ext⟩
  have e0 : ((win0_2.blk t).view.emb y 0 : Fin 4096) = blk (ti t) f := by
    rw [hy]; refine Fin.ext ?_; blk_simp [idx t]; simp only [blk, ti]; omega
  have e1 : ((win0_2.blk t).view.emb y 1 : Fin 1024) = d := by
    rw [hy]; refine Fin.ext ?_; blk_simp [idx t]
  refine Eq.trans ?_ (congrArg₂ (prod2 (dx m c) (w m c)) e0 e1).symm
  have ht : t.val % 2 = 1 := (flush0_2 t).mp hf
  rw [hy]
  exact (out_last m c t ht f d).trans (acc_last m c t ht f d)
end
end Cert.Kernel15Ideal.Value

namespace Cert.Reference15Ideal.Value
open Cert.Reference15Ideal Cert.Reference15Ideal.Gen Cert.Reference15Ideal.Read Cert.Tiles
section
variable (x0 : Vec Ideal S4096x2048 .f32) (x1 : Vec Ideal S1024x6176 .f32)

/-- The gradient of all the columns: that of the columns of the gate, and zero at the others. -/
theorem v3_in (r : Fin 4096) (k : Fin 2048) : val_main_v3 x0 (ix2 r (zcol k)) = x0 (ix2 r k) := by
  unfold val_main_v3
  refine pad_apply_of_inside _ _ _ _ _ _ _ _ (ix2 r k) fun a => ?_
  fin_cases a
  · show r.val = 0 + r.val * 1
    omega
  · show k.val = 0 + k.val * 1
    omega
theorem v3_out (r : Fin 4096) (k : Fin 6176) (h : 2048 ≤ k.val) : val_main_v3 x0 (ix2 r k) = 0 := by
  unfold val_main_v3
  refine (pad_apply_of_not_inside _ _ _ _ _ _ _ _ 1 fun hc => ?_).trans (by pointwise [val_main_cst_0])
  have h2 : (k.val - 0) / 1 < 2048 := hc.2.2
  omega

/-- The reference's result. -/
theorem out4 : val_main_v4 x0 x1 = fun j : S4096x1024.Idx => prod2 (fun k r => x0 (ix2 r k)) (fun k d => x1 (ix2 d (zcol k))) (j 0) (j 1) := by
  funext j
  obtain ⟨r, d, rfl⟩ : ∃ (r : Fin 4096) (d : Fin 1024), j = ix2 r d := ⟨j 0, j 1, eq_ix2 j⟩
  pointwise [val_main_v4]
  rw [sum_part zcol (fun a b e => Fin.ext ((congrArg Fin.val e : (zcol a).val = (zcol b).val))) _ fun k hk => by
    rw [v3_out x0 r k (not_lt.1 fun hc => hk ⟨k.val, hc⟩ rfl), zero_mul]]
  simp only [v3_in]
  rfl
end
end Cert.Reference15Ideal.Value
-- ==== Proof.InFwd.lean ====
module

public import proofs.«01_k».proof.Proof.Gen.Kernel16Ideal.Value
public import proofs.«01_k».proof.Proof.Gen.Reference16Ideal.Read
public import proofs.«01_k».proof.Proof.Tiles
public import Idealize.ShloMosaic.Lib.Pipeline.ValueKit
public import Idealize.ShloMosaic.Lib.Pipeline.ReadBack
public import Idealize.ShloMosaic.Lib.Pointwise
public import Idealize.ShloMosaic.Lib.StableHlo.ReadAt

/-! The gated mixer's input projection: the normalised rows times the weights. One point of the kernel's grid does a whole
    block of the product. -/

@[expose] public section
set_option maxRecDepth 16384
noncomputable section
open Idealize.ShloMosaic Idealize.ShloMosaic.TcCoe Idealize.SL.Sem

namespace Cert.Kernel16Ideal.Value
open Cert.Kernel16Ideal Cert.Kernel16Ideal.Gen Cert.Tiles
section
variable (P : Vec Ideal S1024x1024 .f32) (X Y : Vec Ideal S1024x1024 .bf16) (f d : Fin 1024)

/-- What the body stores: zero, and the accumulator with the block's product added. -/
theorem pay1_at : k0_pay1 (F := Ideal) (ix2 f d) = 0 := by
  pointwise [k0_pay1]
theorem pay2_at : k0_pay2 P X Y (ix2 f d) = P (ix2 f d) + ∑ k, X (ix2 f k) * Y (ix2 k d) := by
  pointwise [k0_pay2]
end
section
variable (m : (ℓ : Loc nD τ sig) → Buf (Elt Ideal) ℓ) (c : Dev nD)

/-- The normalised rows and the weights, as a memory holds them. -/
def u (r : Fin 4096) (k : Fin 1024) : EReal := m ((c : Thread nD τ).loc main_arg0) (ix2 r k)
def w (k : Fin 1024) (d : Fin 4096) : EReal := m ((c : Thread nD τ).loc main_arg1) (ix2 k d)

theorem V_u (r : Fin 4096) (k : Fin 1024) : V m c main_v0 (ix2 r k) = u m c r k := by
  unfold V
  after_reads_at
  rfl
theorem V_w (k : Fin 1024) (d : Fin 4096) : V m c main_v1 (ix2 k d) = w m c k d := by
  unfold V
  after_reads_at
  rfl

variable (t : Fin cfg0.N)
abbrev bX : Vec Ideal S1024x1024 .bf16 := iblk m c 0 t
abbrev bY : Vec Ideal S1024x1024 .bf16 := iblk m c 1 t
/-- The block of rows and the block of columns of a grid point. -/
def ti : Fin 4 := ⟨t.val / 4, by have := t.isLt; have : cfg0.N = 16 := N_0; omega⟩
def tj : Fin 4 := ⟨t.val % 4, by omega⟩

theorem idx : ∀ t : Fin cfg0.N, win0_0.index t = ![t.val / 4, 0] ∧ win0_1.index t = ![0, t.val % 4] ∧ win0_2.index t = ![t.val / 4, t.val % 4] :=
  (by decide +kernel : ∀ t : Fin grid0.N, _)

theorem bX_at (f k : Fin 1024) : bX m c t (ix2 f k) = u m c (blk (ti t) f) k := by
  refine Eq.trans ?_ (V_u m c (blk (ti t) f) k)
  unfold blk ti
  blk_point [iblk, idx t]
theorem bY_at (k d : Fin 1024) : bY m c t (ix2 k d) = w m c k (blk (tj t) d) := by
  refine Eq.trans ?_ (V_w m c k (blk (tj t) d))
  unfold blk tj
  blk_point [iblk, idx t]

/-- What a point stores, and the result array. -/
theorem out_at (f d : Fin 1024) : outsAt0 m c t (ix2 f d) = ∑ k, u m c (blk (ti t) f) k * w m c k (blk (tj t) d) := by
  unfold outsAt0
  frame_open
  simp (disch := decide) only [↓ View.readCov_skip, ↓ View.readCov_cons_toLoadRect, ↓ View.readCov_fill]
  frame_out
  refine (pay2_at _ (bX m c t) (bY m c t) f d).trans ?_
  simp only [bX_at, bY_at, pay1_at, zero_add]
theorem arr2 : (dats m 0 c).arrAt 2 cfg0.N = fun j : S4096x4096.Idx => ∑ k, u m c (j 0) k * w m c k (j 1) := by
  refine (dats m 0 c).arrAt_eq_of_covers 2 _ (by decide +kernel) fun t hf y => ?_
  blk_simp
  rw [after0_2]
  obtain ⟨f, d, hy⟩ : ∃ (f d : Fin 1024), y = ix2 f d := ⟨y 0, y 1, by blk_ext⟩
  have e0 : ((win0_2.blk t).view.emb y 0 : Fin 4096) = blk (ti t) f := by
    rw [hy]; refine Fin.ext ?_; blk_simp [idx t]; simp only [blk, ti]; omega
  have e1 : ((win0_2.blk t).view.emb y 1 : Fin 4096) = blk (tj t) d := by
    rw [hy]; refine Fin.ext ?_; blk_simp [idx t]; simp only [blk, tj]; omega
  refine Eq.trans ?_ (congrArg₂ (fun r d => ∑ k, u m c r k * w m c k d) e0 e1).symm
  rw [hy]
  exact out_at m c t f d
end
end Cert.Kernel16Ideal.Value

namespace Cert.Reference16Ideal.Value
open Cert.Reference16Ideal Cert.Reference16Ideal.Gen Cert.Reference16Ideal.Read

/-- The reference's result. -/
theorem out0 (x0 : Vec Ideal S4096x1024 .f32) (x1 : Vec Ideal S1024x4096 .f32) :
    val_main_v0 x0 x1 = fun j : S4096x4096.Idx => ∑ k : Fin 1024, x0 (ix2 (j 0) k) * x1 (ix2 k (j 1)) := by
  funext j
  obtain ⟨r, d, rfl⟩ : ∃ (r : Fin 4096) (d : Fin 4096), j = ix2 r d := ⟨j 0, j 1, eq_ix2 j⟩
  pointwise [val_main_v0]
end Cert.Reference16Ideal.Value
-- ==== Proof.XbcFwd.lean ====
module

public import proofs.«01_k».proof.Proof.Gen.Kernel17Ideal.Value
public import proofs.«01_k».proof.Proof.Gen.Reference17Ideal.Read
public import proofs.«01_k».proof.Proof.Tiles
public import Idealize.ShloMosaic.Lib.Pipeline.ValueKit
public import Idealize.ShloMosaic.Lib.Pipeline.ReadBack
public import Idealize.ShloMosaic.Lib.Pointwise
public import Idealize.ShloMosaic.Lib.StableHlo.ReadAt

/-! The state-space layer's input projection, the columns that the convolution reads: the normalised rows times the
    weights. One point of the kernel's grid does a whole
    block of the product. -/

@[expose] public section
set_option maxRecDepth 16384
noncomputable section
open Idealize.ShloMosaic Idealize.ShloMosaic.TcCoe Idealize.SL.Sem

namespace Cert.Kernel17Ideal.Value
open Cert.Kernel17Ideal Cert.Kernel17Ideal.Gen Cert.Tiles
section
variable (P : Vec Ideal S1024x1024 .f32) (X Y : Vec Ideal S1024x1024 .bf16) (f d : Fin 1024)

/-- What the body stores: zero, and the accumulator with the block's product added. -/
theorem pay1_at : k0_pay1 (F := Ideal) (ix2 f d) = 0 := by
  pointwise [k0_pay1]
theorem pay2_at : k0_pay2 P X Y (ix2 f d) = P (ix2 f d) + ∑ k, X (ix2 f k) * Y (ix2 d k) := by
  pointwise [k0_pay2]
end
section
variable (m : (ℓ : Loc nD τ sig) → Buf (Elt Ideal) ℓ) (c : Dev nD)

/-- The normalised rows and the weights, as a memory holds them. -/
def u (r : Fin 4096) (k : Fin 1024) : EReal := m ((c : Thread nD τ).loc main_arg0) (ix2 r k)
def w (k : Fin 1024) (d : Fin 4096) : EReal := m ((c : Thread nD τ).loc main_arg1) (ix2 k (xcol d))

theorem V_u (r : Fin 4096) (k : Fin 1024) : V m c main_v0 (ix2 r k) = u m c r k := by
  unfold V
  after_reads_at
  rfl
theorem V_w (k : Fin 1024) (d : Fin 4096) : V m c main_v2 (ix2 (xcol d) k) = w m c k d := by
  unfold V
  after_reads_at
  rfl

variable (t : Fin cfg0.N)
abbrev bX : Vec Ideal S1024x1024 .bf16 := iblk m c 0 t
abbrev bY : Vec Ideal S1024x1024 .bf16 := X0_1 m c t
/-- The block of rows and the block of columns of a grid point. -/
def ti : Fin 4 := ⟨t.val / 4, by have := t.isLt; have : cfg0.N = 16 := N_0; omega⟩
def tj : Fin 4 := ⟨t.val % 4, by omega⟩

theorem idx : ∀ t : Fin cfg0.N, win0_0.index t = ![t.val / 4, 0] ∧ win0_1.index t = ![t.val % 4 + 2, 0] ∧ win0_2.index t = ![t.val / 4, t.val % 4] :=
  (by decide +kernel : ∀ t : Fin grid0.N, _)

theorem bX_at (f k : Fin 1024) : bX m c t (ix2 f k) = u m c (blk (ti t) f) k := by
  refine Eq.trans ?_ (V_u m c (blk (ti t) f) k)
  unfold blk ti
  blk_point [iblk, idx t]
theorem bY_at (k d : Fin 1024) : bY m c t (ix2 d k) = w m c k (blk (tj t) d) := by
  refine Eq.trans ?_ (V_w m c k (blk (tj t) d))
  unfold bY X0_1 Pipeline.Window.fill
  rw [dif_pos (moved0_1 t _)]
  unfold xcol blk tj
  blk_point [iblk, idx t]

/-- What a point stores, and the result array. -/
theorem out_at (f d : Fin 1024) : outsAt0 m c t (ix2 f d) = ∑ k, u m c (blk (ti t) f) k * w m c k (blk (tj t) d) := by
  unfold outsAt0
  frame_open
  simp (disch := decide) only [↓ View.readCov_skip, ↓ View.readCov_cons_toLoadRect, ↓ View.readCov_fill]
  frame_out
  refine (pay2_at _ (bX m c t) (bY m c t) f d).trans ?_
  simp only [bX_at, bY_at, pay1_at, zero_add]
theorem arr2 : (dats m 0 c).arrAt 2 cfg0.N = fun j : S4096x4096.Idx => ∑ k, u m c (j 0) k * w m c k (j 1) := by
  refine (dats m 0 c).arrAt_eq_of_covers 2 _ (by decide +kernel) fun t hf y => ?_
  blk_simp
  rw [after0_2]
  obtain ⟨f, d, hy⟩ : ∃ (f d : Fin 1024), y = ix2 f d := ⟨y 0, y 1, by blk_ext⟩
  have e0 : ((win0_2.blk t).view.emb y 0 : Fin 4096) = blk (ti t) f := by
    rw [hy]; refine Fin.ext ?_; blk_simp [idx t]; simp only [blk, ti]; omega
  have e1 : ((win0_2.blk t).view.emb y 1 : Fin 4096) = blk (tj t) d := by
    rw [hy]; refine Fin.ext ?_; blk_simp [idx t]; simp only [blk, tj]; omega
  refine Eq.trans ?_ (congrArg₂ (fun r d => ∑ k, u m c r k * w m c k d) e0 e1).symm
  rw [hy]
  exact out_at m c t f d
end
end Cert.Kernel17Ideal.Value

namespace Cert.Reference17Ideal.Value
open Cert.Reference17Ideal Cert.Reference17Ideal.Gen Cert.Reference17Ideal.Read Cert.Tiles

/-- The reference's result. -/
theorem out1 (x0 : Vec Ideal S4096x1024 .f32) (x1 : Vec Ideal S1024x6176 .f32) :
    val_main_v1 x0 x1 = fun j : S4096x4096.Idx => ∑ k : Fin 1024, x0 (ix2 (j 0) k) * x1 (ix2 k (xcol (j 1))) := by
  funext j
  obtain ⟨r, d, rfl⟩ : ∃ (r : Fin 4096) (d : Fin 4096), j = ix2 r d := ⟨j 0, j 1, eq_ix2 j⟩
  pointwise [val_main_v1, val_main_v0]
  exact Finset.sum_congr rfl fun k _ => by first | rfl | exact congrArg (_ * x1 ·) (eq_ix2 _)
end Cert.Reference17Ideal.Value
-- ==== Proof.ZFwd.lean ====
module

public import proofs.«01_k».proof.Proof.Gen.Kernel18Ideal.Value
public import proofs.«01_k».proof.Proof.Gen.Reference18Ideal.Read
public import proofs.«01_k».proof.Proof.Tiles
public import Idealize.ShloMosaic.Lib.Pipeline.ValueKit
public import Idealize.ShloMosaic.Lib.Pipeline.ReadBack
public import Idealize.ShloMosaic.Lib.Pointwise
public import Idealize.ShloMosaic.Lib.StableHlo.ReadAt

/-! The state-space layer's input projection, the columns of the gate: the normalised rows times the
    weights. One point of the kernel's grid does a whole
    block of the product. -/

@[expose] public section
set_option maxRecDepth 16384
noncomputable section
open Idealize.ShloMosaic Idealize.ShloMosaic.TcCoe Idealize.SL.Sem

namespace Cert.Kernel18Ideal.Value
open Cert.Kernel18Ideal Cert.Kernel18Ideal.Gen Cert.Tiles
section
variable (P : Vec Ideal S1024x1024 .f32) (X Y : Vec Ideal S1024x1024 .bf16) (f d : Fin 1024)

/-- What the body stores: zero, and the accumulator with the block's product added. -/
theorem pay1_at : k0_pay1 (F := Ideal) (ix2 f d) = 0 := by
  pointwise [k0_pay1]
theorem pay2_at : k0_pay2 P X Y (ix2 f d) = P (ix2 f d) + ∑ k, X (ix2 f k) * Y (ix2 d k) := by
  pointwise [k0_pay2]
end
section
variable (m : (ℓ : Loc nD τ sig) → Buf (Elt Ideal) ℓ) (c : Dev nD)

/-- The normalised rows and the weights, as a memory holds them. -/
def u (r : Fin 4096) (k : Fin 1024) : EReal := m ((c : Thread nD τ).loc main_arg0) (ix2 r k)
def w (k : Fin 1024) (d : Fin 2048) : EReal := m ((c : Thread nD τ).loc main_arg1) (ix2 k (zcol d))

theorem V_u (r : Fin 4096) (k : Fin 1024) : V m c main_v0 (ix2 r k) = u m c r k := by
  unfold V
  after_reads_at
  rfl
theorem V_w (k : Fin 1024) (d : Fin 2048) : V m c main_v2 (ix2 (zcol d) k) = w m c k d := by
  unfold V
  after_reads_at
  rfl

variable (t : Fin cfg0.N)
abbrev bX : Vec Ideal S1024x1024 .bf16 := iblk m c 0 t
abbrev bY : Vec Ideal S1024x1024 .bf16 := X0_1 m c t
/-- The block of rows and the block of columns of a grid point. -/
def ti : Fin 4 := ⟨t.val / 2, by have := t.isLt; have : cfg0.N = 8 := N_0; omega⟩
def tj : Fin 2 := ⟨t.val % 2, by omega⟩

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

theorem bX_at (f k : Fin 1024) : bX m c t (ix2 f k) = u m c (blk (ti t) f) k := by
  refine Eq.trans ?_ (V_u m c (blk (ti t) f) k)
  unfold blk ti
  blk_point [iblk, idx t]
theorem bY_at (k d : Fin 1024) : bY m c t (ix2 d k) = w m c k (blk2 (tj t) d) := by
  refine Eq.trans ?_ (V_w m c k (blk2 (tj t) d))
  unfold bY X0_1 Pipeline.Window.fill
  rw [dif_pos (moved0_1 t _)]
  unfold zcol blk2 tj
  blk_point [iblk, idx t]

/-- What a point stores, and the result array. -/
theorem out_at (f d : Fin 1024) : outsAt0 m c t (ix2 f d) = ∑ k, u m c (blk (ti t) f) k * w m c k (blk2 (tj t) d) := by
  unfold outsAt0
  frame_open
  simp (disch := decide) only [↓ View.readCov_skip, ↓ View.readCov_cons_toLoadRect, ↓ View.readCov_fill]
  frame_out
  refine (pay2_at _ (bX m c t) (bY m c t) f d).trans ?_
  simp only [bX_at, bY_at, pay1_at, zero_add]
theorem arr2 : (dats m 0 c).arrAt 2 cfg0.N = fun j : S4096x2048.Idx => ∑ k, u m c (j 0) k * w m c k (j 1) := by
  refine (dats m 0 c).arrAt_eq_of_covers 2 _ (by decide +kernel) fun t hf y => ?_
  blk_simp
  rw [after0_2]
  obtain ⟨f, d, hy⟩ : ∃ (f d : Fin 1024), y = ix2 f d := ⟨y 0, y 1, by blk_ext⟩
  have e0 : ((win0_2.blk t).view.emb y 0 : Fin 4096) = blk (ti t) f := by
    rw [hy]; refine Fin.ext ?_; blk_simp [idx t]; simp only [blk, ti]; omega
  have e1 : ((win0_2.blk t).view.emb y 1 : Fin 2048) = blk2 (tj t) d := by
    rw [hy]; refine Fin.ext ?_; blk_simp [idx t]; simp only [blk2, tj]; omega
  refine Eq.trans ?_ (congrArg₂ (fun r d => ∑ k, u m c r k * w m c k d) e0 e1).symm
  rw [hy]
  exact out_at m c t f d
end
end Cert.Kernel18Ideal.Value

namespace Cert.Reference18Ideal.Value
open Cert.Reference18Ideal Cert.Reference18Ideal.Gen Cert.Reference18Ideal.Read Cert.Tiles

/-- The reference's result. -/
theorem out1 (x0 : Vec Ideal S4096x1024 .f32) (x1 : Vec Ideal S1024x6176 .f32) :
    val_main_v1 x0 x1 = fun j : S4096x2048.Idx => ∑ k : Fin 1024, x0 (ix2 (j 0) k) * x1 (ix2 k (zcol (j 1))) := by
  funext j
  obtain ⟨r, d, rfl⟩ : ∃ (r : Fin 4096) (d : Fin 2048), j = ix2 r d := ⟨j 0, j 1, eq_ix2 j⟩
  pointwise [val_main_v1, val_main_v0]
  exact Finset.sum_congr rfl fun k _ => by first | rfl | exact congrArg (_ * x1 ·) (eq_ix2 _)
end Cert.Reference18Ideal.Value
-- ==== Proof.OutFwd.lean ====
module

public import proofs.«01_k».proof.Proof.Gen.Kernel19Ideal.Value
public import proofs.«01_k».proof.Proof.Gen.Reference19Ideal.Read
public import proofs.«01_k».proof.Proof.Tiles
public import Idealize.ShloMosaic.Lib.Pipeline.ValueKit
public import Idealize.ShloMosaic.Lib.Pipeline.ReadBack
public import Idealize.ShloMosaic.Lib.KernelVsHost
public import Idealize.ShloMosaic.Lib.Pointwise
public import Idealize.ShloMosaic.Lib.StableHlo.ReadAt

/-! A mixer's output projection: the mixer's output times the weights, added to the residual stream. The kernel adds the
    products of two blocks of 1024 columns and then the residual stream. -/

@[expose] public section
set_option maxRecDepth 16384
noncomputable section
open Idealize.ShloMosaic Idealize.ShloMosaic.TcCoe Idealize.SL.Sem

namespace Cert.Kernel19Ideal.Value
open Cert.Kernel19Ideal Cert.Kernel19Ideal.Gen Cert.Tiles
section
variable (P : Vec Ideal S1024x1024 .f32) (X : Vec Ideal S1024x1024 .bf16) (Y : Vec Ideal S1024x1024 .bf16) (f d : Fin 1024)

/-- What the body stores: zero, the accumulator with a block's product added, and the accumulator plus the residual stream's block. -/
theorem pay1_at : k0_pay1 (F := Ideal) (ix2 f d) = 0 := by
  pointwise [k0_pay1]
theorem pay2_at : k0_pay2 P X Y (ix2 f d) = P (ix2 f d) + ∑ r, X (ix2 f r) * Y (ix2 r d) := by
  pointwise [k0_pay2]
theorem pay3_at (R : Vec Ideal S1024x1024 .f32) : k0_pay3 P R (ix2 f d) = P (ix2 f d) + R (ix2 f d) := by
  pointwise [k0_pay3]
end
section
variable (m : (ℓ : Loc nD τ sig) → Buf (Elt Ideal) ℓ) (c : Dev nD)

/-- The mixer's output, the weights and the residual stream, as a memory holds them; the column first. -/
def o (k : Fin 2048) (r : Fin 4096) : EReal := m ((c : Thread nD τ).loc main_arg1) (ix2 r k)
def w (k : Fin 2048) (d : Fin 1024) : EReal := m ((c : Thread nD τ).loc main_arg2) (ix2 k d)
def res (r : Fin 4096) (d : Fin 1024) : EReal := m ((c : Thread nD τ).loc main_arg0) (ix2 r d)

theorem V_o (k : Fin 2048) (r : Fin 4096) : V m c main_v0 (ix2 r k) = o m c k r := by
  unfold V
  after_reads_at
  rfl
theorem V_w (k : Fin 2048) (d : Fin 1024) : V m c main_v1 (ix2 k d) = w m c k d := by
  unfold V
  after_reads_at
  rfl
theorem V_res (r : Fin 4096) (d : Fin 1024) : V m c main_arg0 (ix2 r d) = res m c r d := by
  rw [V_main_arg0]; rfl

variable (t : Fin cfg0.N)
abbrev bX : Vec Ideal S1024x1024 .bf16 := iblk m c 0 t
abbrev bY : Vec Ideal S1024x1024 .bf16 := iblk m c 1 t
abbrev bZ : Vec Ideal S1024x1024 .f32 := iblk m c 2 t
/-- The block of rows and the block of columns of a grid point. -/
def ti : Fin 4 := ⟨t.val / 2, by have := t.isLt; have : cfg0.N = 8 := N_0; omega⟩
def tb : Fin 2 := ⟨t.val % 2, by omega⟩

theorem idx : ∀ t : Fin cfg0.N, win0_0.index t = ![t.val / 2, t.val % 2] ∧ win0_1.index t = ![t.val % 2, 0] ∧ win0_2.index t = ![t.val / 2, 0]
    ∧ win0_3.index t = ![t.val / 2, 0] :=
  (by decide +kernel : ∀ t : Fin grid0.N, _)

theorem bX_at (r f : Fin 1024) : bX m c t (ix2 f r) = o m c (blk2 (tb t) r) (blk (ti t) f) := by
  refine Eq.trans ?_ (V_o m c (blk2 (tb t) r) (blk (ti t) f))
  unfold blk blk2 ti tb
  blk_point [iblk, idx t]
theorem bY_at (r d : Fin 1024) : bY m c t (ix2 r d) = w m c (blk2 (tb t) r) d := by
  refine Eq.trans ?_ (V_w m c (blk2 (tb t) r) d)
  unfold blk2 tb
  blk_point [iblk, idx t]
theorem bZ_at (f d : Fin 1024) : bZ m c t (ix2 f d) = res m c (blk (ti t) f) d := by
  refine Eq.trans ?_ (V_res m c (blk (ti t) f) d)
  unfold blk ti
  blk_point [iblk, idx t]

/-- The accumulator after a point: the first block starts it, a later one adds to it. -/
theorem acc_first (h : t.val % 2 = 0) (f d : Fin 1024) :
    (outsAt0 m c t.val t.isLt).2 (ix2 f d) = (0 : EReal) + part2 (o m c) (w m c) (tb t) (blk (ti t) f) d := by
  rw [outsAt0_A m c t h (by omega)]
  frame_open
  simp (disch := decide) only [↓ View.readCov_skip, ↓ View.readCov_cons_toLoadRect, ↓ View.readCov_fill]
  frame_out
  refine (pay2_at _ (bX m c t) (bY m c t) f d).trans ?_
  unfold part2
  simp only [bX_at, bY_at, pay1_at]
theorem acc_later (h : ¬t.val % 2 = 0) (f d : Fin 1024) : (outsAt0 m c t.val t.isLt).2 (ix2 f d)
    = (outsAt0 m c (t.val - 1) (Nat.lt_of_le_of_lt (Nat.sub_le _ _) t.isLt)).2 (ix2 f d) + part2 (o m c) (w m c) (tb t) (blk (ti t) f) d := by
  unfold part2
  simp only [← bX_at, ← bY_at]
  rw [outsAt0_B m c t h (by omega)]
  frame_open
  try simp (disch := decide) only [↓ View.readCov_skip, ↓ View.readCov_cons_toLoadRect, ↓ View.readCov_fill]
  frame_out
  refine (pay2_at _ (bX m c t) (bY m c t) f d).trans (congrArg (· + _) ?_)
  exact congrFun ((Memref.isWhole_whole cc0_scratch0).read_unread (Val := Elt Ideal) _) _

/-- The last block: the point stores the accumulator and the other part; the accumulator then holds the whole product. -/
theorem out_last (h : t.val % 2 = 1) (f d : Fin 1024) :
    (outsAt0 m c t.val t.isLt).1 (ix2 f d) = (outsAt0 m c t.val t.isLt).2 (ix2 f d) + res m c (blk (ti t) f) d := by
  rw [outsAt0_B m c t (by omega) h]
  frame_open
  simp (disch := decide) only [↓ View.readCov_skip, ↓ View.readCov_cons_toLoadRect, ↓ View.readCov_fill]
  frame_out
  refine (pay3_at _ f d (bZ m c t)).trans ?_
  rw [bZ_at]
theorem acc_last (h : t.val % 2 = 1) (f d : Fin 1024) :
    (outsAt0 m c t.val t.isLt).2 (ix2 f d) = prod2 (o m c) (w m c) (blk (ti t) f) d := by
  rw [Pipeline.eq_sum_fin_of_reset_step_apply_of_flush (fun n h i => (outsAt0 m c n h).2 i) 2
    (fun _ => (0 : EReal)) (fun t i => part2 (o m c) (w m c) (tb t) (blk (ti t) (i 0)) (i 1))
    (fun t h0 i => by idx_vars i; exact acc_first m c t h0 i0 i1) (fun t h0 i => by idx_vars i; exact acc_later m c t h0 i0 i1) t h (ix2 f d), zero_add, prod2_eq]
  refine Finset.sum_congr rfl fun s _ => ?_
  refine congrArg₂ (fun k i => part2 (o m c) (w m c) k (blk i f) d) (Fin.ext ?_) (Fin.ext ?_)
  · simp only [tb]; omega
  · simp only [ti]; omega

/-- The result array. -/
theorem arr3 : (dats m 0 c).arrAt 3 cfg0.N = fun j : S4096x1024.Idx => prod2 (o m c) (w m c) (j 0) (j 1) + res m c (j 0) (j 1) := by
  refine (dats m 0 c).arrAt_eq_of_covers 3 _ (by decide +kernel) fun t hf y => ?_
  blk_simp
  rw [after0_3]
  obtain ⟨f, d, hy⟩ : ∃ (f d : Fin 1024), y = ix2 f d := ⟨y 0, y 1, by blk_ext⟩
  have e0 : ((win0_3.blk t).view.emb y 0 : Fin 4096) = blk (ti t) f := by
    rw [hy]; refine Fin.ext ?_; blk_simp [idx t]; simp only [blk, ti]; omega
  have e1 : ((win0_3.blk t).view.emb y 1 : Fin 1024) = d := by
    rw [hy]; refine Fin.ext ?_; blk_simp [idx t]
  refine Eq.trans ?_ (congrArg₂ (fun r d => prod2 (o m c) (w m c) r d + res m c r d) e0 e1).symm
  have ht : t.val % 2 = 1 := (flush0_3 t).mp hf
  rw [hy]
  exact (out_last m c t ht f d).trans (congrArg (· + _) (acc_last m c t ht f d))
end
end Cert.Kernel19Ideal.Value

namespace Cert.Reference19Ideal.Value
open Cert.Reference19Ideal Cert.Reference19Ideal.Gen Cert.Reference19Ideal.Read Cert.Tiles

/-- The reference's result. -/
theorem out1 (x0 : Vec Ideal S4096x1024 .f32) (x1 : Vec Ideal S4096x2048 .f32) (x2 : Vec Ideal S2048x1024 .f32) :
    val_main_v1 x0 x1 x2 = fun j : S4096x1024.Idx => prod2 (fun k r => x1 (ix2 r k)) (fun k d => x2 (ix2 k d)) (j 0) (j 1) + x0 (ix2 (j 0) (j 1)) := by
  funext j
  obtain ⟨r, d, rfl⟩ : ∃ (r : Fin 4096) (d : Fin 1024), j = ix2 r d := ⟨j 0, j 1, eq_ix2 j⟩
  pointwise [val_main_v1, val_main_v0]
  exact add_comm _ _
end Cert.Reference19Ideal.Value
-- ==== Proof.MoreProducts.lean ====
module

public import proofs.«01_k».proof.Defs
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Reference18Ideal.Run
public import proofs.«01_k».proof.Proof.Gen.Kernel19.Frame
public import proofs.«01_k».proof.Proof.Gen.Kernel19Ideal.Frame
public import proofs.«01_k».proof.Proof.Gen.Reference19Ideal.Run
public import proofs.«01_k».proof.Proof.EmbGateDw
public import proofs.«01_k».proof.Proof.EmbDw
public import proofs.«01_k».proof.Proof.ZDw
public import proofs.«01_k».proof.Proof.ZDx
public import proofs.«01_k».proof.Proof.InFwd
public import proofs.«01_k».proof.Proof.XbcFwd
public import proofs.«01_k».proof.Proof.ZFwd
public import proofs.«01_k».proof.Proof.OutFwd
public import Idealize.ShloMosaic.Lib.Quiescent

/-! The claims about the embedding's weights' gradients, the state-space mixer's gate and the forward products: the programs
    run, and the kernel's result is the reference's at any arguments. -/

@[expose] public section
set_option maxRecDepth 16384
noncomputable section
open Idealize.ShloMosaic Idealize.ShloMosaic.TcCoe Idealize.SL.Sem
namespace Cert.Proof.MoreProducts
open Cert.Tiles

/-! The gradient of the embedding gate's weights. -/
theorem frame_kernel12 : Cert.quiescent_Kernel12 (hKernel12 := Cert.Kernel12.Gen.facts) := fun m ρ _ => Cert.Kernel12.Gen.frame m ρ
theorem frame_ideal12 : Cert.quiescent_Kernel12Ideal (hKernel12Ideal := Cert.Kernel12Ideal.Gen.facts) := fun m ρ _ => Cert.Kernel12Ideal.Gen.frame m ρ
theorem frame_reference12 : Cert.quiescent_Reference12Ideal (hReference12Ideal := Cert.Reference12Ideal.Gen.facts) := fun m ρ _ =>
  (θ_run Cert.Reference12Ideal.defs _ _).mono (fun r h => ⟨fun c => (h c).2, sem_eq_zero_of_no_sems (by decide) r.2⟩) (Cert.Reference12Ideal.Value.run (F := Ideal) m ρ)
theorem preserves12 : Cert.preserves_Kernel12_Kernel12Ideal := trivial
theorem algebraic12 : Cert.algebraic_Kernel12Ideal_Reference12Ideal (hKernel12Ideal := Cert.Kernel12Ideal.Gen.facts)
    (hReference12Ideal := Cert.Reference12Ideal.Gen.facts) := by
  intro m ρ m' ρ' _ hagree
  refine ⟨fun c => fun j : Cert.Kernel12Ideal.S1024x1024.Idx => prod (Cert.Kernel12Ideal.Value.q m c) (Cert.Kernel12Ideal.Value.dz m c) (j 0) (j 1), ?_, ?_⟩
  · exact (θ_run Cert.Kernel12Ideal.defs _ _).mono (fun r h c => ⟨(h c).1.trans (Cert.Kernel12Ideal.Value.arr2 m c), (h c).2⟩) (Cert.Kernel12Ideal.Value.run_blocks (F := Ideal) m ρ)
  · refine (θ_run Cert.Reference12Ideal.defs _ _).mono (fun r h c => ?_) (Cert.Reference12Ideal.Value.run (F := Ideal) m' ρ')
    obtain ⟨e, hargs⟩ := h c
    obtain ⟨a0, a1⟩ := hagree c
    refine ⟨e.trans ((Cert.Reference12Ideal.Read.val_main_v4_eq _ _ ).trans ((Cert.Reference12Ideal.Value.out4 _ _ ).trans ?_)), hargs⟩
    rw [a0, a1]
    rfl

/-! That of the embedding's weights. -/
theorem frame_kernel13 : Cert.quiescent_Kernel13 (hKernel13 := Cert.Kernel13.Gen.facts) := fun m ρ _ => Cert.Kernel13.Gen.frame m ρ
theorem frame_ideal13 : Cert.quiescent_Kernel13Ideal (hKernel13Ideal := Cert.Kernel13Ideal.Gen.facts) := fun m ρ _ => Cert.Kernel13Ideal.Gen.frame m ρ
theorem frame_reference13 : Cert.quiescent_Reference13Ideal (hReference13Ideal := Cert.Reference13Ideal.Gen.facts) := fun m ρ _ =>
  (θ_run Cert.Reference13Ideal.defs _ _).mono (fun r h => ⟨fun c => (h c).2, sem_eq_zero_of_no_sems (by decide) r.2⟩) (Cert.Reference13Ideal.Value.run (F := Ideal) m ρ)
theorem preserves13 : Cert.preserves_Kernel13_Kernel13Ideal := trivial
theorem algebraic13 : Cert.algebraic_Kernel13Ideal_Reference13Ideal (hKernel13Ideal := Cert.Kernel13Ideal.Gen.facts)
    (hReference13Ideal := Cert.Reference13Ideal.Gen.facts) := by
  intro m ρ m' ρ' _ hagree
  refine ⟨fun c => fun j : Cert.Kernel13Ideal.S256x1024.Idx => prod (Cert.Kernel13Ideal.Value.p m c) (Cert.Kernel13Ideal.Value.de m c) (j 0) (j 1), ?_, ?_⟩
  · exact (θ_run Cert.Kernel13Ideal.defs _ _).mono (fun r h c => ⟨(h c).1.trans (Cert.Kernel13Ideal.Value.arr2 m c), (h c).2⟩) (Cert.Kernel13Ideal.Value.run_blocks (F := Ideal) m ρ)
  · refine (θ_run Cert.Reference13Ideal.defs _ _).mono (fun r h c => ?_) (Cert.Reference13Ideal.Value.run (F := Ideal) m' ρ')
    obtain ⟨e, hargs⟩ := h c
    obtain ⟨a0, a1⟩ := hagree c
    refine ⟨e.trans ((Cert.Reference13Ideal.Read.val_main_v4_eq _ _ ).trans ((Cert.Reference13Ideal.Value.out4 _ _ ).trans ?_)), hargs⟩
    rw [a0, a1]
    rfl

/-! That of the weights of the state-space mixer's gate. -/
theorem frame_kernel14 : Cert.quiescent_Kernel14 (hKernel14 := Cert.Kernel14.Gen.facts) := fun m ρ _ => Cert.Kernel14.Gen.frame m ρ
theorem frame_ideal14 : Cert.quiescent_Kernel14Ideal (hKernel14Ideal := Cert.Kernel14Ideal.Gen.facts) := fun m ρ _ => Cert.Kernel14Ideal.Gen.frame m ρ
theorem frame_reference14 : Cert.quiescent_Reference14Ideal (hReference14Ideal := Cert.Reference14Ideal.Gen.facts) := fun m ρ _ =>
  (θ_run Cert.Reference14Ideal.defs _ _).mono (fun r h => ⟨fun c => (h c).2, sem_eq_zero_of_no_sems (by decide) r.2⟩) (Cert.Reference14Ideal.Value.run (F := Ideal) m ρ)
theorem preserves14 : Cert.preserves_Kernel14_Kernel14Ideal := trivial
theorem algebraic14 : Cert.algebraic_Kernel14Ideal_Reference14Ideal (hKernel14Ideal := Cert.Kernel14Ideal.Gen.facts)
    (hReference14Ideal := Cert.Reference14Ideal.Gen.facts) := by
  intro m ρ m' ρ' _ hagree
  refine ⟨fun c => fun j : Cert.Kernel14Ideal.S2048x1024.Idx => prod (Cert.Kernel14Ideal.Value.dz m c) (Cert.Kernel14Ideal.Value.u m c) (j 0) (j 1), ?_, ?_⟩
  · exact (θ_run Cert.Kernel14Ideal.defs _ _).mono (fun r h c => ⟨(h c).1.trans (Cert.Kernel14Ideal.Value.arr2 m c), (h c).2⟩) (Cert.Kernel14Ideal.Value.run_blocks (F := Ideal) m ρ)
  · refine (θ_run Cert.Reference14Ideal.defs _ _).mono (fun r h c => ?_) (Cert.Reference14Ideal.Value.run (F := Ideal) m' ρ')
    obtain ⟨e, hargs⟩ := h c
    obtain ⟨a0, a1⟩ := hagree c
    refine ⟨e.trans ((Cert.Reference14Ideal.Read.val_main_v5_eq _ _ ).trans ((Cert.Reference14Ideal.Value.out5 _ _ ).trans ?_)), hargs⟩
    rw [a0, a1]
    rfl

/-! The gradient of that gate's input. -/
theorem frame_kernel15 : Cert.quiescent_Kernel15 (hKernel15 := Cert.Kernel15.Gen.facts) := fun m ρ _ => Cert.Kernel15.Gen.frame m ρ
theorem frame_ideal15 : Cert.quiescent_Kernel15Ideal (hKernel15Ideal := Cert.Kernel15Ideal.Gen.facts) := fun m ρ _ => Cert.Kernel15Ideal.Gen.frame m ρ
theorem frame_reference15 : Cert.quiescent_Reference15Ideal (hReference15Ideal := Cert.Reference15Ideal.Gen.facts) := fun m ρ _ =>
  (θ_run Cert.Reference15Ideal.defs _ _).mono (fun r h => ⟨fun c => (h c).2, sem_eq_zero_of_no_sems (by decide) r.2⟩) (Cert.Reference15Ideal.Value.run (F := Ideal) m ρ)
theorem preserves15 : Cert.preserves_Kernel15_Kernel15Ideal := trivial
theorem algebraic15 : Cert.algebraic_Kernel15Ideal_Reference15Ideal (hKernel15Ideal := Cert.Kernel15Ideal.Gen.facts)
    (hReference15Ideal := Cert.Reference15Ideal.Gen.facts) := by
  intro m ρ m' ρ' _ hagree
  refine ⟨fun c => fun j : Cert.Kernel15Ideal.S4096x1024.Idx => prod2 (Cert.Kernel15Ideal.Value.dx m c) (Cert.Kernel15Ideal.Value.w m c) (j 0) (j 1), ?_, ?_⟩
  · exact (θ_run Cert.Kernel15Ideal.defs _ _).mono (fun r h c => ⟨(h c).1.trans (Cert.Kernel15Ideal.Value.arr2 m c), (h c).2⟩) (Cert.Kernel15Ideal.Value.run_blocks (F := Ideal) m ρ)
  · refine (θ_run Cert.Reference15Ideal.defs _ _).mono (fun r h c => ?_) (Cert.Reference15Ideal.Value.run (F := Ideal) m' ρ')
    obtain ⟨e, hargs⟩ := h c
    obtain ⟨a0, a1⟩ := hagree c
    refine ⟨e.trans ((Cert.Reference15Ideal.Read.val_main_v4_eq _ _ ).trans ((Cert.Reference15Ideal.Value.out4 _ _ ).trans ?_)), hargs⟩
    rw [a0, a1]
    rfl

/-! Forward: the gated mixer's input product. -/
theorem frame_kernel16 : Cert.quiescent_Kernel16 (hKernel16 := Cert.Kernel16.Gen.facts) := fun m ρ _ => Cert.Kernel16.Gen.frame m ρ
theorem frame_ideal16 : Cert.quiescent_Kernel16Ideal (hKernel16Ideal := Cert.Kernel16Ideal.Gen.facts) := fun m ρ _ => Cert.Kernel16Ideal.Gen.frame m ρ
theorem frame_reference16 : Cert.quiescent_Reference16Ideal (hReference16Ideal := Cert.Reference16Ideal.Gen.facts) := fun m ρ _ =>
  (θ_run Cert.Reference16Ideal.defs _ _).mono (fun r h => ⟨fun c => (h c).2, sem_eq_zero_of_no_sems (by decide) r.2⟩) (Cert.Reference16Ideal.Value.run (F := Ideal) m ρ)
theorem preserves16 : Cert.preserves_Kernel16_Kernel16Ideal := trivial
theorem algebraic16 : Cert.algebraic_Kernel16Ideal_Reference16Ideal (hKernel16Ideal := Cert.Kernel16Ideal.Gen.facts)
    (hReference16Ideal := Cert.Reference16Ideal.Gen.facts) := by
  intro m ρ m' ρ' _ hagree
  refine ⟨fun c => fun j : Cert.Kernel16Ideal.S4096x4096.Idx => (∑ k, Cert.Kernel16Ideal.Value.u m c (j 0) k * Cert.Kernel16Ideal.Value.w m c k (j 1) : EReal), ?_, ?_⟩
  · exact (θ_run Cert.Kernel16Ideal.defs _ _).mono (fun r h c => ⟨(h c).1.trans (Cert.Kernel16Ideal.Value.arr2 m c), (h c).2⟩) (Cert.Kernel16Ideal.Value.run_blocks (F := Ideal) m ρ)
  · refine (θ_run Cert.Reference16Ideal.defs _ _).mono (fun r h c => ?_) (Cert.Reference16Ideal.Value.run (F := Ideal) m' ρ')
    obtain ⟨e, hargs⟩ := h c
    obtain ⟨a0, a1⟩ := hagree c
    refine ⟨e.trans ((Cert.Reference16Ideal.Read.val_main_v0_eq _ _ ).trans ((Cert.Reference16Ideal.Value.out0 _ _ ).trans ?_)), hargs⟩
    rw [a0, a1]
    rfl

/-! Forward: the state-space mixer's input product. -/
theorem frame_kernel17 : Cert.quiescent_Kernel17 (hKernel17 := Cert.Kernel17.Gen.facts) := fun m ρ _ => Cert.Kernel17.Gen.frame m ρ
theorem frame_ideal17 : Cert.quiescent_Kernel17Ideal (hKernel17Ideal := Cert.Kernel17Ideal.Gen.facts) := fun m ρ _ => Cert.Kernel17Ideal.Gen.frame m ρ
theorem frame_reference17 : Cert.quiescent_Reference17Ideal (hReference17Ideal := Cert.Reference17Ideal.Gen.facts) := fun m ρ _ =>
  (θ_run Cert.Reference17Ideal.defs _ _).mono (fun r h => ⟨fun c => (h c).2, sem_eq_zero_of_no_sems (by decide) r.2⟩) (Cert.Reference17Ideal.Value.run (F := Ideal) m ρ)
theorem preserves17 : Cert.preserves_Kernel17_Kernel17Ideal := trivial
theorem algebraic17 : Cert.algebraic_Kernel17Ideal_Reference17Ideal (hKernel17Ideal := Cert.Kernel17Ideal.Gen.facts)
    (hReference17Ideal := Cert.Reference17Ideal.Gen.facts) := by
  intro m ρ m' ρ' _ hagree
  refine ⟨fun c => fun j : Cert.Kernel17Ideal.S4096x4096.Idx => (∑ k, Cert.Kernel17Ideal.Value.u m c (j 0) k * Cert.Kernel17Ideal.Value.w m c k (j 1) : EReal), ?_, ?_⟩
  · exact (θ_run Cert.Kernel17Ideal.defs _ _).mono (fun r h c => ⟨(h c).1.trans (Cert.Kernel17Ideal.Value.arr2 m c), (h c).2⟩) (Cert.Kernel17Ideal.Value.run_blocks (F := Ideal) m ρ)
  · refine (θ_run Cert.Reference17Ideal.defs _ _).mono (fun r h c => ?_) (Cert.Reference17Ideal.Value.run (F := Ideal) m' ρ')
    obtain ⟨e, hargs⟩ := h c
    obtain ⟨a0, a1⟩ := hagree c
    refine ⟨e.trans ((Cert.Reference17Ideal.Read.val_main_v1_eq _ _ ).trans ((Cert.Reference17Ideal.Value.out1 _ _ ).trans ?_)), hargs⟩
    rw [a0, a1]
    rfl

/-! Forward: the state-space mixer's gate's product. -/
theorem frame_kernel18 : Cert.quiescent_Kernel18 (hKernel18 := Cert.Kernel18.Gen.facts) := fun m ρ _ => Cert.Kernel18.Gen.frame m ρ
theorem frame_ideal18 : Cert.quiescent_Kernel18Ideal (hKernel18Ideal := Cert.Kernel18Ideal.Gen.facts) := fun m ρ _ => Cert.Kernel18Ideal.Gen.frame m ρ
theorem frame_reference18 : Cert.quiescent_Reference18Ideal (hReference18Ideal := Cert.Reference18Ideal.Gen.facts) := fun m ρ _ =>
  (θ_run Cert.Reference18Ideal.defs _ _).mono (fun r h => ⟨fun c => (h c).2, sem_eq_zero_of_no_sems (by decide) r.2⟩) (Cert.Reference18Ideal.Value.run (F := Ideal) m ρ)
theorem preserves18 : Cert.preserves_Kernel18_Kernel18Ideal := trivial
theorem algebraic18 : Cert.algebraic_Kernel18Ideal_Reference18Ideal (hKernel18Ideal := Cert.Kernel18Ideal.Gen.facts)
    (hReference18Ideal := Cert.Reference18Ideal.Gen.facts) := by
  intro m ρ m' ρ' _ hagree
  refine ⟨fun c => fun j : Cert.Kernel18Ideal.S4096x2048.Idx => (∑ k, Cert.Kernel18Ideal.Value.u m c (j 0) k * Cert.Kernel18Ideal.Value.w m c k (j 1) : EReal), ?_, ?_⟩
  · exact (θ_run Cert.Kernel18Ideal.defs _ _).mono (fun r h c => ⟨(h c).1.trans (Cert.Kernel18Ideal.Value.arr2 m c), (h c).2⟩) (Cert.Kernel18Ideal.Value.run_blocks (F := Ideal) m ρ)
  · refine (θ_run Cert.Reference18Ideal.defs _ _).mono (fun r h c => ?_) (Cert.Reference18Ideal.Value.run (F := Ideal) m' ρ')
    obtain ⟨e, hargs⟩ := h c
    obtain ⟨a0, a1⟩ := hagree c
    refine ⟨e.trans ((Cert.Reference18Ideal.Read.val_main_v1_eq _ _ ).trans ((Cert.Reference18Ideal.Value.out1 _ _ ).trans ?_)), hargs⟩
    rw [a0, a1]
    rfl

/-! Forward: a mixer's output product, added to the residual stream. -/
theorem frame_kernel19 : Cert.quiescent_Kernel19 (hKernel19 := Cert.Kernel19.Gen.facts) := fun m ρ _ => Cert.Kernel19.Gen.frame m ρ
theorem frame_ideal19 : Cert.quiescent_Kernel19Ideal (hKernel19Ideal := Cert.Kernel19Ideal.Gen.facts) := fun m ρ _ => Cert.Kernel19Ideal.Gen.frame m ρ
theorem frame_reference19 : Cert.quiescent_Reference19Ideal (hReference19Ideal := Cert.Reference19Ideal.Gen.facts) := fun m ρ _ =>
  (θ_run Cert.Reference19Ideal.defs _ _).mono (fun r h => ⟨fun c => (h c).2, sem_eq_zero_of_no_sems (by decide) r.2⟩) (Cert.Reference19Ideal.Value.run (F := Ideal) m ρ)
theorem preserves19 : Cert.preserves_Kernel19_Kernel19Ideal := trivial
theorem algebraic19 : Cert.algebraic_Kernel19Ideal_Reference19Ideal (hKernel19Ideal := Cert.Kernel19Ideal.Gen.facts)
    (hReference19Ideal := Cert.Reference19Ideal.Gen.facts) := by
  intro m ρ m' ρ' _ hagree
  refine ⟨fun c => fun j : Cert.Kernel19Ideal.S4096x1024.Idx => prod2 (Cert.Kernel19Ideal.Value.o m c) (Cert.Kernel19Ideal.Value.w m c) (j 0) (j 1) + Cert.Kernel19Ideal.Value.res m c (j 0) (j 1), ?_, ?_⟩
  · exact (θ_run Cert.Kernel19Ideal.defs _ _).mono (fun r h c => ⟨(h c).1.trans (Cert.Kernel19Ideal.Value.arr3 m c), (h c).2⟩) (Cert.Kernel19Ideal.Value.run_blocks (F := Ideal) m ρ)
  · refine (θ_run Cert.Reference19Ideal.defs _ _).mono (fun r h c => ?_) (Cert.Reference19Ideal.Value.run (F := Ideal) m' ρ')
    obtain ⟨e, hargs⟩ := h c
    obtain ⟨a0, a1, a2⟩ := hagree c
    refine ⟨e.trans ((Cert.Reference19Ideal.Read.val_main_v1_eq _ _ _ ).trans ((Cert.Reference19Ideal.Value.out1 _ _ _ ).trans ?_)), hargs⟩
    rw [a0, a1, a2]
    rfl

end Cert.Proof.MoreProducts
-- ==== Proof.UpRun.lean ====
module

public import proofs.«01_k».proof.Defs
public import proofs.«01_k».proof.Proof.Gen.Kernel21Ideal.Frame
public import proofs.«01_k».proof.Proof.Gen.Reference21Ideal.Run
public import Idealize.ShloMosaic.Lib.Exec

/-! The body of the SwiGLU forward kernel, run once for each kind of grid point, over any interpretation of the floats.

    A tile of 512 rows is visited at four points, one for each block of 704 hidden columns. At the first the body norms
    the rows, stores them and clears the accumulator; at every one it takes both projections, their gated product, and
    adds the product with the third weight to the accumulator; at the last it stores the rows plus the accumulator. -/

@[expose] public section
set_option maxRecDepth 16384
noncomputable section
namespace Cert.Kernel21Ideal.Up
open Cert.Kernel21Ideal Cert.Kernel21Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

variable (c : Dev nD) (i : grid0.Coords)
  (arg2 : Memref sig .tc .vmem S512x1024 .f32) (harg2 : arg2.IsWhole)
  (arg3 : Memref sig .tc .vmem S1x1024 .f32) (harg3 : arg3.IsWhole)
  (arg4 : Memref sig .tc .vmem S1x704x1024 .bf16) (harg4 : arg4.IsWhole)
  (arg5 : Memref sig .tc .vmem S1x704x1024 .bf16) (harg5 : arg5.IsWhole)
  (arg6 : Memref sig .tc .vmem S1x704x1024 .bf16) (harg6 : arg6.IsWhole)
  (arg7 : Memref sig .tc .vmem S512x1024 .f32) (harg7 : arg7.IsWhole)
  (arg8 : Memref sig .tc .vmem S512x1024 .bf16) (harg8 : arg8.IsWhole)
  (arg9 : Memref sig .tc .vmem S1x512x704 .bf16) (harg9 : arg9.IsWhole)
  (arg10 : Memref sig .tc .vmem S1x512x704 .bf16) (harg10 : arg10.IsWhole)
  (arg11 : Memref sig .tc .vmem S1x512x704 .bf16) (harg11 : arg11.IsWhole)
  (arg12 : Memref sig .tc .vmem S512x1024 .f32) (harg12 : arg12.IsWhole)
  (x0 : Vec F S512x1024 .f32) (x1 : Vec F S1x1024 .f32) (x2 x3 x4 : Vec F S1x704x1024 .bf16)

/-- At the first point of a tile: what the body stores, as pieces (the last first), and that it runs to them. -/
def runA (hc0 : k0_cond1 i = 1#1) (hc1 : ¬k0_cond2 i = 1#1) :
    Σ' (L8 : List (View.Piece (Elt F) S512x1024 .bf16)), Σ' (L9 : List (View.Piece (Elt F) S1x512x704 .bf16)), Σ' (L10 : List (View.Piece (Elt F) S1x512x704 .bf16)), Σ' (L11 : List (View.Piece (Elt F) S1x512x704 .bf16)), { LS : List (View.Piece (Elt F) S512x1024 .f32) //
      ∀ (xi : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f LS)) -∗ K ⟨⟩))
          ⊢ wp frame (wpE (defs₀ (F := F)) Variants.none c none) E (cc0_ffn_fwd_0 i arg2 harg2 arg3 harg3 arg4 harg4 arg5 harg5 arg6 harg6 arg7 harg7 arg8 harg8 arg9 harg9 arg10 harg10 arg11 harg11 arg12 harg12) K } := by
  refine ⟨?_, ?_, ?_, ?_, ?_, fun xi E K => ?run⟩
  case run =>
    sl_unfold [cc0_ffn_fwd_0, k0_part1, k0_part2]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [H9]; · iexists _; iexact H9
    isplitl [H10]; · iexists _; iexact H10
    isplitl [H11]; · iexists _; iexact H11
    iexists _; iexact H12

/-- At a point between: the normed rows are read and stay. -/
def runB (hc0 : ¬k0_cond1 i = 1#1) (hc1 : ¬k0_cond2 i = 1#1) (x6 : Vec F S512x1024 .bf16) (xs : Vec F S512x1024 .f32) :
    Σ' (L9 : List (View.Piece (Elt F) S1x512x704 .bf16)), Σ' (L10 : List (View.Piece (Elt F) S1x512x704 .bf16)), Σ' (L11 : List (View.Piece (Elt F) S1x512x704 .bf16)), { LS : List (View.Piece (Elt F) S512x1024 .f32) //
      ∀ (xi : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ owns (c : Thread nD τ) arg8 fullShare x6 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f LS)) -∗ K ⟨⟩))
          ⊢ wp frame (wpE (defs₀ (F := F)) Variants.none c none) E (cc0_ffn_fwd_0 i arg2 harg2 arg3 harg3 arg4 harg4 arg5 harg5 arg6 harg6 arg7 harg7 arg8 harg8 arg9 harg9 arg10 harg10 arg11 harg11 arg12 harg12) K } := by
  refine ⟨?_, ?_, ?_, ?_, fun xi E K => ?run⟩
  case run =>
    sl_unfold [cc0_ffn_fwd_0, k0_part1, k0_part2]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg12.eq_unread hf12
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]; · iexists _; iexact H11
    iexists _; iexact H12

/-- At the last point of a tile: the result is stored too. -/
def runC (hc0 : ¬k0_cond1 i = 1#1) (hc1 : k0_cond2 i = 1#1) (x6 : Vec F S512x1024 .bf16) (xs : Vec F S512x1024 .f32) :
    Σ' (L7 : List (View.Piece (Elt F) S512x1024 .f32)), Σ' (L9 : List (View.Piece (Elt F) S1x512x704 .bf16)), Σ' (L10 : List (View.Piece (Elt F) S1x512x704 .bf16)), Σ' (L11 : List (View.Piece (Elt F) S1x512x704 .bf16)), { LS : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L7) ∗ owns (c : Thread nD τ) arg8 fullShare x6 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f LS)) -∗ K ⟨⟩))
          ⊢ wp frame (wpE (defs₀ (F := F)) Variants.none c none) E (cc0_ffn_fwd_0 i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    sl_unfold [cc0_ffn_fwd_0, k0_part1, k0_part2]
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, ⟨%d10, %f10, -, H10⟩, ⟨%d11, %f11, -, H11⟩, ⟨%f12, %hf12, H12⟩, Hk⟩
    obtain rfl := harg2.eq_unread hf2; obtain rfl := harg3.eq_unread hf3; obtain rfl := harg4.eq_unread hf4; obtain rfl := harg5.eq_unread hf5; obtain rfl := harg6.eq_unread hf6; obtain rfl := harg8.eq_unread hf8; obtain rfl := harg12.eq_unread hf12
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]
    · iexists _; isplitr; · ipureintro; exact harg8.read_unread _
      iexact H8
    isplitl [H9]; · iexists _; iexact H9
    isplitl [H10]; · iexists _; iexact H10
    isplitl [H11]; · iexists _; iexact H11
    iexists _; iexact H12

end Cert.Kernel21Ideal.Up
end
-- ==== Proof.UpBody.lean ====
module

public import proofs.«01_k».proof.Proof.UpRun
public import Idealize.ShloMosaic.Lib.Pipeline.TableIdle
public import Idealize.ShloMosaic.Lib.Claim

/-! The SwiGLU forward kernel over its grid: what every point leaves in the staging buffers and in the accumulator, the
    body's triple at every point, and the launch. A point that does not begin a tile finds the normed rows where the
    tile's first point left them. -/

@[expose] public section
set_option maxRecDepth 16384
noncomputable section
namespace Cert.Kernel21Ideal.Up
open Cert.Kernel21Ideal Cert.Kernel21Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

/-- The accumulator. -/
abbrev scr : Memref sig .tc .vmem S512x1024 .f32 := Memref.whole cc0_scratch0

/-- The two branches in closed form: a tile's first point, and its last. -/
theorem first_iff (t : Fin cfg0.N) : k0_cond1 (grid0.coords t) = 1#1 ↔ t.val % 4 = 0 :=
  (by decide +kernel : ∀ t : Fin grid0.N, k0_cond1 (grid0.coords t) = 1#1 ↔ t.val % 4 = 0) t
theorem last_iff (t : Fin cfg0.N) : k0_cond2 (grid0.coords t) = 1#1 ↔ t.val % 4 = 3 :=
  (by decide +kernel : ∀ t : Fin grid0.N, k0_cond2 (grid0.coords t) = 1#1 ↔ t.val % 4 = 3) t

/-- What a point leaves: the result's rows (stored at a tile's last point only), the normed rows, the two projections
    and their gated product, and the accumulator. -/
structure Left (F : FTy → Type) [FloatOps F] where
  h2 : Vec F S512x1024 .f32
  u : Vec F S512x1024 .bf16
  g : Vec F S1x512x704 .bf16
  up : Vec F S1x512x704 .bf16
  a : Vec F S1x512x704 .bf16
  acc : Vec F S512x1024 .f32

variable (m : (ℓ : Loc nD τ sig) → Buf (Elt F) ℓ) (ρ : Dev nD → PrngReg)

section
variable (c : Dev nD) (t : Fin cfg0.N)

/-- The body's run at a point, on the point's blocks. -/
abbrev rA (h0 : t.val % 4 = 0) :=
  runA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) scr (Memref.isWhole_whole _)
    (iblk m c 0 t) (iblk m c 1 t) (iblk m c 2 t) (iblk m c 3 t) (iblk m c 4 t) ((first_iff t).mpr h0) (fun h => by have := (last_iff t).mp h; omega)
abbrev rB (h0 : ¬t.val % 4 = 0) (h1 : ¬t.val % 4 = 3) (u : Vec F S512x1024 .bf16) (P : Vec F S512x1024 .f32) :=
  runB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) scr (Memref.isWhole_whole _)
    (iblk m c 0 t) (iblk m c 1 t) (iblk m c 2 t) (iblk m c 3 t) (iblk m c 4 t) (fun h => h0 ((first_iff t).mp h)) (fun h => h1 ((last_iff t).mp h)) u P
abbrev rC (h1 : t.val % 4 = 3) (u : Vec F S512x1024 .bf16) (P : Vec F S512x1024 .f32) :=
  runC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) scr (Memref.isWhole_whole _)
    (iblk m c 0 t) (iblk m c 1 t) (iblk m c 2 t) (iblk m c 3 t) (iblk m c 4 t) (fun h => by have := (first_iff t).mp h; omega) ((last_iff t).mpr h1) u P

def leftA (h0 : t.val % 4 = 0) : Left F where
  h2 := View.canon []
  u := View.canon (rA m c t h0).1
  g := View.canon (rA m c t h0).2.1
  up := View.canon (rA m c t h0).2.2.1
  a := View.canon (rA m c t h0).2.2.2.1
  acc := View.canon (rA m c t h0).2.2.2.2.1
def leftB (h0 : ¬t.val % 4 = 0) (h1 : ¬t.val % 4 = 3) (p : Left F) : Left F where
  h2 := View.canon []
  u := p.u
  g := View.canon (rB m c t h0 h1 p.u p.acc).1
  up := View.canon (rB m c t h0 h1 p.u p.acc).2.1
  a := View.canon (rB m c t h0 h1 p.u p.acc).2.2.1
  acc := View.canon (rB m c t h0 h1 p.u p.acc).2.2.2.1
def leftC (h1 : t.val % 4 = 3) (p : Left F) : Left F where
  h2 := View.canon (rC m c t h1 p.u p.acc).1
  u := p.u
  g := View.canon (rC m c t h1 p.u p.acc).2.1
  up := View.canon (rC m c t h1 p.u p.acc).2.2.1
  a := View.canon (rC m c t h1 p.u p.acc).2.2.2.1
  acc := View.canon (rC m c t h1 p.u p.acc).2.2.2.2.1
theorem leftB_u (h0 : ¬t.val % 4 = 0) (h1 : ¬t.val % 4 = 3) (p : Left F) : (leftB m c t h0 h1 p).u = p.u := rfl
theorem leftC_u (h1 : t.val % 4 = 3) (p : Left F) : (leftC m c t h1 p).u = p.u := by delta leftC; exact rfl
end

/-- What point `n` leaves, from what the point before left. -/
def left (c : Dev nD) : (n : ℕ) → n < cfg0.N → Left F
  | 0, h => leftA m c ⟨0, h⟩ rfl
  | n + 1, h =>
    if h0 : (n + 1) % 4 = 0 then leftA m c ⟨n + 1, h⟩ h0
    else if h1 : (n + 1) % 4 = 3 then leftC m c ⟨n + 1, h⟩ h1 (left c n (Nat.lt_of_succ_lt h))
    else leftB m c ⟨n + 1, h⟩ h0 h1 (left c n (Nat.lt_of_succ_lt h))

/-- What point `t` leaves, and what the point before it left. -/
abbrev now (c : Dev nD) (t : Fin cfg0.N) : Left F := left m c t.val t.isLt
abbrev prev (c : Dev nD) (t : Fin cfg0.N) : Left F := left m c (t.val - 1) (Nat.lt_of_le_of_lt (Nat.sub_le _ _) t.isLt)

theorem now_A (c : Dev nD) (t : Fin cfg0.N) (h0 : t.val % 4 = 0) : now m c t = leftA m c t h0 := by
  obtain ⟨n, hn⟩ := t
  cases n with
  | zero => rfl
  | succ n => exact dif_pos h0
theorem now_B (c : Dev nD) (t : Fin cfg0.N) (h0 : ¬t.val % 4 = 0) (h1 : ¬t.val % 4 = 3) : now m c t = leftB m c t h0 h1 (prev m c t) := by
  obtain ⟨n, hn⟩ := t
  cases n with
  | zero => exact absurd rfl h0
  | succ n => exact (dif_neg h0).trans (dif_neg h1)
theorem now_C (c : Dev nD) (t : Fin cfg0.N) (h1 : t.val % 4 = 3) : now m c t = leftC m c t h1 (prev m c t) := by
  obtain ⟨n, hn⟩ := t
  cases n with
  | zero => exact absurd h1 (by show ¬(0 : ℕ) % 4 = 3; decide)
  | succ n => exact (dif_neg (by show ¬(n + 1) % 4 = 0; have : (n + 1) % 4 = 3 := h1; omega)).trans (dif_pos h1)

/-- The normed rows stay through a tile. -/
theorem now_u (c : Dev nD) (t : Fin cfg0.N) (h0 : ¬t.val % 4 = 0) : (now m c t).u = (prev m c t).u := by
  by_cases h1 : t.val % 4 = 3
  · rw [now_C m c t h1, leftC_u]
  · rw [now_B m c t h0 h1, leftB_u]

/-! ## The proof data -/

/-- Before point `n`: at first the scratch at anything, then the accumulator at what the point before left. -/
def inv (c : Dev nD) : (n : ℕ) → n ≤ cfg0.N → sProp 𝕄
  | 0, _ => Pipeline.ΦA spec0 c
  | n + 1, hn => iprop(owns (c : Thread nD τ) scr fullShare (left m c n hn).acc ∗ (∃ r, prngReg c r))

theorem entry_eq (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl
theorem inv_pos (c : Dev nD) (n : ℕ) (h : n ≤ cfg0.N) (hz : n ≠ 0) :
    inv m c n h = iprop(owns (c : Thread nD τ) scr fullShare (left m c (n - 1) (by omega)).acc ∗ (∃ r, prngReg c r)) := by
  cases n with
  | zero => exact absurd rfl hz
  | succ n => rfl
/-- At any point the accumulator holds something. -/
theorem inv_any (c : Dev nD) (n : ℕ) (h : n ≤ cfg0.N) :
    inv m c n h ⊢ iprop((∃ d, owns (c : Thread nD τ) scr fullShare d) ∗ (∃ r, prngReg c r)) := by
  cases n with
  | zero => rw [← entry_eq]; exact Idealize.SL.BI.Entails.refl _
  | succ n =>
    rw [inv_pos m c (n + 1) h (Nat.succ_ne_zero n)]
    iintro ⟨HS, Hg⟩
    isplitl [HS]
    · iexists _; iexact HS
    iexact Hg

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (now m c t).h2
    | ⟨6, _⟩ => (now m c t).u
    | ⟨7, _⟩ => (now m c t).g
    | ⟨8, _⟩ => (now m c t).up
    | ⟨9, _⟩ => (now m c t).a
  Φ t := inv m c t.val (Nat.le_of_lt_succ t.isLt)
  q _ := fullShare
  owed _ := 0

theorem A_eq (c : Dev nD) (w : Fin cfg0.W) : (dats m 0 c).A w = V m c (Pipeline.arrRef spec0 w) := by dsimp only [dats]
theorem inv_at (c : Dev nD) (t : Fin cfg0.N) : (dats m 0 c).Φ t.castSucc = inv m c t.val (Nat.le_of_lt t.isLt) := by
  dsimp only [dats]; exact Pipeline.Dat.Φ_castSucc (inv m c) t
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (now m c t).h2 := by dsimp only [dats]
theorem after6 (c : Dev nD) (t : Fin cfg0.N) : (dats m 0 c).after 6 t = (now m c t).u := by dsimp only [dats]
theorem after7 (c : Dev nD) (t : Fin cfg0.N) : (dats m 0 c).after 7 t = (now m c t).g := by dsimp only [dats]
theorem after8 (c : Dev nD) (t : Fin cfg0.N) : (dats m 0 c).after 8 t = (now m c t).up := by dsimp only [dats]
theorem after9 (c : Dev nD) (t : Fin cfg0.N) : (dats m 0 c).after 9 t = (now m c t).a := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- Whether the normed rows' buffer is fresh: at a tile's first point. -/
def freshTab (n : ℕ) : Bool := n % 4 == 0
theorem fresh_eq (t : Fin cfg0.N) : cfg0.fresh 6 t.val = freshTab t.val :=
  Pipeline.Cfg.fresh_tab cfg0 6 freshTab rfl (by decide +kernel) t.val (Nat.le_of_lt t.isLt)
theorem idle6 (t : Fin cfg0.N) : cfg0.idle 6 (grid0.coords t) = true ↔ ¬t.val % 4 = 0 :=
  (by decide +kernel : ∀ t : Fin cfg0.N, cfg0.idle 6 (grid0.coords t) = true ↔ ¬t.val % 4 = 0) t
theorem idle5 (t : Fin cfg0.N) : cfg0.idle 5 (grid0.coords t) = true ↔ ¬t.val % 4 = 3 :=
  (by decide +kernel : ∀ t : Fin cfg0.N, cfg0.idle 5 (grid0.coords t) = true ↔ ¬t.val % 4 = 3) t

/-- Past a tile's first point the buffer holds the normed rows. -/
theorem before6 (c : Dev nD) (t : Fin cfg0.N) (h0 : ¬t.val % 4 = 0) (d) : (dats m 0 c).before 6 t d = (prev m c t).u := by
  rw [Dat.before_out_traj _ 6 rfl (fun _ _ => rfl) (fun s hs hi hf => ?_) t.val t rfl d, if_neg ?_]
  · dsimp only [dats]
  · rw [fresh_eq]; simp only [freshTab, beq_iff_eq]; exact h0
  · rw [after6, after6]; exact now_u m c s ((idle6 s).mp hi)

/-! ## The body at every point -/

/-- A window that is live at a point is left at the proof data's contents. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]
/-- So is one that the point writes back. -/
theorem leaves_flushed (c : Dev nD) (w : Fin cfg0.W) (t : Fin cfg0.N) (h : (cfg0.win w).flush t = true) :
    (dats m 0 c).leavesExact w t = owns (c : Thread nD τ) ((cfg0.win w).stage (cfg0.slots t w)) fullShare ((dats m 0 c).after w t) := by
  unfold Dat.leavesExact
  cases cfg0.idle w (cfg0.grid.coords t)
  · rfl
  · rw [h]

/-- A buffer with pieces written that cover it is owned at what they make of it. -/
theorem owns_pieces {S : Shape} {e : EltTy} (c : Dev nD) (arg : Memref sig .tc .vmem S e) (L : List (View.Piece (Elt F) S e))
    (h : ∀ y, ∃ p ∈ L, y ∈ p.1.set) :
    iprop(∃ f, arg.view.loc (c : Thread nD τ) ↦[arg.view.set]{fullShare} arg.view.writes (Elt F) f L) ⊢ (owns (c : Thread nD τ) arg fullShare (View.canon L) : sProp 𝕄) := by
  iintro ⟨%f, H⟩
  unfold owns; iexists _; isplitr
  swap; · iexact H
  ipureintro; exact View.read_writes_eq_canon _ _ _ h

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
/-- A tile's first point. -/
theorem soundA (c : Dev nD) (t : Fin cfg0.N) (h0 : t.val % 4 = 0) :
    bodyPre m c t ⊢ wp frame (wpE (defs₀ (F := F)) Variants.none c none) Set.univ (bodyAt0 t) (fun _ => bodyPost m c t) := by
  have h1 : ¬t.val % 4 = 3 := by omega
  unfold bodyPre bodyPost bodyAt0
  simp only [before0, before1, before2, before3, before4]
  rw [show (dats m 0 c).owesAt () t.succ = (dats m 0 c).owesAt () t.castSucc from rfl,
    show (dats m 0 c).Φ t.succ = iprop(owns (c : Thread nD τ) scr fullShare (now m c t).acc ∗ (∃ r, prngReg c r)) from rfl, inv_at]
  rw [leaves_live m c 0 t rfl, after0, leaves_live m c 1 t rfl, after1, leaves_live m c 2 t rfl, after2, leaves_live m c 3 t rfl, after3, leaves_live m c 4 t rfl, after4, leaves_live m c 7 t rfl, after7, leaves_live m c 8 t rfl, after8, leaves_live m c 9 t rfl, after9,
    Dat.leavesExact_idle (dats m 0 c) 5 t ((idle5 t).mpr h1) (Bool.eq_false_iff.mpr fun h => h1 ((flush0_5 t).mp h)), leaves_live m c 6 t (Bool.eq_false_iff.mpr fun h => (idle6 t).mp h h0), after6, now_A m c t h0]
  unfold leftA; dsimp only
  refine (sep_mono_left (inv_any m c _ _)).trans ?_
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((rA m c t h0).2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS]; · iexact HS
  iintro ⟨H0, H1, H2, H3, H4, H5, H6, H7, H8, H9, HS⟩
  isplitl [HS Hg]
  · isplitl [HS]
    · iapply (owns_pieces c _ _ (View.cover_of_tiledL _ ![256, 1024] (by sl_kernel_rfl))); iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iapply (owns_pieces c _ _ (View.cover_of_tiledL _ ![512, 1024] (by sl_kernel_rfl))); iexact H6
  isplitl [H7]; · iapply (owns_pieces c _ _ (View.cover_of_tiledL _ ![1, 256, 704] (by sl_kernel_rfl))); iexact H7
  isplitl [H8]; · iapply (owns_pieces c _ _ (View.cover_of_tiledL _ ![1, 256, 704] (by sl_kernel_rfl))); iexact H8
  iapply (owns_pieces c _ _ (View.cover_of_tiledL _ ![1, 256, 704] (by sl_kernel_rfl)))
  iexact H9

set_option maxHeartbeats 4000000 in
/-- A point between. -/
theorem soundB (c : Dev nD) (t : Fin cfg0.N) (h0 : ¬t.val % 4 = 0) (h1 : ¬t.val % 4 = 3) :
    bodyPre m c t ⊢ wp frame (wpE (defs₀ (F := F)) Variants.none c none) Set.univ (bodyAt0 t) (fun _ => bodyPost m c t) := by
  unfold bodyPre bodyPost bodyAt0
  simp only [before0, before1, before2, before3, before4, before6 m c t h0]
  rw [show (dats m 0 c).owesAt () t.succ = (dats m 0 c).owesAt () t.castSucc from rfl,
    show (dats m 0 c).Φ t.succ = iprop(owns (c : Thread nD τ) scr fullShare (now m c t).acc ∗ (∃ r, prngReg c r)) from rfl, inv_at, inv_pos m c _ _ (fun h => h0 (by rw [h]))]
  rw [leaves_live m c 0 t rfl, after0, leaves_live m c 1 t rfl, after1, leaves_live m c 2 t rfl, after2, leaves_live m c 3 t rfl, after3, leaves_live m c 4 t rfl, after4, leaves_live m c 7 t rfl, after7, leaves_live m c 8 t rfl, after8, leaves_live m c 9 t rfl, after9,
    Dat.leavesExact_idle (dats m 0 c) 5 t ((idle5 t).mpr h1) (Bool.eq_false_iff.mpr fun h => h1 ((flush0_5 t).mp h)),
    Dat.leavesExact_idle (dats m 0 c) 6 t ((idle6 t).mpr h0) (Bool.eq_false_iff.mpr fun h => h1 ((flush0_6 t).mp h)), now_B m c t h0 h1]
  simp only [before6 m c t h0]
  unfold leftB; dsimp only
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((rB m c t h0 h1 (prev m c t).u (prev m c t).acc).2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HS]; · iexact HS
  iintro ⟨H0, H1, H2, H3, H4, H5, H6, H7, H8, H9, HS⟩
  isplitl [HS Hg]
  · isplitl [HS]
    · iapply (owns_pieces c _ _ (View.cover_of_tiledL _ ![256, 1024] (by sl_kernel_rfl))); iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists d6; iexact H6
  isplitl [H7]; · iapply (owns_pieces c _ _ (View.cover_of_tiledL _ ![1, 256, 704] (by sl_kernel_rfl))); iexact H7
  isplitl [H8]; · iapply (owns_pieces c _ _ (View.cover_of_tiledL _ ![1, 256, 704] (by sl_kernel_rfl))); iexact H8
  iapply (owns_pieces c _ _ (View.cover_of_tiledL _ ![1, 256, 704] (by sl_kernel_rfl)))
  iexact H9

set_option maxHeartbeats 4000000 in
/-- A tile's last point. -/
theorem soundC (c : Dev nD) (t : Fin cfg0.N) (h1 : t.val % 4 = 3) :
    bodyPre m c t ⊢ wp frame (wpE (defs₀ (F := F)) Variants.none c none) Set.univ (bodyAt0 t) (fun _ => bodyPost m c t) := by
  have h0 : ¬t.val % 4 = 0 := by omega
  unfold bodyPre bodyPost bodyAt0
  simp only [before0, before1, before2, before3, before4, before6 m c t h0]
  rw [show (dats m 0 c).owesAt () t.succ = (dats m 0 c).owesAt () t.castSucc from rfl,
    show (dats m 0 c).Φ t.succ = iprop(owns (c : Thread nD τ) scr fullShare (now m c t).acc ∗ (∃ r, prngReg c r)) from rfl, inv_at, inv_pos m c _ _ (fun h => h0 (by rw [h]))]
  rw [leaves_live m c 0 t rfl, after0, leaves_live m c 1 t rfl, after1, leaves_live m c 2 t rfl, after2, leaves_live m c 3 t rfl, after3, leaves_live m c 4 t rfl, after4, leaves_live m c 7 t rfl, after7, leaves_live m c 8 t rfl, after8, leaves_live m c 9 t rfl, after9,
    leaves_live m c 5 t (Bool.eq_false_iff.mpr fun h => (idle5 t).mp h h1), after5, leaves_flushed m c 6 t ((flush0_6 t).mpr h1), after6, now_C m c t h1]
  unfold leftC; dsimp only
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((rC m c t h1 (prev m c t).u (prev m c t).acc).2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexists _; iexact H7
  isplitl [H8]; · iexists _; iexact H8
  isplitl [H9]; · iexists _; iexact H9
  isplitl [HS]; · iexact HS
  iintro ⟨H0, H1, H2, H3, H4, H5, H6, H7, H8, H9, HS⟩
  isplitl [HS Hg]
  · isplitl [HS]
    · iapply (owns_pieces c _ _ (View.cover_of_tiledL _ ![256, 1024] (by sl_kernel_rfl))); iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iapply (owns_pieces c _ _ (View.cover_of_tiledL _ ![512, 1024] (by sl_kernel_rfl))); iexact H5
  isplitl [H6]; · iexact H6
  isplitl [H7]; · iapply (owns_pieces c _ _ (View.cover_of_tiledL _ ![1, 256, 704] (by sl_kernel_rfl))); iexact H7
  isplitl [H8]; · iapply (owns_pieces c _ _ (View.cover_of_tiledL _ ![1, 256, 704] (by sl_kernel_rfl))); iexact H8
  iapply (owns_pieces c _ _ (View.cover_of_tiledL _ ![1, 256, 704] (by sl_kernel_rfl)))
  iexact H9

theorem sound (c : Dev nD) (t : Fin cfg0.N) :
    bodyPre m c t ⊢ wp frame (wpE (defs₀ (F := F)) Variants.none c none) Set.univ (bodyAt0 t) (fun _ => bodyPost m c t) := by
  by_cases h0 : t.val % 4 = 0
  · exact soundA m c t h0
  by_cases h1 : t.val % 4 = 3
  · exact soundC m c t h1
  · exact soundB m c t h0 h1

theorem body_row (t : Fin cfg0.N) : defs₀ (F := F) .tc cfg0.body (cfg0.bodyArgs t (cfg0.slots t)) = bodyAt0 t := by
  unfold defs₀; rw [Defs.onTc_tc]
theorem obligation (c : Dev nD) : BodyObligation (dats (F := F) m 0 c) (defs₀ (F := F)) Variants.none () Set.univ := fun t => by
  rw [bigSep_W0, bigSep_W0, body_row]
  exact triple_restated (sound m c t) rfl .rfl fun _ => .rfl

theorem enters (c : Dev nD) : Pipeline.ΦA spec0 c ⊢ (dats m 0 c).Φ 0 := by
  rw [show (dats m 0 c).Φ 0 = inv m c 0 (Nat.zero_le _) from rfl]
  exact Idealize.SL.BI.Entails.refl _
theorem leaves (c : Dev nD) : (dats m 0 c).Φ (Fin.last cfg0.N) ⊢ Pipeline.ΦA spec0 c := by
  rw [entry_eq, show (dats m 0 c).Φ (Fin.last cfg0.N) = inv m c cfg0.N (Nat.le_refl _) from rfl]; exact inv_any m c _ _

/-! ## The launch -/

set_option backward.isDefEq.respectTransparency.types false in
/-- Every run ends, with each array at what the proof data says and every counter at zero. -/
theorem run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enters m) (hout := leaves m)

/-- The arguments end as they began, and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run m ρ)))
    ((θ_run defs _ _).mono (fun _ h => h.2) (run m ρ))
end Cert.Kernel21Ideal.Up
end
-- ==== Proof.UpPoint.lean ====
module

public import proofs.«01_k».proof.Proof.UpBody
public import proofs.«01_k».proof.Proof.FSpec
public import proofs.«01_k».proof.Proof.KPoint
public import Idealize.ShloMosaic.Lib.Pipeline.ValueKit
public import Idealize.ShloMosaic.Lib.Pipeline.ReadBack
public import Idealize.ShloMosaic.Lib.Pointwise

/-! What each grid point of the SwiGLU forward kernel leaves, over the blocks that it reads and what the point before
    left. -/

@[expose] public section
set_option maxRecDepth 16384
noncomputable section
open Idealize.ShloMosaic Idealize.ShloMosaic.TcCoe Idealize.SL.Sem
open Idealize.ShloMosaic.Pipeline (Dat)
namespace Cert.Kernel21Ideal.Up
open Cert.Kernel21Ideal Cert.Kernel21Ideal.Gen Cert.Ffn
variable (m : (ℓ : Loc nD τ sig) → Buf (Elt Ideal) ℓ) (c : Dev nD) (t : Fin cfg0.N)
abbrev bH : Vec Ideal S512x1024 .f32 := iblk m c 0 t
abbrev bN : Vec Ideal S1x1024 .f32 := iblk m c 1 t
abbrev bG : Vec Ideal S1x704x1024 .bf16 := iblk m c 2 t
abbrev bU : Vec Ideal S1x704x1024 .bf16 := iblk m c 3 t
abbrev bD : Vec Ideal S1x704x1024 .bf16 := iblk m c 4 t

/-- A projection of the normed rows on one block of hidden columns, the gated product, and what it adds to the rows. -/
def hid (u : Fin 512 → Fin 1024 → EReal) (w : Fin 704 → Fin 1024 → EReal) (r : Fin 512) (f : Fin 704) : EReal := ∑ d, u r d * w f d
def act (u : Fin 512 → Fin 1024 → EReal) (wg wu : Fin 704 → Fin 1024 → EReal) (r : Fin 512) (f : Fin 704) : EReal :=
  silu (hid u wg r f) * hid u wu r f
def part (u : Fin 512 → Fin 1024 → EReal) (wg wu wd : Fin 704 → Fin 1024 → EReal) (r : Fin 512) (d : Fin 1024) : EReal :=
  ∑ f, act u wg wu r f * wd f d
/-- A point's normed rows and its blocks of the three weights. -/
abbrev tu (r : Fin 512) (d : Fin 1024) : EReal := (now m c t).u (ix2 r d)
abbrev tg (f : Fin 704) (d : Fin 1024) : EReal := bG m c t (ix3 0 f d)
abbrev tp (f : Fin 704) (d : Fin 1024) : EReal := bU m c t (ix3 0 f d)
abbrev td (f : Fin 704) (d : Fin 1024) : EReal := bD m c t (ix3 0 f d)

theorem kinds : t.val % 4 = 0 ∨ (¬t.val % 4 = 0 ∧ ¬t.val % 4 = 3) ∨ t.val % 4 = 3 := by omega

/-- The first projection. -/
theorem g_at (z : Fin 1) (r : Fin 512) (f : Fin 704) : (now m c t).g (ix3 z r f) = hid (tu m c t) (tg m c t) r f := by
  unfold hid
  dsimp only [tu, tg, tp, td, bH, bN, bG, bU, bD]
  obtain ⟨j, hj⟩ : ∃ j : S1x512x704.Idx, j = ix3 z r f := ⟨_, rfl⟩
  have hr : r.val = (j 1).val := by rw [hj]; rfl
  have hf : f.val = (j 2).val := by rw [hj]; rfl
  rw [← hj]
  clear hj
  rcases kinds t with h0 | ⟨h0, h1⟩ | h1
  on_goal 1 => rw [now_A m c t h0]; unfold leftA rA runA
  on_goal 2 => rw [now_B m c t h0 h1]; unfold leftB rB runB
  on_goal 3 => rw [now_C m c t h1]; unfold leftC rC runC
  all_goals
    frame_open
    try simp (disch := decide) only [↓ View.readCov_skip, ↓ View.readCov_cons_toLoadRect, ↓ View.readCov_fill]
    frame_out
    generalize iblk m c 0 t = H
    generalize iblk m c 1 t = N
    generalize iblk m c 2 t = G
    generalize iblk m c 3 t = W
    generalize iblk m c 4 t = D
    canon_tiles j h
    all_goals
      rw [h1] at hr
      rw [h2] at hf
      pointwise
      simp only [← hr, Fin.eta, silu, sigmoid, zero_sub, show j 2 = f from Fin.ext hf.symm]

/-- The second projection. -/
theorem up_at (z : Fin 1) (r : Fin 512) (f : Fin 704) : (now m c t).up (ix3 z r f) = hid (tu m c t) (tp m c t) r f := by
  unfold hid
  dsimp only [tu, tg, tp, td, bH, bN, bG, bU, bD]
  obtain ⟨j, hj⟩ : ∃ j : S1x512x704.Idx, j = ix3 z r f := ⟨_, rfl⟩
  have hr : r.val = (j 1).val := by rw [hj]; rfl
  have hf : f.val = (j 2).val := by rw [hj]; rfl
  rw [← hj]
  clear hj
  rcases kinds t with h0 | ⟨h0, h1⟩ | h1
  on_goal 1 => rw [now_A m c t h0]; unfold leftA rA runA
  on_goal 2 => rw [now_B m c t h0 h1]; unfold leftB rB runB
  on_goal 3 => rw [now_C m c t h1]; unfold leftC rC runC
  all_goals
    frame_open
    try simp (disch := decide) only [↓ View.readCov_skip, ↓ View.readCov_cons_toLoadRect, ↓ View.readCov_fill]
    frame_out
    generalize iblk m c 0 t = H
    generalize iblk m c 1 t = N
    generalize iblk m c 2 t = G
    generalize iblk m c 3 t = W
    generalize iblk m c 4 t = D
    canon_tiles j h
    all_goals
      rw [h1] at hr
      rw [h2] at hf
      pointwise
      simp only [← hr, Fin.eta, silu, sigmoid, zero_sub, show j 2 = f from Fin.ext hf.symm]

/-- The gated product. -/
theorem a_at (z : Fin 1) (r : Fin 512) (f : Fin 704) : (now m c t).a (ix3 z r f) = act (tu m c t) (tg m c t) (tp m c t) r f := by
  unfold act hid
  dsimp only [tu, tg, tp, td, bH, bN, bG, bU, bD]
  obtain ⟨j, hj⟩ : ∃ j : S1x512x704.Idx, j = ix3 z r f := ⟨_, rfl⟩
  have hr : r.val = (j 1).val := by rw [hj]; rfl
  have hf : f.val = (j 2).val := by rw [hj]; rfl
  rw [← hj]
  clear hj
  rcases kinds t with h0 | ⟨h0, h1⟩ | h1
  on_goal 1 => rw [now_A m c t h0]; unfold leftA rA runA
  on_goal 2 => rw [now_B m c t h0 h1]; unfold leftB rB runB
  on_goal 3 => rw [now_C m c t h1]; unfold leftC rC runC
  all_goals
    frame_open
    try simp (disch := decide) only [↓ View.readCov_skip, ↓ View.readCov_cons_toLoadRect, ↓ View.readCov_fill]
    frame_out
    generalize iblk m c 0 t = H
    generalize iblk m c 1 t = N
    generalize iblk m c 2 t = G
    generalize iblk m c 3 t = W
    generalize iblk m c 4 t = D
    canon_tiles j h
    all_goals
      rw [h1] at hr
      rw [h2] at hf
      pointwise
      simp only [← hr, Fin.eta, silu, sigmoid, zero_sub, show j 2 = f from Fin.ext hf.symm]

/-- The accumulator after a first point. -/
theorem acc_A (h0 : t.val % 4 = 0) (r : Fin 512) (d : Fin 1024) : (now m c t).acc (ix2 r d) = (0 : EReal) + part (tu m c t) (tg m c t) (tp m c t) (td m c t) r d := by
  unfold part act hid
  dsimp only [tu, tg, tp, td, bH, bN, bG, bU, bD]
  obtain ⟨j, hj⟩ : ∃ j : S512x1024.Idx, j = ix2 r d := ⟨_, rfl⟩
  have hr : r.val = (j 0).val := by rw [hj]; rfl
  have hd : d.val = (j 1).val := by rw [hj]; rfl
  rw [← hj]
  clear hj
  on_goal 1 => rw [now_A m c t h0]; unfold leftA rA runA
  all_goals
    frame_open
    try simp (disch := decide) only [↓ View.readCov_skip, ↓ View.readCov_cons_toLoadRect, ↓ View.readCov_fill]
    frame_out
    generalize iblk m c 0 t = H
    generalize iblk m c 1 t = N
    generalize iblk m c 2 t = G
    generalize iblk m c 3 t = W
    generalize iblk m c 4 t = D
    rw [Cert.KernelIdeal.Value.canon_take 2 _ _ (View.cover_of_tiledL _ ![256, 1024] (by sl_kernel_rfl) j)]
    simp only [List.take_succ_cons, List.take_zero]
    canon_tiles j h
    all_goals
      rw [h0] at hr
      rw [h1] at hd
      pointwise
      simp only [← hr, Fin.eta, silu, sigmoid, zero_sub, show j 1 = d from Fin.ext hd.symm]

/-- The accumulator after a later point. -/
theorem acc_B (h0 : ¬t.val % 4 = 0) (r : Fin 512) (d : Fin 1024) : (now m c t).acc (ix2 r d) = (prev m c t).acc (ix2 r d) + part (tu m c t) (tg m c t) (tp m c t) (td m c t) r d := by
  unfold part act hid
  dsimp only [tu, tg, tp, td, bH, bN, bG, bU, bD]
  obtain ⟨j, hj⟩ : ∃ j : S512x1024.Idx, j = ix2 r d := ⟨_, rfl⟩
  have hr : r.val = (j 0).val := by rw [hj]; rfl
  have hd : d.val = (j 1).val := by rw [hj]; rfl
  rw [← hj]
  clear hj
  by_cases h1 : t.val % 4 = 3
  on_goal 1 => rw [now_C m c t h1]; unfold leftC rC runC
  on_goal 2 => rw [now_B m c t h0 h1]; unfold leftB rB runB
  all_goals
    frame_open
    try simp (disch := decide) only [↓ View.readCov_skip, ↓ View.readCov_cons_toLoadRect, ↓ View.readCov_fill]
    frame_out
    generalize (prev m c t).acc = P
    generalize iblk m c 0 t = H
    generalize iblk m c 1 t = N
    generalize iblk m c 2 t = G
    generalize iblk m c 3 t = W
    generalize iblk m c 4 t = D
    canon_tiles j h
    all_goals
      rw [h0] at hr
      rw [h1] at hd
      pointwise
      simp only [← hr, Fin.eta, silu, sigmoid, zero_sub, show j 1 = d from Fin.ext hd.symm]
      exact congrArg (· + _) ((congrFun ((Memref.isWhole_whole cc0_scratch0).read_unread (Val := Elt Ideal) P) _).trans (congrArg P (by blk_ext)))

/-- The normed rows, stored at a first point. -/
theorem u_A (h0 : t.val % 4 = 0) (r : Fin 512) (d : Fin 1024) :
    (now m c t).u (ix2 r d) = nrm (fun j => bH m c t (ix2 r j)) (fun j => bN m c t (ix2 0 j)) d := by
  dsimp only [bH, bN]
  rw [now_A m c t h0]; unfold leftA rA runA
  frame_open
  frame_out
  generalize iblk m c 0 t = H
  generalize iblk m c 1 t = N
  pointwise
  simp only [ofBits_n, ofBits_eps]; rfl

/-- A load of the whole accumulator reads what the stores left. -/
theorem load_whole (L : List (View.Piece (Elt Ideal) S512x1024 .f32)) :
    (View.whole cc0_scratch0).readCov L (Rect.unit ![0, 0] ![512, 1024] inb_S512x1024_S512x1024_0_0).toLoadRect = View.canon L := by
  rw [View.readCov_eq_canon']
  exact funext fun j => congrArg (View.canon L) (funext fun a => Fin.ext (by
    match a with
    | ⟨0, _⟩ => exact (show 0 + 1 * (j 0).val = (j 0).val by omega)
    | ⟨1, _⟩ => exact (show 0 + 1 * (j 1).val = (j 1).val by omega)))

/-- The result, stored at a last point. -/
theorem h2_C (h1 : t.val % 4 = 3) (r : Fin 512) (d : Fin 1024) :
    (now m c t).h2 (ix2 r d) = bH m c t (ix2 r d) + (now m c t).acc (ix2 r d) := by
  dsimp only [bH]
  rw [now_C m c t h1]; unfold leftC rC runC
  frame_open
  try simp (disch := decide) only [↓ View.readCov_skip, ↓ View.readCov_cons_toLoadRect, ↓ View.readCov_fill]
  frame_out
  rw [load_whole]
  pointwise
end Cert.Kernel21Ideal.Up
-- ==== Proof.UpArr.lean ====
module

public import proofs.«01_k».proof.Proof.UpPoint
public import Idealize.ShloMosaic.Lib.StableHlo.ReadAt
public import Idealize.ShloMosaic.Lib.Pipeline.Value

/-! What the five result arrays of the SwiGLU forward kernel hold after the run, over the arguments. -/

@[expose] public section
set_option maxRecDepth 16384
noncomputable section
open Idealize.ShloMosaic Idealize.ShloMosaic.TcCoe Idealize.SL.Sem
open Idealize.ShloMosaic.Pipeline (Dat)

namespace Cert.Ffn
namespace Args
variable (A : Args)
/-- The gated product, and the layer's result. -/
def gated (r : Fin 4096) (f : Fin 2816) : EReal := silu (A.G r f) * A.U r f
def out (r : Fin 4096) (d : Fin 1024) : EReal := A.h r d + ∑ f, A.gated r f * A.wd f d
end Args
end Cert.Ffn

namespace Cert.Kernel21Ideal.Up
open Cert.Kernel21Ideal Cert.Kernel21Ideal.Gen Cert.Ffn
section
variable (m : (ℓ : Loc nD τ sig) → Buf (Elt Ideal) ℓ) (c : Dev nD)

/-- The arguments that a memory holds; the forward pass has no incoming gradient. -/
def args : Args where
  dh _ _ := 0
  h r j := m ((c : Thread nD τ).loc main_arg0) (ix2 r j)
  nw j := m ((c : Thread nD τ).loc main_arg1) (ix1 j)
  wg d f := m ((c : Thread nD τ).loc main_arg2) (ix2 d f)
  wu d f := m ((c : Thread nD τ).loc main_arg3) (ix2 d f)
  wd f d := m ((c : Thread nD τ).loc main_arg4) (ix2 f d)

theorem col_eq (k : Fin 4) (f : Fin 704) (h : k.val * 704 + f.val < 2816) : (⟨k.val * 704 + f.val, h⟩ : Fin 2816) = col k f :=
  Fin.ext (show k.val * 704 + f.val = 704 * k.val + f.val by omega)

/-! The arrays that the host code prepares. -/

theorem V_norm (z : Fin 1) (j : Fin 1024) : V m c main_v8 (ix2 z j) = (args m c).nw j := by
  unfold V
  after_reads_at
  rfl

theorem V_gate (k : Fin 4) (f : Fin 704) (d : Fin 1024) : V m c main_v2 (ix3 k f d) = (args m c).wg d (col k f) := by
  unfold V
  after_reads_at
  rw [col_eq]
  rfl

theorem V_up (k : Fin 4) (f : Fin 704) (d : Fin 1024) : V m c main_v5 (ix3 k f d) = (args m c).wu d (col k f) := by
  unfold V
  after_reads_at
  rw [col_eq]
  rfl

theorem V_down (k : Fin 4) (f : Fin 704) (d : Fin 1024) : V m c main_v7 (ix3 k f d) = (args m c).wd (col k f) d := by
  unfold V
  after_reads_at
  rw [col_eq]
  rfl

/-- The tile of rows and the block of hidden columns of a grid point. -/
def ti (t : Fin cfg0.N) : Fin 8 := ⟨t.val / 4, by have := t.isLt; have : cfg0.N = 32 := N_0; omega⟩
def tk (t : Fin cfg0.N) : Fin 4 := ⟨t.val % 4, by omega⟩

theorem idx : ∀ t : Fin cfg0.N, win0_0.index t = ![t.val / 4, 0] ∧ win0_1.index t = ![0, 0] ∧ win0_2.index t = ![t.val % 4, 0, 0]
    ∧ win0_3.index t = ![t.val % 4, 0, 0] ∧ win0_4.index t = ![t.val % 4, 0, 0] ∧ win0_5.index t = ![t.val / 4, 0]
    ∧ win0_6.index t = ![t.val / 4, 0] ∧ win0_7.index t = ![t.val % 4, t.val / 4, 0]
    ∧ win0_8.index t = ![t.val % 4, t.val / 4, 0] ∧ win0_9.index t = ![t.val % 4, t.val / 4, 0] :=
  (by decide +kernel : ∀ t : Fin grid0.N, _)

/-! The blocks of a point. -/

theorem bH_at (t : Fin cfg0.N) (r : Fin 512) (d : Fin 1024) : bH m c t (ix2 r d) = (args m c).h (row (ti t) r) d := by
  unfold row ti
  blk_point [iblk, V, idx t]
theorem bN_at (t : Fin cfg0.N) (z : Fin 1) (d : Fin 1024) : bN m c t (ix2 z d) = (args m c).nw d := by
  refine Eq.trans ?_ (V_norm m c z d)
  blk_point [iblk, idx t]
theorem bG_at (t : Fin cfg0.N) (f : Fin 704) (d : Fin 1024) : bG m c t (ix3 0 f d) = (args m c).wg d (col (tk t) f) := by
  refine Eq.trans ?_ (V_gate m c (tk t) f d)
  unfold tk
  blk_point [iblk, idx t]
theorem bU_at (t : Fin cfg0.N) (f : Fin 704) (d : Fin 1024) : bU m c t (ix3 0 f d) = (args m c).wu d (col (tk t) f) := by
  refine Eq.trans ?_ (V_up m c (tk t) f d)
  unfold tk
  blk_point [iblk, idx t]
theorem bD_at (t : Fin cfg0.N) (f : Fin 704) (d : Fin 1024) : bD m c t (ix3 0 f d) = (args m c).wd (col (tk t) f) d := by
  refine Eq.trans ?_ (V_down m c (tk t) f d)
  unfold tk
  blk_point [iblk, idx t]

/-- The normed rows, at every point of a tile. -/
theorem u_at (r : Fin 512) (d : Fin 1024) : ∀ (n : ℕ) (hn : n < cfg0.N),
    tu m c ⟨n, hn⟩ r d = nrm ((args m c).h (row (ti ⟨n, hn⟩) r)) (args m c).nw d := by
  intro n
  induction n with
  | zero =>
    intro hn
    refine (u_A m c ⟨0, hn⟩ rfl r d).trans ?_
    simp only [bH_at, bN_at]
  | succ n ih =>
    intro hn
    by_cases h0 : (n + 1) % 4 = 0
    · refine (u_A m c ⟨n + 1, hn⟩ h0 r d).trans ?_
      simp only [bH_at, bN_at]
    · refine (congrFun (now_u m c ⟨n + 1, hn⟩ h0) (ix2 r d)).trans ((ih (Nat.lt_of_succ_lt hn)).trans ?_)
      rw [show ti ⟨n, Nat.lt_of_succ_lt hn⟩ = ti ⟨n + 1, hn⟩ from Fin.ext (show n / 4 = (n + 1) / 4 by omega)]

theorem hid_G (t : Fin cfg0.N) (r : Fin 512) (f : Fin 704) : hid (tu m c t) (tg m c t) r f = (args m c).G (row (ti t) r) (col (tk t) f) :=
  Finset.sum_congr rfl fun d _ => congrArg₂ (· * ·) (u_at m c r d t.val t.isLt) (bG_at m c t f d)
theorem hid_U (t : Fin cfg0.N) (r : Fin 512) (f : Fin 704) : hid (tu m c t) (tp m c t) r f = (args m c).U (row (ti t) r) (col (tk t) f) :=
  Finset.sum_congr rfl fun d _ => congrArg₂ (· * ·) (u_at m c r d t.val t.isLt) (bU_at m c t f d)
theorem act_gated (t : Fin cfg0.N) (r : Fin 512) (f : Fin 704) :
    act (tu m c t) (tg m c t) (tp m c t) r f = (args m c).gated (row (ti t) r) (col (tk t) f) := by
  rw [act, hid_G, hid_U]; rfl
/-- What a block of hidden columns adds to a row of the result. -/
theorem part_at (t : Fin cfg0.N) (r : Fin 512) (d : Fin 1024) :
    part (tu m c t) (tg m c t) (tp m c t) (td m c t) r d
      = ∑ f, (args m c).gated (row (ti t) r) (col (tk t) f) * (args m c).wd (col (tk t) f) d :=
  Finset.sum_congr rfl fun f _ => congrArg₂ (· * ·) (act_gated m c t r f) (bD_at m c t f d)

/-- At the last point of a tile's rows the accumulator holds the product with the last weight. -/
theorem acc_last (t : Fin cfg0.N) (ht : t.val % 4 = 3) (r : Fin 512) (d : Fin 1024) :
    (now m c t).acc (ix2 r d) = ∑ f, (args m c).gated (row (ti t) r) f * (args m c).wd f d := by
  rw [Pipeline.eq_sum_fin_of_reset_step_apply_of_flush (fun n h i => (now m c ⟨n, h⟩).acc i) 4
    (fun _ => (0 : EReal)) (fun t i => part (tu m c t) (tg m c t) (tp m c t) (td m c t) (i 0) (i 1))
    (fun t h0 i => by idx_vars i; exact acc_A m c t h0 i0 i1) (fun t h0 i => by idx_vars i; exact acc_B m c t h0 i0 i1) t ht (ix2 r d), zero_add, sum_cols]
  refine Finset.sum_congr rfl fun s _ => ?_
  refine (part_at m c _ r d).trans ?_
  have e : ∀ (i i' : Fin 8) (k k' : Fin 4), i = i' → k = k' →
      ∑ f, (args m c).gated (row i r) (col k f) * (args m c).wd (col k f) d
        = ∑ f, (args m c).gated (row i' r) (col k' f) * (args m c).wd (col k' f) d :=
    fun i i' k k' h h' => by rw [h, h']
  refine e _ _ _ _ (Fin.ext ?_) (Fin.ext ?_)
  · simp only [ti]; omega
  · simp only [tk]; omega

/-! The arrays. -/

theorem arr5 : (dats m 0 c).arrAt 5 cfg0.N = fun j : S4096x1024.Idx => (args m c).out (j 0) (j 1) := by
  refine (dats m 0 c).arrAt_eq_of_covers 5 _ (by decide +kernel) fun t hf y => ?_
  blk_simp
  rw [after5]
  obtain ⟨r, d, hy⟩ : ∃ (r : Fin 512) (d : Fin 1024), y = ix2 r d := ⟨y 0, y 1, by blk_ext⟩
  have e0 : ((win0_5.blk t).view.emb y 0 : Fin 4096) = row (ti t) r := by
    rw [hy]; refine Fin.ext ?_; blk_simp [idx t]; simp only [row, ti]; omega
  have e1 : ((win0_5.blk t).view.emb y 1 : Fin 1024) = d := by
    rw [hy]; refine Fin.ext ?_; blk_simp [idx t]
  refine Eq.trans ?_ (congrArg₂ (args m c).out e0 e1).symm
  have ht : t.val % 4 = 3 := (flush0_5 t).mp hf
  rw [hy]
  refine (h2_C m c t ht r d).trans ?_
  rw [bH_at, acc_last m c t ht]; rfl

theorem arr6 : (dats m 0 c).arrAt 6 cfg0.N = fun j : S4096x1024.Idx => nrm ((args m c).h (j 0)) (args m c).nw (j 1) := by
  refine (dats m 0 c).arrAt_eq_of_covers 6 _ (by decide +kernel) fun t hf y => ?_
  blk_simp
  rw [after6]
  obtain ⟨r, d, hy⟩ : ∃ (r : Fin 512) (d : Fin 1024), y = ix2 r d := ⟨y 0, y 1, by blk_ext⟩
  have e0 : ((win0_6.blk t).view.emb y 0 : Fin 4096) = row (ti t) r := by
    rw [hy]; refine Fin.ext ?_; blk_simp [idx t]; simp only [row, ti]; omega
  have e1 : ((win0_6.blk t).view.emb y 1 : Fin 1024) = d := by
    rw [hy]; refine Fin.ext ?_; blk_simp [idx t]
  refine Eq.trans ?_ (congrArg₂ (fun r d => nrm ((args m c).h r) (args m c).nw d) e0 e1).symm
  rw [hy]
  exact u_at m c r d t.val t.isLt

/-- The index that a block of hidden columns' point writes. -/
theorem place7 (t : Fin cfg0.N) (z : Fin 1) (r : Fin 512) (f : Fin 704) :
    ((win0_7.blk t).view.emb (ix3 z r f) : S4x4096x704.Idx) = ix3 (tk t) (row (ti t) r) f := by
  refine funext fun a => Fin.ext ?_
  match a with
  | ⟨0, _⟩ => blk_simp [idx t]; simp only [tk]
  | ⟨1, _⟩ => blk_simp [idx t]; simp only [row, ti]; show _ = 512 * (t.val / 4) + r.val; omega
  | ⟨2, _⟩ => blk_simp [idx t]

theorem arr7 : (dats m 0 c).arrAt 7 cfg0.N = fun j : S4x4096x704.Idx => (args m c).G (j 1) (col (j 0) (j 2)) := by
  refine (dats m 0 c).arrAt_eq_of_covers 7 _ (by decide +kernel) fun t hf y => ?_
  blk_simp
  rw [after7]
  obtain ⟨z, r, f, rfl⟩ : ∃ (z : Fin 1) (r : Fin 512) (f : Fin 704), y = ix3 z r f := ⟨y 0, y 1, y 2, by blk_ext⟩
  exact ((g_at m c t z r f).trans (hid_G m c t r f)).trans
    (congrArg (fun j : S4x4096x704.Idx => (args m c).G (j 1) (col (j 0) (j 2))) (place7 t z r f)).symm

theorem arr8 : (dats m 0 c).arrAt 8 cfg0.N = fun j : S4x4096x704.Idx => (args m c).U (j 1) (col (j 0) (j 2)) := by
  refine (dats m 0 c).arrAt_eq_of_covers 8 _ (by decide +kernel) fun t hf y => ?_
  blk_simp
  rw [after8]
  obtain ⟨z, r, f, rfl⟩ : ∃ (z : Fin 1) (r : Fin 512) (f : Fin 704), y = ix3 z r f := ⟨y 0, y 1, y 2, by blk_ext⟩
  exact ((up_at m c t z r f).trans (hid_U m c t r f)).trans
    (congrArg (fun j : S4x4096x704.Idx => (args m c).U (j 1) (col (j 0) (j 2))) (place7 t z r f)).symm

theorem arr9 : (dats m 0 c).arrAt 9 cfg0.N = fun j : S4x4096x704.Idx => (args m c).gated (j 1) (col (j 0) (j 2)) := by
  refine (dats m 0 c).arrAt_eq_of_covers 9 _ (by decide +kernel) fun t hf y => ?_
  blk_simp
  rw [after9]
  obtain ⟨z, r, f, rfl⟩ : ∃ (z : Fin 1) (r : Fin 512) (f : Fin 704), y = ix3 z r f := ⟨y 0, y 1, y 2, by blk_ext⟩
  exact ((a_at m c t z r f).trans (act_gated m c t r f)).trans
    (congrArg (fun j : S4x4096x704.Idx => (args m c).gated (j 1) (col (j 0) (j 2))) (place7 t z r f)).symm
end
end Cert.Kernel21Ideal.Up
-- ==== Proof.UpRef.lean ====
module

public import proofs.«01_k».proof.Proof.UpArr
public import proofs.«01_k».proof.Proof.Gen.Reference21Ideal.Read
public import Idealize.ShloMosaic.Lib.Pipeline.ValueKit
public import Idealize.ShloMosaic.Lib.Pointwise

/-! The SwiGLU reference's five results, read at an index, over the arguments. -/

@[expose] public section
set_option maxRecDepth 16384
noncomputable section
open Idealize.ShloMosaic Idealize.ShloMosaic.TcCoe Idealize.SL.Sem
namespace Cert.Reference21Ideal.Value
open Cert.Reference21Ideal Cert.Reference21Ideal.Gen Cert.Reference21Ideal.Read Cert.Ffn
section
variable (x0 : Vec Ideal S4096x1024 .f32) (x1 : Vec Ideal S1024 .f32) (x2 x3 : Vec Ideal S1024x2816 .f32) (x4 : Vec Ideal S2816x1024 .f32)

/-- The arguments that the arrays hold. -/
def rargs : Args where
  dh _ _ := 0
  h r j := x0 (ix2 r j)
  nw j := x1 (ix1 j)
  wg d f := x2 (ix2 d f)
  wu d f := x3 (ix2 d f)
  wd f d := x4 (ix2 f d)

/-- The normed rows. -/
theorem v7_at (r : Fin 4096) (z : Fin 1) : val_main_v7 x0 (ix2 r z) = rs fun j => x0 (ix2 r j) := by
  pointwise [val_main_v7, val_main_v6, val_main_v5, val_main_v4, val_main_v3, val_main_v2, val_main_v1, val_main_v0, val_main_cst, val_main_cst_0, val_main_cst_1]
  simp only [ofBits_n, ofBits_eps]
  first | rfl | (simp only [zero_add]; rfl)

theorem v12_at (r : Fin 4096) (j : Fin 1024) : val_main_v12 x0 x1 (ix2 r j) = nrm (fun j => x0 (ix2 r j)) (fun j => x1 (ix1 j)) j := by
  pointwise [val_main_v12, val_main_v11, val_main_v10, val_main_v9, val_main_v8]
  rw [v7_at]; rfl

/-- The two projections, the gated product and the layer's result. -/
theorem v13_at (r : Fin 4096) (f : Fin 2816) : val_main_v13 x0 x1 x2 (ix2 r f) = (rargs x0 x1 x2 x3 x4).G r f := by
  pointwise [val_main_v13]
  simp only [v12_at]; rfl

theorem v14_at (r : Fin 4096) (f : Fin 2816) : val_main_v14 x0 x1 x3 (ix2 r f) = (rargs x0 x1 x2 x3 x4).U r f := by
  pointwise [val_main_v14]
  simp only [v12_at]; rfl

theorem v16_at (r : Fin 4096) (f : Fin 2816) : val_main_v16 x0 x1 x2 x3 (ix2 r f) = (rargs x0 x1 x2 x3 x4).gated r f := by
  pointwise [val_main_v16, val_main_v15, val_main_call0_v5, val_main_call0_v4, val_main_call0_cst_0, val_main_call0_v3, val_main_call0_v2,
    val_main_call0_cst, val_main_call0_v1, val_main_call0_v0]
  rw [v13_at x0 x1 x2 x3 x4, v14_at x0 x1 x2 x3 x4]; rfl

theorem v18_at (r : Fin 4096) (d : Fin 1024) : val_main_v18 x0 x1 x2 x3 x4 (ix2 r d) = (rargs x0 x1 x2 x3 x4).out r d := by
  pointwise [val_main_v18, val_main_v17]
  simp only [v16_at x0 x1 x2 x3 x4]; rfl

theorem col_eq (k : Fin 4) (f : Fin 704) (h : k.val * 704 + f.val < 2816) : (⟨k.val * 704 + f.val, h⟩ : Fin 2816) = col k f :=
  Fin.ext (show k.val * 704 + f.val = 704 * k.val + f.val by omega)

/-! The five results. -/

theorem out18 : val_main_v18 x0 x1 x2 x3 x4 = fun j : S4096x1024.Idx => (rargs x0 x1 x2 x3 x4).out (j 0) (j 1) := by
  funext j
  obtain ⟨r, d, rfl⟩ : ∃ (r : Fin 4096) (d : Fin 1024), j = ix2 r d := ⟨j 0, j 1, eq_ix2 j⟩
  exact v18_at x0 x1 x2 x3 x4 r d

theorem out19 : val_main_v19 x0 x1 = fun j : S4096x1024.Idx => nrm ((rargs x0 x1 x2 x3 x4).h (j 0)) (rargs x0 x1 x2 x3 x4).nw (j 1) := by
  funext j
  obtain ⟨r, d, rfl⟩ : ∃ (r : Fin 4096) (d : Fin 1024), j = ix2 r d := ⟨j 0, j 1, eq_ix2 j⟩
  exact v12_at x0 x1 r d

theorem out22 : val_main_v22 x0 x1 x2 = fun j : S4x4096x704.Idx => (rargs x0 x1 x2 x3 x4).G (j 1) (col (j 0) (j 2)) := by
  funext j
  obtain ⟨k, r, f, rfl⟩ : ∃ (k : Fin 4) (r : Fin 4096) (f : Fin 704), j = ix3 k r f := ⟨j 0, j 1, j 2, eq_ix3 j⟩
  pointwise [val_main_v22, val_main_v21, val_main_v20]
  rw [col_eq]
  exact v13_at x0 x1 x2 x3 x4 r (col k f)

theorem out25 : val_main_v25 x0 x1 x3 = fun j : S4x4096x704.Idx => (rargs x0 x1 x2 x3 x4).U (j 1) (col (j 0) (j 2)) := by
  funext j
  obtain ⟨k, r, f, rfl⟩ : ∃ (k : Fin 4) (r : Fin 4096) (f : Fin 704), j = ix3 k r f := ⟨j 0, j 1, j 2, eq_ix3 j⟩
  pointwise [val_main_v25, val_main_v24, val_main_v23]
  rw [col_eq]
  exact v14_at x0 x1 x2 x3 x4 r (col k f)

theorem out28 : val_main_v28 x0 x1 x2 x3 = fun j : S4x4096x704.Idx => (rargs x0 x1 x2 x3 x4).gated (j 1) (col (j 0) (j 2)) := by
  funext j
  obtain ⟨k, r, f, rfl⟩ : ∃ (k : Fin 4) (r : Fin 4096) (f : Fin 704), j = ix3 k r f := ⟨j 0, j 1, j 2, eq_ix3 j⟩
  pointwise [val_main_v28, val_main_v27, val_main_v26]
  rw [col_eq]
  exact v16_at x0 x1 x2 x3 x4 r (col k f)
end
end Cert.Reference21Ideal.Value
-- ==== Proof.Up.lean ====
module

public import proofs.«01_k».proof.Defs
public import proofs.«01_k».proof.Proof.Gen.Kernel21
public import proofs.«01_k».proof.Proof.Gen.Reference21Ideal.Run
public import proofs.«01_k».proof.Proof.UpArr
public import proofs.«01_k».proof.Proof.UpRef
public import Idealize.ShloMosaic.Lib.Quiescent

/-! The claims about the SwiGLU forward call: the programs run, and the kernel's five results are the reference's. The two
    frame claims of the kernel have one proof, a run of its text over any kind of float values. -/

@[expose] public section
set_option maxRecDepth 16384
noncomputable section
open Idealize.ShloMosaic Idealize.ShloMosaic.TcCoe Idealize.SL.Sem
namespace Cert.Proof.Up
open Cert.Ffn

/-- The two texts of the kernel have the same bodies. -/
theorem body_eq : Cert.Kernel21.cc0_ffn_fwd_0 (F := Bits) = Cert.Kernel21Ideal.cc0_ffn_fwd_0 (F := Bits) := rfl
theorem bodies_eq : Cert.Kernel21.defs₀ (F := Bits) = Cert.Kernel21Ideal.defs₀ (F := Bits) := by
  unfold Cert.Kernel21.defs₀ Cert.Kernel21Ideal.defs₀
  refine congrArg Defs.onTc (funext fun l => funext fun x => ?_)
  match l, x with
  | 0, (t, s) => rfl
theorem defs_eq : Cert.Kernel21.defs (F := Bits) = Cert.Kernel21Ideal.defs (F := Bits) :=
  congrArg (Pipeline.defs (Cert.Kernel21Ideal.pcfgs (F := Bits))) bodies_eq

theorem frame_kernel21 : Cert.quiescent_Kernel21 (hKernel21 := Cert.Kernel21.Gen.facts) := by
  intro m ρ _
  have h := Cert.Kernel21Ideal.Up.frame_run (F := Bits) m ρ
  rw [← defs_eq] at h
  exact h
theorem frame_ideal21 : Cert.quiescent_Kernel21Ideal (hKernel21Ideal := Cert.Kernel21Ideal.Gen.facts) := fun m ρ _ =>
  Cert.Kernel21Ideal.Up.frame_run (F := Ideal) m ρ
theorem frame_reference21 : Cert.quiescent_Reference21Ideal (hReference21Ideal := Cert.Reference21Ideal.Gen.facts) := fun m ρ _ =>
  (θ_run Cert.Reference21Ideal.defs _ _).mono (fun r h => ⟨fun c => (h c).2.2.2.2.2, sem_eq_zero_of_no_sems (by decide) r.2⟩)
    (Cert.Reference21Ideal.Value.run (F := Ideal) m ρ)

theorem preserves21 : Cert.preserves_Kernel21_Kernel21Ideal := trivial

theorem algebraic21 : Cert.algebraic_Kernel21Ideal_Reference21Ideal (hKernel21Ideal := Cert.Kernel21Ideal.Gen.facts)
    (hReference21Ideal := Cert.Reference21Ideal.Gen.facts) := by
  intro m ρ m' ρ' _ hagree
  refine ⟨fun c => fun j : Cert.Kernel21Ideal.S4096x1024.Idx => (Cert.Kernel21Ideal.Up.args m c).out (j 0) (j 1),
    fun c => fun j : Cert.Kernel21Ideal.S4096x1024.Idx => nrm ((Cert.Kernel21Ideal.Up.args m c).h (j 0)) (Cert.Kernel21Ideal.Up.args m c).nw (j 1),
    fun c => fun j : Cert.Kernel21Ideal.S4x4096x704.Idx => (Cert.Kernel21Ideal.Up.args m c).G (j 1) (col (j 0) (j 2)),
    fun c => fun j : Cert.Kernel21Ideal.S4x4096x704.Idx => (Cert.Kernel21Ideal.Up.args m c).U (j 1) (col (j 0) (j 2)),
    fun c => fun j : Cert.Kernel21Ideal.S4x4096x704.Idx => (Cert.Kernel21Ideal.Up.args m c).gated (j 1) (col (j 0) (j 2)), ?_, ?_⟩
  · refine (θ_run Cert.Kernel21Ideal.defs _ _).mono (fun r h c => ?_)
      (θ_run_and (Cert.Kernel21Ideal.Up.run (F := Ideal) m ρ) (Cert.Kernel21Ideal.Up.frame_run (F := Ideal) m ρ))
    obtain ⟨⟨hp, _⟩, hargs, _⟩ := h
    exact ⟨((hp c).1 5).trans (Cert.Kernel21Ideal.Up.arr5 m c), ((hp c).1 6).trans (Cert.Kernel21Ideal.Up.arr6 m c),
      ((hp c).1 7).trans (Cert.Kernel21Ideal.Up.arr7 m c), ((hp c).1 8).trans (Cert.Kernel21Ideal.Up.arr8 m c),
      ((hp c).1 9).trans (Cert.Kernel21Ideal.Up.arr9 m c), hargs c⟩
  · refine (θ_run Cert.Reference21Ideal.defs _ _).mono (fun r h c => ?_) (Cert.Reference21Ideal.Value.run (F := Ideal) m' ρ')
    obtain ⟨e0, e1, e2, e3, e4, hargs⟩ := h c
    obtain ⟨a0, a1, a2, a3, a4⟩ := hagree c
    have hA : Cert.Reference21Ideal.Value.rargs (m' ((c.tc : Thread Cert.Reference21Ideal.nD Cert.Reference21Ideal.τ).loc Cert.Reference21Ideal.main_arg0))
        (m' ((c.tc : Thread Cert.Reference21Ideal.nD Cert.Reference21Ideal.τ).loc Cert.Reference21Ideal.main_arg1))
        (m' ((c.tc : Thread Cert.Reference21Ideal.nD Cert.Reference21Ideal.τ).loc Cert.Reference21Ideal.main_arg2))
        (m' ((c.tc : Thread Cert.Reference21Ideal.nD Cert.Reference21Ideal.τ).loc Cert.Reference21Ideal.main_arg3))
        (m' ((c.tc : Thread Cert.Reference21Ideal.nD Cert.Reference21Ideal.τ).loc Cert.Reference21Ideal.main_arg4)) = Cert.Kernel21Ideal.Up.args m c := by
      rw [a0, a1, a2, a3, a4]; rfl
    generalize hB : Cert.Kernel21Ideal.Up.args m c = B at hA
    subst hA
    simp only [hB]
    exact ⟨e0.trans ((Cert.Reference21Ideal.Read.val_main_v18_eq _ _ _ _ _).trans (Cert.Reference21Ideal.Value.out18 _ _ _ _ _)),
      e1.trans ((Cert.Reference21Ideal.Read.val_main_v19_eq _ _).trans (Cert.Reference21Ideal.Value.out19 _ _ _ _ _)),
      e2.trans ((Cert.Reference21Ideal.Read.val_main_v22_eq _ _ _).trans (Cert.Reference21Ideal.Value.out22 _ _ _ _ _)),
      e3.trans ((Cert.Reference21Ideal.Read.val_main_v25_eq _ _ _).trans (Cert.Reference21Ideal.Value.out25 _ _ _ _ _)),
      e4.trans ((Cert.Reference21Ideal.Read.val_main_v28_eq _ _ _ _).trans (Cert.Reference21Ideal.Value.out28 _ _ _ _ _)), hargs⟩

end Cert.Proof.Up
-- ==== Proof.MidFwd.lean ====
module

public import proofs.«01_k».proof.Proof.Gen.Kernel22Ideal.Value
public import proofs.«01_k».proof.Proof.KPay
public import proofs.«01_k».proof.Proof.Whole
public import Idealize.ShloMosaic.Lib.Pipeline.ValueKit
public import Idealize.ShloMosaic.Lib.Pipeline.ReadBack
public import Idealize.ShloMosaic.Lib.Pointwise

/-! The mixer's forward call: at each grid point one chunk of 128 rows, whose gated half is multiplied by the causal mix
    of its layer-normalised half. -/

@[expose] public section
set_option maxRecDepth 16384
noncomputable section
open Idealize.ShloMosaic Idealize.ShloMosaic.TcCoe Idealize.SL.Sem

namespace Cert.Gmlp
/-- A chunk's result, and the whole result. -/
def Chunk.out (C : Chunk) (t : Fin 128) (j : Fin 2048) : EReal := uu (C.x t) j * mixed C.W C.bs C.V t j
def Args.mix (A : Args) (r : Fin 4096) (j : Fin 2048) : EReal := (A.chunk (chunkNo r)).out (place r) j
end Cert.Gmlp

namespace Cert.Kernel22Ideal.Value
open Cert.Kernel22Ideal Cert.Kernel22Ideal.Gen Cert.Gmlp
open Cert.KernelIdeal.Value (mask_at)
section
variable (X : Vec Ideal S128x4096 .f32) (B : Vec Ideal S1x4096 .f32)
  (Lw Lb : Vec Ideal S1x2048 .f32) (W : Vec Ideal S16x128x128 .f32) (S : Vec Ideal S128x2048 .f32)

/-- The chunk that a point's blocks hold; the forward call has no incoming gradient. -/
def chunk : Chunk where
  x t k := X (ix2 t k) + B (ix2 0 k)
  D t j := 0
  lw j := Lw (ix2 0 j)
  lb j := Lb (ix2 0 j)
  W g t s := W (ix3 g t s)
  bs t j := S (ix2 t j)

theorem root_eq : (Named.named κ "root_half" 0x3F3504F3#32 : Ideal .f32) = cRoot := rfl

/-- The gelu of the biased block, its gated half, and the layer norm of its other half. -/
theorem pay3_at (t : Fin 128) (k : Fin 4096) : k0_pay3 X B (ix2 t k) = gelu (X (ix2 t k) + B (ix2 0 k)) := by
  pointwise [k0_pay3]
  simp only [root_eq, ofBits_half, gelu]; rfl
theorem pay4_at (t : Fin 128) (j : Fin 2048) : k0_pay4 X B (ix2 t j) = uu ((chunk X B Lw Lb W S).x t) j := by
  pointwise [k0_pay4]
  rw [pay3_at]; rfl
theorem pay5_at (t : Fin 128) (j : Fin 2048) : k0_pay5 X B Lw Lb (ix2 t j) = (chunk X B Lw Lb W S).V t j := by
  pointwise [k0_pay5]
  simp only [pay3_at, ofBits_n, ofBits_eps]; rfl

/-- A chunk's result over the vectors that the body builds from its blocks. -/
theorem out_vec (j : S128x2048.Idx) : (chunk X B Lw Lb W S).out (j 0) (j 1)
    = k0_pay4 X B j * ((∑ x : Fin 128, (if x.val ≤ (j 0).val then W (ix3 (grp (j 1)) (j 0) x) * k0_pay5 X B Lw Lb (ix2 x (j 1)) else 0)) + S j) := by
  idx_vars j
  refine congrArg₂ (· * ·) (pay4_at X B Lw Lb W S j0 j1).symm (congrArg₂ (· + ·) (Finset.sum_congr rfl fun x _ => ?_) rfl)
  rw [pay5_at X B Lw Lb W S]
  exact (ite_mul _ _ _ _).trans (ite_congr rfl (fun _ => rfl) fun _ => zero_mul _)

set_option maxHeartbeats 1000000 in
/-- What a point stores, sixteen pieces of 128 columns, is its chunk's result. -/
theorem out_at (j : S128x2048.Idx) : out0_6 X B Lw Lb W S j = (chunk X B Lw Lb W S).out (j 0) (j 1) := by
  rw [out_vec]
  unfold out0_6
  have e27 : k0_pay27 X B Lw Lb W S = k0_pay4 X B := congrArg₂ k0_pay4 (View.ld_unit_lit _ X (by decide)) (View.ld_unit_lit _ B (by decide))
  have e28 : k0_pay28 X B Lw Lb W S = k0_pay5 X B Lw Lb :=
    congr (congr (congrArg₂ k0_pay5 (View.ld_unit_lit _ X (by decide)) (View.ld_unit_lit _ B (by decide))) (View.ld_unit_lit _ Lw (by decide))) (View.ld_unit_lit _ Lb (by decide))
  rw [e27, e28]
  unfold k0_pay29
  generalize hU : k0_pay4 X B = U
  generalize hV : k0_pay5 X B Lw Lb = V
  canon_tiles j h
  all_goals
    open_payloads
    pointwise [k0_pay6, k0_pay9, k0_pay10, k0_pay16, k0_pay19, k0_pay25, k0_pay26]
    refine congrArg₂ (· * ·) ?_ (congrArg₂ (· + ·) (Finset.sum_congr rfl fun x _ => ?_) ?_)
    · blk_ext
    · rw [mask_at _ _ x.isLt j0_lt]
      refine ite_congr (by rw [h0]) (fun _ => congrArg₂ (· * ·) ?_ ?_) fun _ => rfl <;> blk_ext [grp]
    · blk_ext
end
section
variable (m : (ℓ : Loc nD τ sig) → Buf (Elt Ideal) ℓ) (c : Dev nD)

/-- The arguments that a memory holds. -/
def args : Args where
  dO r j := 0
  pre r k := m ((c : Thread nD τ).loc main_arg0) (ix2 r k)
  b k := m ((c : Thread nD τ).loc main_arg1) (ix1 k)
  lw j := m ((c : Thread nD τ).loc main_arg2) (ix1 j)
  lb j := m ((c : Thread nD τ).loc main_arg3) (ix1 j)
  W g t s := m ((c : Thread nD τ).loc main_arg4) (ix3 g t s)
  bs g t := m ((c : Thread nD τ).loc main_arg5) (ix2 g t)

/-- The chunk number of a grid point. -/
def pt (t : Fin cfg0.N) : Fin 32 := ⟨t.val, lt_of_lt_of_eq t.isLt N_0⟩

theorem idx : ∀ t : Fin cfg0.N, win0_0.index t = ![t.val, 0] ∧ win0_1.index t = ![0, 0] ∧ win0_2.index t = ![0, 0]
    ∧ win0_3.index t = ![0, 0] ∧ win0_4.index t = ![0, 0, 0] ∧ win0_5.index t = ![0, 0] ∧ win0_6.index t = ![t.val, 0] :=
  (by decide +kernel : ∀ t : Fin grid0.N, _)

/-- The blocks of a point are its chunk of the arguments. -/
theorem chk_eq (t : Fin cfg0.N) : chunk (iblk m c 0 t) (iblk m c 1 t) (iblk m c 2 t) (iblk m c 3 t) (iblk m c 4 t) (iblk m c 5 t)
    = (args m c).chunk (pt t) := by
  unfold chunk Args.chunk args row pt
  congr 1
  · funext r k
    refine congrArg₂ (· + ·) ?_ ?_
    · blk_point [iblk, V, idx t]
    · blk_point [iblk, V, idx t]
  · funext j; blk_point [iblk, V, idx t]
  · funext j; blk_point [iblk, V, idx t]
  · funext g r s; blk_point [iblk, V, idx t]
  · funext r j; blk_point [iblk, V, idx t]; rfl

/-- The result array. -/
theorem arr6 : (dats m 0 c).arrAt 6 cfg0.N = fun j : S4096x2048.Idx => (args m c).mix (j 0) (j 1) := by
  refine (dats m 0 c).arrAt_eq_of_covers 6 _ (by decide +kernel) fun t hf y => ?_
  blk_simp
  rw [after0_6]
  obtain ⟨r, k, hy⟩ : ∃ (r : Fin 128) (k : Fin 2048), y = ix2 r k := ⟨y 0, y 1, by blk_ext⟩
  have e0 : ((win0_6.blk t).view.emb y 0 : Fin 4096) = row (pt t) r := by
    rw [hy]; refine Fin.ext ?_; blk_simp [idx t]; simp only [row, pt]; omega
  have e1 : ((win0_6.blk t).view.emb y 1 : Fin 2048) = k := by
    rw [hy]; refine Fin.ext ?_; blk_simp [idx t]
  refine Eq.trans ?_ (congrArg₂ (args m c).mix e0 e1).symm
  unfold Args.mix
  rw [chunkNo_row, place_row, ← chk_eq, hy]
  exact out_at _ _ _ _ _ _ (ix2 r k)
end
end Cert.Kernel22Ideal.Value
-- ==== Proof.MidRef.lean ====
module

public import proofs.«01_k».proof.Proof.Gen.Reference22Ideal.Read
public import proofs.«01_k».proof.Proof.MidFwd
public import proofs.«01_k».proof.Proof.RefDot

/-! The reference of the mixer's forward call: its gated half and its mixed half are those that the reference of the
    mixer's gradient computes on its way. -/

@[expose] public section
set_option maxRecDepth 16384
noncomputable section
open Idealize.ShloMosaic Idealize.ShloMosaic.TcCoe Idealize.SL.Sem
namespace Cert.Reference22Ideal.Value
open Cert.Reference22Ideal Cert.Reference22Ideal.Gen Cert.Reference22Ideal.Read Cert.Gmlp
section
variable (x0 : Vec Ideal S4096x4096 .f32) (x1 : Vec Ideal S4096 .f32)
  (x2 x3 : Vec Ideal S2048 .f32) (x4 : Vec Ideal S16x128x128 .f32) (x5 : Vec Ideal S16x128 .f32)

/-- The arguments that the arrays hold. -/
def rargs : Args where
  dO r j := 0
  pre r k := x0 (ix2 r k)
  b k := x1 (ix1 k)
  lw j := x2 (ix1 j)
  lb j := x3 (ix1 j)
  W g t s := x4 (ix3 g t s)
  bs g t := x5 (ix2 g t)

/-- The two programs' halves. -/
theorem v15_eq : val_main_v15 x0 x1 = Cert.ReferenceIdeal.Read.val_main_v23 x0 x1 := rfl
theorem v45_eq : val_main_v45 x0 x1 x2 x3 x4 x5 = Cert.ReferenceIdeal.Read.val_main_v56 x0 x1 x2 x3 x4 x5 := rfl

theorem v46_at (p : Fin 32) (t : Fin 128) (j : Fin 2048) : val_main_v46 x0 x1 x2 x3 x4 x5 (ix2 (row p t) j)
    = mixed (rargs x0 x1 x2 x3 x4 x5).W ((rargs x0 x1 x2 x3 x4 x5).chunk p).bs ((rargs x0 x1 x2 x3 x4 x5).chunk p).V t j := by
  rw [val_main_v46_apply, v45_eq]
  refine (congrArg _ (Cert.ReferenceIdeal.Value.idx57 p t j)).trans ((Cert.ReferenceIdeal.Value.v56_at (fun _ => 0) x0 x1 x2 x3 x4 x5 p t (grp j) _).trans ?_)
  rw [Cert.ReferenceIdeal.Value.col_grp]
  rfl

/-- The reference's result. -/
theorem out48 : val_main_v48 x0 x1 x2 x3 x4 x5 = fun j : S4096x2048.Idx => (rargs x0 x1 x2 x3 x4 x5).mix (j 0) (j 1) := by
  funext j
  obtain ⟨r, k, rfl⟩ : ∃ (r : Fin 4096) (k : Fin 2048), j = ix2 r k := ⟨j 0, j 1, eq_ix2 j⟩
  pointwise [val_main_v48, val_main_v47]
  rw [v15_eq, Cert.ReferenceIdeal.Value.v23_at]
  obtain ⟨p, t, rfl⟩ : ∃ (p : Fin 32) (t : Fin 128), r = row p t := ⟨chunkNo r, place r, (row_place r).symm⟩
  rw [v46_at]
  unfold Args.mix
  rw [chunkNo_row, place_row]
  rfl
end
end Cert.Reference22Ideal.Value
-- ==== Proof.Mid.lean ====
module

public import proofs.«01_k».proof.Defs
public import proofs.«01_k».proof.Proof.Gen.Kernel22.Frame
public import proofs.«01_k».proof.Proof.Gen.Reference22Ideal.Run
public import proofs.«01_k».proof.Proof.MidFwd
public import proofs.«01_k».proof.Proof.MidRef
public import Idealize.ShloMosaic.Lib.Quiescent

/-! The claims about the mixer's forward call: the programs run, the kernel's idealization is sanctioned, and the kernel's
    result is the reference's. -/

@[expose] public section
set_option maxRecDepth 16384
noncomputable section
open Idealize.ShloMosaic Idealize.ShloMosaic.TcCoe Idealize.SL.Sem
namespace Cert.Proof.Mid
open Cert.Gmlp

theorem frame_kernel22 : Cert.quiescent_Kernel22 (hKernel22 := Cert.Kernel22.Gen.facts) := fun m ρ _ => Cert.Kernel22.Gen.frame m ρ
theorem frame_ideal22 : Cert.quiescent_Kernel22Ideal (hKernel22Ideal := Cert.Kernel22Ideal.Gen.facts) := fun m ρ _ => Cert.Kernel22Ideal.Gen.frame m ρ
theorem frame_reference22 : Cert.quiescent_Reference22Ideal (hReference22Ideal := Cert.Reference22Ideal.Gen.facts) := fun m ρ _ =>
  (θ_run Cert.Reference22Ideal.defs _ _).mono (fun r h => ⟨fun c => (h c).2, sem_eq_zero_of_no_sems (by decide) r.2⟩)
    (Cert.Reference22Ideal.Value.run (F := Ideal) m ρ)

theorem preserves22 : Cert.preserves_Kernel22_Kernel22Ideal :=
  IdealRules.named_const.statement Cert.Kernel22Ideal.κ "root_half" .f32 0x3F3504F3#32 (((Real.sqrt 2)⁻¹ : ℝ) : EReal) rfl

theorem algebraic22 : Cert.algebraic_Kernel22Ideal_Reference22Ideal (hKernel22Ideal := Cert.Kernel22Ideal.Gen.facts)
    (hReference22Ideal := Cert.Reference22Ideal.Gen.facts) := by
  intro m ρ m' ρ' _ hagree
  refine ⟨fun c => fun j : Cert.Kernel22Ideal.S4096x2048.Idx => (Cert.Kernel22Ideal.Value.args m c).mix (j 0) (j 1), ?_, ?_⟩
  · refine (θ_run Cert.Kernel22Ideal.defs _ _).mono (fun r h c => ?_) (Cert.Kernel22Ideal.Value.run_blocks (F := Ideal) m ρ)
    obtain ⟨e, hargs⟩ := h c
    exact ⟨e.trans (Cert.Kernel22Ideal.Value.arr6 m c), hargs⟩
  · refine (θ_run Cert.Reference22Ideal.defs _ _).mono (fun r h c => ?_) (Cert.Reference22Ideal.Value.run (F := Ideal) m' ρ')
    obtain ⟨e, hargs⟩ := h c
    obtain ⟨a0, a1, a2, a3, a4, a5⟩ := hagree c
    refine ⟨e.trans ((Cert.Reference22Ideal.Read.val_main_v48_eq m' c).trans ((Cert.Reference22Ideal.Value.out48 _ _ _ _ _ _).trans ?_)), hargs⟩
    rw [a0, a1, a2, a3, a4, a5]
    rfl

end Cert.Proof.Mid
-- ==== Proof.Norm.lean ====
module

public import proofs.«01_k».proof.Proof.Gen.Kernel23Ideal.Value
public import proofs.«01_k».proof.Proof.Gen.Reference23Ideal.Read
public import proofs.«01_k».proof.Proof.FSpec
public import Idealize.ShloMosaic.Lib.Pipeline.ValueKit
public import Idealize.ShloMosaic.Lib.Pipeline.ReadBack
public import Idealize.ShloMosaic.Lib.Pointwise
public import Idealize.ShloMosaic.Lib.StableHlo.ReadAt

/-! The root-mean-square norm before a mixer. One point of the kernel's grid norms a tile of rows. -/

@[expose] public section
set_option maxRecDepth 16384
noncomputable section
open Idealize.ShloMosaic Idealize.ShloMosaic.TcCoe Idealize.SL.Sem

namespace Cert.Kernel23Ideal.Value
open Cert.Kernel23Ideal Cert.Kernel23Ideal.Gen Cert.Ffn

/-- What the body stores of a tile and the weight. -/
theorem pay1_at (H : Vec Ideal S512x1024 .f32) (W : Vec Ideal S1x1024 .f32) (r : Fin 512) (d : Fin 1024) :
    k0_pay1 H W (ix2 r d) = nrm (fun d => H (ix2 r d)) (fun d => W (ix2 0 d)) d := by
  pointwise [k0_pay1]
  simp only [ofBits_n, ofBits_eps]; rfl

section
variable (m : (ℓ : Loc nD τ sig) → Buf (Elt Ideal) ℓ) (c : Dev nD)

/-- The rows and the weight, as a memory holds them, and the normed rows. -/
def rows (r : Fin 4096) (d : Fin 1024) : EReal := m ((c : Thread nD τ).loc main_arg0) (ix2 r d)
def weight (d : Fin 1024) : EReal := m ((c : Thread nD τ).loc main_arg1) (ix1 d)
def normed (r : Fin 4096) (d : Fin 1024) : EReal := nrm (rows m c r) (weight m c) d

theorem V_w (z : Fin 1) (d : Fin 1024) : V m c main_v0 (ix2 z d) = weight m c d := by
  unfold V
  after_reads_at
  rfl

variable (t : Fin cfg0.N)
abbrev bH : Vec Ideal S512x1024 .f32 := iblk m c 0 t
abbrev bW : Vec Ideal S1x1024 .f32 := iblk m c 1 t
/-- The tile of a grid point. -/
def ti : Fin 8 := ⟨t.val, lt_of_lt_of_eq t.isLt N_0⟩

theorem idx : ∀ t : Fin cfg0.N, win0_0.index t = ![t.val, 0] ∧ win0_1.index t = ![0, 0] ∧ win0_2.index t = ![t.val, 0] :=
  (by decide +kernel : ∀ t : Fin grid0.N, _)

theorem bH_at (r : Fin 512) (d : Fin 1024) : bH m c t (ix2 r d) = rows m c (row (ti t) r) d := by
  unfold row ti
  blk_point [iblk, V, idx t]
theorem bW_at (z : Fin 1) (d : Fin 1024) : bW m c t (ix2 z d) = weight m c d := by
  refine Eq.trans ?_ (V_w m c z d)
  blk_point [iblk, idx t]

/-- What a point stores, and the result array. -/
theorem out_at (r : Fin 512) (d : Fin 1024) : out0_2 (bH m c t) (bW m c t) (ix2 r d) = normed m c (row (ti t) r) d := by
  unfold out0_2
  frame_out
  refine (pay1_at (bH m c t) (bW m c t) r d).trans ?_
  simp only [bH_at, bW_at]
  rfl
theorem arr2 : (dats m 0 c).arrAt 2 cfg0.N = fun j : S4096x1024.Idx => normed m c (j 0) (j 1) := by
  refine (dats m 0 c).arrAt_eq_of_covers 2 _ (by decide +kernel) fun t hf y => ?_
  blk_simp
  rw [after0_2]
  obtain ⟨r, d, hy⟩ : ∃ (r : Fin 512) (d : Fin 1024), y = ix2 r d := ⟨y 0, y 1, by blk_ext⟩
  have e0 : ((win0_2.blk t).view.emb y 0 : Fin 4096) = row (ti t) r := by
    rw [hy]; refine Fin.ext ?_; blk_simp [idx t]; simp only [row, ti]; omega
  have e1 : ((win0_2.blk t).view.emb y 1 : Fin 1024) = d := by
    rw [hy]; refine Fin.ext ?_; blk_simp [idx t]
  refine Eq.trans ?_ (congrArg₂ (normed m c) e0 e1).symm
  rw [hy]
  exact out_at m c t r d
end
end Cert.Kernel23Ideal.Value

namespace Cert.Reference23Ideal.Value
open Cert.Reference23Ideal Cert.Reference23Ideal.Gen Cert.Reference23Ideal.Read Cert.Ffn
section
variable (x0 : Vec Ideal S4096x1024 .f32) (x1 : Vec Ideal S1024 .f32)

theorem v7_at (r : Fin 4096) (z : Fin 1) : val_main_v7 x0 (ix2 r z) = rs fun j => x0 (ix2 r j) := by
  pointwise [val_main_v7, val_main_v6, val_main_v5, val_main_v4, val_main_v3, val_main_v2, val_main_v1, val_main_v0, val_main_cst, val_main_cst_0, val_main_cst_1]
  simp only [ofBits_n, ofBits_eps]
  first | rfl | (simp only [zero_add]; rfl)

/-- The reference's result. -/
theorem out13 : val_main_v13 x0 x1 = fun j : S4096x1024.Idx => nrm (fun d => x0 (ix2 (j 0) d)) (fun d => x1 (ix1 d)) (j 1) := by
  funext j
  obtain ⟨r, d, rfl⟩ : ∃ (r : Fin 4096) (d : Fin 1024), j = ix2 r d := ⟨j 0, j 1, eq_ix2 j⟩
  pointwise [val_main_v13, val_main_v12, val_main_v11, val_main_v10, val_main_v9, val_main_v8]
  rw [v7_at]; rfl
end
end Cert.Reference23Ideal.Value
-- ==== Proof.NormBwd.lean ====
module

public import proofs.«01_k».proof.Proof.Gen.Kernel24Ideal.Value
public import proofs.«01_k».proof.Proof.FSpec
public import Idealize.ShloMosaic.Lib.Pipeline.ValueKit
public import Idealize.ShloMosaic.Lib.Pipeline.ReadBack
public import Idealize.ShloMosaic.Lib.Pointwise
public import Idealize.ShloMosaic.Lib.StableHlo.ReadAt

/-! The gradient of the root-mean-square norm before a mixer, added to the residual stream's gradient. Each grid point
    takes a tile of rows, computes the gradients of these rows, and adds their part of the weight's gradient. -/

@[expose] public section
set_option maxRecDepth 16384
noncomputable section
open Idealize.ShloMosaic Idealize.ShloMosaic.TcCoe Idealize.SL.Sem

namespace Cert.Ffn
/-- The arguments: the residual stream's gradient, the normed rows' gradient, the rows and the weight. -/
structure NormArgs where
  dh : Fin 4096 → Fin 1024 → EReal
  du : Fin 4096 → Fin 1024 → EReal
  h : Fin 4096 → Fin 1024 → EReal
  w : Fin 1024 → EReal

namespace NormArgs
variable (A : NormArgs)
/-- The gradient of the rows, a tile's part of the weight's gradient, and that gradient. -/
def dX (r : Fin 4096) (d : Fin 1024) : EReal := A.dh r d + dnrm (A.h r) A.w (A.du r) d
def dwT (i : Fin 8) (d : Fin 1024) : EReal := ∑ r, A.du (row i r) d * xh (A.h (row i r)) d
def dw (d : Fin 1024) : EReal := ∑ i, A.dwT i d
end NormArgs
end Cert.Ffn

namespace Cert.Kernel24Ideal.Value
open Cert.Kernel24Ideal Cert.Kernel24Ideal.Gen Cert.Ffn
section
variable (D Y H : Vec Ideal S512x1024 .f32) (W P : Vec Ideal S1x1024 .f32) (r : Fin 512) (d : Fin 1024) (z : Fin 1)

/-- The body's values read at an index. -/
theorem pay2_at : k0_pay2 H (ix2 r z) = rs fun k => H (ix2 r k) := by
  pointwise [k0_pay2]
  simp only [ofBits_n, ofBits_eps]; rfl
theorem pay3_at : k0_pay3 H (ix2 r d) = xh (fun k => H (ix2 r k)) d := by
  pointwise [k0_pay3]
  rw [pay2_at]; rfl
theorem pay4_at : k0_pay4 Y H (ix2 z d) = ∑ r, Y (ix2 r d) * xh (fun k => H (ix2 r k)) d := by
  pointwise [k0_pay4]
  simp only [pay3_at]
theorem pay5_at : k0_pay5 D Y H W (ix2 r d)
    = D (ix2 r d) + dnrm (fun k => H (ix2 r k)) (fun k => W (ix2 0 k)) (fun k => Y (ix2 r k)) d := by
  pointwise [k0_pay5]
  simp only [pay2_at, pay3_at, ofBits_n]; rfl
theorem pay1_at : k0_pay1 W P (ix2 z d) = P (ix2 z d) + W (ix2 z d) := by
  pointwise [k0_pay1]
end

section
variable (m : (ℓ : Loc nD τ sig) → Buf (Elt Ideal) ℓ) (c : Dev nD)

/-- The arguments that a memory holds. -/
def args : NormArgs where
  dh r d := m ((c : Thread nD τ).loc main_arg0) (ix2 r d)
  du r d := m ((c : Thread nD τ).loc main_arg1) (ix2 r d)
  h r d := m ((c : Thread nD τ).loc main_arg2) (ix2 r d)
  w d := m ((c : Thread nD τ).loc main_arg3) (ix1 d)

theorem V_w (z : Fin 1) (d : Fin 1024) : V m c main_v0 (ix2 z d) = (args m c).w d := by
  unfold V
  after_reads_at
  rfl

variable (t : Fin cfg0.N)
abbrev bD : Vec Ideal S512x1024 .f32 := iblk m c 0 t
abbrev bY : Vec Ideal S512x1024 .f32 := iblk m c 1 t
abbrev bH : Vec Ideal S512x1024 .f32 := iblk m c 2 t
abbrev bW : Vec Ideal S1x1024 .f32 := iblk m c 3 t
/-- The tile of a grid point. -/
def ti : Fin 8 := ⟨t.val, lt_of_lt_of_eq t.isLt N_0⟩
/-- What the point before left. -/
abbrev before := outsAt0 m c (t.val - 1) (Nat.lt_of_le_of_lt (Nat.sub_le _ _) t.isLt)

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] :=
  (by decide +kernel : ∀ t : Fin grid0.N, _)

theorem bD_at (r : Fin 512) (d : Fin 1024) : bD m c t (ix2 r d) = (args m c).dh (row (ti t) r) d := by
  unfold row ti
  blk_point [iblk, V, idx t]
theorem bY_at (r : Fin 512) (d : Fin 1024) : bY m c t (ix2 r d) = (args m c).du (row (ti t) r) d := by
  unfold row ti
  blk_point [iblk, V, idx t]
theorem bH_at (r : Fin 512) (d : Fin 1024) : bH m c t (ix2 r d) = (args m c).h (row (ti t) r) d := by
  unfold row ti
  blk_point [iblk, V, idx t]
theorem bW_at (z : Fin 1) (d : Fin 1024) : bW m c t (ix2 z d) = (args m c).w d := by
  refine Eq.trans ?_ (V_w m c z d)
  blk_point [iblk, idx t]

/-- A tile's part of the weight's gradient. -/
theorem part_at (z : Fin 1) (d : Fin 1024) : k0_pay4 (bY m c t) (bH m c t) (ix2 z d) = (args m c).dwT (ti t) d := by
  rw [pay4_at]
  simp only [bY_at, bH_at]; rfl

/-- The first point, or a later one. -/
theorem cases : (t.val % 8 = 0 ∧ ¬1 ≤ t.val) ∨ (¬t.val % 8 = 0 ∧ 1 ≤ t.val) := by
  have := t.isLt; have : cfg0.N = 8 := N_0; omega

/-- What a point leaves in the rows' gradient's block. -/
theorem out4_at (r : Fin 512) (d : Fin 1024) : (outsAt0 m c t.val t.isLt).1 (ix2 r d) = (args m c).dX (row (ti t) r) d := by
  rcases cases t with ⟨ca, cb⟩ | ⟨ca, cb⟩
  on_goal 1 => rw [outsAt0_A m c t ca cb]
  on_goal 2 => rw [outsAt0_B m c t ca cb]
  all_goals
    frame_open
    frame_out
    refine (pay5_at (bD m c t) (bY m c t) (bH m c t) (bW m c t) r d).trans ?_
    simp only [bD_at, bY_at, bH_at, bW_at]
    rfl

/-- What a point leaves in the weight's gradient: the first point its tile's part, a later one the sum. -/
theorem out5_A (ca : t.val % 8 = 0) (z : Fin 1) (d : Fin 1024) :
    (outsAt0 m c t.val t.isLt).2 (ix2 z d) = (args m c).dwT (ti t) d := by
  rw [outsAt0_A m c t ca (by have := cases t; omega)]
  frame_open
  frame_out
  exact part_at m c t z d
theorem out5_B (ca : ¬t.val % 8 = 0) (z : Fin 1) (d : Fin 1024) :
    (outsAt0 m c t.val t.isLt).2 (ix2 z d) = (before m c t).2 (ix2 z d) + (args m c).dwT (ti t) d := by
  dsimp only [before]
  rw [outsAt0_B m c t ca (by have := cases t; omega)]
  frame_open
  frame_out
  refine (pay1_at (k0_pay4 (bY m c t) (bH m c t)) _ d z).trans ?_
  rw [part_at]

/-- The two result arrays. -/
theorem arr4 : (dats m 0 c).arrAt 4 cfg0.N = fun j : S4096x1024.Idx => (args m c).dX (j 0) (j 1) := by
  refine (dats m 0 c).arrAt_eq_of_covers 4 _ (by decide +kernel) fun t hf y => ?_
  blk_simp
  rw [after0_4]
  obtain ⟨r, d, hy⟩ : ∃ (r : Fin 512) (d : Fin 1024), y = ix2 r d := ⟨y 0, y 1, by blk_ext⟩
  have e0 : ((win0_4.blk t).view.emb y 0 : Fin 4096) = row (ti t) r := by
    rw [hy]; refine Fin.ext ?_; blk_simp [idx t]; simp only [row, ti]; omega
  have e1 : ((win0_4.blk t).view.emb y 1 : Fin 1024) = d := by
    rw [hy]; refine Fin.ext ?_; blk_simp [idx t]
  refine Eq.trans ?_ (congrArg₂ (args m c).dX e0 e1).symm
  rw [hy]
  exact out4_at m c t r d
theorem arr5 : (dats m 0 c).arrAt 5 cfg0.N = fun j : S1x1024.Idx => (args m c).dw (j 1) := by
  refine (dats m 0 c).arrAt_eq_of_covers 5 _ (by decide +kernel) fun t hf y => ?_
  blk_simp
  rw [after0_5]
  obtain ⟨z, d, hy⟩ : ∃ (z : Fin 1) (d : Fin 1024), y = ix2 z d := ⟨y 0, y 1, by blk_ext⟩
  have e1 : ((win0_5.blk t).view.emb y 1 : Fin 1024) = d := by
    rw [hy]; refine Fin.ext ?_; blk_simp [idx t]
  refine Eq.trans ?_ (congrArg (args m c).dw e1).symm
  rw [hy]
  have ht : t.val % 8 = 7 := (flush0_5 t).mp hf
  have e := Pipeline.eq_sum_fin_of_reset_step_apply_of_flush (fun n h i => (outsAt0 m c n h).2 i) 8
    (fun _ => (0 : EReal)) (fun t (i : S1x1024.Idx) => (args m c).dwT (ti t) (i 1))
    (fun t h0 i => by idx_vars i; exact (out5_A m c t h0 i0 i1).trans (zero_add _).symm) (fun t h0 i => by idx_vars i; exact out5_B m c t h0 i0 i1) t ht (ix2 z d)
  refine e.trans ((zero_add _).trans ?_)
  refine Finset.sum_congr rfl fun s _ => ?_
  refine congrArg (fun i => (args m c).dwT i d) (Fin.ext ?_)
  have hN : t.val < 8 := lt_of_lt_of_eq t.isLt N_0
  simp only [ti]; omega
end
end Cert.Kernel24Ideal.Value
-- ==== Proof.NormRef.lean ====
module

public import proofs.«01_k».proof.Defs
public import proofs.«01_k».proof.Proof.Gen.Reference24Ideal.Read
public import proofs.«01_k».proof.Proof.NormBwd
public import proofs.«01_k».proof.Proof.FEqual
public import proofs.«01_k».proof.Proof.FPre

/-! The reference of the norm's gradient: its values at an index, the precondition read at an entry, and the two results
    at finite arguments. -/

@[expose] public section
set_option maxRecDepth 16384
noncomputable section
open Idealize.ShloMosaic Idealize.ShloMosaic.TcCoe Idealize.SL.Sem
open Cert.Gmlp (IsReal)

namespace Cert.Ffn
/-- The norm's own arguments and its result's gradient are finite. -/
structure NormArgs.Finite (A : NormArgs) : Prop where
  du : ∀ r d, IsReal (A.du r d)
  h : ∀ r d, IsReal (A.h r d)
  w : ∀ d, IsReal (A.w d)

/-- The precondition's shapes broadcast. -/
theorem norm_facts : Cert.Pre_finite24.Facts where
  bcast_S_S4096x1024 := by decide
  bcast_S_S1024 := by decide
end Cert.Ffn

namespace Cert.Reference24Ideal.Value
open Cert.Reference24Ideal Cert.Reference24Ideal.Gen Cert.Reference24Ideal.Read Cert.Ffn
section
variable (x0 x1 x2 : Vec Ideal S4096x1024 .f32) (x3 : Vec Ideal S1024 .f32)

/-- The arguments that the arrays hold. -/
def rargs : NormArgs where
  dh r d := x0 (ix2 r d)
  du r d := x1 (ix2 r d)
  h r d := x2 (ix2 r d)
  w d := x3 (ix1 d)

/-- Under the precondition they are finite. -/
theorem args_fin [Cert.Pre_finite24.Facts] (h0 : (Cert.Pre_finite24.fn (F := Ideal) x0 x1 x2 x3).1 = fun _ => 1#1)
    (h1 : (Cert.Pre_finite24.fn (F := Ideal) x0 x1 x2 x3).2.1 = fun _ => 1#1)
    (h2 : (Cert.Pre_finite24.fn (F := Ideal) x0 x1 x2 x3).2.2 = fun _ => 1#1) : (rargs x0 x1 x2 x3).Finite where
  du r d := isReal_at x1 _ h0 _
  h r d := isReal_at x2 _ h1 _
  w d := isReal_at x3 _ h2 _

/-- A row, and a row of the gradient of the normalised row. -/
abbrev xr (r : Fin 4096) (j : Fin 1024) : EReal := x2 (ix2 r j)
abbrev yr (r : Fin 4096) (j : Fin 1024) : EReal := x1 (ix2 r j) * x3 (ix1 j)

theorem v6_at (r : Fin 4096) (z : Fin 1) : val_main_v6 x2 (ix2 r z) = var (xr x2 r) := by
  pointwise [val_main_v6, val_main_v5, val_main_v4, val_main_v3, val_main_v2, val_main_v1, val_main_v0, val_main_cst, val_main_cst_0, val_main_cst_1]
  simp only [ofBits_n, ofBits_eps]
  first | rfl | (simp only [zero_add]; rfl)
theorem v7_at (r : Fin 4096) (z : Fin 1) : val_main_v7 x2 (ix2 r z) = rs (xr x2 r) := by
  pointwise [val_main_v7]
  rw [v6_at]; rfl
theorem v10_at (r : Fin 4096) (z : Fin 1) : val_main_v10 x2 (ix2 r z) = cNegHalf * Ideal.div (rs (xr x2 r)) (var (xr x2 r)) := by
  pointwise [val_main_v10, val_main_v9, val_main_v8, val_main_cst_2]
  rw [v6_at, v7_at, ofBits_negHalf]
theorem v12_at (r : Fin 4096) (j : Fin 1024) : val_main_v12 x2 (ix2 r j) = xh (xr x2 r) j := by
  pointwise [val_main_v12, val_main_v11]
  rw [v7_at]; rfl
theorem v20_at (r : Fin 4096) (j : Fin 1024) : val_main_v20 x1 x3 (ix2 r j) = yr x1 x3 r j := by
  pointwise [val_main_v20, val_main_v19, val_main_v13]
theorem v29_at (r : Fin 4096) (z : Fin 1) : val_main_v29 x1 x2 x3 (ix2 r z) = rq (xr x2 r) (yr x1 x3 r) := by
  pointwise [val_main_v29, val_main_v28, val_main_v27, val_main_v24, val_main_v23, val_main_v22, val_main_cst_5, val_main_cst_6]
  simp only [v20_at, v10_at, ofBits_n]
  rfl
theorem v36_at (r : Fin 4096) (j : Fin 1024) : val_main_v36 x0 x1 x2 x3 (ix2 r j) = x0 (ix2 r j) + rx (xr x2 r) (yr x1 x3 r) j := by
  pointwise [val_main_v36, val_main_v35, val_main_v34, val_main_v33, val_main_v32, val_main_v31, val_main_v30, val_main_v26, val_main_v25, val_main_cst_7]
  simp only [v20_at, v29_at, v7_at, Fin.sum_univ_one]
  rfl
theorem v37_at (z : Fin 1) (j : Fin 1024) : val_main_v37 x1 x2 (ix2 z j) = ∑ r, xh (xr x2 r) j * x1 (ix2 r j) := by
  pointwise [val_main_v37, val_main_v21, val_main_v18, val_main_v17, val_main_v16, val_main_cst_3, val_main_cst_4]
  simp only [Fin.sum_univ_one, v12_at]

/-- The two results. -/
theorem out36 (F : (rargs x0 x1 x2 x3).Finite) :
    val_main_v36 x0 x1 x2 x3 = fun j : S4096x1024.Idx => (rargs x0 x1 x2 x3).dX (j 0) (j 1) := by
  funext j
  obtain ⟨r, d, rfl⟩ : ∃ (r : Fin 4096) (d : Fin 1024), j = ix2 r d := ⟨j 0, j 1, eq_ix2 j⟩
  choose v hv using fun j => F.h r j
  choose y hy using fun j => (F.du r j).mul (F.w j)
  exact (v36_at x0 x1 x2 x3 r d).trans (congrArg (x0 (ix2 r d) + ·) (norm_eq hv hy d))
theorem out37 : val_main_v37 x1 x2 = fun j : S1x1024.Idx => (rargs x0 x1 x2 x3).dw (j 1) := by
  funext j
  obtain ⟨z, d, rfl⟩ : ∃ (z : Fin 1) (d : Fin 1024), j = ix2 z d := ⟨j 0, j 1, eq_ix2 j⟩
  refine (v37_at x1 x2 z d).trans ?_
  rw [sum_rows]
  exact Finset.sum_congr rfl fun i _ => Finset.sum_congr rfl fun r _ => mul_comm _ _
end
end Cert.Reference24Ideal.Value
-- ==== Proof.Norms.lean ====
module

public import proofs.«01_k».proof.Defs
public import proofs.«01_k».proof.Proof.Gen.Kernel23.Frame
public import proofs.«01_k».proof.Proof.Gen.Reference23Ideal.Run
public import proofs.«01_k».proof.Proof.Gen.Kernel24.Frame
public import proofs.«01_k».proof.Proof.Gen.Reference24Ideal.Run
public import proofs.«01_k».proof.Proof.Norm
public import proofs.«01_k».proof.Proof.NormBwd
public import proofs.«01_k».proof.Proof.NormRef
public import Idealize.ShloMosaic.Lib.Quiescent

/-! The claims about the norm before a mixer, forward and backward. -/

@[expose] public section
set_option maxRecDepth 16384
noncomputable section
open Idealize.ShloMosaic Idealize.ShloMosaic.TcCoe Idealize.SL.Sem
namespace Cert.Proof.Norms
open Cert.Ffn

/-! Forward. -/
theorem frame_kernel23 : Cert.quiescent_Kernel23 (hKernel23 := Cert.Kernel23.Gen.facts) := fun m ρ _ => Cert.Kernel23.Gen.frame m ρ
theorem frame_ideal23 : Cert.quiescent_Kernel23Ideal (hKernel23Ideal := Cert.Kernel23Ideal.Gen.facts) := fun m ρ _ => Cert.Kernel23Ideal.Gen.frame m ρ
theorem frame_reference23 : Cert.quiescent_Reference23Ideal (hReference23Ideal := Cert.Reference23Ideal.Gen.facts) := fun m ρ _ =>
  (θ_run Cert.Reference23Ideal.defs _ _).mono (fun r h => ⟨fun c => (h c).2, sem_eq_zero_of_no_sems (by decide) r.2⟩)
    (Cert.Reference23Ideal.Value.run (F := Ideal) m ρ)
theorem preserves23 : Cert.preserves_Kernel23_Kernel23Ideal := trivial
theorem algebraic23 : Cert.algebraic_Kernel23Ideal_Reference23Ideal (hKernel23Ideal := Cert.Kernel23Ideal.Gen.facts)
    (hReference23Ideal := Cert.Reference23Ideal.Gen.facts) := by
  intro m ρ m' ρ' _ hagree
  refine ⟨fun c => fun j : Cert.Kernel23Ideal.S4096x1024.Idx => Cert.Kernel23Ideal.Value.normed m c (j 0) (j 1), ?_, ?_⟩
  · refine (θ_run Cert.Kernel23Ideal.defs _ _).mono (fun r h c => ?_) (Cert.Kernel23Ideal.Value.run_blocks (F := Ideal) m ρ)
    obtain ⟨e, hargs⟩ := h c
    exact ⟨e.trans (Cert.Kernel23Ideal.Value.arr2 m c), hargs⟩
  · refine (θ_run Cert.Reference23Ideal.defs _ _).mono (fun r h c => ?_) (Cert.Reference23Ideal.Value.run (F := Ideal) m' ρ')
    obtain ⟨e, hargs⟩ := h c
    obtain ⟨a0, a1⟩ := hagree c
    refine ⟨e.trans ((Cert.Reference23Ideal.Read.val_main_v13_eq _ _).trans ((Cert.Reference23Ideal.Value.out13 _ _).trans ?_)), hargs⟩
    rw [a0, a1]
    rfl

/-! Backward. -/
theorem frame_kernel24 : Cert.quiescent_Kernel24 (hKernel24 := Cert.Kernel24.Gen.facts) := fun m ρ _ => Cert.Kernel24.Gen.frame m ρ
theorem frame_ideal24 : Cert.quiescent_Kernel24Ideal (hKernel24Ideal := Cert.Kernel24Ideal.Gen.facts) := fun m ρ _ => Cert.Kernel24Ideal.Gen.frame m ρ
theorem frame_ideal_pre24 : Cert.quiescent_Kernel24Ideal_pre_finite24 (hKernel24Ideal := Cert.Kernel24Ideal.Gen.facts) (hPre_finite24 := norm_facts) :=
  fun m ρ _ => Cert.Kernel24Ideal.Gen.frame m ρ
theorem frame_reference24 : Cert.quiescent_Reference24Ideal (hReference24Ideal := Cert.Reference24Ideal.Gen.facts) := fun m ρ _ =>
  (θ_run Cert.Reference24Ideal.defs _ _).mono (fun r h => ⟨fun c => (h c).2.2, sem_eq_zero_of_no_sems (by decide) r.2⟩)
    (Cert.Reference24Ideal.Value.run (F := Ideal) m ρ)
theorem frame_reference_pre24 : Cert.quiescent_Reference24Ideal_pre_finite24 (hReference24Ideal := Cert.Reference24Ideal.Gen.facts) (hPre_finite24 := norm_facts) :=
  fun m ρ _ => frame_reference24 m ρ trivial
theorem preserves24 : Cert.preserves_Kernel24_Kernel24Ideal := trivial

theorem algebraic24 : Cert.algebraic_Kernel24Ideal_Reference24Ideal_pre_finite24 (hKernel24Ideal := Cert.Kernel24Ideal.Gen.facts)
    (hReference24Ideal := Cert.Reference24Ideal.Gen.facts) (hPre_finite24 := norm_facts) := by
  intro m ρ m' ρ' hpre hagree
  refine ⟨fun c => fun j : Cert.Kernel24Ideal.S4096x1024.Idx => (Cert.Kernel24Ideal.Value.args m c).dX (j 0) (j 1),
    fun c => fun j : Cert.Kernel24Ideal.S1x1024.Idx => (Cert.Kernel24Ideal.Value.args m c).dw (j 1), ?_, ?_⟩
  · refine (θ_run Cert.Kernel24Ideal.defs _ _).mono (fun r h c => ?_) (Cert.Kernel24Ideal.Value.run_blocks (F := Ideal) m ρ)
    obtain ⟨e0, e1, hargs⟩ := h c
    exact ⟨e0.trans (Cert.Kernel24Ideal.Value.arr4 m c), e1.trans (Cert.Kernel24Ideal.Value.arr5 m c), hargs⟩
  · refine (θ_run Cert.Reference24Ideal.defs _ _).mono (fun r h c => ?_) (Cert.Reference24Ideal.Value.run (F := Ideal) m' ρ')
    obtain ⟨e0, e1, hargs⟩ := h c
    obtain ⟨a0, a1, a2, a3⟩ := hagree c
    obtain ⟨h0, h1, h2⟩ := hpre c
    have hf := @Cert.Reference24Ideal.Value.args_fin _ _ _ _ norm_facts h0 h1 h2
    refine ⟨e0.trans ((Cert.Reference24Ideal.Read.val_main_v36_eq _ _ _ _).trans ?_),
      e1.trans ((Cert.Reference24Ideal.Read.val_main_v37_eq _ _).trans ?_), hargs⟩
    · rw [a0, a1, a2, a3]
      exact Cert.Reference24Ideal.Value.out36 _ _ _ _ hf
    · rw [a1, a2]
      exact Cert.Reference24Ideal.Value.out37 (m (c.tc.loc Cert.Kernel24Ideal.main_arg0)) _ _ (m (c.tc.loc Cert.Kernel24Ideal.main_arg3))

end Cert.Proof.Norms
-- ==== Proof.DtDw.lean ====
module

public import proofs.«01_k».proof.Proof.Gen.Kernel25Ideal.Value
public import proofs.«01_k».proof.Proof.Gen.Reference25Ideal.Read
public import proofs.«01_k».proof.Proof.Tiles
public import Idealize.ShloMosaic.Lib.Pipeline.ValueKit
public import Idealize.ShloMosaic.Lib.Pipeline.ReadBack
public import Idealize.ShloMosaic.Lib.Pointwise
public import Idealize.ShloMosaic.Lib.StableHlo.ReadAt

/-! The gradient of the weights that make the time steps: the gradient of their product, transposed, times the normalised
    rows. The grid goes over four blocks of rows. -/

@[expose] public section
set_option maxRecDepth 16384
noncomputable section
open Idealize.ShloMosaic Idealize.ShloMosaic.TcCoe Idealize.SL.Sem

namespace Cert.Kernel25Ideal.Value
open Cert.Kernel25Ideal Cert.Kernel25Ideal.Gen Cert.Tiles
section
variable (P : Vec Ideal S32x1024 .f32) (X : Vec Ideal S1024x32 .f32) (Y : Vec Ideal S1024x1024 .bf16) (f : Fin 32) (d : Fin 1024)

/-- What the body stores: zero, the accumulator with a block's product added, and the accumulator. -/
theorem pay1_at : k0_pay1 (F := Ideal) (ix2 f d) = 0 := by
  pointwise [k0_pay1]
theorem pay2_at : k0_pay2 P X Y (ix2 f d) = P (ix2 f d) + ∑ r, X (ix2 r f) * Y (ix2 r d) := by
  pointwise [k0_pay2]
theorem pay3_at : k0_pay3 P (ix2 f d) = P (ix2 f d) := by
  pointwise [k0_pay3]
end
section
variable (m : (ℓ : Loc nD τ sig) → Buf (Elt Ideal) ℓ) (c : Dev nD)

/-- The gradient of the product and the normalised rows, as a memory holds them. -/
def ddt (r : Fin 4096) (f : Fin 32) : EReal := m ((c : Thread nD τ).loc main_arg0) (ix2 r f)
def u (r : Fin 4096) (d : Fin 1024) : EReal := m ((c : Thread nD τ).loc main_arg1) (ix2 r d)

theorem V_ddt (r : Fin 4096) (f : Fin 32) : V m c main_arg0 (ix2 r f) = ddt m c r f := by
  rw [V_main_arg0]; rfl
theorem V_u (r : Fin 4096) (d : Fin 1024) : V m c main_v0 (ix2 r d) = u m c r d := by
  unfold V
  after_reads_at
  rfl

variable (t : Fin cfg0.N)
abbrev bX : Vec Ideal S1024x32 .f32 := iblk m c 0 t
abbrev bY : Vec Ideal S1024x1024 .bf16 := iblk m c 1 t
/-- The block of rows of a grid point. -/
def tb : Fin 4 := ⟨t.val % 4, by omega⟩

theorem idx : ∀ t : Fin cfg0.N, win0_0.index t = ![t.val % 4, 0] ∧ win0_1.index t = ![t.val % 4, 0] ∧ win0_2.index t = ![0, 0] :=
  (by decide +kernel : ∀ t : Fin grid0.N, _)

theorem bX_at (r : Fin 1024) (f : Fin 32) : bX m c t (ix2 r f) = ddt m c (blk (tb t) r) f := by
  refine Eq.trans ?_ (V_ddt m c (blk (tb t) r) f)
  unfold blk tb
  blk_point [iblk, idx t]
theorem bY_at (r d : Fin 1024) : bY m c t (ix2 r d) = u m c (blk (tb t) r) d := by
  refine Eq.trans ?_ (V_u m c (blk (tb t) r) d)
  unfold blk tb
  blk_point [iblk, idx t]

/-- The accumulator after a point: the first block of rows starts it, a later one adds to it. -/
theorem acc_first (h : t.val % 4 = 0) (f : Fin 32) (d : Fin 1024) :
    (outsAt0 m c t.val t.isLt).2 (ix2 f d) = (0 : EReal) + part (ddt m c) (u m c) (tb t) f d := by
  rw [outsAt0_A m c t h (by omega)]
  frame_open
  simp (disch := decide) only [↓ View.readCov_skip, ↓ View.readCov_cons_toLoadRect, ↓ View.readCov_fill]
  frame_out
  refine (pay2_at _ (bX m c t) (bY m c t) f d).trans ?_
  unfold part
  simp only [bX_at, bY_at, pay1_at]
theorem acc_later (h : ¬t.val % 4 = 0) (f : Fin 32) (d : Fin 1024) : (outsAt0 m c t.val t.isLt).2 (ix2 f d)
    = (outsAt0 m c (t.val - 1) (Nat.lt_of_le_of_lt (Nat.sub_le _ _) t.isLt)).2 (ix2 f d) + part (ddt m c) (u m c) (tb t) f d := by
  unfold part
  simp only [← bX_at, ← bY_at]
  by_cases h1 : t.val % 4 = 3
  on_goal 1 => rw [outsAt0_C m c t h h1]
  on_goal 2 => rw [outsAt0_B m c t h h1]
  all_goals
    frame_open
    try simp (disch := decide) only [↓ View.readCov_skip, ↓ View.readCov_cons_toLoadRect, ↓ View.readCov_fill]
    frame_out
    refine (pay2_at _ (bX m c t) (bY m c t) f d).trans (congrArg (· + _) ?_)
    exact congrFun ((Memref.isWhole_whole cc0_scratch0).read_unread (Val := Elt Ideal) _) _

/-- The last block of rows: the point stores the accumulator, which then holds the whole product. -/
theorem out_last (h : t.val % 4 = 3) (f : Fin 32) (d : Fin 1024) :
    (outsAt0 m c t.val t.isLt).1 (ix2 f d) = (outsAt0 m c t.val t.isLt).2 (ix2 f d) := by
  rw [outsAt0_C m c t (by omega) h]
  frame_open
  simp (disch := decide) only [↓ View.readCov_skip, ↓ View.readCov_cons_toLoadRect, ↓ View.readCov_fill]
  frame_out
  exact pay3_at _ f d
theorem acc_last (h : t.val % 4 = 3) (f : Fin 32) (d : Fin 1024) :
    (outsAt0 m c t.val t.isLt).2 (ix2 f d) = prod (ddt m c) (u m c) f d := by
  rw [Pipeline.eq_sum_fin_of_reset_step_apply_of_flush (fun n h i => (outsAt0 m c n h).2 i) 4
    (fun _ => (0 : EReal)) (fun t i => part (ddt m c) (u m c) (tb t) (i 0) (i 1))
    (fun t h0 i => by idx_vars i; exact acc_first m c t h0 i0 i1) (fun t h0 i => by idx_vars i; exact acc_later m c t h0 i0 i1) t h (ix2 f d), zero_add, prod_eq]
  refine Finset.sum_congr rfl fun s _ => ?_
  refine congrArg (fun k => part (ddt m c) (u m c) k f d) (Fin.ext ?_)
  simp only [tb]; omega

/-- The result array. -/
theorem arr2 : (dats m 0 c).arrAt 2 cfg0.N = fun j : S32x1024.Idx => prod (ddt m c) (u m c) (j 0) (j 1) := by
  refine (dats m 0 c).arrAt_eq_of_covers 2 _ (by decide +kernel) fun t hf y => ?_
  blk_simp
  rw [after0_2]
  obtain ⟨f, d, hy⟩ : ∃ (f : Fin 32) (d : Fin 1024), y = ix2 f d := ⟨y 0, y 1, by blk_ext⟩
  have e0 : ((win0_2.blk t).view.emb y 0 : Fin 32) = f := by
    rw [hy]; refine Fin.ext ?_; blk_simp [idx t]
  have e1 : ((win0_2.blk t).view.emb y 1 : Fin 1024) = d := by
    rw [hy]; refine Fin.ext ?_; blk_simp [idx t]
  refine Eq.trans ?_ (congrArg₂ (prod (ddt m c) (u m c)) e0 e1).symm
  have ht : t.val % 4 = 3 := (flush0_2 t).mp hf
  rw [hy]
  exact (out_last m c t ht f d).trans (acc_last m c t ht f d)
end
end Cert.Kernel25Ideal.Value

namespace Cert.Reference25Ideal.Value
open Cert.Reference25Ideal Cert.Reference25Ideal.Gen Cert.Reference25Ideal.Read Cert.Tiles

/-- The reference's result. -/
theorem out5 (x0 : Vec Ideal S4096x32 .f32) (x1 : Vec Ideal S4096x1024 .f32) :
    val_main_v5 x0 x1 = fun j : S32x1024.Idx => prod (fun r f => x0 (ix2 r f)) (fun r d => x1 (ix2 r d)) (j 0) (j 1) := by
  funext j
  obtain ⟨f, d, rfl⟩ : ∃ (f : Fin 32) (d : Fin 1024), j = ix2 f d := ⟨j 0, j 1, eq_ix2 j⟩
  pointwise [val_main_v5, val_main_v4, val_main_v3, val_main_v2]
  rfl
end Cert.Reference25Ideal.Value
-- ==== Proof.DtDx.lean ====
module

public import proofs.«01_k».proof.Proof.Gen.Kernel26Ideal.Value
public import proofs.«01_k».proof.Proof.Gen.Reference26Ideal.Read
public import proofs.«01_k».proof.Proof.Tiles
public import Idealize.ShloMosaic.Lib.Pipeline.ValueKit
public import Idealize.ShloMosaic.Lib.Pipeline.ReadBack
public import Idealize.ShloMosaic.Lib.KernelVsHost
public import Idealize.ShloMosaic.Lib.Pointwise
public import Idealize.ShloMosaic.Lib.StableHlo.ReadAt

/-! The gradient of the normalised rows through the time steps' product, added to their gradient through the other columns.
    One point of the kernel's grid does a whole block of rows. -/

@[expose] public section
set_option maxRecDepth 16384
noncomputable section
open Idealize.ShloMosaic Idealize.ShloMosaic.TcCoe Idealize.SL.Sem

namespace Cert.Tiles
/-- The last 32 of the 6176 columns of the input weights, which make the time steps. -/
def dcol (k : Fin 32) : Fin 6176 := ⟨6144 + k.val, by omega⟩

/-- A sum over all the columns whose terms are zero at the others. -/
theorem sum_dcol (f : Fin 6176 → EReal) (h : ∀ k : Fin 6176, k.val < 6144 → f k = 0) : ∑ k, f k = ∑ k, f (dcol k) := by
  refine sum_part dcol (fun a b e => Fin.ext (by have := congrArg Fin.val e; simp only [dcol] at this; omega)) f fun k hk => h k ?_
  by_contra hc
  refine hk ⟨k.val - 6144, by omega⟩ (Fin.ext ?_)
  simp only [dcol]; omega
end Cert.Tiles

namespace Cert.Kernel26Ideal.Value
open Cert.Kernel26Ideal Cert.Kernel26Ideal.Gen Cert.Tiles
section
variable (P R : Vec Ideal S1024x1024 .f32) (X : Vec Ideal S1024x32 .f32) (Y : Vec Ideal S32x1024 .bf16) (f d : Fin 1024)

/-- What the body stores: zero, the accumulator with the product added, and the accumulator plus the other part. -/
theorem pay1_at : k0_pay1 (F := Ideal) (ix2 f d) = 0 := by
  pointwise [k0_pay1]
theorem pay2_at : k0_pay2 P X Y (ix2 f d) = P (ix2 f d) + ∑ k, X (ix2 f k) * Y (ix2 k d) := by
  pointwise [k0_pay2]
theorem pay3_at : k0_pay3 P R (ix2 f d) = P (ix2 f d) + R (ix2 f d) := by
  pointwise [k0_pay3]
end
section
variable (m : (ℓ : Loc nD τ sig) → Buf (Elt Ideal) ℓ) (c : Dev nD)

/-- The gradient of the product, the weights and the other part, as a memory holds them. -/
def ddt (r : Fin 4096) (k : Fin 32) : EReal := m ((c : Thread nD τ).loc main_arg0) (ix2 r k)
def w (k : Fin 32) (d : Fin 1024) : EReal := m ((c : Thread nD τ).loc main_arg2) (ix2 d (dcol k))
def du (r : Fin 4096) (d : Fin 1024) : EReal := m ((c : Thread nD τ).loc main_arg1) (ix2 r d)

theorem V_ddt (r : Fin 4096) (k : Fin 32) : V m c main_arg0 (ix2 r k) = ddt m c r k := by
  rw [V_main_arg0]; rfl
theorem V_w (k : Fin 32) (d : Fin 1024) : V m c main_v1 (ix2 (dcol k) d) = w m c k d := by
  unfold V
  after_reads_at
  rfl
theorem V_du (r : Fin 4096) (d : Fin 1024) : V m c main_arg1 (ix2 r d) = du m c r d := by
  rw [V_main_arg1]; rfl

variable (t : Fin cfg0.N)
abbrev bX : Vec Ideal S1024x32 .f32 := iblk m c 0 t
abbrev bY : Vec Ideal S32x1024 .bf16 := iblk m c 1 t
abbrev bZ : Vec Ideal S1024x1024 .f32 := iblk m c 2 t
/-- The block of rows of a grid point. -/
def ti : Fin 4 := ⟨t.val, lt_of_lt_of_eq t.isLt N_0⟩

theorem idx : ∀ t : Fin cfg0.N, win0_0.index t = ![t.val, 0] ∧ win0_1.index t = ![192, 0] ∧ win0_2.index t = ![t.val, 0]
    ∧ win0_3.index t = ![t.val, 0] :=
  (by decide +kernel : ∀ t : Fin grid0.N, _)

theorem bX_at (f : Fin 1024) (k : Fin 32) : bX m c t (ix2 f k) = ddt m c (blk (ti t) f) k := by
  refine Eq.trans ?_ (V_ddt m c (blk (ti t) f) k)
  unfold blk ti
  blk_point [iblk, idx t]
theorem bY_at (k : Fin 32) (d : Fin 1024) : bY m c t (ix2 k d) = w m c k d := by
  refine Eq.trans ?_ (V_w m c k d)
  unfold dcol
  blk_point [iblk, idx t]
theorem bZ_at (f d : Fin 1024) : bZ m c t (ix2 f d) = du m c (blk (ti t) f) d := by
  refine Eq.trans ?_ (V_du m c (blk (ti t) f) d)
  unfold blk ti
  blk_point [iblk, idx t]

/-- What a point stores, and the result array. -/
theorem out_at (f d : Fin 1024) : outsAt0 m c t (ix2 f d)
    = (∑ k, ddt m c (blk (ti t) f) k * w m c k d) + du m c (blk (ti t) f) d := by
  unfold outsAt0
  frame_open
  simp (disch := decide) only [↓ View.readCov_skip, ↓ View.readCov_cons_toLoadRect, ↓ View.readCov_fill]
  frame_out
  refine (pay3_at _ (bZ m c t) f d).trans (congrArg₂ (· + ·) ?_ (bZ_at m c t f d))
  refine (pay2_at _ (bX m c t) (bY m c t) f d).trans ?_
  simp only [bX_at, bY_at, pay1_at, zero_add]
theorem arr3 : (dats m 0 c).arrAt 3 cfg0.N = fun j : S4096x1024.Idx =>
    (∑ k, ddt m c (j 0) k * w m c k (j 1)) + du m c (j 0) (j 1) := by
  refine (dats m 0 c).arrAt_eq_of_covers 3 _ (by decide +kernel) fun t hf y => ?_
  blk_simp
  rw [after0_3]
  obtain ⟨f, d, hy⟩ : ∃ (f d : Fin 1024), y = ix2 f d := ⟨y 0, y 1, by blk_ext⟩
  have e0 : ((win0_3.blk t).view.emb y 0 : Fin 4096) = blk (ti t) f := by
    rw [hy]; refine Fin.ext ?_; blk_simp [idx t]; simp only [blk, ti]; omega
  have e1 : ((win0_3.blk t).view.emb y 1 : Fin 1024) = d := by
    rw [hy]; refine Fin.ext ?_; blk_simp [idx t]
  refine Eq.trans ?_ (congrArg₂ (fun r d => (∑ k, ddt m c r k * w m c k d) + du m c r d) e0 e1).symm
  rw [hy]
  exact out_at m c t f d
end
end Cert.Kernel26Ideal.Value

namespace Cert.Reference26Ideal.Value
open Cert.Reference26Ideal Cert.Reference26Ideal.Gen Cert.Reference26Ideal.Read Cert.Tiles
section
variable (x0 : Vec Ideal S4096x32 .f32) (x1 : Vec Ideal S4096x1024 .f32) (x2 : Vec Ideal S1024x6176 .f32)

/-- The gradient of all the columns: that of the time steps' columns, and zero at the others. -/
theorem v3_in (r : Fin 4096) (k : Fin 32) : val_main_v3 x0 (ix2 r (dcol k)) = x0 (ix2 r k) := by
  unfold val_main_v3
  refine pad_apply_of_inside _ _ _ _ _ _ _ _ (ix2 r k) fun a => ?_
  fin_cases a
  · show r.val = 0 + r.val * 1
    omega
  · show 6144 + k.val = 6144 + k.val * 1
    omega
theorem v3_out (r : Fin 4096) (k : Fin 6176) (h : k.val < 6144) : val_main_v3 x0 (ix2 r k) = 0 := by
  unfold val_main_v3
  refine (pad_apply_of_not_inside _ _ _ _ _ _ _ _ 1 fun hc => ?_).trans (by pointwise [val_main_cst_0])
  obtain ⟨h1, _, h2⟩ := hc
  have h1 : 6144 ≤ k.val := h1
  omega

/-- The reference's result. -/
theorem out5 : val_main_v5 x0 x1 x2 = fun j : S4096x1024.Idx =>
    (∑ k : Fin 32, x0 (ix2 (j 0) k) * x2 (ix2 (j 1) (dcol k))) + x1 (ix2 (j 0) (j 1)) := by
  funext j
  obtain ⟨r, d, rfl⟩ : ∃ (r : Fin 4096) (d : Fin 1024), j = ix2 r d := ⟨j 0, j 1, eq_ix2 j⟩
  pointwise [val_main_v5, val_main_v4]
  rw [sum_dcol _ fun k h => by rw [v3_out x0 r k h, zero_mul]]
  simp only [v3_in]
end
end Cert.Reference26Ideal.Value
-- ==== Proof.DtFwd.lean ====
module

public import proofs.«01_k».proof.Proof.Gen.Kernel27Ideal.Value
public import proofs.«01_k».proof.Proof.Gen.Reference27Ideal.Read
public import proofs.«01_k».proof.Proof.DtDx
public import Idealize.ShloMosaic.Lib.Pipeline.ValueKit
public import Idealize.ShloMosaic.Lib.Pipeline.ReadBack
public import Idealize.ShloMosaic.Lib.Pointwise
public import Idealize.ShloMosaic.Lib.StableHlo.ReadAt

/-! The state-space layer's input projection, the columns of the time steps: the normalised rows times the weights. One
    point of the kernel's grid does a whole block of rows. -/

@[expose] public section
set_option maxRecDepth 16384
noncomputable section
open Idealize.ShloMosaic Idealize.ShloMosaic.TcCoe Idealize.SL.Sem

namespace Cert.Kernel27Ideal.Value
open Cert.Kernel27Ideal Cert.Kernel27Ideal.Gen Cert.Tiles
section
variable (P : Vec Ideal S1024x32 .f32) (X : Vec Ideal S1024x1024 .bf16) (Y : Vec Ideal S32x1024 .bf16) (f : Fin 1024) (d : Fin 32)

/-- What the body stores: zero, and the accumulator with the block's product added. -/
theorem pay1_at : k0_pay1 (F := Ideal) (ix2 f d) = 0 := by
  pointwise [k0_pay1]
theorem pay2_at : k0_pay2 P X Y (ix2 f d) = P (ix2 f d) + ∑ k, X (ix2 f k) * Y (ix2 d k) := by
  pointwise [k0_pay2]
end
section
variable (m : (ℓ : Loc nD τ sig) → Buf (Elt Ideal) ℓ) (c : Dev nD)

/-- The normalised rows and the weights, as a memory holds them. -/
def u (r : Fin 4096) (k : Fin 1024) : EReal := m ((c : Thread nD τ).loc main_arg0) (ix2 r k)
def w (k : Fin 1024) (d : Fin 32) : EReal := m ((c : Thread nD τ).loc main_arg1) (ix2 k (dcol d))

theorem V_u (r : Fin 4096) (k : Fin 1024) : V m c main_v0 (ix2 r k) = u m c r k := by
  unfold V
  after_reads_at
  rfl
theorem V_w (k : Fin 1024) (d : Fin 32) : V m c main_v2 (ix2 (dcol d) k) = w m c k d := by
  unfold V
  after_reads_at
  rfl

variable (t : Fin cfg0.N)
abbrev bX : Vec Ideal S1024x1024 .bf16 := iblk m c 0 t
abbrev bY : Vec Ideal S32x1024 .bf16 := iblk m c 1 t
/-- The block of rows of a grid point. -/
def ti : Fin 4 := ⟨t.val, lt_of_lt_of_eq t.isLt N_0⟩

theorem idx : ∀ t : Fin cfg0.N, win0_0.index t = ![t.val, 0] ∧ win0_1.index t = ![192, 0] ∧ win0_2.index t = ![t.val, 0] :=
  (by decide +kernel : ∀ t : Fin grid0.N, _)

theorem bX_at (f k : Fin 1024) : bX m c t (ix2 f k) = u m c (blk (ti t) f) k := by
  refine Eq.trans ?_ (V_u m c (blk (ti t) f) k)
  unfold blk ti
  blk_point [iblk, idx t]
theorem bY_at (k : Fin 1024) (d : Fin 32) : bY m c t (ix2 d k) = w m c k d := by
  refine Eq.trans ?_ (V_w m c k d)
  unfold dcol
  blk_point [iblk, idx t]

/-- What a point stores, and the result array. -/
theorem out_at (f : Fin 1024) (d : Fin 32) : outsAt0 m c t (ix2 f d) = ∑ k, u m c (blk (ti t) f) k * w m c k d := by
  unfold outsAt0
  frame_open
  simp (disch := decide) only [↓ View.readCov_skip, ↓ View.readCov_cons_toLoadRect, ↓ View.readCov_fill]
  frame_out
  refine (pay2_at _ (bX m c t) (bY m c t) f d).trans ?_
  simp only [bX_at, bY_at, pay1_at, zero_add]
theorem arr2 : (dats m 0 c).arrAt 2 cfg0.N = fun j : S4096x32.Idx => ∑ k, u m c (j 0) k * w m c k (j 1) := by
  refine (dats m 0 c).arrAt_eq_of_covers 2 _ (by decide +kernel) fun t hf y => ?_
  blk_simp
  rw [after0_2]
  obtain ⟨f, d, hy⟩ : ∃ (f : Fin 1024) (d : Fin 32), y = ix2 f d := ⟨y 0, y 1, by blk_ext⟩
  have e0 : ((win0_2.blk t).view.emb y 0 : Fin 4096) = blk (ti t) f := by
    rw [hy]; refine Fin.ext ?_; blk_simp [idx t]; simp only [blk, ti]; omega
  have e1 : ((win0_2.blk t).view.emb y 1 : Fin 32) = d := by
    rw [hy]; refine Fin.ext ?_; blk_simp [idx t]
  refine Eq.trans ?_ (congrArg₂ (fun r d => ∑ k, u m c r k * w m c k d) e0 e1).symm
  rw [hy]
  exact out_at m c t f d
end
end Cert.Kernel27Ideal.Value

namespace Cert.Reference27Ideal.Value
open Cert.Reference27Ideal Cert.Reference27Ideal.Gen Cert.Reference27Ideal.Read Cert.Tiles

/-- The reference's result. -/
theorem out1 (x0 : Vec Ideal S4096x1024 .f32) (x1 : Vec Ideal S1024x6176 .f32) :
    val_main_v1 x0 x1 = fun j : S4096x32.Idx => ∑ k : Fin 1024, x0 (ix2 (j 0) k) * x1 (ix2 k (dcol (j 1))) := by
  funext j
  obtain ⟨r, d, rfl⟩ : ∃ (r : Fin 4096) (d : Fin 32), j = ix2 r d := ⟨j 0, j 1, eq_ix2 j⟩
  pointwise [val_main_v1, val_main_v0]
  exact Finset.sum_congr rfl fun k _ => by first | rfl | exact congrArg (_ * x1 ·) (eq_ix2 _)
end Cert.Reference27Ideal.Value
-- ==== Proof.Dt.lean ====
module

public import proofs.«01_k».proof.Defs
public import proofs.«01_k».proof.Proof.Gen.Kernel25.Frame
public import proofs.«01_k».proof.Proof.Gen.Kernel25Ideal.Frame
public import proofs.«01_k».proof.Proof.Gen.Reference25Ideal.Run
public import proofs.«01_k».proof.Proof.Gen.Kernel26.Frame
public import proofs.«01_k».proof.Proof.Gen.Kernel26Ideal.Frame
public import proofs.«01_k».proof.Proof.Gen.Reference26Ideal.Run
public import proofs.«01_k».proof.Proof.Gen.Kernel27.Frame
public import proofs.«01_k».proof.Proof.Gen.Kernel27Ideal.Frame
public import proofs.«01_k».proof.Proof.Gen.Reference27Ideal.Run
public import proofs.«01_k».proof.Proof.DtDw
public import proofs.«01_k».proof.Proof.DtDx
public import proofs.«01_k».proof.Proof.DtFwd
public import Idealize.ShloMosaic.Lib.Quiescent

/-! The claims about the columns of the state-space layer's input weights that make the time steps: the programs run, and
    the kernel's result is the reference's at any arguments. -/

@[expose] public section
set_option maxRecDepth 16384
noncomputable section
open Idealize.ShloMosaic Idealize.ShloMosaic.TcCoe Idealize.SL.Sem
namespace Cert.Proof.Dt
open Cert.Tiles

/-! The gradient of the weights. -/
theorem frame_kernel25 : Cert.quiescent_Kernel25 (hKernel25 := Cert.Kernel25.Gen.facts) := fun m ρ _ => Cert.Kernel25.Gen.frame m ρ
theorem frame_ideal25 : Cert.quiescent_Kernel25Ideal (hKernel25Ideal := Cert.Kernel25Ideal.Gen.facts) := fun m ρ _ => Cert.Kernel25Ideal.Gen.frame m ρ
theorem frame_reference25 : Cert.quiescent_Reference25Ideal (hReference25Ideal := Cert.Reference25Ideal.Gen.facts) := fun m ρ _ =>
  (θ_run Cert.Reference25Ideal.defs _ _).mono (fun r h => ⟨fun c => (h c).2, sem_eq_zero_of_no_sems (by decide) r.2⟩) (Cert.Reference25Ideal.Value.run (F := Ideal) m ρ)
theorem preserves25 : Cert.preserves_Kernel25_Kernel25Ideal := trivial
theorem algebraic25 : Cert.algebraic_Kernel25Ideal_Reference25Ideal (hKernel25Ideal := Cert.Kernel25Ideal.Gen.facts)
    (hReference25Ideal := Cert.Reference25Ideal.Gen.facts) := by
  intro m ρ m' ρ' _ hagree
  refine ⟨fun c => fun j : Cert.Kernel25Ideal.S32x1024.Idx => prod (Cert.Kernel25Ideal.Value.ddt m c) (Cert.Kernel25Ideal.Value.u m c) (j 0) (j 1), ?_, ?_⟩
  · exact (θ_run Cert.Kernel25Ideal.defs _ _).mono (fun r h c => ⟨(h c).1.trans (Cert.Kernel25Ideal.Value.arr2 m c), (h c).2⟩) (Cert.Kernel25Ideal.Value.run_blocks (F := Ideal) m ρ)
  · refine (θ_run Cert.Reference25Ideal.defs _ _).mono (fun r h c => ?_) (Cert.Reference25Ideal.Value.run (F := Ideal) m' ρ')
    obtain ⟨e, hargs⟩ := h c
    obtain ⟨a0, a1⟩ := hagree c
    refine ⟨e.trans ((Cert.Reference25Ideal.Read.val_main_v5_eq _ _).trans ((Cert.Reference25Ideal.Value.out5 _ _).trans ?_)), hargs⟩
    rw [a0, a1]
    rfl

/-! The gradient of the normalised rows. -/
theorem frame_kernel26 : Cert.quiescent_Kernel26 (hKernel26 := Cert.Kernel26.Gen.facts) := fun m ρ _ => Cert.Kernel26.Gen.frame m ρ
theorem frame_ideal26 : Cert.quiescent_Kernel26Ideal (hKernel26Ideal := Cert.Kernel26Ideal.Gen.facts) := fun m ρ _ => Cert.Kernel26Ideal.Gen.frame m ρ
theorem frame_reference26 : Cert.quiescent_Reference26Ideal (hReference26Ideal := Cert.Reference26Ideal.Gen.facts) := fun m ρ _ =>
  (θ_run Cert.Reference26Ideal.defs _ _).mono (fun r h => ⟨fun c => (h c).2, sem_eq_zero_of_no_sems (by decide) r.2⟩) (Cert.Reference26Ideal.Value.run (F := Ideal) m ρ)
theorem preserves26 : Cert.preserves_Kernel26_Kernel26Ideal := trivial
theorem algebraic26 : Cert.algebraic_Kernel26Ideal_Reference26Ideal (hKernel26Ideal := Cert.Kernel26Ideal.Gen.facts)
    (hReference26Ideal := Cert.Reference26Ideal.Gen.facts) := by
  intro m ρ m' ρ' _ hagree
  refine ⟨fun c => fun j : Cert.Kernel26Ideal.S4096x1024.Idx => ((∑ k, Cert.Kernel26Ideal.Value.ddt m c (j 0) k * Cert.Kernel26Ideal.Value.w m c k (j 1))
    + Cert.Kernel26Ideal.Value.du m c (j 0) (j 1) : EReal), ?_, ?_⟩
  · exact (θ_run Cert.Kernel26Ideal.defs _ _).mono (fun r h c => ⟨(h c).1.trans (Cert.Kernel26Ideal.Value.arr3 m c), (h c).2⟩) (Cert.Kernel26Ideal.Value.run_blocks (F := Ideal) m ρ)
  · refine (θ_run Cert.Reference26Ideal.defs _ _).mono (fun r h c => ?_) (Cert.Reference26Ideal.Value.run (F := Ideal) m' ρ')
    obtain ⟨e, hargs⟩ := h c
    obtain ⟨a0, a1, a2⟩ := hagree c
    refine ⟨e.trans ((Cert.Reference26Ideal.Read.val_main_v5_eq _ _ _).trans ((Cert.Reference26Ideal.Value.out5 _ _ _).trans ?_)), hargs⟩
    rw [a0, a1, a2]
    rfl

/-! Forward. -/
theorem frame_kernel27 : Cert.quiescent_Kernel27 (hKernel27 := Cert.Kernel27.Gen.facts) := fun m ρ _ => Cert.Kernel27.Gen.frame m ρ
theorem frame_ideal27 : Cert.quiescent_Kernel27Ideal (hKernel27Ideal := Cert.Kernel27Ideal.Gen.facts) := fun m ρ _ => Cert.Kernel27Ideal.Gen.frame m ρ
theorem frame_reference27 : Cert.quiescent_Reference27Ideal (hReference27Ideal := Cert.Reference27Ideal.Gen.facts) := fun m ρ _ =>
  (θ_run Cert.Reference27Ideal.defs _ _).mono (fun r h => ⟨fun c => (h c).2, sem_eq_zero_of_no_sems (by decide) r.2⟩) (Cert.Reference27Ideal.Value.run (F := Ideal) m ρ)
theorem preserves27 : Cert.preserves_Kernel27_Kernel27Ideal := trivial
theorem algebraic27 : Cert.algebraic_Kernel27Ideal_Reference27Ideal (hKernel27Ideal := Cert.Kernel27Ideal.Gen.facts)
    (hReference27Ideal := Cert.Reference27Ideal.Gen.facts) := by
  intro m ρ m' ρ' _ hagree
  refine ⟨fun c => fun j : Cert.Kernel27Ideal.S4096x32.Idx => (∑ k, Cert.Kernel27Ideal.Value.u m c (j 0) k * Cert.Kernel27Ideal.Value.w m c k (j 1) : EReal), ?_, ?_⟩
  · exact (θ_run Cert.Kernel27Ideal.defs _ _).mono (fun r h c => ⟨(h c).1.trans (Cert.Kernel27Ideal.Value.arr2 m c), (h c).2⟩) (Cert.Kernel27Ideal.Value.run_blocks (F := Ideal) m ρ)
  · refine (θ_run Cert.Reference27Ideal.defs _ _).mono (fun r h c => ?_) (Cert.Reference27Ideal.Value.run (F := Ideal) m' ρ')
    obtain ⟨e, hargs⟩ := h c
    obtain ⟨a0, a1⟩ := hagree c
    refine ⟨e.trans ((Cert.Reference27Ideal.Read.val_main_v1_eq _ _).trans ((Cert.Reference27Ideal.Value.out1 _ _).trans ?_)), hargs⟩
    rw [a0, a1]
    rfl

end Cert.Proof.Dt
-- ==== Proof.Loss.lean ====
module

public import proofs.«01_k».proof.Proof.Gen.Kernel28Ideal.Value
public import proofs.«01_k».proof.Proof.FSpec
public import Idealize.ShloMosaic.Lib.Pipeline.ValueKit
public import Idealize.ShloMosaic.Lib.Pipeline.ReadBack
public import Idealize.ShloMosaic.Lib.Pointwise
public import Idealize.ShloMosaic.Lib.StableHlo.ReadAt

/-! The loss and its gradient. Each grid point takes a tile of rows, computes the gradients of these rows, and adds their
    part of the loss and of the gradient of the last norm's weight. -/

@[expose] public section
set_option maxRecDepth 16384
noncomputable section
open Idealize.ShloMosaic Idealize.ShloMosaic.TcCoe Idealize.SL.Sem

namespace Cert.Ffn
/-- A half, and one over the number of columns. -/
abbrev cHalf : EReal := ((1 / 2 : ℝ) : EReal)
abbrev cInvN : EReal := ((1 / 1024 : ℝ) : EReal)
theorem ofBits_half : Ideal.ofBits .f32 0x3F000000#32 = cHalf := by
  simp [Ideal.ofBits, Ideal.ieee]; norm_num; rw [← EReal.coe_mul]; congr 1; norm_num
theorem ofBits_invN : Ideal.ofBits .f32 0x3A800000#32 = cInvN := by
  simp [Ideal.ofBits, Ideal.ieee]; norm_num; rw [← EReal.coe_mul]; congr 1; norm_num

/-- The arguments: the rows, the targets and the last norm's weight. -/
structure LossArgs where
  h : Fin 4096 → Fin 1024 → EReal
  tg : Fin 4096 → Fin 1024 → EReal
  w : Fin 1024 → EReal

namespace LossArgs
variable (A : LossArgs)
/-- The error, the mean of a row's squared errors, and the gradient of the normed rows. -/
def err (r : Fin 4096) (d : Fin 1024) : EReal := nrm (A.h r) A.w d - A.tg r d
def ms (r : Fin 4096) : EReal := mean fun k => A.err r k * A.err r k
def dy (r : Fin 4096) (d : Fin 1024) : EReal := A.err r d * cInvN
/-- The gradient of the rows; a tile's part of the loss and of the weight's gradient; the loss and that gradient. -/
def dX (r : Fin 4096) (d : Fin 1024) : EReal := dnrm (A.h r) A.w (A.dy r) d
def lossT (i : Fin 8) : EReal := cHalf * ∑ r, A.ms (row i r)
def loss : EReal := ∑ i, A.lossT i
def dwT (i : Fin 8) (d : Fin 1024) : EReal := ∑ r, A.dy (row i r) d * xh (A.h (row i r)) d
def dw (d : Fin 1024) : EReal := ∑ i, A.dwT i d
end LossArgs
end Cert.Ffn

namespace Cert.Kernel28Ideal.Value
open Cert.Kernel28Ideal Cert.Kernel28Ideal.Gen Cert.Ffn
section
variable (H T : Vec Ideal S512x1024 .f32) (W Q : Vec Ideal S1x1024 .f32) (L : Vec Ideal S1x128 .f32)
  (r : Fin 512) (d : Fin 1024) (z z' : Fin 1) (l : Fin 128)

/-- A tile's error. -/
def bErr (r : Fin 512) (d : Fin 1024) : EReal := nrm (fun k => H (ix2 r k)) (fun k => W (ix2 0 k)) d - T (ix2 r d)

/-- The body's values read at an index. -/
theorem pay7_at : k0_pay7 H T W (ix2 r d) = bErr H T W r d := by
  pointwise [k0_pay7, k0_pay6]
  simp only [ofBits_n, ofBits_eps]; rfl
theorem pay8_at : k0_pay8 H T W (ix2 z z') = cHalf * ∑ r, mean fun k => bErr H T W r k * bErr H T W r k := by
  pointwise [k0_pay8]
  simp only [pay7_at, ofBits_n, ofBits_half]; rfl
theorem pay9_at : k0_pay9 H T W (ix2 r d) = bErr H T W r d * cInvN := by
  pointwise [k0_pay9]
  rw [pay7_at, ofBits_invN]
theorem pay10_at : k0_pay10 H (ix2 r z) = rs fun k => H (ix2 r k) := by
  pointwise [k0_pay10]
  simp only [ofBits_n, ofBits_eps]; rfl
theorem pay11_at : k0_pay11 H (ix2 r d) = xh (fun k => H (ix2 r k)) d := by
  pointwise [k0_pay11]
  rw [pay10_at]; rfl
theorem pay12_at : k0_pay12 H T W (ix2 r d) = bErr H T W r d * cInvN * W (ix2 0 d) := by
  pointwise [k0_pay12, k0_pay6]
  rw [pay9_at]
theorem pay13_at : k0_pay13 H T W (ix2 r d) = bErr H T W r d * cInvN * W (ix2 0 d) * xh (fun k => H (ix2 r k)) d := by
  pointwise [k0_pay13]
  rw [pay11_at, pay12_at]

/-- The gradient of the rows, the loss's part and the weight's gradient's part; and the two sums. -/
theorem pay1_at : k0_pay1 (k0_pay10 H) (k0_pay11 H) (k0_pay12 H T W) (k0_pay13 H T W) (ix2 r d)
    = dnrm (fun k => H (ix2 r k)) (fun k => W (ix2 0 k)) (fun k => bErr H T W r k * cInvN) d := by
  pointwise [k0_pay1]
  simp only [pay10_at, pay11_at, pay12_at, pay13_at, ofBits_n]; rfl
theorem pay2_at : k0_pay2 (k0_pay9 H T W) (k0_pay11 H) (ix2 z d) = ∑ r, bErr H T W r d * cInvN * xh (fun k => H (ix2 r k)) d := by
  pointwise [k0_pay2]
  simp only [pay9_at, pay11_at]
theorem pay3_at : k0_pay3 (k0_pay8 H T W) (ix2 z l) = cHalf * ∑ r, mean fun k => bErr H T W r k * bErr H T W r k := by
  pointwise [k0_pay3]
  exact pay8_at H T W _ _
theorem pay4_at : k0_pay4 (k0_pay8 H T W) L (ix2 z l) = L (ix2 z l) + k0_pay3 (k0_pay8 H T W) (ix2 z l) := by
  pointwise [k0_pay4]
theorem pay5_at : k0_pay5 (k0_pay9 H T W) (k0_pay11 H) Q (ix2 z d) = Q (ix2 z d) + k0_pay2 (k0_pay9 H T W) (k0_pay11 H) (ix2 z d) := by
  pointwise [k0_pay5]
end

section
variable (m : (ℓ : Loc nD τ sig) → Buf (Elt Ideal) ℓ) (c : Dev nD)

/-- The arguments that a memory holds. -/
def args : LossArgs where
  h r d := m ((c : Thread nD τ).loc main_arg0) (ix2 r d)
  tg r d := m ((c : Thread nD τ).loc main_arg1) (ix2 r d)
  w d := m ((c : Thread nD τ).loc main_arg2) (ix1 d)

theorem V_w (z : Fin 1) (d : Fin 1024) : V m c main_v0 (ix2 z d) = (args m c).w d := by
  unfold V
  after_reads_at
  rfl

variable (t : Fin cfg0.N)
abbrev bH : Vec Ideal S512x1024 .f32 := iblk m c 0 t
abbrev bT : Vec Ideal S512x1024 .f32 := iblk m c 1 t
abbrev bW : Vec Ideal S1x1024 .f32 := iblk m c 2 t
/-- The tile of a grid point. -/
def ti : Fin 8 := ⟨t.val, lt_of_lt_of_eq t.isLt N_0⟩
/-- What the point before left. -/
abbrev before := outsAt0 m c (t.val - 1) (Nat.lt_of_le_of_lt (Nat.sub_le _ _) t.isLt)

theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![0, 0] :=
  (by decide +kernel : ∀ t : Fin grid0.N, _)

theorem bH_at (r : Fin 512) (d : Fin 1024) : bH m c t (ix2 r d) = (args m c).h (row (ti t) r) d := by
  unfold row ti
  blk_point [iblk, V, idx t]
theorem bT_at (r : Fin 512) (d : Fin 1024) : bT m c t (ix2 r d) = (args m c).tg (row (ti t) r) d := by
  unfold row ti
  blk_point [iblk, V, idx t]
theorem bW_at (z : Fin 1) (d : Fin 1024) : bW m c t (ix2 z d) = (args m c).w d := by
  refine Eq.trans ?_ (V_w m c z d)
  blk_point [iblk, idx t]
theorem bErr_at (r : Fin 512) (d : Fin 1024) : bErr (bH m c t) (bT m c t) (bW m c t) r d = (args m c).err (row (ti t) r) d := by
  unfold bErr
  simp only [bH_at, bT_at, bW_at]; rfl

/-- A tile's part of the loss and of the weight's gradient. -/
theorem loss_at (z : Fin 1) (l : Fin 128) :
    k0_pay3 (k0_pay8 (bH m c t) (bT m c t) (bW m c t)) (ix2 z l) = (args m c).lossT (ti t) := by
  refine (pay3_at (bH m c t) (bT m c t) (bW m c t) z l).trans ?_
  simp only [bErr_at]; rfl
theorem part_at (z : Fin 1) (d : Fin 1024) :
    k0_pay2 (k0_pay9 (bH m c t) (bT m c t) (bW m c t)) (k0_pay11 (bH m c t)) (ix2 z d) = (args m c).dwT (ti t) d := by
  refine (pay2_at (bH m c t) (bT m c t) (bW m c t) d z).trans ?_
  simp only [bErr_at, bH_at]; rfl

/-- The first point, or a later one. -/
theorem cases : (t.val % 8 = 0 ∧ ¬1 ≤ t.val) ∨ (¬t.val % 8 = 0 ∧ 1 ≤ t.val) := by
  have := t.isLt; have : cfg0.N = 8 := N_0; omega

/-- What a point leaves in the rows' gradient's block. -/
theorem out3_at (r : Fin 512) (d : Fin 1024) : (outsAt0 m c t.val t.isLt).1 (ix2 r d) = (args m c).dX (row (ti t) r) d := by
  rcases cases t with ⟨ca, cb⟩ | ⟨ca, cb⟩
  on_goal 1 => rw [outsAt0_A m c t ca cb]
  on_goal 2 => rw [outsAt0_B m c t ca cb]
  all_goals
    frame_open
    frame_out
    refine (pay1_at (bH m c t) (bT m c t) (bW m c t) r d).trans ?_
    simp only [bErr_at, bH_at, bW_at]
    rfl

/-- What a point leaves in the loss and in the weight's gradient: the first point its tile's part, a later one the sum. -/
theorem out4_A (ca : t.val % 8 = 0) (z : Fin 1) (l : Fin 128) :
    (outsAt0 m c t.val t.isLt).2.1 (ix2 z l) = (args m c).lossT (ti t) := by
  rw [outsAt0_A m c t ca (by have := cases t; omega)]
  frame_open
  frame_out
  exact loss_at m c t z l
theorem out4_B (ca : ¬t.val % 8 = 0) (z : Fin 1) (l : Fin 128) :
    (outsAt0 m c t.val t.isLt).2.1 (ix2 z l) = (before m c t).2.1 (ix2 z l) + (args m c).lossT (ti t) := by
  dsimp only [before]
  rw [outsAt0_B m c t ca (by have := cases t; omega)]
  frame_open
  frame_out
  refine (pay4_at (bH m c t) (bT m c t) (bW m c t) _ z l).trans ?_
  rw [loss_at]
theorem out5_A (ca : t.val % 8 = 0) (z : Fin 1) (d : Fin 1024) :
    (outsAt0 m c t.val t.isLt).2.2 (ix2 z d) = (args m c).dwT (ti t) d := by
  rw [outsAt0_A m c t ca (by have := cases t; omega)]
  frame_open
  frame_out
  exact part_at m c t z d
theorem out5_B (ca : ¬t.val % 8 = 0) (z : Fin 1) (d : Fin 1024) :
    (outsAt0 m c t.val t.isLt).2.2 (ix2 z d) = (before m c t).2.2 (ix2 z d) + (args m c).dwT (ti t) d := by
  dsimp only [before]
  rw [outsAt0_B m c t ca (by have := cases t; omega)]
  frame_open
  frame_out
  refine (pay5_at (bH m c t) (bT m c t) (bW m c t) _ d z).trans ?_
  rw [part_at]

/-- The three result arrays. -/
theorem arr3 : (dats m 0 c).arrAt 3 cfg0.N = fun j : S4096x1024.Idx => (args m c).dX (j 0) (j 1) := by
  refine (dats m 0 c).arrAt_eq_of_covers 3 _ (by decide +kernel) fun t hf y => ?_
  blk_simp
  rw [after0_3]
  obtain ⟨r, d, hy⟩ : ∃ (r : Fin 512) (d : Fin 1024), y = ix2 r d := ⟨y 0, y 1, by blk_ext⟩
  have e0 : ((win0_3.blk t).view.emb y 0 : Fin 4096) = row (ti t) r := by
    rw [hy]; refine Fin.ext ?_; blk_simp [idx t]; simp only [row, ti]; omega
  have e1 : ((win0_3.blk t).view.emb y 1 : Fin 1024) = d := by
    rw [hy]; refine Fin.ext ?_; blk_simp [idx t]
  refine Eq.trans ?_ (congrArg₂ (args m c).dX e0 e1).symm
  rw [hy]
  exact out3_at m c t r d
theorem arr4 : (dats m 0 c).arrAt 4 cfg0.N = fun _ : S1x128.Idx => (args m c).loss := by
  refine (dats m 0 c).arrAt_eq_of_covers 4 _ (by decide +kernel) fun t hf y => ?_
  blk_simp
  rw [after0_4]
  obtain ⟨z, l, hy⟩ : ∃ (z : Fin 1) (l : Fin 128), y = ix2 z l := ⟨y 0, y 1, by blk_ext⟩
  rw [hy]
  have ht : t.val % 8 = 7 := (flush0_4 t).mp hf
  have e := Pipeline.eq_sum_fin_of_reset_step_apply_of_flush (fun n h i => (outsAt0 m c n h).2.1 i) 8
    (fun _ => (0 : EReal)) (fun t (i : S1x128.Idx) => (args m c).lossT (ti t))
    (fun t h0 i => by idx_vars i; exact (out4_A m c t h0 i0 i1).trans (zero_add _).symm) (fun t h0 i => by idx_vars i; exact out4_B m c t h0 i0 i1) t ht (ix2 z l)
  refine e.trans ((zero_add _).trans ?_)
  refine Finset.sum_congr rfl fun s _ => ?_
  refine congrArg (args m c).lossT (Fin.ext ?_)
  have hN : t.val < 8 := lt_of_lt_of_eq t.isLt N_0
  simp only [ti]; omega
theorem arr5 : (dats m 0 c).arrAt 5 cfg0.N = fun j : S1x1024.Idx => (args m c).dw (j 1) := by
  refine (dats m 0 c).arrAt_eq_of_covers 5 _ (by decide +kernel) fun t hf y => ?_
  blk_simp
  rw [after0_5]
  obtain ⟨z, d, hy⟩ : ∃ (z : Fin 1) (d : Fin 1024), y = ix2 z d := ⟨y 0, y 1, by blk_ext⟩
  have e1 : ((win0_5.blk t).view.emb y 1 : Fin 1024) = d := by
    rw [hy]; refine Fin.ext ?_; blk_simp [idx t]
  refine Eq.trans ?_ (congrArg (args m c).dw e1).symm
  rw [hy]
  have ht : t.val % 8 = 7 := (flush0_5 t).mp hf
  have e := Pipeline.eq_sum_fin_of_reset_step_apply_of_flush (fun n h i => (outsAt0 m c n h).2.2 i) 8
    (fun _ => (0 : EReal)) (fun t (i : S1x1024.Idx) => (args m c).dwT (ti t) (i 1))
    (fun t h0 i => by idx_vars i; exact (out5_A m c t h0 i0 i1).trans (zero_add _).symm) (fun t h0 i => by idx_vars i; exact out5_B m c t h0 i0 i1) t ht (ix2 z d)
  refine e.trans ((zero_add _).trans ?_)
  refine Finset.sum_congr rfl fun s _ => ?_
  refine congrArg (fun i => (args m c).dwT i d) (Fin.ext ?_)
  have hN : t.val < 8 := lt_of_lt_of_eq t.isLt N_0
  simp only [ti]; omega
end
end Cert.Kernel28Ideal.Value
-- ==== Proof.LossRef.lean ====
module

public import proofs.«01_k».proof.Defs
public import proofs.«01_k».proof.Proof.Gen.Reference28Ideal.Read
public import proofs.«01_k».proof.Proof.Loss
public import proofs.«01_k».proof.Proof.RefConst
public import proofs.«01_k».proof.Proof.FEqual
public import proofs.«01_k».proof.Proof.FPre

/-! The reference of the loss: its values at an index, the precondition read at an entry, and the three results at finite
    arguments. The reference halves the sum of the rows' means where the kernel halves each tile's, and its gradient of a
    square is twice the error times half over the number of columns. -/

@[expose] public section
set_option maxRecDepth 16384
noncomputable section
open Idealize.ShloMosaic Idealize.ShloMosaic.TcCoe Idealize.SL.Sem
open Cert.Gmlp (IsReal sum_coe)

namespace Cert.Ffn
namespace LossArgs
variable (A : LossArgs)
/-- The arguments are finite. -/
structure Finite : Prop where
  h : ∀ r d, IsReal (A.h r d)
  tg : ∀ r d, IsReal (A.tg r d)
  w : ∀ d, IsReal (A.w d)

variable {A}
/-- Then the errors are, and the rows' means. -/
theorem Finite.err (F : A.Finite) (r : Fin 4096) (d : Fin 1024) : IsReal (A.err r d) := by
  choose v hv using F.h r
  obtain ⟨a, ha⟩ := F.w d
  obtain ⟨b, hb⟩ := F.tg r d
  refine ⟨v d * rR v * a - b, ?_⟩
  rw [LossArgs.err, nrm, show A.h r = fun j => (v j : EReal) from funext hv, xh_coe, ha, hb, ← EReal.coe_mul, ← EReal.coe_sub]
theorem Finite.ms (F : A.Finite) (r : Fin 4096) : IsReal (A.ms r) := by
  choose e he using F.err r
  refine ⟨(∑ j, e j * e j) / 1024, ?_⟩
  rw [LossArgs.ms]
  simp only [he, ← EReal.coe_mul]
  exact mean_coe _

/-- Half of the sum over the rows is the sum of the tiles' halves. -/
theorem Finite.loss (F : A.Finite) : cHalf * ∑ r, A.ms r = A.loss := by
  choose v hv using F.ms
  rw [sum_rows]
  unfold LossArgs.loss lossT
  simp only [hv, sum_coe, ← EReal.coe_mul]
  rw [Finset.mul_sum]
end LossArgs

/-- The gradient of half a row's mean square, for the entry `e`. -/
theorem half_square (e : EReal) : Ideal.div cHalf cN * (((2 : ℝ) : EReal) * e) = e * cInvN := by
  rw [Ideal.div_coe (by norm_num), ← mul_assoc, ← EReal.coe_mul, ← EReal.coe_mul, mul_comm]
  congr 2
  norm_num

/-- The precondition's shapes broadcast. -/
theorem loss_facts : Cert.Pre_finite28.Facts where
  bcast_S_S4096x1024 := by decide
  bcast_S_S1024 := by decide
end Cert.Ffn

namespace Cert.Reference28Ideal.Value
open Cert.Reference28Ideal Cert.Reference28Ideal.Gen Cert.Reference28Ideal.Read Cert.Ffn
section
variable (x0 x1 : Vec Ideal S4096x1024 .f32) (x2 : Vec Ideal S1024 .f32)

/-- The arguments that the arrays hold. -/
def rargs : LossArgs where
  h r d := x0 (ix2 r d)
  tg r d := x1 (ix2 r d)
  w d := x2 (ix1 d)

/-- Under the precondition they are finite. -/
theorem args_fin [Cert.Pre_finite28.Facts] (h0 : (Cert.Pre_finite28.fn (F := Ideal) x0 x1 x2).1 = fun _ => 1#1)
    (h1 : (Cert.Pre_finite28.fn (F := Ideal) x0 x1 x2).2.1 = fun _ => 1#1)
    (h2 : (Cert.Pre_finite28.fn (F := Ideal) x0 x1 x2).2.2 = fun _ => 1#1) : (rargs x0 x1 x2).Finite where
  h r d := isReal_at x0 _ h0 _
  tg r d := isReal_at x1 _ h1 _
  w d := isReal_at x2 _ h2 _

/-- A row, and a row of the gradient of the normalised row. -/
abbrev xr (r : Fin 4096) (j : Fin 1024) : EReal := x0 (ix2 r j)
abbrev yr (r : Fin 4096) (j : Fin 1024) : EReal := (rargs x0 x1 x2).dy r j * x2 (ix1 j)

theorem v6_at (r : Fin 4096) (z : Fin 1) : val_main_v6 x0 (ix2 r z) = var (xr x0 r) := by
  pointwise [val_main_v6, val_main_v5, val_main_v4, val_main_v3, val_main_v2, val_main_v1, val_main_v0, val_main_cst, val_main_cst_0, val_main_cst_1]
  simp only [ofBits_n, ofBits_eps]
  first | rfl | (simp only [zero_add]; rfl)
theorem v7_at (r : Fin 4096) (z : Fin 1) : val_main_v7 x0 (ix2 r z) = rs (xr x0 r) := by
  pointwise [val_main_v7]
  rw [v6_at]; rfl
theorem v10_at (r : Fin 4096) (z : Fin 1) : val_main_v10 x0 (ix2 r z) = cNegHalf * Ideal.div (rs (xr x0 r)) (var (xr x0 r)) := by
  pointwise [val_main_v10, val_main_v9, val_main_v8, val_main_cst_2]
  rw [v6_at, v7_at, ofBits_negHalf]
theorem v12_at (r : Fin 4096) (j : Fin 1024) : val_main_v12 x0 (ix2 r j) = xh (xr x0 r) j := by
  pointwise [val_main_v12, val_main_v11]
  rw [v7_at]; rfl
theorem v16_at (r : Fin 4096) (j : Fin 1024) : val_main_v16 x0 x1 x2 (ix2 r j) = (rargs x0 x1 x2).err r j := by
  pointwise [val_main_v16, val_main_v15, val_main_v14, val_main_v13]
  rw [v12_at]; rfl
theorem v22_at (r : Fin 4096) : val_main_v22 x0 x1 x2 (ix1 r) = (rargs x0 x1 x2).ms r := by
  pointwise [val_main_v22, val_main_v21, val_main_v20, val_main_v17, val_main_cst_4, val_main_cst_5]
  simp only [v16_at, ofBits_n]
  first | rfl | (simp only [zero_add]; rfl)
theorem v51_at (z : Fin 1) (l : Fin 128) : val_main_v51 x0 x1 x2 (ix2 z l) = cHalf * ∑ r, (rargs x0 x1 x2).ms r := by
  pointwise [val_main_v51, val_main_v24, val_main_v23, val_main_cst_6, val_main_cst_7]
  simp only [v22_at, ofBits_half]
theorem v30_at (r : Fin 4096) (j : Fin 1024) : val_main_v30 x0 x1 x2 (ix2 r j) = (rargs x0 x1 x2).dy r j := by
  pointwise [val_main_v30, val_main_v29, val_main_v28, val_main_v27, val_main_v26, val_main_v25, val_main_v19, val_main_v18,
    val_main_cst_3, val_main_cst_8, val_main_cst_9, val_main_cst_10]
  simp only [v16_at, ofBits_half, ofBits_n, Cert.Gmlp.ofBits_two, Cert.Gmlp.ofBits_one]
  exact half_square _
theorem v35_at (r : Fin 4096) (j : Fin 1024) : val_main_v35 x0 x1 x2 (ix2 r j) = yr x0 x1 x2 r j := by
  pointwise [val_main_v35, val_main_v34, val_main_v13]
  rw [v30_at]
theorem v44_at (r : Fin 4096) (z : Fin 1) : val_main_v44 x0 x1 x2 (ix2 r z) = rq (xr x0 r) (yr x0 x1 x2 r) := by
  pointwise [val_main_v44, val_main_v43, val_main_v42, val_main_v39, val_main_v38, val_main_v37, val_main_cst_13, val_main_cst_14]
  simp only [v35_at, v10_at, ofBits_n]
  rfl
theorem v50_at (r : Fin 4096) (j : Fin 1024) : val_main_v50 x0 x1 x2 (ix2 r j) = rx (xr x0 r) (yr x0 x1 x2 r) j := by
  pointwise [val_main_v50, val_main_v49, val_main_v48, val_main_v47, val_main_v46, val_main_v45, val_main_v41, val_main_v40, val_main_cst_15]
  simp only [v35_at, v44_at, v7_at, Fin.sum_univ_one]
  rfl
theorem v52_at (z : Fin 1) (j : Fin 1024) : val_main_v52 x0 x1 x2 (ix2 z j) = ∑ r, xh (xr x0 r) j * (rargs x0 x1 x2).dy r j := by
  pointwise [val_main_v52, val_main_v36, val_main_v33, val_main_v32, val_main_v31, val_main_cst_11, val_main_cst_12]
  simp only [Fin.sum_univ_one, v12_at, v30_at]

/-- The three results. -/
theorem out50 (F : (rargs x0 x1 x2).Finite) :
    val_main_v50 x0 x1 x2 = fun j : S4096x1024.Idx => (rargs x0 x1 x2).dX (j 0) (j 1) := by
  funext j
  obtain ⟨r, d, rfl⟩ : ∃ (r : Fin 4096) (d : Fin 1024), j = ix2 r d := ⟨j 0, j 1, eq_ix2 j⟩
  choose v hv using fun j => F.h r j
  choose y hy using fun j => ((F.err r j).mul (IsReal.coe _)).mul (F.w j)
  exact (v50_at x0 x1 x2 r d).trans (norm_eq hv hy d)
theorem out51 (F : (rargs x0 x1 x2).Finite) : val_main_v51 x0 x1 x2 = fun _ : S1x128.Idx => (rargs x0 x1 x2).loss := by
  funext j
  obtain ⟨z, l, rfl⟩ : ∃ (z : Fin 1) (l : Fin 128), j = ix2 z l := ⟨j 0, j 1, eq_ix2 j⟩
  exact (v51_at x0 x1 x2 z l).trans F.loss
theorem out52 : val_main_v52 x0 x1 x2 = fun j : S1x1024.Idx => (rargs x0 x1 x2).dw (j 1) := by
  funext j
  obtain ⟨z, d, rfl⟩ : ∃ (z : Fin 1) (d : Fin 1024), j = ix2 z d := ⟨j 0, j 1, eq_ix2 j⟩
  refine (v52_at x0 x1 x2 z d).trans ?_
  rw [sum_rows]
  exact Finset.sum_congr rfl fun i _ => Finset.sum_congr rfl fun r _ => mul_comm _ _
end
end Cert.Reference28Ideal.Value
-- ==== Proof.LossHead.lean ====
module

public import proofs.«01_k».proof.Defs
public import proofs.«01_k».proof.Proof.Gen.Kernel28.Frame
public import proofs.«01_k».proof.Proof.Gen.Kernel28Ideal.Frame
public import proofs.«01_k».proof.Proof.Gen.Reference28Ideal.Run
public import proofs.«01_k».proof.Proof.LossRef
public import Idealize.ShloMosaic.Lib.Quiescent

/-! The claims about the loss: the programs run, and at finite arguments the kernel's three results are the reference's. -/

@[expose] public section
set_option maxRecDepth 16384
noncomputable section
open Idealize.ShloMosaic Idealize.ShloMosaic.TcCoe Idealize.SL.Sem
namespace Cert.Proof.LossHead
open Cert.Ffn

theorem frame_kernel28 : Cert.quiescent_Kernel28 (hKernel28 := Cert.Kernel28.Gen.facts) := fun m ρ _ => Cert.Kernel28.Gen.frame m ρ
theorem frame_ideal28 : Cert.quiescent_Kernel28Ideal (hKernel28Ideal := Cert.Kernel28Ideal.Gen.facts) := fun m ρ _ => Cert.Kernel28Ideal.Gen.frame m ρ
theorem frame_ideal_pre28 : Cert.quiescent_Kernel28Ideal_pre_finite28 (hKernel28Ideal := Cert.Kernel28Ideal.Gen.facts) (hPre_finite28 := loss_facts) :=
  fun m ρ _ => Cert.Kernel28Ideal.Gen.frame m ρ
theorem frame_reference28 : Cert.quiescent_Reference28Ideal (hReference28Ideal := Cert.Reference28Ideal.Gen.facts) := fun m ρ _ =>
  (θ_run Cert.Reference28Ideal.defs _ _).mono (fun r h => ⟨fun c => (h c).2.2.2, sem_eq_zero_of_no_sems (by decide) r.2⟩)
    (Cert.Reference28Ideal.Value.run (F := Ideal) m ρ)
theorem frame_reference_pre28 : Cert.quiescent_Reference28Ideal_pre_finite28 (hReference28Ideal := Cert.Reference28Ideal.Gen.facts) (hPre_finite28 := loss_facts) :=
  fun m ρ _ => frame_reference28 m ρ trivial
theorem preserves28 : Cert.preserves_Kernel28_Kernel28Ideal := trivial

theorem algebraic28 : Cert.algebraic_Kernel28Ideal_Reference28Ideal_pre_finite28 (hKernel28Ideal := Cert.Kernel28Ideal.Gen.facts)
    (hReference28Ideal := Cert.Reference28Ideal.Gen.facts) (hPre_finite28 := loss_facts) := by
  intro m ρ m' ρ' hpre hagree
  refine ⟨fun c => fun j : Cert.Kernel28Ideal.S4096x1024.Idx => (Cert.Kernel28Ideal.Value.args m c).dX (j 0) (j 1),
    fun c => fun _ : Cert.Kernel28Ideal.S1x128.Idx => (Cert.Kernel28Ideal.Value.args m c).loss,
    fun c => fun j : Cert.Kernel28Ideal.S1x1024.Idx => (Cert.Kernel28Ideal.Value.args m c).dw (j 1), ?_, ?_⟩
  · refine (θ_run Cert.Kernel28Ideal.defs _ _).mono (fun r h c => ?_) (Cert.Kernel28Ideal.Value.run_blocks (F := Ideal) m ρ)
    obtain ⟨e0, e1, e2, hargs⟩ := h c
    exact ⟨e0.trans (Cert.Kernel28Ideal.Value.arr3 m c), e1.trans (Cert.Kernel28Ideal.Value.arr4 m c), e2.trans (Cert.Kernel28Ideal.Value.arr5 m c), hargs⟩
  · refine (θ_run Cert.Reference28Ideal.defs _ _).mono (fun r h c => ?_) (Cert.Reference28Ideal.Value.run (F := Ideal) m' ρ')
    obtain ⟨e0, e1, e2, hargs⟩ := h c
    obtain ⟨a0, a1, a2⟩ := hagree c
    obtain ⟨h0, h1, h2⟩ := hpre c
    have hf := @Cert.Reference28Ideal.Value.args_fin _ _ _ loss_facts h0 h1 h2
    refine ⟨e0.trans ((Cert.Reference28Ideal.Read.val_main_v50_eq m' c).trans ?_),
      e1.trans ((Cert.Reference28Ideal.Read.val_main_v51_eq _ _ _).trans ?_),
      e2.trans ((Cert.Reference28Ideal.Read.val_main_v52_eq _ _ _).trans ?_), hargs⟩
    · rw [a0, a1, a2]
      exact Cert.Reference28Ideal.Value.out50 _ _ _ hf
    · rw [a0, a1, a2]
      exact Cert.Reference28Ideal.Value.out51 _ _ _ hf
    · rw [a0, a1, a2]
      exact Cert.Reference28Ideal.Value.out52 _ _ _

end Cert.Proof.LossHead
-- ==== Proof.StepMath.lean ====
module

public import proofs.«01_k».proof.Proof.FSpec

/-! The time steps of the state-space layer: softplus of the projection plus a bias. Its slope at `x` is the logistic
    function of `x`, which the reference writes as the exponential of `x` less softplus of `x`, a positive infinity of
    either read as zero. -/

@[expose] public section
noncomputable section
open Idealize.ShloMosaic
open Cert.Ffn (sigmoid)
namespace Cert.Steps

/-- The logarithm of one plus the exponential, written so that the exponential's argument is not positive. -/
def softplus (x : EReal) : EReal := max x 0 + Ideal.log (1 + Ideal.exp (-max x (-x)))
/-- A positive infinity read as zero. -/
def noInf (x : EReal) : EReal := if x = ⊤ then 0 else x

theorem ofBits_inf : Ideal.ofBits .f32 0x7F800000#32 = ⊤ := by
  simp [Ideal.ofBits, Ideal.ieee]

theorem log_one : Ideal.log 1 = 0 := by
  rw [← EReal.coe_one, Ideal.log_coe, if_neg (by norm_num), Real.log_one, EReal.coe_zero]
theorem exp_zero : Ideal.exp 0 = 1 := by
  rw [← EReal.coe_zero, Ideal.exp_coe, Real.exp_zero, EReal.coe_one]
theorem coe_max (a b : ℝ) : max (a : EReal) (b : EReal) = ((max a b : ℝ) : EReal) := (EReal.coe_strictMono.monotone.map_max).symm

/-- Softplus over the real numbers. -/
def rSoftplus (r : ℝ) : ℝ := max r 0 + Real.log (1 + Real.exp (-|r|))
theorem softplus_coe (r : ℝ) : softplus r = (rSoftplus r : EReal) := by
  have h : max (r : EReal) (-(r : EReal)) = ((|r| : ℝ) : EReal) := by
    rw [← EReal.coe_neg, coe_max]; rfl
  have p : ¬1 + Real.exp (-|r|) ≤ 0 := not_le.2 (by positivity)
  rw [softplus, h, ← EReal.coe_neg, Ideal.exp_coe, ← EReal.coe_one, ← EReal.coe_add, Ideal.log_coe, if_neg p, ← EReal.coe_zero,
    coe_max, ← EReal.coe_add]
  rfl
theorem exp_rSoftplus (r : ℝ) : Real.exp (rSoftplus r) = 1 + Real.exp r := by
  have p : 0 < 1 + Real.exp (-|r|) := by positivity
  rw [rSoftplus, Real.exp_add, Real.exp_log p]
  rcases le_total 0 r with h | h
  · rw [max_eq_left h, abs_of_nonneg h, mul_add, ← Real.exp_add, add_neg_cancel, Real.exp_zero, mul_one, add_comm]
  · rw [max_eq_right h, abs_of_nonpos h, neg_neg, Real.exp_zero, one_mul]

/-- The slope of softplus is the logistic function. -/
theorem slope (x : EReal) : Ideal.exp (noInf x - noInf (softplus x)) = sigmoid x := by
  induction x with
  | bot =>
    have e : softplus ⊥ = 0 := by
      simp [softplus, Ideal.exp_bot, log_one]
    have o : (1 : EReal) + ⊤ = ⊤ := by rw [← EReal.coe_one]; exact EReal.coe_add_top 1
    rw [e]
    simp [noInf, sigmoid, Ideal.div, Ideal.exp_bot, Ideal.exp_top, o]
  | top =>
    have e : softplus ⊤ = ⊤ := by
      simp [softplus, Ideal.exp_bot, log_one]
    rw [e]
    simp [noInf, sigmoid, Ideal.div, Ideal.exp_bot, exp_zero]
  | coe r =>
    have p : 1 + Real.exp (-r) ≠ 0 := by positivity
    rw [softplus_coe, noInf, noInf, if_neg (EReal.coe_ne_top r), if_neg (EReal.coe_ne_top _), ← EReal.coe_sub, Ideal.exp_coe, sigmoid,
      ← EReal.coe_neg, Ideal.exp_coe, ← EReal.coe_one, ← EReal.coe_add, Ideal.div_coe p, ← EReal.coe_mul]
    refine congrArg _ ?_
    rw [Real.exp_sub, exp_rSoftplus, one_mul, Real.exp_neg]
    field_simp
    ring

end Cert.Steps
-- ==== Proof.StepBwd.lean ====
module

public import proofs.«01_k».proof.Proof.Gen.Kernel29Ideal.Value
public import proofs.«01_k».proof.Proof.StepMath
public import Idealize.ShloMosaic.Lib.Pipeline.ValueKit
public import Idealize.ShloMosaic.Lib.Pipeline.ReadBack
public import Idealize.ShloMosaic.Lib.Pointwise
public import Idealize.ShloMosaic.Lib.StableHlo.ReadAt

/-! The gradient through the time steps' softplus: of the projection, entry by entry, and of the bias, added up over the
    grid's eight tiles of rows. -/

@[expose] public section
set_option maxRecDepth 16384
noncomputable section
open Idealize.ShloMosaic Idealize.ShloMosaic.TcCoe Idealize.SL.Sem
open Cert.Ffn (sigmoid row)

namespace Cert.Steps
theorem ofBits_zero : Ideal.ofBits .f32 0x00000000#32 = 0 := by simp [Ideal.ofBits, Ideal.ieee]
theorem ofBits_one : Ideal.ofBits .f32 0x3F800000#32 = 1 := by
  simp [Ideal.ofBits, Ideal.ieee]; norm_num; rw [← EReal.coe_mul, ← EReal.coe_one]; congr 1; norm_num

/-- The arguments: the gradient of the time steps, the projection and the bias. -/
structure BwdArgs where
  d : Fin 4096 → Fin 32 → EReal
  x : Fin 4096 → Fin 32 → EReal
  b : Fin 32 → EReal

namespace BwdArgs
variable (A : BwdArgs)
/-- The gradient of the projection; a tile's part of the gradient of the bias; and that gradient. -/
def dx (r : Fin 4096) (h : Fin 32) : EReal := A.d r h * sigmoid (A.x r h + A.b h)
def dbT (i : Fin 8) (h : Fin 32) : EReal := ∑ r, A.dx (row i r) h
def db (h : Fin 32) : EReal := ∑ i, A.dbT i h
end BwdArgs
end Cert.Steps

namespace Cert.Kernel29Ideal.Value
open Cert.Kernel29Ideal Cert.Kernel29Ideal.Gen Cert.Steps
section
variable (D X : Vec Ideal S512x32 .f32) (B Q : Vec Ideal S1x32 .f32) (r : Fin 512) (h : Fin 32) (z : Fin 1)

/-- The body's values read at an index. -/
theorem pay1_at : k0_pay1 D X B (ix2 r h) = D (ix2 r h) * sigmoid (X (ix2 r h) + B (ix2 0 h)) := by
  pointwise [k0_pay1]
  simp only [ofBits_zero, ofBits_one, zero_sub]; rfl
theorem pay2_at : k0_pay2 D X B (ix2 z h) = ∑ r, D (ix2 r h) * sigmoid (X (ix2 r h) + B (ix2 0 h)) := by
  pointwise [k0_pay2]
  simp only [pay1_at]
theorem pay3_at : k0_pay3 D X B Q (ix2 z h) = Q (ix2 z h) + k0_pay2 D X B (ix2 z h) := by
  pointwise [k0_pay3]
end

section
variable (m : (ℓ : Loc nD τ sig) → Buf (Elt Ideal) ℓ) (c : Dev nD)

/-- The arguments that a memory holds. -/
def args : BwdArgs where
  d r h := m ((c : Thread nD τ).loc main_arg0) (ix2 r h)
  x r h := m ((c : Thread nD τ).loc main_arg1) (ix2 r h)
  b h := m ((c : Thread nD τ).loc main_arg2) (ix1 h)

theorem V_b (z : Fin 1) (h : Fin 32) : V m c main_v0 (ix2 z h) = (args m c).b h := by
  unfold V
  after_reads_at
  rfl

variable (t : Fin cfg0.N)
abbrev bD : Vec Ideal S512x32 .f32 := iblk m c 0 t
abbrev bX : Vec Ideal S512x32 .f32 := iblk m c 1 t
abbrev bB : Vec Ideal S1x32 .f32 := iblk m c 2 t
/-- The tile of a grid point. -/
def ti : Fin 8 := ⟨t.val, lt_of_lt_of_eq t.isLt N_0⟩
/-- What the point before left. -/
abbrev before := outsAt0 m c (t.val - 1) (Nat.lt_of_le_of_lt (Nat.sub_le _ _) t.isLt)

theorem idx : ∀ t : Fin cfg0.N, win0_0.index t = ![t.val, 0] ∧ win0_1.index t = ![t.val, 0] ∧ win0_2.index t = ![0, 0]
    ∧ win0_3.index t = ![t.val, 0] ∧ win0_4.index t = ![0, 0] :=
  (by decide +kernel : ∀ t : Fin grid0.N, _)

theorem bD_at (r : Fin 512) (h : Fin 32) : bD m c t (ix2 r h) = (args m c).d (row (ti t) r) h := by
  unfold row ti
  blk_point [iblk, V, idx t]
theorem bX_at (r : Fin 512) (h : Fin 32) : bX m c t (ix2 r h) = (args m c).x (row (ti t) r) h := by
  unfold row ti
  blk_point [iblk, V, idx t]
theorem bB_at (z : Fin 1) (h : Fin 32) : bB m c t (ix2 z h) = (args m c).b h := by
  refine Eq.trans ?_ (V_b m c z h)
  blk_point [iblk, idx t]

/-- A tile's part of the bias's gradient. -/
theorem part_at (z : Fin 1) (h : Fin 32) : k0_pay2 (bD m c t) (bX m c t) (bB m c t) (ix2 z h) = (args m c).dbT (ti t) h := by
  refine (pay2_at (bD m c t) (bX m c t) (bB m c t) h z).trans ?_
  simp only [bD_at, bX_at, bB_at]; rfl

/-- The first point, or a later one. -/
theorem cases : (t.val % 8 = 0 ∧ ¬1 ≤ t.val) ∨ (¬t.val % 8 = 0 ∧ 1 ≤ t.val) := by
  have := t.isLt; have : cfg0.N = 8 := N_0; omega

/-- What a point leaves in the projection's gradient's block. -/
theorem out3_at (r : Fin 512) (h : Fin 32) : (outsAt0 m c t.val t.isLt).1 (ix2 r h) = (args m c).dx (row (ti t) r) h := by
  rcases cases t with ⟨ca, cb⟩ | ⟨ca, cb⟩
  on_goal 1 => rw [outsAt0_A m c t ca cb]
  on_goal 2 => rw [outsAt0_B m c t ca cb]
  all_goals
    frame_open
    frame_out
    refine (pay1_at (bD m c t) (bX m c t) (bB m c t) r h).trans ?_
    simp only [bD_at, bX_at, bB_at]
    rfl

/-- What a point leaves in the bias's gradient: the first point its tile's part, a later one the sum. -/
theorem out4_A (ca : t.val % 8 = 0) (z : Fin 1) (h : Fin 32) :
    (outsAt0 m c t.val t.isLt).2 (ix2 z h) = (args m c).dbT (ti t) h := by
  rw [outsAt0_A m c t ca (by have := cases t; omega)]
  frame_open
  frame_out
  exact part_at m c t z h
theorem out4_B (ca : ¬t.val % 8 = 0) (z : Fin 1) (h : Fin 32) :
    (outsAt0 m c t.val t.isLt).2 (ix2 z h) = (before m c t).2 (ix2 z h) + (args m c).dbT (ti t) h := by
  dsimp only [before]
  rw [outsAt0_B m c t ca (by have := cases t; omega)]
  frame_open
  frame_out
  refine (pay3_at (bD m c t) (bX m c t) (bB m c t) _ h z).trans ?_
  rw [part_at]

/-- The two result arrays. -/
theorem arr3 : (dats m 0 c).arrAt 3 cfg0.N = fun j : S4096x32.Idx => (args m c).dx (j 0) (j 1) := by
  refine (dats m 0 c).arrAt_eq_of_covers 3 _ (by decide +kernel) fun t hf y => ?_
  blk_simp
  rw [after0_3]
  obtain ⟨r, h, hy⟩ : ∃ (r : Fin 512) (h : Fin 32), y = ix2 r h := ⟨y 0, y 1, by blk_ext⟩
  have e0 : ((win0_3.blk t).view.emb y 0 : Fin 4096) = row (ti t) r := by
    rw [hy]; refine Fin.ext ?_; blk_simp [idx t]; simp only [row, ti]; omega
  have e1 : ((win0_3.blk t).view.emb y 1 : Fin 32) = h := by
    rw [hy]; refine Fin.ext ?_; blk_simp [idx t]
  refine Eq.trans ?_ (congrArg₂ (args m c).dx e0 e1).symm
  rw [hy]
  exact out3_at m c t r h
theorem arr4 : (dats m 0 c).arrAt 4 cfg0.N = fun j : S1x32.Idx => (args m c).db (j 1) := by
  refine (dats m 0 c).arrAt_eq_of_covers 4 _ (by decide +kernel) fun t hf y => ?_
  blk_simp
  rw [after0_4]
  obtain ⟨z, h, hy⟩ : ∃ (z : Fin 1) (h : Fin 32), y = ix2 z h := ⟨y 0, y 1, by blk_ext⟩
  have e1 : ((win0_4.blk t).view.emb y 1 : Fin 32) = h := by
    rw [hy]; refine Fin.ext ?_; blk_simp [idx t]
  refine Eq.trans ?_ (congrArg (args m c).db e1).symm
  rw [hy]
  have ht : t.val % 8 = 7 := (flush0_4 t).mp hf
  have e := Pipeline.eq_sum_fin_of_reset_step_apply_of_flush (fun n h i => (outsAt0 m c n h).2 i) 8
    (fun _ => (0 : EReal)) (fun t (i : S1x32.Idx) => (args m c).dbT (ti t) (i 1))
    (fun t h0 i => by idx_vars i; exact (out4_A m c t h0 i0 i1).trans (zero_add _).symm) (fun t h0 i => by idx_vars i; exact out4_B m c t h0 i0 i1) t ht (ix2 z h)
  refine e.trans ((zero_add _).trans ?_)
  refine Finset.sum_congr rfl fun s _ => ?_
  refine congrArg (fun i => (args m c).dbT i h) (Fin.ext ?_)
  have hN : t.val < 8 := lt_of_lt_of_eq t.isLt N_0
  simp only [ti]; omega
end
end Cert.Kernel29Ideal.Value
-- ==== Proof.StepBwdRef.lean ====
module

public import proofs.«01_k».proof.Proof.Gen.Reference29Ideal.Read
public import proofs.«01_k».proof.Proof.StepBwd
public import proofs.«01_k».proof.Proof.FRef

/-! The reference's gradient through the time steps' softplus, at an index. It tests softplus's argument for being no
    number, which no extended real is, and takes its slope from softplus's value. -/

@[expose] public section
set_option maxRecDepth 16384
noncomputable section
open Idealize.ShloMosaic Idealize.ShloMosaic.TcCoe Idealize.SL.Sem
open Cert.Ffn (sigmoid row sum_rows)
namespace Cert.Reference29Ideal.Value
open Cert.Reference29Ideal Cert.Reference29Ideal.Gen Cert.Reference29Ideal.Read Cert.Steps
section
variable (x0 x1 : Vec Ideal S4096x32 .f32) (x2 : Vec Ideal S32 .f32)

/-- The arguments that the arrays hold. -/
def rargs : BwdArgs where
  d r h := x0 (ix2 r h)
  x r h := x1 (ix2 r h)
  b h := x2 (ix1 h)

theorem v2_at (r : Fin 4096) (h : Fin 32) : val_main_v2 x1 x2 (ix2 r h) = x1 (ix2 r h) + x2 (ix1 h) := by
  pointwise [val_main_v2, val_main_v1, val_main_v0]
theorem v30_at (r : Fin 4096) (h : Fin 32) : val_main_v3_0 x1 x2 (ix2 r h) = softplus (x1 (ix2 r h) + x2 (ix1 h)) := by
  pointwise [val_main_v3_0, val_main_call0_v11, val_main_call0_v10, val_main_call0_v9, val_main_call0_v8, val_main_call0_v7, val_main_call0_v6,
    val_main_call0_v5, val_main_call0_v4, val_main_call0_v3, val_main_call0_v2, val_main_call0_v1, val_main_call0_v0, val_main_call0_cst]
  simp only [v2_at, ofBits_zero, sub_zero]
  exact if_neg (not_not.2 rfl)
theorem v31_at (r : Fin 4096) (h : Fin 32) : val_main_v3_1 x1 x2 (ix2 r h) = sigmoid (x1 (ix2 r h) + x2 (ix1 h)) := by
  pointwise [val_main_v3_1, val_main_call0_v21, val_main_call0_v20, val_main_call0_v19, val_main_call0_v18, val_main_call0_v17, val_main_call0_v16,
    val_main_call0_v15, val_main_call0_v14, val_main_call0_v13, val_main_call0_cst_0, val_main_call0_cst_1, val_main_call0_cst_2, val_main_call0_cst_3]
  simp only [v2_at, v30_at, ofBits_zero, ofBits_inf]
  exact slope _
theorem v4_at (r : Fin 4096) (h : Fin 32) : val_main_v4 x0 x1 x2 (ix2 r h) = (rargs x0 x1 x2).dx r h := by
  pointwise [val_main_v4, val_main_call1_v0]
  rw [v31_at]
  rfl
theorem v8_at (z : Fin 1) (h : Fin 32) : val_main_v8 x0 x1 x2 (ix2 z h) = ∑ r, (rargs x0 x1 x2).dx r h := by
  pointwise [val_main_v8, val_main_v7, val_main_v6, val_main_v5, val_main_cst, val_main_cst_0]
  simp only [Fin.sum_univ_one, v4_at]

/-- The two results. -/
theorem out4 : val_main_v4 x0 x1 x2 = fun j : S4096x32.Idx => (rargs x0 x1 x2).dx (j 0) (j 1) := by
  funext j
  obtain ⟨r, h, rfl⟩ : ∃ (r : Fin 4096) (h : Fin 32), j = ix2 r h := ⟨j 0, j 1, eq_ix2 j⟩
  exact v4_at x0 x1 x2 r h
theorem out8 : val_main_v8 x0 x1 x2 = fun j : S1x32.Idx => (rargs x0 x1 x2).db (j 1) := by
  funext j
  obtain ⟨z, h, rfl⟩ : ∃ (z : Fin 1) (h : Fin 32), j = ix2 z h := ⟨j 0, j 1, eq_ix2 j⟩
  exact (v8_at x0 x1 x2 z h).trans (sum_rows _)
end
end Cert.Reference29Ideal.Value
-- ==== Proof.StepFwd.lean ====
module

public import proofs.«01_k».proof.Proof.Gen.Kernel30Ideal.Value
public import proofs.«01_k».proof.Proof.StepBwd
public import proofs.«01_k».proof.Proof.FPre

/-! The time steps, forward: softplus of the projection plus the bias, and every head's time step once for each of the
    head's 64 columns. The kernel spreads the time steps by a product with a matrix of zeros and ones, which it takes in
    three parts; at finite arguments the second and third part are zero. -/

@[expose] public section
set_option maxRecDepth 16384
noncomputable section
open Idealize.ShloMosaic Idealize.ShloMosaic.TcCoe Idealize.SL.Sem
open Cert.Ffn (row)
open Cert.Gmlp (IsReal)

namespace Cert.Steps
/-- The arguments: the projection and the bias. -/
structure FwdArgs where
  x : Fin 4096 → Fin 32 → EReal
  b : Fin 32 → EReal
/-- The head of a column. -/
def head (l : Fin 2048) : Fin 32 := ⟨l.val / 64, by omega⟩
/-- The matrix that spreads the heads: one where the column belongs to the head. -/
def spread (h : Fin 32) (l : Fin 2048) : EReal := if h = head l then 1 else 0
/-- A head's time step. -/
def FwdArgs.dt (A : FwdArgs) (r : Fin 4096) (h : Fin 32) : EReal := softplus (A.x r h + A.b h)
structure FwdArgs.Fin' (A : FwdArgs) : Prop where
  x : ∀ r h, IsReal (A.x r h)
  b : ∀ h, IsReal (A.b h)

/-- The sum over the heads keeps a column's head. -/
theorem sum_spread (f : Fin 32 → EReal) (l : Fin 2048) : ∑ h, f h * spread h l = f (head l) := by
  simp [spread]
end Cert.Steps

namespace Cert.Kernel30Ideal.Value
open Cert.Kernel30Ideal Cert.Kernel30Ideal.Gen Cert.Steps
section
variable (X : Vec Ideal S512x32 .f32) (B : Vec Ideal S1x32 .f32) (E : Vec Ideal S32x2048 .f32) (r : Fin 512) (h : Fin 32) (l : Fin 2048)

/-- The body's values read at an index. -/
theorem pay1_at : k0_pay1 X B (ix2 r h) = softplus (X (ix2 r h) + B (ix2 0 h)) := by
  pointwise [k0_pay1]
  simp only [ofBits_zero, ofBits_one, zero_sub]; rfl
theorem pay2_at (s : Fin 32 → EReal) (hs : ∀ h, softplus (X (ix2 r h) + B (ix2 0 h)) = s h) (hr : ∀ h, s h - s h = 0)
    (hE : ∀ h, E (ix2 h l) = spread h l) : k0_pay2 X B E (ix2 r l) = s (head l) := by
  pointwise [k0_pay2]
  simp only [pay1_at, hs, hr, hE, sub_zero, zero_mul, Finset.sum_const_zero, add_zero, sum_spread]
end

/-- A column's number over 64, rounded down, as 32-bit words compute it. -/
theorem lane_div : ∀ l : Fin 2048,
    (Scalar.select
          (IntOp.andi
            (IntOp.cmpi CmpIPredicate.ne
              (if BitVec.ofNat 32 l.val = 0 then 0 else if (BitVec.ofNat 32 l.val).msb = true then -1 else 1)
              (if id (constantI S_ 32 64#32) ix0 = 0 then 0
              else if BitVec.msb (id (constantI S_ 32 64#32) ix0) = true then -1 else (1 : BitVec 32)))
            (IntOp.cmpi CmpIPredicate.ne
              (IntOp.remsi ArithUnit.host (BitVec.ofNat 32 l.val) (id (constantI S_ 32 64#32) ix0)) 0#32))
          (IntOp.subi (IntOp.divsi ArithUnit.host (BitVec.ofNat 32 l.val) (id (constantI S_ 32 64#32) ix0)) 1#32)
          (IntOp.divsi ArithUnit.host (BitVec.ofNat 32 l.val) (id (constantI S_ 32 64#32) ix0))) = BitVec.ofNat 32 (l.val / 64) := by
  decide +kernel
theorem same_head : ∀ a h : Fin 32, IntOp.cmpi .eq (BitVec.ofNat 32 a.val) (BitVec.ofNat 32 h.val) = if h = a then 1#1 else 0#1 := by
  decide +kernel

section
variable (m : (ℓ : Loc nD τ sig) → Buf (Elt Ideal) ℓ) (c : Dev nD)

/-- The arguments that a memory holds. -/
def args : FwdArgs where
  x r h := m ((c : Thread nD τ).loc main_arg0) (ix2 r h)
  b h := m ((c : Thread nD τ).loc main_arg1) (ix1 h)

theorem V_b (z : Fin 1) (h : Fin 32) : V m c main_v5 (ix2 z h) = (args m c).b h := by
  unfold V
  after_reads_at
  rfl
theorem V_e (h : Fin 32) (l : Fin 2048) : V m c main_v4 (ix2 h l) = spread h l := by
  unfold V
  after_reads_at
  refine (congrArg (fun b => FloatOps.uitofp (F := Ideal) .f32 (IntOp.cmpi .eq b (BitVec.ofNat 32 h.val))) (lane_div l)).trans ?_
  refine (congrArg (FloatOps.uitofp (F := Ideal) .f32) (same_head (head l) h)).trans ?_
  unfold spread
  by_cases e : h = head l
  · rw [if_pos e, if_pos e]
    simp [FloatOps.uitofp]
  · rw [if_neg e, if_neg e]
    simp [FloatOps.uitofp]

variable (t : Fin cfg0.N)
abbrev bX : Vec Ideal S512x32 .f32 := iblk m c 0 t
abbrev bB : Vec Ideal S1x32 .f32 := iblk m c 1 t
abbrev bE : Vec Ideal S32x2048 .f32 := iblk m c 2 t
/-- The tile of a grid point. -/
def ti : Fin 8 := ⟨t.val, lt_of_lt_of_eq t.isLt N_0⟩

theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

theorem bX_at (r : Fin 512) (h : Fin 32) : bX m c t (ix2 r h) = (args m c).x (row (ti t) r) h := by
  unfold row ti
  blk_point [iblk, V, idx t]
theorem bB_at (z : Fin 1) (h : Fin 32) : bB m c t (ix2 z h) = (args m c).b h := by
  refine Eq.trans ?_ (V_b m c z h)
  blk_point [iblk, idx t]
theorem bE_at (h : Fin 32) (l : Fin 2048) : bE m c t (ix2 h l) = spread h l := by
  refine Eq.trans ?_ (V_e m c h l)
  blk_point [iblk, idx t]

/-- What a point leaves in the two results' blocks. -/
theorem out3_at (r : Fin 512) (h : Fin 32) : out0_3 (bX m c t) (bB m c t) (bE m c t) (ix2 r h) = (args m c).dt (row (ti t) r) h := by
  unfold out0_3
  frame_out
  refine (pay1_at (bX m c t) (bB m c t) r h).trans ?_
  rw [bX_at, bB_at]; rfl
theorem out4_at (hf : (args m c).Fin') (r : Fin 512) (l : Fin 2048) :
    out0_4 (bX m c t) (bB m c t) (bE m c t) (ix2 r l) = (args m c).dt (row (ti t) r) (head l) := by
  unfold out0_4
  frame_out
  refine pay2_at (bX m c t) (bB m c t) (bE m c t) r l (fun h => (args m c).dt (row (ti t) r) h) (fun h => ?_) (fun h => ?_) (fun h => bE_at m c t h l)
  · rw [bX_at, bB_at]; rfl
  · obtain ⟨x, hx⟩ := hf.x (row (ti t) r) h
    obtain ⟨b, hb⟩ := hf.b h
    simp only [FwdArgs.dt]
    rw [hx, hb, ← EReal.coe_add, softplus_coe, ← EReal.coe_sub, sub_self, EReal.coe_zero]

/-- The two result arrays. -/
theorem arr3 : (dats m 0 c).arrAt 3 cfg0.N = fun j : S4096x32.Idx => (args m c).dt (j 0) (j 1) := by
  refine (dats m 0 c).arrAt_eq_of_covers 3 _ (by decide +kernel) fun t hf y => ?_
  blk_simp
  rw [after0_3]
  obtain ⟨r, h, hy⟩ : ∃ (r : Fin 512) (h : Fin 32), y = ix2 r h := ⟨y 0, y 1, by blk_ext⟩
  have e0 : ((win0_3.blk t).view.emb y 0 : Fin 4096) = row (ti t) r := by
    rw [hy]; refine Fin.ext ?_; blk_simp [idx t]; simp only [row, ti]; omega
  have e1 : ((win0_3.blk t).view.emb y 1 : Fin 32) = h := by
    rw [hy]; refine Fin.ext ?_; blk_simp [idx t]
  refine Eq.trans ?_ (congrArg₂ (args m c).dt e0 e1).symm
  rw [hy]
  exact out3_at m c t r h
theorem arr4 (hA : (args m c).Fin') : (dats m 0 c).arrAt 4 cfg0.N = fun j : S4096x2048.Idx => (args m c).dt (j 0) (head (j 1)) := by
  refine (dats m 0 c).arrAt_eq_of_covers 4 _ (by decide +kernel) fun t hf y => ?_
  blk_simp
  rw [after0_4]
  obtain ⟨r, l, hy⟩ : ∃ (r : Fin 512) (l : Fin 2048), y = ix2 r l := ⟨y 0, y 1, by blk_ext⟩
  have e0 : ((win0_4.blk t).view.emb y 0 : Fin 4096) = row (ti t) r := by
    rw [hy]; refine Fin.ext ?_; blk_simp [idx t]; simp only [row, ti]; omega
  have e1 : ((win0_4.blk t).view.emb y 1 : Fin 2048) = l := by
    rw [hy]; refine Fin.ext ?_; blk_simp [idx t]
  refine Eq.trans ?_ (congrArg₂ (fun r l => (args m c).dt r (head l)) e0 e1).symm
  rw [hy]
  exact out4_at m c t hA r l
end
end Cert.Kernel30Ideal.Value
-- ==== Proof.StepFwdRef.lean ====
module

public import proofs.«01_k».proof.Proof.Gen.Reference30Ideal.Read
public import proofs.«01_k».proof.Proof.StepFwd
public import proofs.«01_k».proof.Pre_finite30

/-! The reference's time steps, at an index; what the precondition says of the arguments. -/

@[expose] public section
set_option maxRecDepth 16384
noncomputable section
open Idealize.ShloMosaic Idealize.ShloMosaic.TcCoe Idealize.SL.Sem
namespace Cert.Steps
/-- The precondition's shapes broadcast. -/
theorem fwd_facts : Cert.Pre_finite30.Facts where
  bcast_S_S4096x32 := by decide
  bcast_S_S32 := by decide
end Cert.Steps

namespace Cert.Reference30Ideal.Value
open Cert.Reference30Ideal Cert.Reference30Ideal.Gen Cert.Reference30Ideal.Read Cert.Steps
section
variable (x0 : Vec Ideal S4096x32 .f32) (x1 : Vec Ideal S32 .f32)

/-- The arguments that the arrays hold. -/
def rargs : FwdArgs where
  x r h := x0 (ix2 r h)
  b h := x1 (ix1 h)

theorem v2_at (r : Fin 4096) (h : Fin 32) : val_main_v2 x0 x1 (ix2 r h) = x0 (ix2 r h) + x1 (ix1 h) := by
  pointwise [val_main_v2, val_main_v1, val_main_v0]
theorem v3_at (r : Fin 4096) (h : Fin 32) : val_main_v3 x0 x1 (ix2 r h) = (rargs x0 x1).dt r h := by
  pointwise [val_main_v3, val_main_call0_v11, val_main_call0_v10, val_main_call0_v9, val_main_call0_v8, val_main_call0_v7, val_main_call0_v6,
    val_main_call0_v5, val_main_call0_v4, val_main_call0_v3, val_main_call0_v2, val_main_call0_v1, val_main_call0_v0, val_main_call0_cst]
  simp only [v2_at, ofBits_zero, sub_zero]
  exact if_neg (not_not.2 rfl)
theorem v6_at (r : Fin 4096) (l : Fin 2048) : val_main_v6 x0 x1 (ix2 r l) = (rargs x0 x1).dt r (head l) := by
  refine Eq.trans ?_ (v3_at x0 x1 r (head l))
  pointwise [val_main_v6, val_main_v5, val_main_v4]
  rfl

/-- The two results. -/
theorem out3 : val_main_v3 x0 x1 = fun j : S4096x32.Idx => (rargs x0 x1).dt (j 0) (j 1) := by
  funext j
  obtain ⟨r, h, rfl⟩ : ∃ (r : Fin 4096) (h : Fin 32), j = ix2 r h := ⟨j 0, j 1, eq_ix2 j⟩
  exact v3_at x0 x1 r h
theorem out6 : val_main_v6 x0 x1 = fun j : S4096x2048.Idx => (rargs x0 x1).dt (j 0) (head (j 1)) := by
  funext j
  obtain ⟨r, l, rfl⟩ : ∃ (r : Fin 4096) (l : Fin 2048), j = ix2 r l := ⟨j 0, j 1, eq_ix2 j⟩
  exact v6_at x0 x1 r l

/-- Under the precondition the arguments are finite. -/
theorem args_fin [Cert.Pre_finite30.Facts] (h0 : (Cert.Pre_finite30.fn (F := Ideal) x0 x1).1 = fun _ => 1#1)
    (h1 : (Cert.Pre_finite30.fn (F := Ideal) x0 x1).2 = fun _ => 1#1) : (rargs x0 x1).Fin' where
  x r h := Cert.Ffn.isReal_at x0 _ h0 _
  b h := Cert.Ffn.isReal_at x1 _ h1 _
end
end Cert.Reference30Ideal.Value
-- ==== Proof.GroupNorm.lean ====
module

public import proofs.«01_k».proof.Proof.Gen.Kernel31Ideal.Value
public import proofs.«01_k».proof.Proof.Gen.Reference31Ideal.Read
public import proofs.«01_k».proof.Proof.StepBwd

/-! The state-space layer's gated norm, forward: the rows times the gate's silu, each of the eight groups of 256 columns
    divided by the root of its mean square, times the weight. -/

@[expose] public section
set_option maxRecDepth 16384
noncomputable section
open Idealize.ShloMosaic Idealize.ShloMosaic.TcCoe Idealize.SL.Sem
open Cert.Ffn (sigmoid)
open Cert.Steps (ofBits_zero ofBits_one)

namespace Cert.GroupNorm
/-- A row of a tile; a column of a group; a column's group and its place there. -/
def row (i : Fin 16) (r : Fin 256) : Fin 4096 := ⟨256 * i.val + r.val, by omega⟩
def col (g : Fin 8) (j : Fin 256) : Fin 2048 := ⟨256 * g.val + j.val, by omega⟩
def group (l : Fin 2048) : Fin 8 := ⟨l.val / 256, by omega⟩
def place (l : Fin 2048) : Fin 256 := ⟨l.val % 256, by omega⟩

/-- The gated value; and one over the root of the mean square, the number of columns and the shift as the programs have them. -/
def gate (y z : EReal) : EReal := y * (z * sigmoid z)
def rootInv (f : Fin 256 → EReal) : EReal :=
  Ideal.rsqrt (Ideal.div (∑ j, f j * f j) (Ideal.ofBits .f32 0x43800000#32) + Ideal.ofBits .f32 0x3727C5AC#32)
/-- A group's normed column. -/
def nrm (y z w : Fin 2048 → EReal) (g : Fin 8) (j : Fin 256) : EReal :=
  gate (y (col g j)) (z (col g j)) * rootInv (fun k => gate (y (col g k)) (z (col g k))) * w (col g j)
/-- The arguments: the scan's rows, the gate's rows and the weight; and the result. -/
structure NormArgs where
  y : Fin 4096 → Fin 2048 → EReal
  z : Fin 4096 → Fin 2048 → EReal
  w : Fin 2048 → EReal
def NormArgs.out (A : NormArgs) (r : Fin 4096) (l : Fin 2048) : EReal := nrm (A.y r) (A.z r) A.w (group l) (place l)
end Cert.GroupNorm

namespace Cert.Kernel31Ideal.Value
open Cert.Kernel31Ideal Cert.Kernel31Ideal.Gen Cert.GroupNorm
section
variable (Y Z : Vec Ideal S256x2048 .f32) (W : Vec Ideal S1x2048 .f32) (r j : Fin 256) (g : Fin 8)

/-- A group's part of the stored block. -/
theorem cat_at : Cat3_0 Y Z W g (ix2 r j) = nrm (fun l => Y (ix2 r l)) (fun l => Z (ix2 r l)) (fun l => W (ix2 0 l)) g j := by
  fin_cases g
  all_goals
    dsimp only [Cat3_0]
    pointwise
    simp [nrm, rootInv, gate, sigmoid, col]
/-- What a point leaves in its block. -/
theorem blk_at (l : Fin 2048) : out0_3 Y Z W (ix2 r l) = nrm (fun l => Y (ix2 r l)) (fun l => Z (ix2 r l)) (fun l => W (ix2 0 l)) (group l) (place l) := by
  refine Eq.trans ?_ (cat_at Y Z W r (place l) (group l))
  have e : ix3_0 (ix2 r l) = ix2 r (place l) := eq_ix2 _
  refine Eq.trans ?_ ((canon3_eq Y Z W (ix2 r l)).trans (congrArg (Cat3_0 Y Z W (group l)) e))
  unfold_out out0_3
  have h0 : ∀ X : Vec Ideal S256x2048 .f32, View.ld X r0_0 = X := fun X => View.ld_unit_lit _ X (by decide)
  have h1 : View.ld W r0_1 = W := View.ld_unit_lit _ W (by decide)
  simp only [h0, h1]
end

section
variable (m : (ℓ : Loc nD τ sig) → Buf (Elt Ideal) ℓ) (c : Dev nD)

/-- The arguments that a memory holds. -/
def args : NormArgs where
  y r l := m ((c : Thread nD τ).loc main_arg0) (ix2 r l)
  z r l := m ((c : Thread nD τ).loc main_arg1) (ix2 r l)
  w l := m ((c : Thread nD τ).loc main_arg2) (ix1 l)

theorem V_w (z : Fin 1) (l : Fin 2048) : V m c main_v0 (ix2 z l) = (args m c).w l := by
  unfold V
  after_reads_at
  rfl

variable (t : Fin cfg0.N)
abbrev bY : Vec Ideal S256x2048 .f32 := iblk m c 0 t
abbrev bZ : Vec Ideal S256x2048 .f32 := iblk m c 1 t
abbrev bW : Vec Ideal S1x2048 .f32 := iblk m c 2 t
/-- The tile of a grid point. -/
def ti : Fin 16 := ⟨t.val, lt_of_lt_of_eq t.isLt N_0⟩

theorem idx : ∀ t : Fin cfg0.N, win0_0.index t = ![t.val, 0] ∧ win0_1.index t = ![t.val, 0] ∧ win0_2.index t = ![0, 0]
    ∧ win0_3.index t = ![t.val, 0] :=
  (by decide +kernel : ∀ t : Fin grid0.N, _)

theorem bY_at (r : Fin 256) (l : Fin 2048) : bY m c t (ix2 r l) = (args m c).y (row (ti t) r) l := by
  unfold row ti
  blk_point [iblk, V, idx t]
theorem bZ_at (r : Fin 256) (l : Fin 2048) : bZ m c t (ix2 r l) = (args m c).z (row (ti t) r) l := by
  unfold row ti
  blk_point [iblk, V, idx t]
theorem bW_at (z : Fin 1) (l : Fin 2048) : bW m c t (ix2 z l) = (args m c).w l := by
  refine Eq.trans ?_ (V_w m c z l)
  blk_point [iblk, idx t]

/-- The result array. -/
theorem arr3 : (dats m 0 c).arrAt 3 cfg0.N = fun j : S4096x2048.Idx => (args m c).out (j 0) (j 1) := by
  refine (dats m 0 c).arrAt_eq_of_covers 3 _ (by decide +kernel) fun t hf y => ?_
  blk_simp
  rw [after0_3]
  obtain ⟨r, l, hy⟩ : ∃ (r : Fin 256) (l : Fin 2048), y = ix2 r l := ⟨y 0, y 1, by blk_ext⟩
  have e0 : ((win0_3.blk t).view.emb y 0 : Fin 4096) = row (ti t) r := by
    rw [hy]; refine Fin.ext ?_; blk_simp [idx t]; simp only [row, ti]; omega
  have e1 : ((win0_3.blk t).view.emb y 1 : Fin 2048) = l := by
    rw [hy]; refine Fin.ext ?_; blk_simp [idx t]
  refine Eq.trans ?_ (congrArg₂ (args m c).out e0 e1).symm
  rw [hy]
  refine (blk_at (bY m c t) (bZ m c t) (bW m c t) r l).trans ?_
  simp only [bY_at, bZ_at, bW_at]
  rfl
end
end Cert.Kernel31Ideal.Value

namespace Cert.Reference31Ideal.Value
open Cert.Reference31Ideal Cert.Reference31Ideal.Gen Cert.Reference31Ideal.Read Cert.GroupNorm
section
variable (x0 x1 : Vec Ideal S4096x2048 .f32) (x2 : Vec Ideal S2048 .f32)

/-- The arguments that the arrays hold. -/
def rargs : NormArgs where
  y r l := x0 (ix2 r l)
  z r l := x1 (ix2 r l)
  w l := x2 (ix1 l)

theorem v1_at (r : Fin 4096) (l : Fin 2048) : val_main_v1 x0 x1 (ix2 r l) = gate (x0 (ix2 r l)) (x1 (ix2 r l)) := by
  pointwise [val_main_v1, val_main_v0, val_main_call0_v5, val_main_call0_v4, val_main_call0_v3, val_main_call0_v2, val_main_call0_v1, val_main_call0_v0,
    val_main_call0_cst, val_main_call0_cst_0]
  rfl
theorem v2_at (r : Fin 4096) (g : Fin 8) (j : Fin 256) :
    val_main_v2 x0 x1 (ix3 r g j) = gate (x0 (ix2 r (col g j))) (x1 (ix2 r (col g j))) := by
  refine Eq.trans ?_ (v1_at x0 x1 r (col g j))
  pointwise [val_main_v2]
  exact congrArg (fun l => val_main_v1 x0 x1 (ix2 r l)) (Fin.ext (by simp only [col]; omega))
theorem v12_at (r : Fin 4096) (g : Fin 8) (j : Fin 256) : val_main_v12 x0 x1 (ix3 r g j)
    = gate (x0 (ix2 r (col g j))) (x1 (ix2 r (col g j))) * rootInv (fun k => gate (x0 (ix2 r (col g k))) (x1 (ix2 r (col g k)))) := by
  pointwise [val_main_v12, val_main_v11, val_main_v10, val_main_v9, val_main_v8, val_main_v7, val_main_v6, val_main_v5, val_main_v4, val_main_v3,
    val_main_cst, val_main_cst_0, val_main_cst_1]
  simp only [v2_at]
  rfl
theorem v17_at (r : Fin 4096) (l : Fin 2048) : val_main_v17 x0 x1 x2 (ix2 r l) = (rargs x0 x1 x2).out r l := by
  pointwise [val_main_v17, val_main_v16, val_main_v15, val_main_v14, val_main_v13]
  refine (congrArg (· * x2 (ix1 l)) (v12_at x0 x1 r (group l) (place l))).trans ?_
  have e : col (group l) (place l) = l := Fin.ext (Nat.div_add_mod _ _)
  simp only [NormArgs.out, nrm, e, rargs]

/-- The result. -/
theorem out17 : val_main_v17 x0 x1 x2 = fun j : S4096x2048.Idx => (rargs x0 x1 x2).out (j 0) (j 1) := by
  funext j
  obtain ⟨r, l, rfl⟩ : ∃ (r : Fin 4096) (l : Fin 2048), j = ix2 r l := ⟨j 0, j 1, eq_ix2 j⟩
  exact v17_at x0 x1 x2 r l
end
end Cert.Reference31Ideal.Value
-- ==== Proof.Steps.lean ====
module

public import proofs.«01_k».proof.Defs
public import proofs.«01_k».proof.Proof.Gen.Kernel29.Frame
public import proofs.«01_k».proof.Proof.Gen.Kernel29Ideal.Frame
public import proofs.«01_k».proof.Proof.Gen.Reference29Ideal.Run
public import proofs.«01_k».proof.Proof.Gen.Kernel30.Frame
public import proofs.«01_k».proof.Proof.Gen.Kernel30Ideal.Frame
public import proofs.«01_k».proof.Proof.Gen.Reference30Ideal.Run
public import proofs.«01_k».proof.Proof.Gen.Kernel31.Frame
public import proofs.«01_k».proof.Proof.Gen.Kernel31Ideal.Frame
public import proofs.«01_k».proof.Proof.Gen.Reference31Ideal.Run
public import proofs.«01_k».proof.Proof.StepBwdRef
public import proofs.«01_k».proof.Proof.StepFwdRef
public import proofs.«01_k».proof.Proof.GroupNorm
public import Idealize.ShloMosaic.Lib.Quiescent

/-! The claims about the time steps' softplus, backward and forward, and about the gated norm, forward: the programs run,
    and the kernels' results are the reference's, of the forward time steps at finite arguments. -/

@[expose] public section
set_option maxRecDepth 16384
noncomputable section
open Idealize.ShloMosaic Idealize.ShloMosaic.TcCoe Idealize.SL.Sem
namespace Cert.Proof.Steps

/-! Backward. -/
theorem frame_kernel29 : Cert.quiescent_Kernel29 (hKernel29 := Cert.Kernel29.Gen.facts) := fun m ρ _ => Cert.Kernel29.Gen.frame m ρ
theorem frame_ideal29 : Cert.quiescent_Kernel29Ideal (hKernel29Ideal := Cert.Kernel29Ideal.Gen.facts) := fun m ρ _ => Cert.Kernel29Ideal.Gen.frame m ρ
theorem frame_reference29 : Cert.quiescent_Reference29Ideal (hReference29Ideal := Cert.Reference29Ideal.Gen.facts) := fun m ρ _ =>
  (θ_run Cert.Reference29Ideal.defs _ _).mono (fun r h => ⟨fun c => (h c).2.2, sem_eq_zero_of_no_sems (by decide) r.2⟩)
    (Cert.Reference29Ideal.Value.run (F := Ideal) m ρ)
theorem preserves29 : Cert.preserves_Kernel29_Kernel29Ideal := trivial
theorem algebraic29 : Cert.algebraic_Kernel29Ideal_Reference29Ideal (hKernel29Ideal := Cert.Kernel29Ideal.Gen.facts)
    (hReference29Ideal := Cert.Reference29Ideal.Gen.facts) := by
  intro m ρ m' ρ' _ hagree
  refine ⟨fun c => fun j : Cert.Kernel29Ideal.S4096x32.Idx => (Cert.Kernel29Ideal.Value.args m c).dx (j 0) (j 1),
    fun c => fun j : Cert.Kernel29Ideal.S1x32.Idx => (Cert.Kernel29Ideal.Value.args m c).db (j 1), ?_, ?_⟩
  · refine (θ_run Cert.Kernel29Ideal.defs _ _).mono (fun r h c => ?_) (Cert.Kernel29Ideal.Value.run_blocks (F := Ideal) m ρ)
    obtain ⟨e0, e1, hargs⟩ := h c
    exact ⟨e0.trans (Cert.Kernel29Ideal.Value.arr3 m c), e1.trans (Cert.Kernel29Ideal.Value.arr4 m c), hargs⟩
  · refine (θ_run Cert.Reference29Ideal.defs _ _).mono (fun r h c => ?_) (Cert.Reference29Ideal.Value.run (F := Ideal) m' ρ')
    obtain ⟨e0, e1, hargs⟩ := h c
    obtain ⟨a0, a1, a2⟩ := hagree c
    refine ⟨e0.trans ((Cert.Reference29Ideal.Read.val_main_v4_eq _ _ _).trans ?_),
      e1.trans ((Cert.Reference29Ideal.Read.val_main_v8_eq m' c).trans ?_), hargs⟩
    · rw [a0, a1, a2]
      exact Cert.Reference29Ideal.Value.out4 _ _ _
    · rw [a0, a1, a2]
      exact Cert.Reference29Ideal.Value.out8 _ _ _

/-! Forward. -/
theorem frame_kernel30 : Cert.quiescent_Kernel30 (hKernel30 := Cert.Kernel30.Gen.facts) := fun m ρ _ => Cert.Kernel30.Gen.frame m ρ
theorem frame_ideal30 : Cert.quiescent_Kernel30Ideal (hKernel30Ideal := Cert.Kernel30Ideal.Gen.facts) := fun m ρ _ => Cert.Kernel30Ideal.Gen.frame m ρ
theorem frame_ideal_pre30 : Cert.quiescent_Kernel30Ideal_pre_finite30 (hKernel30Ideal := Cert.Kernel30Ideal.Gen.facts) (hPre_finite30 := Cert.Steps.fwd_facts) :=
  fun m ρ _ => Cert.Kernel30Ideal.Gen.frame m ρ
theorem frame_reference30 : Cert.quiescent_Reference30Ideal (hReference30Ideal := Cert.Reference30Ideal.Gen.facts) := fun m ρ _ =>
  (θ_run Cert.Reference30Ideal.defs _ _).mono (fun r h => ⟨fun c => (h c).2.2, sem_eq_zero_of_no_sems (by decide) r.2⟩)
    (Cert.Reference30Ideal.Value.run (F := Ideal) m ρ)
theorem frame_reference_pre30 : Cert.quiescent_Reference30Ideal_pre_finite30 (hReference30Ideal := Cert.Reference30Ideal.Gen.facts)
    (hPre_finite30 := Cert.Steps.fwd_facts) := fun m ρ _ => frame_reference30 m ρ trivial
theorem preserves30 : Cert.preserves_Kernel30_Kernel30Ideal := trivial
theorem algebraic30 : Cert.algebraic_Kernel30Ideal_Reference30Ideal_pre_finite30 (hKernel30Ideal := Cert.Kernel30Ideal.Gen.facts)
    (hReference30Ideal := Cert.Reference30Ideal.Gen.facts) (hPre_finite30 := Cert.Steps.fwd_facts) := by
  intro m ρ m' ρ' hpre hagree
  refine ⟨fun c => fun j : Cert.Kernel30Ideal.S4096x32.Idx => (Cert.Kernel30Ideal.Value.args m c).dt (j 0) (j 1),
    fun c => fun j : Cert.Kernel30Ideal.S4096x2048.Idx => (Cert.Kernel30Ideal.Value.args m c).dt (j 0) (Cert.Steps.head (j 1)), ?_, ?_⟩
  · refine (θ_run Cert.Kernel30Ideal.defs _ _).mono (fun r h c => ?_) (Cert.Kernel30Ideal.Value.run_blocks (F := Ideal) m ρ)
    obtain ⟨e0, e1, hargs⟩ := h c
    obtain ⟨h0, h1⟩ := hpre c
    have hf := @Cert.Reference30Ideal.Value.args_fin _ _ Cert.Steps.fwd_facts h0 h1
    exact ⟨e0.trans (Cert.Kernel30Ideal.Value.arr3 m c), e1.trans (Cert.Kernel30Ideal.Value.arr4 m c hf), hargs⟩
  · refine (θ_run Cert.Reference30Ideal.defs _ _).mono (fun r h c => ?_) (Cert.Reference30Ideal.Value.run (F := Ideal) m' ρ')
    obtain ⟨e0, e1, hargs⟩ := h c
    obtain ⟨a0, a1⟩ := hagree c
    refine ⟨e0.trans ((Cert.Reference30Ideal.Read.val_main_v3_eq _ _).trans ?_),
      e1.trans ((Cert.Reference30Ideal.Read.val_main_v6_eq _ _).trans ?_), hargs⟩
    · rw [a0, a1]
      exact Cert.Reference30Ideal.Value.out3 _ _
    · rw [a0, a1]
      exact Cert.Reference30Ideal.Value.out6 _ _

/-! The gated norm. -/
theorem frame_kernel31 : Cert.quiescent_Kernel31 (hKernel31 := Cert.Kernel31.Gen.facts) := fun m ρ _ => Cert.Kernel31.Gen.frame m ρ
theorem frame_ideal31 : Cert.quiescent_Kernel31Ideal (hKernel31Ideal := Cert.Kernel31Ideal.Gen.facts) := fun m ρ _ => Cert.Kernel31Ideal.Gen.frame m ρ
theorem frame_reference31 : Cert.quiescent_Reference31Ideal (hReference31Ideal := Cert.Reference31Ideal.Gen.facts) := fun m ρ _ =>
  (θ_run Cert.Reference31Ideal.defs _ _).mono (fun r h => ⟨fun c => (h c).2, sem_eq_zero_of_no_sems (by decide) r.2⟩)
    (Cert.Reference31Ideal.Value.run (F := Ideal) m ρ)
theorem preserves31 : Cert.preserves_Kernel31_Kernel31Ideal := trivial
theorem algebraic31 : Cert.algebraic_Kernel31Ideal_Reference31Ideal (hKernel31Ideal := Cert.Kernel31Ideal.Gen.facts)
    (hReference31Ideal := Cert.Reference31Ideal.Gen.facts) := by
  intro m ρ m' ρ' _ hagree
  refine ⟨fun c => fun j : Cert.Kernel31Ideal.S4096x2048.Idx => (Cert.Kernel31Ideal.Value.args m c).out (j 0) (j 1), ?_, ?_⟩
  · refine (θ_run Cert.Kernel31Ideal.defs _ _).mono (fun r h c => ?_) (Cert.Kernel31Ideal.Value.run_blocks (F := Ideal) m ρ)
    exact ⟨(h c).1.trans (Cert.Kernel31Ideal.Value.arr3 m c), (h c).2⟩
  · refine (θ_run Cert.Reference31Ideal.defs _ _).mono (fun r h c => ?_) (Cert.Reference31Ideal.Value.run (F := Ideal) m' ρ')
    obtain ⟨a0, a1, a2⟩ := hagree c
    refine ⟨(h c).1.trans ((Cert.Reference31Ideal.Read.val_main_v17_eq _ _ _).trans ?_), (h c).2⟩
    rw [a0, a1, a2]
    exact Cert.Reference31Ideal.Value.out17 _ _ _

end Cert.Proof.Steps
-- ==== Proof.GroupNormMath.lean ====
module

public import proofs.«01_k».proof.Proof.GroupNorm
public import proofs.«01_k».proof.Proof.FEqual

/-! The mathematics of the gated norm's gradient, over one group of 256 columns: the gradient through the division by the
    root of the mean square, in the kernel's form and in the reference's, and that both are one real number at finite
    arguments. -/

@[expose] public section
noncomputable section
open Idealize.ShloMosaic
open Cert.Gmlp (IsReal sum_coe)
open Cert.Ffn (sigmoid silu dsilu cNegHalf finite_sigmoid gate_eq)
namespace Cert.GroupNorm

/-- The number of columns of a group, and the shift: the rational that the float word of `1e-5` is. -/
abbrev cG : EReal := ((256 : ℝ) : EReal)
abbrev shift : ℝ := 10995116 / 2 ^ 40
theorem ofBits_group : Ideal.ofBits .f32 0x43800000#32 = cG := by
  simp [Ideal.ofBits, Ideal.ieee]; norm_num; rw [← EReal.coe_mul]; congr 1; norm_num
theorem ofBits_shift : Ideal.ofBits .f32 0x3727C5AC#32 = (shift : EReal) := by
  simp [Ideal.ofBits, Ideal.ieee]; norm_num; rw [← EReal.coe_mul]; congr 1; norm_num [shift]

/-- A group's shifted mean square; one over its root is `rootInv`. -/
def ms (x : Fin 256 → EReal) : EReal := Ideal.div (∑ j, x j * x j) cG + (shift : EReal)
theorem rootInv_eq (x : Fin 256 → EReal) : rootInv x = Ideal.rsqrt (ms x) := by rw [rootInv, ofBits_group, ofBits_shift]; rfl

/-- The gradient of the group's columns `x` when the gradient of the quotients is `y`: as the kernel has it. -/
def back (x y : Fin 256 → EReal) (j : Fin 256) : EReal :=
  rootInv x * (y j - x j * rootInv x * Ideal.div (∑ k, y k * (x k * rootInv x)) cG)
/-- As the reference has it: half of the gradient through the mean square, and the whole. -/
def half (x y : Fin 256 → EReal) : EReal := Ideal.div ((∑ j, x j * y j) * (cNegHalf * Ideal.div (rootInv x) (ms x))) cG
def back' (x y : Fin 256 → EReal) (j : Fin 256) : EReal := y j * rootInv x + x j * half x y + half x y * x j

section
variable (v d : Fin 256 → ℝ)
/-- The shifted mean square and one over its root, of real columns. -/
def msR : ℝ := (∑ j, v j * v j) / 256 + shift
def invR : ℝ := (Real.sqrt (msR v))⁻¹
theorem msR_pos : 0 < msR v :=
  add_pos_of_nonneg_of_pos (div_nonneg (Finset.sum_nonneg fun j _ => mul_self_nonneg _) (by norm_num)) (by norm_num [shift])
theorem invR_sq : invR v * invR v = (msR v)⁻¹ := by rw [invR, ← mul_inv, Real.mul_self_sqrt (msR_pos v).le]

theorem div_group (r : ℝ) : Ideal.div (r : EReal) cG = ((r / 256 : ℝ) : EReal) := by
  rw [Ideal.div_coe (by norm_num), ← EReal.coe_mul]; congr 1; ring
theorem ms_coe : ms (fun j => (v j : EReal)) = (msR v : EReal) := by
  unfold ms
  simp only [← EReal.coe_mul]
  rw [sum_coe, div_group, ← EReal.coe_add]; rfl
theorem rootInv_coe : rootInv (fun j => (v j : EReal)) = (invR v : EReal) := by
  rw [rootInv_eq, ms_coe, Ideal.rsqrt_coe, if_neg (not_lt.2 (msR_pos v).le), if_neg (msR_pos v).ne']; rfl

/-- The gradient over the real numbers. -/
def backR (j : Fin 256) : ℝ := invR v * (d j - v j * invR v * ((∑ k, d k * (v k * invR v)) / 256))
theorem back_coe (j : Fin 256) : back (fun j => (v j : EReal)) (fun j => (d j : EReal)) j = (backR v d j : EReal) := by
  unfold back
  simp only [rootInv_coe, ← EReal.coe_mul]
  rw [sum_coe, div_group]
  simp only [← EReal.coe_mul, ← EReal.coe_sub]
  rfl
theorem half_coe : half (fun j => (v j : EReal)) (fun j => (d j : EReal))
    = (((∑ j, v j * d j) * (-(1 / 2) * (invR v * (msR v)⁻¹)) / 256 : ℝ) : EReal) := by
  unfold half
  simp only [rootInv_coe, ms_coe, ← EReal.coe_mul]
  rw [sum_coe, Ideal.div_coe (msR_pos v).ne', ← EReal.coe_mul, ← EReal.coe_mul, ← EReal.coe_mul, div_group, one_div (msR v)]
theorem back'_coe (j : Fin 256) : back' (fun j => (v j : EReal)) (fun j => (d j : EReal)) j = (backR v d j : EReal) := by
  unfold back'
  rw [half_coe, rootInv_coe]
  simp only [← EReal.coe_mul, ← EReal.coe_add]
  refine congrArg _ ?_
  have e : ∑ k, d k * (v k * invR v) = (∑ k, v k * d k) * invR v := by
    rw [Finset.sum_mul]
    exact Finset.sum_congr rfl fun k _ => by ring
  rw [backR, e, ← invR_sq]
  ring
end

section
variable {x y : Fin 256 → EReal} (hx : ∀ j, IsReal (x j)) (hy : ∀ j, IsReal (y j)) (j : Fin 256)
include hx hy
/-- The two forms agree at finite columns, and are finite there. -/
theorem back'_eq : back' x y j = back x y j := by
  choose v hv using hx
  choose d hd using hy
  obtain rfl : x = fun j => (v j : EReal) := funext hv
  obtain rfl : y = fun j => (d j : EReal) := funext hd
  rw [back'_coe, back_coe]
theorem back_real : IsReal (back x y j) := by
  choose v hv using hx
  choose d hd using hy
  obtain rfl : x = fun j => (v j : EReal) := funext hv
  obtain rfl : y = fun j => (d j : EReal) := funext hd
  exact ⟨_, back_coe v d j⟩
end

theorem gate_real {y z : EReal} (hy : IsReal y) (hz : IsReal z) : IsReal (gate y z) := hy.mul (hz.mul (finite_sigmoid hz))

/-- A sum over the rows goes tile by tile. -/
theorem sum_rows (f : Fin 4096 → EReal) : ∑ r, f r = ∑ i, ∑ r, f (row i r) := by
  rw [← Fintype.sum_prod_type' fun i r => f (row i r)]
  refine (Equiv.sum_comp (?_ : Fin 16 × Fin 256 ≃ Fin 4096) f).symm.trans ?_
  · exact (Equiv.prodComm _ _).trans ((Equiv.prodComm _ _).trans finProdFinEquiv)
  · refine Finset.sum_congr rfl fun x _ => congrArg f (Fin.ext ?_)
    show x.2.val + 256 * x.1.val = 256 * x.1.val + x.2.val
    omega

/-- The arguments: the gradient of the norm's result, the scan's rows, the gate's rows and the weight. -/
structure BackArgs where
  d : Fin 4096 → Fin 2048 → EReal
  y : Fin 4096 → Fin 2048 → EReal
  z : Fin 4096 → Fin 2048 → EReal
  w : Fin 2048 → EReal

/-- A group's gated columns in a row, and the gradient of their quotients. -/
def gx (y z : Fin 2048 → EReal) (g : Fin 8) (j : Fin 256) : EReal := gate (y (col g j)) (z (col g j))
def gy (d w : Fin 2048 → EReal) (g : Fin 8) (j : Fin 256) : EReal := d (col g j) * w (col g j)

namespace BackArgs
variable (A : BackArgs)
/-- The gradient of the gated value; of the scan's rows; of the gate's rows. -/
def dG (r : Fin 4096) (l : Fin 2048) : EReal := back (gx (A.y r) (A.z r) (group l)) (gy (A.d r) A.w (group l)) (place l)
def dY (r : Fin 4096) (l : Fin 2048) : EReal := A.dG r l * silu (A.z r l)
def dZ (r : Fin 4096) (l : Fin 2048) : EReal := A.dG r l * A.y r l * dsilu (A.z r l)
/-- A row's, a tile's part of the weight's gradient, and that gradient. -/
def dwR (r : Fin 4096) (l : Fin 2048) : EReal :=
  A.d r l * (gate (A.y r l) (A.z r l) * rootInv (gx (A.y r) (A.z r) (group l)))
def dwT (i : Fin 16) (l : Fin 2048) : EReal := ∑ r, A.dwR (row i r) l
def dw (l : Fin 2048) : EReal := ∑ i, A.dwT i l

/-- The arguments are finite. -/
structure Finite : Prop where
  d : ∀ r l, IsReal (A.d r l)
  y : ∀ r l, IsReal (A.y r l)
  z : ∀ r l, IsReal (A.z r l)
  w : ∀ l, IsReal (A.w l)

variable {A} (F : A.Finite) (r : Fin 4096) (l : Fin 2048)
include F
theorem Finite.gx (g : Fin 8) (j : Fin 256) : IsReal (gx (A.y r) (A.z r) g j) := gate_real (F.y _ _) (F.z _ _)
theorem Finite.gy (g : Fin 8) (j : Fin 256) : IsReal (gy (A.d r) A.w g j) := (F.d _ _).mul (F.w _)
/-- The reference's gradient of the gated value and of the gate's rows are the kernel's. -/
theorem dG_eq : back' (GroupNorm.gx (A.y r) (A.z r) (group l)) (GroupNorm.gy (A.d r) A.w (group l)) (place l) = A.dG r l :=
  back'_eq (F.gx r _) (F.gy r _) _
theorem dZ_eq : A.y r l * A.dG r l * sigmoid (A.z r l) + A.z r l * (A.y r l * A.dG r l) * (sigmoid (A.z r l) * (1 - sigmoid (A.z r l)))
    = A.dZ r l := by
  refine (gate_eq (F.y r l) (back_real (F.gx r _) (F.gy r _) _) (F.z r l) (finite_sigmoid (F.z r l))).symm.trans ?_
  rw [mul_comm (A.y r l)]; rfl
end BackArgs
end Cert.GroupNorm
-- ==== Proof.GroupNormBwd.lean ====
module

public import proofs.«01_k».proof.Proof.Gen.Kernel32Ideal.Value
public import proofs.«01_k».proof.Proof.GroupNormMath

/-! The gated norm's gradient, the kernel: a tile of 256 rows at a time, group by group; the gradient of the scan's rows, of
    the gate's rows, and of the weight, the last added up over the sixteen tiles. -/

@[expose] public section
set_option maxRecDepth 16384
noncomputable section
open Idealize.ShloMosaic Idealize.ShloMosaic.TcCoe Idealize.SL.Sem
open Cert.Ffn (sigmoid silu dsilu)
open Cert.Steps (ofBits_zero ofBits_one)

namespace Cert.Kernel32Ideal.Value
open Cert.Kernel32Ideal Cert.Kernel32Ideal.Gen Cert.GroupNorm
section
variable (D Y Z : Vec Ideal S256x2048 .f32) (W P : Vec Ideal S1x2048 .f32) (r j : Fin 256) (g : Fin 8) (l : Fin 2048) (z : Fin 1)

/-- The gradient of the gated value, and the tile's part of the weight's gradient: eight groups side by side. -/
abbrev dgg : FVec Ideal S256x2048 .f32 :=
  k0_pay58 D (k0_pay4 W) (k0_pay6 Y Z) (k0_pay11 D Y Z W) (k0_pay17 D (k0_pay4 W) (k0_pay6 Y Z))
    (k0_pay25 (k0_pay21 (k0_pay6 Y Z)) (k0_pay22 (k0_pay6 Y Z)) (k0_pay23 D (k0_pay4 W)) (k0_pay24 D (k0_pay4 W) (k0_pay6 Y Z)))
    (k0_pay31 D (k0_pay4 W) (k0_pay6 Y Z)) (k0_pay38 (k0_pay35 (k0_pay6 Y Z)) (k0_pay36 (k0_pay6 Y Z)) (k0_pay37 D (k0_pay4 W)))
    (k0_pay44 D (k0_pay4 W) (k0_pay6 Y Z)) (k0_pay46 D) (k0_pay47 (k0_pay6 Y Z)) (k0_pay48 (k0_pay4 W)) (k0_pay49 (k0_pay6 Y Z))
abbrev dwp : FVec Ideal S1x2048 .f32 :=
  k0_pay2 (k0_pay12 D Y Z) (k0_pay18 D (k0_pay6 Y Z)) (k0_pay26 (k0_pay19 D) (k0_pay22 (k0_pay6 Y Z))) (k0_pay32 D (k0_pay6 Y Z))
    (k0_pay39 (k0_pay33 D) (k0_pay36 (k0_pay6 Y Z))) (k0_pay45 D (k0_pay6 Y Z))
    (k0_pay52 (k0_pay46 D) (k0_pay47 (k0_pay6 Y Z)) (k0_pay49 (k0_pay6 Y Z))) (k0_pay57 D (k0_pay6 Y Z))

/-- The gate's silu, and the gated value. -/
theorem pay5_at : k0_pay5 Z (ix2 r l) = silu (Z (ix2 r l)) := by
  pointwise [k0_pay5]
  simp only [ofBits_zero, ofBits_one, zero_sub]
  rfl
theorem pay6_at : k0_pay6 Y Z (ix2 r l) = gate (Y (ix2 r l)) (Z (ix2 r l)) := by
  pointwise [k0_pay6]
  rw [pay5_at]; rfl
theorem pay4_at : k0_pay4 W (ix2 z l) = W (ix2 z l) := by
  pointwise [k0_pay4]

/-- A column past the groups before its own is not in the first. -/
theorem past (n : ℕ) (h : 256 ≤ n) : ¬j.val + n < 256 := by omega

set_option maxHeartbeats 600000 in
/-- Column `j` of group `g`. -/
theorem dgg_col : dgg D Y Z W (ix2 r (col g j))
    = back (fun k => k0_pay6 Y Z (ix2 r (col g k))) (fun k => D (ix2 r (col g k)) * k0_pay4 W (ix2 0 (col g k))) j := by
  unfold dgg k0_pay58
  generalize hR : back _ _ _ = R
  obtain ⟨b, hb, hv⟩ : ∃ b, 256 * g.val = b ∧ (col g j).val = j.val + b := ⟨_, rfl, Nat.add_comm _ _⟩
  pointwise
  simp only [hv]
  fin_cases g
  all_goals
    norm_num at hb
    subst hb
    simp [past j 256, past j 512, past j 768, past j 1024, past j 1280, past j 1536, past j 1792]
    subst hR
    pointwise [k0_pay7, k0_pay8, k0_pay9, k0_pay10, k0_pay11, k0_pay12, k0_pay13, k0_pay14, k0_pay15, k0_pay16, k0_pay17, k0_pay18, k0_pay19, k0_pay20,
      k0_pay21, k0_pay22, k0_pay23, k0_pay24, k0_pay25, k0_pay26, k0_pay27, k0_pay28, k0_pay29, k0_pay30, k0_pay31, k0_pay32, k0_pay33, k0_pay34,
      k0_pay35, k0_pay36, k0_pay37, k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57]
    simp [back, rootInv, ofBits_group, col]
set_option maxHeartbeats 600000 in
theorem dwp_col : dwp D Y Z (ix2 z (col g j))
    = ∑ r, D (ix2 r (col g j)) * (k0_pay6 Y Z (ix2 r (col g j)) * rootInv fun k => k0_pay6 Y Z (ix2 r (col g k))) := by
  unfold dwp k0_pay2
  generalize hR : (∑ r, D (ix2 r (col g j)) * (k0_pay6 Y Z (ix2 r (col g j)) * rootInv fun k => k0_pay6 Y Z (ix2 r (col g k)))) = R
  obtain ⟨b, hb, hv⟩ : ∃ b, 256 * g.val = b ∧ (col g j).val = j.val + b := ⟨_, rfl, Nat.add_comm _ _⟩
  pointwise
  simp only [hv]
  fin_cases g
  all_goals
    norm_num at hb
    subst hb
    simp [past j 256, past j 512, past j 768, past j 1024, past j 1280, past j 1536, past j 1792]
    subst hR
    pointwise [k0_pay7, k0_pay8, k0_pay9, k0_pay10, k0_pay11, k0_pay12, k0_pay13, k0_pay14, k0_pay15, k0_pay16, k0_pay17, k0_pay18, k0_pay19, k0_pay20,
      k0_pay21, k0_pay22, k0_pay23, k0_pay24, k0_pay25, k0_pay26, k0_pay27, k0_pay28, k0_pay29, k0_pay30, k0_pay31, k0_pay32, k0_pay33, k0_pay34,
      k0_pay35, k0_pay36, k0_pay37, k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57]
    simp [rootInv, col]

theorem col_place : col (group l) (place l) = l := Fin.ext (Nat.div_add_mod _ _)
/-- The stored values read at an index. -/
theorem dgg_at : dgg D Y Z W (ix2 r l)
    = back (gx (fun l => Y (ix2 r l)) (fun l => Z (ix2 r l)) (group l)) (gy (fun l => D (ix2 r l)) (fun l => W (ix2 0 l)) (group l)) (place l) := by
  have e := dgg_col D Y Z W r (place l) (group l)
  rw [col_place] at e
  refine e.trans ?_
  simp only [pay6_at, pay4_at]; rfl
theorem dwp_at : dwp D Y Z (ix2 z l)
    = ∑ r, D (ix2 r l) * (gate (Y (ix2 r l)) (Z (ix2 r l)) * rootInv (gx (fun l => Y (ix2 r l)) (fun l => Z (ix2 r l)) (group l))) := by
  have e := dwp_col D Y Z (place l) (group l) z
  rw [col_place] at e
  refine e.trans ?_
  simp only [pay6_at]; rfl
theorem pay1_at (G : FVec Ideal S256x2048 .f32) : k0_pay1 Y Z G (ix2 r l) = G (ix2 r l) * Y (ix2 r l) * dsilu (Z (ix2 r l)) := by
  pointwise [k0_pay1]
  simp only [ofBits_zero, ofBits_one, zero_sub]
  rfl
end

section
variable (m : (ℓ : Loc nD τ sig) → Buf (Elt Ideal) ℓ) (c : Dev nD)

/-- The arguments that a memory holds. -/
def args : BackArgs where
  d r l := m ((c : Thread nD τ).loc main_arg0) (ix2 r l)
  y r l := m ((c : Thread nD τ).loc main_arg1) (ix2 r l)
  z r l := m ((c : Thread nD τ).loc main_arg2) (ix2 r l)
  w l := m ((c : Thread nD τ).loc main_arg3) (ix1 l)

theorem V_w (z : Fin 1) (l : Fin 2048) : V m c main_v0 (ix2 z l) = (args m c).w l := by
  unfold V
  after_reads_at
  rfl

variable (t : Fin cfg0.N)
abbrev bD : Vec Ideal S256x2048 .f32 := iblk m c 0 t
abbrev bY : Vec Ideal S256x2048 .f32 := iblk m c 1 t
abbrev bZ : Vec Ideal S256x2048 .f32 := iblk m c 2 t
abbrev bW : Vec Ideal S1x2048 .f32 := iblk m c 3 t
/-- The tile of a grid point. -/
def ti : Fin 16 := ⟨t.val, lt_of_lt_of_eq t.isLt N_0⟩
/-- What the point before left. -/
abbrev before := outsAt0 m c (t.val - 1) (Nat.lt_of_le_of_lt (Nat.sub_le _ _) t.isLt)

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

theorem bD_at (r : Fin 256) (l : Fin 2048) : bD m c t (ix2 r l) = (args m c).d (row (ti t) r) l := by
  unfold row ti
  blk_point [iblk, V, idx t]
theorem bY_at (r : Fin 256) (l : Fin 2048) : bY m c t (ix2 r l) = (args m c).y (row (ti t) r) l := by
  unfold row ti
  blk_point [iblk, V, idx t]
theorem bZ_at (r : Fin 256) (l : Fin 2048) : bZ m c t (ix2 r l) = (args m c).z (row (ti t) r) l := by
  unfold row ti
  blk_point [iblk, V, idx t]
theorem bW_at (z : Fin 1) (l : Fin 2048) : bW m c t (ix2 z l) = (args m c).w l := by
  refine Eq.trans ?_ (V_w m c z l)
  blk_point [iblk, idx t]

/-- The gradient of the gated value in a tile, and a tile's part of the weight's gradient. -/
theorem tile_at (r : Fin 256) (l : Fin 2048) : dgg (bD m c t) (bY m c t) (bZ m c t) (bW m c t) (ix2 r l) = (args m c).dG (row (ti t) r) l := by
  refine (dgg_at (bD m c t) (bY m c t) (bZ m c t) (bW m c t) r l).trans ?_
  simp only [bD_at, bY_at, bZ_at, bW_at]; rfl
theorem part_at (z : Fin 1) (l : Fin 2048) : dwp (bD m c t) (bY m c t) (bZ m c t) (ix2 z l) = (args m c).dwT (ti t) l := by
  refine (dwp_at (bD m c t) (bY m c t) (bZ m c t) l z).trans ?_
  simp only [bD_at, bY_at, bZ_at]; rfl

/-- The first point, or a later one. -/
theorem cases : (t.val % 16 = 0 ∧ ¬1 ≤ t.val) ∨ (¬t.val % 16 = 0 ∧ 1 ≤ t.val) := by
  have := t.isLt; have : cfg0.N = 16 := N_0; omega

/-- What a point leaves in the two row blocks. -/
theorem out4_at (r : Fin 256) (l : Fin 2048) : (outsAt0 m c t.val t.isLt).1 (ix2 r l) = (args m c).dY (row (ti t) r) l := by
  have e : dgg (bD m c t) (bY m c t) (bZ m c t) (bW m c t) (ix2 r l) * k0_pay5 (bZ m c t) (ix2 r l) = (args m c).dY (row (ti t) r) l := by
    rw [tile_at, pay5_at, bZ_at]; rfl
  rcases cases t with ⟨ca, cb⟩ | ⟨ca, cb⟩
  on_goal 1 => rw [outsAt0_A m c t ca cb]
  on_goal 2 => rw [outsAt0_B m c t ca cb]
  all_goals
    frame_open
    frame_out
    exact e
theorem out5_at (r : Fin 256) (l : Fin 2048) : (outsAt0 m c t.val t.isLt).2.1 (ix2 r l) = (args m c).dZ (row (ti t) r) l := by
  rcases cases t with ⟨ca, cb⟩ | ⟨ca, cb⟩
  on_goal 1 => rw [outsAt0_A m c t ca cb]
  on_goal 2 => rw [outsAt0_B m c t ca cb]
  all_goals
    frame_open
    frame_out
    refine (pay1_at (bY m c t) (bZ m c t) r l (dgg (bD m c t) (bY m c t) (bZ m c t) (bW m c t))).trans ?_
    rw [tile_at, bY_at, bZ_at]
    rfl

/-- What a point leaves in the weight's gradient: the first point its tile's part, a later one the sum. -/
theorem out6_A (ca : t.val % 16 = 0) (z : Fin 1) (l : Fin 2048) :
    (outsAt0 m c t.val t.isLt).2.2 (ix2 z l) = (args m c).dwT (ti t) l := by
  rw [outsAt0_A m c t ca (by have := cases t; omega)]
  frame_open
  frame_out
  exact part_at m c t z l
theorem out6_B (ca : ¬t.val % 16 = 0) (z : Fin 1) (l : Fin 2048) :
    (outsAt0 m c t.val t.isLt).2.2 (ix2 z l) = (before m c t).2.2 (ix2 z l) + (args m c).dwT (ti t) l := by
  dsimp only [before]
  rw [outsAt0_B m c t ca (by have := cases t; omega)]
  frame_open
  frame_out
  refine Eq.trans ?_ (congrArg (_ + ·) (part_at m c t z l))
  pointwise [k0_pay3]

/-- The three result arrays. -/
theorem arr4 : (dats m 0 c).arrAt 4 cfg0.N = fun j : S4096x2048.Idx => (args m c).dY (j 0) (j 1) := by
  refine (dats m 0 c).arrAt_eq_of_covers 4 _ (by decide +kernel) fun t hf y => ?_
  blk_simp
  rw [after0_4]
  obtain ⟨r, l, hy⟩ : ∃ (r : Fin 256) (l : Fin 2048), y = ix2 r l := ⟨y 0, y 1, by blk_ext⟩
  have e0 : ((win0_4.blk t).view.emb y 0 : Fin 4096) = row (ti t) r := by
    rw [hy]; refine Fin.ext ?_; blk_simp [idx t]; simp only [row, ti]; omega
  have e1 : ((win0_4.blk t).view.emb y 1 : Fin 2048) = l := by
    rw [hy]; refine Fin.ext ?_; blk_simp [idx t]
  refine Eq.trans ?_ (congrArg₂ (args m c).dY e0 e1).symm
  rw [hy]
  exact out4_at m c t r l
theorem arr5 : (dats m 0 c).arrAt 5 cfg0.N = fun j : S4096x2048.Idx => (args m c).dZ (j 0) (j 1) := by
  refine (dats m 0 c).arrAt_eq_of_covers 5 _ (by decide +kernel) fun t hf y => ?_
  blk_simp
  rw [after0_5]
  obtain ⟨r, l, hy⟩ : ∃ (r : Fin 256) (l : Fin 2048), y = ix2 r l := ⟨y 0, y 1, by blk_ext⟩
  have e0 : ((win0_5.blk t).view.emb y 0 : Fin 4096) = row (ti t) r := by
    rw [hy]; refine Fin.ext ?_; blk_simp [idx t]; simp only [row, ti]; omega
  have e1 : ((win0_5.blk t).view.emb y 1 : Fin 2048) = l := by
    rw [hy]; refine Fin.ext ?_; blk_simp [idx t]
  refine Eq.trans ?_ (congrArg₂ (args m c).dZ e0 e1).symm
  rw [hy]
  exact out5_at m c t r l
theorem arr6 : (dats m 0 c).arrAt 6 cfg0.N = fun j : S1x2048.Idx => (args m c).dw (j 1) := by
  refine (dats m 0 c).arrAt_eq_of_covers 6 _ (by decide +kernel) fun t hf y => ?_
  blk_simp
  rw [after0_6]
  obtain ⟨z, l, hy⟩ : ∃ (z : Fin 1) (l : Fin 2048), y = ix2 z l := ⟨y 0, y 1, by blk_ext⟩
  have e1 : ((win0_6.blk t).view.emb y 1 : Fin 2048) = l := by
    rw [hy]; refine Fin.ext ?_; blk_simp [idx t]
  refine Eq.trans ?_ (congrArg (args m c).dw e1).symm
  rw [hy]
  have ht : t.val % 16 = 15 := (flush0_6 t).mp hf
  have e := Pipeline.eq_sum_fin_of_reset_step_apply_of_flush (fun n h i => (outsAt0 m c n h).2.2 i) 16
    (fun _ => (0 : EReal)) (fun t (i : S1x2048.Idx) => (args m c).dwT (ti t) (i 1))
    (fun t h0 i => by idx_vars i; exact (out6_A m c t h0 i0 i1).trans (zero_add _).symm) (fun t h0 i => by idx_vars i; exact out6_B m c t h0 i0 i1) t ht (ix2 z l)
  refine e.trans ((zero_add _).trans ?_)
  refine Finset.sum_congr rfl fun s _ => ?_
  refine congrArg (fun i => (args m c).dwT i l) (Fin.ext ?_)
  have hN : t.val < 16 := lt_of_lt_of_eq t.isLt N_0
  simp only [ti]; omega
end
end Cert.Kernel32Ideal.Value
-- ==== Proof.GroupNormRef.lean ====
module

public import proofs.«01_k».proof.Defs
public import proofs.«01_k».proof.Proof.Gen.Reference32Ideal.Read
public import proofs.«01_k».proof.Proof.GroupNormMath
public import proofs.«01_k».proof.Proof.FPre

/-! The gated norm's gradient, the reference: its values at an index, the precondition read at an entry, and the three
    results at finite arguments. -/

@[expose] public section
set_option maxRecDepth 16384
noncomputable section
open Idealize.ShloMosaic Idealize.ShloMosaic.TcCoe Idealize.SL.Sem
open Cert.Ffn (sigmoid silu cNegHalf ofBits_negHalf isReal_at)
open Cert.Steps (ofBits_one)

namespace Cert.GroupNorm
/-- The precondition's shapes broadcast. -/
theorem back_facts : Cert.Pre_finite32.Facts where
  bcast_S_S4096x2048 := by decide
  bcast_S_S2048 := by decide
end Cert.GroupNorm

namespace Cert.Reference32Ideal.Value
open Cert.Reference32Ideal Cert.Reference32Ideal.Gen Cert.Reference32Ideal.Read Cert.GroupNorm
section
variable (x0 x1 x2 : Vec Ideal S4096x2048 .f32) (x3 : Vec Ideal S2048 .f32)

/-- The arguments that the arrays hold. -/
def rargs : BackArgs where
  d r l := x0 (ix2 r l)
  y r l := x1 (ix2 r l)
  z r l := x2 (ix2 r l)
  w l := x3 (ix1 l)

/-- Under the precondition they are finite. -/
theorem args_fin [Cert.Pre_finite32.Facts] (h0 : (Cert.Pre_finite32.fn (F := Ideal) x0 x1 x2 x3).1 = fun _ => 1#1)
    (h1 : (Cert.Pre_finite32.fn (F := Ideal) x0 x1 x2 x3).2.1 = fun _ => 1#1)
    (h2 : (Cert.Pre_finite32.fn (F := Ideal) x0 x1 x2 x3).2.2.1 = fun _ => 1#1)
    (h3 : (Cert.Pre_finite32.fn (F := Ideal) x0 x1 x2 x3).2.2.2 = fun _ => 1#1) : (rargs x0 x1 x2 x3).Finite where
  d r l := isReal_at x0 _ h0 _
  y r l := isReal_at x1 _ h1 _
  z r l := isReal_at x2 _ h2 _
  w l := isReal_at x3 _ h3 _

variable (r : Fin 4096) (g : Fin 8) (j : Fin 256) (l : Fin 2048) (z : Fin 1)
/-- A row's gated columns in a group, and the gradient of their quotients. -/
abbrev xs : Fin 256 → EReal := gx (fun l => x1 (ix2 r l)) (fun l => x2 (ix2 r l)) g
abbrev ys : Fin 256 → EReal := gy (fun l => x0 (ix2 r l)) (fun l => x3 (ix1 l)) g

theorem s_at : val_main_v0_2 x2 (ix2 r l) = sigmoid (x2 (ix2 r l)) := by
  pointwise [val_main_v0_2, val_main_call0_v4, val_main_call0_v3, val_main_call0_v2, val_main_call0_v1, val_main_call0_v0,
    val_main_call0_cst, val_main_call0_cst_0]
  rfl
theorem s'_at : val_main_v0_1 x2 (ix2 r l) = sigmoid (x2 (ix2 r l)) * (1 - sigmoid (x2 (ix2 r l))) := by
  pointwise [val_main_v0_1, val_main_call0_v7, val_main_call0_v6, val_main_call0_cst_1]
  rw [s_at]
theorem silu_at : val_main_v0_0 x2 (ix2 r l) = silu (x2 (ix2 r l)) := by
  pointwise [val_main_v0_0]
  rw [s_at]; rfl
theorem v1_at : val_main_v1 x1 x2 (ix2 r l) = gate (x1 (ix2 r l)) (x2 (ix2 r l)) := by
  pointwise [val_main_v1]
  rw [silu_at]; rfl
theorem v2_at : val_main_v2 x1 x2 (ix3 r g j) = xs x1 x2 r g j := by
  refine Eq.trans ?_ (v1_at x1 x2 r (col g j))
  pointwise [val_main_v2]
  exact congrArg (fun l => val_main_v1 x1 x2 (ix2 r l)) (Fin.ext (by simp only [col]; omega))
theorem v26_at : val_main_v26 x0 x3 (ix3 r g j) = ys x0 x3 r g j := by
  have e : val_main_v24 x0 x3 (ix2 r (col g j)) = ys x0 x3 r g j := by
    pointwise [val_main_v24, val_main_v23, val_main_v17]
    rfl
  refine Eq.trans ?_ e
  pointwise [val_main_v26]
  exact congrArg (fun l => val_main_v24 x0 x3 (ix2 r l)) (Fin.ext (by simp only [col]; omega))
theorem v9_at : val_main_v9 x1 x2 (ix3 r g z) = ms (xs x1 x2 r g) := by
  pointwise [val_main_v9, val_main_v8, val_main_v7, val_main_v6, val_main_v5, val_main_v4, val_main_v3, val_main_cst, val_main_cst_0, val_main_cst_1]
  simp only [v2_at, ofBits_group, ofBits_shift]
  rfl
theorem v10_at : val_main_v10 x1 x2 (ix3 r g z) = rootInv (xs x1 x2 r g) := by
  pointwise [val_main_v10]
  rw [v9_at, rootInv_eq]
theorem v13_at : val_main_v13 x1 x2 (ix3 r g z) = cNegHalf * Ideal.div (rootInv (xs x1 x2 r g)) (ms (xs x1 x2 r g)) := by
  pointwise [val_main_v13, val_main_v12, val_main_v11, val_main_cst_2]
  rw [v9_at, v10_at, ofBits_negHalf]
theorem v34_at : val_main_v34 x0 x1 x2 x3 (ix3 r g z) = half (xs x1 x2 r g) (ys x0 x3 r g) := by
  pointwise [val_main_v34, val_main_v33, val_main_v32, val_main_v29, val_main_v28, val_main_v27, val_main_cst_5, val_main_cst_6]
  simp only [v2_at, v26_at, v13_at, ofBits_group]
  rfl
theorem v40_at : val_main_v40 x0 x1 x2 x3 (ix3 r g j) = back' (xs x1 x2 r g) (ys x0 x3 r g) j := by
  pointwise [val_main_v40, val_main_v39, val_main_v38, val_main_v37, val_main_v36, val_main_v35, val_main_v31, val_main_v30, val_main_cst_7]
  simp only [v2_at, v26_at, v10_at, v34_at, Fin.sum_univ_one]
  rfl
theorem v41_at : val_main_v41 x0 x1 x2 x3 (ix2 r l) = back' (xs x1 x2 r (group l)) (ys x0 x3 r (group l)) (place l) := by
  refine Eq.trans ?_ (v40_at x0 x1 x2 x3 r (group l) (place l))
  pointwise [val_main_v41]
  rfl
theorem v16_at : val_main_v16 x1 x2 (ix2 r l) = gate (x1 (ix2 r l)) (x2 (ix2 r l)) * rootInv (xs x1 x2 r (group l)) := by
  have e : val_main_v15 x1 x2 (ix3 r (group l) (place l)) = gate (x1 (ix2 r l)) (x2 (ix2 r l)) * rootInv (xs x1 x2 r (group l)) := by
    have h : col (group l) (place l) = l := Fin.ext (Nat.div_add_mod _ _)
    pointwise [val_main_v15, val_main_v14]
    rw [v2_at, v10_at]
    simp only [gx, h]
  refine Eq.trans ?_ e
  pointwise [val_main_v16]
  rfl
theorem v45_at : val_main_v45 x0 x1 x2 (ix2 z l) = ∑ r, gate (x1 (ix2 r l)) (x2 (ix2 r l)) * rootInv (xs x1 x2 r (group l)) * x0 (ix2 r l) := by
  pointwise [val_main_v45, val_main_v25, val_main_v22, val_main_v21, val_main_v20, val_main_cst_3, val_main_cst_4]
  simp only [Fin.sum_univ_one, v16_at]

/-- The three results. -/
theorem out43 (F : (rargs x0 x1 x2 x3).Finite) :
    val_main_v43 x0 x1 x2 x3 = fun j : S4096x2048.Idx => (rargs x0 x1 x2 x3).dY (j 0) (j 1) := by
  funext j
  obtain ⟨r, l, rfl⟩ : ∃ (r : Fin 4096) (l : Fin 2048), j = ix2 r l := ⟨j 0, j 1, eq_ix2 j⟩
  pointwise [val_main_v43]
  rw [silu_at]
  exact congrArg (· * silu (x2 (ix2 r l))) ((v41_at x0 x1 x2 x3 r l).trans (BackArgs.dG_eq F r l))
theorem out44 (F : (rargs x0 x1 x2 x3).Finite) :
    val_main_v44 x0 x1 x2 x3 = fun j : S4096x2048.Idx => (rargs x0 x1 x2 x3).dZ (j 0) (j 1) := by
  funext j
  obtain ⟨r, l, rfl⟩ : ∃ (r : Fin 4096) (l : Fin 2048), j = ix2 r l := ⟨j 0, j 1, eq_ix2 j⟩
  have e : val_main_v42 x0 x1 x2 x3 (ix2 r l) = (rargs x0 x1 x2 x3).y r l * (rargs x0 x1 x2 x3).dG r l := by
    pointwise [val_main_v42]
    exact congrArg (x1 (ix2 r l) * ·) ((v41_at x0 x1 x2 x3 r l).trans (BackArgs.dG_eq F r l))
  refine Eq.trans ?_ (BackArgs.dZ_eq F r l)
  pointwise [val_main_v44, val_main_call1_v0, val_main_call1_v1, val_main_call1_v2]
  rw [e, s_at, s'_at]
  rfl
theorem out45 : val_main_v45 x0 x1 x2 = fun j : S1x2048.Idx => (rargs x0 x1 x2 x3).dw (j 1) := by
  funext j
  obtain ⟨z, l, rfl⟩ : ∃ (z : Fin 1) (l : Fin 2048), j = ix2 z l := ⟨j 0, j 1, eq_ix2 j⟩
  refine (v45_at x0 x1 x2 l z).trans ?_
  rw [sum_rows]
  exact Finset.sum_congr rfl fun i _ => Finset.sum_congr rfl fun r _ => mul_comm _ _
end
end Cert.Reference32Ideal.Value
-- ==== Proof.GroupNormClaims.lean ====
module

public import proofs.«01_k».proof.Defs
public import proofs.«01_k».proof.Proof.Gen.Kernel32.Frame
public import proofs.«01_k».proof.Proof.Gen.Kernel32Ideal.Frame
public import proofs.«01_k».proof.Proof.Gen.Reference32Ideal.Run
public import proofs.«01_k».proof.Proof.GroupNormBwd
public import proofs.«01_k».proof.Proof.GroupNormRef
public import Idealize.ShloMosaic.Lib.Quiescent

/-! The claims about the gated norm, backward: the programs run, and the kernel's three results are the reference's at
    finite arguments. -/

@[expose] public section
set_option maxRecDepth 16384
noncomputable section
open Idealize.ShloMosaic Idealize.ShloMosaic.TcCoe Idealize.SL.Sem
open Cert.GroupNorm (back_facts)
namespace Cert.Proof.GroupNormBack

theorem frame_kernel32 : Cert.quiescent_Kernel32 (hKernel32 := Cert.Kernel32.Gen.facts) := fun m ρ _ => Cert.Kernel32.Gen.frame m ρ
theorem frame_ideal32 : Cert.quiescent_Kernel32Ideal (hKernel32Ideal := Cert.Kernel32Ideal.Gen.facts) := fun m ρ _ => Cert.Kernel32Ideal.Gen.frame m ρ
theorem frame_ideal_pre32 : Cert.quiescent_Kernel32Ideal_pre_finite32 (hKernel32Ideal := Cert.Kernel32Ideal.Gen.facts) (hPre_finite32 := back_facts) :=
  fun m ρ _ => Cert.Kernel32Ideal.Gen.frame m ρ
theorem frame_reference32 : Cert.quiescent_Reference32Ideal (hReference32Ideal := Cert.Reference32Ideal.Gen.facts) := fun m ρ _ =>
  (θ_run Cert.Reference32Ideal.defs _ _).mono (fun r h => ⟨fun c => (h c).2.2.2, sem_eq_zero_of_no_sems (by decide) r.2⟩)
    (Cert.Reference32Ideal.Value.run (F := Ideal) m ρ)
theorem frame_reference_pre32 : Cert.quiescent_Reference32Ideal_pre_finite32 (hReference32Ideal := Cert.Reference32Ideal.Gen.facts)
    (hPre_finite32 := back_facts) := fun m ρ _ => frame_reference32 m ρ trivial
theorem preserves32 : Cert.preserves_Kernel32_Kernel32Ideal := trivial
theorem algebraic32 : Cert.algebraic_Kernel32Ideal_Reference32Ideal_pre_finite32 (hKernel32Ideal := Cert.Kernel32Ideal.Gen.facts)
    (hReference32Ideal := Cert.Reference32Ideal.Gen.facts) (hPre_finite32 := back_facts) := by
  intro m ρ m' ρ' hpre hagree
  refine ⟨fun c => fun j : Cert.Kernel32Ideal.S4096x2048.Idx => (Cert.Kernel32Ideal.Value.args m c).dY (j 0) (j 1),
    fun c => fun j : Cert.Kernel32Ideal.S4096x2048.Idx => (Cert.Kernel32Ideal.Value.args m c).dZ (j 0) (j 1),
    fun c => fun j : Cert.Kernel32Ideal.S1x2048.Idx => (Cert.Kernel32Ideal.Value.args m c).dw (j 1), ?_, ?_⟩
  · refine (θ_run Cert.Kernel32Ideal.defs _ _).mono (fun r h c => ?_) (Cert.Kernel32Ideal.Value.run_blocks (F := Ideal) m ρ)
    obtain ⟨e0, e1, e2, hargs⟩ := h c
    exact ⟨e0.trans (Cert.Kernel32Ideal.Value.arr4 m c), e1.trans (Cert.Kernel32Ideal.Value.arr5 m c),
      e2.trans (Cert.Kernel32Ideal.Value.arr6 m c), hargs⟩
  · refine (θ_run Cert.Reference32Ideal.defs _ _).mono (fun r h c => ?_) (Cert.Reference32Ideal.Value.run (F := Ideal) m' ρ')
    obtain ⟨e0, e1, e2, hargs⟩ := h c
    obtain ⟨a0, a1, a2, a3⟩ := hagree c
    obtain ⟨h0, h1, h2, h3⟩ := hpre c
    have hf := @Cert.Reference32Ideal.Value.args_fin _ _ _ _ back_facts h0 h1 h2 h3
    refine ⟨e0.trans ((Cert.Reference32Ideal.Read.val_main_v43_eq m' c).trans ?_),
      e1.trans ((Cert.Reference32Ideal.Read.val_main_v44_eq m' c).trans ?_),
      e2.trans ((Cert.Reference32Ideal.Read.val_main_v45_eq _ _ _).trans ?_), hargs⟩
    · rw [a0, a1, a2, a3]
      exact Cert.Reference32Ideal.Value.out43 _ _ _ _ hf
    · rw [a0, a1, a2, a3]
      exact Cert.Reference32Ideal.Value.out44 _ _ _ _ hf
    · rw [a0, a1, a2]
      exact Cert.Reference32Ideal.Value.out45 _ _ _ (m (c.tc.loc Cert.Kernel32Ideal.main_arg3))

end Cert.Proof.GroupNormBack
-- ==== Proof.EmbSpec.lean ====
module

public import proofs.«01_k».proof.Proof.FSpec

/-! The mathematics of the per-layer embedding over the extended reals: `h ↦ h + sigmoid(norm(h)·Wg) * norm(pe)` with
    `pe = p·Wp`. The kernels go through the 4096 rows in 16 tiles of 256. -/

@[expose] public section
noncomputable section
open Idealize.ShloMosaic
namespace Cert.Emb
open Cert.Ffn (nrm sigmoid xh rs dnrm)

/-- Row `f` of tile `i` among the 4096 rows, and the tile and the place of a row. -/
def row (i : Fin 16) (f : Fin 256) : Fin 4096 := ⟨256 * i.val + f.val, by omega⟩
def tileNo (r : Fin 4096) : Fin 16 := ⟨r.val / 256, by omega⟩
def place (r : Fin 4096) : Fin 256 := ⟨r.val % 256, by omega⟩
theorem row_place (r : Fin 4096) : row (tileNo r) (place r) = r := Fin.ext (Nat.div_add_mod _ _)
theorem tileNo_row (i : Fin 16) (f : Fin 256) : tileNo (row i f) = i := Fin.ext (by simp only [tileNo, row]; omega)
theorem place_row (i : Fin 16) (f : Fin 256) : place (row i f) = f := Fin.ext (by simp only [place, row]; omega)
/-- A sum over the rows is the sum over the tiles of the sums over a tile's rows. -/
theorem sum_rows (f : Fin 4096 → EReal) : ∑ r, f r = ∑ i, ∑ a, f (row i a) := by
  rw [← Fintype.sum_prod_type' fun i a => f (row i a)]
  let e : Fin 16 × Fin 256 ≃ Fin 4096 :=
    { toFun := fun x => row x.1 x.2
      invFun := fun r => (tileNo r, place r)
      left_inv := fun x => Prod.ext (tileNo_row x.1 x.2) (place_row x.1 x.2)
      right_inv := fun r => row_place r }
  exact (Equiv.sum_comp e f).symm

/-- The arguments: the residual stream, the embedding's rows and its weights, the weights of the two norms, and the gate's. -/
structure Args where
  h : Fin 4096 → Fin 1024 → EReal
  p : Fin 4096 → Fin 256 → EReal
  wp : Fin 256 → Fin 1024 → EReal
  pn : Fin 1024 → EReal
  gn : Fin 1024 → EReal
  wg : Fin 1024 → Fin 1024 → EReal

namespace Args
variable (A : Args)
/-- The embedding, the gate's argument, the gate, and the result. -/
def pe (r : Fin 4096) (d : Fin 1024) : EReal := ∑ k, A.p r k * A.wp k d
def z (r : Fin 4096) (d : Fin 1024) : EReal := ∑ k, nrm (A.h r) A.gn k * A.wg k d
def gate (r : Fin 4096) (d : Fin 1024) : EReal := sigmoid (A.z r d)
def out (r : Fin 4096) (d : Fin 1024) : EReal := A.h r d + A.gate r d * nrm (A.pe r) A.pn d
end Args
end Cert.Emb
-- ==== Proof.EmbBack.lean ====
module

public import proofs.«01_k».proof.Proof.EmbSpec
public import proofs.«01_k».proof.Proof.FEqual

/-! The mathematics of the per-layer embedding's gradient: what the kernel computes, what the reference computes, and that
    they agree at finite arguments. -/

@[expose] public section
noncomputable section
open Idealize.ShloMosaic
namespace Cert.Emb
open Cert.Gmlp (IsReal)
open Cert.Ffn (nrm sigmoid xh rs dnrm rx norm_eq xh_coe finite_sigmoid one_sub)

namespace Args
variable (A : Args) (dh : Fin 4096 → Fin 1024 → EReal)
/-- The gradient of the gate's argument, of the normalised row, of the residual stream and of the embedding. -/
def dz (r : Fin 4096) (d : Fin 1024) : EReal := dh r d * nrm (A.pe r) A.pn d * A.gate r d * (1 - A.gate r d)
def dq (r : Fin 4096) (d : Fin 1024) : EReal := ∑ k, A.dz dh r k * A.wg d k
def dX (r : Fin 4096) (d : Fin 1024) : EReal := dh r d + dnrm (A.h r) A.gn (A.dq dh r) d
def dE (r : Fin 4096) (d : Fin 1024) : EReal := dnrm (A.pe r) A.pn (fun k => dh r k * A.gate r k) d
/-- What a tile adds to the gradients of the two norms' weights, and these gradients. -/
def dpnT (i : Fin 16) (d : Fin 1024) : EReal := ∑ a, dh (row i a) d * A.gate (row i a) d * xh (A.pe (row i a)) d
def dgnT (i : Fin 16) (d : Fin 1024) : EReal := ∑ a, A.dq dh (row i a) d * xh (A.h (row i a)) d
def dpn (d : Fin 1024) : EReal := ∑ i, A.dpnT dh i d
def dgn (d : Fin 1024) : EReal := ∑ i, A.dgnT dh i d
/-- The reference's gradients of the gate's argument and of the normalised row. -/
def rz (r : Fin 4096) (d : Fin 1024) : EReal := dh r d * nrm (A.pe r) A.pn d * (A.gate r d * (1 - A.gate r d))
def rdq (r : Fin 4096) (d : Fin 1024) : EReal := ∑ k, A.rz dh r k * A.wg d k

theorem rz_eq (r : Fin 4096) (d : Fin 1024) : A.rz dh r d = A.dz dh r d := (mul_assoc _ _ _).symm
theorem rdq_eq (r : Fin 4096) (d : Fin 1024) : A.rdq dh r d = A.dq dh r d := by
  unfold rdq dq
  simp only [rz_eq]
theorem dpn_eq (d : Fin 1024) : ∑ r, xh (A.pe r) d * (A.gate r d * dh r d) = A.dpn dh d := by
  rw [sum_rows]
  exact Finset.sum_congr rfl fun i _ => Finset.sum_congr rfl fun a _ => by rw [mul_comm, mul_comm (A.gate _ d)]
theorem dgn_eq (d : Fin 1024) : ∑ r, xh (A.h r) d * A.rdq dh r d = A.dgn dh d := by
  rw [sum_rows]
  exact Finset.sum_congr rfl fun i _ => Finset.sum_congr rfl fun a _ => by rw [rdq_eq, mul_comm]

/-- The arguments are finite. -/
structure Finite (A : Args) (dh : Fin 4096 → Fin 1024 → EReal) : Prop where
  dh : ∀ r d, IsReal (dh r d)
  h : ∀ r d, IsReal (A.h r d)
  p : ∀ r k, IsReal (A.p r k)
  wp : ∀ k d, IsReal (A.wp k d)
  pn : ∀ d, IsReal (A.pn d)
  gn : ∀ d, IsReal (A.gn d)
  wg : ∀ k d, IsReal (A.wg k d)

section
/-- The norm of finite rows is finite. -/
theorem real_nrm {x w : Fin 1024 → EReal} (hx : ∀ j, IsReal (x j)) (hw : ∀ j, IsReal (w j)) (d : Fin 1024) : IsReal (nrm x w d) := by
  choose v hv using hx
  obtain rfl : x = fun j => (v j : EReal) := funext hv
  exact IsReal.mul ⟨_, xh_coe v d⟩ (hw d)

variable {A dh} (F : A.Finite dh)
include F
theorem Finite.pe (r : Fin 4096) (d : Fin 1024) : IsReal (A.pe r d) := IsReal.sum _ _ fun k => (F.p r k).mul (F.wp k d)
theorem Finite.gate (r : Fin 4096) (d : Fin 1024) : IsReal (A.gate r d) :=
  finite_sigmoid (IsReal.sum _ _ fun k => (real_nrm (F.h r) F.gn k).mul (F.wg k d))
theorem Finite.dz (r : Fin 4096) (d : Fin 1024) : IsReal (A.dz dh r d) :=
  (((F.dh r d).mul (real_nrm (F.pe r) F.pn d)).mul (F.gate r d)).mul (one_sub (F.gate r d))
theorem Finite.dq (r : Fin 4096) (d : Fin 1024) : IsReal (A.dq dh r d) := IsReal.sum _ _ fun k => (F.dz r k).mul (F.wg d k)

theorem dX_eq (r : Fin 4096) (d : Fin 1024) : dh r d + rx (A.h r) (fun k => A.rdq dh r k * A.gn k) d = A.dX dh r d := by
  choose v hv using F.h r
  choose y hy using fun k => (F.dq r k).mul (F.gn k)
  rw [show A.rdq dh r = A.dq dh r from funext (A.rdq_eq dh r), norm_eq hv hy]; rfl
theorem dE_eq (r : Fin 4096) (d : Fin 1024) : rx (A.pe r) (fun k => A.gate r k * dh r k * A.pn k) d = A.dE dh r d := by
  choose v hv using F.pe r
  choose y hy using fun k => ((F.dh r k).mul (F.gate r k)).mul (F.pn k)
  rw [show (fun k => A.gate r k * dh r k * A.pn k) = fun k => dh r k * A.gate r k * A.pn k from funext fun k => by rw [mul_comm (A.gate r k)],
    norm_eq hv hy]; rfl
end
end Args
end Cert.Emb
-- ==== Proof.EmbBwd.lean ====
module

public import proofs.«01_k».proof.Proof.EmbBack
public import proofs.«01_k».proof.Proof.Gen.Kernel11Ideal.Frame
public import proofs.«01_k».proof.Proof.Gen.Kernel11Ideal.Value
public import Idealize.ShloMosaic.Lib.Pipeline.ValueKit
public import Idealize.ShloMosaic.Lib.Pipeline.ReadBack
public import Idealize.ShloMosaic.Lib.Pointwise
public import Idealize.ShloMosaic.Lib.StableHlo.ReadAt

/-! The per-layer embedding's backward kernel: each grid point takes 256 rows, computes the gradients of these rows, and
    adds their part of the gradients of the two norms' weights. -/

@[expose] public section
set_option maxRecDepth 16384
noncomputable section
open Idealize.ShloMosaic Idealize.ShloMosaic.TcCoe Idealize.SL.Sem
open Idealize.ShloMosaic.Pipeline (Dat)
namespace Cert.Kernel11Ideal.Value
open Cert.Kernel11Ideal Cert.Kernel11Ideal.Gen Cert.Emb
open Cert.Ffn (nrm sigmoid xh rs dnrm mean ofBits_n ofBits_eps)
section
variable (D H Y E G : Vec Ideal S256x1024 .f32) (P T : Vec Ideal S256x1024 .bf16) (n n' : Vec Ideal S1x1024 .f32)
  (W : Vec Ideal S1024x1024 .bf16) (f : Fin 256) (d : Fin 1024) (z : Fin 1)

/-- The body's values read at an index: the inputs as they are, -/
theorem pay6_at : k0_pay6 n (ix2 z d) = n (ix2 z d) := by
  pointwise [k0_pay6]
theorem pay7_at : k0_pay7 n (ix2 z d) = n (ix2 z d) := by
  pointwise [k0_pay7]
theorem pay8_at : k0_pay8 P (ix2 f d) = P (ix2 f d) := by
  pointwise [k0_pay8]
theorem pay9_at : k0_pay9 P (ix2 f d) = P (ix2 f d) := by
  pointwise [k0_pay9]
theorem pay1_at : k0_pay1 (F := Ideal) Y (ix2 f d) = (Y (ix2 f d) : EReal) := by
  pointwise [k0_pay1]
theorem pay2_at : k0_pay2 (F := Ideal) Y (ix2 f d) = (Y (ix2 f d) : EReal) := by
  pointwise [k0_pay2]
/-- the gradient of the gate's argument and of the normalised row, -/
theorem pay10_at : k0_pay10 D P T n (ix2 f d)
    = D (ix2 f d) * nrm (fun k => P (ix2 f k)) (fun k => n (ix2 0 k)) d * T (ix2 f d) * (1 - T (ix2 f d)) := by
  pointwise [k0_pay10]
  simp only [ofBits_n, ofBits_eps, pay6_at, pay8_at, pay9_at]; rfl
theorem pay11_at : k0_pay11 D P T n W (ix2 f d) = ∑ k, k0_pay10 D P T n (ix2 f k) * W (ix2 d k) := by
  pointwise [k0_pay11]
/-- the norm of the residual stream's rows, -/
theorem pay13_at : k0_pay13 (k0_pay12 H) (ix2 f z) = rs fun k => H (ix2 f k) := by
  pointwise [k0_pay13, k0_pay12]
  simp only [ofBits_n, ofBits_eps]; rfl
theorem pay14_at : k0_pay14 H (k0_pay12 H) (ix2 f d) = xh (fun k => H (ix2 f k)) d := by
  pointwise [k0_pay14]
  rw [pay13_at]; rfl
theorem pay15_at : k0_pay15 H Y (k0_pay12 H) (ix2 z d) = ∑ f, Y (ix2 f d) * xh (fun k => H (ix2 f k)) d := by
  pointwise [k0_pay15]
  simp only [pay14_at]
theorem pay21_at : k0_pay21 D H n Y (k0_pay12 H) (ix2 f d)
    = D (ix2 f d) + dnrm (fun k => H (ix2 f k)) (fun k => n (ix2 0 k)) (fun k => Y (ix2 f k)) d := by
  pointwise [k0_pay21]
  simp only [pay13_at, pay14_at, ofBits_n]; rfl
theorem pay3_at : k0_pay3 H n (k0_pay22 H) (ix2 f d) = nrm (fun k => H (ix2 f k)) (fun k => n (ix2 0 k)) d := by
  pointwise [k0_pay3, k0_pay22]
  simp only [ofBits_n, ofBits_eps]; rfl
/-- and that of the embedding's. -/
theorem pay17_at : k0_pay17 (F := Ideal) E (ix2 f z) = rs fun k => E (ix2 f k) := by
  pointwise [k0_pay17]
  simp only [ofBits_n, ofBits_eps]; rfl
theorem pay18_at : k0_pay18 (F := Ideal) E (ix2 f d) = xh (fun k => E (ix2 f k)) d := by
  pointwise [k0_pay18]
  rw [pay17_at]; rfl
theorem pay19_at : k0_pay19 D n E G (ix2 f d)
    = dnrm (fun k => E (ix2 f k)) (fun k => n (ix2 0 k)) (fun k => D (ix2 f k) * G (ix2 f k)) d := by
  pointwise [k0_pay19, k0_pay16]
  simp only [pay17_at, pay18_at, ofBits_n]; rfl
theorem pay20_at : k0_pay20 D E G (ix2 z d) = ∑ f, D (ix2 f d) * G (ix2 f d) * xh (fun k => E (ix2 f k)) d := by
  pointwise [k0_pay20, k0_pay16]
  simp only [pay18_at]
theorem pay4_at : k0_pay4 n n' (ix2 z d) = n' (ix2 z d) + n (ix2 z d) := by
  pointwise [k0_pay4]
theorem pay5_at : k0_pay5 n n' (ix2 z d) = n' (ix2 z d) + n (ix2 z d) := by
  pointwise [k0_pay5]
end
section
variable (m : (ℓ : Loc nD τ sig) → Buf (Elt Ideal) ℓ) (c : Dev nD)

/-- The arguments that a memory holds, and the incoming gradient. -/
def args : Args where
  h r d := m ((c : Thread nD τ).loc main_arg1) (ix2 r d)
  p r k := m ((c : Thread nD τ).loc main_arg2) (ix2 r k)
  wp k d := m ((c : Thread nD τ).loc main_arg3) (ix2 k d)
  pn d := m ((c : Thread nD τ).loc main_arg4) (ix1 d)
  gn d := m ((c : Thread nD τ).loc main_arg5) (ix1 d)
  wg k d := m ((c : Thread nD τ).loc main_arg6) (ix2 k d)
def dh (r : Fin 4096) (d : Fin 1024) : EReal := m ((c : Thread nD τ).loc main_arg0) (ix2 r d)

/-- What the host code prepares for the kernel. -/
theorem V_dh (r : Fin 4096) (d : Fin 1024) : V m c main_arg0 (ix2 r d) = dh m c r d := by
  rw [V_main_arg0]; rfl
theorem V_h (r : Fin 4096) (d : Fin 1024) : V m c main_arg1 (ix2 r d) = (args m c).h r d := by
  rw [V_main_arg1]; rfl
theorem V_pe (r : Fin 4096) (d : Fin 1024) : V m c main_v21 (ix2 r d) = (args m c).pe r d := by
  unfold V
  after_reads_at
  rfl
theorem V_gate (r : Fin 4096) (d : Fin 1024) : V m c main_v22 (ix2 r d) = (args m c).gate r d := by
  unfold V
  after_reads_at
  simp only [ofBits_n, ofBits_eps]
  rfl
theorem V_wg (k d : Fin 1024) : V m c main_v23 (ix2 k d) = (args m c).wg k d := by
  unfold V
  after_reads_at
  rfl
theorem V_pn (z : Fin 1) (d : Fin 1024) : V m c main_v24 (ix2 z d) = (args m c).pn d := by
  unfold V
  after_reads_at
  rfl
theorem V_gn (z : Fin 1) (d : Fin 1024) : V m c main_v25 (ix2 z d) = (args m c).gn d := by
  unfold V
  after_reads_at
  rfl

variable (t : Fin cfg0.N)
abbrev bD : Vec Ideal S256x1024 .f32 := iblk m c 0 t
abbrev bH : Vec Ideal S256x1024 .f32 := iblk m c 1 t
abbrev bP : Vec Ideal S256x1024 .bf16 := iblk m c 2 t
abbrev bT : Vec Ideal S256x1024 .bf16 := iblk m c 3 t
abbrev bPn : Vec Ideal S1x1024 .f32 := iblk m c 4 t
abbrev bGn : Vec Ideal S1x1024 .f32 := iblk m c 5 t
abbrev bW : Vec Ideal S1024x1024 .bf16 := iblk m c 6 t
/-- The tile of a grid point. -/
def ti : Fin 16 := ⟨t.val, by have := t.isLt; have : cfg0.N = 16 := N_0; omega⟩
/-- What the point before left. -/
abbrev before := outsAt0 m c (t.val - 1) (Nat.lt_of_le_of_lt (Nat.sub_le _ _) t.isLt)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![0, 0] ∧ win0_12.index t = ![0, 0] :=
  (by decide +kernel : ∀ t : Fin grid0.N, _)

theorem bD_at (f : Fin 256) (d : Fin 1024) : bD m c t (ix2 f d) = dh m c (row (ti t) f) d := by
  refine Eq.trans ?_ (V_dh m c (row (ti t) f) d)
  unfold row ti
  blk_point [iblk, idx t]
theorem bH_at (f : Fin 256) (d : Fin 1024) : bH m c t (ix2 f d) = (args m c).h (row (ti t) f) d := by
  refine Eq.trans ?_ (V_h m c (row (ti t) f) d)
  unfold row ti
  blk_point [iblk, idx t]
theorem bP_at (f : Fin 256) (d : Fin 1024) : bP m c t (ix2 f d) = (args m c).pe (row (ti t) f) d := by
  refine Eq.trans ?_ (V_pe m c (row (ti t) f) d)
  unfold row ti
  blk_point [iblk, idx t]
theorem bT_at (f : Fin 256) (d : Fin 1024) : bT m c t (ix2 f d) = (args m c).gate (row (ti t) f) d := by
  refine Eq.trans ?_ (V_gate m c (row (ti t) f) d)
  unfold row ti
  blk_point [iblk, idx t]
theorem bPn_at (z : Fin 1) (d : Fin 1024) : bPn m c t (ix2 z d) = (args m c).pn d := by
  refine Eq.trans ?_ (V_pn m c z d)
  blk_point [iblk, idx t]
theorem bGn_at (z : Fin 1) (d : Fin 1024) : bGn m c t (ix2 z d) = (args m c).gn d := by
  refine Eq.trans ?_ (V_gn m c z d)
  blk_point [iblk, idx t]
theorem bW_at (k d : Fin 1024) : bW m c t (ix2 k d) = (args m c).wg k d := by
  refine Eq.trans ?_ (V_wg m c k d)
  blk_point [iblk, idx t]

/-- The gradients that a point computes from its blocks. -/
theorem dz_at (f : Fin 256) (d : Fin 1024) : k0_pay10 (bD m c t) (bP m c t) (bT m c t) (bPn m c t) (ix2 f d)
    = (args m c).dz (dh m c) (row (ti t) f) d := by
  rw [pay10_at]
  simp only [bD_at, bP_at, bT_at, bPn_at]; rfl
theorem dq_at (f : Fin 256) (d : Fin 1024) : k0_pay11 (bD m c t) (bP m c t) (bT m c t) (bPn m c t) (bW m c t) (ix2 f d)
    = (args m c).dq (dh m c) (row (ti t) f) d := by
  rw [pay11_at]
  simp only [dz_at, bW_at]; rfl
theorem dgnT_at (z : Fin 1) (d : Fin 1024) :
    k0_pay15 (bH m c t) (k0_pay11 (bD m c t) (bP m c t) (bT m c t) (bPn m c t) (bW m c t)) (k0_pay12 (bH m c t)) (ix2 z d)
    = (args m c).dgnT (dh m c) (ti t) d := by
  rw [pay15_at]
  simp only [dq_at, bH_at]; rfl
theorem dpnT_at (z : Fin 1) (d : Fin 1024) : k0_pay20 (bD m c t) (k0_pay8 (bP m c t)) (k0_pay9 (bT m c t)) (ix2 z d)
    = (args m c).dpnT (dh m c) (ti t) d := by
  rw [pay20_at]
  simp only [pay8_at, pay9_at, bD_at, bP_at, bT_at]; rfl

/-- The first point, or a later one. -/
theorem cases : (t.val % 16 = 0 ∧ ¬1 ≤ t.val) ∨ (¬t.val % 16 = 0 ∧ 1 ≤ t.val) := by
  have := t.isLt; have : cfg0.N = 16 := N_0; omega

/-- What a point leaves in each row result's block. -/
theorem out7_at (f : Fin 256) (d : Fin 1024) : (outsAt0 m c t.val t.isLt).1 (ix2 f d) = (args m c).dX (dh m c) (row (ti t) f) d := by
  rcases cases t with ⟨ca, cb⟩ | ⟨ca, cb⟩
  on_goal 1 => rw [outsAt0_A m c t ca cb]
  on_goal 2 => rw [outsAt0_B m c t ca cb]
  all_goals
    frame_open
    frame_out
    refine (pay21_at (bD m c t) (bH m c t) (k0_pay11 (bD m c t) (bP m c t) (bT m c t) (bPn m c t) (bW m c t)) (k0_pay7 (bGn m c t)) f d).trans ?_
    simp only [dq_at, bD_at, bH_at, pay7_at, bGn_at]
    rfl
theorem out8_at (f : Fin 256) (d : Fin 1024) : (outsAt0 m c t.val t.isLt).2.1 (ix2 f d) = (args m c).dz (dh m c) (row (ti t) f) d := by
  rcases cases t with ⟨ca, cb⟩ | ⟨ca, cb⟩
  on_goal 1 => rw [outsAt0_A m c t ca cb]
  on_goal 2 => rw [outsAt0_B m c t ca cb]
  all_goals
    frame_open
    frame_out
    exact (pay1_at (k0_pay10 (bD m c t) (bP m c t) (bT m c t) (bPn m c t)) f d).trans (dz_at m c t f d)
theorem out9_at (f : Fin 256) (d : Fin 1024) : (outsAt0 m c t.val t.isLt).2.2.1 (ix2 f d) = (args m c).dE (dh m c) (row (ti t) f) d := by
  rcases cases t with ⟨ca, cb⟩ | ⟨ca, cb⟩
  on_goal 1 => rw [outsAt0_A m c t ca cb]
  on_goal 2 => rw [outsAt0_B m c t ca cb]
  all_goals
    frame_open
    frame_out
    refine (pay2_at (k0_pay19 (bD m c t) (k0_pay6 (bPn m c t)) (k0_pay8 (bP m c t)) (k0_pay9 (bT m c t))) f d).trans ?_
    rw [pay19_at]
    simp only [pay6_at, pay8_at, pay9_at, bD_at, bP_at, bT_at, bPn_at]
    rfl
theorem out10_at (f : Fin 256) (d : Fin 1024) : (outsAt0 m c t.val t.isLt).2.2.2.1 (ix2 f d)
    = nrm ((args m c).h (row (ti t) f)) (args m c).gn d := by
  rcases cases t with ⟨ca, cb⟩ | ⟨ca, cb⟩
  on_goal 1 => rw [outsAt0_A m c t ca cb]
  on_goal 2 => rw [outsAt0_B m c t ca cb]
  all_goals
    frame_open
    frame_out
    refine (pay3_at (bH m c t) (k0_pay7 (bGn m c t)) f d).trans ?_
    simp only [bH_at, pay7_at, bGn_at]

/-- What a point leaves in the two norms' weights' gradients: the first point its tile's part, a later one the sum. -/
theorem out11_A (ca : t.val % 16 = 0) (z : Fin 1) (d : Fin 1024) :
    (outsAt0 m c t.val t.isLt).2.2.2.2.1 (ix2 z d) = (args m c).dpnT (dh m c) (ti t) d := by
  rw [outsAt0_A m c t ca (by have := cases t; omega)]
  frame_open
  frame_out
  exact dpnT_at m c t z d
theorem out12_A (ca : t.val % 16 = 0) (z : Fin 1) (d : Fin 1024) :
    (outsAt0 m c t.val t.isLt).2.2.2.2.2 (ix2 z d) = (args m c).dgnT (dh m c) (ti t) d := by
  rw [outsAt0_A m c t ca (by have := cases t; omega)]
  frame_open
  frame_out
  exact dgnT_at m c t z d
theorem out11_B (ca : ¬t.val % 16 = 0) (z : Fin 1) (d : Fin 1024) :
    (outsAt0 m c t.val t.isLt).2.2.2.2.1 (ix2 z d) = (before m c t).2.2.2.2.1 (ix2 z d) + (args m c).dpnT (dh m c) (ti t) d := by
  dsimp only [before]
  rw [outsAt0_B m c t ca (by have := cases t; omega)]
  frame_open
  frame_out
  refine (pay4_at (k0_pay20 (bD m c t) (k0_pay8 (bP m c t)) (k0_pay9 (bT m c t))) _ d z).trans ?_
  rw [dpnT_at]
theorem out12_B (ca : ¬t.val % 16 = 0) (z : Fin 1) (d : Fin 1024) :
    (outsAt0 m c t.val t.isLt).2.2.2.2.2 (ix2 z d) = (before m c t).2.2.2.2.2 (ix2 z d) + (args m c).dgnT (dh m c) (ti t) d := by
  dsimp only [before]
  rw [outsAt0_B m c t ca (by have := cases t; omega)]
  frame_open
  frame_out
  refine (pay5_at (k0_pay15 (bH m c t) (k0_pay11 (bD m c t) (bP m c t) (bT m c t) (bPn m c t) (bW m c t)) (k0_pay12 (bH m c t))) _ d z).trans ?_
  rw [dgnT_at]
end
end Cert.Kernel11Ideal.Value
-- ==== Proof.EmbArr.lean ====
module

public import proofs.«01_k».proof.Proof.EmbBwd

/-! What the six result arrays of the per-layer embedding's backward kernel hold after the run. -/

@[expose] public section
set_option maxRecDepth 16384
noncomputable section
open Idealize.ShloMosaic Idealize.ShloMosaic.TcCoe Idealize.SL.Sem
namespace Cert.Kernel11Ideal.Value
open Cert.Kernel11Ideal Cert.Kernel11Ideal.Gen Cert.Emb
open Cert.Ffn (nrm)
section
variable (m : (ℓ : Loc nD τ sig) → Buf (Elt Ideal) ℓ) (c : Dev nD)

/-- The gradient of the layer's input. -/
theorem arr7 : (dats m 0 c).arrAt 7 cfg0.N = fun j : S4096x1024.Idx => (args m c).dX (dh m c) (j 0) (j 1) := by
  refine (dats m 0 c).arrAt_eq_of_covers 7 _ (by decide +kernel) fun t hf y => ?_
  blk_simp
  rw [after0_7]
  obtain ⟨r, d, hy⟩ : ∃ (r : Fin 256) (d : Fin 1024), y = ix2 r d := ⟨y 0, y 1, by blk_ext⟩
  have e0 : ((win0_7.blk t).view.emb y 0 : Fin 4096) = row (ti t) r := by
    rw [hy]; refine Fin.ext ?_; blk_simp [idx t]; simp only [row, ti]; omega
  have e1 : ((win0_7.blk t).view.emb y 1 : Fin 1024) = d := by
    rw [hy]; refine Fin.ext ?_; blk_simp [idx t]
  refine Eq.trans ?_ (congrArg₂ ((args m c).dX (dh m c)) e0 e1).symm
  rw [hy]
  exact out7_at m c t r d

/-- The gradient of the gate's argument. -/
theorem arr8 : (dats m 0 c).arrAt 8 cfg0.N = fun j : S4096x1024.Idx => (args m c).dz (dh m c) (j 0) (j 1) := by
  refine (dats m 0 c).arrAt_eq_of_covers 8 _ (by decide +kernel) fun t hf y => ?_
  blk_simp
  rw [after0_8]
  obtain ⟨r, d, hy⟩ : ∃ (r : Fin 256) (d : Fin 1024), y = ix2 r d := ⟨y 0, y 1, by blk_ext⟩
  have e0 : ((win0_8.blk t).view.emb y 0 : Fin 4096) = row (ti t) r := by
    rw [hy]; refine Fin.ext ?_; blk_simp [idx t]; simp only [row, ti]; omega
  have e1 : ((win0_8.blk t).view.emb y 1 : Fin 1024) = d := by
    rw [hy]; refine Fin.ext ?_; blk_simp [idx t]
  refine Eq.trans ?_ (congrArg₂ ((args m c).dz (dh m c)) e0 e1).symm
  rw [hy]
  exact out8_at m c t r d

/-- The gradient of the embedding's product. -/
theorem arr9 : (dats m 0 c).arrAt 9 cfg0.N = fun j : S4096x1024.Idx => (args m c).dE (dh m c) (j 0) (j 1) := by
  refine (dats m 0 c).arrAt_eq_of_covers 9 _ (by decide +kernel) fun t hf y => ?_
  blk_simp
  rw [after0_9]
  obtain ⟨r, d, hy⟩ : ∃ (r : Fin 256) (d : Fin 1024), y = ix2 r d := ⟨y 0, y 1, by blk_ext⟩
  have e0 : ((win0_9.blk t).view.emb y 0 : Fin 4096) = row (ti t) r := by
    rw [hy]; refine Fin.ext ?_; blk_simp [idx t]; simp only [row, ti]; omega
  have e1 : ((win0_9.blk t).view.emb y 1 : Fin 1024) = d := by
    rw [hy]; refine Fin.ext ?_; blk_simp [idx t]
  refine Eq.trans ?_ (congrArg₂ ((args m c).dE (dh m c)) e0 e1).symm
  rw [hy]
  exact out9_at m c t r d

/-- The norm of a row. -/
def Q (r : Fin 4096) (d : Fin 1024) : EReal := nrm ((args m c).h r) (args m c).gn d

/-- The normalised rows. -/
theorem arr10 : (dats m 0 c).arrAt 10 cfg0.N = fun j : S4096x1024.Idx => Q m c (j 0) (j 1) := by
  refine (dats m 0 c).arrAt_eq_of_covers 10 _ (by decide +kernel) fun t hf y => ?_
  blk_simp
  rw [after0_10]
  obtain ⟨r, d, hy⟩ : ∃ (r : Fin 256) (d : Fin 1024), y = ix2 r d := ⟨y 0, y 1, by blk_ext⟩
  have e0 : ((win0_10.blk t).view.emb y 0 : Fin 4096) = row (ti t) r := by
    rw [hy]; refine Fin.ext ?_; blk_simp [idx t]; simp only [row, ti]; omega
  have e1 : ((win0_10.blk t).view.emb y 1 : Fin 1024) = d := by
    rw [hy]; refine Fin.ext ?_; blk_simp [idx t]
  refine Eq.trans ?_ (congrArg₂ (Q m c) e0 e1).symm
  rw [hy]
  exact out10_at m c t r d

/-- The gradient of the embedding's norm's weight. -/
theorem arr11 : (dats m 0 c).arrAt 11 cfg0.N = fun j : S1x1024.Idx => (args m c).dpn (dh m c) (j 1) := by
  refine (dats m 0 c).arrAt_eq_of_covers 11 _ (by decide +kernel) fun t hf y => ?_
  blk_simp
  rw [after0_11]
  obtain ⟨z, d, hy⟩ : ∃ (z : Fin 1) (d : Fin 1024), y = ix2 z d := ⟨y 0, y 1, by blk_ext⟩
  have e1 : ((win0_11.blk t).view.emb y 1 : Fin 1024) = d := by
    rw [hy]; refine Fin.ext ?_; blk_simp [idx t]
  refine Eq.trans ?_ (congrArg ((args m c).dpn (dh m c)) e1).symm
  rw [hy]
  have ht : t.val % 16 = 15 := (flush0_11 t).mp hf
  have e := Pipeline.eq_sum_fin_of_reset_step_apply_of_flush (fun n h i => (outsAt0 m c n h).2.2.2.2.1 i) 16
    (fun _ => (0 : EReal)) (fun t (i : S1x1024.Idx) => (args m c).dpnT (dh m c) (ti t) (i 1))
    (fun t h0 i => by idx_vars i; exact (out11_A m c t h0 i0 i1).trans (zero_add _).symm) (fun t h0 i => by idx_vars i; exact out11_B m c t h0 i0 i1) t ht (ix2 z d)
  refine e.trans ((zero_add _).trans ?_)
  refine Finset.sum_congr rfl fun s _ => ?_
  refine congrArg (fun i => (args m c).dpnT (dh m c) i d) (Fin.ext ?_)
  have hN : t.val < 16 := lt_of_lt_of_eq t.isLt N_0
  simp only [ti]; omega

/-- The gradient of the gate's norm's weight. -/
theorem arr12 : (dats m 0 c).arrAt 12 cfg0.N = fun j : S1x1024.Idx => (args m c).dgn (dh m c) (j 1) := by
  refine (dats m 0 c).arrAt_eq_of_covers 12 _ (by decide +kernel) fun t hf y => ?_
  blk_simp
  rw [after0_12]
  obtain ⟨z, d, hy⟩ : ∃ (z : Fin 1) (d : Fin 1024), y = ix2 z d := ⟨y 0, y 1, by blk_ext⟩
  have e1 : ((win0_12.blk t).view.emb y 1 : Fin 1024) = d := by
    rw [hy]; refine Fin.ext ?_; blk_simp [idx t]
  refine Eq.trans ?_ (congrArg ((args m c).dgn (dh m c)) e1).symm
  rw [hy]
  have ht : t.val % 16 = 15 := (flush0_12 t).mp hf
  have e := Pipeline.eq_sum_fin_of_reset_step_apply_of_flush (fun n h i => (outsAt0 m c n h).2.2.2.2.2 i) 16
    (fun _ => (0 : EReal)) (fun t (i : S1x1024.Idx) => (args m c).dgnT (dh m c) (ti t) (i 1))
    (fun t h0 i => by idx_vars i; exact (out12_A m c t h0 i0 i1).trans (zero_add _).symm) (fun t h0 i => by idx_vars i; exact out12_B m c t h0 i0 i1) t ht (ix2 z d)
  refine e.trans ((zero_add _).trans ?_)
  refine Finset.sum_congr rfl fun s _ => ?_
  refine congrArg (fun i => (args m c).dgnT (dh m c) i d) (Fin.ext ?_)
  have hN : t.val < 16 := lt_of_lt_of_eq t.isLt N_0
  simp only [ti]; omega

end
end Cert.Kernel11Ideal.Value
-- ==== Proof.EmbRef.lean ====
module

public import proofs.«01_k».proof.Proof.EmbBack
public import proofs.«01_k».proof.Proof.Gen.Reference11Ideal.Read
public import Idealize.ShloMosaic.Lib.Pipeline.ValueKit
public import Idealize.ShloMosaic.Lib.Pointwise

/-! The gradient of the per-layer embedding as the reference computes it, over the arguments. -/

@[expose] public section
set_option maxRecDepth 16384
noncomputable section
open Idealize.ShloMosaic Idealize.ShloMosaic.TcCoe Idealize.SL.Sem
namespace Cert.Reference11Ideal.Value
open Cert.Reference11Ideal Cert.Reference11Ideal.Gen Cert.Reference11Ideal.Read Cert.Emb
open Cert.Ffn (nrm sigmoid xh rs rx rq var cNegHalf ofBits_n ofBits_eps ofBits_negHalf)
section
variable (x0 x1 : Vec Ideal S4096x1024 .f32) (x2 : Vec Ideal S4096x256 .f32) (x3 : Vec Ideal S256x1024 .f32) (x4 x5 : Vec Ideal S1024 .f32)
  (x6 : Vec Ideal S1024x1024 .f32)

/-- The arguments that the arrays hold, and the incoming gradient. -/
def rargs : Args where
  h r d := x1 (ix2 r d)
  p r k := x2 (ix2 r k)
  wp k d := x3 (ix2 k d)
  pn d := x4 (ix1 d)
  gn d := x5 (ix1 d)
  wg k d := x6 (ix2 k d)
def gdh (r : Fin 4096) (d : Fin 1024) : EReal := x0 (ix2 r d)
/-- A row of the residual stream, and one of the embedding's product. -/
abbrev hr (r : Fin 4096) (d : Fin 1024) : EReal := x1 (ix2 r d)
abbrev er (r : Fin 4096) (d : Fin 1024) : EReal := ∑ k, x2 (ix2 r k) * x3 (ix2 k d)

/-- The two norms and the gate. -/
theorem v6_at (r : Fin 4096) (z : Fin 1) : val_main_v6 x1 (ix2 r z) = var (hr x1 r) := by
  pointwise [val_main_v6, val_main_v5, val_main_v4, val_main_v3, val_main_v2, val_main_v1, val_main_v0, val_main_cst, val_main_cst_0, val_main_cst_1]
  simp only [ofBits_n, ofBits_eps]
  first | rfl | (simp only [zero_add]; rfl)
theorem v7_at (r : Fin 4096) (z : Fin 1) : val_main_v7 x1 (ix2 r z) = rs (hr x1 r) := by
  pointwise [val_main_v7]
  rw [v6_at]; rfl
theorem v10_at (r : Fin 4096) (z : Fin 1) : val_main_v10 x1 (ix2 r z) = cNegHalf * Ideal.div (rs (hr x1 r)) (var (hr x1 r)) := by
  pointwise [val_main_v10, val_main_v9, val_main_v8, val_main_cst_2]
  rw [v6_at, v7_at, ofBits_negHalf]
theorem v12_at (r : Fin 4096) (d : Fin 1024) : val_main_v12 x1 (ix2 r d) = xh (hr x1 r) d := by
  pointwise [val_main_v12, val_main_v11]
  rw [v7_at]; rfl
theorem v15_at (r : Fin 4096) (d : Fin 1024) : val_main_v15 x1 x5 (ix2 r d) = nrm (hr x1 r) (fun d => x5 (ix1 d)) d := by
  pointwise [val_main_v15, val_main_v14, val_main_v13]
  rw [v12_at]; rfl
theorem v17_at (r : Fin 4096) (d : Fin 1024) : val_main_v17 x2 x3 (ix2 r d) = er x2 x3 r d := by
  pointwise [val_main_v17]
theorem v24_at (r : Fin 4096) (z : Fin 1) : val_main_v24 x2 x3 (ix2 r z) = var (er x2 x3 r) := by
  pointwise [val_main_v24, val_main_v23, val_main_v22, val_main_v21, val_main_v20, val_main_v19, val_main_v18, val_main_cst_3, val_main_cst_4, val_main_cst_5]
  simp only [ofBits_n, ofBits_eps, v17_at]
  first | rfl | (simp only [zero_add]; rfl)
theorem v25_at (r : Fin 4096) (z : Fin 1) : val_main_v25 x2 x3 (ix2 r z) = rs (er x2 x3 r) := by
  pointwise [val_main_v25]
  rw [v24_at]; rfl
theorem v28_at (r : Fin 4096) (z : Fin 1) : val_main_v28 x2 x3 (ix2 r z) = cNegHalf * Ideal.div (rs (er x2 x3 r)) (var (er x2 x3 r)) := by
  pointwise [val_main_v28, val_main_v27, val_main_v26, val_main_cst_6]
  rw [v24_at, v25_at, ofBits_negHalf]
theorem v30_at (r : Fin 4096) (d : Fin 1024) : val_main_v30 x2 x3 (ix2 r d) = xh (er x2 x3 r) d := by
  pointwise [val_main_v30, val_main_v29]
  rw [v25_at, v17_at]; rfl
theorem v33_at (r : Fin 4096) (d : Fin 1024) : val_main_v33 x2 x3 x4 (ix2 r d) = nrm (er x2 x3 r) (fun d => x4 (ix1 d)) d := by
  pointwise [val_main_v33, val_main_v32, val_main_v31]
  rw [v30_at]; rfl
theorem v39_at (r : Fin 4096) (d : Fin 1024) : val_main_v39 x1 x5 x6 (ix2 r d) = (rargs x1 x2 x3 x4 x5 x6).gate r d := by
  pointwise [val_main_v39, val_main_v38, val_main_v37, val_main_v36, val_main_v35, val_main_v34, val_main_v16, val_main_cst_7, val_main_cst_8]
  simp only [v15_at]; rfl

/-- The gradients of the gate's argument and of the normalised row. -/
theorem v48_at (r : Fin 4096) (d : Fin 1024) : val_main_v48 x0 x1 x2 x3 x4 x5 x6 (ix2 r d) = (rargs x1 x2 x3 x4 x5 x6).rz (gdh x0) r d := by
  pointwise [val_main_v48, val_main_v47, val_main_v45, val_main_v42, val_main_v41, val_main_v40, val_main_cst_9]
  rw [v33_at, v39_at x1 x2 x3 x4 x5 x6]; rfl
theorem v69_at (r : Fin 4096) (d : Fin 1024) : val_main_v69 x0 x1 x2 x3 x4 x5 x6 (ix2 r d) = (rargs x1 x2 x3 x4 x5 x6).rdq (gdh x0) r d := by
  pointwise [val_main_v69]
  simp only [v48_at]; rfl
theorem v46_at (r : Fin 4096) (d : Fin 1024) : val_main_v46 x0 x1 x5 x6 (ix2 r d) = (rargs x1 x2 x3 x4 x5 x6).gate r d * x0 (ix2 r d) := by
  pointwise [val_main_v46, val_main_v45]
  rw [v39_at x1 x2 x3 x4 x5 x6]

/-- The gradients of the two norms' arguments. -/
def ye (r : Fin 4096) (d : Fin 1024) : EReal := (rargs x1 x2 x3 x4 x5 x6).gate r d * x0 (ix2 r d) * x4 (ix1 d)
def yh (r : Fin 4096) (d : Fin 1024) : EReal := (rargs x1 x2 x3 x4 x5 x6).rdq (gdh x0) r d * x5 (ix1 d)
theorem v53_at (r : Fin 4096) (d : Fin 1024) : val_main_v53 x0 x1 x4 x5 x6 (ix2 r d) = ye x0 x1 x2 x3 x4 x5 x6 r d := by
  pointwise [val_main_v53, val_main_v52, val_main_v31]
  rw [v46_at x0 x1 x2 x3 x4 x5 x6]; rfl
theorem v74_at (r : Fin 4096) (d : Fin 1024) : val_main_v74 x0 x1 x2 x3 x4 x5 x6 (ix2 r d) = yh x0 x1 x2 x3 x4 x5 x6 r d := by
  pointwise [val_main_v74, val_main_v73, val_main_v13]
  rw [v69_at]; rfl
theorem v62_at (r : Fin 4096) (z : Fin 1) : val_main_v62 x0 x1 x2 x3 x4 x5 x6 (ix2 r z) = rq (er x2 x3 r) (ye x0 x1 x2 x3 x4 x5 x6 r) := by
  pointwise [val_main_v62, val_main_v61, val_main_v60, val_main_v57, val_main_v56, val_main_v55, val_main_cst_12, val_main_cst_13]
  simp only [v53_at x0 x1 x2 x3 x4 x5 x6, v28_at, v17_at, ofBits_n]
  rfl
theorem v68_at (r : Fin 4096) (d : Fin 1024) : val_main_v68 x0 x1 x2 x3 x4 x5 x6 (ix2 r d) = rx (er x2 x3 r) (ye x0 x1 x2 x3 x4 x5 x6 r) d := by
  pointwise [val_main_v68, val_main_v67, val_main_v66, val_main_v65, val_main_v64, val_main_v63, val_main_v59, val_main_v58, val_main_cst_14]
  simp only [v53_at x0 x1 x2 x3 x4 x5 x6, v62_at, v25_at, v17_at, Fin.sum_univ_one]
  rfl
theorem v83_at (r : Fin 4096) (z : Fin 1) : val_main_v83 x0 x1 x2 x3 x4 x5 x6 (ix2 r z) = rq (hr x1 r) (yh x0 x1 x2 x3 x4 x5 x6 r) := by
  pointwise [val_main_v83, val_main_v82, val_main_v81, val_main_v78, val_main_v77, val_main_v76, val_main_cst_17, val_main_cst_18]
  simp only [v74_at, v10_at, ofBits_n]
  rfl
theorem v90_at (r : Fin 4096) (d : Fin 1024) : val_main_v90 x0 x1 x2 x3 x4 x5 x6 (ix2 r d) = x0 (ix2 r d) + rx (hr x1 r) (yh x0 x1 x2 x3 x4 x5 x6 r) d := by
  pointwise [val_main_v90, val_main_v89, val_main_v88, val_main_v87, val_main_v86, val_main_v85, val_main_v84, val_main_v80, val_main_v79, val_main_cst_19]
  simp only [v74_at, v83_at, v7_at, Fin.sum_univ_one]
  rfl

/-- The reference's results: the rows' gradients, -/
theorem out90 (F : (rargs x1 x2 x3 x4 x5 x6).Finite (gdh x0)) : val_main_v90 x0 x1 x2 x3 x4 x5 x6 = fun j : S4096x1024.Idx => (rargs x1 x2 x3 x4 x5 x6).dX (gdh x0) (j 0) (j 1) := by
  funext j
  obtain ⟨r, d, rfl⟩ : ∃ (r : Fin 4096) (d : Fin 1024), j = ix2 r d := ⟨j 0, j 1, eq_ix2 j⟩
  exact (v90_at x0 x1 x2 x3 x4 x5 x6 r d).trans (Args.dX_eq F r d)
theorem out91 : val_main_v91 x0 x1 x2 x3 x4 x5 x6 = fun j : S4096x1024.Idx => (rargs x1 x2 x3 x4 x5 x6).dz (gdh x0) (j 0) (j 1) := by
  funext j
  obtain ⟨r, d, rfl⟩ : ∃ (r : Fin 4096) (d : Fin 1024), j = ix2 r d := ⟨j 0, j 1, eq_ix2 j⟩
  pointwise [val_main_v91]
  rw [v48_at, Args.rz_eq]
theorem out92 (F : (rargs x1 x2 x3 x4 x5 x6).Finite (gdh x0)) : val_main_v92 x0 x1 x2 x3 x4 x5 x6 = fun j : S4096x1024.Idx => (rargs x1 x2 x3 x4 x5 x6).dE (gdh x0) (j 0) (j 1) := by
  funext j
  obtain ⟨r, d, rfl⟩ : ∃ (r : Fin 4096) (d : Fin 1024), j = ix2 r d := ⟨j 0, j 1, eq_ix2 j⟩
  pointwise [val_main_v92]
  exact (v68_at x0 x1 x2 x3 x4 x5 x6 r d).trans (Args.dE_eq F r d)
/-- the normalised rows, -/
theorem out106 : val_main_v106 x1 x5 = fun j : S4096x1024.Idx => nrm ((rargs x1 x2 x3 x4 x5 x6).h (j 0)) (rargs x1 x2 x3 x4 x5 x6).gn (j 1) := by
  funext j
  obtain ⟨r, d, rfl⟩ : ∃ (r : Fin 4096) (d : Fin 1024), j = ix2 r d := ⟨j 0, j 1, eq_ix2 j⟩
  refine Eq.trans ?_ (v15_at x1 x5 r d)
  rfl
/-- and the gradients of the two norms' weights. -/
theorem out107 : val_main_v107 x0 x1 x2 x3 x5 x6 = fun j : S1x1024.Idx => (rargs x1 x2 x3 x4 x5 x6).dpn (gdh x0) (j 1) := by
  funext j
  obtain ⟨z, d, rfl⟩ : ∃ (z : Fin 1) (d : Fin 1024), j = ix2 z d := ⟨j 0, j 1, eq_ix2 j⟩
  refine Eq.trans ?_ ((rargs x1 x2 x3 x4 x5 x6).dpn_eq (gdh x0) d)
  pointwise [val_main_v107, val_main_v54, val_main_v51, val_main_v50, val_main_v49, val_main_cst_10, val_main_cst_11]
  simp only [Fin.sum_univ_one, v30_at, v46_at x0 x1 x2 x3 x4 x5 x6]
  rfl
theorem out108 : val_main_v108 x0 x1 x2 x3 x4 x5 x6 = fun j : S1x1024.Idx => (rargs x1 x2 x3 x4 x5 x6).dgn (gdh x0) (j 1) := by
  funext j
  obtain ⟨z, d, rfl⟩ : ∃ (z : Fin 1) (d : Fin 1024), j = ix2 z d := ⟨j 0, j 1, eq_ix2 j⟩
  refine Eq.trans ?_ ((rargs x1 x2 x3 x4 x5 x6).dgn_eq (gdh x0) d)
  pointwise [val_main_v108, val_main_v75, val_main_v72, val_main_v71, val_main_v70, val_main_cst_15, val_main_cst_16]
  simp only [Fin.sum_univ_one, v12_at, v69_at]
  rfl
end
end Cert.Reference11Ideal.Value
-- ==== Proof.EmbPre.lean ====
module

public import proofs.«01_k».proof.Defs
public import proofs.«01_k».proof.Proof.EmbRef
public import proofs.«01_k».proof.Proof.FPre

/-! The per-layer embedding's precondition read at an index: every entry of every argument is a real number. -/

@[expose] public section
set_option maxRecDepth 16384
noncomputable section
open Idealize.ShloMosaic Idealize.ShloMosaic.TcCoe Idealize.SL.Sem
namespace Cert.Emb
open Cert.Pre_finite11
open Cert.Ffn (isReal_at)

/-- The precondition's shapes broadcast. -/
theorem pre_facts : Cert.Pre_finite11.Facts where
  bcast_S_S4096x1024 := by decide
  bcast_S_S4096x256 := by decide
  bcast_S_S256x1024 := by decide
  bcast_S_S1024 := by decide
  bcast_S_S1024x1024 := by decide

variable [Cert.Pre_finite11.Facts]
variable {x0 x1 : FVec Ideal S4096x1024 .f32} {x2 : FVec Ideal S4096x256 .f32} {x3 : FVec Ideal S256x1024 .f32} {x4 x5 : FVec Ideal S1024 .f32}
  {x6 : FVec Ideal S1024x1024 .f32}

/-- Under the precondition the arguments are finite. -/
theorem args_fin (h0 : (fn (F := Ideal) x0 x1 x2 x3 x4 x5 x6).1 = fun _ => 1#1)
    (h1 : (fn (F := Ideal) x0 x1 x2 x3 x4 x5 x6).2.1 = fun _ => 1#1) (h2 : (fn (F := Ideal) x0 x1 x2 x3 x4 x5 x6).2.2.1 = fun _ => 1#1)
    (h3 : (fn (F := Ideal) x0 x1 x2 x3 x4 x5 x6).2.2.2.1 = fun _ => 1#1) (h4 : (fn (F := Ideal) x0 x1 x2 x3 x4 x5 x6).2.2.2.2.1 = fun _ => 1#1)
    (h5 : (fn (F := Ideal) x0 x1 x2 x3 x4 x5 x6).2.2.2.2.2.1 = fun _ => 1#1)
    (h6 : (fn (F := Ideal) x0 x1 x2 x3 x4 x5 x6).2.2.2.2.2.2 = fun _ => 1#1) :
    (Cert.Reference11Ideal.Value.rargs x1 x2 x3 x4 x5 x6).Finite (Cert.Reference11Ideal.Value.gdh x0) where
  dh r d := isReal_at x0 _ h0 _
  h r d := isReal_at x1 _ h1 _
  p r k := isReal_at x2 _ h2 _
  wp k d := isReal_at x3 _ h3 _
  pn d := isReal_at x4 _ h4 _
  gn d := isReal_at x5 _ h5 _
  wg k d := isReal_at x6 _ h6 _

end Cert.Emb
-- ==== Proof.EmbFwd.lean ====
module

public import proofs.«01_k».proof.Proof.EmbSpec
public import proofs.«01_k».proof.Proof.Gen.Kernel20Ideal.Frame
public import proofs.«01_k».proof.Proof.Gen.Kernel20Ideal.Value
public import proofs.«01_k».proof.Proof.Gen.Reference20Ideal.Read
public import Idealize.ShloMosaic.Lib.Pipeline.ValueKit
public import Idealize.ShloMosaic.Lib.Pipeline.ReadBack
public import Idealize.ShloMosaic.Lib.Pointwise
public import Idealize.ShloMosaic.Lib.StableHlo.ReadAt

/-! The per-layer embedding's forward step: each grid point takes 256 rows and computes their embedding, gate and result. -/

@[expose] public section
set_option maxRecDepth 16384
noncomputable section
open Idealize.ShloMosaic Idealize.ShloMosaic.TcCoe Idealize.SL.Sem
open Idealize.ShloMosaic.Pipeline (Dat)
namespace Cert.Kernel20Ideal.Value
open Cert.Kernel20Ideal Cert.Kernel20Ideal.Gen Cert.Emb
open Cert.Ffn (nrm sigmoid xh rs mean ofBits_n ofBits_eps)
section
variable (H : Vec Ideal S256x1024 .f32) (P : Vec Ideal S256x256 .f32) (W : Vec Ideal S256x1024 .bf16) (n : Vec Ideal S1x1024 .f32)
  (G : Vec Ideal S1024x1024 .bf16) (E Z : FVec Ideal S256x1024 .f32) (f : Fin 256) (d : Fin 1024)

/-- The body's values: the embedding, its norm, the gate's argument, and the three results. -/
theorem pay5_at : k0_pay5 P W (ix2 f d) = ∑ k, P (ix2 f k) * W (ix2 k d) := by
  pointwise [k0_pay5]
theorem pay6_at : k0_pay6 P W n (ix2 f d) = nrm (fun d => k0_pay5 P W (ix2 f d)) (fun d => n (ix2 0 d)) d := by
  pointwise [k0_pay6]
  simp only [ofBits_n, ofBits_eps]; rfl
theorem pay7_at : k0_pay7 H n G (ix2 f d) = ∑ k, nrm (fun d => H (ix2 f d)) (fun d => n (ix2 0 d)) k * G (ix2 k d) := by
  pointwise [k0_pay7]
  simp only [ofBits_n, ofBits_eps]; rfl
theorem pay2_at : k0_pay2 H E Z (FloatOps.ofBits FTy.f32 0x00000000#32) (ix2 f d) = H (ix2 f d) + sigmoid (Z (ix2 f d)) * E (ix2 f d) := by
  pointwise [k0_pay2, k0_pay1]
  simp only [sigmoid, zero_sub]
theorem pay3_at : k0_pay3 E (ix2 f d) = E (ix2 f d) := by
  pointwise [k0_pay3]
theorem pay4_at : k0_pay4 Z (FloatOps.ofBits FTy.f32 0x00000000#32) (ix2 f d) = sigmoid (Z (ix2 f d)) := by
  pointwise [k0_pay4, k0_pay1]
  simp only [sigmoid, zero_sub]
end
section
variable (m : (ℓ : Loc nD τ sig) → Buf (Elt Ideal) ℓ) (c : Dev nD)

/-- The arguments that a memory holds. -/
def args : Args where
  h r d := m ((c : Thread nD τ).loc main_arg0) (ix2 r d)
  p r k := m ((c : Thread nD τ).loc main_arg1) (ix2 r k)
  wp k d := m ((c : Thread nD τ).loc main_arg2) (ix2 k d)
  pn d := m ((c : Thread nD τ).loc main_arg3) (ix1 d)
  gn d := m ((c : Thread nD τ).loc main_arg4) (ix1 d)
  wg k d := m ((c : Thread nD τ).loc main_arg5) (ix2 k d)

theorem V_h (r : Fin 4096) (d : Fin 1024) : V m c main_arg0 (ix2 r d) = (args m c).h r d := by
  rw [V_main_arg0]; rfl
theorem V_p (r : Fin 4096) (k : Fin 256) : V m c main_arg1 (ix2 r k) = (args m c).p r k := by
  rw [V_main_arg1]; rfl
theorem V_wp (k : Fin 256) (d : Fin 1024) : V m c main_v0 (ix2 k d) = (args m c).wp k d := by
  unfold V
  after_reads_at
  rfl
theorem V_wg (k d : Fin 1024) : V m c main_v1 (ix2 k d) = (args m c).wg k d := by
  unfold V
  after_reads_at
  rfl
theorem V_pn (z : Fin 1) (d : Fin 1024) : V m c main_v2 (ix2 z d) = (args m c).pn d := by
  unfold V
  after_reads_at
  rfl
theorem V_gn (z : Fin 1) (d : Fin 1024) : V m c main_v3 (ix2 z d) = (args m c).gn d := by
  unfold V
  after_reads_at
  rfl

variable (t : Fin cfg0.N)
abbrev bH : Vec Ideal S256x1024 .f32 := iblk m c 0 t
abbrev bP : Vec Ideal S256x256 .f32 := iblk m c 1 t
abbrev bWp : Vec Ideal S256x1024 .bf16 := iblk m c 2 t
abbrev bPn : Vec Ideal S1x1024 .f32 := iblk m c 3 t
abbrev bGn : Vec Ideal S1x1024 .f32 := iblk m c 4 t
abbrev bWg : Vec Ideal S1024x1024 .bf16 := iblk m c 5 t
/-- The tile of a grid point. -/
def ti : Fin 16 := ⟨t.val, by have := t.isLt; have : cfg0.N = 16 := N_0; omega⟩

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0]
    ∧ win0_6.index t = ![t.val, 0] ∧ win0_7.index t = ![t.val, 0] ∧ win0_8.index t = ![t.val, 0] :=
  (by decide +kernel : ∀ t : Fin grid0.N, _)

theorem bH_at (f : Fin 256) (d : Fin 1024) : bH m c t (ix2 f d) = (args m c).h (row (ti t) f) d := by
  refine Eq.trans ?_ (V_h m c (row (ti t) f) d)
  unfold row ti
  blk_point [iblk, idx t]
theorem bP_at (f k : Fin 256) : bP m c t (ix2 f k) = (args m c).p (row (ti t) f) k := by
  refine Eq.trans ?_ (V_p m c (row (ti t) f) k)
  unfold row ti
  blk_point [iblk, idx t]
theorem bWp_at (k : Fin 256) (d : Fin 1024) : bWp m c t (ix2 k d) = (args m c).wp k d := by
  refine Eq.trans ?_ (V_wp m c k d)
  blk_point [iblk, idx t]
theorem bPn_at (z : Fin 1) (d : Fin 1024) : bPn m c t (ix2 z d) = (args m c).pn d := by
  refine Eq.trans ?_ (V_pn m c z d)
  blk_point [iblk, idx t]
theorem bGn_at (z : Fin 1) (d : Fin 1024) : bGn m c t (ix2 z d) = (args m c).gn d := by
  refine Eq.trans ?_ (V_gn m c z d)
  blk_point [iblk, idx t]
theorem bWg_at (k d : Fin 1024) : bWg m c t (ix2 k d) = (args m c).wg k d := by
  refine Eq.trans ?_ (V_wg m c k d)
  blk_point [iblk, idx t]

/-- The embedding and the gate's argument of a tile's rows. -/
theorem pe_at (f : Fin 256) (d : Fin 1024) : k0_pay5 (bP m c t) (bWp m c t) (ix2 f d) = (args m c).pe (row (ti t) f) d := by
  rw [pay5_at]
  simp only [bP_at, bWp_at]; rfl
theorem z_at (f : Fin 256) (d : Fin 1024) : k0_pay7 (bH m c t) (bGn m c t) (bWg m c t) (ix2 f d) = (args m c).z (row (ti t) f) d := by
  rw [pay7_at]
  simp only [bH_at, bGn_at, bWg_at]; rfl

/-- What a grid point leaves in each result's block. -/
theorem out6_at (f : Fin 256) (d : Fin 1024) :
    out0_6 (bH m c t) (bP m c t) (bWp m c t) (bPn m c t) (bGn m c t) (bWg m c t) (ix2 f d) = (args m c).out (row (ti t) f) d := by
  unfold_out out0_6
  frame_out
  refine (pay2_at (bH m c t) (k0_pay6 (bP m c t) (bWp m c t) (bPn m c t)) (k0_pay7 (bH m c t) (bGn m c t) (bWg m c t)) f d).trans ?_
  rw [z_at, pay6_at, bH_at]
  simp only [pe_at, bPn_at]; rfl
theorem out7_at (f : Fin 256) (d : Fin 1024) :
    out0_7 (bH m c t) (bP m c t) (bWp m c t) (bPn m c t) (bGn m c t) (bWg m c t) (ix2 f d) = (args m c).pe (row (ti t) f) d := by
  unfold_out out0_7
  frame_out
  exact (pay3_at (k0_pay5 (bP m c t) (bWp m c t)) f d).trans (pe_at m c t f d)
theorem out8_at (f : Fin 256) (d : Fin 1024) :
    out0_8 (bH m c t) (bP m c t) (bWp m c t) (bPn m c t) (bGn m c t) (bWg m c t) (ix2 f d) = (args m c).gate (row (ti t) f) d := by
  unfold_out out0_8
  frame_out
  refine (pay4_at (k0_pay7 (bH m c t) (bGn m c t) (bWg m c t)) f d).trans ?_
  rw [z_at]; rfl

/-- The result arrays. -/
theorem arr6 : (dats m 0 c).arrAt 6 cfg0.N = fun j : S4096x1024.Idx => (args m c).out (j 0) (j 1) := by
  refine (dats m 0 c).arrAt_eq_of_covers 6 _ (by decide +kernel) fun t hf y => ?_
  blk_simp
  rw [after0_6]
  obtain ⟨f, d, hy⟩ : ∃ (f : Fin 256) (d : Fin 1024), y = ix2 f d := ⟨y 0, y 1, by blk_ext⟩
  have e0 : ((win0_6.blk t).view.emb y 0 : Fin 4096) = row (ti t) f := by
    rw [hy]; refine Fin.ext ?_; blk_simp [idx t]; simp only [row, ti]; omega
  have e1 : ((win0_6.blk t).view.emb y 1 : Fin 1024) = d := by
    rw [hy]; refine Fin.ext ?_; blk_simp [idx t]
  refine Eq.trans ?_ (congrArg₂ (args m c).out e0 e1).symm
  rw [hy]
  exact out6_at m c t f d
theorem arr7 : (dats m 0 c).arrAt 7 cfg0.N = fun j : S4096x1024.Idx => (args m c).pe (j 0) (j 1) := by
  refine (dats m 0 c).arrAt_eq_of_covers 7 _ (by decide +kernel) fun t hf y => ?_
  blk_simp
  rw [after0_7]
  obtain ⟨f, d, hy⟩ : ∃ (f : Fin 256) (d : Fin 1024), y = ix2 f d := ⟨y 0, y 1, by blk_ext⟩
  have e0 : ((win0_7.blk t).view.emb y 0 : Fin 4096) = row (ti t) f := by
    rw [hy]; refine Fin.ext ?_; blk_simp [idx t]; simp only [row, ti]; omega
  have e1 : ((win0_7.blk t).view.emb y 1 : Fin 1024) = d := by
    rw [hy]; refine Fin.ext ?_; blk_simp [idx t]
  refine Eq.trans ?_ (congrArg₂ (args m c).pe e0 e1).symm
  rw [hy]
  exact out7_at m c t f d
theorem arr8 : (dats m 0 c).arrAt 8 cfg0.N = fun j : S4096x1024.Idx => (args m c).gate (j 0) (j 1) := by
  refine (dats m 0 c).arrAt_eq_of_covers 8 _ (by decide +kernel) fun t hf y => ?_
  blk_simp
  rw [after0_8]
  obtain ⟨f, d, hy⟩ : ∃ (f : Fin 256) (d : Fin 1024), y = ix2 f d := ⟨y 0, y 1, by blk_ext⟩
  have e0 : ((win0_8.blk t).view.emb y 0 : Fin 4096) = row (ti t) f := by
    rw [hy]; refine Fin.ext ?_; blk_simp [idx t]; simp only [row, ti]; omega
  have e1 : ((win0_8.blk t).view.emb y 1 : Fin 1024) = d := by
    rw [hy]; refine Fin.ext ?_; blk_simp [idx t]
  refine Eq.trans ?_ (congrArg₂ (args m c).gate e0 e1).symm
  rw [hy]
  exact out8_at m c t f d
end
end Cert.Kernel20Ideal.Value

namespace Cert.Reference20Ideal.Value
open Cert.Reference20Ideal Cert.Reference20Ideal.Gen Cert.Reference20Ideal.Read Cert.Emb
open Cert.Ffn (nrm sigmoid xh rs mean ofBits_n ofBits_eps)
section
variable (x0 : Vec Ideal S4096x1024 .f32) (x1 : Vec Ideal S4096x256 .f32) (x2 : Vec Ideal S256x1024 .f32) (x3 x4 : Vec Ideal S1024 .f32)
  (x5 : Vec Ideal S1024x1024 .f32)

/-- The arguments that the arrays hold. -/
def rargs : Args where
  h r d := x0 (ix2 r d)
  p r k := x1 (ix2 r k)
  wp k d := x2 (ix2 k d)
  pn d := x3 (ix1 d)
  gn d := x4 (ix1 d)
  wg k d := x5 (ix2 k d)

theorem v0_at (r : Fin 4096) (d : Fin 1024) : val_main_v0 x1 x2 (ix2 r d) = (rargs x0 x1 x2 x3 x4 x5).pe r d := by
  pointwise [val_main_v0]
  rfl
theorem v8_at (r : Fin 4096) (z : Fin 1) : val_main_v8 x1 x2 (ix2 r z) = rs ((rargs x0 x1 x2 x3 x4 x5).pe r) := by
  pointwise [val_main_v8, val_main_v7, val_main_v6, val_main_v5, val_main_v4, val_main_v3, val_main_v2, val_main_v1, val_main_cst, val_main_cst_0, val_main_cst_1]
  simp only [ofBits_n, ofBits_eps, v0_at x0 x1 x2 x3 x4 x5]
  first | rfl | (simp only [zero_add]; rfl)
theorem v13_at (r : Fin 4096) (d : Fin 1024) : val_main_v13 x1 x2 x3 (ix2 r d)
    = nrm ((rargs x0 x1 x2 x3 x4 x5).pe r) (rargs x0 x1 x2 x3 x4 x5).pn d := by
  pointwise [val_main_v13, val_main_v12, val_main_v11, val_main_v10, val_main_v9]
  rw [v0_at x0 x1 x2 x3 x4 x5, v8_at x0 x1 x2 x3 x4 x5]; rfl
theorem v21_at (r : Fin 4096) (z : Fin 1) : val_main_v21 x0 (ix2 r z) = rs fun d => x0 (ix2 r d) := by
  pointwise [val_main_v21, val_main_v20, val_main_v19, val_main_v18, val_main_v17, val_main_v16, val_main_v15, val_main_v14, val_main_cst_2, val_main_cst_3, val_main_cst_4]
  simp only [ofBits_n, ofBits_eps]
  first | rfl | (simp only [zero_add]; rfl)
theorem v26_at (r : Fin 4096) (d : Fin 1024) : val_main_v26 x0 x4 (ix2 r d) = nrm (fun d => x0 (ix2 r d)) (fun d => x4 (ix1 d)) d := by
  pointwise [val_main_v26, val_main_v25, val_main_v24, val_main_v23, val_main_v22]
  rw [v21_at]; rfl
theorem v33_at (r : Fin 4096) (d : Fin 1024) : val_main_v33 x0 x4 x5 (ix2 r d) = (rargs x0 x1 x2 x3 x4 x5).gate r d := by
  pointwise [val_main_v33, val_main_v32, val_main_v31, val_main_v30, val_main_v29, val_main_v28, val_main_v27, val_main_cst_5, val_main_cst_6]
  simp only [v26_at]; rfl

/-- The reference's results. -/
theorem out35 : val_main_v35 x0 x1 x2 x3 x4 x5 = fun j : S4096x1024.Idx => (rargs x0 x1 x2 x3 x4 x5).out (j 0) (j 1) := by
  funext j
  obtain ⟨r, d, rfl⟩ : ∃ (r : Fin 4096) (d : Fin 1024), j = ix2 r d := ⟨j 0, j 1, eq_ix2 j⟩
  pointwise [val_main_v35, val_main_v34]
  rw [v33_at x0 x1 x2 x3 x4 x5, v13_at x0 x1 x2 x3 x4 x5]; rfl
theorem out36 : val_main_v36 x1 x2 = fun j : S4096x1024.Idx => (rargs x0 x1 x2 x3 x4 x5).pe (j 0) (j 1) := by
  funext j
  obtain ⟨r, d, rfl⟩ : ∃ (r : Fin 4096) (d : Fin 1024), j = ix2 r d := ⟨j 0, j 1, eq_ix2 j⟩
  pointwise [val_main_v36]
  rw [v0_at x0 x1 x2 x3 x4 x5]
theorem out37 : val_main_v37 x0 x4 x5 = fun j : S4096x1024.Idx => (rargs x0 x1 x2 x3 x4 x5).gate (j 0) (j 1) := by
  funext j
  obtain ⟨r, d, rfl⟩ : ∃ (r : Fin 4096) (d : Fin 1024), j = ix2 r d := ⟨j 0, j 1, eq_ix2 j⟩
  pointwise [val_main_v37]
  rw [v33_at x0 x1 x2 x3 x4 x5]
end
end Cert.Reference20Ideal.Value
-- ==== Proof.Embedding.lean ====
module

public import proofs.«01_k».proof.Defs
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Kernel20.Frame
public import proofs.«01_k».proof.Proof.Gen.Kernel20Ideal.Frame
public import proofs.«01_k».proof.Proof.Gen.Reference20Ideal.Run
public import proofs.«01_k».proof.Proof.EmbArr
public import proofs.«01_k».proof.Proof.EmbRef
public import proofs.«01_k».proof.Proof.EmbPre
public import proofs.«01_k».proof.Proof.EmbFwd
public import Idealize.ShloMosaic.Lib.Quiescent

/-! The claims about the per-layer embedding: the programs run, the forward kernel's three results are the reference's, and
    at finite arguments so are the backward kernel's six. -/

@[expose] public section
set_option maxRecDepth 16384
noncomputable section
open Idealize.ShloMosaic Idealize.ShloMosaic.TcCoe Idealize.SL.Sem
namespace Cert.Proof.Embedding
open Cert.Emb
open Cert.Ffn (nrm)

/-! The gradient. -/
theorem frame_kernel11 : Cert.quiescent_Kernel11 (hKernel11 := Cert.Kernel11.Gen.facts) := fun m ρ _ => Cert.Kernel11.Gen.frame m ρ
theorem frame_ideal11 : Cert.quiescent_Kernel11Ideal (hKernel11Ideal := Cert.Kernel11Ideal.Gen.facts) := fun m ρ _ => Cert.Kernel11Ideal.Gen.frame m ρ
theorem frame_ideal_pre11 : Cert.quiescent_Kernel11Ideal_pre_finite11 (hKernel11Ideal := Cert.Kernel11Ideal.Gen.facts) (hPre_finite11 := pre_facts) :=
  fun m ρ _ => Cert.Kernel11Ideal.Gen.frame m ρ
theorem frame_reference11 : Cert.quiescent_Reference11Ideal (hReference11Ideal := Cert.Reference11Ideal.Gen.facts) := fun m ρ _ =>
  (θ_run Cert.Reference11Ideal.defs _ _).mono (fun r h => ⟨fun c => (h c).2.2.2.2.2.2, sem_eq_zero_of_no_sems (by decide) r.2⟩)
    (Cert.Reference11Ideal.Value.run (F := Ideal) m ρ)
theorem frame_reference_pre11 : Cert.quiescent_Reference11Ideal_pre_finite11 (hReference11Ideal := Cert.Reference11Ideal.Gen.facts) (hPre_finite11 := pre_facts) :=
  fun m ρ _ => frame_reference11 m ρ trivial
theorem preserves11 : Cert.preserves_Kernel11_Kernel11Ideal := trivial

/-- The arguments at the kernel's memory are finite under the precondition. -/
theorem finite11 (m : (ℓ : Loc Cert.Kernel11Ideal.nD Cert.Kernel11Ideal.τ Cert.Kernel11Ideal.sig) → Buf (Elt Ideal) ℓ)
    (h : Cert.Pre_Kernel11Ideal_finite11 (hPre_finite11 := pre_facts) m) (c : Dev Cert.Kernel11Ideal.nD) :
    (Cert.Kernel11Ideal.Value.args m c).Finite (Cert.Kernel11Ideal.Value.dh m c) := by
  obtain ⟨h0, h1, h2, h3, h4, h5, h6⟩ := h c
  exact @args_fin pre_facts _ _ _ _ _ _ _ h0 h1 h2 h3 h4 h5 h6

theorem algebraic11 : Cert.algebraic_Kernel11Ideal_Reference11Ideal_pre_finite11 (hKernel11Ideal := Cert.Kernel11Ideal.Gen.facts)
    (hReference11Ideal := Cert.Reference11Ideal.Gen.facts) (hPre_finite11 := pre_facts) := by
  intro m ρ m' ρ' hpre hagree
  refine ⟨fun c => fun j : Cert.Kernel11Ideal.S4096x1024.Idx => (Cert.Kernel11Ideal.Value.args m c).dX (Cert.Kernel11Ideal.Value.dh m c) (j 0) (j 1),
    fun c => fun j : Cert.Kernel11Ideal.S4096x1024.Idx => (Cert.Kernel11Ideal.Value.args m c).dz (Cert.Kernel11Ideal.Value.dh m c) (j 0) (j 1),
    fun c => fun j : Cert.Kernel11Ideal.S4096x1024.Idx => (Cert.Kernel11Ideal.Value.args m c).dE (Cert.Kernel11Ideal.Value.dh m c) (j 0) (j 1),
    fun c => fun j : Cert.Kernel11Ideal.S4096x1024.Idx => nrm ((Cert.Kernel11Ideal.Value.args m c).h (j 0)) (Cert.Kernel11Ideal.Value.args m c).gn (j 1),
    fun c => fun j : Cert.Kernel11Ideal.S1x1024.Idx => (Cert.Kernel11Ideal.Value.args m c).dpn (Cert.Kernel11Ideal.Value.dh m c) (j 1),
    fun c => fun j : Cert.Kernel11Ideal.S1x1024.Idx => (Cert.Kernel11Ideal.Value.args m c).dgn (Cert.Kernel11Ideal.Value.dh m c) (j 1), ?_, ?_⟩
  · refine (θ_run Cert.Kernel11Ideal.defs _ _).mono (fun r h c => ?_) (Cert.Kernel11Ideal.Value.run_blocks (F := Ideal) m ρ)
    obtain ⟨e0, e1, e2, e3, e4, e5, hargs⟩ := h c
    exact ⟨e0.trans (Cert.Kernel11Ideal.Value.arr7 m c), e1.trans (Cert.Kernel11Ideal.Value.arr8 m c), e2.trans (Cert.Kernel11Ideal.Value.arr9 m c),
      e3.trans (Cert.Kernel11Ideal.Value.arr10 m c), e4.trans (Cert.Kernel11Ideal.Value.arr11 m c), e5.trans (Cert.Kernel11Ideal.Value.arr12 m c), hargs⟩
  · refine (θ_run Cert.Reference11Ideal.defs _ _).mono (fun r h c => ?_) (Cert.Reference11Ideal.Value.run (F := Ideal) m' ρ')
    obtain ⟨e0, e1, e2, e3, e4, e5, hargs⟩ := h c
    obtain ⟨a0, a1, a2, a3, a4, a5, a6⟩ := hagree c
    have hA : Cert.Reference11Ideal.Value.rargs (m' ((c.tc : Thread Cert.Reference11Ideal.nD Cert.Reference11Ideal.τ).loc Cert.Reference11Ideal.main_arg1))
        (m' ((c.tc : Thread Cert.Reference11Ideal.nD Cert.Reference11Ideal.τ).loc Cert.Reference11Ideal.main_arg2))
        (m' ((c.tc : Thread Cert.Reference11Ideal.nD Cert.Reference11Ideal.τ).loc Cert.Reference11Ideal.main_arg3))
        (m' ((c.tc : Thread Cert.Reference11Ideal.nD Cert.Reference11Ideal.τ).loc Cert.Reference11Ideal.main_arg4))
        (m' ((c.tc : Thread Cert.Reference11Ideal.nD Cert.Reference11Ideal.τ).loc Cert.Reference11Ideal.main_arg5))
        (m' ((c.tc : Thread Cert.Reference11Ideal.nD Cert.Reference11Ideal.τ).loc Cert.Reference11Ideal.main_arg6)) = Cert.Kernel11Ideal.Value.args m c := by
      rw [a1, a2, a3, a4, a5, a6]; rfl
    have hD : Cert.Reference11Ideal.Value.gdh (m' ((c.tc : Thread Cert.Reference11Ideal.nD Cert.Reference11Ideal.τ).loc Cert.Reference11Ideal.main_arg0)) = Cert.Kernel11Ideal.Value.dh m c := by
      rw [a0]; rfl
    have hf := finite11 m hpre c
    generalize hB : Cert.Kernel11Ideal.Value.args m c = B at hA hf
    generalize hE : Cert.Kernel11Ideal.Value.dh m c = E at hD hf
    subst hA hD
    simp only [hB, hE]
    exact ⟨e0.trans ((Cert.Reference11Ideal.Read.val_main_v90_eq _ _).trans (Cert.Reference11Ideal.Value.out90 _ _ _ _ _ _ _ hf)),
      e1.trans ((Cert.Reference11Ideal.Read.val_main_v91_eq _ _ _ _ _ _ _).trans (Cert.Reference11Ideal.Value.out91 _ _ _ _ _ _ _)),
      e2.trans ((Cert.Reference11Ideal.Read.val_main_v92_eq _ _).trans (Cert.Reference11Ideal.Value.out92 _ _ _ _ _ _ _ hf)),
      e3.trans ((Cert.Reference11Ideal.Read.val_main_v106_eq _ _).trans (Cert.Reference11Ideal.Value.out106 _ _ _ _ _ _)),
      e4.trans ((Cert.Reference11Ideal.Read.val_main_v107_eq _ _ _ _ _ _).trans (Cert.Reference11Ideal.Value.out107 _ _ _ _ _ _ _)),
      e5.trans ((Cert.Reference11Ideal.Read.val_main_v108_eq _ _).trans (Cert.Reference11Ideal.Value.out108 _ _ _ _ _ _ _)), hargs⟩

/-! Forward. -/
theorem frame_kernel20 : Cert.quiescent_Kernel20 (hKernel20 := Cert.Kernel20.Gen.facts) := fun m ρ _ => Cert.Kernel20.Gen.frame m ρ
theorem frame_ideal20 : Cert.quiescent_Kernel20Ideal (hKernel20Ideal := Cert.Kernel20Ideal.Gen.facts) := fun m ρ _ => Cert.Kernel20Ideal.Gen.frame m ρ
theorem frame_reference20 : Cert.quiescent_Reference20Ideal (hReference20Ideal := Cert.Reference20Ideal.Gen.facts) := fun m ρ _ =>
  (θ_run Cert.Reference20Ideal.defs _ _).mono (fun r h => ⟨fun c => (h c).2.2.2, sem_eq_zero_of_no_sems (by decide) r.2⟩) (Cert.Reference20Ideal.Value.run (F := Ideal) m ρ)
theorem preserves20 : Cert.preserves_Kernel20_Kernel20Ideal := trivial
theorem algebraic20 : Cert.algebraic_Kernel20Ideal_Reference20Ideal (hKernel20Ideal := Cert.Kernel20Ideal.Gen.facts)
    (hReference20Ideal := Cert.Reference20Ideal.Gen.facts) := by
  intro m ρ m' ρ' _ hagree
  refine ⟨fun c => fun j : Cert.Kernel20Ideal.S4096x1024.Idx => (Cert.Kernel20Ideal.Value.args m c).out (j 0) (j 1),
    fun c => fun j : Cert.Kernel20Ideal.S4096x1024.Idx => (Cert.Kernel20Ideal.Value.args m c).pe (j 0) (j 1),
    fun c => fun j : Cert.Kernel20Ideal.S4096x1024.Idx => (Cert.Kernel20Ideal.Value.args m c).gate (j 0) (j 1), ?_, ?_⟩
  · refine (θ_run Cert.Kernel20Ideal.defs _ _).mono (fun r h c => ?_) (Cert.Kernel20Ideal.Value.run_blocks (F := Ideal) m ρ)
    obtain ⟨e0, e1, e2, hargs⟩ := h c
    exact ⟨e0.trans (Cert.Kernel20Ideal.Value.arr6 m c), e1.trans (Cert.Kernel20Ideal.Value.arr7 m c), e2.trans (Cert.Kernel20Ideal.Value.arr8 m c), hargs⟩
  · refine (θ_run Cert.Reference20Ideal.defs _ _).mono (fun r h c => ?_) (Cert.Reference20Ideal.Value.run (F := Ideal) m' ρ')
    obtain ⟨e0, e1, e2, hargs⟩ := h c
    obtain ⟨a0, a1, a2, a3, a4, a5⟩ := hagree c
    have hA : Cert.Reference20Ideal.Value.rargs (m' ((c.tc : Thread Cert.Reference20Ideal.nD Cert.Reference20Ideal.τ).loc Cert.Reference20Ideal.main_arg0))
        (m' ((c.tc : Thread Cert.Reference20Ideal.nD Cert.Reference20Ideal.τ).loc Cert.Reference20Ideal.main_arg1))
        (m' ((c.tc : Thread Cert.Reference20Ideal.nD Cert.Reference20Ideal.τ).loc Cert.Reference20Ideal.main_arg2))
        (m' ((c.tc : Thread Cert.Reference20Ideal.nD Cert.Reference20Ideal.τ).loc Cert.Reference20Ideal.main_arg3))
        (m' ((c.tc : Thread Cert.Reference20Ideal.nD Cert.Reference20Ideal.τ).loc Cert.Reference20Ideal.main_arg4))
        (m' ((c.tc : Thread Cert.Reference20Ideal.nD Cert.Reference20Ideal.τ).loc Cert.Reference20Ideal.main_arg5)) = Cert.Kernel20Ideal.Value.args m c := by
      rw [a0, a1, a2, a3, a4, a5]; rfl
    generalize hB : Cert.Kernel20Ideal.Value.args m c = B at hA
    subst hA
    simp only [hB]
    exact ⟨e0.trans ((Cert.Reference20Ideal.Read.val_main_v35_eq _ _ _ _ _ _).trans (Cert.Reference20Ideal.Value.out35 _ _ _ _ _ _)),
      e1.trans ((Cert.Reference20Ideal.Read.val_main_v36_eq _ _).trans (Cert.Reference20Ideal.Value.out36 _ _ _ _ _ _)),
      e2.trans ((Cert.Reference20Ideal.Read.val_main_v37_eq _ _ _).trans (Cert.Reference20Ideal.Value.out37 _ _ _ _ _ _)), hargs⟩

end Cert.Proof.Embedding
-- ==== Proof.lean ====
/- The claims, put together: those about the gMLP mixer, backward (`Mixer`) and forward (`Mid`), the norm before a mixer
   (`Norms`), the feed-forward layer's gradient (`Ffn`), its weights'
   (`FfnWeights`) and its forward call (`Up`), the products of the mixers (`Products`, `MoreProducts`) and of their time
   steps (`Dt`), the per-layer embedding (`Embedding`), the loss (`LossHead`), and the time steps' softplus and the gated norm (`Steps`). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Mixer
public import proofs.«01_k».proof.Proof.Ffn
public import proofs.«01_k».proof.Proof.FfnWeights
public import proofs.«01_k».proof.Proof.Products
public import proofs.«01_k».proof.Proof.MoreProducts
public import proofs.«01_k».proof.Proof.Up
public import proofs.«01_k».proof.Proof.Mid
public import proofs.«01_k».proof.Proof.Norms
public import proofs.«01_k».proof.Proof.Dt
public import proofs.«01_k».proof.Proof.LossHead
public import proofs.«01_k».proof.Proof.Steps
public import proofs.«01_k».proof.Proof.GroupNormClaims
public import proofs.«01_k».proof.Proof.Embedding
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.Gmlp.pre_facts, Cert.Ffn.pre_facts, Cert.Emb.pre_facts, Cert.Ffn.norm_facts, Cert.Ffn.loss_facts, Cert.Steps.fwd_facts,
  Cert.GroupNorm.back_facts,
  Mixer.frame_kernel, Mixer.frame_ideal, Mixer.frame_ideal_pre, Mixer.frame_reference, Mixer.frame_reference_pre,
  Ffn.frame_kernel, Ffn.frame_ideal, Ffn.frame_ideal_pre, Ffn.frame_reference, Ffn.frame_reference_pre,
  FfnWeights.frame_kernel3, FfnWeights.frame_ideal3, FfnWeights.frame_reference3,
  FfnWeights.frame_kernel4, FfnWeights.frame_ideal4, FfnWeights.frame_reference4,
  Products.frame_kernel5, Products.frame_ideal5, Products.frame_reference5,
  Products.frame_kernel6, Products.frame_ideal6, Products.frame_reference6,
  Products.frame_kernel7, Products.frame_ideal7, Products.frame_reference7,
  Products.frame_kernel8, Products.frame_ideal8, Products.frame_reference8,
  Products.frame_kernel9, Products.frame_ideal9, Products.frame_reference9,
  Products.frame_kernel10, Products.frame_ideal10, Products.frame_reference10,
  Embedding.frame_kernel11, Embedding.frame_ideal11, Embedding.frame_ideal_pre11, Embedding.frame_reference11, Embedding.frame_reference_pre11,
  MoreProducts.frame_kernel12, MoreProducts.frame_ideal12, MoreProducts.frame_reference12,
  MoreProducts.frame_kernel13, MoreProducts.frame_ideal13, MoreProducts.frame_reference13,
  MoreProducts.frame_kernel14, MoreProducts.frame_ideal14, MoreProducts.frame_reference14,
  MoreProducts.frame_kernel15, MoreProducts.frame_ideal15, MoreProducts.frame_reference15,
  MoreProducts.frame_kernel16, MoreProducts.frame_ideal16, MoreProducts.frame_reference16,
  MoreProducts.frame_kernel17, MoreProducts.frame_ideal17, MoreProducts.frame_reference17,
  MoreProducts.frame_kernel18, MoreProducts.frame_ideal18, MoreProducts.frame_reference18,
  MoreProducts.frame_kernel19, MoreProducts.frame_ideal19, MoreProducts.frame_reference19,
  Embedding.frame_kernel20, Embedding.frame_ideal20, Embedding.frame_reference20,
  Up.frame_kernel21, Up.frame_ideal21, Up.frame_reference21,
  Mid.frame_kernel22, Mid.frame_ideal22, Mid.frame_reference22,
  Norms.frame_kernel23, Norms.frame_ideal23, Norms.frame_reference23,
  Norms.frame_kernel24, Norms.frame_ideal24, Norms.frame_ideal_pre24, Norms.frame_reference24, Norms.frame_reference_pre24,
  Dt.frame_kernel25, Dt.frame_ideal25, Dt.frame_reference25,
  Dt.frame_kernel26, Dt.frame_ideal26, Dt.frame_reference26,
  Dt.frame_kernel27, Dt.frame_ideal27, Dt.frame_reference27,
  LossHead.frame_kernel28, LossHead.frame_ideal28, LossHead.frame_ideal_pre28, LossHead.frame_reference28, LossHead.frame_reference_pre28,
  Steps.frame_kernel29, Steps.frame_ideal29, Steps.frame_reference29,
  Steps.frame_kernel30, Steps.frame_ideal30, Steps.frame_ideal_pre30, Steps.frame_reference30, Steps.frame_reference_pre30,
  Steps.frame_kernel31, Steps.frame_ideal31, Steps.frame_reference31,
  GroupNormBack.frame_kernel32, GroupNormBack.frame_ideal32, GroupNormBack.frame_ideal_pre32, GroupNormBack.frame_reference32,
  GroupNormBack.frame_reference_pre32,
  Mixer.preserves, Mixer.algebraic, Ffn.preserves, Ffn.algebraic,
  FfnWeights.preserves3, FfnWeights.algebraic3,
  FfnWeights.preserves4, FfnWeights.algebraic4,
  Products.preserves5, Products.algebraic5,
  Products.preserves6, Products.algebraic6,
  Products.preserves7, Products.algebraic7,
  Products.preserves8, Products.algebraic8,
  Products.preserves9, Products.algebraic9,
  Products.preserves10, Products.algebraic10,
  Embedding.preserves11, Embedding.algebraic11,
  MoreProducts.preserves12, MoreProducts.algebraic12,
  MoreProducts.preserves13, MoreProducts.algebraic13,
  MoreProducts.preserves14, MoreProducts.algebraic14,
  MoreProducts.preserves15, MoreProducts.algebraic15,
  MoreProducts.preserves16, MoreProducts.algebraic16,
  MoreProducts.preserves17, MoreProducts.algebraic17,
  MoreProducts.preserves18, MoreProducts.algebraic18,
  MoreProducts.preserves19, MoreProducts.algebraic19,
  Embedding.preserves20, Embedding.algebraic20,
  Up.preserves21, Up.algebraic21,
  Mid.preserves22, Mid.algebraic22,
  Norms.preserves23, Norms.algebraic23,
  Norms.preserves24, Norms.algebraic24,
  Dt.preserves25, Dt.algebraic25,
  Dt.preserves26, Dt.algebraic26,
  Dt.preserves27, Dt.algebraic27,
  LossHead.preserves28, LossHead.algebraic28,
  Steps.preserves29, Steps.algebraic29,
  Steps.preserves30, Steps.algebraic30,
  Steps.preserves31, Steps.algebraic31,
  GroupNormBack.preserves32, GroupNormBack.algebraic32⟩

end Cert.Proof

end
